-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_finite_down [hPre_finite_down : Cert.Pre_finite_down.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_finite_down.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2)) (m ((c.tc : Thread Cert.DownDxIdeal.nD Cert.DownDxIdeal.τ).loc Cert.DownDxIdeal.main_arg3))) = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_finite_down [hPre_finite_down : Cert.Pre_finite_down.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_finite_down.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2)) (m ((c.tc : Thread Cert.DownDxRefIdeal.nD Cert.DownDxRefIdeal.τ).loc Cert.DownDxRefIdeal.main_arg3))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_SqDw (m : (ℓ : Loc Cert.SqDw.nD Cert.SqDw.τ Cert.SqDw.sig) → Buf (Elt Bits) ℓ) : Prop :=
  True

def Pre_SqDwIdeal (m : (ℓ : Loc Cert.SqDwIdeal.nD Cert.SqDwIdeal.τ Cert.SqDwIdeal.sig) → Buf (Elt Ideal) ℓ) : Prop :=
  True

def Pre_SqDwRefIdeal (m : (ℓ : Loc Cert.SqDwRefIdeal.nD Cert.SqDwRefIdeal.τ Cert.SqDwRefIdeal.sig) → Buf (Elt Ideal) ℓ) : Prop :=
  True

def Pre_ColDw (m : (ℓ : Loc Cert.ColDw.nD Cert.ColDw.τ Cert.ColDw.sig) → Buf (Elt Bits) ℓ) : Prop :=
  True

def Pre_ColDwIdeal (m : (ℓ : Loc Cert.ColDwIdeal.nD Cert.ColDwIdeal.τ Cert.ColDwIdeal.sig) → Buf (Elt Ideal) ℓ) : Prop :=
  True

def Pre_ColDwRefIdeal (m : (ℓ : Loc Cert.ColDwRefIdeal.nD Cert.ColDwRefIdeal.τ Cert.ColDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_SqDx (m : (ℓ : Loc Cert.SqDx.nD Cert.SqDx.τ Cert.SqDx.sig) → Buf (Elt Bits) ℓ) : Prop :=
  True

def Pre_SqDxIdeal (m : (ℓ : Loc Cert.SqDxIdeal.nD Cert.SqDxIdeal.τ Cert.SqDxIdeal.sig) → Buf (Elt Ideal) ℓ) : Prop :=
  True

def Pre_SqDxRefIdeal (m : (ℓ : Loc Cert.SqDxRefIdeal.nD Cert.SqDxRefIdeal.τ Cert.SqDxRefIdeal.sig) → Buf (Elt Ideal) ℓ) : Prop :=
  True

def Pre_ColDx (m : (ℓ : Loc Cert.ColDx.nD Cert.ColDx.τ Cert.ColDx.sig) → Buf (Elt Bits) ℓ) : Prop :=
  True

def Pre_ColDxIdeal (m : (ℓ : Loc Cert.ColDxIdeal.nD Cert.ColDxIdeal.τ Cert.ColDxIdeal.sig) → Buf (Elt Ideal) ℓ) : Prop :=
  True

def Pre_ColDxRefIdeal (m : (ℓ : Loc Cert.ColDxRefIdeal.nD Cert.ColDxRefIdeal.τ Cert.ColDxRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_GmIn (m : (ℓ : Loc Cert.GmIn.nD Cert.GmIn.τ Cert.GmIn.sig) → Buf (Elt Bits) ℓ) : Prop :=
  True

def Pre_GmInIdeal (m : (ℓ : Loc Cert.GmInIdeal.nD Cert.GmInIdeal.τ Cert.GmInIdeal.sig) → Buf (Elt Ideal) ℓ) : Prop :=
  True

def Pre_GmInRefIdeal (m : (ℓ : Loc Cert.GmInRefIdeal.nD Cert.GmInRefIdeal.τ Cert.GmInRefIdeal.sig) → Buf (Elt Ideal) ℓ) : Prop :=
  True

def Pre_GmOut (m : (ℓ : Loc Cert.GmOut.nD Cert.GmOut.τ Cert.GmOut.sig) → Buf (Elt Bits) ℓ) : Prop :=
  True

def Pre_GmOutIdeal (m : (ℓ : Loc Cert.GmOutIdeal.nD Cert.GmOutIdeal.τ Cert.GmOutIdeal.sig) → Buf (Elt Ideal) ℓ) : Prop :=
  True

def Pre_GmOutRefIdeal (m : (ℓ : Loc Cert.GmOutRefIdeal.nD Cert.GmOutRefIdeal.τ Cert.GmOutRefIdeal.sig) → Buf (Elt Ideal) ℓ) : Prop :=
  True

def Pre_S5In (m : (ℓ : Loc Cert.S5In.nD Cert.S5In.τ Cert.S5In.sig) → Buf (Elt Bits) ℓ) : Prop :=
  True

def Pre_S5InIdeal (m : (ℓ : Loc Cert.S5InIdeal.nD Cert.S5InIdeal.τ Cert.S5InIdeal.sig) → Buf (Elt Ideal) ℓ) : Prop :=
  True

def Pre_S5InRefIdeal (m : (ℓ : Loc Cert.S5InRefIdeal.nD Cert.S5InRefIdeal.τ Cert.S5InRefIdeal.sig) → Buf (Elt Ideal) ℓ) : Prop :=
  True

def Pre_S5Out (m : (ℓ : Loc Cert.S5Out.nD Cert.S5Out.τ Cert.S5Out.sig) → Buf (Elt Bits) ℓ) : Prop :=
  True

def Pre_S5OutIdeal (m : (ℓ : Loc Cert.S5OutIdeal.nD Cert.S5OutIdeal.τ Cert.S5OutIdeal.sig) → Buf (Elt Ideal) ℓ) : Prop :=
  True

def Pre_S5OutRefIdeal (m : (ℓ : Loc Cert.S5OutRefIdeal.nD Cert.S5OutRefIdeal.τ Cert.S5OutRefIdeal.sig) → Buf (Elt Ideal) ℓ) : Prop :=
  True

def Pre_PleGate (m : (ℓ : Loc Cert.PleGate.nD Cert.PleGate.τ Cert.PleGate.sig) → Buf (Elt Bits) ℓ) : Prop :=
  True

def Pre_PleGateIdeal (m : (ℓ : Loc Cert.PleGateIdeal.nD Cert.PleGateIdeal.τ Cert.PleGateIdeal.sig) → Buf (Elt Ideal) ℓ) : Prop :=
  True

def Pre_PleGateRefIdeal (m : (ℓ : Loc Cert.PleGateRefIdeal.nD Cert.PleGateRefIdeal.τ Cert.PleGateRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdRefIdeal (m : (ℓ : Loc Cert.PleBwdRefIdeal.nD Cert.PleBwdRefIdeal.τ Cert.PleBwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_AdamCol (m : (ℓ : Loc Cert.AdamCol.nD Cert.AdamCol.τ Cert.AdamCol.sig) → Buf (Elt Bits) ℓ) : Prop :=
  True

def Pre_AdamColIdeal (m : (ℓ : Loc Cert.AdamColIdeal.nD Cert.AdamColIdeal.τ Cert.AdamColIdeal.sig) → Buf (Elt Ideal) ℓ) : Prop :=
  True

def Pre_AdamColRefIdeal (m : (ℓ : Loc Cert.AdamColRefIdeal.nD Cert.AdamColRefIdeal.τ Cert.AdamColRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamUp2 (m : (ℓ : Loc Cert.AdamUp2.nD Cert.AdamUp2.τ Cert.AdamUp2.sig) → Buf (Elt Bits) ℓ) : Prop :=
  True

def Pre_AdamUp2Ideal (m : (ℓ : Loc Cert.AdamUp2Ideal.nD Cert.AdamUp2Ideal.τ Cert.AdamUp2Ideal.sig) → Buf (Elt Ideal) ℓ) : Prop :=
  True

def Pre_AdamUp2RefIdeal (m : (ℓ : Loc Cert.AdamUp2RefIdeal.nD Cert.AdamUp2RefIdeal.τ Cert.AdamUp2RefIdeal.sig) → Buf (Elt Ideal) ℓ) : Prop :=
  True

def Pre_AdamDown2 (m : (ℓ : Loc Cert.AdamDown2.nD Cert.AdamDown2.τ Cert.AdamDown2.sig) → Buf (Elt Bits) ℓ) : Prop :=
  True

def Pre_AdamDown2Ideal (m : (ℓ : Loc Cert.AdamDown2Ideal.nD Cert.AdamDown2Ideal.τ Cert.AdamDown2Ideal.sig) → Buf (Elt Ideal) ℓ) : Prop :=
  True

def Pre_AdamDown2RefIdeal (m : (ℓ : Loc Cert.AdamDown2RefIdeal.nD Cert.AdamDown2RefIdeal.τ Cert.AdamDown2RefIdeal.sig) → Buf (Elt Ideal) ℓ) : Prop :=
  True

def Pre_AdamGate2 (m : (ℓ : Loc Cert.AdamGate2.nD Cert.AdamGate2.τ Cert.AdamGate2.sig) → Buf (Elt Bits) ℓ) : Prop :=
  True

def Pre_AdamGate2Ideal (m : (ℓ : Loc Cert.AdamGate2Ideal.nD Cert.AdamGate2Ideal.τ Cert.AdamGate2Ideal.sig) → Buf (Elt Ideal) ℓ) : Prop :=
  True

def Pre_AdamGate2RefIdeal (m : (ℓ : Loc Cert.AdamGate2RefIdeal.nD Cert.AdamGate2RefIdeal.τ Cert.AdamGate2RefIdeal.sig) → Buf (Elt Ideal) ℓ) : Prop :=
  True

def Pre_AdamProj2 (m : (ℓ : Loc Cert.AdamProj2.nD Cert.AdamProj2.τ Cert.AdamProj2.sig) → Buf (Elt Bits) ℓ) : Prop :=
  True

def Pre_AdamProj2Ideal (m : (ℓ : Loc Cert.AdamProj2Ideal.nD Cert.AdamProj2Ideal.τ Cert.AdamProj2Ideal.sig) → Buf (Elt Ideal) ℓ) : Prop :=
  True

def Pre_AdamProj2RefIdeal (m : (ℓ : Loc Cert.AdamProj2RefIdeal.nD Cert.AdamProj2RefIdeal.τ Cert.AdamProj2RefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxIdeal_pre_finite_down [hDownDxIdeal : Cert.DownDxIdeal.Facts] [hPre_finite_down : Cert.Pre_finite_down.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_finite_down m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_DownDxRefIdeal_pre_finite_down [hDownDxRefIdeal : Cert.DownDxRefIdeal.Facts] [hPre_finite_down : Cert.Pre_finite_down.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_finite_down m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_SqDw [hSqDw : Cert.SqDw.Facts] : Prop :=
  ∀ (m : (ℓ : Loc Cert.SqDw.nD Cert.SqDw.τ Cert.SqDw.sig) → Buf (Elt Bits) ℓ) (g : Dev Cert.SqDw.nD → PrngReg), Pre_SqDw m →
    θ_run (Cert.SqDw.defs (F := Bits)) (onTc (τ := Cert.SqDw.τ) (Cert.SqDw.main (F := Bits))) ⟨m, fun _ => 0, g⟩ (fun r => (∀ c : Dev Cert.SqDw.nD,
      r.2.mem ((c.tc : Thread Cert.SqDw.nD Cert.SqDw.τ).loc Cert.SqDw.main_arg0) = m ((c.tc : Thread Cert.SqDw.nD Cert.SqDw.τ).loc Cert.SqDw.main_arg0)
      ∧ r.2.mem ((c.tc : Thread Cert.SqDw.nD Cert.SqDw.τ).loc Cert.SqDw.main_arg1) = m ((c.tc : Thread Cert.SqDw.nD Cert.SqDw.τ).loc Cert.SqDw.main_arg1))
      ∧ r.2.sem = fun _ => 0)

def quiescent_SqDwIdeal [hSqDwIdeal : Cert.SqDwIdeal.Facts] : Prop :=
  ∀ (m : (ℓ : Loc Cert.SqDwIdeal.nD Cert.SqDwIdeal.τ Cert.SqDwIdeal.sig) → Buf (Elt Ideal) ℓ) (g : Dev Cert.SqDwIdeal.nD → PrngReg), Pre_SqDwIdeal m →
    θ_run (Cert.SqDwIdeal.defs (F := Ideal)) (onTc (τ := Cert.SqDwIdeal.τ) (Cert.SqDwIdeal.main (F := Ideal))) ⟨m, fun _ => 0, g⟩ (fun r => (∀ c : Dev Cert.SqDwIdeal.nD,
      r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
      ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ r.2.sem = fun _ => 0)

def quiescent_SqDwRefIdeal [hSqDwRefIdeal : Cert.SqDwRefIdeal.Facts] : Prop :=
  ∀ (m : (ℓ : Loc Cert.SqDwRefIdeal.nD Cert.SqDwRefIdeal.τ Cert.SqDwRefIdeal.sig) → Buf (Elt Ideal) ℓ) (g : Dev Cert.SqDwRefIdeal.nD → PrngReg), Pre_SqDwRefIdeal m →
    θ_run (Cert.SqDwRefIdeal.defs (F := Ideal)) (onTc (τ := Cert.SqDwRefIdeal.τ) (Cert.SqDwRefIdeal.main (F := Ideal))) ⟨m, fun _ => 0, g⟩ (fun r => (∀ c : Dev Cert.SqDwRefIdeal.nD,
      r.2.mem ((c.tc : Thread Cert.SqDwRefIdeal.nD Cert.SqDwRefIdeal.τ).loc Cert.SqDwRefIdeal.main_arg0) = m ((c.tc : Thread Cert.SqDwRefIdeal.nD Cert.SqDwRefIdeal.τ).loc Cert.SqDwRefIdeal.main_arg0)
      ∧ r.2.mem ((c.tc : Thread Cert.SqDwRefIdeal.nD Cert.SqDwRefIdeal.τ).loc Cert.SqDwRefIdeal.main_arg1) = m ((c.tc : Thread Cert.SqDwRefIdeal.nD Cert.SqDwRefIdeal.τ).loc Cert.SqDwRefIdeal.main_arg1))
      ∧ r.2.sem = fun _ => 0)

def quiescent_ColDw [hColDw : Cert.ColDw.Facts] : Prop :=
  ∀ (m : (ℓ : Loc Cert.ColDw.nD Cert.ColDw.τ Cert.ColDw.sig) → Buf (Elt Bits) ℓ) (g : Dev Cert.ColDw.nD → PrngReg), Pre_ColDw m →
    θ_run (Cert.ColDw.defs (F := Bits)) (onTc (τ := Cert.ColDw.τ) (Cert.ColDw.main (F := Bits))) ⟨m, fun _ => 0, g⟩ (fun r => (∀ c : Dev Cert.ColDw.nD,
      r.2.mem ((c.tc : Thread Cert.ColDw.nD Cert.ColDw.τ).loc Cert.ColDw.main_arg0) = m ((c.tc : Thread Cert.ColDw.nD Cert.ColDw.τ).loc Cert.ColDw.main_arg0)
      ∧ r.2.mem ((c.tc : Thread Cert.ColDw.nD Cert.ColDw.τ).loc Cert.ColDw.main_arg1) = m ((c.tc : Thread Cert.ColDw.nD Cert.ColDw.τ).loc Cert.ColDw.main_arg1))
      ∧ r.2.sem = fun _ => 0)

def quiescent_ColDwIdeal [hColDwIdeal : Cert.ColDwIdeal.Facts] : Prop :=
  ∀ (m : (ℓ : Loc Cert.ColDwIdeal.nD Cert.ColDwIdeal.τ Cert.ColDwIdeal.sig) → Buf (Elt Ideal) ℓ) (g : Dev Cert.ColDwIdeal.nD → PrngReg), Pre_ColDwIdeal m →
    θ_run (Cert.ColDwIdeal.defs (F := Ideal)) (onTc (τ := Cert.ColDwIdeal.τ) (Cert.ColDwIdeal.main (F := Ideal))) ⟨m, fun _ => 0, g⟩ (fun r => (∀ c : Dev Cert.ColDwIdeal.nD,
      r.2.mem ((c.tc : Thread Cert.ColDwIdeal.nD Cert.ColDwIdeal.τ).loc Cert.ColDwIdeal.main_arg0) = m ((c.tc : Thread Cert.ColDwIdeal.nD Cert.ColDwIdeal.τ).loc Cert.ColDwIdeal.main_arg0)
      ∧ r.2.mem ((c.tc : Thread Cert.ColDwIdeal.nD Cert.ColDwIdeal.τ).loc Cert.ColDwIdeal.main_arg1) = m ((c.tc : Thread Cert.ColDwIdeal.nD Cert.ColDwIdeal.τ).loc Cert.ColDwIdeal.main_arg1))
      ∧ r.2.sem = fun _ => 0)

def quiescent_ColDwRefIdeal [hColDwRefIdeal : Cert.ColDwRefIdeal.Facts] : Prop :=
  ∀ (m : (ℓ : Loc Cert.ColDwRefIdeal.nD Cert.ColDwRefIdeal.τ Cert.ColDwRefIdeal.sig) → Buf (Elt Ideal) ℓ) (g : Dev Cert.ColDwRefIdeal.nD → PrngReg), Pre_ColDwRefIdeal m →
    θ_run (Cert.ColDwRefIdeal.defs (F := Ideal)) (onTc (τ := Cert.ColDwRefIdeal.τ) (Cert.ColDwRefIdeal.main (F := Ideal))) ⟨m, fun _ => 0, g⟩ (fun r => (∀ c : Dev Cert.ColDwRefIdeal.nD,
      r.2.mem ((c.tc : Thread Cert.ColDwRefIdeal.nD Cert.ColDwRefIdeal.τ).loc Cert.ColDwRefIdeal.main_arg0) = m ((c.tc : Thread Cert.ColDwRefIdeal.nD Cert.ColDwRefIdeal.τ).loc Cert.ColDwRefIdeal.main_arg0)
      ∧ r.2.mem ((c.tc : Thread Cert.ColDwRefIdeal.nD Cert.ColDwRefIdeal.τ).loc Cert.ColDwRefIdeal.main_arg1) = m ((c.tc : Thread Cert.ColDwRefIdeal.nD Cert.ColDwRefIdeal.τ).loc Cert.ColDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_SqDx [hSqDx : Cert.SqDx.Facts] : Prop :=
  ∀ (m : (ℓ : Loc Cert.SqDx.nD Cert.SqDx.τ Cert.SqDx.sig) → Buf (Elt Bits) ℓ) (g : Dev Cert.SqDx.nD → PrngReg), Pre_SqDx m →
    θ_run (Cert.SqDx.defs (F := Bits)) (onTc (τ := Cert.SqDx.τ) (Cert.SqDx.main (F := Bits))) ⟨m, fun _ => 0, g⟩ (fun r => (∀ c : Dev Cert.SqDx.nD,
      r.2.mem ((c.tc : Thread Cert.SqDx.nD Cert.SqDx.τ).loc Cert.SqDx.main_arg0) = m ((c.tc : Thread Cert.SqDx.nD Cert.SqDx.τ).loc Cert.SqDx.main_arg0)
      ∧ r.2.mem ((c.tc : Thread Cert.SqDx.nD Cert.SqDx.τ).loc Cert.SqDx.main_arg1) = m ((c.tc : Thread Cert.SqDx.nD Cert.SqDx.τ).loc Cert.SqDx.main_arg1))
      ∧ r.2.sem = fun _ => 0)

def quiescent_SqDxIdeal [hSqDxIdeal : Cert.SqDxIdeal.Facts] : Prop :=
  ∀ (m : (ℓ : Loc Cert.SqDxIdeal.nD Cert.SqDxIdeal.τ Cert.SqDxIdeal.sig) → Buf (Elt Ideal) ℓ) (g : Dev Cert.SqDxIdeal.nD → PrngReg), Pre_SqDxIdeal m →
    θ_run (Cert.SqDxIdeal.defs (F := Ideal)) (onTc (τ := Cert.SqDxIdeal.τ) (Cert.SqDxIdeal.main (F := Ideal))) ⟨m, fun _ => 0, g⟩ (fun r => (∀ c : Dev Cert.SqDxIdeal.nD,
      r.2.mem ((c.tc : Thread Cert.SqDxIdeal.nD Cert.SqDxIdeal.τ).loc Cert.SqDxIdeal.main_arg0) = m ((c.tc : Thread Cert.SqDxIdeal.nD Cert.SqDxIdeal.τ).loc Cert.SqDxIdeal.main_arg0)
      ∧ r.2.mem ((c.tc : Thread Cert.SqDxIdeal.nD Cert.SqDxIdeal.τ).loc Cert.SqDxIdeal.main_arg1) = m ((c.tc : Thread Cert.SqDxIdeal.nD Cert.SqDxIdeal.τ).loc Cert.SqDxIdeal.main_arg1))
      ∧ r.2.sem = fun _ => 0)

def quiescent_SqDxRefIdeal [hSqDxRefIdeal : Cert.SqDxRefIdeal.Facts] : Prop :=
  ∀ (m : (ℓ : Loc Cert.SqDxRefIdeal.nD Cert.SqDxRefIdeal.τ Cert.SqDxRefIdeal.sig) → Buf (Elt Ideal) ℓ) (g : Dev Cert.SqDxRefIdeal.nD → PrngReg), Pre_SqDxRefIdeal m →
    θ_run (Cert.SqDxRefIdeal.defs (F := Ideal)) (onTc (τ := Cert.SqDxRefIdeal.τ) (Cert.SqDxRefIdeal.main (F := Ideal))) ⟨m, fun _ => 0, g⟩ (fun r => (∀ c : Dev Cert.SqDxRefIdeal.nD,
      r.2.mem ((c.tc : Thread Cert.SqDxRefIdeal.nD Cert.SqDxRefIdeal.τ).loc Cert.SqDxRefIdeal.main_arg0) = m ((c.tc : Thread Cert.SqDxRefIdeal.nD Cert.SqDxRefIdeal.τ).loc Cert.SqDxRefIdeal.main_arg0)
      ∧ r.2.mem ((c.tc : Thread Cert.SqDxRefIdeal.nD Cert.SqDxRefIdeal.τ).loc Cert.SqDxRefIdeal.main_arg1) = m ((c.tc : Thread Cert.SqDxRefIdeal.nD Cert.SqDxRefIdeal.τ).loc Cert.SqDxRefIdeal.main_arg1))
      ∧ r.2.sem = fun _ => 0)

def quiescent_ColDx [hColDx : Cert.ColDx.Facts] : Prop :=
  ∀ (m : (ℓ : Loc Cert.ColDx.nD Cert.ColDx.τ Cert.ColDx.sig) → Buf (Elt Bits) ℓ) (g : Dev Cert.ColDx.nD → PrngReg), Pre_ColDx m →
    θ_run (Cert.ColDx.defs (F := Bits)) (onTc (τ := Cert.ColDx.τ) (Cert.ColDx.main (F := Bits))) ⟨m, fun _ => 0, g⟩ (fun r => (∀ c : Dev Cert.ColDx.nD,
      r.2.mem ((c.tc : Thread Cert.ColDx.nD Cert.ColDx.τ).loc Cert.ColDx.main_arg0) = m ((c.tc : Thread Cert.ColDx.nD Cert.ColDx.τ).loc Cert.ColDx.main_arg0)
      ∧ r.2.mem ((c.tc : Thread Cert.ColDx.nD Cert.ColDx.τ).loc Cert.ColDx.main_arg1) = m ((c.tc : Thread Cert.ColDx.nD Cert.ColDx.τ).loc Cert.ColDx.main_arg1))
      ∧ r.2.sem = fun _ => 0)

def quiescent_ColDxIdeal [hColDxIdeal : Cert.ColDxIdeal.Facts] : Prop :=
  ∀ (m : (ℓ : Loc Cert.ColDxIdeal.nD Cert.ColDxIdeal.τ Cert.ColDxIdeal.sig) → Buf (Elt Ideal) ℓ) (g : Dev Cert.ColDxIdeal.nD → PrngReg), Pre_ColDxIdeal m →
    θ_run (Cert.ColDxIdeal.defs (F := Ideal)) (onTc (τ := Cert.ColDxIdeal.τ) (Cert.ColDxIdeal.main (F := Ideal))) ⟨m, fun _ => 0, g⟩ (fun r => (∀ c : Dev Cert.ColDxIdeal.nD,
      r.2.mem ((c.tc : Thread Cert.ColDxIdeal.nD Cert.ColDxIdeal.τ).loc Cert.ColDxIdeal.main_arg0) = m ((c.tc : Thread Cert.ColDxIdeal.nD Cert.ColDxIdeal.τ).loc Cert.ColDxIdeal.main_arg0)
      ∧ r.2.mem ((c.tc : Thread Cert.ColDxIdeal.nD Cert.ColDxIdeal.τ).loc Cert.ColDxIdeal.main_arg1) = m ((c.tc : Thread Cert.ColDxIdeal.nD Cert.ColDxIdeal.τ).loc Cert.ColDxIdeal.main_arg1))
      ∧ r.2.sem = fun _ => 0)

def quiescent_ColDxRefIdeal [hColDxRefIdeal : Cert.ColDxRefIdeal.Facts] : Prop :=
  ∀ (m : (ℓ : Loc Cert.ColDxRefIdeal.nD Cert.ColDxRefIdeal.τ Cert.ColDxRefIdeal.sig) → Buf (Elt Ideal) ℓ) (g : Dev Cert.ColDxRefIdeal.nD → PrngReg), Pre_ColDxRefIdeal m →
    θ_run (Cert.ColDxRefIdeal.defs (F := Ideal)) (onTc (τ := Cert.ColDxRefIdeal.τ) (Cert.ColDxRefIdeal.main (F := Ideal))) ⟨m, fun _ => 0, g⟩ (fun r => (∀ c : Dev Cert.ColDxRefIdeal.nD,
      r.2.mem ((c.tc : Thread Cert.ColDxRefIdeal.nD Cert.ColDxRefIdeal.τ).loc Cert.ColDxRefIdeal.main_arg0) = m ((c.tc : Thread Cert.ColDxRefIdeal.nD Cert.ColDxRefIdeal.τ).loc Cert.ColDxRefIdeal.main_arg0)
      ∧ r.2.mem ((c.tc : Thread Cert.ColDxRefIdeal.nD Cert.ColDxRefIdeal.τ).loc Cert.ColDxRefIdeal.main_arg1) = m ((c.tc : Thread Cert.ColDxRefIdeal.nD Cert.ColDxRefIdeal.τ).loc Cert.ColDxRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_GmIn [hGmIn : Cert.GmIn.Facts] : Prop :=
  ∀ (m : (ℓ : Loc Cert.GmIn.nD Cert.GmIn.τ Cert.GmIn.sig) → Buf (Elt Bits) ℓ) (g : Dev Cert.GmIn.nD → PrngReg), Pre_GmIn m →
    θ_run (Cert.GmIn.defs (F := Bits)) (onTc (τ := Cert.GmIn.τ) (Cert.GmIn.main (F := Bits))) ⟨m, fun _ => 0, g⟩ (fun r => (∀ c : Dev Cert.GmIn.nD,
      r.2.mem ((c.tc : Thread Cert.GmIn.nD Cert.GmIn.τ).loc Cert.GmIn.main_arg0) = m ((c.tc : Thread Cert.GmIn.nD Cert.GmIn.τ).loc Cert.GmIn.main_arg0)
      ∧ r.2.mem ((c.tc : Thread Cert.GmIn.nD Cert.GmIn.τ).loc Cert.GmIn.main_arg1) = m ((c.tc : Thread Cert.GmIn.nD Cert.GmIn.τ).loc Cert.GmIn.main_arg1))
      ∧ r.2.sem = fun _ => 0)

def quiescent_GmInIdeal [hGmInIdeal : Cert.GmInIdeal.Facts] : Prop :=
  ∀ (m : (ℓ : Loc Cert.GmInIdeal.nD Cert.GmInIdeal.τ Cert.GmInIdeal.sig) → Buf (Elt Ideal) ℓ) (g : Dev Cert.GmInIdeal.nD → PrngReg), Pre_GmInIdeal m →
    θ_run (Cert.GmInIdeal.defs (F := Ideal)) (onTc (τ := Cert.GmInIdeal.τ) (Cert.GmInIdeal.main (F := Ideal))) ⟨m, fun _ => 0, g⟩ (fun r => (∀ c : Dev Cert.GmInIdeal.nD,
      r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
      ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ r.2.sem = fun _ => 0)

def quiescent_GmInRefIdeal [hGmInRefIdeal : Cert.GmInRefIdeal.Facts] : Prop :=
  ∀ (m : (ℓ : Loc Cert.GmInRefIdeal.nD Cert.GmInRefIdeal.τ Cert.GmInRefIdeal.sig) → Buf (Elt Ideal) ℓ) (g : Dev Cert.GmInRefIdeal.nD → PrngReg), Pre_GmInRefIdeal m →
    θ_run (Cert.GmInRefIdeal.defs (F := Ideal)) (onTc (τ := Cert.GmInRefIdeal.τ) (Cert.GmInRefIdeal.main (F := Ideal))) ⟨m, fun _ => 0, g⟩ (fun r => (∀ c : Dev Cert.GmInRefIdeal.nD,
      r.2.mem ((c.tc : Thread Cert.GmInRefIdeal.nD Cert.GmInRefIdeal.τ).loc Cert.GmInRefIdeal.main_arg0) = m ((c.tc : Thread Cert.GmInRefIdeal.nD Cert.GmInRefIdeal.τ).loc Cert.GmInRefIdeal.main_arg0)
      ∧ r.2.mem ((c.tc : Thread Cert.GmInRefIdeal.nD Cert.GmInRefIdeal.τ).loc Cert.GmInRefIdeal.main_arg1) = m ((c.tc : Thread Cert.GmInRefIdeal.nD Cert.GmInRefIdeal.τ).loc Cert.GmInRefIdeal.main_arg1))
      ∧ r.2.sem = fun _ => 0)

def quiescent_GmOut [hGmOut : Cert.GmOut.Facts] : Prop :=
  ∀ (m : (ℓ : Loc Cert.GmOut.nD Cert.GmOut.τ Cert.GmOut.sig) → Buf (Elt Bits) ℓ) (g : Dev Cert.GmOut.nD → PrngReg), Pre_GmOut m →
    θ_run (Cert.GmOut.defs (F := Bits)) (onTc (τ := Cert.GmOut.τ) (Cert.GmOut.main (F := Bits))) ⟨m, fun _ => 0, g⟩ (fun r => (∀ c : Dev Cert.GmOut.nD,
      r.2.mem ((c.tc : Thread Cert.GmOut.nD Cert.GmOut.τ).loc Cert.GmOut.main_arg0) = m ((c.tc : Thread Cert.GmOut.nD Cert.GmOut.τ).loc Cert.GmOut.main_arg0)
      ∧ r.2.mem ((c.tc : Thread Cert.GmOut.nD Cert.GmOut.τ).loc Cert.GmOut.main_arg1) = m ((c.tc : Thread Cert.GmOut.nD Cert.GmOut.τ).loc Cert.GmOut.main_arg1)
      ∧ r.2.mem ((c.tc : Thread Cert.GmOut.nD Cert.GmOut.τ).loc Cert.GmOut.main_arg2) = m ((c.tc : Thread Cert.GmOut.nD Cert.GmOut.τ).loc Cert.GmOut.main_arg2))
      ∧ r.2.sem = fun _ => 0)

def quiescent_GmOutIdeal [hGmOutIdeal : Cert.GmOutIdeal.Facts] : Prop :=
  ∀ (m : (ℓ : Loc Cert.GmOutIdeal.nD Cert.GmOutIdeal.τ Cert.GmOutIdeal.sig) → Buf (Elt Ideal) ℓ) (g : Dev Cert.GmOutIdeal.nD → PrngReg), Pre_GmOutIdeal m →
    θ_run (Cert.GmOutIdeal.defs (F := Ideal)) (onTc (τ := Cert.GmOutIdeal.τ) (Cert.GmOutIdeal.main (F := Ideal))) ⟨m, fun _ => 0, g⟩ (fun r => (∀ c : Dev Cert.GmOutIdeal.nD,
      r.2.mem ((c.tc : Thread Cert.GmOutIdeal.nD Cert.GmOutIdeal.τ).loc Cert.GmOutIdeal.main_arg0) = m ((c.tc : Thread Cert.GmOutIdeal.nD Cert.GmOutIdeal.τ).loc Cert.GmOutIdeal.main_arg0)
      ∧ r.2.mem ((c.tc : Thread Cert.GmOutIdeal.nD Cert.GmOutIdeal.τ).loc Cert.GmOutIdeal.main_arg1) = m ((c.tc : Thread Cert.GmOutIdeal.nD Cert.GmOutIdeal.τ).loc Cert.GmOutIdeal.main_arg1)
      ∧ r.2.mem ((c.tc : Thread Cert.GmOutIdeal.nD Cert.GmOutIdeal.τ).loc Cert.GmOutIdeal.main_arg2) = m ((c.tc : Thread Cert.GmOutIdeal.nD Cert.GmOutIdeal.τ).loc Cert.GmOutIdeal.main_arg2))
      ∧ r.2.sem = fun _ => 0)

def quiescent_GmOutRefIdeal [hGmOutRefIdeal : Cert.GmOutRefIdeal.Facts] : Prop :=
  ∀ (m : (ℓ : Loc Cert.GmOutRefIdeal.nD Cert.GmOutRefIdeal.τ Cert.GmOutRefIdeal.sig) → Buf (Elt Ideal) ℓ) (g : Dev Cert.GmOutRefIdeal.nD → PrngReg), Pre_GmOutRefIdeal m →
    θ_run (Cert.GmOutRefIdeal.defs (F := Ideal)) (onTc (τ := Cert.GmOutRefIdeal.τ) (Cert.GmOutRefIdeal.main (F := Ideal))) ⟨m, fun _ => 0, g⟩ (fun r => (∀ c : Dev Cert.GmOutRefIdeal.nD,
      r.2.mem ((c.tc : Thread Cert.GmOutRefIdeal.nD Cert.GmOutRefIdeal.τ).loc Cert.GmOutRefIdeal.main_arg0) = m ((c.tc : Thread Cert.GmOutRefIdeal.nD Cert.GmOutRefIdeal.τ).loc Cert.GmOutRefIdeal.main_arg0)
      ∧ r.2.mem ((c.tc : Thread Cert.GmOutRefIdeal.nD Cert.GmOutRefIdeal.τ).loc Cert.GmOutRefIdeal.main_arg1) = m ((c.tc : Thread Cert.GmOutRefIdeal.nD Cert.GmOutRefIdeal.τ).loc Cert.GmOutRefIdeal.main_arg1)
      ∧ r.2.mem ((c.tc : Thread Cert.GmOutRefIdeal.nD Cert.GmOutRefIdeal.τ).loc Cert.GmOutRefIdeal.main_arg2) = m ((c.tc : Thread Cert.GmOutRefIdeal.nD Cert.GmOutRefIdeal.τ).loc Cert.GmOutRefIdeal.main_arg2))
      ∧ r.2.sem = fun _ => 0)

def quiescent_S5In [hS5In : Cert.S5In.Facts] : Prop :=
  ∀ (m : (ℓ : Loc Cert.S5In.nD Cert.S5In.τ Cert.S5In.sig) → Buf (Elt Bits) ℓ) (g : Dev Cert.S5In.nD → PrngReg), Pre_S5In m →
    θ_run (Cert.S5In.defs (F := Bits)) (onTc (τ := Cert.S5In.τ) (Cert.S5In.main (F := Bits))) ⟨m, fun _ => 0, g⟩ (fun r => (∀ c : Dev Cert.S5In.nD,
      r.2.mem ((c.tc : Thread Cert.S5In.nD Cert.S5In.τ).loc Cert.S5In.main_arg0) = m ((c.tc : Thread Cert.S5In.nD Cert.S5In.τ).loc Cert.S5In.main_arg0)
      ∧ r.2.mem ((c.tc : Thread Cert.S5In.nD Cert.S5In.τ).loc Cert.S5In.main_arg1) = m ((c.tc : Thread Cert.S5In.nD Cert.S5In.τ).loc Cert.S5In.main_arg1))
      ∧ r.2.sem = fun _ => 0)

def quiescent_S5InIdeal [hS5InIdeal : Cert.S5InIdeal.Facts] : Prop :=
  ∀ (m : (ℓ : Loc Cert.S5InIdeal.nD Cert.S5InIdeal.τ Cert.S5InIdeal.sig) → Buf (Elt Ideal) ℓ) (g : Dev Cert.S5InIdeal.nD → PrngReg), Pre_S5InIdeal m →
    θ_run (Cert.S5InIdeal.defs (F := Ideal)) (onTc (τ := Cert.S5InIdeal.τ) (Cert.S5InIdeal.main (F := Ideal))) ⟨m, fun _ => 0, g⟩ (fun r => (∀ c : Dev Cert.S5InIdeal.nD,
      r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
      ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ r.2.sem = fun _ => 0)

def quiescent_S5InRefIdeal [hS5InRefIdeal : Cert.S5InRefIdeal.Facts] : Prop :=
  ∀ (m : (ℓ : Loc Cert.S5InRefIdeal.nD Cert.S5InRefIdeal.τ Cert.S5InRefIdeal.sig) → Buf (Elt Ideal) ℓ) (g : Dev Cert.S5InRefIdeal.nD → PrngReg), Pre_S5InRefIdeal m →
    θ_run (Cert.S5InRefIdeal.defs (F := Ideal)) (onTc (τ := Cert.S5InRefIdeal.τ) (Cert.S5InRefIdeal.main (F := Ideal))) ⟨m, fun _ => 0, g⟩ (fun r => (∀ c : Dev Cert.S5InRefIdeal.nD,
      r.2.mem ((c.tc : Thread Cert.S5InRefIdeal.nD Cert.S5InRefIdeal.τ).loc Cert.S5InRefIdeal.main_arg0) = m ((c.tc : Thread Cert.S5InRefIdeal.nD Cert.S5InRefIdeal.τ).loc Cert.S5InRefIdeal.main_arg0)
      ∧ r.2.mem ((c.tc : Thread Cert.S5InRefIdeal.nD Cert.S5InRefIdeal.τ).loc Cert.S5InRefIdeal.main_arg1) = m ((c.tc : Thread Cert.S5InRefIdeal.nD Cert.S5InRefIdeal.τ).loc Cert.S5InRefIdeal.main_arg1))
      ∧ r.2.sem = fun _ => 0)

def quiescent_S5Out [hS5Out : Cert.S5Out.Facts] : Prop :=
  ∀ (m : (ℓ : Loc Cert.S5Out.nD Cert.S5Out.τ Cert.S5Out.sig) → Buf (Elt Bits) ℓ) (g : Dev Cert.S5Out.nD → PrngReg), Pre_S5Out m →
    θ_run (Cert.S5Out.defs (F := Bits)) (onTc (τ := Cert.S5Out.τ) (Cert.S5Out.main (F := Bits))) ⟨m, fun _ => 0, g⟩ (fun r => (∀ c : Dev Cert.S5Out.nD,
      r.2.mem ((c.tc : Thread Cert.S5Out.nD Cert.S5Out.τ).loc Cert.S5Out.main_arg0) = m ((c.tc : Thread Cert.S5Out.nD Cert.S5Out.τ).loc Cert.S5Out.main_arg0)
      ∧ r.2.mem ((c.tc : Thread Cert.S5Out.nD Cert.S5Out.τ).loc Cert.S5Out.main_arg1) = m ((c.tc : Thread Cert.S5Out.nD Cert.S5Out.τ).loc Cert.S5Out.main_arg1)
      ∧ r.2.mem ((c.tc : Thread Cert.S5Out.nD Cert.S5Out.τ).loc Cert.S5Out.main_arg2) = m ((c.tc : Thread Cert.S5Out.nD Cert.S5Out.τ).loc Cert.S5Out.main_arg2))
      ∧ r.2.sem = fun _ => 0)

def quiescent_S5OutIdeal [hS5OutIdeal : Cert.S5OutIdeal.Facts] : Prop :=
  ∀ (m : (ℓ : Loc Cert.S5OutIdeal.nD Cert.S5OutIdeal.τ Cert.S5OutIdeal.sig) → Buf (Elt Ideal) ℓ) (g : Dev Cert.S5OutIdeal.nD → PrngReg), Pre_S5OutIdeal m →
    θ_run (Cert.S5OutIdeal.defs (F := Ideal)) (onTc (τ := Cert.S5OutIdeal.τ) (Cert.S5OutIdeal.main (F := Ideal))) ⟨m, fun _ => 0, g⟩ (fun r => (∀ c : Dev Cert.S5OutIdeal.nD,
      r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
      ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
      ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2))
      ∧ r.2.sem = fun _ => 0)

def quiescent_S5OutRefIdeal [hS5OutRefIdeal : Cert.S5OutRefIdeal.Facts] : Prop :=
  ∀ (m : (ℓ : Loc Cert.S5OutRefIdeal.nD Cert.S5OutRefIdeal.τ Cert.S5OutRefIdeal.sig) → Buf (Elt Ideal) ℓ) (g : Dev Cert.S5OutRefIdeal.nD → PrngReg), Pre_S5OutRefIdeal m →
    θ_run (Cert.S5OutRefIdeal.defs (F := Ideal)) (onTc (τ := Cert.S5OutRefIdeal.τ) (Cert.S5OutRefIdeal.main (F := Ideal))) ⟨m, fun _ => 0, g⟩ (fun r => (∀ c : Dev Cert.S5OutRefIdeal.nD,
      r.2.mem ((c.tc : Thread Cert.S5OutRefIdeal.nD Cert.S5OutRefIdeal.τ).loc Cert.S5OutRefIdeal.main_arg0) = m ((c.tc : Thread Cert.S5OutRefIdeal.nD Cert.S5OutRefIdeal.τ).loc Cert.S5OutRefIdeal.main_arg0)
      ∧ r.2.mem ((c.tc : Thread Cert.S5OutRefIdeal.nD Cert.S5OutRefIdeal.τ).loc Cert.S5OutRefIdeal.main_arg1) = m ((c.tc : Thread Cert.S5OutRefIdeal.nD Cert.S5OutRefIdeal.τ).loc Cert.S5OutRefIdeal.main_arg1)
      ∧ r.2.mem ((c.tc : Thread Cert.S5OutRefIdeal.nD Cert.S5OutRefIdeal.τ).loc Cert.S5OutRefIdeal.main_arg2) = m ((c.tc : Thread Cert.S5OutRefIdeal.nD Cert.S5OutRefIdeal.τ).loc Cert.S5OutRefIdeal.main_arg2))
      ∧ r.2.sem = fun _ => 0)

def quiescent_PleGate [hPleGate : Cert.PleGate.Facts] : Prop :=
  ∀ (m : (ℓ : Loc Cert.PleGate.nD Cert.PleGate.τ Cert.PleGate.sig) → Buf (Elt Bits) ℓ) (g : Dev Cert.PleGate.nD → PrngReg), Pre_PleGate m →
    θ_run (Cert.PleGate.defs (F := Bits)) (onTc (τ := Cert.PleGate.τ) (Cert.PleGate.main (F := Bits))) ⟨m, fun _ => 0, g⟩ (fun r => (∀ c : Dev Cert.PleGate.nD,
      r.2.mem ((c.tc : Thread Cert.PleGate.nD Cert.PleGate.τ).loc Cert.PleGate.main_arg0) = m ((c.tc : Thread Cert.PleGate.nD Cert.PleGate.τ).loc Cert.PleGate.main_arg0)
      ∧ r.2.mem ((c.tc : Thread Cert.PleGate.nD Cert.PleGate.τ).loc Cert.PleGate.main_arg1) = m ((c.tc : Thread Cert.PleGate.nD Cert.PleGate.τ).loc Cert.PleGate.main_arg1)
      ∧ r.2.mem ((c.tc : Thread Cert.PleGate.nD Cert.PleGate.τ).loc Cert.PleGate.main_arg2) = m ((c.tc : Thread Cert.PleGate.nD Cert.PleGate.τ).loc Cert.PleGate.main_arg2)
      ∧ r.2.mem ((c.tc : Thread Cert.PleGate.nD Cert.PleGate.τ).loc Cert.PleGate.main_arg3) = m ((c.tc : Thread Cert.PleGate.nD Cert.PleGate.τ).loc Cert.PleGate.main_arg3)
      ∧ r.2.mem ((c.tc : Thread Cert.PleGate.nD Cert.PleGate.τ).loc Cert.PleGate.main_arg4) = m ((c.tc : Thread Cert.PleGate.nD Cert.PleGate.τ).loc Cert.PleGate.main_arg4))
      ∧ r.2.sem = fun _ => 0)

def quiescent_PleGateIdeal [hPleGateIdeal : Cert.PleGateIdeal.Facts] : Prop :=
  ∀ (m : (ℓ : Loc Cert.PleGateIdeal.nD Cert.PleGateIdeal.τ Cert.PleGateIdeal.sig) → Buf (Elt Ideal) ℓ) (g : Dev Cert.PleGateIdeal.nD → PrngReg), Pre_PleGateIdeal m →
    θ_run (Cert.PleGateIdeal.defs (F := Ideal)) (onTc (τ := Cert.PleGateIdeal.τ) (Cert.PleGateIdeal.main (F := Ideal))) ⟨m, fun _ => 0, g⟩ (fun r => (∀ c : Dev Cert.PleGateIdeal.nD,
      r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
      ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
      ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
      ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3)
      ∧ r.2.mem ((c.tc : Thread Cert.PleGateIdeal.nD Cert.PleGateIdeal.τ).loc Cert.PleGateIdeal.main_arg4) = m ((c.tc : Thread Cert.PleGateIdeal.nD Cert.PleGateIdeal.τ).loc Cert.PleGateIdeal.main_arg4))
      ∧ r.2.sem = fun _ => 0)

def quiescent_PleGateRefIdeal [hPleGateRefIdeal : Cert.PleGateRefIdeal.Facts] : Prop :=
  ∀ (m : (ℓ : Loc Cert.PleGateRefIdeal.nD Cert.PleGateRefIdeal.τ Cert.PleGateRefIdeal.sig) → Buf (Elt Ideal) ℓ) (g : Dev Cert.PleGateRefIdeal.nD → PrngReg), Pre_PleGateRefIdeal m →
    θ_run (Cert.PleGateRefIdeal.defs (F := Ideal)) (onTc (τ := Cert.PleGateRefIdeal.τ) (Cert.PleGateRefIdeal.main (F := Ideal))) ⟨m, fun _ => 0, g⟩ (fun r => (∀ c : Dev Cert.PleGateRefIdeal.nD,
      r.2.mem ((c.tc : Thread Cert.PleGateRefIdeal.nD Cert.PleGateRefIdeal.τ).loc Cert.PleGateRefIdeal.main_arg0) = m ((c.tc : Thread Cert.PleGateRefIdeal.nD Cert.PleGateRefIdeal.τ).loc Cert.PleGateRefIdeal.main_arg0)
      ∧ r.2.mem ((c.tc : Thread Cert.PleGateRefIdeal.nD Cert.PleGateRefIdeal.τ).loc Cert.PleGateRefIdeal.main_arg1) = m ((c.tc : Thread Cert.PleGateRefIdeal.nD Cert.PleGateRefIdeal.τ).loc Cert.PleGateRefIdeal.main_arg1)
      ∧ r.2.mem ((c.tc : Thread Cert.PleGateRefIdeal.nD Cert.PleGateRefIdeal.τ).loc Cert.PleGateRefIdeal.main_arg2) = m ((c.tc : Thread Cert.PleGateRefIdeal.nD Cert.PleGateRefIdeal.τ).loc Cert.PleGateRefIdeal.main_arg2)
      ∧ r.2.mem ((c.tc : Thread Cert.PleGateRefIdeal.nD Cert.PleGateRefIdeal.τ).loc Cert.PleGateRefIdeal.main_arg3) = m ((c.tc : Thread Cert.PleGateRefIdeal.nD Cert.PleGateRefIdeal.τ).loc Cert.PleGateRefIdeal.main_arg3)
      ∧ r.2.mem ((c.tc : Thread Cert.PleGateRefIdeal.nD Cert.PleGateRefIdeal.τ).loc Cert.PleGateRefIdeal.main_arg4) = m ((c.tc : Thread Cert.PleGateRefIdeal.nD Cert.PleGateRefIdeal.τ).loc Cert.PleGateRefIdeal.main_arg4))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ r.2.sem = fun _ => 0)

def quiescent_PleBwdRefIdeal [hPleBwdRefIdeal : Cert.PleBwdRefIdeal.Facts] : Prop :=
  ∀ (m : (ℓ : Loc Cert.PleBwdRefIdeal.nD Cert.PleBwdRefIdeal.τ Cert.PleBwdRefIdeal.sig) → Buf (Elt Ideal) ℓ) (g : Dev Cert.PleBwdRefIdeal.nD → PrngReg), Pre_PleBwdRefIdeal m →
    θ_run (Cert.PleBwdRefIdeal.defs (F := Ideal)) (onTc (τ := Cert.PleBwdRefIdeal.τ) (Cert.PleBwdRefIdeal.main (F := Ideal))) ⟨m, fun _ => 0, g⟩ (fun r => (∀ c : Dev Cert.PleBwdRefIdeal.nD,
      r.2.mem ((c.tc : Thread Cert.PleBwdRefIdeal.nD Cert.PleBwdRefIdeal.τ).loc Cert.PleBwdRefIdeal.main_arg0) = m ((c.tc : Thread Cert.PleBwdRefIdeal.nD Cert.PleBwdRefIdeal.τ).loc Cert.PleBwdRefIdeal.main_arg0)
      ∧ r.2.mem ((c.tc : Thread Cert.PleBwdRefIdeal.nD Cert.PleBwdRefIdeal.τ).loc Cert.PleBwdRefIdeal.main_arg1) = m ((c.tc : Thread Cert.PleBwdRefIdeal.nD Cert.PleBwdRefIdeal.τ).loc Cert.PleBwdRefIdeal.main_arg1)
      ∧ r.2.mem ((c.tc : Thread Cert.PleBwdRefIdeal.nD Cert.PleBwdRefIdeal.τ).loc Cert.PleBwdRefIdeal.main_arg2) = m ((c.tc : Thread Cert.PleBwdRefIdeal.nD Cert.PleBwdRefIdeal.τ).loc Cert.PleBwdRefIdeal.main_arg2))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_AdamCol [hAdamCol : Cert.AdamCol.Facts] : Prop :=
  ∀ (m : (ℓ : Loc Cert.AdamCol.nD Cert.AdamCol.τ Cert.AdamCol.sig) → Buf (Elt Bits) ℓ) (g : Dev Cert.AdamCol.nD → PrngReg), Pre_AdamCol m →
    θ_run (Cert.AdamCol.defs (F := Bits)) (onTc (τ := Cert.AdamCol.τ) (Cert.AdamCol.main (F := Bits))) ⟨m, fun _ => 0, g⟩ (fun r => (∀ c : Dev Cert.AdamCol.nD,
      r.2.mem ((c.tc : Thread Cert.AdamCol.nD Cert.AdamCol.τ).loc Cert.AdamCol.main_arg0) = m ((c.tc : Thread Cert.AdamCol.nD Cert.AdamCol.τ).loc Cert.AdamCol.main_arg0)
      ∧ r.2.mem ((c.tc : Thread Cert.AdamCol.nD Cert.AdamCol.τ).loc Cert.AdamCol.main_arg1) = m ((c.tc : Thread Cert.AdamCol.nD Cert.AdamCol.τ).loc Cert.AdamCol.main_arg1)
      ∧ r.2.mem ((c.tc : Thread Cert.AdamCol.nD Cert.AdamCol.τ).loc Cert.AdamCol.main_arg2) = m ((c.tc : Thread Cert.AdamCol.nD Cert.AdamCol.τ).loc Cert.AdamCol.main_arg2)
      ∧ r.2.mem ((c.tc : Thread Cert.AdamCol.nD Cert.AdamCol.τ).loc Cert.AdamCol.main_arg3) = m ((c.tc : Thread Cert.AdamCol.nD Cert.AdamCol.τ).loc Cert.AdamCol.main_arg3)
      ∧ r.2.mem ((c.tc : Thread Cert.AdamCol.nD Cert.AdamCol.τ).loc Cert.AdamCol.main_arg4) = m ((c.tc : Thread Cert.AdamCol.nD Cert.AdamCol.τ).loc Cert.AdamCol.main_arg4)
      ∧ r.2.mem ((c.tc : Thread Cert.AdamCol.nD Cert.AdamCol.τ).loc Cert.AdamCol.main_arg5) = m ((c.tc : Thread Cert.AdamCol.nD Cert.AdamCol.τ).loc Cert.AdamCol.main_arg5)
      ∧ r.2.mem ((c.tc : Thread Cert.AdamCol.nD Cert.AdamCol.τ).loc Cert.AdamCol.main_arg6) = m ((c.tc : Thread Cert.AdamCol.nD Cert.AdamCol.τ).loc Cert.AdamCol.main_arg6))
      ∧ r.2.sem = fun _ => 0)

def quiescent_AdamColIdeal [hAdamColIdeal : Cert.AdamColIdeal.Facts] : Prop :=
  ∀ (m : (ℓ : Loc Cert.AdamColIdeal.nD Cert.AdamColIdeal.τ Cert.AdamColIdeal.sig) → Buf (Elt Ideal) ℓ) (g : Dev Cert.AdamColIdeal.nD → PrngReg), Pre_AdamColIdeal m →
    θ_run (Cert.AdamColIdeal.defs (F := Ideal)) (onTc (τ := Cert.AdamColIdeal.τ) (Cert.AdamColIdeal.main (F := Ideal))) ⟨m, fun _ => 0, g⟩ (fun r => (∀ c : Dev Cert.AdamColIdeal.nD,
      r.2.mem ((c.tc : Thread Cert.AdamColIdeal.nD Cert.AdamColIdeal.τ).loc Cert.AdamColIdeal.main_arg0) = m ((c.tc : Thread Cert.AdamColIdeal.nD Cert.AdamColIdeal.τ).loc Cert.AdamColIdeal.main_arg0)
      ∧ r.2.mem ((c.tc : Thread Cert.AdamColIdeal.nD Cert.AdamColIdeal.τ).loc Cert.AdamColIdeal.main_arg1) = m ((c.tc : Thread Cert.AdamColIdeal.nD Cert.AdamColIdeal.τ).loc Cert.AdamColIdeal.main_arg1)
      ∧ r.2.mem ((c.tc : Thread Cert.AdamColIdeal.nD Cert.AdamColIdeal.τ).loc Cert.AdamColIdeal.main_arg2) = m ((c.tc : Thread Cert.AdamColIdeal.nD Cert.AdamColIdeal.τ).loc Cert.AdamColIdeal.main_arg2)
      ∧ r.2.mem ((c.tc : Thread Cert.AdamColIdeal.nD Cert.AdamColIdeal.τ).loc Cert.AdamColIdeal.main_arg3) = m ((c.tc : Thread Cert.AdamColIdeal.nD Cert.AdamColIdeal.τ).loc Cert.AdamColIdeal.main_arg3)
      ∧ r.2.mem ((c.tc : Thread Cert.AdamColIdeal.nD Cert.AdamColIdeal.τ).loc Cert.AdamColIdeal.main_arg4) = m ((c.tc : Thread Cert.AdamColIdeal.nD Cert.AdamColIdeal.τ).loc Cert.AdamColIdeal.main_arg4)
      ∧ r.2.mem ((c.tc : Thread Cert.AdamColIdeal.nD Cert.AdamColIdeal.τ).loc Cert.AdamColIdeal.main_arg5) = m ((c.tc : Thread Cert.AdamColIdeal.nD Cert.AdamColIdeal.τ).loc Cert.AdamColIdeal.main_arg5)
      ∧ r.2.mem ((c.tc : Thread Cert.AdamColIdeal.nD Cert.AdamColIdeal.τ).loc Cert.AdamColIdeal.main_arg6) = m ((c.tc : Thread Cert.AdamColIdeal.nD Cert.AdamColIdeal.τ).loc Cert.AdamColIdeal.main_arg6))
      ∧ r.2.sem = fun _ => 0)

def quiescent_AdamColRefIdeal [hAdamColRefIdeal : Cert.AdamColRefIdeal.Facts] : Prop :=
  ∀ (m : (ℓ : Loc Cert.AdamColRefIdeal.nD Cert.AdamColRefIdeal.τ Cert.AdamColRefIdeal.sig) → Buf (Elt Ideal) ℓ) (g : Dev Cert.AdamColRefIdeal.nD → PrngReg), Pre_AdamColRefIdeal m →
    θ_run (Cert.AdamColRefIdeal.defs (F := Ideal)) (onTc (τ := Cert.AdamColRefIdeal.τ) (Cert.AdamColRefIdeal.main (F := Ideal))) ⟨m, fun _ => 0, g⟩ (fun r => (∀ c : Dev Cert.AdamColRefIdeal.nD,
      r.2.mem ((c.tc : Thread Cert.AdamColRefIdeal.nD Cert.AdamColRefIdeal.τ).loc Cert.AdamColRefIdeal.main_arg0) = m ((c.tc : Thread Cert.AdamColRefIdeal.nD Cert.AdamColRefIdeal.τ).loc Cert.AdamColRefIdeal.main_arg0)
      ∧ r.2.mem ((c.tc : Thread Cert.AdamColRefIdeal.nD Cert.AdamColRefIdeal.τ).loc Cert.AdamColRefIdeal.main_arg1) = m ((c.tc : Thread Cert.AdamColRefIdeal.nD Cert.AdamColRefIdeal.τ).loc Cert.AdamColRefIdeal.main_arg1)
      ∧ r.2.mem ((c.tc : Thread Cert.AdamColRefIdeal.nD Cert.AdamColRefIdeal.τ).loc Cert.AdamColRefIdeal.main_arg2) = m ((c.tc : Thread Cert.AdamColRefIdeal.nD Cert.AdamColRefIdeal.τ).loc Cert.AdamColRefIdeal.main_arg2)
      ∧ r.2.mem ((c.tc : Thread Cert.AdamColRefIdeal.nD Cert.AdamColRefIdeal.τ).loc Cert.AdamColRefIdeal.main_arg3) = m ((c.tc : Thread Cert.AdamColRefIdeal.nD Cert.AdamColRefIdeal.τ).loc Cert.AdamColRefIdeal.main_arg3)
      ∧ r.2.mem ((c.tc : Thread Cert.AdamColRefIdeal.nD Cert.AdamColRefIdeal.τ).loc Cert.AdamColRefIdeal.main_arg4) = m ((c.tc : Thread Cert.AdamColRefIdeal.nD Cert.AdamColRefIdeal.τ).loc Cert.AdamColRefIdeal.main_arg4)
      ∧ r.2.mem ((c.tc : Thread Cert.AdamColRefIdeal.nD Cert.AdamColRefIdeal.τ).loc Cert.AdamColRefIdeal.main_arg5) = m ((c.tc : Thread Cert.AdamColRefIdeal.nD Cert.AdamColRefIdeal.τ).loc Cert.AdamColRefIdeal.main_arg5)
      ∧ r.2.mem ((c.tc : Thread Cert.AdamColRefIdeal.nD Cert.AdamColRefIdeal.τ).loc Cert.AdamColRefIdeal.main_arg6) = m ((c.tc : Thread Cert.AdamColRefIdeal.nD Cert.AdamColRefIdeal.τ).loc Cert.AdamColRefIdeal.main_arg6))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3)
      ∧ r.2.mem ((c.tc : Thread Cert.AdamRow.nD Cert.AdamRow.τ).loc Cert.AdamRow.main_arg4) = m ((c.tc : Thread Cert.AdamRow.nD Cert.AdamRow.τ).loc Cert.AdamRow.main_arg4)
      ∧ r.2.mem ((c.tc : Thread Cert.AdamRow.nD Cert.AdamRow.τ).loc Cert.AdamRow.main_arg5) = m ((c.tc : Thread Cert.AdamRow.nD Cert.AdamRow.τ).loc Cert.AdamRow.main_arg5)
      ∧ r.2.mem ((c.tc : Thread Cert.AdamRow.nD Cert.AdamRow.τ).loc Cert.AdamRow.main_arg6) = m ((c.tc : Thread Cert.AdamRow.nD Cert.AdamRow.τ).loc Cert.AdamRow.main_arg6))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3)
      ∧ r.2.mem ((c.tc : Thread Cert.AdamRowIdeal.nD Cert.AdamRowIdeal.τ).loc Cert.AdamRowIdeal.main_arg4) = m ((c.tc : Thread Cert.AdamRowIdeal.nD Cert.AdamRowIdeal.τ).loc Cert.AdamRowIdeal.main_arg4)
      ∧ r.2.mem ((c.tc : Thread Cert.AdamRowIdeal.nD Cert.AdamRowIdeal.τ).loc Cert.AdamRowIdeal.main_arg5) = m ((c.tc : Thread Cert.AdamRowIdeal.nD Cert.AdamRowIdeal.τ).loc Cert.AdamRowIdeal.main_arg5)
      ∧ r.2.mem ((c.tc : Thread Cert.AdamRowIdeal.nD Cert.AdamRowIdeal.τ).loc Cert.AdamRowIdeal.main_arg6) = m ((c.tc : Thread Cert.AdamRowIdeal.nD Cert.AdamRowIdeal.τ).loc Cert.AdamRowIdeal.main_arg6))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3)
      ∧ r.2.mem ((c.tc : Thread Cert.AdamRowRefIdeal.nD Cert.AdamRowRefIdeal.τ).loc Cert.AdamRowRefIdeal.main_arg4) = m ((c.tc : Thread Cert.AdamRowRefIdeal.nD Cert.AdamRowRefIdeal.τ).loc Cert.AdamRowRefIdeal.main_arg4)
      ∧ r.2.mem ((c.tc : Thread Cert.AdamRowRefIdeal.nD Cert.AdamRowRefIdeal.τ).loc Cert.AdamRowRefIdeal.main_arg5) = m ((c.tc : Thread Cert.AdamRowRefIdeal.nD Cert.AdamRowRefIdeal.τ).loc Cert.AdamRowRefIdeal.main_arg5)
      ∧ r.2.mem ((c.tc : Thread Cert.AdamRowRefIdeal.nD Cert.AdamRowRefIdeal.τ).loc Cert.AdamRowRefIdeal.main_arg6) = m ((c.tc : Thread Cert.AdamRowRefIdeal.nD Cert.AdamRowRefIdeal.τ).loc Cert.AdamRowRefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6)
      ∧ r.2.mem ((c.tc : Thread Cert.AdamUp.nD Cert.AdamUp.τ).loc Cert.AdamUp.main_arg7) = m ((c.tc : Thread Cert.AdamUp.nD Cert.AdamUp.τ).loc Cert.AdamUp.main_arg7)
      ∧ r.2.mem ((c.tc : Thread Cert.AdamUp.nD Cert.AdamUp.τ).loc Cert.AdamUp.main_arg8) = m ((c.tc : Thread Cert.AdamUp.nD Cert.AdamUp.τ).loc Cert.AdamUp.main_arg8)
      ∧ r.2.mem ((c.tc : Thread Cert.AdamUp.nD Cert.AdamUp.τ).loc Cert.AdamUp.main_arg9) = m ((c.tc : Thread Cert.AdamUp.nD Cert.AdamUp.τ).loc Cert.AdamUp.main_arg9)
      ∧ r.2.mem ((c.tc : Thread Cert.AdamUp.nD Cert.AdamUp.τ).loc Cert.AdamUp.main_arg10) = m ((c.tc : Thread Cert.AdamUp.nD Cert.AdamUp.τ).loc Cert.AdamUp.main_arg10))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
      ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
      ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8)
      ∧ r.2.mem ((c.tc : Thread Cert.AdamUpIdeal.nD Cert.AdamUpIdeal.τ).loc Cert.AdamUpIdeal.main_arg9) = m ((c.tc : Thread Cert.AdamUpIdeal.nD Cert.AdamUpIdeal.τ).loc Cert.AdamUpIdeal.main_arg9)
      ∧ r.2.mem ((c.tc : Thread Cert.AdamUpIdeal.nD Cert.AdamUpIdeal.τ).loc Cert.AdamUpIdeal.main_arg10) = m ((c.tc : Thread Cert.AdamUpIdeal.nD Cert.AdamUpIdeal.τ).loc Cert.AdamUpIdeal.main_arg10))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6)
      ∧ r.2.mem ((c.tc : Thread Cert.AdamUpRefIdeal.nD Cert.AdamUpRefIdeal.τ).loc Cert.AdamUpRefIdeal.main_arg7) = m ((c.tc : Thread Cert.AdamUpRefIdeal.nD Cert.AdamUpRefIdeal.τ).loc Cert.AdamUpRefIdeal.main_arg7)
      ∧ r.2.mem ((c.tc : Thread Cert.AdamUpRefIdeal.nD Cert.AdamUpRefIdeal.τ).loc Cert.AdamUpRefIdeal.main_arg8) = m ((c.tc : Thread Cert.AdamUpRefIdeal.nD Cert.AdamUpRefIdeal.τ).loc Cert.AdamUpRefIdeal.main_arg8)
      ∧ r.2.mem ((c.tc : Thread Cert.AdamUpRefIdeal.nD Cert.AdamUpRefIdeal.τ).loc Cert.AdamUpRefIdeal.main_arg9) = m ((c.tc : Thread Cert.AdamUpRefIdeal.nD Cert.AdamUpRefIdeal.τ).loc Cert.AdamUpRefIdeal.main_arg9)
      ∧ r.2.mem ((c.tc : Thread Cert.AdamUpRefIdeal.nD Cert.AdamUpRefIdeal.τ).loc Cert.AdamUpRefIdeal.main_arg10) = m ((c.tc : Thread Cert.AdamUpRefIdeal.nD Cert.AdamUpRefIdeal.τ).loc Cert.AdamUpRefIdeal.main_arg10))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6)
      ∧ r.2.mem ((c.tc : Thread Cert.AdamDown.nD Cert.AdamDown.τ).loc Cert.AdamDown.main_arg7) = m ((c.tc : Thread Cert.AdamDown.nD Cert.AdamDown.τ).loc Cert.AdamDown.main_arg7)
      ∧ r.2.mem ((c.tc : Thread Cert.AdamDown.nD Cert.AdamDown.τ).loc Cert.AdamDown.main_arg8) = m ((c.tc : Thread Cert.AdamDown.nD Cert.AdamDown.τ).loc Cert.AdamDown.main_arg8)
      ∧ r.2.mem ((c.tc : Thread Cert.AdamDown.nD Cert.AdamDown.τ).loc Cert.AdamDown.main_arg9) = m ((c.tc : Thread Cert.AdamDown.nD Cert.AdamDown.τ).loc Cert.AdamDown.main_arg9)
      ∧ r.2.mem ((c.tc : Thread Cert.AdamDown.nD Cert.AdamDown.τ).loc Cert.AdamDown.main_arg10) = m ((c.tc : Thread Cert.AdamDown.nD Cert.AdamDown.τ).loc Cert.AdamDown.main_arg10))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
      ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7)
      ∧ r.2.mem ((c.tc : Thread Cert.AdamDownIdeal.nD Cert.AdamDownIdeal.τ).loc Cert.AdamDownIdeal.main_arg8) = m ((c.tc : Thread Cert.AdamDownIdeal.nD Cert.AdamDownIdeal.τ).loc Cert.AdamDownIdeal.main_arg8)
      ∧ r.2.mem ((c.tc : Thread Cert.AdamDownIdeal.nD Cert.AdamDownIdeal.τ).loc Cert.AdamDownIdeal.main_arg9) = m ((c.tc : Thread Cert.AdamDownIdeal.nD Cert.AdamDownIdeal.τ).loc Cert.AdamDownIdeal.main_arg9)
      ∧ r.2.mem ((c.tc : Thread Cert.AdamDownIdeal.nD Cert.AdamDownIdeal.τ).loc Cert.AdamDownIdeal.main_arg10) = m ((c.tc : Thread Cert.AdamDownIdeal.nD Cert.AdamDownIdeal.τ).loc Cert.AdamDownIdeal.main_arg10))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6)
      ∧ r.2.mem ((c.tc : Thread Cert.AdamDownRefIdeal.nD Cert.AdamDownRefIdeal.τ).loc Cert.AdamDownRefIdeal.main_arg7) = m ((c.tc : Thread Cert.AdamDownRefIdeal.nD Cert.AdamDownRefIdeal.τ).loc Cert.AdamDownRefIdeal.main_arg7)
      ∧ r.2.mem ((c.tc : Thread Cert.AdamDownRefIdeal.nD Cert.AdamDownRefIdeal.τ).loc Cert.AdamDownRefIdeal.main_arg8) = m ((c.tc : Thread Cert.AdamDownRefIdeal.nD Cert.AdamDownRefIdeal.τ).loc Cert.AdamDownRefIdeal.main_arg8)
      ∧ r.2.mem ((c.tc : Thread Cert.AdamDownRefIdeal.nD Cert.AdamDownRefIdeal.τ).loc Cert.AdamDownRefIdeal.main_arg9) = m ((c.tc : Thread Cert.AdamDownRefIdeal.nD Cert.AdamDownRefIdeal.τ).loc Cert.AdamDownRefIdeal.main_arg9)
      ∧ r.2.mem ((c.tc : Thread Cert.AdamDownRefIdeal.nD Cert.AdamDownRefIdeal.τ).loc Cert.AdamDownRefIdeal.main_arg10) = m ((c.tc : Thread Cert.AdamDownRefIdeal.nD Cert.AdamDownRefIdeal.τ).loc Cert.AdamDownRefIdeal.main_arg10))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3)
      ∧ r.2.mem ((c.tc : Thread Cert.AdamGate.nD Cert.AdamGate.τ).loc Cert.AdamGate.main_arg4) = m ((c.tc : Thread Cert.AdamGate.nD Cert.AdamGate.τ).loc Cert.AdamGate.main_arg4)
      ∧ r.2.mem ((c.tc : Thread Cert.AdamGate.nD Cert.AdamGate.τ).loc Cert.AdamGate.main_arg5) = m ((c.tc : Thread Cert.AdamGate.nD Cert.AdamGate.τ).loc Cert.AdamGate.main_arg5)
      ∧ r.2.mem ((c.tc : Thread Cert.AdamGate.nD Cert.AdamGate.τ).loc Cert.AdamGate.main_arg6) = m ((c.tc : Thread Cert.AdamGate.nD Cert.AdamGate.τ).loc Cert.AdamGate.main_arg6)
      ∧ r.2.mem ((c.tc : Thread Cert.AdamGate.nD Cert.AdamGate.τ).loc Cert.AdamGate.main_arg7) = m ((c.tc : Thread Cert.AdamGate.nD Cert.AdamGate.τ).loc Cert.AdamGate.main_arg7)
      ∧ r.2.mem ((c.tc : Thread Cert.AdamGate.nD Cert.AdamGate.τ).loc Cert.AdamGate.main_arg8) = m ((c.tc : Thread Cert.AdamGate.nD Cert.AdamGate.τ).loc Cert.AdamGate.main_arg8)
      ∧ r.2.mem ((c.tc : Thread Cert.AdamGate.nD Cert.AdamGate.τ).loc Cert.AdamGate.main_arg9) = m ((c.tc : Thread Cert.AdamGate.nD Cert.AdamGate.τ).loc Cert.AdamGate.main_arg9)
      ∧ r.2.mem ((c.tc : Thread Cert.AdamGate.nD Cert.AdamGate.τ).loc Cert.AdamGate.main_arg10) = m ((c.tc : Thread Cert.AdamGate.nD Cert.AdamGate.τ).loc Cert.AdamGate.main_arg10))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
      ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
      ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
      ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
      ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7)
      ∧ r.2.mem ((c.tc : Thread Cert.AdamGateIdeal.nD Cert.AdamGateIdeal.τ).loc Cert.AdamGateIdeal.main_arg8) = m ((c.tc : Thread Cert.AdamGateIdeal.nD Cert.AdamGateIdeal.τ).loc Cert.AdamGateIdeal.main_arg8)
      ∧ r.2.mem ((c.tc : Thread Cert.AdamGateIdeal.nD Cert.AdamGateIdeal.τ).loc Cert.AdamGateIdeal.main_arg9) = m ((c.tc : Thread Cert.AdamGateIdeal.nD Cert.AdamGateIdeal.τ).loc Cert.AdamGateIdeal.main_arg9)
      ∧ r.2.mem ((c.tc : Thread Cert.AdamGateIdeal.nD Cert.AdamGateIdeal.τ).loc Cert.AdamGateIdeal.main_arg10) = m ((c.tc : Thread Cert.AdamGateIdeal.nD Cert.AdamGateIdeal.τ).loc Cert.AdamGateIdeal.main_arg10))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3)
      ∧ r.2.mem ((c.tc : Thread Cert.AdamGateRefIdeal.nD Cert.AdamGateRefIdeal.τ).loc Cert.AdamGateRefIdeal.main_arg4) = m ((c.tc : Thread Cert.AdamGateRefIdeal.nD Cert.AdamGateRefIdeal.τ).loc Cert.AdamGateRefIdeal.main_arg4)
      ∧ r.2.mem ((c.tc : Thread Cert.AdamGateRefIdeal.nD Cert.AdamGateRefIdeal.τ).loc Cert.AdamGateRefIdeal.main_arg5) = m ((c.tc : Thread Cert.AdamGateRefIdeal.nD Cert.AdamGateRefIdeal.τ).loc Cert.AdamGateRefIdeal.main_arg5)
      ∧ r.2.mem ((c.tc : Thread Cert.AdamGateRefIdeal.nD Cert.AdamGateRefIdeal.τ).loc Cert.AdamGateRefIdeal.main_arg6) = m ((c.tc : Thread Cert.AdamGateRefIdeal.nD Cert.AdamGateRefIdeal.τ).loc Cert.AdamGateRefIdeal.main_arg6)
      ∧ r.2.mem ((c.tc : Thread Cert.AdamGateRefIdeal.nD Cert.AdamGateRefIdeal.τ).loc Cert.AdamGateRefIdeal.main_arg7) = m ((c.tc : Thread Cert.AdamGateRefIdeal.nD Cert.AdamGateRefIdeal.τ).loc Cert.AdamGateRefIdeal.main_arg7)
      ∧ r.2.mem ((c.tc : Thread Cert.AdamGateRefIdeal.nD Cert.AdamGateRefIdeal.τ).loc Cert.AdamGateRefIdeal.main_arg8) = m ((c.tc : Thread Cert.AdamGateRefIdeal.nD Cert.AdamGateRefIdeal.τ).loc Cert.AdamGateRefIdeal.main_arg8)
      ∧ r.2.mem ((c.tc : Thread Cert.AdamGateRefIdeal.nD Cert.AdamGateRefIdeal.τ).loc Cert.AdamGateRefIdeal.main_arg9) = m ((c.tc : Thread Cert.AdamGateRefIdeal.nD Cert.AdamGateRefIdeal.τ).loc Cert.AdamGateRefIdeal.main_arg9)
      ∧ r.2.mem ((c.tc : Thread Cert.AdamGateRefIdeal.nD Cert.AdamGateRefIdeal.τ).loc Cert.AdamGateRefIdeal.main_arg10) = m ((c.tc : Thread Cert.AdamGateRefIdeal.nD Cert.AdamGateRefIdeal.τ).loc Cert.AdamGateRefIdeal.main_arg10))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4)
      ∧ r.2.mem ((c.tc : Thread Cert.AdamProj.nD Cert.AdamProj.τ).loc Cert.AdamProj.main_arg5) = m ((c.tc : Thread Cert.AdamProj.nD Cert.AdamProj.τ).loc Cert.AdamProj.main_arg5)
      ∧ r.2.mem ((c.tc : Thread Cert.AdamProj.nD Cert.AdamProj.τ).loc Cert.AdamProj.main_arg6) = m ((c.tc : Thread Cert.AdamProj.nD Cert.AdamProj.τ).loc Cert.AdamProj.main_arg6)
      ∧ r.2.mem ((c.tc : Thread Cert.AdamProj.nD Cert.AdamProj.τ).loc Cert.AdamProj.main_arg7) = m ((c.tc : Thread Cert.AdamProj.nD Cert.AdamProj.τ).loc Cert.AdamProj.main_arg7)
      ∧ r.2.mem ((c.tc : Thread Cert.AdamProj.nD Cert.AdamProj.τ).loc Cert.AdamProj.main_arg8) = m ((c.tc : Thread Cert.AdamProj.nD Cert.AdamProj.τ).loc Cert.AdamProj.main_arg8)
      ∧ r.2.mem ((c.tc : Thread Cert.AdamProj.nD Cert.AdamProj.τ).loc Cert.AdamProj.main_arg9) = m ((c.tc : Thread Cert.AdamProj.nD Cert.AdamProj.τ).loc Cert.AdamProj.main_arg9)
      ∧ r.2.mem ((c.tc : Thread Cert.AdamProj.nD Cert.AdamProj.τ).loc Cert.AdamProj.main_arg10) = m ((c.tc : Thread Cert.AdamProj.nD Cert.AdamProj.τ).loc Cert.AdamProj.main_arg10))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
      ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5)
      ∧ r.2.mem ((c.tc : Thread Cert.AdamProjIdeal.nD Cert.AdamProjIdeal.τ).loc Cert.AdamProjIdeal.main_arg6) = m ((c.tc : Thread Cert.AdamProjIdeal.nD Cert.AdamProjIdeal.τ).loc Cert.AdamProjIdeal.main_arg6)
      ∧ r.2.mem ((c.tc : Thread Cert.AdamProjIdeal.nD Cert.AdamProjIdeal.τ).loc Cert.AdamProjIdeal.main_arg7) = m ((c.tc : Thread Cert.AdamProjIdeal.nD Cert.AdamProjIdeal.τ).loc Cert.AdamProjIdeal.main_arg7)
      ∧ r.2.mem ((c.tc : Thread Cert.AdamProjIdeal.nD Cert.AdamProjIdeal.τ).loc Cert.AdamProjIdeal.main_arg8) = m ((c.tc : Thread Cert.AdamProjIdeal.nD Cert.AdamProjIdeal.τ).loc Cert.AdamProjIdeal.main_arg8)
      ∧ r.2.mem ((c.tc : Thread Cert.AdamProjIdeal.nD Cert.AdamProjIdeal.τ).loc Cert.AdamProjIdeal.main_arg9) = m ((c.tc : Thread Cert.AdamProjIdeal.nD Cert.AdamProjIdeal.τ).loc Cert.AdamProjIdeal.main_arg9)
      ∧ r.2.mem ((c.tc : Thread Cert.AdamProjIdeal.nD Cert.AdamProjIdeal.τ).loc Cert.AdamProjIdeal.main_arg10) = m ((c.tc : Thread Cert.AdamProjIdeal.nD Cert.AdamProjIdeal.τ).loc Cert.AdamProjIdeal.main_arg10))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4)
      ∧ r.2.mem ((c.tc : Thread Cert.AdamProjRefIdeal.nD Cert.AdamProjRefIdeal.τ).loc Cert.AdamProjRefIdeal.main_arg5) = m ((c.tc : Thread Cert.AdamProjRefIdeal.nD Cert.AdamProjRefIdeal.τ).loc Cert.AdamProjRefIdeal.main_arg5)
      ∧ r.2.mem ((c.tc : Thread Cert.AdamProjRefIdeal.nD Cert.AdamProjRefIdeal.τ).loc Cert.AdamProjRefIdeal.main_arg6) = m ((c.tc : Thread Cert.AdamProjRefIdeal.nD Cert.AdamProjRefIdeal.τ).loc Cert.AdamProjRefIdeal.main_arg6)
      ∧ r.2.mem ((c.tc : Thread Cert.AdamProjRefIdeal.nD Cert.AdamProjRefIdeal.τ).loc Cert.AdamProjRefIdeal.main_arg7) = m ((c.tc : Thread Cert.AdamProjRefIdeal.nD Cert.AdamProjRefIdeal.τ).loc Cert.AdamProjRefIdeal.main_arg7)
      ∧ r.2.mem ((c.tc : Thread Cert.AdamProjRefIdeal.nD Cert.AdamProjRefIdeal.τ).loc Cert.AdamProjRefIdeal.main_arg8) = m ((c.tc : Thread Cert.AdamProjRefIdeal.nD Cert.AdamProjRefIdeal.τ).loc Cert.AdamProjRefIdeal.main_arg8)
      ∧ r.2.mem ((c.tc : Thread Cert.AdamProjRefIdeal.nD Cert.AdamProjRefIdeal.τ).loc Cert.AdamProjRefIdeal.main_arg9) = m ((c.tc : Thread Cert.AdamProjRefIdeal.nD Cert.AdamProjRefIdeal.τ).loc Cert.AdamProjRefIdeal.main_arg9)
      ∧ r.2.mem ((c.tc : Thread Cert.AdamProjRefIdeal.nD Cert.AdamProjRefIdeal.τ).loc Cert.AdamProjRefIdeal.main_arg10) = m ((c.tc : Thread Cert.AdamProjRefIdeal.nD Cert.AdamProjRefIdeal.τ).loc Cert.AdamProjRefIdeal.main_arg10))
      ∧ r.2.sem = fun _ => 0)

def quiescent_AdamUp2 [hAdamUp2 : Cert.AdamUp2.Facts] : Prop :=
  ∀ (m : (ℓ : Loc Cert.AdamUp2.nD Cert.AdamUp2.τ Cert.AdamUp2.sig) → Buf (Elt Bits) ℓ) (g : Dev Cert.AdamUp2.nD → PrngReg), Pre_AdamUp2 m →
    θ_run (Cert.AdamUp2.defs (F := Bits)) (onTc (τ := Cert.AdamUp2.τ) (Cert.AdamUp2.main (F := Bits))) ⟨m, fun _ => 0, g⟩ (fun r => (∀ c : Dev Cert.AdamUp2.nD,
      r.2.mem ((c.tc : Thread Cert.AdamUp2.nD Cert.AdamUp2.τ).loc Cert.AdamUp2.main_arg0) = m ((c.tc : Thread Cert.AdamUp2.nD Cert.AdamUp2.τ).loc Cert.AdamUp2.main_arg0)
      ∧ r.2.mem ((c.tc : Thread Cert.AdamUp2.nD Cert.AdamUp2.τ).loc Cert.AdamUp2.main_arg1) = m ((c.tc : Thread Cert.AdamUp2.nD Cert.AdamUp2.τ).loc Cert.AdamUp2.main_arg1)
      ∧ r.2.mem ((c.tc : Thread Cert.AdamUp2.nD Cert.AdamUp2.τ).loc Cert.AdamUp2.main_arg2) = m ((c.tc : Thread Cert.AdamUp2.nD Cert.AdamUp2.τ).loc Cert.AdamUp2.main_arg2)
      ∧ r.2.mem ((c.tc : Thread Cert.AdamUp2.nD Cert.AdamUp2.τ).loc Cert.AdamUp2.main_arg3) = m ((c.tc : Thread Cert.AdamUp2.nD Cert.AdamUp2.τ).loc Cert.AdamUp2.main_arg3)
      ∧ r.2.mem ((c.tc : Thread Cert.AdamUp2.nD Cert.AdamUp2.τ).loc Cert.AdamUp2.main_arg4) = m ((c.tc : Thread Cert.AdamUp2.nD Cert.AdamUp2.τ).loc Cert.AdamUp2.main_arg4)
      ∧ r.2.mem ((c.tc : Thread Cert.AdamUp2.nD Cert.AdamUp2.τ).loc Cert.AdamUp2.main_arg5) = m ((c.tc : Thread Cert.AdamUp2.nD Cert.AdamUp2.τ).loc Cert.AdamUp2.main_arg5)
      ∧ r.2.mem ((c.tc : Thread Cert.AdamUp2.nD Cert.AdamUp2.τ).loc Cert.AdamUp2.main_arg6) = m ((c.tc : Thread Cert.AdamUp2.nD Cert.AdamUp2.τ).loc Cert.AdamUp2.main_arg6))
      ∧ r.2.sem = fun _ => 0)

def quiescent_AdamUp2Ideal [hAdamUp2Ideal : Cert.AdamUp2Ideal.Facts] : Prop :=
  ∀ (m : (ℓ : Loc Cert.AdamUp2Ideal.nD Cert.AdamUp2Ideal.τ Cert.AdamUp2Ideal.sig) → Buf (Elt Ideal) ℓ) (g : Dev Cert.AdamUp2Ideal.nD → PrngReg), Pre_AdamUp2Ideal m →
    θ_run (Cert.AdamUp2Ideal.defs (F := Ideal)) (onTc (τ := Cert.AdamUp2Ideal.τ) (Cert.AdamUp2Ideal.main (F := Ideal))) ⟨m, fun _ => 0, g⟩ (fun r => (∀ c : Dev Cert.AdamUp2Ideal.nD,
      r.2.mem ((c.tc : Thread Cert.AdamUp2Ideal.nD Cert.AdamUp2Ideal.τ).loc Cert.AdamUp2Ideal.main_arg0) = m ((c.tc : Thread Cert.AdamUp2Ideal.nD Cert.AdamUp2Ideal.τ).loc Cert.AdamUp2Ideal.main_arg0)
      ∧ r.2.mem ((c.tc : Thread Cert.AdamUp2Ideal.nD Cert.AdamUp2Ideal.τ).loc Cert.AdamUp2Ideal.main_arg1) = m ((c.tc : Thread Cert.AdamUp2Ideal.nD Cert.AdamUp2Ideal.τ).loc Cert.AdamUp2Ideal.main_arg1)
      ∧ r.2.mem ((c.tc : Thread Cert.AdamUp2Ideal.nD Cert.AdamUp2Ideal.τ).loc Cert.AdamUp2Ideal.main_arg2) = m ((c.tc : Thread Cert.AdamUp2Ideal.nD Cert.AdamUp2Ideal.τ).loc Cert.AdamUp2Ideal.main_arg2)
      ∧ r.2.mem ((c.tc : Thread Cert.AdamUp2Ideal.nD Cert.AdamUp2Ideal.τ).loc Cert.AdamUp2Ideal.main_arg3) = m ((c.tc : Thread Cert.AdamUp2Ideal.nD Cert.AdamUp2Ideal.τ).loc Cert.AdamUp2Ideal.main_arg3)
      ∧ r.2.mem ((c.tc : Thread Cert.AdamUp2Ideal.nD Cert.AdamUp2Ideal.τ).loc Cert.AdamUp2Ideal.main_arg4) = m ((c.tc : Thread Cert.AdamUp2Ideal.nD Cert.AdamUp2Ideal.τ).loc Cert.AdamUp2Ideal.main_arg4)
      ∧ r.2.mem ((c.tc : Thread Cert.AdamUp2Ideal.nD Cert.AdamUp2Ideal.τ).loc Cert.AdamUp2Ideal.main_arg5) = m ((c.tc : Thread Cert.AdamUp2Ideal.nD Cert.AdamUp2Ideal.τ).loc Cert.AdamUp2Ideal.main_arg5)
      ∧ r.2.mem ((c.tc : Thread Cert.AdamUp2Ideal.nD Cert.AdamUp2Ideal.τ).loc Cert.AdamUp2Ideal.main_arg6) = m ((c.tc : Thread Cert.AdamUp2Ideal.nD Cert.AdamUp2Ideal.τ).loc Cert.AdamUp2Ideal.main_arg6))
      ∧ r.2.sem = fun _ => 0)

def quiescent_AdamUp2RefIdeal [hAdamUp2RefIdeal : Cert.AdamUp2RefIdeal.Facts] : Prop :=
  ∀ (m : (ℓ : Loc Cert.AdamUp2RefIdeal.nD Cert.AdamUp2RefIdeal.τ Cert.AdamUp2RefIdeal.sig) → Buf (Elt Ideal) ℓ) (g : Dev Cert.AdamUp2RefIdeal.nD → PrngReg), Pre_AdamUp2RefIdeal m →
    θ_run (Cert.AdamUp2RefIdeal.defs (F := Ideal)) (onTc (τ := Cert.AdamUp2RefIdeal.τ) (Cert.AdamUp2RefIdeal.main (F := Ideal))) ⟨m, fun _ => 0, g⟩ (fun r => (∀ c : Dev Cert.AdamUp2RefIdeal.nD,
      r.2.mem ((c.tc : Thread Cert.AdamUp2RefIdeal.nD Cert.AdamUp2RefIdeal.τ).loc Cert.AdamUp2RefIdeal.main_arg0) = m ((c.tc : Thread Cert.AdamUp2RefIdeal.nD Cert.AdamUp2RefIdeal.τ).loc Cert.AdamUp2RefIdeal.main_arg0)
      ∧ r.2.mem ((c.tc : Thread Cert.AdamUp2RefIdeal.nD Cert.AdamUp2RefIdeal.τ).loc Cert.AdamUp2RefIdeal.main_arg1) = m ((c.tc : Thread Cert.AdamUp2RefIdeal.nD Cert.AdamUp2RefIdeal.τ).loc Cert.AdamUp2RefIdeal.main_arg1)
      ∧ r.2.mem ((c.tc : Thread Cert.AdamUp2RefIdeal.nD Cert.AdamUp2RefIdeal.τ).loc Cert.AdamUp2RefIdeal.main_arg2) = m ((c.tc : Thread Cert.AdamUp2RefIdeal.nD Cert.AdamUp2RefIdeal.τ).loc Cert.AdamUp2RefIdeal.main_arg2)
      ∧ r.2.mem ((c.tc : Thread Cert.AdamUp2RefIdeal.nD Cert.AdamUp2RefIdeal.τ).loc Cert.AdamUp2RefIdeal.main_arg3) = m ((c.tc : Thread Cert.AdamUp2RefIdeal.nD Cert.AdamUp2RefIdeal.τ).loc Cert.AdamUp2RefIdeal.main_arg3)
      ∧ r.2.mem ((c.tc : Thread Cert.AdamUp2RefIdeal.nD Cert.AdamUp2RefIdeal.τ).loc Cert.AdamUp2RefIdeal.main_arg4) = m ((c.tc : Thread Cert.AdamUp2RefIdeal.nD Cert.AdamUp2RefIdeal.τ).loc Cert.AdamUp2RefIdeal.main_arg4)
      ∧ r.2.mem ((c.tc : Thread Cert.AdamUp2RefIdeal.nD Cert.AdamUp2RefIdeal.τ).loc Cert.AdamUp2RefIdeal.main_arg5) = m ((c.tc : Thread Cert.AdamUp2RefIdeal.nD Cert.AdamUp2RefIdeal.τ).loc Cert.AdamUp2RefIdeal.main_arg5)
      ∧ r.2.mem ((c.tc : Thread Cert.AdamUp2RefIdeal.nD Cert.AdamUp2RefIdeal.τ).loc Cert.AdamUp2RefIdeal.main_arg6) = m ((c.tc : Thread Cert.AdamUp2RefIdeal.nD Cert.AdamUp2RefIdeal.τ).loc Cert.AdamUp2RefIdeal.main_arg6))
      ∧ r.2.sem = fun _ => 0)

def quiescent_AdamDown2 [hAdamDown2 : Cert.AdamDown2.Facts] : Prop :=
  ∀ (m : (ℓ : Loc Cert.AdamDown2.nD Cert.AdamDown2.τ Cert.AdamDown2.sig) → Buf (Elt Bits) ℓ) (g : Dev Cert.AdamDown2.nD → PrngReg), Pre_AdamDown2 m →
    θ_run (Cert.AdamDown2.defs (F := Bits)) (onTc (τ := Cert.AdamDown2.τ) (Cert.AdamDown2.main (F := Bits))) ⟨m, fun _ => 0, g⟩ (fun r => (∀ c : Dev Cert.AdamDown2.nD,
      r.2.mem ((c.tc : Thread Cert.AdamDown2.nD Cert.AdamDown2.τ).loc Cert.AdamDown2.main_arg0) = m ((c.tc : Thread Cert.AdamDown2.nD Cert.AdamDown2.τ).loc Cert.AdamDown2.main_arg0)
      ∧ r.2.mem ((c.tc : Thread Cert.AdamDown2.nD Cert.AdamDown2.τ).loc Cert.AdamDown2.main_arg1) = m ((c.tc : Thread Cert.AdamDown2.nD Cert.AdamDown2.τ).loc Cert.AdamDown2.main_arg1)
      ∧ r.2.mem ((c.tc : Thread Cert.AdamDown2.nD Cert.AdamDown2.τ).loc Cert.AdamDown2.main_arg2) = m ((c.tc : Thread Cert.AdamDown2.nD Cert.AdamDown2.τ).loc Cert.AdamDown2.main_arg2)
      ∧ r.2.mem ((c.tc : Thread Cert.AdamDown2.nD Cert.AdamDown2.τ).loc Cert.AdamDown2.main_arg3) = m ((c.tc : Thread Cert.AdamDown2.nD Cert.AdamDown2.τ).loc Cert.AdamDown2.main_arg3)
      ∧ r.2.mem ((c.tc : Thread Cert.AdamDown2.nD Cert.AdamDown2.τ).loc Cert.AdamDown2.main_arg4) = m ((c.tc : Thread Cert.AdamDown2.nD Cert.AdamDown2.τ).loc Cert.AdamDown2.main_arg4)
      ∧ r.2.mem ((c.tc : Thread Cert.AdamDown2.nD Cert.AdamDown2.τ).loc Cert.AdamDown2.main_arg5) = m ((c.tc : Thread Cert.AdamDown2.nD Cert.AdamDown2.τ).loc Cert.AdamDown2.main_arg5)
      ∧ r.2.mem ((c.tc : Thread Cert.AdamDown2.nD Cert.AdamDown2.τ).loc Cert.AdamDown2.main_arg6) = m ((c.tc : Thread Cert.AdamDown2.nD Cert.AdamDown2.τ).loc Cert.AdamDown2.main_arg6))
      ∧ r.2.sem = fun _ => 0)

def quiescent_AdamDown2Ideal [hAdamDown2Ideal : Cert.AdamDown2Ideal.Facts] : Prop :=
  ∀ (m : (ℓ : Loc Cert.AdamDown2Ideal.nD Cert.AdamDown2Ideal.τ Cert.AdamDown2Ideal.sig) → Buf (Elt Ideal) ℓ) (g : Dev Cert.AdamDown2Ideal.nD → PrngReg), Pre_AdamDown2Ideal m →
    θ_run (Cert.AdamDown2Ideal.defs (F := Ideal)) (onTc (τ := Cert.AdamDown2Ideal.τ) (Cert.AdamDown2Ideal.main (F := Ideal))) ⟨m, fun _ => 0, g⟩ (fun r => (∀ c : Dev Cert.AdamDown2Ideal.nD,
      r.2.mem ((c.tc : Thread Cert.AdamDown2Ideal.nD Cert.AdamDown2Ideal.τ).loc Cert.AdamDown2Ideal.main_arg0) = m ((c.tc : Thread Cert.AdamDown2Ideal.nD Cert.AdamDown2Ideal.τ).loc Cert.AdamDown2Ideal.main_arg0)
      ∧ r.2.mem ((c.tc : Thread Cert.AdamDown2Ideal.nD Cert.AdamDown2Ideal.τ).loc Cert.AdamDown2Ideal.main_arg1) = m ((c.tc : Thread Cert.AdamDown2Ideal.nD Cert.AdamDown2Ideal.τ).loc Cert.AdamDown2Ideal.main_arg1)
      ∧ r.2.mem ((c.tc : Thread Cert.AdamDown2Ideal.nD Cert.AdamDown2Ideal.τ).loc Cert.AdamDown2Ideal.main_arg2) = m ((c.tc : Thread Cert.AdamDown2Ideal.nD Cert.AdamDown2Ideal.τ).loc Cert.AdamDown2Ideal.main_arg2)
      ∧ r.2.mem ((c.tc : Thread Cert.AdamDown2Ideal.nD Cert.AdamDown2Ideal.τ).loc Cert.AdamDown2Ideal.main_arg3) = m ((c.tc : Thread Cert.AdamDown2Ideal.nD Cert.AdamDown2Ideal.τ).loc Cert.AdamDown2Ideal.main_arg3)
      ∧ r.2.mem ((c.tc : Thread Cert.AdamDown2Ideal.nD Cert.AdamDown2Ideal.τ).loc Cert.AdamDown2Ideal.main_arg4) = m ((c.tc : Thread Cert.AdamDown2Ideal.nD Cert.AdamDown2Ideal.τ).loc Cert.AdamDown2Ideal.main_arg4)
      ∧ r.2.mem ((c.tc : Thread Cert.AdamDown2Ideal.nD Cert.AdamDown2Ideal.τ).loc Cert.AdamDown2Ideal.main_arg5) = m ((c.tc : Thread Cert.AdamDown2Ideal.nD Cert.AdamDown2Ideal.τ).loc Cert.AdamDown2Ideal.main_arg5)
      ∧ r.2.mem ((c.tc : Thread Cert.AdamDown2Ideal.nD Cert.AdamDown2Ideal.τ).loc Cert.AdamDown2Ideal.main_arg6) = m ((c.tc : Thread Cert.AdamDown2Ideal.nD Cert.AdamDown2Ideal.τ).loc Cert.AdamDown2Ideal.main_arg6))
      ∧ r.2.sem = fun _ => 0)

def quiescent_AdamDown2RefIdeal [hAdamDown2RefIdeal : Cert.AdamDown2RefIdeal.Facts] : Prop :=
  ∀ (m : (ℓ : Loc Cert.AdamDown2RefIdeal.nD Cert.AdamDown2RefIdeal.τ Cert.AdamDown2RefIdeal.sig) → Buf (Elt Ideal) ℓ) (g : Dev Cert.AdamDown2RefIdeal.nD → PrngReg), Pre_AdamDown2RefIdeal m →
    θ_run (Cert.AdamDown2RefIdeal.defs (F := Ideal)) (onTc (τ := Cert.AdamDown2RefIdeal.τ) (Cert.AdamDown2RefIdeal.main (F := Ideal))) ⟨m, fun _ => 0, g⟩ (fun r => (∀ c : Dev Cert.AdamDown2RefIdeal.nD,
      r.2.mem ((c.tc : Thread Cert.AdamDown2RefIdeal.nD Cert.AdamDown2RefIdeal.τ).loc Cert.AdamDown2RefIdeal.main_arg0) = m ((c.tc : Thread Cert.AdamDown2RefIdeal.nD Cert.AdamDown2RefIdeal.τ).loc Cert.AdamDown2RefIdeal.main_arg0)
      ∧ r.2.mem ((c.tc : Thread Cert.AdamDown2RefIdeal.nD Cert.AdamDown2RefIdeal.τ).loc Cert.AdamDown2RefIdeal.main_arg1) = m ((c.tc : Thread Cert.AdamDown2RefIdeal.nD Cert.AdamDown2RefIdeal.τ).loc Cert.AdamDown2RefIdeal.main_arg1)
      ∧ r.2.mem ((c.tc : Thread Cert.AdamDown2RefIdeal.nD Cert.AdamDown2RefIdeal.τ).loc Cert.AdamDown2RefIdeal.main_arg2) = m ((c.tc : Thread Cert.AdamDown2RefIdeal.nD Cert.AdamDown2RefIdeal.τ).loc Cert.AdamDown2RefIdeal.main_arg2)
      ∧ r.2.mem ((c.tc : Thread Cert.AdamDown2RefIdeal.nD Cert.AdamDown2RefIdeal.τ).loc Cert.AdamDown2RefIdeal.main_arg3) = m ((c.tc : Thread Cert.AdamDown2RefIdeal.nD Cert.AdamDown2RefIdeal.τ).loc Cert.AdamDown2RefIdeal.main_arg3)
      ∧ r.2.mem ((c.tc : Thread Cert.AdamDown2RefIdeal.nD Cert.AdamDown2RefIdeal.τ).loc Cert.AdamDown2RefIdeal.main_arg4) = m ((c.tc : Thread Cert.AdamDown2RefIdeal.nD Cert.AdamDown2RefIdeal.τ).loc Cert.AdamDown2RefIdeal.main_arg4)
      ∧ r.2.mem ((c.tc : Thread Cert.AdamDown2RefIdeal.nD Cert.AdamDown2RefIdeal.τ).loc Cert.AdamDown2RefIdeal.main_arg5) = m ((c.tc : Thread Cert.AdamDown2RefIdeal.nD Cert.AdamDown2RefIdeal.τ).loc Cert.AdamDown2RefIdeal.main_arg5)
      ∧ r.2.mem ((c.tc : Thread Cert.AdamDown2RefIdeal.nD Cert.AdamDown2RefIdeal.τ).loc Cert.AdamDown2RefIdeal.main_arg6) = m ((c.tc : Thread Cert.AdamDown2RefIdeal.nD Cert.AdamDown2RefIdeal.τ).loc Cert.AdamDown2RefIdeal.main_arg6))
      ∧ r.2.sem = fun _ => 0)

def quiescent_AdamGate2 [hAdamGate2 : Cert.AdamGate2.Facts] : Prop :=
  ∀ (m : (ℓ : Loc Cert.AdamGate2.nD Cert.AdamGate2.τ Cert.AdamGate2.sig) → Buf (Elt Bits) ℓ) (g : Dev Cert.AdamGate2.nD → PrngReg), Pre_AdamGate2 m →
    θ_run (Cert.AdamGate2.defs (F := Bits)) (onTc (τ := Cert.AdamGate2.τ) (Cert.AdamGate2.main (F := Bits))) ⟨m, fun _ => 0, g⟩ (fun r => (∀ c : Dev Cert.AdamGate2.nD,
      r.2.mem ((c.tc : Thread Cert.AdamGate2.nD Cert.AdamGate2.τ).loc Cert.AdamGate2.main_arg0) = m ((c.tc : Thread Cert.AdamGate2.nD Cert.AdamGate2.τ).loc Cert.AdamGate2.main_arg0)
      ∧ r.2.mem ((c.tc : Thread Cert.AdamGate2.nD Cert.AdamGate2.τ).loc Cert.AdamGate2.main_arg1) = m ((c.tc : Thread Cert.AdamGate2.nD Cert.AdamGate2.τ).loc Cert.AdamGate2.main_arg1)
      ∧ r.2.mem ((c.tc : Thread Cert.AdamGate2.nD Cert.AdamGate2.τ).loc Cert.AdamGate2.main_arg2) = m ((c.tc : Thread Cert.AdamGate2.nD Cert.AdamGate2.τ).loc Cert.AdamGate2.main_arg2)
      ∧ r.2.mem ((c.tc : Thread Cert.AdamGate2.nD Cert.AdamGate2.τ).loc Cert.AdamGate2.main_arg3) = m ((c.tc : Thread Cert.AdamGate2.nD Cert.AdamGate2.τ).loc Cert.AdamGate2.main_arg3)
      ∧ r.2.mem ((c.tc : Thread Cert.AdamGate2.nD Cert.AdamGate2.τ).loc Cert.AdamGate2.main_arg4) = m ((c.tc : Thread Cert.AdamGate2.nD Cert.AdamGate2.τ).loc Cert.AdamGate2.main_arg4)
      ∧ r.2.mem ((c.tc : Thread Cert.AdamGate2.nD Cert.AdamGate2.τ).loc Cert.AdamGate2.main_arg5) = m ((c.tc : Thread Cert.AdamGate2.nD Cert.AdamGate2.τ).loc Cert.AdamGate2.main_arg5)
      ∧ r.2.mem ((c.tc : Thread Cert.AdamGate2.nD Cert.AdamGate2.τ).loc Cert.AdamGate2.main_arg6) = m ((c.tc : Thread Cert.AdamGate2.nD Cert.AdamGate2.τ).loc Cert.AdamGate2.main_arg6))
      ∧ r.2.sem = fun _ => 0)

def quiescent_AdamGate2Ideal [hAdamGate2Ideal : Cert.AdamGate2Ideal.Facts] : Prop :=
  ∀ (m : (ℓ : Loc Cert.AdamGate2Ideal.nD Cert.AdamGate2Ideal.τ Cert.AdamGate2Ideal.sig) → Buf (Elt Ideal) ℓ) (g : Dev Cert.AdamGate2Ideal.nD → PrngReg), Pre_AdamGate2Ideal m →
    θ_run (Cert.AdamGate2Ideal.defs (F := Ideal)) (onTc (τ := Cert.AdamGate2Ideal.τ) (Cert.AdamGate2Ideal.main (F := Ideal))) ⟨m, fun _ => 0, g⟩ (fun r => (∀ c : Dev Cert.AdamGate2Ideal.nD,
      r.2.mem ((c.tc : Thread Cert.AdamGate2Ideal.nD Cert.AdamGate2Ideal.τ).loc Cert.AdamGate2Ideal.main_arg0) = m ((c.tc : Thread Cert.AdamGate2Ideal.nD Cert.AdamGate2Ideal.τ).loc Cert.AdamGate2Ideal.main_arg0)
      ∧ r.2.mem ((c.tc : Thread Cert.AdamGate2Ideal.nD Cert.AdamGate2Ideal.τ).loc Cert.AdamGate2Ideal.main_arg1) = m ((c.tc : Thread Cert.AdamGate2Ideal.nD Cert.AdamGate2Ideal.τ).loc Cert.AdamGate2Ideal.main_arg1)
      ∧ r.2.mem ((c.tc : Thread Cert.AdamGate2Ideal.nD Cert.AdamGate2Ideal.τ).loc Cert.AdamGate2Ideal.main_arg2) = m ((c.tc : Thread Cert.AdamGate2Ideal.nD Cert.AdamGate2Ideal.τ).loc Cert.AdamGate2Ideal.main_arg2)
      ∧ r.2.mem ((c.tc : Thread Cert.AdamGate2Ideal.nD Cert.AdamGate2Ideal.τ).loc Cert.AdamGate2Ideal.main_arg3) = m ((c.tc : Thread Cert.AdamGate2Ideal.nD Cert.AdamGate2Ideal.τ).loc Cert.AdamGate2Ideal.main_arg3)
      ∧ r.2.mem ((c.tc : Thread Cert.AdamGate2Ideal.nD Cert.AdamGate2Ideal.τ).loc Cert.AdamGate2Ideal.main_arg4) = m ((c.tc : Thread Cert.AdamGate2Ideal.nD Cert.AdamGate2Ideal.τ).loc Cert.AdamGate2Ideal.main_arg4)
      ∧ r.2.mem ((c.tc : Thread Cert.AdamGate2Ideal.nD Cert.AdamGate2Ideal.τ).loc Cert.AdamGate2Ideal.main_arg5) = m ((c.tc : Thread Cert.AdamGate2Ideal.nD Cert.AdamGate2Ideal.τ).loc Cert.AdamGate2Ideal.main_arg5)
      ∧ r.2.mem ((c.tc : Thread Cert.AdamGate2Ideal.nD Cert.AdamGate2Ideal.τ).loc Cert.AdamGate2Ideal.main_arg6) = m ((c.tc : Thread Cert.AdamGate2Ideal.nD Cert.AdamGate2Ideal.τ).loc Cert.AdamGate2Ideal.main_arg6))
      ∧ r.2.sem = fun _ => 0)

def quiescent_AdamGate2RefIdeal [hAdamGate2RefIdeal : Cert.AdamGate2RefIdeal.Facts] : Prop :=
  ∀ (m : (ℓ : Loc Cert.AdamGate2RefIdeal.nD Cert.AdamGate2RefIdeal.τ Cert.AdamGate2RefIdeal.sig) → Buf (Elt Ideal) ℓ) (g : Dev Cert.AdamGate2RefIdeal.nD → PrngReg), Pre_AdamGate2RefIdeal m →
    θ_run (Cert.AdamGate2RefIdeal.defs (F := Ideal)) (onTc (τ := Cert.AdamGate2RefIdeal.τ) (Cert.AdamGate2RefIdeal.main (F := Ideal))) ⟨m, fun _ => 0, g⟩ (fun r => (∀ c : Dev Cert.AdamGate2RefIdeal.nD,
      r.2.mem ((c.tc : Thread Cert.AdamGate2RefIdeal.nD Cert.AdamGate2RefIdeal.τ).loc Cert.AdamGate2RefIdeal.main_arg0) = m ((c.tc : Thread Cert.AdamGate2RefIdeal.nD Cert.AdamGate2RefIdeal.τ).loc Cert.AdamGate2RefIdeal.main_arg0)
      ∧ r.2.mem ((c.tc : Thread Cert.AdamGate2RefIdeal.nD Cert.AdamGate2RefIdeal.τ).loc Cert.AdamGate2RefIdeal.main_arg1) = m ((c.tc : Thread Cert.AdamGate2RefIdeal.nD Cert.AdamGate2RefIdeal.τ).loc Cert.AdamGate2RefIdeal.main_arg1)
      ∧ r.2.mem ((c.tc : Thread Cert.AdamGate2RefIdeal.nD Cert.AdamGate2RefIdeal.τ).loc Cert.AdamGate2RefIdeal.main_arg2) = m ((c.tc : Thread Cert.AdamGate2RefIdeal.nD Cert.AdamGate2RefIdeal.τ).loc Cert.AdamGate2RefIdeal.main_arg2)
      ∧ r.2.mem ((c.tc : Thread Cert.AdamGate2RefIdeal.nD Cert.AdamGate2RefIdeal.τ).loc Cert.AdamGate2RefIdeal.main_arg3) = m ((c.tc : Thread Cert.AdamGate2RefIdeal.nD Cert.AdamGate2RefIdeal.τ).loc Cert.AdamGate2RefIdeal.main_arg3)
      ∧ r.2.mem ((c.tc : Thread Cert.AdamGate2RefIdeal.nD Cert.AdamGate2RefIdeal.τ).loc Cert.AdamGate2RefIdeal.main_arg4) = m ((c.tc : Thread Cert.AdamGate2RefIdeal.nD Cert.AdamGate2RefIdeal.τ).loc Cert.AdamGate2RefIdeal.main_arg4)
      ∧ r.2.mem ((c.tc : Thread Cert.AdamGate2RefIdeal.nD Cert.AdamGate2RefIdeal.τ).loc Cert.AdamGate2RefIdeal.main_arg5) = m ((c.tc : Thread Cert.AdamGate2RefIdeal.nD Cert.AdamGate2RefIdeal.τ).loc Cert.AdamGate2RefIdeal.main_arg5)
      ∧ r.2.mem ((c.tc : Thread Cert.AdamGate2RefIdeal.nD Cert.AdamGate2RefIdeal.τ).loc Cert.AdamGate2RefIdeal.main_arg6) = m ((c.tc : Thread Cert.AdamGate2RefIdeal.nD Cert.AdamGate2RefIdeal.τ).loc Cert.AdamGate2RefIdeal.main_arg6))
      ∧ r.2.sem = fun _ => 0)

def quiescent_AdamProj2 [hAdamProj2 : Cert.AdamProj2.Facts] : Prop :=
  ∀ (m : (ℓ : Loc Cert.AdamProj2.nD Cert.AdamProj2.τ Cert.AdamProj2.sig) → Buf (Elt Bits) ℓ) (g : Dev Cert.AdamProj2.nD → PrngReg), Pre_AdamProj2 m →
    θ_run (Cert.AdamProj2.defs (F := Bits)) (onTc (τ := Cert.AdamProj2.τ) (Cert.AdamProj2.main (F := Bits))) ⟨m, fun _ => 0, g⟩ (fun r => (∀ c : Dev Cert.AdamProj2.nD,
      r.2.mem ((c.tc : Thread Cert.AdamProj2.nD Cert.AdamProj2.τ).loc Cert.AdamProj2.main_arg0) = m ((c.tc : Thread Cert.AdamProj2.nD Cert.AdamProj2.τ).loc Cert.AdamProj2.main_arg0)
      ∧ r.2.mem ((c.tc : Thread Cert.AdamProj2.nD Cert.AdamProj2.τ).loc Cert.AdamProj2.main_arg1) = m ((c.tc : Thread Cert.AdamProj2.nD Cert.AdamProj2.τ).loc Cert.AdamProj2.main_arg1)
      ∧ r.2.mem ((c.tc : Thread Cert.AdamProj2.nD Cert.AdamProj2.τ).loc Cert.AdamProj2.main_arg2) = m ((c.tc : Thread Cert.AdamProj2.nD Cert.AdamProj2.τ).loc Cert.AdamProj2.main_arg2)
      ∧ r.2.mem ((c.tc : Thread Cert.AdamProj2.nD Cert.AdamProj2.τ).loc Cert.AdamProj2.main_arg3) = m ((c.tc : Thread Cert.AdamProj2.nD Cert.AdamProj2.τ).loc Cert.AdamProj2.main_arg3)
      ∧ r.2.mem ((c.tc : Thread Cert.AdamProj2.nD Cert.AdamProj2.τ).loc Cert.AdamProj2.main_arg4) = m ((c.tc : Thread Cert.AdamProj2.nD Cert.AdamProj2.τ).loc Cert.AdamProj2.main_arg4)
      ∧ r.2.mem ((c.tc : Thread Cert.AdamProj2.nD Cert.AdamProj2.τ).loc Cert.AdamProj2.main_arg5) = m ((c.tc : Thread Cert.AdamProj2.nD Cert.AdamProj2.τ).loc Cert.AdamProj2.main_arg5)
      ∧ r.2.mem ((c.tc : Thread Cert.AdamProj2.nD Cert.AdamProj2.τ).loc Cert.AdamProj2.main_arg6) = m ((c.tc : Thread Cert.AdamProj2.nD Cert.AdamProj2.τ).loc Cert.AdamProj2.main_arg6))
      ∧ r.2.sem = fun _ => 0)

def quiescent_AdamProj2Ideal [hAdamProj2Ideal : Cert.AdamProj2Ideal.Facts] : Prop :=
  ∀ (m : (ℓ : Loc Cert.AdamProj2Ideal.nD Cert.AdamProj2Ideal.τ Cert.AdamProj2Ideal.sig) → Buf (Elt Ideal) ℓ) (g : Dev Cert.AdamProj2Ideal.nD → PrngReg), Pre_AdamProj2Ideal m →
    θ_run (Cert.AdamProj2Ideal.defs (F := Ideal)) (onTc (τ := Cert.AdamProj2Ideal.τ) (Cert.AdamProj2Ideal.main (F := Ideal))) ⟨m, fun _ => 0, g⟩ (fun r => (∀ c : Dev Cert.AdamProj2Ideal.nD,
      r.2.mem ((c.tc : Thread Cert.AdamProj2Ideal.nD Cert.AdamProj2Ideal.τ).loc Cert.AdamProj2Ideal.main_arg0) = m ((c.tc : Thread Cert.AdamProj2Ideal.nD Cert.AdamProj2Ideal.τ).loc Cert.AdamProj2Ideal.main_arg0)
      ∧ r.2.mem ((c.tc : Thread Cert.AdamProj2Ideal.nD Cert.AdamProj2Ideal.τ).loc Cert.AdamProj2Ideal.main_arg1) = m ((c.tc : Thread Cert.AdamProj2Ideal.nD Cert.AdamProj2Ideal.τ).loc Cert.AdamProj2Ideal.main_arg1)
      ∧ r.2.mem ((c.tc : Thread Cert.AdamProj2Ideal.nD Cert.AdamProj2Ideal.τ).loc Cert.AdamProj2Ideal.main_arg2) = m ((c.tc : Thread Cert.AdamProj2Ideal.nD Cert.AdamProj2Ideal.τ).loc Cert.AdamProj2Ideal.main_arg2)
      ∧ r.2.mem ((c.tc : Thread Cert.AdamProj2Ideal.nD Cert.AdamProj2Ideal.τ).loc Cert.AdamProj2Ideal.main_arg3) = m ((c.tc : Thread Cert.AdamProj2Ideal.nD Cert.AdamProj2Ideal.τ).loc Cert.AdamProj2Ideal.main_arg3)
      ∧ r.2.mem ((c.tc : Thread Cert.AdamProj2Ideal.nD Cert.AdamProj2Ideal.τ).loc Cert.AdamProj2Ideal.main_arg4) = m ((c.tc : Thread Cert.AdamProj2Ideal.nD Cert.AdamProj2Ideal.τ).loc Cert.AdamProj2Ideal.main_arg4)
      ∧ r.2.mem ((c.tc : Thread Cert.AdamProj2Ideal.nD Cert.AdamProj2Ideal.τ).loc Cert.AdamProj2Ideal.main_arg5) = m ((c.tc : Thread Cert.AdamProj2Ideal.nD Cert.AdamProj2Ideal.τ).loc Cert.AdamProj2Ideal.main_arg5)
      ∧ r.2.mem ((c.tc : Thread Cert.AdamProj2Ideal.nD Cert.AdamProj2Ideal.τ).loc Cert.AdamProj2Ideal.main_arg6) = m ((c.tc : Thread Cert.AdamProj2Ideal.nD Cert.AdamProj2Ideal.τ).loc Cert.AdamProj2Ideal.main_arg6))
      ∧ r.2.sem = fun _ => 0)

def quiescent_AdamProj2RefIdeal [hAdamProj2RefIdeal : Cert.AdamProj2RefIdeal.Facts] : Prop :=
  ∀ (m : (ℓ : Loc Cert.AdamProj2RefIdeal.nD Cert.AdamProj2RefIdeal.τ Cert.AdamProj2RefIdeal.sig) → Buf (Elt Ideal) ℓ) (g : Dev Cert.AdamProj2RefIdeal.nD → PrngReg), Pre_AdamProj2RefIdeal m →
    θ_run (Cert.AdamProj2RefIdeal.defs (F := Ideal)) (onTc (τ := Cert.AdamProj2RefIdeal.τ) (Cert.AdamProj2RefIdeal.main (F := Ideal))) ⟨m, fun _ => 0, g⟩ (fun r => (∀ c : Dev Cert.AdamProj2RefIdeal.nD,
      r.2.mem ((c.tc : Thread Cert.AdamProj2RefIdeal.nD Cert.AdamProj2RefIdeal.τ).loc Cert.AdamProj2RefIdeal.main_arg0) = m ((c.tc : Thread Cert.AdamProj2RefIdeal.nD Cert.AdamProj2RefIdeal.τ).loc Cert.AdamProj2RefIdeal.main_arg0)
      ∧ r.2.mem ((c.tc : Thread Cert.AdamProj2RefIdeal.nD Cert.AdamProj2RefIdeal.τ).loc Cert.AdamProj2RefIdeal.main_arg1) = m ((c.tc : Thread Cert.AdamProj2RefIdeal.nD Cert.AdamProj2RefIdeal.τ).loc Cert.AdamProj2RefIdeal.main_arg1)
      ∧ r.2.mem ((c.tc : Thread Cert.AdamProj2RefIdeal.nD Cert.AdamProj2RefIdeal.τ).loc Cert.AdamProj2RefIdeal.main_arg2) = m ((c.tc : Thread Cert.AdamProj2RefIdeal.nD Cert.AdamProj2RefIdeal.τ).loc Cert.AdamProj2RefIdeal.main_arg2)
      ∧ r.2.mem ((c.tc : Thread Cert.AdamProj2RefIdeal.nD Cert.AdamProj2RefIdeal.τ).loc Cert.AdamProj2RefIdeal.main_arg3) = m ((c.tc : Thread Cert.AdamProj2RefIdeal.nD Cert.AdamProj2RefIdeal.τ).loc Cert.AdamProj2RefIdeal.main_arg3)
      ∧ r.2.mem ((c.tc : Thread Cert.AdamProj2RefIdeal.nD Cert.AdamProj2RefIdeal.τ).loc Cert.AdamProj2RefIdeal.main_arg4) = m ((c.tc : Thread Cert.AdamProj2RefIdeal.nD Cert.AdamProj2RefIdeal.τ).loc Cert.AdamProj2RefIdeal.main_arg4)
      ∧ r.2.mem ((c.tc : Thread Cert.AdamProj2RefIdeal.nD Cert.AdamProj2RefIdeal.τ).loc Cert.AdamProj2RefIdeal.main_arg5) = m ((c.tc : Thread Cert.AdamProj2RefIdeal.nD Cert.AdamProj2RefIdeal.τ).loc Cert.AdamProj2RefIdeal.main_arg5)
      ∧ r.2.mem ((c.tc : Thread Cert.AdamProj2RefIdeal.nD Cert.AdamProj2RefIdeal.τ).loc Cert.AdamProj2RefIdeal.main_arg6) = m ((c.tc : Thread Cert.AdamProj2RefIdeal.nD Cert.AdamProj2RefIdeal.τ).loc Cert.AdamProj2RefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_3c" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v77) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownDx_DownDxIdeal : Prop :=
  True

def algebraic_DownDxIdeal_DownDxRefIdeal_pre_finite_down [hDownDxIdeal : Cert.DownDxIdeal.Facts] [hDownDxRefIdeal : Cert.DownDxRefIdeal.Facts] [hPre_finite_down : Cert.Pre_finite_down.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_finite_down m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)
      ∧ m' ((c.tc : Thread Cert.DownDxRefIdeal.nD Cert.DownDxRefIdeal.τ).loc Cert.DownDxRefIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v3_0)) (v1 : (c : Dev Cert.DownDxIdeal.nD) → Buf (Elt Ideal) ((c.tc : Thread Cert.DownDxIdeal.nD Cert.DownDxIdeal.τ).loc Cert.DownDxIdeal.main_v3_1)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3_0) = v0 c
          ∧ r.2.mem ((c.tc : Thread Cert.DownDxIdeal.nD Cert.DownDxIdeal.τ).loc Cert.DownDxIdeal.main_v3_1) = v1 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v10) = v0 c
          ∧ r.2.mem ((c.tc : Thread Cert.DownDxRefIdeal.nD Cert.DownDxRefIdeal.τ).loc Cert.DownDxRefIdeal.main_v11) = v1 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2)
          ∧ r.2.mem ((c.tc : Thread Cert.DownDxRefIdeal.nD Cert.DownDxRefIdeal.τ).loc Cert.DownDxRefIdeal.main_arg3) = m' ((c.tc : Thread Cert.DownDxRefIdeal.nD Cert.DownDxRefIdeal.τ).loc Cert.DownDxRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)) →
    ∃ (v0 : (c : Dev Cert.UpDxIdeal.nD) → Buf (Elt Ideal) ((c.tc : Thread Cert.UpDxIdeal.nD Cert.UpDxIdeal.τ).loc Cert.UpDxIdeal.main_v6)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v6) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0_0)) (v1 : (c : Dev Cert.UpDwIdeal.nD) → Buf (Elt Ideal) ((c.tc : Thread Cert.UpDwIdeal.nD Cert.UpDwIdeal.τ).loc Cert.UpDwIdeal.main_v0_1)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0_0) = v0 c
          ∧ r.2.mem ((c.tc : Thread Cert.UpDwIdeal.nD Cert.UpDwIdeal.τ).loc Cert.UpDwIdeal.main_v0_1) = v1 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v13) = v0 c
          ∧ r.2.mem ((c.tc : Thread Cert.UpDwRefIdeal.nD Cert.UpDwRefIdeal.τ).loc Cert.UpDwRefIdeal.main_v16) = v1 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_SqDw_SqDwIdeal : Prop :=
  True

def algebraic_SqDwIdeal_SqDwRefIdeal [hSqDwIdeal : Cert.SqDwIdeal.Facts] [hSqDwRefIdeal : Cert.SqDwRefIdeal.Facts] : Prop :=
  ∀ (m : (ℓ : Loc Cert.SqDwIdeal.nD Cert.SqDwIdeal.τ Cert.SqDwIdeal.sig) → Buf (Elt Ideal) ℓ) (g : Dev Cert.SqDwIdeal.nD → PrngReg)
    (m' : (ℓ : Loc Cert.SqDwRefIdeal.nD Cert.SqDwRefIdeal.τ Cert.SqDwRefIdeal.sig) → Buf (Elt Ideal) ℓ) (g' : Dev Cert.SqDwRefIdeal.nD → PrngReg), Pre_SqDwIdeal m →
    (∀ c : Dev Cert.SqDwIdeal.nD,
      m' ((c.tc : Thread Cert.SqDwRefIdeal.nD Cert.SqDwRefIdeal.τ).loc Cert.SqDwRefIdeal.main_arg0) = m ((c.tc : Thread Cert.SqDwIdeal.nD Cert.SqDwIdeal.τ).loc Cert.SqDwIdeal.main_arg0)
      ∧ m' ((c.tc : Thread Cert.SqDwRefIdeal.nD Cert.SqDwRefIdeal.τ).loc Cert.SqDwRefIdeal.main_arg1) = m ((c.tc : Thread Cert.SqDwIdeal.nD Cert.SqDwIdeal.τ).loc Cert.SqDwIdeal.main_arg1)) →
    ∃ (v0 : (c : Dev Cert.SqDwIdeal.nD) → Buf (Elt Ideal) ((c.tc : Thread Cert.SqDwIdeal.nD Cert.SqDwIdeal.τ).loc Cert.SqDwIdeal.main_v0)),
      θ_run (Cert.SqDwIdeal.defs (F := Ideal)) (onTc (τ := Cert.SqDwIdeal.τ) (Cert.SqDwIdeal.main (F := Ideal))) ⟨m, fun _ => 0, g⟩ (fun r => ∀ c : Dev Cert.SqDwIdeal.nD,
          r.2.mem ((c.tc : Thread Cert.SqDwIdeal.nD Cert.SqDwIdeal.τ).loc Cert.SqDwIdeal.main_v0) = v0 c
          ∧ r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
          ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ θ_run (Cert.SqDwRefIdeal.defs (F := Ideal)) (onTc (τ := Cert.SqDwRefIdeal.τ) (Cert.SqDwRefIdeal.main (F := Ideal))) ⟨m', fun _ => 0, g'⟩ (fun r => ∀ c : Dev Cert.SqDwRefIdeal.nD,
          r.2.mem ((c.tc : Thread Cert.SqDwRefIdeal.nD Cert.SqDwRefIdeal.τ).loc Cert.SqDwRefIdeal.main_v8) = v0 c
          ∧ r.2.mem ((c.tc : Thread Cert.SqDwRefIdeal.nD Cert.SqDwRefIdeal.τ).loc Cert.SqDwRefIdeal.main_arg0) = m' ((c.tc : Thread Cert.SqDwRefIdeal.nD Cert.SqDwRefIdeal.τ).loc Cert.SqDwRefIdeal.main_arg0)
          ∧ r.2.mem ((c.tc : Thread Cert.SqDwRefIdeal.nD Cert.SqDwRefIdeal.τ).loc Cert.SqDwRefIdeal.main_arg1) = m' ((c.tc : Thread Cert.SqDwRefIdeal.nD Cert.SqDwRefIdeal.τ).loc Cert.SqDwRefIdeal.main_arg1))

def preserves_ColDw_ColDwIdeal : Prop :=
  True

def algebraic_ColDwIdeal_ColDwRefIdeal [hColDwIdeal : Cert.ColDwIdeal.Facts] [hColDwRefIdeal : Cert.ColDwRefIdeal.Facts] : Prop :=
  ∀ (m : (ℓ : Loc Cert.ColDwIdeal.nD Cert.ColDwIdeal.τ Cert.ColDwIdeal.sig) → Buf (Elt Ideal) ℓ) (g : Dev Cert.ColDwIdeal.nD → PrngReg)
    (m' : (ℓ : Loc Cert.ColDwRefIdeal.nD Cert.ColDwRefIdeal.τ Cert.ColDwRefIdeal.sig) → Buf (Elt Ideal) ℓ) (g' : Dev Cert.ColDwRefIdeal.nD → PrngReg), Pre_ColDwIdeal m →
    (∀ c : Dev Cert.ColDwIdeal.nD,
      m' ((c.tc : Thread Cert.ColDwRefIdeal.nD Cert.ColDwRefIdeal.τ).loc Cert.ColDwRefIdeal.main_arg0) = m ((c.tc : Thread Cert.ColDwIdeal.nD Cert.ColDwIdeal.τ).loc Cert.ColDwIdeal.main_arg0)
      ∧ m' ((c.tc : Thread Cert.ColDwRefIdeal.nD Cert.ColDwRefIdeal.τ).loc Cert.ColDwRefIdeal.main_arg1) = m ((c.tc : Thread Cert.ColDwIdeal.nD Cert.ColDwIdeal.τ).loc Cert.ColDwIdeal.main_arg1)) →
    ∃ (v0 : (c : Dev Cert.ColDwIdeal.nD) → Buf (Elt Ideal) ((c.tc : Thread Cert.ColDwIdeal.nD Cert.ColDwIdeal.τ).loc Cert.ColDwIdeal.main_v0)),
      θ_run (Cert.ColDwIdeal.defs (F := Ideal)) (onTc (τ := Cert.ColDwIdeal.τ) (Cert.ColDwIdeal.main (F := Ideal))) ⟨m, fun _ => 0, g⟩ (fun r => ∀ c : Dev Cert.ColDwIdeal.nD,
          r.2.mem ((c.tc : Thread Cert.ColDwIdeal.nD Cert.ColDwIdeal.τ).loc Cert.ColDwIdeal.main_v0) = v0 c
          ∧ r.2.mem ((c.tc : Thread Cert.ColDwIdeal.nD Cert.ColDwIdeal.τ).loc Cert.ColDwIdeal.main_arg0) = m ((c.tc : Thread Cert.ColDwIdeal.nD Cert.ColDwIdeal.τ).loc Cert.ColDwIdeal.main_arg0)
          ∧ r.2.mem ((c.tc : Thread Cert.ColDwIdeal.nD Cert.ColDwIdeal.τ).loc Cert.ColDwIdeal.main_arg1) = m ((c.tc : Thread Cert.ColDwIdeal.nD Cert.ColDwIdeal.τ).loc Cert.ColDwIdeal.main_arg1))
      ∧ θ_run (Cert.ColDwRefIdeal.defs (F := Ideal)) (onTc (τ := Cert.ColDwRefIdeal.τ) (Cert.ColDwRefIdeal.main (F := Ideal))) ⟨m', fun _ => 0, g'⟩ (fun r => ∀ c : Dev Cert.ColDwRefIdeal.nD,
          r.2.mem ((c.tc : Thread Cert.ColDwRefIdeal.nD Cert.ColDwRefIdeal.τ).loc Cert.ColDwRefIdeal.main_v8) = v0 c
          ∧ r.2.mem ((c.tc : Thread Cert.ColDwRefIdeal.nD Cert.ColDwRefIdeal.τ).loc Cert.ColDwRefIdeal.main_arg0) = m' ((c.tc : Thread Cert.ColDwRefIdeal.nD Cert.ColDwRefIdeal.τ).loc Cert.ColDwRefIdeal.main_arg0)
          ∧ r.2.mem ((c.tc : Thread Cert.ColDwRefIdeal.nD Cert.ColDwRefIdeal.τ).loc Cert.ColDwRefIdeal.main_arg1) = m' ((c.tc : Thread Cert.ColDwRefIdeal.nD Cert.ColDwRefIdeal.τ).loc Cert.ColDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v7) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_SqDx_SqDxIdeal : Prop :=
  True

def algebraic_SqDxIdeal_SqDxRefIdeal [hSqDxIdeal : Cert.SqDxIdeal.Facts] [hSqDxRefIdeal : Cert.SqDxRefIdeal.Facts] : Prop :=
  ∀ (m : (ℓ : Loc Cert.SqDxIdeal.nD Cert.SqDxIdeal.τ Cert.SqDxIdeal.sig) → Buf (Elt Ideal) ℓ) (g : Dev Cert.SqDxIdeal.nD → PrngReg)
    (m' : (ℓ : Loc Cert.SqDxRefIdeal.nD Cert.SqDxRefIdeal.τ Cert.SqDxRefIdeal.sig) → Buf (Elt Ideal) ℓ) (g' : Dev Cert.SqDxRefIdeal.nD → PrngReg), Pre_SqDxIdeal m →
    (∀ c : Dev Cert.SqDxIdeal.nD,
      m' ((c.tc : Thread Cert.SqDxRefIdeal.nD Cert.SqDxRefIdeal.τ).loc Cert.SqDxRefIdeal.main_arg0) = m ((c.tc : Thread Cert.SqDxIdeal.nD Cert.SqDxIdeal.τ).loc Cert.SqDxIdeal.main_arg0)
      ∧ m' ((c.tc : Thread Cert.SqDxRefIdeal.nD Cert.SqDxRefIdeal.τ).loc Cert.SqDxRefIdeal.main_arg1) = m ((c.tc : Thread Cert.SqDxIdeal.nD Cert.SqDxIdeal.τ).loc Cert.SqDxIdeal.main_arg1)) →
    ∃ (v0 : (c : Dev Cert.SqDxIdeal.nD) → Buf (Elt Ideal) ((c.tc : Thread Cert.SqDxIdeal.nD Cert.SqDxIdeal.τ).loc Cert.SqDxIdeal.main_v3)),
      θ_run (Cert.SqDxIdeal.defs (F := Ideal)) (onTc (τ := Cert.SqDxIdeal.τ) (Cert.SqDxIdeal.main (F := Ideal))) ⟨m, fun _ => 0, g⟩ (fun r => ∀ c : Dev Cert.SqDxIdeal.nD,
          r.2.mem ((c.tc : Thread Cert.SqDxIdeal.nD Cert.SqDxIdeal.τ).loc Cert.SqDxIdeal.main_v3) = v0 c
          ∧ r.2.mem ((c.tc : Thread Cert.SqDxIdeal.nD Cert.SqDxIdeal.τ).loc Cert.SqDxIdeal.main_arg0) = m ((c.tc : Thread Cert.SqDxIdeal.nD Cert.SqDxIdeal.τ).loc Cert.SqDxIdeal.main_arg0)
          ∧ r.2.mem ((c.tc : Thread Cert.SqDxIdeal.nD Cert.SqDxIdeal.τ).loc Cert.SqDxIdeal.main_arg1) = m ((c.tc : Thread Cert.SqDxIdeal.nD Cert.SqDxIdeal.τ).loc Cert.SqDxIdeal.main_arg1))
      ∧ θ_run (Cert.SqDxRefIdeal.defs (F := Ideal)) (onTc (τ := Cert.SqDxRefIdeal.τ) (Cert.SqDxRefIdeal.main (F := Ideal))) ⟨m', fun _ => 0, g'⟩ (fun r => ∀ c : Dev Cert.SqDxRefIdeal.nD,
          r.2.mem ((c.tc : Thread Cert.SqDxRefIdeal.nD Cert.SqDxRefIdeal.τ).loc Cert.SqDxRefIdeal.main_v3) = v0 c
          ∧ r.2.mem ((c.tc : Thread Cert.SqDxRefIdeal.nD Cert.SqDxRefIdeal.τ).loc Cert.SqDxRefIdeal.main_arg0) = m' ((c.tc : Thread Cert.SqDxRefIdeal.nD Cert.SqDxRefIdeal.τ).loc Cert.SqDxRefIdeal.main_arg0)
          ∧ r.2.mem ((c.tc : Thread Cert.SqDxRefIdeal.nD Cert.SqDxRefIdeal.τ).loc Cert.SqDxRefIdeal.main_arg1) = m' ((c.tc : Thread Cert.SqDxRefIdeal.nD Cert.SqDxRefIdeal.τ).loc Cert.SqDxRefIdeal.main_arg1))

def preserves_ColDx_ColDxIdeal : Prop :=
  True

def algebraic_ColDxIdeal_ColDxRefIdeal [hColDxIdeal : Cert.ColDxIdeal.Facts] [hColDxRefIdeal : Cert.ColDxRefIdeal.Facts] : Prop :=
  ∀ (m : (ℓ : Loc Cert.ColDxIdeal.nD Cert.ColDxIdeal.τ Cert.ColDxIdeal.sig) → Buf (Elt Ideal) ℓ) (g : Dev Cert.ColDxIdeal.nD → PrngReg)
    (m' : (ℓ : Loc Cert.ColDxRefIdeal.nD Cert.ColDxRefIdeal.τ Cert.ColDxRefIdeal.sig) → Buf (Elt Ideal) ℓ) (g' : Dev Cert.ColDxRefIdeal.nD → PrngReg), Pre_ColDxIdeal m →
    (∀ c : Dev Cert.ColDxIdeal.nD,
      m' ((c.tc : Thread Cert.ColDxRefIdeal.nD Cert.ColDxRefIdeal.τ).loc Cert.ColDxRefIdeal.main_arg0) = m ((c.tc : Thread Cert.ColDxIdeal.nD Cert.ColDxIdeal.τ).loc Cert.ColDxIdeal.main_arg0)
      ∧ m' ((c.tc : Thread Cert.ColDxRefIdeal.nD Cert.ColDxRefIdeal.τ).loc Cert.ColDxRefIdeal.main_arg1) = m ((c.tc : Thread Cert.ColDxIdeal.nD Cert.ColDxIdeal.τ).loc Cert.ColDxIdeal.main_arg1)) →
    ∃ (v0 : (c : Dev Cert.ColDxIdeal.nD) → Buf (Elt Ideal) ((c.tc : Thread Cert.ColDxIdeal.nD Cert.ColDxIdeal.τ).loc Cert.ColDxIdeal.main_v3)),
      θ_run (Cert.ColDxIdeal.defs (F := Ideal)) (onTc (τ := Cert.ColDxIdeal.τ) (Cert.ColDxIdeal.main (F := Ideal))) ⟨m, fun _ => 0, g⟩ (fun r => ∀ c : Dev Cert.ColDxIdeal.nD,
          r.2.mem ((c.tc : Thread Cert.ColDxIdeal.nD Cert.ColDxIdeal.τ).loc Cert.ColDxIdeal.main_v3) = v0 c
          ∧ r.2.mem ((c.tc : Thread Cert.ColDxIdeal.nD Cert.ColDxIdeal.τ).loc Cert.ColDxIdeal.main_arg0) = m ((c.tc : Thread Cert.ColDxIdeal.nD Cert.ColDxIdeal.τ).loc Cert.ColDxIdeal.main_arg0)
          ∧ r.2.mem ((c.tc : Thread Cert.ColDxIdeal.nD Cert.ColDxIdeal.τ).loc Cert.ColDxIdeal.main_arg1) = m ((c.tc : Thread Cert.ColDxIdeal.nD Cert.ColDxIdeal.τ).loc Cert.ColDxIdeal.main_arg1))
      ∧ θ_run (Cert.ColDxRefIdeal.defs (F := Ideal)) (onTc (τ := Cert.ColDxRefIdeal.τ) (Cert.ColDxRefIdeal.main (F := Ideal))) ⟨m', fun _ => 0, g'⟩ (fun r => ∀ c : Dev Cert.ColDxRefIdeal.nD,
          r.2.mem ((c.tc : Thread Cert.ColDxRefIdeal.nD Cert.ColDxRefIdeal.τ).loc Cert.ColDxRefIdeal.main_v3) = v0 c
          ∧ r.2.mem ((c.tc : Thread Cert.ColDxRefIdeal.nD Cert.ColDxRefIdeal.τ).loc Cert.ColDxRefIdeal.main_arg0) = m' ((c.tc : Thread Cert.ColDxRefIdeal.nD Cert.ColDxRefIdeal.τ).loc Cert.ColDxRefIdeal.main_arg0)
          ∧ r.2.mem ((c.tc : Thread Cert.ColDxRefIdeal.nD Cert.ColDxRefIdeal.τ).loc Cert.ColDxRefIdeal.main_arg1) = m' ((c.tc : Thread Cert.ColDxRefIdeal.nD Cert.ColDxRefIdeal.τ).loc Cert.ColDxRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v6_0)) (v1 : (c : Dev Cert.FfnUpIdeal.nD) → Buf (Elt Ideal) ((c.tc : Thread Cert.FfnUpIdeal.nD Cert.FfnUpIdeal.τ).loc Cert.FfnUpIdeal.main_v6_1)) (v2 : (c : Dev Cert.FfnUpIdeal.nD) → Buf (Elt Ideal) ((c.tc : Thread Cert.FfnUpIdeal.nD Cert.FfnUpIdeal.τ).loc Cert.FfnUpIdeal.main_v6_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v6_0) = v0 c
          ∧ r.2.mem ((c.tc : Thread Cert.FfnUpIdeal.nD Cert.FfnUpIdeal.τ).loc Cert.FfnUpIdeal.main_v6_1) = v1 c
          ∧ r.2.mem ((c.tc : Thread Cert.FfnUpIdeal.nD Cert.FfnUpIdeal.τ).loc Cert.FfnUpIdeal.main_v6_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_v4) = v1 c
          ∧ r.2.mem ((c.tc : Thread Cert.FfnUpRefIdeal.nD Cert.FfnUpRefIdeal.τ).loc Cert.FfnUpRefIdeal.main_v7) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_GmIn_GmInIdeal : Prop :=
  True

def algebraic_GmInIdeal_GmInRefIdeal [hGmInIdeal : Cert.GmInIdeal.Facts] [hGmInRefIdeal : Cert.GmInRefIdeal.Facts] : Prop :=
  ∀ (m : (ℓ : Loc Cert.GmInIdeal.nD Cert.GmInIdeal.τ Cert.GmInIdeal.sig) → Buf (Elt Ideal) ℓ) (g : Dev Cert.GmInIdeal.nD → PrngReg)
    (m' : (ℓ : Loc Cert.GmInRefIdeal.nD Cert.GmInRefIdeal.τ Cert.GmInRefIdeal.sig) → Buf (Elt Ideal) ℓ) (g' : Dev Cert.GmInRefIdeal.nD → PrngReg), Pre_GmInIdeal m →
    (∀ c : Dev Cert.GmInIdeal.nD,
      m' ((c.tc : Thread Cert.GmInRefIdeal.nD Cert.GmInRefIdeal.τ).loc Cert.GmInRefIdeal.main_arg0) = m ((c.tc : Thread Cert.GmInIdeal.nD Cert.GmInIdeal.τ).loc Cert.GmInIdeal.main_arg0)
      ∧ m' ((c.tc : Thread Cert.GmInRefIdeal.nD Cert.GmInRefIdeal.τ).loc Cert.GmInRefIdeal.main_arg1) = m ((c.tc : Thread Cert.GmInIdeal.nD Cert.GmInIdeal.τ).loc Cert.GmInIdeal.main_arg1)) →
    ∃ (v0 : (c : Dev Cert.GmInIdeal.nD) → Buf (Elt Ideal) ((c.tc : Thread Cert.GmInIdeal.nD Cert.GmInIdeal.τ).loc Cert.GmInIdeal.main_v3)),
      θ_run (Cert.GmInIdeal.defs (F := Ideal)) (onTc (τ := Cert.GmInIdeal.τ) (Cert.GmInIdeal.main (F := Ideal))) ⟨m, fun _ => 0, g⟩ (fun r => ∀ c : Dev Cert.GmInIdeal.nD,
          r.2.mem ((c.tc : Thread Cert.GmInIdeal.nD Cert.GmInIdeal.τ).loc Cert.GmInIdeal.main_v3) = v0 c
          ∧ r.2.mem ((c.tc : Thread Cert.GmInIdeal.nD Cert.GmInIdeal.τ).loc Cert.GmInIdeal.main_arg0) = m ((c.tc : Thread Cert.GmInIdeal.nD Cert.GmInIdeal.τ).loc Cert.GmInIdeal.main_arg0)
          ∧ r.2.mem ((c.tc : Thread Cert.GmInIdeal.nD Cert.GmInIdeal.τ).loc Cert.GmInIdeal.main_arg1) = m ((c.tc : Thread Cert.GmInIdeal.nD Cert.GmInIdeal.τ).loc Cert.GmInIdeal.main_arg1))
      ∧ θ_run (Cert.GmInRefIdeal.defs (F := Ideal)) (onTc (τ := Cert.GmInRefIdeal.τ) (Cert.GmInRefIdeal.main (F := Ideal))) ⟨m', fun _ => 0, g'⟩ (fun r => ∀ c : Dev Cert.GmInRefIdeal.nD,
          r.2.mem ((c.tc : Thread Cert.GmInRefIdeal.nD Cert.GmInRefIdeal.τ).loc Cert.GmInRefIdeal.main_v1) = v0 c
          ∧ r.2.mem ((c.tc : Thread Cert.GmInRefIdeal.nD Cert.GmInRefIdeal.τ).loc Cert.GmInRefIdeal.main_arg0) = m' ((c.tc : Thread Cert.GmInRefIdeal.nD Cert.GmInRefIdeal.τ).loc Cert.GmInRefIdeal.main_arg0)
          ∧ r.2.mem ((c.tc : Thread Cert.GmInRefIdeal.nD Cert.GmInRefIdeal.τ).loc Cert.GmInRefIdeal.main_arg1) = m' ((c.tc : Thread Cert.GmInRefIdeal.nD Cert.GmInRefIdeal.τ).loc Cert.GmInRefIdeal.main_arg1))

def preserves_GmOut_GmOutIdeal : Prop :=
  True

def algebraic_GmOutIdeal_GmOutRefIdeal [hGmOutIdeal : Cert.GmOutIdeal.Facts] [hGmOutRefIdeal : Cert.GmOutRefIdeal.Facts] : Prop :=
  ∀ (m : (ℓ : Loc Cert.GmOutIdeal.nD Cert.GmOutIdeal.τ Cert.GmOutIdeal.sig) → Buf (Elt Ideal) ℓ) (g : Dev Cert.GmOutIdeal.nD → PrngReg)
    (m' : (ℓ : Loc Cert.GmOutRefIdeal.nD Cert.GmOutRefIdeal.τ Cert.GmOutRefIdeal.sig) → Buf (Elt Ideal) ℓ) (g' : Dev Cert.GmOutRefIdeal.nD → PrngReg), Pre_GmOutIdeal m →
    (∀ c : Dev Cert.GmOutIdeal.nD,
      m' ((c.tc : Thread Cert.GmOutRefIdeal.nD Cert.GmOutRefIdeal.τ).loc Cert.GmOutRefIdeal.main_arg0) = m ((c.tc : Thread Cert.GmOutIdeal.nD Cert.GmOutIdeal.τ).loc Cert.GmOutIdeal.main_arg0)
      ∧ m' ((c.tc : Thread Cert.GmOutRefIdeal.nD Cert.GmOutRefIdeal.τ).loc Cert.GmOutRefIdeal.main_arg1) = m ((c.tc : Thread Cert.GmOutIdeal.nD Cert.GmOutIdeal.τ).loc Cert.GmOutIdeal.main_arg1)
      ∧ m' ((c.tc : Thread Cert.GmOutRefIdeal.nD Cert.GmOutRefIdeal.τ).loc Cert.GmOutRefIdeal.main_arg2) = m ((c.tc : Thread Cert.GmOutIdeal.nD Cert.GmOutIdeal.τ).loc Cert.GmOutIdeal.main_arg2)) →
    ∃ (v0 : (c : Dev Cert.GmOutIdeal.nD) → Buf (Elt Ideal) ((c.tc : Thread Cert.GmOutIdeal.nD Cert.GmOutIdeal.τ).loc Cert.GmOutIdeal.main_v3)),
      θ_run (Cert.GmOutIdeal.defs (F := Ideal)) (onTc (τ := Cert.GmOutIdeal.τ) (Cert.GmOutIdeal.main (F := Ideal))) ⟨m, fun _ => 0, g⟩ (fun r => ∀ c : Dev Cert.GmOutIdeal.nD,
          r.2.mem ((c.tc : Thread Cert.GmOutIdeal.nD Cert.GmOutIdeal.τ).loc Cert.GmOutIdeal.main_v3) = v0 c
          ∧ r.2.mem ((c.tc : Thread Cert.GmOutIdeal.nD Cert.GmOutIdeal.τ).loc Cert.GmOutIdeal.main_arg0) = m ((c.tc : Thread Cert.GmOutIdeal.nD Cert.GmOutIdeal.τ).loc Cert.GmOutIdeal.main_arg0)
          ∧ r.2.mem ((c.tc : Thread Cert.GmOutIdeal.nD Cert.GmOutIdeal.τ).loc Cert.GmOutIdeal.main_arg1) = m ((c.tc : Thread Cert.GmOutIdeal.nD Cert.GmOutIdeal.τ).loc Cert.GmOutIdeal.main_arg1)
          ∧ r.2.mem ((c.tc : Thread Cert.GmOutIdeal.nD Cert.GmOutIdeal.τ).loc Cert.GmOutIdeal.main_arg2) = m ((c.tc : Thread Cert.GmOutIdeal.nD Cert.GmOutIdeal.τ).loc Cert.GmOutIdeal.main_arg2))
      ∧ θ_run (Cert.GmOutRefIdeal.defs (F := Ideal)) (onTc (τ := Cert.GmOutRefIdeal.τ) (Cert.GmOutRefIdeal.main (F := Ideal))) ⟨m', fun _ => 0, g'⟩ (fun r => ∀ c : Dev Cert.GmOutRefIdeal.nD,
          r.2.mem ((c.tc : Thread Cert.GmOutRefIdeal.nD Cert.GmOutRefIdeal.τ).loc Cert.GmOutRefIdeal.main_v2) = v0 c
          ∧ r.2.mem ((c.tc : Thread Cert.GmOutRefIdeal.nD Cert.GmOutRefIdeal.τ).loc Cert.GmOutRefIdeal.main_arg0) = m' ((c.tc : Thread Cert.GmOutRefIdeal.nD Cert.GmOutRefIdeal.τ).loc Cert.GmOutRefIdeal.main_arg0)
          ∧ r.2.mem ((c.tc : Thread Cert.GmOutRefIdeal.nD Cert.GmOutRefIdeal.τ).loc Cert.GmOutRefIdeal.main_arg1) = m' ((c.tc : Thread Cert.GmOutRefIdeal.nD Cert.GmOutRefIdeal.τ).loc Cert.GmOutRefIdeal.main_arg1)
          ∧ r.2.mem ((c.tc : Thread Cert.GmOutRefIdeal.nD Cert.GmOutRefIdeal.τ).loc Cert.GmOutRefIdeal.main_arg2) = m' ((c.tc : Thread Cert.GmOutRefIdeal.nD Cert.GmOutRefIdeal.τ).loc Cert.GmOutRefIdeal.main_arg2))

def preserves_S5In_S5InIdeal : Prop :=
  True

def algebraic_S5InIdeal_S5InRefIdeal [hS5InIdeal : Cert.S5InIdeal.Facts] [hS5InRefIdeal : Cert.S5InRefIdeal.Facts] : Prop :=
  ∀ (m : (ℓ : Loc Cert.S5InIdeal.nD Cert.S5InIdeal.τ Cert.S5InIdeal.sig) → Buf (Elt Ideal) ℓ) (g : Dev Cert.S5InIdeal.nD → PrngReg)
    (m' : (ℓ : Loc Cert.S5InRefIdeal.nD Cert.S5InRefIdeal.τ Cert.S5InRefIdeal.sig) → Buf (Elt Ideal) ℓ) (g' : Dev Cert.S5InRefIdeal.nD → PrngReg), Pre_S5InIdeal m →
    (∀ c : Dev Cert.S5InIdeal.nD,
      m' ((c.tc : Thread Cert.S5InRefIdeal.nD Cert.S5InRefIdeal.τ).loc Cert.S5InRefIdeal.main_arg0) = m ((c.tc : Thread Cert.S5InIdeal.nD Cert.S5InIdeal.τ).loc Cert.S5InIdeal.main_arg0)
      ∧ m' ((c.tc : Thread Cert.S5InRefIdeal.nD Cert.S5InRefIdeal.τ).loc Cert.S5InRefIdeal.main_arg1) = m ((c.tc : Thread Cert.S5InIdeal.nD Cert.S5InIdeal.τ).loc Cert.S5InIdeal.main_arg1)) →
    ∃ (v0 : (c : Dev Cert.S5InIdeal.nD) → Buf (Elt Ideal) ((c.tc : Thread Cert.S5InIdeal.nD Cert.S5InIdeal.τ).loc Cert.S5InIdeal.main_v3)),
      θ_run (Cert.S5InIdeal.defs (F := Ideal)) (onTc (τ := Cert.S5InIdeal.τ) (Cert.S5InIdeal.main (F := Ideal))) ⟨m, fun _ => 0, g⟩ (fun r => ∀ c : Dev Cert.S5InIdeal.nD,
          r.2.mem ((c.tc : Thread Cert.S5InIdeal.nD Cert.S5InIdeal.τ).loc Cert.S5InIdeal.main_v3) = v0 c
          ∧ r.2.mem ((c.tc : Thread Cert.S5InIdeal.nD Cert.S5InIdeal.τ).loc Cert.S5InIdeal.main_arg0) = m ((c.tc : Thread Cert.S5InIdeal.nD Cert.S5InIdeal.τ).loc Cert.S5InIdeal.main_arg0)
          ∧ r.2.mem ((c.tc : Thread Cert.S5InIdeal.nD Cert.S5InIdeal.τ).loc Cert.S5InIdeal.main_arg1) = m ((c.tc : Thread Cert.S5InIdeal.nD Cert.S5InIdeal.τ).loc Cert.S5InIdeal.main_arg1))
      ∧ θ_run (Cert.S5InRefIdeal.defs (F := Ideal)) (onTc (τ := Cert.S5InRefIdeal.τ) (Cert.S5InRefIdeal.main (F := Ideal))) ⟨m', fun _ => 0, g'⟩ (fun r => ∀ c : Dev Cert.S5InRefIdeal.nD,
          r.2.mem ((c.tc : Thread Cert.S5InRefIdeal.nD Cert.S5InRefIdeal.τ).loc Cert.S5InRefIdeal.main_v1) = v0 c
          ∧ r.2.mem ((c.tc : Thread Cert.S5InRefIdeal.nD Cert.S5InRefIdeal.τ).loc Cert.S5InRefIdeal.main_arg0) = m' ((c.tc : Thread Cert.S5InRefIdeal.nD Cert.S5InRefIdeal.τ).loc Cert.S5InRefIdeal.main_arg0)
          ∧ r.2.mem ((c.tc : Thread Cert.S5InRefIdeal.nD Cert.S5InRefIdeal.τ).loc Cert.S5InRefIdeal.main_arg1) = m' ((c.tc : Thread Cert.S5InRefIdeal.nD Cert.S5InRefIdeal.τ).loc Cert.S5InRefIdeal.main_arg1))

def preserves_S5Out_S5OutIdeal : Prop :=
  True

def algebraic_S5OutIdeal_S5OutRefIdeal [hS5OutIdeal : Cert.S5OutIdeal.Facts] [hS5OutRefIdeal : Cert.S5OutRefIdeal.Facts] : Prop :=
  ∀ (m : (ℓ : Loc Cert.S5OutIdeal.nD Cert.S5OutIdeal.τ Cert.S5OutIdeal.sig) → Buf (Elt Ideal) ℓ) (g : Dev Cert.S5OutIdeal.nD → PrngReg)
    (m' : (ℓ : Loc Cert.S5OutRefIdeal.nD Cert.S5OutRefIdeal.τ Cert.S5OutRefIdeal.sig) → Buf (Elt Ideal) ℓ) (g' : Dev Cert.S5OutRefIdeal.nD → PrngReg), Pre_S5OutIdeal m →
    (∀ c : Dev Cert.S5OutIdeal.nD,
      m' ((c.tc : Thread Cert.S5OutRefIdeal.nD Cert.S5OutRefIdeal.τ).loc Cert.S5OutRefIdeal.main_arg0) = m ((c.tc : Thread Cert.S5OutIdeal.nD Cert.S5OutIdeal.τ).loc Cert.S5OutIdeal.main_arg0)
      ∧ m' ((c.tc : Thread Cert.S5OutRefIdeal.nD Cert.S5OutRefIdeal.τ).loc Cert.S5OutRefIdeal.main_arg1) = m ((c.tc : Thread Cert.S5OutIdeal.nD Cert.S5OutIdeal.τ).loc Cert.S5OutIdeal.main_arg1)
      ∧ m' ((c.tc : Thread Cert.S5OutRefIdeal.nD Cert.S5OutRefIdeal.τ).loc Cert.S5OutRefIdeal.main_arg2) = m ((c.tc : Thread Cert.S5OutIdeal.nD Cert.S5OutIdeal.τ).loc Cert.S5OutIdeal.main_arg2)) →
    ∃ (v0 : (c : Dev Cert.S5OutIdeal.nD) → Buf (Elt Ideal) ((c.tc : Thread Cert.S5OutIdeal.nD Cert.S5OutIdeal.τ).loc Cert.S5OutIdeal.main_v3_0)) (v1 : (c : Dev Cert.S5OutIdeal.nD) → Buf (Elt Ideal) ((c.tc : Thread Cert.S5OutIdeal.nD Cert.S5OutIdeal.τ).loc Cert.S5OutIdeal.main_v3_1)) (v2 : (c : Dev Cert.S5OutIdeal.nD) → Buf (Elt Ideal) ((c.tc : Thread Cert.S5OutIdeal.nD Cert.S5OutIdeal.τ).loc Cert.S5OutIdeal.main_v3_2)),
      θ_run (Cert.S5OutIdeal.defs (F := Ideal)) (onTc (τ := Cert.S5OutIdeal.τ) (Cert.S5OutIdeal.main (F := Ideal))) ⟨m, fun _ => 0, g⟩ (fun r => ∀ c : Dev Cert.S5OutIdeal.nD,
          r.2.mem ((c.tc : Thread Cert.S5OutIdeal.nD Cert.S5OutIdeal.τ).loc Cert.S5OutIdeal.main_v3_0) = v0 c
          ∧ r.2.mem ((c.tc : Thread Cert.S5OutIdeal.nD Cert.S5OutIdeal.τ).loc Cert.S5OutIdeal.main_v3_1) = v1 c
          ∧ r.2.mem ((c.tc : Thread Cert.S5OutIdeal.nD Cert.S5OutIdeal.τ).loc Cert.S5OutIdeal.main_v3_2) = v2 c
          ∧ r.2.mem ((c.tc : Thread Cert.S5OutIdeal.nD Cert.S5OutIdeal.τ).loc Cert.S5OutIdeal.main_arg0) = m ((c.tc : Thread Cert.S5OutIdeal.nD Cert.S5OutIdeal.τ).loc Cert.S5OutIdeal.main_arg0)
          ∧ r.2.mem ((c.tc : Thread Cert.S5OutIdeal.nD Cert.S5OutIdeal.τ).loc Cert.S5OutIdeal.main_arg1) = m ((c.tc : Thread Cert.S5OutIdeal.nD Cert.S5OutIdeal.τ).loc Cert.S5OutIdeal.main_arg1)
          ∧ r.2.mem ((c.tc : Thread Cert.S5OutIdeal.nD Cert.S5OutIdeal.τ).loc Cert.S5OutIdeal.main_arg2) = m ((c.tc : Thread Cert.S5OutIdeal.nD Cert.S5OutIdeal.τ).loc Cert.S5OutIdeal.main_arg2))
      ∧ θ_run (Cert.S5OutRefIdeal.defs (F := Ideal)) (onTc (τ := Cert.S5OutRefIdeal.τ) (Cert.S5OutRefIdeal.main (F := Ideal))) ⟨m', fun _ => 0, g'⟩ (fun r => ∀ c : Dev Cert.S5OutRefIdeal.nD,
          r.2.mem ((c.tc : Thread Cert.S5OutRefIdeal.nD Cert.S5OutRefIdeal.τ).loc Cert.S5OutRefIdeal.main_v11) = v0 c
          ∧ r.2.mem ((c.tc : Thread Cert.S5OutRefIdeal.nD Cert.S5OutRefIdeal.τ).loc Cert.S5OutRefIdeal.main_v12) = v1 c
          ∧ r.2.mem ((c.tc : Thread Cert.S5OutRefIdeal.nD Cert.S5OutRefIdeal.τ).loc Cert.S5OutRefIdeal.main_v13) = v2 c
          ∧ r.2.mem ((c.tc : Thread Cert.S5OutRefIdeal.nD Cert.S5OutRefIdeal.τ).loc Cert.S5OutRefIdeal.main_arg0) = m' ((c.tc : Thread Cert.S5OutRefIdeal.nD Cert.S5OutRefIdeal.τ).loc Cert.S5OutRefIdeal.main_arg0)
          ∧ r.2.mem ((c.tc : Thread Cert.S5OutRefIdeal.nD Cert.S5OutRefIdeal.τ).loc Cert.S5OutRefIdeal.main_arg1) = m' ((c.tc : Thread Cert.S5OutRefIdeal.nD Cert.S5OutRefIdeal.τ).loc Cert.S5OutRefIdeal.main_arg1)
          ∧ r.2.mem ((c.tc : Thread Cert.S5OutRefIdeal.nD Cert.S5OutRefIdeal.τ).loc Cert.S5OutRefIdeal.main_arg2) = m' ((c.tc : Thread Cert.S5OutRefIdeal.nD Cert.S5OutRefIdeal.τ).loc Cert.S5OutRefIdeal.main_arg2))

def preserves_PleGate_PleGateIdeal : Prop :=
  True

def algebraic_PleGateIdeal_PleGateRefIdeal [hPleGateIdeal : Cert.PleGateIdeal.Facts] [hPleGateRefIdeal : Cert.PleGateRefIdeal.Facts] : Prop :=
  ∀ (m : (ℓ : Loc Cert.PleGateIdeal.nD Cert.PleGateIdeal.τ Cert.PleGateIdeal.sig) → Buf (Elt Ideal) ℓ) (g : Dev Cert.PleGateIdeal.nD → PrngReg)
    (m' : (ℓ : Loc Cert.PleGateRefIdeal.nD Cert.PleGateRefIdeal.τ Cert.PleGateRefIdeal.sig) → Buf (Elt Ideal) ℓ) (g' : Dev Cert.PleGateRefIdeal.nD → PrngReg), Pre_PleGateIdeal m →
    (∀ c : Dev Cert.PleGateIdeal.nD,
      m' ((c.tc : Thread Cert.PleGateRefIdeal.nD Cert.PleGateRefIdeal.τ).loc Cert.PleGateRefIdeal.main_arg0) = m ((c.tc : Thread Cert.PleGateIdeal.nD Cert.PleGateIdeal.τ).loc Cert.PleGateIdeal.main_arg0)
      ∧ m' ((c.tc : Thread Cert.PleGateRefIdeal.nD Cert.PleGateRefIdeal.τ).loc Cert.PleGateRefIdeal.main_arg1) = m ((c.tc : Thread Cert.PleGateIdeal.nD Cert.PleGateIdeal.τ).loc Cert.PleGateIdeal.main_arg1)
      ∧ m' ((c.tc : Thread Cert.PleGateRefIdeal.nD Cert.PleGateRefIdeal.τ).loc Cert.PleGateRefIdeal.main_arg2) = m ((c.tc : Thread Cert.PleGateIdeal.nD Cert.PleGateIdeal.τ).loc Cert.PleGateIdeal.main_arg2)
      ∧ m' ((c.tc : Thread Cert.PleGateRefIdeal.nD Cert.PleGateRefIdeal.τ).loc Cert.PleGateRefIdeal.main_arg3) = m ((c.tc : Thread Cert.PleGateIdeal.nD Cert.PleGateIdeal.τ).loc Cert.PleGateIdeal.main_arg3)
      ∧ m' ((c.tc : Thread Cert.PleGateRefIdeal.nD Cert.PleGateRefIdeal.τ).loc Cert.PleGateRefIdeal.main_arg4) = m ((c.tc : Thread Cert.PleGateIdeal.nD Cert.PleGateIdeal.τ).loc Cert.PleGateIdeal.main_arg4)) →
    ∃ (v0 : (c : Dev Cert.PleGateIdeal.nD) → Buf (Elt Ideal) ((c.tc : Thread Cert.PleGateIdeal.nD Cert.PleGateIdeal.τ).loc Cert.PleGateIdeal.main_v6_0)) (v1 : (c : Dev Cert.PleGateIdeal.nD) → Buf (Elt Ideal) ((c.tc : Thread Cert.PleGateIdeal.nD Cert.PleGateIdeal.τ).loc Cert.PleGateIdeal.main_v6_1)) (v2 : (c : Dev Cert.PleGateIdeal.nD) → Buf (Elt Ideal) ((c.tc : Thread Cert.PleGateIdeal.nD Cert.PleGateIdeal.τ).loc Cert.PleGateIdeal.main_v6_2)),
      θ_run (Cert.PleGateIdeal.defs (F := Ideal)) (onTc (τ := Cert.PleGateIdeal.τ) (Cert.PleGateIdeal.main (F := Ideal))) ⟨m, fun _ => 0, g⟩ (fun r => ∀ c : Dev Cert.PleGateIdeal.nD,
          r.2.mem ((c.tc : Thread Cert.PleGateIdeal.nD Cert.PleGateIdeal.τ).loc Cert.PleGateIdeal.main_v6_0) = v0 c
          ∧ r.2.mem ((c.tc : Thread Cert.PleGateIdeal.nD Cert.PleGateIdeal.τ).loc Cert.PleGateIdeal.main_v6_1) = v1 c
          ∧ r.2.mem ((c.tc : Thread Cert.PleGateIdeal.nD Cert.PleGateIdeal.τ).loc Cert.PleGateIdeal.main_v6_2) = v2 c
          ∧ r.2.mem ((c.tc : Thread Cert.PleGateIdeal.nD Cert.PleGateIdeal.τ).loc Cert.PleGateIdeal.main_arg0) = m ((c.tc : Thread Cert.PleGateIdeal.nD Cert.PleGateIdeal.τ).loc Cert.PleGateIdeal.main_arg0)
          ∧ r.2.mem ((c.tc : Thread Cert.PleGateIdeal.nD Cert.PleGateIdeal.τ).loc Cert.PleGateIdeal.main_arg1) = m ((c.tc : Thread Cert.PleGateIdeal.nD Cert.PleGateIdeal.τ).loc Cert.PleGateIdeal.main_arg1)
          ∧ r.2.mem ((c.tc : Thread Cert.PleGateIdeal.nD Cert.PleGateIdeal.τ).loc Cert.PleGateIdeal.main_arg2) = m ((c.tc : Thread Cert.PleGateIdeal.nD Cert.PleGateIdeal.τ).loc Cert.PleGateIdeal.main_arg2)
          ∧ r.2.mem ((c.tc : Thread Cert.PleGateIdeal.nD Cert.PleGateIdeal.τ).loc Cert.PleGateIdeal.main_arg3) = m ((c.tc : Thread Cert.PleGateIdeal.nD Cert.PleGateIdeal.τ).loc Cert.PleGateIdeal.main_arg3)
          ∧ r.2.mem ((c.tc : Thread Cert.PleGateIdeal.nD Cert.PleGateIdeal.τ).loc Cert.PleGateIdeal.main_arg4) = m ((c.tc : Thread Cert.PleGateIdeal.nD Cert.PleGateIdeal.τ).loc Cert.PleGateIdeal.main_arg4))
      ∧ θ_run (Cert.PleGateRefIdeal.defs (F := Ideal)) (onTc (τ := Cert.PleGateRefIdeal.τ) (Cert.PleGateRefIdeal.main (F := Ideal))) ⟨m', fun _ => 0, g'⟩ (fun r => ∀ c : Dev Cert.PleGateRefIdeal.nD,
          r.2.mem ((c.tc : Thread Cert.PleGateRefIdeal.nD Cert.PleGateRefIdeal.τ).loc Cert.PleGateRefIdeal.main_v10) = v0 c
          ∧ r.2.mem ((c.tc : Thread Cert.PleGateRefIdeal.nD Cert.PleGateRefIdeal.τ).loc Cert.PleGateRefIdeal.main_v11) = v1 c
          ∧ r.2.mem ((c.tc : Thread Cert.PleGateRefIdeal.nD Cert.PleGateRefIdeal.τ).loc Cert.PleGateRefIdeal.main_v8) = v2 c
          ∧ r.2.mem ((c.tc : Thread Cert.PleGateRefIdeal.nD Cert.PleGateRefIdeal.τ).loc Cert.PleGateRefIdeal.main_arg0) = m' ((c.tc : Thread Cert.PleGateRefIdeal.nD Cert.PleGateRefIdeal.τ).loc Cert.PleGateRefIdeal.main_arg0)
          ∧ r.2.mem ((c.tc : Thread Cert.PleGateRefIdeal.nD Cert.PleGateRefIdeal.τ).loc Cert.PleGateRefIdeal.main_arg1) = m' ((c.tc : Thread Cert.PleGateRefIdeal.nD Cert.PleGateRefIdeal.τ).loc Cert.PleGateRefIdeal.main_arg1)
          ∧ r.2.mem ((c.tc : Thread Cert.PleGateRefIdeal.nD Cert.PleGateRefIdeal.τ).loc Cert.PleGateRefIdeal.main_arg2) = m' ((c.tc : Thread Cert.PleGateRefIdeal.nD Cert.PleGateRefIdeal.τ).loc Cert.PleGateRefIdeal.main_arg2)
          ∧ r.2.mem ((c.tc : Thread Cert.PleGateRefIdeal.nD Cert.PleGateRefIdeal.τ).loc Cert.PleGateRefIdeal.main_arg3) = m' ((c.tc : Thread Cert.PleGateRefIdeal.nD Cert.PleGateRefIdeal.τ).loc Cert.PleGateRefIdeal.main_arg3)
          ∧ r.2.mem ((c.tc : Thread Cert.PleGateRefIdeal.nD Cert.PleGateRefIdeal.τ).loc Cert.PleGateRefIdeal.main_arg4) = m' ((c.tc : Thread Cert.PleGateRefIdeal.nD Cert.PleGateRefIdeal.τ).loc Cert.PleGateRefIdeal.main_arg4))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_PleBwd_PleBwdIdeal : Prop :=
  True

def algebraic_PleBwdIdeal_PleBwdRefIdeal [hPleBwdIdeal : Cert.PleBwdIdeal.Facts] [hPleBwdRefIdeal : Cert.PleBwdRefIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdRefIdeal.nD Cert.PleBwdRefIdeal.τ Cert.PleBwdRefIdeal.sig) → Buf (Elt Ideal) ℓ) (g' : Dev Cert.PleBwdRefIdeal.nD → PrngReg), Pre_PleBwdIdeal m →
    (∀ c : Dev Cert.PleBwdIdeal.nD,
      m' ((c.tc : Thread Cert.PleBwdRefIdeal.nD Cert.PleBwdRefIdeal.τ).loc Cert.PleBwdRefIdeal.main_arg0) = m ((c.tc : Thread Cert.PleBwdIdeal.nD Cert.PleBwdIdeal.τ).loc Cert.PleBwdIdeal.main_arg0)
      ∧ m' ((c.tc : Thread Cert.PleBwdRefIdeal.nD Cert.PleBwdRefIdeal.τ).loc Cert.PleBwdRefIdeal.main_arg1) = m ((c.tc : Thread Cert.PleBwdIdeal.nD Cert.PleBwdIdeal.τ).loc Cert.PleBwdIdeal.main_arg1)
      ∧ m' ((c.tc : Thread Cert.PleBwdRefIdeal.nD Cert.PleBwdRefIdeal.τ).loc Cert.PleBwdRefIdeal.main_arg2) = m ((c.tc : Thread Cert.PleBwdIdeal.nD Cert.PleBwdIdeal.τ).loc Cert.PleBwdIdeal.main_arg2)) →
    ∃ (v0 : (c : Dev Cert.PleBwdIdeal.nD) → Buf (Elt Ideal) ((c.tc : Thread Cert.PleBwdIdeal.nD Cert.PleBwdIdeal.τ).loc Cert.PleBwdIdeal.main_v7_0)) (v1 : (c : Dev Cert.PleBwdIdeal.nD) → Buf (Elt Ideal) ((c.tc : Thread Cert.PleBwdIdeal.nD Cert.PleBwdIdeal.τ).loc Cert.PleBwdIdeal.main_v7_1)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v7_0) = v0 c
          ∧ r.2.mem ((c.tc : Thread Cert.PleBwdIdeal.nD Cert.PleBwdIdeal.τ).loc Cert.PleBwdIdeal.main_v7_1) = v1 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2))
      ∧ θ_run (Cert.PleBwdRefIdeal.defs (F := Ideal)) (onTc (τ := Cert.PleBwdRefIdeal.τ) (Cert.PleBwdRefIdeal.main (F := Ideal))) ⟨m', fun _ => 0, g'⟩ (fun r => ∀ c : Dev Cert.PleBwdRefIdeal.nD,
          r.2.mem ((c.tc : Thread Cert.PleBwdRefIdeal.nD Cert.PleBwdRefIdeal.τ).loc Cert.PleBwdRefIdeal.main_v13) = v0 c
          ∧ r.2.mem ((c.tc : Thread Cert.PleBwdRefIdeal.nD Cert.PleBwdRefIdeal.τ).loc Cert.PleBwdRefIdeal.main_v14) = v1 c
          ∧ r.2.mem ((c.tc : Thread Cert.PleBwdRefIdeal.nD Cert.PleBwdRefIdeal.τ).loc Cert.PleBwdRefIdeal.main_arg0) = m' ((c.tc : Thread Cert.PleBwdRefIdeal.nD Cert.PleBwdRefIdeal.τ).loc Cert.PleBwdRefIdeal.main_arg0)
          ∧ r.2.mem ((c.tc : Thread Cert.PleBwdRefIdeal.nD Cert.PleBwdRefIdeal.τ).loc Cert.PleBwdRefIdeal.main_arg1) = m' ((c.tc : Thread Cert.PleBwdRefIdeal.nD Cert.PleBwdRefIdeal.τ).loc Cert.PleBwdRefIdeal.main_arg1)
          ∧ r.2.mem ((c.tc : Thread Cert.PleBwdRefIdeal.nD Cert.PleBwdRefIdeal.τ).loc Cert.PleBwdRefIdeal.main_arg2) = m' ((c.tc : Thread Cert.PleBwdRefIdeal.nD Cert.PleBwdRefIdeal.τ).loc Cert.PleBwdRefIdeal.main_arg2))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)) →
    ∃ (v0 : (c : Dev Cert.GluBwdIdeal.nD) → Buf (Elt Ideal) ((c.tc : Thread Cert.GluBwdIdeal.nD Cert.GluBwdIdeal.τ).loc Cert.GluBwdIdeal.main_v10)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v10) = v0 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v16) = v0 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)) (v2 : (c : Dev Cert.RmsBwdIdeal.nD) → Buf (Elt Ideal) ((c.tc : Thread Cert.RmsBwdIdeal.nD Cert.RmsBwdIdeal.τ).loc Cert.RmsBwdIdeal.main_v0_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_v0_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v35) = v1 c
          ∧ r.2.mem ((c.tc : Thread Cert.RmsBwdRefIdeal.nD Cert.RmsBwdRefIdeal.τ).loc Cert.RmsBwdRefIdeal.main_v17) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_AdamCol_AdamColIdeal : Prop :=
  True

def algebraic_AdamColIdeal_AdamColRefIdeal [hAdamColIdeal : Cert.AdamColIdeal.Facts] [hAdamColRefIdeal : Cert.AdamColRefIdeal.Facts] : Prop :=
  ∀ (m : (ℓ : Loc Cert.AdamColIdeal.nD Cert.AdamColIdeal.τ Cert.AdamColIdeal.sig) → Buf (Elt Ideal) ℓ) (g : Dev Cert.AdamColIdeal.nD → PrngReg)
    (m' : (ℓ : Loc Cert.AdamColRefIdeal.nD Cert.AdamColRefIdeal.τ Cert.AdamColRefIdeal.sig) → Buf (Elt Ideal) ℓ) (g' : Dev Cert.AdamColRefIdeal.nD → PrngReg), Pre_AdamColIdeal m →
    (∀ c : Dev Cert.AdamColIdeal.nD,
      m' ((c.tc : Thread Cert.AdamColRefIdeal.nD Cert.AdamColRefIdeal.τ).loc Cert.AdamColRefIdeal.main_arg0) = m ((c.tc : Thread Cert.AdamColIdeal.nD Cert.AdamColIdeal.τ).loc Cert.AdamColIdeal.main_arg0)
      ∧ m' ((c.tc : Thread Cert.AdamColRefIdeal.nD Cert.AdamColRefIdeal.τ).loc Cert.AdamColRefIdeal.main_arg1) = m ((c.tc : Thread Cert.AdamColIdeal.nD Cert.AdamColIdeal.τ).loc Cert.AdamColIdeal.main_arg1)
      ∧ m' ((c.tc : Thread Cert.AdamColRefIdeal.nD Cert.AdamColRefIdeal.τ).loc Cert.AdamColRefIdeal.main_arg2) = m ((c.tc : Thread Cert.AdamColIdeal.nD Cert.AdamColIdeal.τ).loc Cert.AdamColIdeal.main_arg2)
      ∧ m' ((c.tc : Thread Cert.AdamColRefIdeal.nD Cert.AdamColRefIdeal.τ).loc Cert.AdamColRefIdeal.main_arg3) = m ((c.tc : Thread Cert.AdamColIdeal.nD Cert.AdamColIdeal.τ).loc Cert.AdamColIdeal.main_arg3)
      ∧ m' ((c.tc : Thread Cert.AdamColRefIdeal.nD Cert.AdamColRefIdeal.τ).loc Cert.AdamColRefIdeal.main_arg4) = m ((c.tc : Thread Cert.AdamColIdeal.nD Cert.AdamColIdeal.τ).loc Cert.AdamColIdeal.main_arg4)
      ∧ m' ((c.tc : Thread Cert.AdamColRefIdeal.nD Cert.AdamColRefIdeal.τ).loc Cert.AdamColRefIdeal.main_arg5) = m ((c.tc : Thread Cert.AdamColIdeal.nD Cert.AdamColIdeal.τ).loc Cert.AdamColIdeal.main_arg5)
      ∧ m' ((c.tc : Thread Cert.AdamColRefIdeal.nD Cert.AdamColRefIdeal.τ).loc Cert.AdamColRefIdeal.main_arg6) = m ((c.tc : Thread Cert.AdamColIdeal.nD Cert.AdamColIdeal.τ).loc Cert.AdamColIdeal.main_arg6)) →
    ∃ (v0 : (c : Dev Cert.AdamColIdeal.nD) → Buf (Elt Ideal) ((c.tc : Thread Cert.AdamColIdeal.nD Cert.AdamColIdeal.τ).loc Cert.AdamColIdeal.main_v0_0)) (v1 : (c : Dev Cert.AdamColIdeal.nD) → Buf (Elt Ideal) ((c.tc : Thread Cert.AdamColIdeal.nD Cert.AdamColIdeal.τ).loc Cert.AdamColIdeal.main_v0_1)) (v2 : (c : Dev Cert.AdamColIdeal.nD) → Buf (Elt Ideal) ((c.tc : Thread Cert.AdamColIdeal.nD Cert.AdamColIdeal.τ).loc Cert.AdamColIdeal.main_v0_2)) (v3 : (c : Dev Cert.AdamColIdeal.nD) → Buf (Elt Ideal) ((c.tc : Thread Cert.AdamColIdeal.nD Cert.AdamColIdeal.τ).loc Cert.AdamColIdeal.main_v0_3)),
      θ_run (Cert.AdamColIdeal.defs (F := Ideal)) (onTc (τ := Cert.AdamColIdeal.τ) (Cert.AdamColIdeal.main (F := Ideal))) ⟨m, fun _ => 0, g⟩ (fun r => ∀ c : Dev Cert.AdamColIdeal.nD,
          r.2.mem ((c.tc : Thread Cert.AdamColIdeal.nD Cert.AdamColIdeal.τ).loc Cert.AdamColIdeal.main_v0_0) = v0 c
          ∧ r.2.mem ((c.tc : Thread Cert.AdamColIdeal.nD Cert.AdamColIdeal.τ).loc Cert.AdamColIdeal.main_v0_1) = v1 c
          ∧ r.2.mem ((c.tc : Thread Cert.AdamColIdeal.nD Cert.AdamColIdeal.τ).loc Cert.AdamColIdeal.main_v0_2) = v2 c
          ∧ r.2.mem ((c.tc : Thread Cert.AdamColIdeal.nD Cert.AdamColIdeal.τ).loc Cert.AdamColIdeal.main_v0_3) = v3 c
          ∧ r.2.mem ((c.tc : Thread Cert.AdamColIdeal.nD Cert.AdamColIdeal.τ).loc Cert.AdamColIdeal.main_arg0) = m ((c.tc : Thread Cert.AdamColIdeal.nD Cert.AdamColIdeal.τ).loc Cert.AdamColIdeal.main_arg0)
          ∧ r.2.mem ((c.tc : Thread Cert.AdamColIdeal.nD Cert.AdamColIdeal.τ).loc Cert.AdamColIdeal.main_arg1) = m ((c.tc : Thread Cert.AdamColIdeal.nD Cert.AdamColIdeal.τ).loc Cert.AdamColIdeal.main_arg1)
          ∧ r.2.mem ((c.tc : Thread Cert.AdamColIdeal.nD Cert.AdamColIdeal.τ).loc Cert.AdamColIdeal.main_arg2) = m ((c.tc : Thread Cert.AdamColIdeal.nD Cert.AdamColIdeal.τ).loc Cert.AdamColIdeal.main_arg2)
          ∧ r.2.mem ((c.tc : Thread Cert.AdamColIdeal.nD Cert.AdamColIdeal.τ).loc Cert.AdamColIdeal.main_arg3) = m ((c.tc : Thread Cert.AdamColIdeal.nD Cert.AdamColIdeal.τ).loc Cert.AdamColIdeal.main_arg3)
          ∧ r.2.mem ((c.tc : Thread Cert.AdamColIdeal.nD Cert.AdamColIdeal.τ).loc Cert.AdamColIdeal.main_arg4) = m ((c.tc : Thread Cert.AdamColIdeal.nD Cert.AdamColIdeal.τ).loc Cert.AdamColIdeal.main_arg4)
          ∧ r.2.mem ((c.tc : Thread Cert.AdamColIdeal.nD Cert.AdamColIdeal.τ).loc Cert.AdamColIdeal.main_arg5) = m ((c.tc : Thread Cert.AdamColIdeal.nD Cert.AdamColIdeal.τ).loc Cert.AdamColIdeal.main_arg5)
          ∧ r.2.mem ((c.tc : Thread Cert.AdamColIdeal.nD Cert.AdamColIdeal.τ).loc Cert.AdamColIdeal.main_arg6) = m ((c.tc : Thread Cert.AdamColIdeal.nD Cert.AdamColIdeal.τ).loc Cert.AdamColIdeal.main_arg6))
      ∧ θ_run (Cert.AdamColRefIdeal.defs (F := Ideal)) (onTc (τ := Cert.AdamColRefIdeal.τ) (Cert.AdamColRefIdeal.main (F := Ideal))) ⟨m', fun _ => 0, g'⟩ (fun r => ∀ c : Dev Cert.AdamColRefIdeal.nD,
          r.2.mem ((c.tc : Thread Cert.AdamColRefIdeal.nD Cert.AdamColRefIdeal.τ).loc Cert.AdamColRefIdeal.main_v7) = v0 c
          ∧ r.2.mem ((c.tc : Thread Cert.AdamColRefIdeal.nD Cert.AdamColRefIdeal.τ).loc Cert.AdamColRefIdeal.main_v31) = v1 c
          ∧ r.2.mem ((c.tc : Thread Cert.AdamColRefIdeal.nD Cert.AdamColRefIdeal.τ).loc Cert.AdamColRefIdeal.main_v12) = v2 c
          ∧ r.2.mem ((c.tc : Thread Cert.AdamColRefIdeal.nD Cert.AdamColRefIdeal.τ).loc Cert.AdamColRefIdeal.main_v18) = v3 c
          ∧ r.2.mem ((c.tc : Thread Cert.AdamColRefIdeal.nD Cert.AdamColRefIdeal.τ).loc Cert.AdamColRefIdeal.main_arg0) = m' ((c.tc : Thread Cert.AdamColRefIdeal.nD Cert.AdamColRefIdeal.τ).loc Cert.AdamColRefIdeal.main_arg0)
          ∧ r.2.mem ((c.tc : Thread Cert.AdamColRefIdeal.nD Cert.AdamColRefIdeal.τ).loc Cert.AdamColRefIdeal.main_arg1) = m' ((c.tc : Thread Cert.AdamColRefIdeal.nD Cert.AdamColRefIdeal.τ).loc Cert.AdamColRefIdeal.main_arg1)
          ∧ r.2.mem ((c.tc : Thread Cert.AdamColRefIdeal.nD Cert.AdamColRefIdeal.τ).loc Cert.AdamColRefIdeal.main_arg2) = m' ((c.tc : Thread Cert.AdamColRefIdeal.nD Cert.AdamColRefIdeal.τ).loc Cert.AdamColRefIdeal.main_arg2)
          ∧ r.2.mem ((c.tc : Thread Cert.AdamColRefIdeal.nD Cert.AdamColRefIdeal.τ).loc Cert.AdamColRefIdeal.main_arg3) = m' ((c.tc : Thread Cert.AdamColRefIdeal.nD Cert.AdamColRefIdeal.τ).loc Cert.AdamColRefIdeal.main_arg3)
          ∧ r.2.mem ((c.tc : Thread Cert.AdamColRefIdeal.nD Cert.AdamColRefIdeal.τ).loc Cert.AdamColRefIdeal.main_arg4) = m' ((c.tc : Thread Cert.AdamColRefIdeal.nD Cert.AdamColRefIdeal.τ).loc Cert.AdamColRefIdeal.main_arg4)
          ∧ r.2.mem ((c.tc : Thread Cert.AdamColRefIdeal.nD Cert.AdamColRefIdeal.τ).loc Cert.AdamColRefIdeal.main_arg5) = m' ((c.tc : Thread Cert.AdamColRefIdeal.nD Cert.AdamColRefIdeal.τ).loc Cert.AdamColRefIdeal.main_arg5)
          ∧ r.2.mem ((c.tc : Thread Cert.AdamColRefIdeal.nD Cert.AdamColRefIdeal.τ).loc Cert.AdamColRefIdeal.main_arg6) = m' ((c.tc : Thread Cert.AdamColRefIdeal.nD Cert.AdamColRefIdeal.τ).loc Cert.AdamColRefIdeal.main_arg6))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)
      ∧ m' ((c.tc : Thread Cert.AdamRowRefIdeal.nD Cert.AdamRowRefIdeal.τ).loc Cert.AdamRowRefIdeal.main_arg4) = m ((c.tc : Thread Cert.AdamRowIdeal.nD Cert.AdamRowIdeal.τ).loc Cert.AdamRowIdeal.main_arg4)
      ∧ m' ((c.tc : Thread Cert.AdamRowRefIdeal.nD Cert.AdamRowRefIdeal.τ).loc Cert.AdamRowRefIdeal.main_arg5) = m ((c.tc : Thread Cert.AdamRowIdeal.nD Cert.AdamRowIdeal.τ).loc Cert.AdamRowIdeal.main_arg5)
      ∧ m' ((c.tc : Thread Cert.AdamRowRefIdeal.nD Cert.AdamRowRefIdeal.τ).loc Cert.AdamRowRefIdeal.main_arg6) = m ((c.tc : Thread Cert.AdamRowIdeal.nD Cert.AdamRowIdeal.τ).loc Cert.AdamRowIdeal.main_arg6)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)) (v3 : (c : Dev Cert.AdamRowIdeal.nD) → Buf (Elt Ideal) ((c.tc : Thread Cert.AdamRowIdeal.nD Cert.AdamRowIdeal.τ).loc Cert.AdamRowIdeal.main_v0_3)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_v0_3) = v3 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3)
          ∧ r.2.mem ((c.tc : Thread Cert.AdamRowIdeal.nD Cert.AdamRowIdeal.τ).loc Cert.AdamRowIdeal.main_arg4) = m ((c.tc : Thread Cert.AdamRowIdeal.nD Cert.AdamRowIdeal.τ).loc Cert.AdamRowIdeal.main_arg4)
          ∧ r.2.mem ((c.tc : Thread Cert.AdamRowIdeal.nD Cert.AdamRowIdeal.τ).loc Cert.AdamRowIdeal.main_arg5) = m ((c.tc : Thread Cert.AdamRowIdeal.nD Cert.AdamRowIdeal.τ).loc Cert.AdamRowIdeal.main_arg5)
          ∧ r.2.mem ((c.tc : Thread Cert.AdamRowIdeal.nD Cert.AdamRowIdeal.τ).loc Cert.AdamRowIdeal.main_arg6) = m ((c.tc : Thread Cert.AdamRowIdeal.nD Cert.AdamRowIdeal.τ).loc Cert.AdamRowIdeal.main_arg6))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v7) = v0 c
          ∧ r.2.mem ((c.tc : Thread Cert.AdamRowRefIdeal.nD Cert.AdamRowRefIdeal.τ).loc Cert.AdamRowRefIdeal.main_v31) = v1 c
          ∧ r.2.mem ((c.tc : Thread Cert.AdamRowRefIdeal.nD Cert.AdamRowRefIdeal.τ).loc Cert.AdamRowRefIdeal.main_v12) = v2 c
          ∧ r.2.mem ((c.tc : Thread Cert.AdamRowRefIdeal.nD Cert.AdamRowRefIdeal.τ).loc Cert.AdamRowRefIdeal.main_v18) = v3 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3)
          ∧ r.2.mem ((c.tc : Thread Cert.AdamRowRefIdeal.nD Cert.AdamRowRefIdeal.τ).loc Cert.AdamRowRefIdeal.main_arg4) = m' ((c.tc : Thread Cert.AdamRowRefIdeal.nD Cert.AdamRowRefIdeal.τ).loc Cert.AdamRowRefIdeal.main_arg4)
          ∧ r.2.mem ((c.tc : Thread Cert.AdamRowRefIdeal.nD Cert.AdamRowRefIdeal.τ).loc Cert.AdamRowRefIdeal.main_arg5) = m' ((c.tc : Thread Cert.AdamRowRefIdeal.nD Cert.AdamRowRefIdeal.τ).loc Cert.AdamRowRefIdeal.main_arg5)
          ∧ r.2.mem ((c.tc : Thread Cert.AdamRowRefIdeal.nD Cert.AdamRowRefIdeal.τ).loc Cert.AdamRowRefIdeal.main_arg6) = m' ((c.tc : Thread Cert.AdamRowRefIdeal.nD Cert.AdamRowRefIdeal.τ).loc Cert.AdamRowRefIdeal.main_arg6))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)
      ∧ m' ((c.tc : Thread Cert.AdamUpRefIdeal.nD Cert.AdamUpRefIdeal.τ).loc Cert.AdamUpRefIdeal.main_arg7) = m ((c.tc : Thread Cert.AdamUpIdeal.nD Cert.AdamUpIdeal.τ).loc Cert.AdamUpIdeal.main_arg7)
      ∧ m' ((c.tc : Thread Cert.AdamUpRefIdeal.nD Cert.AdamUpRefIdeal.τ).loc Cert.AdamUpRefIdeal.main_arg8) = m ((c.tc : Thread Cert.AdamUpIdeal.nD Cert.AdamUpIdeal.τ).loc Cert.AdamUpIdeal.main_arg8)
      ∧ m' ((c.tc : Thread Cert.AdamUpRefIdeal.nD Cert.AdamUpRefIdeal.τ).loc Cert.AdamUpRefIdeal.main_arg9) = m ((c.tc : Thread Cert.AdamUpIdeal.nD Cert.AdamUpIdeal.τ).loc Cert.AdamUpIdeal.main_arg9)
      ∧ m' ((c.tc : Thread Cert.AdamUpRefIdeal.nD Cert.AdamUpRefIdeal.τ).loc Cert.AdamUpRefIdeal.main_arg10) = m ((c.tc : Thread Cert.AdamUpIdeal.nD Cert.AdamUpIdeal.τ).loc Cert.AdamUpIdeal.main_arg10)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6)
          ∧ r.2.mem ((c.tc : Thread Cert.AdamUpIdeal.nD Cert.AdamUpIdeal.τ).loc Cert.AdamUpIdeal.main_arg7) = m ((c.tc : Thread Cert.AdamUpIdeal.nD Cert.AdamUpIdeal.τ).loc Cert.AdamUpIdeal.main_arg7)
          ∧ r.2.mem ((c.tc : Thread Cert.AdamUpIdeal.nD Cert.AdamUpIdeal.τ).loc Cert.AdamUpIdeal.main_arg8) = m ((c.tc : Thread Cert.AdamUpIdeal.nD Cert.AdamUpIdeal.τ).loc Cert.AdamUpIdeal.main_arg8)
          ∧ r.2.mem ((c.tc : Thread Cert.AdamUpIdeal.nD Cert.AdamUpIdeal.τ).loc Cert.AdamUpIdeal.main_arg9) = m ((c.tc : Thread Cert.AdamUpIdeal.nD Cert.AdamUpIdeal.τ).loc Cert.AdamUpIdeal.main_arg9)
          ∧ r.2.mem ((c.tc : Thread Cert.AdamUpIdeal.nD Cert.AdamUpIdeal.τ).loc Cert.AdamUpIdeal.main_arg10) = m ((c.tc : Thread Cert.AdamUpIdeal.nD Cert.AdamUpIdeal.τ).loc Cert.AdamUpIdeal.main_arg10))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v36) = v0 c
          ∧ r.2.mem ((c.tc : Thread Cert.AdamUpRefIdeal.nD Cert.AdamUpRefIdeal.τ).loc Cert.AdamUpRefIdeal.main_v38) = v1 c
          ∧ r.2.mem ((c.tc : Thread Cert.AdamUpRefIdeal.nD Cert.AdamUpRefIdeal.τ).loc Cert.AdamUpRefIdeal.main_v40) = v2 c
          ∧ r.2.mem ((c.tc : Thread Cert.AdamUpRefIdeal.nD Cert.AdamUpRefIdeal.τ).loc Cert.AdamUpRefIdeal.main_v42) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6)
          ∧ r.2.mem ((c.tc : Thread Cert.AdamUpRefIdeal.nD Cert.AdamUpRefIdeal.τ).loc Cert.AdamUpRefIdeal.main_arg7) = m' ((c.tc : Thread Cert.AdamUpRefIdeal.nD Cert.AdamUpRefIdeal.τ).loc Cert.AdamUpRefIdeal.main_arg7)
          ∧ r.2.mem ((c.tc : Thread Cert.AdamUpRefIdeal.nD Cert.AdamUpRefIdeal.τ).loc Cert.AdamUpRefIdeal.main_arg8) = m' ((c.tc : Thread Cert.AdamUpRefIdeal.nD Cert.AdamUpRefIdeal.τ).loc Cert.AdamUpRefIdeal.main_arg8)
          ∧ r.2.mem ((c.tc : Thread Cert.AdamUpRefIdeal.nD Cert.AdamUpRefIdeal.τ).loc Cert.AdamUpRefIdeal.main_arg9) = m' ((c.tc : Thread Cert.AdamUpRefIdeal.nD Cert.AdamUpRefIdeal.τ).loc Cert.AdamUpRefIdeal.main_arg9)
          ∧ r.2.mem ((c.tc : Thread Cert.AdamUpRefIdeal.nD Cert.AdamUpRefIdeal.τ).loc Cert.AdamUpRefIdeal.main_arg10) = m' ((c.tc : Thread Cert.AdamUpRefIdeal.nD Cert.AdamUpRefIdeal.τ).loc Cert.AdamUpRefIdeal.main_arg10))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)
      ∧ m' ((c.tc : Thread Cert.AdamDownRefIdeal.nD Cert.AdamDownRefIdeal.τ).loc Cert.AdamDownRefIdeal.main_arg7) = m ((c.tc : Thread Cert.AdamDownIdeal.nD Cert.AdamDownIdeal.τ).loc Cert.AdamDownIdeal.main_arg7)
      ∧ m' ((c.tc : Thread Cert.AdamDownRefIdeal.nD Cert.AdamDownRefIdeal.τ).loc Cert.AdamDownRefIdeal.main_arg8) = m ((c.tc : Thread Cert.AdamDownIdeal.nD Cert.AdamDownIdeal.τ).loc Cert.AdamDownIdeal.main_arg8)
      ∧ m' ((c.tc : Thread Cert.AdamDownRefIdeal.nD Cert.AdamDownRefIdeal.τ).loc Cert.AdamDownRefIdeal.main_arg9) = m ((c.tc : Thread Cert.AdamDownIdeal.nD Cert.AdamDownIdeal.τ).loc Cert.AdamDownIdeal.main_arg9)
      ∧ m' ((c.tc : Thread Cert.AdamDownRefIdeal.nD Cert.AdamDownRefIdeal.τ).loc Cert.AdamDownRefIdeal.main_arg10) = m ((c.tc : Thread Cert.AdamDownIdeal.nD Cert.AdamDownIdeal.τ).loc Cert.AdamDownIdeal.main_arg10)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6)
          ∧ r.2.mem ((c.tc : Thread Cert.AdamDownIdeal.nD Cert.AdamDownIdeal.τ).loc Cert.AdamDownIdeal.main_arg7) = m ((c.tc : Thread Cert.AdamDownIdeal.nD Cert.AdamDownIdeal.τ).loc Cert.AdamDownIdeal.main_arg7)
          ∧ r.2.mem ((c.tc : Thread Cert.AdamDownIdeal.nD Cert.AdamDownIdeal.τ).loc Cert.AdamDownIdeal.main_arg8) = m ((c.tc : Thread Cert.AdamDownIdeal.nD Cert.AdamDownIdeal.τ).loc Cert.AdamDownIdeal.main_arg8)
          ∧ r.2.mem ((c.tc : Thread Cert.AdamDownIdeal.nD Cert.AdamDownIdeal.τ).loc Cert.AdamDownIdeal.main_arg9) = m ((c.tc : Thread Cert.AdamDownIdeal.nD Cert.AdamDownIdeal.τ).loc Cert.AdamDownIdeal.main_arg9)
          ∧ r.2.mem ((c.tc : Thread Cert.AdamDownIdeal.nD Cert.AdamDownIdeal.τ).loc Cert.AdamDownIdeal.main_arg10) = m ((c.tc : Thread Cert.AdamDownIdeal.nD Cert.AdamDownIdeal.τ).loc Cert.AdamDownIdeal.main_arg10))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v36) = v0 c
          ∧ r.2.mem ((c.tc : Thread Cert.AdamDownRefIdeal.nD Cert.AdamDownRefIdeal.τ).loc Cert.AdamDownRefIdeal.main_v38) = v1 c
          ∧ r.2.mem ((c.tc : Thread Cert.AdamDownRefIdeal.nD Cert.AdamDownRefIdeal.τ).loc Cert.AdamDownRefIdeal.main_v40) = v2 c
          ∧ r.2.mem ((c.tc : Thread Cert.AdamDownRefIdeal.nD Cert.AdamDownRefIdeal.τ).loc Cert.AdamDownRefIdeal.main_v42) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6)
          ∧ r.2.mem ((c.tc : Thread Cert.AdamDownRefIdeal.nD Cert.AdamDownRefIdeal.τ).loc Cert.AdamDownRefIdeal.main_arg7) = m' ((c.tc : Thread Cert.AdamDownRefIdeal.nD Cert.AdamDownRefIdeal.τ).loc Cert.AdamDownRefIdeal.main_arg7)
          ∧ r.2.mem ((c.tc : Thread Cert.AdamDownRefIdeal.nD Cert.AdamDownRefIdeal.τ).loc Cert.AdamDownRefIdeal.main_arg8) = m' ((c.tc : Thread Cert.AdamDownRefIdeal.nD Cert.AdamDownRefIdeal.τ).loc Cert.AdamDownRefIdeal.main_arg8)
          ∧ r.2.mem ((c.tc : Thread Cert.AdamDownRefIdeal.nD Cert.AdamDownRefIdeal.τ).loc Cert.AdamDownRefIdeal.main_arg9) = m' ((c.tc : Thread Cert.AdamDownRefIdeal.nD Cert.AdamDownRefIdeal.τ).loc Cert.AdamDownRefIdeal.main_arg9)
          ∧ r.2.mem ((c.tc : Thread Cert.AdamDownRefIdeal.nD Cert.AdamDownRefIdeal.τ).loc Cert.AdamDownRefIdeal.main_arg10) = m' ((c.tc : Thread Cert.AdamDownRefIdeal.nD Cert.AdamDownRefIdeal.τ).loc Cert.AdamDownRefIdeal.main_arg10))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)
      ∧ m' ((c.tc : Thread Cert.AdamGateRefIdeal.nD Cert.AdamGateRefIdeal.τ).loc Cert.AdamGateRefIdeal.main_arg4) = m ((c.tc : Thread Cert.AdamGateIdeal.nD Cert.AdamGateIdeal.τ).loc Cert.AdamGateIdeal.main_arg4)
      ∧ m' ((c.tc : Thread Cert.AdamGateRefIdeal.nD Cert.AdamGateRefIdeal.τ).loc Cert.AdamGateRefIdeal.main_arg5) = m ((c.tc : Thread Cert.AdamGateIdeal.nD Cert.AdamGateIdeal.τ).loc Cert.AdamGateIdeal.main_arg5)
      ∧ m' ((c.tc : Thread Cert.AdamGateRefIdeal.nD Cert.AdamGateRefIdeal.τ).loc Cert.AdamGateRefIdeal.main_arg6) = m ((c.tc : Thread Cert.AdamGateIdeal.nD Cert.AdamGateIdeal.τ).loc Cert.AdamGateIdeal.main_arg6)
      ∧ m' ((c.tc : Thread Cert.AdamGateRefIdeal.nD Cert.AdamGateRefIdeal.τ).loc Cert.AdamGateRefIdeal.main_arg7) = m ((c.tc : Thread Cert.AdamGateIdeal.nD Cert.AdamGateIdeal.τ).loc Cert.AdamGateIdeal.main_arg7)
      ∧ m' ((c.tc : Thread Cert.AdamGateRefIdeal.nD Cert.AdamGateRefIdeal.τ).loc Cert.AdamGateRefIdeal.main_arg8) = m ((c.tc : Thread Cert.AdamGateIdeal.nD Cert.AdamGateIdeal.τ).loc Cert.AdamGateIdeal.main_arg8)
      ∧ m' ((c.tc : Thread Cert.AdamGateRefIdeal.nD Cert.AdamGateRefIdeal.τ).loc Cert.AdamGateRefIdeal.main_arg9) = m ((c.tc : Thread Cert.AdamGateIdeal.nD Cert.AdamGateIdeal.τ).loc Cert.AdamGateIdeal.main_arg9)
      ∧ m' ((c.tc : Thread Cert.AdamGateRefIdeal.nD Cert.AdamGateRefIdeal.τ).loc Cert.AdamGateRefIdeal.main_arg10) = m ((c.tc : Thread Cert.AdamGateIdeal.nD Cert.AdamGateIdeal.τ).loc Cert.AdamGateIdeal.main_arg10)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)) (v3 : (c : Dev Cert.AdamGateIdeal.nD) → Buf (Elt Ideal) ((c.tc : Thread Cert.AdamGateIdeal.nD Cert.AdamGateIdeal.τ).loc Cert.AdamGateIdeal.main_v0_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_v0_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3)
          ∧ r.2.mem ((c.tc : Thread Cert.AdamGateIdeal.nD Cert.AdamGateIdeal.τ).loc Cert.AdamGateIdeal.main_arg4) = m ((c.tc : Thread Cert.AdamGateIdeal.nD Cert.AdamGateIdeal.τ).loc Cert.AdamGateIdeal.main_arg4)
          ∧ r.2.mem ((c.tc : Thread Cert.AdamGateIdeal.nD Cert.AdamGateIdeal.τ).loc Cert.AdamGateIdeal.main_arg5) = m ((c.tc : Thread Cert.AdamGateIdeal.nD Cert.AdamGateIdeal.τ).loc Cert.AdamGateIdeal.main_arg5)
          ∧ r.2.mem ((c.tc : Thread Cert.AdamGateIdeal.nD Cert.AdamGateIdeal.τ).loc Cert.AdamGateIdeal.main_arg6) = m ((c.tc : Thread Cert.AdamGateIdeal.nD Cert.AdamGateIdeal.τ).loc Cert.AdamGateIdeal.main_arg6)
          ∧ r.2.mem ((c.tc : Thread Cert.AdamGateIdeal.nD Cert.AdamGateIdeal.τ).loc Cert.AdamGateIdeal.main_arg7) = m ((c.tc : Thread Cert.AdamGateIdeal.nD Cert.AdamGateIdeal.τ).loc Cert.AdamGateIdeal.main_arg7)
          ∧ r.2.mem ((c.tc : Thread Cert.AdamGateIdeal.nD Cert.AdamGateIdeal.τ).loc Cert.AdamGateIdeal.main_arg8) = m ((c.tc : Thread Cert.AdamGateIdeal.nD Cert.AdamGateIdeal.τ).loc Cert.AdamGateIdeal.main_arg8)
          ∧ r.2.mem ((c.tc : Thread Cert.AdamGateIdeal.nD Cert.AdamGateIdeal.τ).loc Cert.AdamGateIdeal.main_arg9) = m ((c.tc : Thread Cert.AdamGateIdeal.nD Cert.AdamGateIdeal.τ).loc Cert.AdamGateIdeal.main_arg9)
          ∧ r.2.mem ((c.tc : Thread Cert.AdamGateIdeal.nD Cert.AdamGateIdeal.τ).loc Cert.AdamGateIdeal.main_arg10) = m ((c.tc : Thread Cert.AdamGateIdeal.nD Cert.AdamGateIdeal.τ).loc Cert.AdamGateIdeal.main_arg10))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v36) = v0 c
          ∧ r.2.mem ((c.tc : Thread Cert.AdamGateRefIdeal.nD Cert.AdamGateRefIdeal.τ).loc Cert.AdamGateRefIdeal.main_v38) = v1 c
          ∧ r.2.mem ((c.tc : Thread Cert.AdamGateRefIdeal.nD Cert.AdamGateRefIdeal.τ).loc Cert.AdamGateRefIdeal.main_v40) = v2 c
          ∧ r.2.mem ((c.tc : Thread Cert.AdamGateRefIdeal.nD Cert.AdamGateRefIdeal.τ).loc Cert.AdamGateRefIdeal.main_v42) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3)
          ∧ r.2.mem ((c.tc : Thread Cert.AdamGateRefIdeal.nD Cert.AdamGateRefIdeal.τ).loc Cert.AdamGateRefIdeal.main_arg4) = m' ((c.tc : Thread Cert.AdamGateRefIdeal.nD Cert.AdamGateRefIdeal.τ).loc Cert.AdamGateRefIdeal.main_arg4)
          ∧ r.2.mem ((c.tc : Thread Cert.AdamGateRefIdeal.nD Cert.AdamGateRefIdeal.τ).loc Cert.AdamGateRefIdeal.main_arg5) = m' ((c.tc : Thread Cert.AdamGateRefIdeal.nD Cert.AdamGateRefIdeal.τ).loc Cert.AdamGateRefIdeal.main_arg5)
          ∧ r.2.mem ((c.tc : Thread Cert.AdamGateRefIdeal.nD Cert.AdamGateRefIdeal.τ).loc Cert.AdamGateRefIdeal.main_arg6) = m' ((c.tc : Thread Cert.AdamGateRefIdeal.nD Cert.AdamGateRefIdeal.τ).loc Cert.AdamGateRefIdeal.main_arg6)
          ∧ r.2.mem ((c.tc : Thread Cert.AdamGateRefIdeal.nD Cert.AdamGateRefIdeal.τ).loc Cert.AdamGateRefIdeal.main_arg7) = m' ((c.tc : Thread Cert.AdamGateRefIdeal.nD Cert.AdamGateRefIdeal.τ).loc Cert.AdamGateRefIdeal.main_arg7)
          ∧ r.2.mem ((c.tc : Thread Cert.AdamGateRefIdeal.nD Cert.AdamGateRefIdeal.τ).loc Cert.AdamGateRefIdeal.main_arg8) = m' ((c.tc : Thread Cert.AdamGateRefIdeal.nD Cert.AdamGateRefIdeal.τ).loc Cert.AdamGateRefIdeal.main_arg8)
          ∧ r.2.mem ((c.tc : Thread Cert.AdamGateRefIdeal.nD Cert.AdamGateRefIdeal.τ).loc Cert.AdamGateRefIdeal.main_arg9) = m' ((c.tc : Thread Cert.AdamGateRefIdeal.nD Cert.AdamGateRefIdeal.τ).loc Cert.AdamGateRefIdeal.main_arg9)
          ∧ r.2.mem ((c.tc : Thread Cert.AdamGateRefIdeal.nD Cert.AdamGateRefIdeal.τ).loc Cert.AdamGateRefIdeal.main_arg10) = m' ((c.tc : Thread Cert.AdamGateRefIdeal.nD Cert.AdamGateRefIdeal.τ).loc Cert.AdamGateRefIdeal.main_arg10))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)
      ∧ m' ((c.tc : Thread Cert.AdamProjRefIdeal.nD Cert.AdamProjRefIdeal.τ).loc Cert.AdamProjRefIdeal.main_arg5) = m ((c.tc : Thread Cert.AdamProjIdeal.nD Cert.AdamProjIdeal.τ).loc Cert.AdamProjIdeal.main_arg5)
      ∧ m' ((c.tc : Thread Cert.AdamProjRefIdeal.nD Cert.AdamProjRefIdeal.τ).loc Cert.AdamProjRefIdeal.main_arg6) = m ((c.tc : Thread Cert.AdamProjIdeal.nD Cert.AdamProjIdeal.τ).loc Cert.AdamProjIdeal.main_arg6)
      ∧ m' ((c.tc : Thread Cert.AdamProjRefIdeal.nD Cert.AdamProjRefIdeal.τ).loc Cert.AdamProjRefIdeal.main_arg7) = m ((c.tc : Thread Cert.AdamProjIdeal.nD Cert.AdamProjIdeal.τ).loc Cert.AdamProjIdeal.main_arg7)
      ∧ m' ((c.tc : Thread Cert.AdamProjRefIdeal.nD Cert.AdamProjRefIdeal.τ).loc Cert.AdamProjRefIdeal.main_arg8) = m ((c.tc : Thread Cert.AdamProjIdeal.nD Cert.AdamProjIdeal.τ).loc Cert.AdamProjIdeal.main_arg8)
      ∧ m' ((c.tc : Thread Cert.AdamProjRefIdeal.nD Cert.AdamProjRefIdeal.τ).loc Cert.AdamProjRefIdeal.main_arg9) = m ((c.tc : Thread Cert.AdamProjIdeal.nD Cert.AdamProjIdeal.τ).loc Cert.AdamProjIdeal.main_arg9)
      ∧ m' ((c.tc : Thread Cert.AdamProjRefIdeal.nD Cert.AdamProjRefIdeal.τ).loc Cert.AdamProjRefIdeal.main_arg10) = m ((c.tc : Thread Cert.AdamProjIdeal.nD Cert.AdamProjIdeal.τ).loc Cert.AdamProjIdeal.main_arg10)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4)
          ∧ r.2.mem ((c.tc : Thread Cert.AdamProjIdeal.nD Cert.AdamProjIdeal.τ).loc Cert.AdamProjIdeal.main_arg5) = m ((c.tc : Thread Cert.AdamProjIdeal.nD Cert.AdamProjIdeal.τ).loc Cert.AdamProjIdeal.main_arg5)
          ∧ r.2.mem ((c.tc : Thread Cert.AdamProjIdeal.nD Cert.AdamProjIdeal.τ).loc Cert.AdamProjIdeal.main_arg6) = m ((c.tc : Thread Cert.AdamProjIdeal.nD Cert.AdamProjIdeal.τ).loc Cert.AdamProjIdeal.main_arg6)
          ∧ r.2.mem ((c.tc : Thread Cert.AdamProjIdeal.nD Cert.AdamProjIdeal.τ).loc Cert.AdamProjIdeal.main_arg7) = m ((c.tc : Thread Cert.AdamProjIdeal.nD Cert.AdamProjIdeal.τ).loc Cert.AdamProjIdeal.main_arg7)
          ∧ r.2.mem ((c.tc : Thread Cert.AdamProjIdeal.nD Cert.AdamProjIdeal.τ).loc Cert.AdamProjIdeal.main_arg8) = m ((c.tc : Thread Cert.AdamProjIdeal.nD Cert.AdamProjIdeal.τ).loc Cert.AdamProjIdeal.main_arg8)
          ∧ r.2.mem ((c.tc : Thread Cert.AdamProjIdeal.nD Cert.AdamProjIdeal.τ).loc Cert.AdamProjIdeal.main_arg9) = m ((c.tc : Thread Cert.AdamProjIdeal.nD Cert.AdamProjIdeal.τ).loc Cert.AdamProjIdeal.main_arg9)
          ∧ r.2.mem ((c.tc : Thread Cert.AdamProjIdeal.nD Cert.AdamProjIdeal.τ).loc Cert.AdamProjIdeal.main_arg10) = m ((c.tc : Thread Cert.AdamProjIdeal.nD Cert.AdamProjIdeal.τ).loc Cert.AdamProjIdeal.main_arg10))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v36) = v0 c
          ∧ r.2.mem ((c.tc : Thread Cert.AdamProjRefIdeal.nD Cert.AdamProjRefIdeal.τ).loc Cert.AdamProjRefIdeal.main_v38) = v1 c
          ∧ r.2.mem ((c.tc : Thread Cert.AdamProjRefIdeal.nD Cert.AdamProjRefIdeal.τ).loc Cert.AdamProjRefIdeal.main_v40) = v2 c
          ∧ r.2.mem ((c.tc : Thread Cert.AdamProjRefIdeal.nD Cert.AdamProjRefIdeal.τ).loc Cert.AdamProjRefIdeal.main_v42) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4)
          ∧ r.2.mem ((c.tc : Thread Cert.AdamProjRefIdeal.nD Cert.AdamProjRefIdeal.τ).loc Cert.AdamProjRefIdeal.main_arg5) = m' ((c.tc : Thread Cert.AdamProjRefIdeal.nD Cert.AdamProjRefIdeal.τ).loc Cert.AdamProjRefIdeal.main_arg5)
          ∧ r.2.mem ((c.tc : Thread Cert.AdamProjRefIdeal.nD Cert.AdamProjRefIdeal.τ).loc Cert.AdamProjRefIdeal.main_arg6) = m' ((c.tc : Thread Cert.AdamProjRefIdeal.nD Cert.AdamProjRefIdeal.τ).loc Cert.AdamProjRefIdeal.main_arg6)
          ∧ r.2.mem ((c.tc : Thread Cert.AdamProjRefIdeal.nD Cert.AdamProjRefIdeal.τ).loc Cert.AdamProjRefIdeal.main_arg7) = m' ((c.tc : Thread Cert.AdamProjRefIdeal.nD Cert.AdamProjRefIdeal.τ).loc Cert.AdamProjRefIdeal.main_arg7)
          ∧ r.2.mem ((c.tc : Thread Cert.AdamProjRefIdeal.nD Cert.AdamProjRefIdeal.τ).loc Cert.AdamProjRefIdeal.main_arg8) = m' ((c.tc : Thread Cert.AdamProjRefIdeal.nD Cert.AdamProjRefIdeal.τ).loc Cert.AdamProjRefIdeal.main_arg8)
          ∧ r.2.mem ((c.tc : Thread Cert.AdamProjRefIdeal.nD Cert.AdamProjRefIdeal.τ).loc Cert.AdamProjRefIdeal.main_arg9) = m' ((c.tc : Thread Cert.AdamProjRefIdeal.nD Cert.AdamProjRefIdeal.τ).loc Cert.AdamProjRefIdeal.main_arg9)
          ∧ r.2.mem ((c.tc : Thread Cert.AdamProjRefIdeal.nD Cert.AdamProjRefIdeal.τ).loc Cert.AdamProjRefIdeal.main_arg10) = m' ((c.tc : Thread Cert.AdamProjRefIdeal.nD Cert.AdamProjRefIdeal.τ).loc Cert.AdamProjRefIdeal.main_arg10))

def preserves_AdamUp2_AdamUp2Ideal : Prop :=
  True

def algebraic_AdamUp2Ideal_AdamUp2RefIdeal [hAdamUp2Ideal : Cert.AdamUp2Ideal.Facts] [hAdamUp2RefIdeal : Cert.AdamUp2RefIdeal.Facts] : Prop :=
  ∀ (m : (ℓ : Loc Cert.AdamUp2Ideal.nD Cert.AdamUp2Ideal.τ Cert.AdamUp2Ideal.sig) → Buf (Elt Ideal) ℓ) (g : Dev Cert.AdamUp2Ideal.nD → PrngReg)
    (m' : (ℓ : Loc Cert.AdamUp2RefIdeal.nD Cert.AdamUp2RefIdeal.τ Cert.AdamUp2RefIdeal.sig) → Buf (Elt Ideal) ℓ) (g' : Dev Cert.AdamUp2RefIdeal.nD → PrngReg), Pre_AdamUp2Ideal m →
    (∀ c : Dev Cert.AdamUp2Ideal.nD,
      m' ((c.tc : Thread Cert.AdamUp2RefIdeal.nD Cert.AdamUp2RefIdeal.τ).loc Cert.AdamUp2RefIdeal.main_arg0) = m ((c.tc : Thread Cert.AdamUp2Ideal.nD Cert.AdamUp2Ideal.τ).loc Cert.AdamUp2Ideal.main_arg0)
      ∧ m' ((c.tc : Thread Cert.AdamUp2RefIdeal.nD Cert.AdamUp2RefIdeal.τ).loc Cert.AdamUp2RefIdeal.main_arg1) = m ((c.tc : Thread Cert.AdamUp2Ideal.nD Cert.AdamUp2Ideal.τ).loc Cert.AdamUp2Ideal.main_arg1)
      ∧ m' ((c.tc : Thread Cert.AdamUp2RefIdeal.nD Cert.AdamUp2RefIdeal.τ).loc Cert.AdamUp2RefIdeal.main_arg2) = m ((c.tc : Thread Cert.AdamUp2Ideal.nD Cert.AdamUp2Ideal.τ).loc Cert.AdamUp2Ideal.main_arg2)
      ∧ m' ((c.tc : Thread Cert.AdamUp2RefIdeal.nD Cert.AdamUp2RefIdeal.τ).loc Cert.AdamUp2RefIdeal.main_arg3) = m ((c.tc : Thread Cert.AdamUp2Ideal.nD Cert.AdamUp2Ideal.τ).loc Cert.AdamUp2Ideal.main_arg3)
      ∧ m' ((c.tc : Thread Cert.AdamUp2RefIdeal.nD Cert.AdamUp2RefIdeal.τ).loc Cert.AdamUp2RefIdeal.main_arg4) = m ((c.tc : Thread Cert.AdamUp2Ideal.nD Cert.AdamUp2Ideal.τ).loc Cert.AdamUp2Ideal.main_arg4)
      ∧ m' ((c.tc : Thread Cert.AdamUp2RefIdeal.nD Cert.AdamUp2RefIdeal.τ).loc Cert.AdamUp2RefIdeal.main_arg5) = m ((c.tc : Thread Cert.AdamUp2Ideal.nD Cert.AdamUp2Ideal.τ).loc Cert.AdamUp2Ideal.main_arg5)
      ∧ m' ((c.tc : Thread Cert.AdamUp2RefIdeal.nD Cert.AdamUp2RefIdeal.τ).loc Cert.AdamUp2RefIdeal.main_arg6) = m ((c.tc : Thread Cert.AdamUp2Ideal.nD Cert.AdamUp2Ideal.τ).loc Cert.AdamUp2Ideal.main_arg6)) →
    ∃ (v0 : (c : Dev Cert.AdamUp2Ideal.nD) → Buf (Elt Ideal) ((c.tc : Thread Cert.AdamUp2Ideal.nD Cert.AdamUp2Ideal.τ).loc Cert.AdamUp2Ideal.main_v1)) (v1 : (c : Dev Cert.AdamUp2Ideal.nD) → Buf (Elt Ideal) ((c.tc : Thread Cert.AdamUp2Ideal.nD Cert.AdamUp2Ideal.τ).loc Cert.AdamUp2Ideal.main_v2)) (v2 : (c : Dev Cert.AdamUp2Ideal.nD) → Buf (Elt Ideal) ((c.tc : Thread Cert.AdamUp2Ideal.nD Cert.AdamUp2Ideal.τ).loc Cert.AdamUp2Ideal.main_v3)) (v3 : (c : Dev Cert.AdamUp2Ideal.nD) → Buf (Elt Ideal) ((c.tc : Thread Cert.AdamUp2Ideal.nD Cert.AdamUp2Ideal.τ).loc Cert.AdamUp2Ideal.main_v4)),
      θ_run (Cert.AdamUp2Ideal.defs (F := Ideal)) (onTc (τ := Cert.AdamUp2Ideal.τ) (Cert.AdamUp2Ideal.main (F := Ideal))) ⟨m, fun _ => 0, g⟩ (fun r => ∀ c : Dev Cert.AdamUp2Ideal.nD,
          r.2.mem ((c.tc : Thread Cert.AdamUp2Ideal.nD Cert.AdamUp2Ideal.τ).loc Cert.AdamUp2Ideal.main_v1) = v0 c
          ∧ r.2.mem ((c.tc : Thread Cert.AdamUp2Ideal.nD Cert.AdamUp2Ideal.τ).loc Cert.AdamUp2Ideal.main_v2) = v1 c
          ∧ r.2.mem ((c.tc : Thread Cert.AdamUp2Ideal.nD Cert.AdamUp2Ideal.τ).loc Cert.AdamUp2Ideal.main_v3) = v2 c
          ∧ r.2.mem ((c.tc : Thread Cert.AdamUp2Ideal.nD Cert.AdamUp2Ideal.τ).loc Cert.AdamUp2Ideal.main_v4) = v3 c
          ∧ r.2.mem ((c.tc : Thread Cert.AdamUp2Ideal.nD Cert.AdamUp2Ideal.τ).loc Cert.AdamUp2Ideal.main_arg0) = m ((c.tc : Thread Cert.AdamUp2Ideal.nD Cert.AdamUp2Ideal.τ).loc Cert.AdamUp2Ideal.main_arg0)
          ∧ r.2.mem ((c.tc : Thread Cert.AdamUp2Ideal.nD Cert.AdamUp2Ideal.τ).loc Cert.AdamUp2Ideal.main_arg1) = m ((c.tc : Thread Cert.AdamUp2Ideal.nD Cert.AdamUp2Ideal.τ).loc Cert.AdamUp2Ideal.main_arg1)
          ∧ r.2.mem ((c.tc : Thread Cert.AdamUp2Ideal.nD Cert.AdamUp2Ideal.τ).loc Cert.AdamUp2Ideal.main_arg2) = m ((c.tc : Thread Cert.AdamUp2Ideal.nD Cert.AdamUp2Ideal.τ).loc Cert.AdamUp2Ideal.main_arg2)
          ∧ r.2.mem ((c.tc : Thread Cert.AdamUp2Ideal.nD Cert.AdamUp2Ideal.τ).loc Cert.AdamUp2Ideal.main_arg3) = m ((c.tc : Thread Cert.AdamUp2Ideal.nD Cert.AdamUp2Ideal.τ).loc Cert.AdamUp2Ideal.main_arg3)
          ∧ r.2.mem ((c.tc : Thread Cert.AdamUp2Ideal.nD Cert.AdamUp2Ideal.τ).loc Cert.AdamUp2Ideal.main_arg4) = m ((c.tc : Thread Cert.AdamUp2Ideal.nD Cert.AdamUp2Ideal.τ).loc Cert.AdamUp2Ideal.main_arg4)
          ∧ r.2.mem ((c.tc : Thread Cert.AdamUp2Ideal.nD Cert.AdamUp2Ideal.τ).loc Cert.AdamUp2Ideal.main_arg5) = m ((c.tc : Thread Cert.AdamUp2Ideal.nD Cert.AdamUp2Ideal.τ).loc Cert.AdamUp2Ideal.main_arg5)
          ∧ r.2.mem ((c.tc : Thread Cert.AdamUp2Ideal.nD Cert.AdamUp2Ideal.τ).loc Cert.AdamUp2Ideal.main_arg6) = m ((c.tc : Thread Cert.AdamUp2Ideal.nD Cert.AdamUp2Ideal.τ).loc Cert.AdamUp2Ideal.main_arg6))
      ∧ θ_run (Cert.AdamUp2RefIdeal.defs (F := Ideal)) (onTc (τ := Cert.AdamUp2RefIdeal.τ) (Cert.AdamUp2RefIdeal.main (F := Ideal))) ⟨m', fun _ => 0, g'⟩ (fun r => ∀ c : Dev Cert.AdamUp2RefIdeal.nD,
          r.2.mem ((c.tc : Thread Cert.AdamUp2RefIdeal.nD Cert.AdamUp2RefIdeal.τ).loc Cert.AdamUp2RefIdeal.main_v8) = v0 c
          ∧ r.2.mem ((c.tc : Thread Cert.AdamUp2RefIdeal.nD Cert.AdamUp2RefIdeal.τ).loc Cert.AdamUp2RefIdeal.main_v34) = v1 c
          ∧ r.2.mem ((c.tc : Thread Cert.AdamUp2RefIdeal.nD Cert.AdamUp2RefIdeal.τ).loc Cert.AdamUp2RefIdeal.main_v15) = v2 c
          ∧ r.2.mem ((c.tc : Thread Cert.AdamUp2RefIdeal.nD Cert.AdamUp2RefIdeal.τ).loc Cert.AdamUp2RefIdeal.main_v21) = v3 c
          ∧ r.2.mem ((c.tc : Thread Cert.AdamUp2RefIdeal.nD Cert.AdamUp2RefIdeal.τ).loc Cert.AdamUp2RefIdeal.main_arg0) = m' ((c.tc : Thread Cert.AdamUp2RefIdeal.nD Cert.AdamUp2RefIdeal.τ).loc Cert.AdamUp2RefIdeal.main_arg0)
          ∧ r.2.mem ((c.tc : Thread Cert.AdamUp2RefIdeal.nD Cert.AdamUp2RefIdeal.τ).loc Cert.AdamUp2RefIdeal.main_arg1) = m' ((c.tc : Thread Cert.AdamUp2RefIdeal.nD Cert.AdamUp2RefIdeal.τ).loc Cert.AdamUp2RefIdeal.main_arg1)
          ∧ r.2.mem ((c.tc : Thread Cert.AdamUp2RefIdeal.nD Cert.AdamUp2RefIdeal.τ).loc Cert.AdamUp2RefIdeal.main_arg2) = m' ((c.tc : Thread Cert.AdamUp2RefIdeal.nD Cert.AdamUp2RefIdeal.τ).loc Cert.AdamUp2RefIdeal.main_arg2)
          ∧ r.2.mem ((c.tc : Thread Cert.AdamUp2RefIdeal.nD Cert.AdamUp2RefIdeal.τ).loc Cert.AdamUp2RefIdeal.main_arg3) = m' ((c.tc : Thread Cert.AdamUp2RefIdeal.nD Cert.AdamUp2RefIdeal.τ).loc Cert.AdamUp2RefIdeal.main_arg3)
          ∧ r.2.mem ((c.tc : Thread Cert.AdamUp2RefIdeal.nD Cert.AdamUp2RefIdeal.τ).loc Cert.AdamUp2RefIdeal.main_arg4) = m' ((c.tc : Thread Cert.AdamUp2RefIdeal.nD Cert.AdamUp2RefIdeal.τ).loc Cert.AdamUp2RefIdeal.main_arg4)
          ∧ r.2.mem ((c.tc : Thread Cert.AdamUp2RefIdeal.nD Cert.AdamUp2RefIdeal.τ).loc Cert.AdamUp2RefIdeal.main_arg5) = m' ((c.tc : Thread Cert.AdamUp2RefIdeal.nD Cert.AdamUp2RefIdeal.τ).loc Cert.AdamUp2RefIdeal.main_arg5)
          ∧ r.2.mem ((c.tc : Thread Cert.AdamUp2RefIdeal.nD Cert.AdamUp2RefIdeal.τ).loc Cert.AdamUp2RefIdeal.main_arg6) = m' ((c.tc : Thread Cert.AdamUp2RefIdeal.nD Cert.AdamUp2RefIdeal.τ).loc Cert.AdamUp2RefIdeal.main_arg6))

def preserves_AdamDown2_AdamDown2Ideal : Prop :=
  True

def algebraic_AdamDown2Ideal_AdamDown2RefIdeal [hAdamDown2Ideal : Cert.AdamDown2Ideal.Facts] [hAdamDown2RefIdeal : Cert.AdamDown2RefIdeal.Facts] : Prop :=
  ∀ (m : (ℓ : Loc Cert.AdamDown2Ideal.nD Cert.AdamDown2Ideal.τ Cert.AdamDown2Ideal.sig) → Buf (Elt Ideal) ℓ) (g : Dev Cert.AdamDown2Ideal.nD → PrngReg)
    (m' : (ℓ : Loc Cert.AdamDown2RefIdeal.nD Cert.AdamDown2RefIdeal.τ Cert.AdamDown2RefIdeal.sig) → Buf (Elt Ideal) ℓ) (g' : Dev Cert.AdamDown2RefIdeal.nD → PrngReg), Pre_AdamDown2Ideal m →
    (∀ c : Dev Cert.AdamDown2Ideal.nD,
      m' ((c.tc : Thread Cert.AdamDown2RefIdeal.nD Cert.AdamDown2RefIdeal.τ).loc Cert.AdamDown2RefIdeal.main_arg0) = m ((c.tc : Thread Cert.AdamDown2Ideal.nD Cert.AdamDown2Ideal.τ).loc Cert.AdamDown2Ideal.main_arg0)
      ∧ m' ((c.tc : Thread Cert.AdamDown2RefIdeal.nD Cert.AdamDown2RefIdeal.τ).loc Cert.AdamDown2RefIdeal.main_arg1) = m ((c.tc : Thread Cert.AdamDown2Ideal.nD Cert.AdamDown2Ideal.τ).loc Cert.AdamDown2Ideal.main_arg1)
      ∧ m' ((c.tc : Thread Cert.AdamDown2RefIdeal.nD Cert.AdamDown2RefIdeal.τ).loc Cert.AdamDown2RefIdeal.main_arg2) = m ((c.tc : Thread Cert.AdamDown2Ideal.nD Cert.AdamDown2Ideal.τ).loc Cert.AdamDown2Ideal.main_arg2)
      ∧ m' ((c.tc : Thread Cert.AdamDown2RefIdeal.nD Cert.AdamDown2RefIdeal.τ).loc Cert.AdamDown2RefIdeal.main_arg3) = m ((c.tc : Thread Cert.AdamDown2Ideal.nD Cert.AdamDown2Ideal.τ).loc Cert.AdamDown2Ideal.main_arg3)
      ∧ m' ((c.tc : Thread Cert.AdamDown2RefIdeal.nD Cert.AdamDown2RefIdeal.τ).loc Cert.AdamDown2RefIdeal.main_arg4) = m ((c.tc : Thread Cert.AdamDown2Ideal.nD Cert.AdamDown2Ideal.τ).loc Cert.AdamDown2Ideal.main_arg4)
      ∧ m' ((c.tc : Thread Cert.AdamDown2RefIdeal.nD Cert.AdamDown2RefIdeal.τ).loc Cert.AdamDown2RefIdeal.main_arg5) = m ((c.tc : Thread Cert.AdamDown2Ideal.nD Cert.AdamDown2Ideal.τ).loc Cert.AdamDown2Ideal.main_arg5)
      ∧ m' ((c.tc : Thread Cert.AdamDown2RefIdeal.nD Cert.AdamDown2RefIdeal.τ).loc Cert.AdamDown2RefIdeal.main_arg6) = m ((c.tc : Thread Cert.AdamDown2Ideal.nD Cert.AdamDown2Ideal.τ).loc Cert.AdamDown2Ideal.main_arg6)) →
    ∃ (v0 : (c : Dev Cert.AdamDown2Ideal.nD) → Buf (Elt Ideal) ((c.tc : Thread Cert.AdamDown2Ideal.nD Cert.AdamDown2Ideal.τ).loc Cert.AdamDown2Ideal.main_v1)) (v1 : (c : Dev Cert.AdamDown2Ideal.nD) → Buf (Elt Ideal) ((c.tc : Thread Cert.AdamDown2Ideal.nD Cert.AdamDown2Ideal.τ).loc Cert.AdamDown2Ideal.main_v2)) (v2 : (c : Dev Cert.AdamDown2Ideal.nD) → Buf (Elt Ideal) ((c.tc : Thread Cert.AdamDown2Ideal.nD Cert.AdamDown2Ideal.τ).loc Cert.AdamDown2Ideal.main_v3)) (v3 : (c : Dev Cert.AdamDown2Ideal.nD) → Buf (Elt Ideal) ((c.tc : Thread Cert.AdamDown2Ideal.nD Cert.AdamDown2Ideal.τ).loc Cert.AdamDown2Ideal.main_v4)),
      θ_run (Cert.AdamDown2Ideal.defs (F := Ideal)) (onTc (τ := Cert.AdamDown2Ideal.τ) (Cert.AdamDown2Ideal.main (F := Ideal))) ⟨m, fun _ => 0, g⟩ (fun r => ∀ c : Dev Cert.AdamDown2Ideal.nD,
          r.2.mem ((c.tc : Thread Cert.AdamDown2Ideal.nD Cert.AdamDown2Ideal.τ).loc Cert.AdamDown2Ideal.main_v1) = v0 c
          ∧ r.2.mem ((c.tc : Thread Cert.AdamDown2Ideal.nD Cert.AdamDown2Ideal.τ).loc Cert.AdamDown2Ideal.main_v2) = v1 c
          ∧ r.2.mem ((c.tc : Thread Cert.AdamDown2Ideal.nD Cert.AdamDown2Ideal.τ).loc Cert.AdamDown2Ideal.main_v3) = v2 c
          ∧ r.2.mem ((c.tc : Thread Cert.AdamDown2Ideal.nD Cert.AdamDown2Ideal.τ).loc Cert.AdamDown2Ideal.main_v4) = v3 c
          ∧ r.2.mem ((c.tc : Thread Cert.AdamDown2Ideal.nD Cert.AdamDown2Ideal.τ).loc Cert.AdamDown2Ideal.main_arg0) = m ((c.tc : Thread Cert.AdamDown2Ideal.nD Cert.AdamDown2Ideal.τ).loc Cert.AdamDown2Ideal.main_arg0)
          ∧ r.2.mem ((c.tc : Thread Cert.AdamDown2Ideal.nD Cert.AdamDown2Ideal.τ).loc Cert.AdamDown2Ideal.main_arg1) = m ((c.tc : Thread Cert.AdamDown2Ideal.nD Cert.AdamDown2Ideal.τ).loc Cert.AdamDown2Ideal.main_arg1)
          ∧ r.2.mem ((c.tc : Thread Cert.AdamDown2Ideal.nD Cert.AdamDown2Ideal.τ).loc Cert.AdamDown2Ideal.main_arg2) = m ((c.tc : Thread Cert.AdamDown2Ideal.nD Cert.AdamDown2Ideal.τ).loc Cert.AdamDown2Ideal.main_arg2)
          ∧ r.2.mem ((c.tc : Thread Cert.AdamDown2Ideal.nD Cert.AdamDown2Ideal.τ).loc Cert.AdamDown2Ideal.main_arg3) = m ((c.tc : Thread Cert.AdamDown2Ideal.nD Cert.AdamDown2Ideal.τ).loc Cert.AdamDown2Ideal.main_arg3)
          ∧ r.2.mem ((c.tc : Thread Cert.AdamDown2Ideal.nD Cert.AdamDown2Ideal.τ).loc Cert.AdamDown2Ideal.main_arg4) = m ((c.tc : Thread Cert.AdamDown2Ideal.nD Cert.AdamDown2Ideal.τ).loc Cert.AdamDown2Ideal.main_arg4)
          ∧ r.2.mem ((c.tc : Thread Cert.AdamDown2Ideal.nD Cert.AdamDown2Ideal.τ).loc Cert.AdamDown2Ideal.main_arg5) = m ((c.tc : Thread Cert.AdamDown2Ideal.nD Cert.AdamDown2Ideal.τ).loc Cert.AdamDown2Ideal.main_arg5)
          ∧ r.2.mem ((c.tc : Thread Cert.AdamDown2Ideal.nD Cert.AdamDown2Ideal.τ).loc Cert.AdamDown2Ideal.main_arg6) = m ((c.tc : Thread Cert.AdamDown2Ideal.nD Cert.AdamDown2Ideal.τ).loc Cert.AdamDown2Ideal.main_arg6))
      ∧ θ_run (Cert.AdamDown2RefIdeal.defs (F := Ideal)) (onTc (τ := Cert.AdamDown2RefIdeal.τ) (Cert.AdamDown2RefIdeal.main (F := Ideal))) ⟨m', fun _ => 0, g'⟩ (fun r => ∀ c : Dev Cert.AdamDown2RefIdeal.nD,
          r.2.mem ((c.tc : Thread Cert.AdamDown2RefIdeal.nD Cert.AdamDown2RefIdeal.τ).loc Cert.AdamDown2RefIdeal.main_v8) = v0 c
          ∧ r.2.mem ((c.tc : Thread Cert.AdamDown2RefIdeal.nD Cert.AdamDown2RefIdeal.τ).loc Cert.AdamDown2RefIdeal.main_v34) = v1 c
          ∧ r.2.mem ((c.tc : Thread Cert.AdamDown2RefIdeal.nD Cert.AdamDown2RefIdeal.τ).loc Cert.AdamDown2RefIdeal.main_v15) = v2 c
          ∧ r.2.mem ((c.tc : Thread Cert.AdamDown2RefIdeal.nD Cert.AdamDown2RefIdeal.τ).loc Cert.AdamDown2RefIdeal.main_v21) = v3 c
          ∧ r.2.mem ((c.tc : Thread Cert.AdamDown2RefIdeal.nD Cert.AdamDown2RefIdeal.τ).loc Cert.AdamDown2RefIdeal.main_arg0) = m' ((c.tc : Thread Cert.AdamDown2RefIdeal.nD Cert.AdamDown2RefIdeal.τ).loc Cert.AdamDown2RefIdeal.main_arg0)
          ∧ r.2.mem ((c.tc : Thread Cert.AdamDown2RefIdeal.nD Cert.AdamDown2RefIdeal.τ).loc Cert.AdamDown2RefIdeal.main_arg1) = m' ((c.tc : Thread Cert.AdamDown2RefIdeal.nD Cert.AdamDown2RefIdeal.τ).loc Cert.AdamDown2RefIdeal.main_arg1)
          ∧ r.2.mem ((c.tc : Thread Cert.AdamDown2RefIdeal.nD Cert.AdamDown2RefIdeal.τ).loc Cert.AdamDown2RefIdeal.main_arg2) = m' ((c.tc : Thread Cert.AdamDown2RefIdeal.nD Cert.AdamDown2RefIdeal.τ).loc Cert.AdamDown2RefIdeal.main_arg2)
          ∧ r.2.mem ((c.tc : Thread Cert.AdamDown2RefIdeal.nD Cert.AdamDown2RefIdeal.τ).loc Cert.AdamDown2RefIdeal.main_arg3) = m' ((c.tc : Thread Cert.AdamDown2RefIdeal.nD Cert.AdamDown2RefIdeal.τ).loc Cert.AdamDown2RefIdeal.main_arg3)
          ∧ r.2.mem ((c.tc : Thread Cert.AdamDown2RefIdeal.nD Cert.AdamDown2RefIdeal.τ).loc Cert.AdamDown2RefIdeal.main_arg4) = m' ((c.tc : Thread Cert.AdamDown2RefIdeal.nD Cert.AdamDown2RefIdeal.τ).loc Cert.AdamDown2RefIdeal.main_arg4)
          ∧ r.2.mem ((c.tc : Thread Cert.AdamDown2RefIdeal.nD Cert.AdamDown2RefIdeal.τ).loc Cert.AdamDown2RefIdeal.main_arg5) = m' ((c.tc : Thread Cert.AdamDown2RefIdeal.nD Cert.AdamDown2RefIdeal.τ).loc Cert.AdamDown2RefIdeal.main_arg5)
          ∧ r.2.mem ((c.tc : Thread Cert.AdamDown2RefIdeal.nD Cert.AdamDown2RefIdeal.τ).loc Cert.AdamDown2RefIdeal.main_arg6) = m' ((c.tc : Thread Cert.AdamDown2RefIdeal.nD Cert.AdamDown2RefIdeal.τ).loc Cert.AdamDown2RefIdeal.main_arg6))

def preserves_AdamGate2_AdamGate2Ideal : Prop :=
  True

def algebraic_AdamGate2Ideal_AdamGate2RefIdeal [hAdamGate2Ideal : Cert.AdamGate2Ideal.Facts] [hAdamGate2RefIdeal : Cert.AdamGate2RefIdeal.Facts] : Prop :=
  ∀ (m : (ℓ : Loc Cert.AdamGate2Ideal.nD Cert.AdamGate2Ideal.τ Cert.AdamGate2Ideal.sig) → Buf (Elt Ideal) ℓ) (g : Dev Cert.AdamGate2Ideal.nD → PrngReg)
    (m' : (ℓ : Loc Cert.AdamGate2RefIdeal.nD Cert.AdamGate2RefIdeal.τ Cert.AdamGate2RefIdeal.sig) → Buf (Elt Ideal) ℓ) (g' : Dev Cert.AdamGate2RefIdeal.nD → PrngReg), Pre_AdamGate2Ideal m →
    (∀ c : Dev Cert.AdamGate2Ideal.nD,
      m' ((c.tc : Thread Cert.AdamGate2RefIdeal.nD Cert.AdamGate2RefIdeal.τ).loc Cert.AdamGate2RefIdeal.main_arg0) = m ((c.tc : Thread Cert.AdamGate2Ideal.nD Cert.AdamGate2Ideal.τ).loc Cert.AdamGate2Ideal.main_arg0)
      ∧ m' ((c.tc : Thread Cert.AdamGate2RefIdeal.nD Cert.AdamGate2RefIdeal.τ).loc Cert.AdamGate2RefIdeal.main_arg1) = m ((c.tc : Thread Cert.AdamGate2Ideal.nD Cert.AdamGate2Ideal.τ).loc Cert.AdamGate2Ideal.main_arg1)
      ∧ m' ((c.tc : Thread Cert.AdamGate2RefIdeal.nD Cert.AdamGate2RefIdeal.τ).loc Cert.AdamGate2RefIdeal.main_arg2) = m ((c.tc : Thread Cert.AdamGate2Ideal.nD Cert.AdamGate2Ideal.τ).loc Cert.AdamGate2Ideal.main_arg2)
      ∧ m' ((c.tc : Thread Cert.AdamGate2RefIdeal.nD Cert.AdamGate2RefIdeal.τ).loc Cert.AdamGate2RefIdeal.main_arg3) = m ((c.tc : Thread Cert.AdamGate2Ideal.nD Cert.AdamGate2Ideal.τ).loc Cert.AdamGate2Ideal.main_arg3)
      ∧ m' ((c.tc : Thread Cert.AdamGate2RefIdeal.nD Cert.AdamGate2RefIdeal.τ).loc Cert.AdamGate2RefIdeal.main_arg4) = m ((c.tc : Thread Cert.AdamGate2Ideal.nD Cert.AdamGate2Ideal.τ).loc Cert.AdamGate2Ideal.main_arg4)
      ∧ m' ((c.tc : Thread Cert.AdamGate2RefIdeal.nD Cert.AdamGate2RefIdeal.τ).loc Cert.AdamGate2RefIdeal.main_arg5) = m ((c.tc : Thread Cert.AdamGate2Ideal.nD Cert.AdamGate2Ideal.τ).loc Cert.AdamGate2Ideal.main_arg5)
      ∧ m' ((c.tc : Thread Cert.AdamGate2RefIdeal.nD Cert.AdamGate2RefIdeal.τ).loc Cert.AdamGate2RefIdeal.main_arg6) = m ((c.tc : Thread Cert.AdamGate2Ideal.nD Cert.AdamGate2Ideal.τ).loc Cert.AdamGate2Ideal.main_arg6)) →
    ∃ (v0 : (c : Dev Cert.AdamGate2Ideal.nD) → Buf (Elt Ideal) ((c.tc : Thread Cert.AdamGate2Ideal.nD Cert.AdamGate2Ideal.τ).loc Cert.AdamGate2Ideal.main_v1)) (v1 : (c : Dev Cert.AdamGate2Ideal.nD) → Buf (Elt Ideal) ((c.tc : Thread Cert.AdamGate2Ideal.nD Cert.AdamGate2Ideal.τ).loc Cert.AdamGate2Ideal.main_v2)) (v2 : (c : Dev Cert.AdamGate2Ideal.nD) → Buf (Elt Ideal) ((c.tc : Thread Cert.AdamGate2Ideal.nD Cert.AdamGate2Ideal.τ).loc Cert.AdamGate2Ideal.main_v3)) (v3 : (c : Dev Cert.AdamGate2Ideal.nD) → Buf (Elt Ideal) ((c.tc : Thread Cert.AdamGate2Ideal.nD Cert.AdamGate2Ideal.τ).loc Cert.AdamGate2Ideal.main_v4)),
      θ_run (Cert.AdamGate2Ideal.defs (F := Ideal)) (onTc (τ := Cert.AdamGate2Ideal.τ) (Cert.AdamGate2Ideal.main (F := Ideal))) ⟨m, fun _ => 0, g⟩ (fun r => ∀ c : Dev Cert.AdamGate2Ideal.nD,
          r.2.mem ((c.tc : Thread Cert.AdamGate2Ideal.nD Cert.AdamGate2Ideal.τ).loc Cert.AdamGate2Ideal.main_v1) = v0 c
          ∧ r.2.mem ((c.tc : Thread Cert.AdamGate2Ideal.nD Cert.AdamGate2Ideal.τ).loc Cert.AdamGate2Ideal.main_v2) = v1 c
          ∧ r.2.mem ((c.tc : Thread Cert.AdamGate2Ideal.nD Cert.AdamGate2Ideal.τ).loc Cert.AdamGate2Ideal.main_v3) = v2 c
          ∧ r.2.mem ((c.tc : Thread Cert.AdamGate2Ideal.nD Cert.AdamGate2Ideal.τ).loc Cert.AdamGate2Ideal.main_v4) = v3 c
          ∧ r.2.mem ((c.tc : Thread Cert.AdamGate2Ideal.nD Cert.AdamGate2Ideal.τ).loc Cert.AdamGate2Ideal.main_arg0) = m ((c.tc : Thread Cert.AdamGate2Ideal.nD Cert.AdamGate2Ideal.τ).loc Cert.AdamGate2Ideal.main_arg0)
          ∧ r.2.mem ((c.tc : Thread Cert.AdamGate2Ideal.nD Cert.AdamGate2Ideal.τ).loc Cert.AdamGate2Ideal.main_arg1) = m ((c.tc : Thread Cert.AdamGate2Ideal.nD Cert.AdamGate2Ideal.τ).loc Cert.AdamGate2Ideal.main_arg1)
          ∧ r.2.mem ((c.tc : Thread Cert.AdamGate2Ideal.nD Cert.AdamGate2Ideal.τ).loc Cert.AdamGate2Ideal.main_arg2) = m ((c.tc : Thread Cert.AdamGate2Ideal.nD Cert.AdamGate2Ideal.τ).loc Cert.AdamGate2Ideal.main_arg2)
          ∧ r.2.mem ((c.tc : Thread Cert.AdamGate2Ideal.nD Cert.AdamGate2Ideal.τ).loc Cert.AdamGate2Ideal.main_arg3) = m ((c.tc : Thread Cert.AdamGate2Ideal.nD Cert.AdamGate2Ideal.τ).loc Cert.AdamGate2Ideal.main_arg3)
          ∧ r.2.mem ((c.tc : Thread Cert.AdamGate2Ideal.nD Cert.AdamGate2Ideal.τ).loc Cert.AdamGate2Ideal.main_arg4) = m ((c.tc : Thread Cert.AdamGate2Ideal.nD Cert.AdamGate2Ideal.τ).loc Cert.AdamGate2Ideal.main_arg4)
          ∧ r.2.mem ((c.tc : Thread Cert.AdamGate2Ideal.nD Cert.AdamGate2Ideal.τ).loc Cert.AdamGate2Ideal.main_arg5) = m ((c.tc : Thread Cert.AdamGate2Ideal.nD Cert.AdamGate2Ideal.τ).loc Cert.AdamGate2Ideal.main_arg5)
          ∧ r.2.mem ((c.tc : Thread Cert.AdamGate2Ideal.nD Cert.AdamGate2Ideal.τ).loc Cert.AdamGate2Ideal.main_arg6) = m ((c.tc : Thread Cert.AdamGate2Ideal.nD Cert.AdamGate2Ideal.τ).loc Cert.AdamGate2Ideal.main_arg6))
      ∧ θ_run (Cert.AdamGate2RefIdeal.defs (F := Ideal)) (onTc (τ := Cert.AdamGate2RefIdeal.τ) (Cert.AdamGate2RefIdeal.main (F := Ideal))) ⟨m', fun _ => 0, g'⟩ (fun r => ∀ c : Dev Cert.AdamGate2RefIdeal.nD,
          r.2.mem ((c.tc : Thread Cert.AdamGate2RefIdeal.nD Cert.AdamGate2RefIdeal.τ).loc Cert.AdamGate2RefIdeal.main_v8) = v0 c
          ∧ r.2.mem ((c.tc : Thread Cert.AdamGate2RefIdeal.nD Cert.AdamGate2RefIdeal.τ).loc Cert.AdamGate2RefIdeal.main_v34) = v1 c
          ∧ r.2.mem ((c.tc : Thread Cert.AdamGate2RefIdeal.nD Cert.AdamGate2RefIdeal.τ).loc Cert.AdamGate2RefIdeal.main_v15) = v2 c
          ∧ r.2.mem ((c.tc : Thread Cert.AdamGate2RefIdeal.nD Cert.AdamGate2RefIdeal.τ).loc Cert.AdamGate2RefIdeal.main_v21) = v3 c
          ∧ r.2.mem ((c.tc : Thread Cert.AdamGate2RefIdeal.nD Cert.AdamGate2RefIdeal.τ).loc Cert.AdamGate2RefIdeal.main_arg0) = m' ((c.tc : Thread Cert.AdamGate2RefIdeal.nD Cert.AdamGate2RefIdeal.τ).loc Cert.AdamGate2RefIdeal.main_arg0)
          ∧ r.2.mem ((c.tc : Thread Cert.AdamGate2RefIdeal.nD Cert.AdamGate2RefIdeal.τ).loc Cert.AdamGate2RefIdeal.main_arg1) = m' ((c.tc : Thread Cert.AdamGate2RefIdeal.nD Cert.AdamGate2RefIdeal.τ).loc Cert.AdamGate2RefIdeal.main_arg1)
          ∧ r.2.mem ((c.tc : Thread Cert.AdamGate2RefIdeal.nD Cert.AdamGate2RefIdeal.τ).loc Cert.AdamGate2RefIdeal.main_arg2) = m' ((c.tc : Thread Cert.AdamGate2RefIdeal.nD Cert.AdamGate2RefIdeal.τ).loc Cert.AdamGate2RefIdeal.main_arg2)
          ∧ r.2.mem ((c.tc : Thread Cert.AdamGate2RefIdeal.nD Cert.AdamGate2RefIdeal.τ).loc Cert.AdamGate2RefIdeal.main_arg3) = m' ((c.tc : Thread Cert.AdamGate2RefIdeal.nD Cert.AdamGate2RefIdeal.τ).loc Cert.AdamGate2RefIdeal.main_arg3)
          ∧ r.2.mem ((c.tc : Thread Cert.AdamGate2RefIdeal.nD Cert.AdamGate2RefIdeal.τ).loc Cert.AdamGate2RefIdeal.main_arg4) = m' ((c.tc : Thread Cert.AdamGate2RefIdeal.nD Cert.AdamGate2RefIdeal.τ).loc Cert.AdamGate2RefIdeal.main_arg4)
          ∧ r.2.mem ((c.tc : Thread Cert.AdamGate2RefIdeal.nD Cert.AdamGate2RefIdeal.τ).loc Cert.AdamGate2RefIdeal.main_arg5) = m' ((c.tc : Thread Cert.AdamGate2RefIdeal.nD Cert.AdamGate2RefIdeal.τ).loc Cert.AdamGate2RefIdeal.main_arg5)
          ∧ r.2.mem ((c.tc : Thread Cert.AdamGate2RefIdeal.nD Cert.AdamGate2RefIdeal.τ).loc Cert.AdamGate2RefIdeal.main_arg6) = m' ((c.tc : Thread Cert.AdamGate2RefIdeal.nD Cert.AdamGate2RefIdeal.τ).loc Cert.AdamGate2RefIdeal.main_arg6))

def preserves_AdamProj2_AdamProj2Ideal : Prop :=
  True

def algebraic_AdamProj2Ideal_AdamProj2RefIdeal [hAdamProj2Ideal : Cert.AdamProj2Ideal.Facts] [hAdamProj2RefIdeal : Cert.AdamProj2RefIdeal.Facts] : Prop :=
  ∀ (m : (ℓ : Loc Cert.AdamProj2Ideal.nD Cert.AdamProj2Ideal.τ Cert.AdamProj2Ideal.sig) → Buf (Elt Ideal) ℓ) (g : Dev Cert.AdamProj2Ideal.nD → PrngReg)
    (m' : (ℓ : Loc Cert.AdamProj2RefIdeal.nD Cert.AdamProj2RefIdeal.τ Cert.AdamProj2RefIdeal.sig) → Buf (Elt Ideal) ℓ) (g' : Dev Cert.AdamProj2RefIdeal.nD → PrngReg), Pre_AdamProj2Ideal m →
    (∀ c : Dev Cert.AdamProj2Ideal.nD,
      m' ((c.tc : Thread Cert.AdamProj2RefIdeal.nD Cert.AdamProj2RefIdeal.τ).loc Cert.AdamProj2RefIdeal.main_arg0) = m ((c.tc : Thread Cert.AdamProj2Ideal.nD Cert.AdamProj2Ideal.τ).loc Cert.AdamProj2Ideal.main_arg0)
      ∧ m' ((c.tc : Thread Cert.AdamProj2RefIdeal.nD Cert.AdamProj2RefIdeal.τ).loc Cert.AdamProj2RefIdeal.main_arg1) = m ((c.tc : Thread Cert.AdamProj2Ideal.nD Cert.AdamProj2Ideal.τ).loc Cert.AdamProj2Ideal.main_arg1)
      ∧ m' ((c.tc : Thread Cert.AdamProj2RefIdeal.nD Cert.AdamProj2RefIdeal.τ).loc Cert.AdamProj2RefIdeal.main_arg2) = m ((c.tc : Thread Cert.AdamProj2Ideal.nD Cert.AdamProj2Ideal.τ).loc Cert.AdamProj2Ideal.main_arg2)
      ∧ m' ((c.tc : Thread Cert.AdamProj2RefIdeal.nD Cert.AdamProj2RefIdeal.τ).loc Cert.AdamProj2RefIdeal.main_arg3) = m ((c.tc : Thread Cert.AdamProj2Ideal.nD Cert.AdamProj2Ideal.τ).loc Cert.AdamProj2Ideal.main_arg3)
      ∧ m' ((c.tc : Thread Cert.AdamProj2RefIdeal.nD Cert.AdamProj2RefIdeal.τ).loc Cert.AdamProj2RefIdeal.main_arg4) = m ((c.tc : Thread Cert.AdamProj2Ideal.nD Cert.AdamProj2Ideal.τ).loc Cert.AdamProj2Ideal.main_arg4)
      ∧ m' ((c.tc : Thread Cert.AdamProj2RefIdeal.nD Cert.AdamProj2RefIdeal.τ).loc Cert.AdamProj2RefIdeal.main_arg5) = m ((c.tc : Thread Cert.AdamProj2Ideal.nD Cert.AdamProj2Ideal.τ).loc Cert.AdamProj2Ideal.main_arg5)
      ∧ m' ((c.tc : Thread Cert.AdamProj2RefIdeal.nD Cert.AdamProj2RefIdeal.τ).loc Cert.AdamProj2RefIdeal.main_arg6) = m ((c.tc : Thread Cert.AdamProj2Ideal.nD Cert.AdamProj2Ideal.τ).loc Cert.AdamProj2Ideal.main_arg6)) →
    ∃ (v0 : (c : Dev Cert.AdamProj2Ideal.nD) → Buf (Elt Ideal) ((c.tc : Thread Cert.AdamProj2Ideal.nD Cert.AdamProj2Ideal.τ).loc Cert.AdamProj2Ideal.main_v1)) (v1 : (c : Dev Cert.AdamProj2Ideal.nD) → Buf (Elt Ideal) ((c.tc : Thread Cert.AdamProj2Ideal.nD Cert.AdamProj2Ideal.τ).loc Cert.AdamProj2Ideal.main_v2)) (v2 : (c : Dev Cert.AdamProj2Ideal.nD) → Buf (Elt Ideal) ((c.tc : Thread Cert.AdamProj2Ideal.nD Cert.AdamProj2Ideal.τ).loc Cert.AdamProj2Ideal.main_v3)) (v3 : (c : Dev Cert.AdamProj2Ideal.nD) → Buf (Elt Ideal) ((c.tc : Thread Cert.AdamProj2Ideal.nD Cert.AdamProj2Ideal.τ).loc Cert.AdamProj2Ideal.main_v4)),
      θ_run (Cert.AdamProj2Ideal.defs (F := Ideal)) (onTc (τ := Cert.AdamProj2Ideal.τ) (Cert.AdamProj2Ideal.main (F := Ideal))) ⟨m, fun _ => 0, g⟩ (fun r => ∀ c : Dev Cert.AdamProj2Ideal.nD,
          r.2.mem ((c.tc : Thread Cert.AdamProj2Ideal.nD Cert.AdamProj2Ideal.τ).loc Cert.AdamProj2Ideal.main_v1) = v0 c
          ∧ r.2.mem ((c.tc : Thread Cert.AdamProj2Ideal.nD Cert.AdamProj2Ideal.τ).loc Cert.AdamProj2Ideal.main_v2) = v1 c
          ∧ r.2.mem ((c.tc : Thread Cert.AdamProj2Ideal.nD Cert.AdamProj2Ideal.τ).loc Cert.AdamProj2Ideal.main_v3) = v2 c
          ∧ r.2.mem ((c.tc : Thread Cert.AdamProj2Ideal.nD Cert.AdamProj2Ideal.τ).loc Cert.AdamProj2Ideal.main_v4) = v3 c
          ∧ r.2.mem ((c.tc : Thread Cert.AdamProj2Ideal.nD Cert.AdamProj2Ideal.τ).loc Cert.AdamProj2Ideal.main_arg0) = m ((c.tc : Thread Cert.AdamProj2Ideal.nD Cert.AdamProj2Ideal.τ).loc Cert.AdamProj2Ideal.main_arg0)
          ∧ r.2.mem ((c.tc : Thread Cert.AdamProj2Ideal.nD Cert.AdamProj2Ideal.τ).loc Cert.AdamProj2Ideal.main_arg1) = m ((c.tc : Thread Cert.AdamProj2Ideal.nD Cert.AdamProj2Ideal.τ).loc Cert.AdamProj2Ideal.main_arg1)
          ∧ r.2.mem ((c.tc : Thread Cert.AdamProj2Ideal.nD Cert.AdamProj2Ideal.τ).loc Cert.AdamProj2Ideal.main_arg2) = m ((c.tc : Thread Cert.AdamProj2Ideal.nD Cert.AdamProj2Ideal.τ).loc Cert.AdamProj2Ideal.main_arg2)
          ∧ r.2.mem ((c.tc : Thread Cert.AdamProj2Ideal.nD Cert.AdamProj2Ideal.τ).loc Cert.AdamProj2Ideal.main_arg3) = m ((c.tc : Thread Cert.AdamProj2Ideal.nD Cert.AdamProj2Ideal.τ).loc Cert.AdamProj2Ideal.main_arg3)
          ∧ r.2.mem ((c.tc : Thread Cert.AdamProj2Ideal.nD Cert.AdamProj2Ideal.τ).loc Cert.AdamProj2Ideal.main_arg4) = m ((c.tc : Thread Cert.AdamProj2Ideal.nD Cert.AdamProj2Ideal.τ).loc Cert.AdamProj2Ideal.main_arg4)
          ∧ r.2.mem ((c.tc : Thread Cert.AdamProj2Ideal.nD Cert.AdamProj2Ideal.τ).loc Cert.AdamProj2Ideal.main_arg5) = m ((c.tc : Thread Cert.AdamProj2Ideal.nD Cert.AdamProj2Ideal.τ).loc Cert.AdamProj2Ideal.main_arg5)
          ∧ r.2.mem ((c.tc : Thread Cert.AdamProj2Ideal.nD Cert.AdamProj2Ideal.τ).loc Cert.AdamProj2Ideal.main_arg6) = m ((c.tc : Thread Cert.AdamProj2Ideal.nD Cert.AdamProj2Ideal.τ).loc Cert.AdamProj2Ideal.main_arg6))
      ∧ θ_run (Cert.AdamProj2RefIdeal.defs (F := Ideal)) (onTc (τ := Cert.AdamProj2RefIdeal.τ) (Cert.AdamProj2RefIdeal.main (F := Ideal))) ⟨m', fun _ => 0, g'⟩ (fun r => ∀ c : Dev Cert.AdamProj2RefIdeal.nD,
          r.2.mem ((c.tc : Thread Cert.AdamProj2RefIdeal.nD Cert.AdamProj2RefIdeal.τ).loc Cert.AdamProj2RefIdeal.main_v8) = v0 c
          ∧ r.2.mem ((c.tc : Thread Cert.AdamProj2RefIdeal.nD Cert.AdamProj2RefIdeal.τ).loc Cert.AdamProj2RefIdeal.main_v34) = v1 c
          ∧ r.2.mem ((c.tc : Thread Cert.AdamProj2RefIdeal.nD Cert.AdamProj2RefIdeal.τ).loc Cert.AdamProj2RefIdeal.main_v15) = v2 c
          ∧ r.2.mem ((c.tc : Thread Cert.AdamProj2RefIdeal.nD Cert.AdamProj2RefIdeal.τ).loc Cert.AdamProj2RefIdeal.main_v21) = v3 c
          ∧ r.2.mem ((c.tc : Thread Cert.AdamProj2RefIdeal.nD Cert.AdamProj2RefIdeal.τ).loc Cert.AdamProj2RefIdeal.main_arg0) = m' ((c.tc : Thread Cert.AdamProj2RefIdeal.nD Cert.AdamProj2RefIdeal.τ).loc Cert.AdamProj2RefIdeal.main_arg0)
          ∧ r.2.mem ((c.tc : Thread Cert.AdamProj2RefIdeal.nD Cert.AdamProj2RefIdeal.τ).loc Cert.AdamProj2RefIdeal.main_arg1) = m' ((c.tc : Thread Cert.AdamProj2RefIdeal.nD Cert.AdamProj2RefIdeal.τ).loc Cert.AdamProj2RefIdeal.main_arg1)
          ∧ r.2.mem ((c.tc : Thread Cert.AdamProj2RefIdeal.nD Cert.AdamProj2RefIdeal.τ).loc Cert.AdamProj2RefIdeal.main_arg2) = m' ((c.tc : Thread Cert.AdamProj2RefIdeal.nD Cert.AdamProj2RefIdeal.τ).loc Cert.AdamProj2RefIdeal.main_arg2)
          ∧ r.2.mem ((c.tc : Thread Cert.AdamProj2RefIdeal.nD Cert.AdamProj2RefIdeal.τ).loc Cert.AdamProj2RefIdeal.main_arg3) = m' ((c.tc : Thread Cert.AdamProj2RefIdeal.nD Cert.AdamProj2RefIdeal.τ).loc Cert.AdamProj2RefIdeal.main_arg3)
          ∧ r.2.mem ((c.tc : Thread Cert.AdamProj2RefIdeal.nD Cert.AdamProj2RefIdeal.τ).loc Cert.AdamProj2RefIdeal.main_arg4) = m' ((c.tc : Thread Cert.AdamProj2RefIdeal.nD Cert.AdamProj2RefIdeal.τ).loc Cert.AdamProj2RefIdeal.main_arg4)
          ∧ r.2.mem ((c.tc : Thread Cert.AdamProj2RefIdeal.nD Cert.AdamProj2RefIdeal.τ).loc Cert.AdamProj2RefIdeal.main_arg5) = m' ((c.tc : Thread Cert.AdamProj2RefIdeal.nD Cert.AdamProj2RefIdeal.τ).loc Cert.AdamProj2RefIdeal.main_arg5)
          ∧ r.2.mem ((c.tc : Thread Cert.AdamProj2RefIdeal.nD Cert.AdamProj2RefIdeal.τ).loc Cert.AdamProj2RefIdeal.main_arg6) = m' ((c.tc : Thread Cert.AdamProj2RefIdeal.nD Cert.AdamProj2RefIdeal.τ).loc Cert.AdamProj2RefIdeal.main_arg6))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v7_0)) (v1 : (c : Dev Cert.LossHeadIdeal.nD) → Buf (Elt Ideal) ((c.tc : Thread Cert.LossHeadIdeal.nD Cert.LossHeadIdeal.τ).loc Cert.LossHeadIdeal.main_v7_1)) (v2 : (c : Dev Cert.LossHeadIdeal.nD) → Buf (Elt Ideal) ((c.tc : Thread Cert.LossHeadIdeal.nD Cert.LossHeadIdeal.τ).loc Cert.LossHeadIdeal.main_v7_2)) (v3 : (c : Dev Cert.LossHeadIdeal.nD) → Buf (Elt Ideal) ((c.tc : Thread Cert.LossHeadIdeal.nD Cert.LossHeadIdeal.τ).loc Cert.LossHeadIdeal.main_v7_3)) (v4 : (c : Dev Cert.LossHeadIdeal.nD) → Buf (Elt Ideal) ((c.tc : Thread Cert.LossHeadIdeal.nD Cert.LossHeadIdeal.τ).loc Cert.LossHeadIdeal.main_v7_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v7_0) = v0 c
          ∧ r.2.mem ((c.tc : Thread Cert.LossHeadIdeal.nD Cert.LossHeadIdeal.τ).loc Cert.LossHeadIdeal.main_v7_1) = v1 c
          ∧ r.2.mem ((c.tc : Thread Cert.LossHeadIdeal.nD Cert.LossHeadIdeal.τ).loc Cert.LossHeadIdeal.main_v7_2) = v2 c
          ∧ r.2.mem ((c.tc : Thread Cert.LossHeadIdeal.nD Cert.LossHeadIdeal.τ).loc Cert.LossHeadIdeal.main_v7_3) = v3 c
          ∧ r.2.mem ((c.tc : Thread Cert.LossHeadIdeal.nD Cert.LossHeadIdeal.τ).loc Cert.LossHeadIdeal.main_v7_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v48) = v0 c
          ∧ r.2.mem ((c.tc : Thread Cert.LossHeadRefIdeal.nD Cert.LossHeadRefIdeal.τ).loc Cert.LossHeadRefIdeal.main_v62) = v1 c
          ∧ r.2.mem ((c.tc : Thread Cert.LossHeadRefIdeal.nD Cert.LossHeadRefIdeal.τ).loc Cert.LossHeadRefIdeal.main_v63) = v2 c
          ∧ r.2.mem ((c.tc : Thread Cert.LossHeadRefIdeal.nD Cert.LossHeadRefIdeal.τ).loc Cert.LossHeadRefIdeal.main_v32) = v3 c
          ∧ r.2.mem ((c.tc : Thread Cert.LossHeadRefIdeal.nD Cert.LossHeadRefIdeal.τ).loc Cert.LossHeadRefIdeal.main_v64) = v4 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_GmlpFwd_GmlpFwdIdeal : Prop :=
  IdealRules.named_const.Statement Cert.GmlpFwdIdeal.κ "gelu_c" .f32 0x3D372713#32 ((8943 / 200000 : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v1)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v1) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v50) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDw : Cert.DownDw.Facts) (hDownDwIdeal : Cert.DownDwIdeal.Facts) (hDownDwRefIdeal : Cert.DownDwRefIdeal.Facts) (hSqDw : Cert.SqDw.Facts) (hSqDwIdeal : Cert.SqDwIdeal.Facts) (hSqDwRefIdeal : Cert.SqDwRefIdeal.Facts) (hColDw : Cert.ColDw.Facts) (hColDwIdeal : Cert.ColDwIdeal.Facts) (hColDwRefIdeal : Cert.ColDwRefIdeal.Facts) (hProjDw : Cert.ProjDw.Facts) (hProjDwIdeal : Cert.ProjDwIdeal.Facts) (hProjDwRefIdeal : Cert.ProjDwRefIdeal.Facts) (hSqDx : Cert.SqDx.Facts) (hSqDxIdeal : Cert.SqDxIdeal.Facts) (hSqDxRefIdeal : Cert.SqDxRefIdeal.Facts) (hColDx : Cert.ColDx.Facts) (hColDxIdeal : Cert.ColDxIdeal.Facts) (hColDxRefIdeal : Cert.ColDxRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hGmIn : Cert.GmIn.Facts) (hGmInIdeal : Cert.GmInIdeal.Facts) (hGmInRefIdeal : Cert.GmInRefIdeal.Facts) (hGmOut : Cert.GmOut.Facts) (hGmOutIdeal : Cert.GmOutIdeal.Facts) (hGmOutRefIdeal : Cert.GmOutRefIdeal.Facts) (hS5In : Cert.S5In.Facts) (hS5InIdeal : Cert.S5InIdeal.Facts) (hS5InRefIdeal : Cert.S5InRefIdeal.Facts) (hS5Out : Cert.S5Out.Facts) (hS5OutIdeal : Cert.S5OutIdeal.Facts) (hS5OutRefIdeal : Cert.S5OutRefIdeal.Facts) (hPleGate : Cert.PleGate.Facts) (hPleGateIdeal : Cert.PleGateIdeal.Facts) (hPleGateRefIdeal : Cert.PleGateRefIdeal.Facts) (hRmsFwd : Cert.RmsFwd.Facts) (hRmsFwdIdeal : Cert.RmsFwdIdeal.Facts) (hRmsFwdRefIdeal : Cert.RmsFwdRefIdeal.Facts) (hPleBwd : Cert.PleBwd.Facts) (hPleBwdIdeal : Cert.PleBwdIdeal.Facts) (hPleBwdRefIdeal : Cert.PleBwdRefIdeal.Facts) (hGluBwd : Cert.GluBwd.Facts) (hGluBwdIdeal : Cert.GluBwdIdeal.Facts) (hGluBwdRefIdeal : Cert.GluBwdRefIdeal.Facts) (hRmsBwd : Cert.RmsBwd.Facts) (hRmsBwdIdeal : Cert.RmsBwdIdeal.Facts) (hRmsBwdRefIdeal : Cert.RmsBwdRefIdeal.Facts) (hAdamCol : Cert.AdamCol.Facts) (hAdamColIdeal : Cert.AdamColIdeal.Facts) (hAdamColRefIdeal : Cert.AdamColRefIdeal.Facts) (hAdamRow : Cert.AdamRow.Facts) (hAdamRowIdeal : Cert.AdamRowIdeal.Facts) (hAdamRowRefIdeal : Cert.AdamRowRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamGate : Cert.AdamGate.Facts) (hAdamGateIdeal : Cert.AdamGateIdeal.Facts) (hAdamGateRefIdeal : Cert.AdamGateRefIdeal.Facts) (hAdamProj : Cert.AdamProj.Facts) (hAdamProjIdeal : Cert.AdamProjIdeal.Facts) (hAdamProjRefIdeal : Cert.AdamProjRefIdeal.Facts) (hAdamUp2 : Cert.AdamUp2.Facts) (hAdamUp2Ideal : Cert.AdamUp2Ideal.Facts) (hAdamUp2RefIdeal : Cert.AdamUp2RefIdeal.Facts) (hAdamDown2 : Cert.AdamDown2.Facts) (hAdamDown2Ideal : Cert.AdamDown2Ideal.Facts) (hAdamDown2RefIdeal : Cert.AdamDown2RefIdeal.Facts) (hAdamGate2 : Cert.AdamGate2.Facts) (hAdamGate2Ideal : Cert.AdamGate2Ideal.Facts) (hAdamGate2RefIdeal : Cert.AdamGate2RefIdeal.Facts) (hAdamProj2 : Cert.AdamProj2.Facts) (hAdamProj2Ideal : Cert.AdamProj2Ideal.Facts) (hAdamProj2RefIdeal : Cert.AdamProj2RefIdeal.Facts) (hLossHead : Cert.LossHead.Facts) (hLossHeadIdeal : Cert.LossHeadIdeal.Facts) (hLossHeadRefIdeal : Cert.LossHeadRefIdeal.Facts) (hGmlpFwd : Cert.GmlpFwd.Facts) (hGmlpFwdIdeal : Cert.GmlpFwdIdeal.Facts) (hGmlpFwdRefIdeal : Cert.GmlpFwdRefIdeal.Facts) (hPre_finite : Cert.Pre_finite.Facts) (hPre_finite_down : Cert.Pre_finite_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxIdeal_pre_finite_down (hDownDxIdeal := hDownDxIdeal) (hPre_finite_down := hPre_finite_down)
    ∧ quiescent_DownDxRefIdeal (hDownDxRefIdeal := hDownDxRefIdeal)
    ∧ quiescent_DownDxRefIdeal_pre_finite_down (hDownDxRefIdeal := hDownDxRefIdeal) (hPre_finite_down := hPre_finite_down)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_SqDw (hSqDw := hSqDw)
    ∧ quiescent_SqDwIdeal (hSqDwIdeal := hSqDwIdeal)
    ∧ quiescent_SqDwRefIdeal (hSqDwRefIdeal := hSqDwRefIdeal)
    ∧ quiescent_ColDw (hColDw := hColDw)
    ∧ quiescent_ColDwIdeal (hColDwIdeal := hColDwIdeal)
    ∧ quiescent_ColDwRefIdeal (hColDwRefIdeal := hColDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_SqDx (hSqDx := hSqDx)
    ∧ quiescent_SqDxIdeal (hSqDxIdeal := hSqDxIdeal)
    ∧ quiescent_SqDxRefIdeal (hSqDxRefIdeal := hSqDxRefIdeal)
    ∧ quiescent_ColDx (hColDx := hColDx)
    ∧ quiescent_ColDxIdeal (hColDxIdeal := hColDxIdeal)
    ∧ quiescent_ColDxRefIdeal (hColDxRefIdeal := hColDxRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_GmIn (hGmIn := hGmIn)
    ∧ quiescent_GmInIdeal (hGmInIdeal := hGmInIdeal)
    ∧ quiescent_GmInRefIdeal (hGmInRefIdeal := hGmInRefIdeal)
    ∧ quiescent_GmOut (hGmOut := hGmOut)
    ∧ quiescent_GmOutIdeal (hGmOutIdeal := hGmOutIdeal)
    ∧ quiescent_GmOutRefIdeal (hGmOutRefIdeal := hGmOutRefIdeal)
    ∧ quiescent_S5In (hS5In := hS5In)
    ∧ quiescent_S5InIdeal (hS5InIdeal := hS5InIdeal)
    ∧ quiescent_S5InRefIdeal (hS5InRefIdeal := hS5InRefIdeal)
    ∧ quiescent_S5Out (hS5Out := hS5Out)
    ∧ quiescent_S5OutIdeal (hS5OutIdeal := hS5OutIdeal)
    ∧ quiescent_S5OutRefIdeal (hS5OutRefIdeal := hS5OutRefIdeal)
    ∧ quiescent_PleGate (hPleGate := hPleGate)
    ∧ quiescent_PleGateIdeal (hPleGateIdeal := hPleGateIdeal)
    ∧ quiescent_PleGateRefIdeal (hPleGateRefIdeal := hPleGateRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_PleBwd (hPleBwd := hPleBwd)
    ∧ quiescent_PleBwdIdeal (hPleBwdIdeal := hPleBwdIdeal)
    ∧ quiescent_PleBwdRefIdeal (hPleBwdRefIdeal := hPleBwdRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_AdamCol (hAdamCol := hAdamCol)
    ∧ quiescent_AdamColIdeal (hAdamColIdeal := hAdamColIdeal)
    ∧ quiescent_AdamColRefIdeal (hAdamColRefIdeal := hAdamColRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamUp2 (hAdamUp2 := hAdamUp2)
    ∧ quiescent_AdamUp2Ideal (hAdamUp2Ideal := hAdamUp2Ideal)
    ∧ quiescent_AdamUp2RefIdeal (hAdamUp2RefIdeal := hAdamUp2RefIdeal)
    ∧ quiescent_AdamDown2 (hAdamDown2 := hAdamDown2)
    ∧ quiescent_AdamDown2Ideal (hAdamDown2Ideal := hAdamDown2Ideal)
    ∧ quiescent_AdamDown2RefIdeal (hAdamDown2RefIdeal := hAdamDown2RefIdeal)
    ∧ quiescent_AdamGate2 (hAdamGate2 := hAdamGate2)
    ∧ quiescent_AdamGate2Ideal (hAdamGate2Ideal := hAdamGate2Ideal)
    ∧ quiescent_AdamGate2RefIdeal (hAdamGate2RefIdeal := hAdamGate2RefIdeal)
    ∧ quiescent_AdamProj2 (hAdamProj2 := hAdamProj2)
    ∧ quiescent_AdamProj2Ideal (hAdamProj2Ideal := hAdamProj2Ideal)
    ∧ quiescent_AdamProj2RefIdeal (hAdamProj2RefIdeal := hAdamProj2RefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal_pre_finite_down (hDownDxIdeal := hDownDxIdeal) (hDownDxRefIdeal := hDownDxRefIdeal) (hPre_finite_down := hPre_finite_down)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDw_DownDwIdeal
    ∧ algebraic_DownDwIdeal_DownDwRefIdeal (hDownDwIdeal := hDownDwIdeal) (hDownDwRefIdeal := hDownDwRefIdeal)
    ∧ preserves_SqDw_SqDwIdeal
    ∧ algebraic_SqDwIdeal_SqDwRefIdeal (hSqDwIdeal := hSqDwIdeal) (hSqDwRefIdeal := hSqDwRefIdeal)
    ∧ preserves_ColDw_ColDwIdeal
    ∧ algebraic_ColDwIdeal_ColDwRefIdeal (hColDwIdeal := hColDwIdeal) (hColDwRefIdeal := hColDwRefIdeal)
    ∧ preserves_ProjDw_ProjDwIdeal
    ∧ algebraic_ProjDwIdeal_ProjDwRefIdeal (hProjDwIdeal := hProjDwIdeal) (hProjDwRefIdeal := hProjDwRefIdeal)
    ∧ preserves_SqDx_SqDxIdeal
    ∧ algebraic_SqDxIdeal_SqDxRefIdeal (hSqDxIdeal := hSqDxIdeal) (hSqDxRefIdeal := hSqDxRefIdeal)
    ∧ preserves_ColDx_ColDxIdeal
    ∧ algebraic_ColDxIdeal_ColDxRefIdeal (hColDxIdeal := hColDxIdeal) (hColDxRefIdeal := hColDxRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_GmIn_GmInIdeal
    ∧ algebraic_GmInIdeal_GmInRefIdeal (hGmInIdeal := hGmInIdeal) (hGmInRefIdeal := hGmInRefIdeal)
    ∧ preserves_GmOut_GmOutIdeal
    ∧ algebraic_GmOutIdeal_GmOutRefIdeal (hGmOutIdeal := hGmOutIdeal) (hGmOutRefIdeal := hGmOutRefIdeal)
    ∧ preserves_S5In_S5InIdeal
    ∧ algebraic_S5InIdeal_S5InRefIdeal (hS5InIdeal := hS5InIdeal) (hS5InRefIdeal := hS5InRefIdeal)
    ∧ preserves_S5Out_S5OutIdeal
    ∧ algebraic_S5OutIdeal_S5OutRefIdeal (hS5OutIdeal := hS5OutIdeal) (hS5OutRefIdeal := hS5OutRefIdeal)
    ∧ preserves_PleGate_PleGateIdeal
    ∧ algebraic_PleGateIdeal_PleGateRefIdeal (hPleGateIdeal := hPleGateIdeal) (hPleGateRefIdeal := hPleGateRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_PleBwd_PleBwdIdeal
    ∧ algebraic_PleBwdIdeal_PleBwdRefIdeal (hPleBwdIdeal := hPleBwdIdeal) (hPleBwdRefIdeal := hPleBwdRefIdeal)
    ∧ preserves_GluBwd_GluBwdIdeal
    ∧ algebraic_GluBwdIdeal_GluBwdRefIdeal (hGluBwdIdeal := hGluBwdIdeal) (hGluBwdRefIdeal := hGluBwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_AdamCol_AdamColIdeal
    ∧ algebraic_AdamColIdeal_AdamColRefIdeal (hAdamColIdeal := hAdamColIdeal) (hAdamColRefIdeal := hAdamColRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamUp2_AdamUp2Ideal
    ∧ algebraic_AdamUp2Ideal_AdamUp2RefIdeal (hAdamUp2Ideal := hAdamUp2Ideal) (hAdamUp2RefIdeal := hAdamUp2RefIdeal)
    ∧ preserves_AdamDown2_AdamDown2Ideal
    ∧ algebraic_AdamDown2Ideal_AdamDown2RefIdeal (hAdamDown2Ideal := hAdamDown2Ideal) (hAdamDown2RefIdeal := hAdamDown2RefIdeal)
    ∧ preserves_AdamGate2_AdamGate2Ideal
    ∧ algebraic_AdamGate2Ideal_AdamGate2RefIdeal (hAdamGate2Ideal := hAdamGate2Ideal) (hAdamGate2RefIdeal := hAdamGate2RefIdeal)
    ∧ preserves_AdamProj2_AdamProj2Ideal
    ∧ algebraic_AdamProj2Ideal_AdamProj2RefIdeal (hAdamProj2Ideal := hAdamProj2Ideal) (hAdamProj2RefIdeal := hAdamProj2RefIdeal)
    ∧ preserves_LossHead_LossHeadIdeal
    ∧ algebraic_LossHeadIdeal_LossHeadRefIdeal (hLossHeadIdeal := hLossHeadIdeal) (hLossHeadRefIdeal := hLossHeadRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
-- ==== Pre_finite.lean ====
abbrev S2048x4096 : Shape := ⟨2, ![2048, 4096]⟩
abbrev S2048x2048 : Shape := ⟨2, ![2048, 2048]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S16x128x128 : S_.BroadcastsInDim S16x128x128 (![] : Fin 0 → Fin S16x128x128.rank)
  reducesTo_S16x128x128_S_d0_1_2 : S16x128x128.ReducesTo [0, 1, 2] S_
  bcast_S_S16x128 : S_.BroadcastsInDim S16x128 (![] : Fin 0 → Fin S16x128.rank)
  reducesTo_S16x128_S_d0_1 : S16x128.ReducesTo [0, 1] S_

variable [Facts]

def fn_part1 {F : FTy → Type} [FloatOps F] (main_arg4 : FVec F S16x128x128 .f32) (main_arg5 : FVec F S16x128 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S16x128x128 .f32 := Host.absf main_arg4
  let main_cst_6 : FVec F S_ .f32 := constant S_ .f32 0x7F800000#32
  let main_v20 : FVec F S16x128x128 .f32 := broadcastInDim S16x128x128 ![] bcast_S_S16x128x128 main_cst_6
  let main_v21 : IVec S16x128x128 1 := cmpf .olt main_v19 main_v20
  let main_c_7 : IVec S_ 1 := constantI S_ 1 1#1
  let main_v22 : IVec S_ 1 := (fun x v => Host.reduce IntOp.andi x v reducesTo_S16x128x128_S_d0_1_2 h_S_) main_v21 main_c_7
  let main_v23 : IVec S_ 1 := andi main_v18 main_v22
  let main_v24 : FVec F S16x128 .f32 := Host.absf main_arg5
  let main_cst_8 : FVec F S_ .f32 := constant S_ .f32 0x7F800000#32
  let main_v25 : FVec F S16x128 .f32 := broadcastInDim S16x128 ![] bcast_S_S16x128 main_cst_8
  let main_v26 : IVec S16x128 1 := cmpf .olt main_v24 main_v25
  let main_c_9 : IVec S_ 1 := constantI S_ 1 1#1
  let main_v27 : IVec S_ 1 := (fun x v => Host.reduce IntOp.andi x v reducesTo_S16x128_S_d0_1 h_S_) main_v26 main_c_9
  let main_v28 : IVec S_ 1 := andi main_v23 main_v27
  main_v28

def fn {F : FTy → Type} [FloatOps F] (main_arg0 : FVec F S2048x4096 .f32) (main_arg1 : FVec F S2048x2048 .f32) (main_arg2 : FVec F S1x2048 .f32) (main_arg3 : FVec F S1x2048 .f32) (main_arg4 : FVec F S16x128x128 .f32) (main_arg5 : FVec F S16x128 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Pre_finite_down.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x2048 .bf16) (main_arg1 : FVec F S5632x2048 .f32) (main_arg2 : FVec F S2048x5632 .bf16) (main_arg3 : FVec F S2048x5632 .bf16) : IVec S_ 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S5632x2048 .f32 := Host.absf main_arg1
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_c_1 : IVec S_ 1 := constantI S_ 1 1#1
  let main_v8 : IVec S_ 1 := (fun x v => Host.reduce IntOp.andi x v reducesTo_S5632x2048_S_d0_1 h_S_) main_v7 main_c_1
  let main_v9 : IVec S_ 1 := andi main_v4 main_v8
  let main_v10 : FVec F S2048x5632 .f32 := (extf .f32 · bitsLt_bf16_f32) main_arg3
  let main_v11 : FVec F S2048x5632 .f32 := Host.absf main_v10
  let main_cst_2 : FVec F S_ .f32 := constant S_ .f32 0x7F800000#32
  let main_v12 : FVec F S2048x5632 .f32 := broadcastInDim S2048x5632 ![] bcast_S_S2048x5632 main_cst_2
  let main_v13 : IVec S2048x5632 1 := cmpf .olt main_v11 main_v12
  let main_c_3 : IVec S_ 1 := constantI S_ 1 1#1
  let main_v14 : IVec S_ 1 := (fun x v => Host.reduce IntOp.andi x v reducesTo_S2048x5632_S_d0_1 h_S_) main_v13 main_c_3
  let main_v15 : IVec S_ 1 := andi main_v9 main_v14
  main_v15
-- ==== Kernel.lean ====
abbrev S2048x4096 : Shape := ⟨2, ![2048, 4096]⟩
abbrev S2048x2048 : Shape := ⟨2, ![2048, 2048]⟩
abbrev S1x2048 : Shape := ⟨2, ![1, 2048]⟩
abbrev S16x128x128 : Shape := ⟨3, ![16, 128, 128]⟩
abbrev S16x128 : Shape := ⟨2, ![16, 128]⟩
abbrev S128x16 : Shape := ⟨2, ![128, 16]⟩
abbrev S128x128 : Shape := ⟨2, ![128, 128]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S2048 : Shape := ⟨1, ![2048]⟩

abbrev nBuf : Space → Nat
  | .hbm => 12
  | .vmem => 14
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S16x128x128, .f32⟩
  | .hbm, ⟨5, _⟩ => ⟨S16x128, .f32⟩
  | .hbm, ⟨6, _⟩ => ⟨S128x16, .f32⟩
  | .hbm, ⟨7, _⟩ => ⟨S2048x4096, .bf16⟩
  | .hbm, ⟨8, _⟩ => ⟨S16x128x128, .f32⟩
  | .hbm, ⟨9, _⟩ => ⟨S128x128, .f32⟩
  | .hbm, ⟨10, _⟩ => ⟨S1x2048, .f32⟩
  | .hbm, ⟨11, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S16x128x128, .f32⟩
  | .local _ .vmem, ⟨7, _⟩ => ⟨S128x16, .f32⟩
  | .local _ .vmem, ⟨8, _⟩ => ⟨S128x4096, .bf16⟩
  | .local _ .vmem, ⟨9, _⟩ => ⟨S128x4096, .bf16⟩
  | .local _ .vmem, ⟨10, _⟩ => ⟨S16x128x128, .f32⟩
  | .local _ .vmem, ⟨11, _⟩ => ⟨S128x128, .f32⟩
  | .local _ .vmem, ⟨12, _⟩ => ⟨S1x2048, .f32⟩
  | .local _ .vmem, ⟨13, _⟩ => ⟨S1x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== ReferenceIdeal.lean ====
abbrev S2048x4096 : Shape := ⟨2, ![2048, 4096]⟩
abbrev S2048x2048 : Shape := ⟨2, ![2048, 2048]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S2048 : Shape := ⟨1, ![2048]⟩
abbrev S2048x1 : Shape := ⟨2, ![2048, 1]⟩
abbrev S16x128x16x128 : Shape := ⟨4, ![16, 128, 16, 128]⟩
abbrev S128x128 : Shape := ⟨2, ![128, 128]⟩
abbrev S16x16x128x128 : Shape := ⟨4, ![16, 16, 128, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 171
  | .vmem => 0
  | .smem => 0
  | _ => 0

abbrev hbmTy0_0 (i : Nat) : BufTy := match i % 128 with
  | 0 => ⟨S2048x4096, .f32⟩
  | 1 => ⟨S2048x2048, .f32⟩
  | 2 => ⟨S1x2048, .f32⟩
  | 3 => ⟨S1x2048, .f32⟩
  | 4 => ⟨S16x128x128, .f32⟩
  | 5 => ⟨S16x128, .f32⟩
  | 6 => ⟨S_, .f32⟩
  | 7 => ⟨S_, .f32⟩
  | 8 => ⟨S_, .f32⟩
  | 9 => ⟨S2048x4096, .f32⟩
  | 10 => ⟨S2048x4096, .f32⟩
  | 11 => ⟨S2048x4096, .f32⟩
  | 12 => ⟨S_, .f32⟩
  | 13 => ⟨S2048x4096, .f32⟩
  | 14 => ⟨S2048x4096, .f32⟩
  | 15 => ⟨S2048x4096, .f32⟩
  | 16 => ⟨S2048x4096, .f32⟩
  | 17 => ⟨S2048x4096, .f32⟩
  | 18 => ⟨S_, .f32⟩
  | 19 => ⟨S2048x4096, .f32⟩
  | 20 => ⟨S2048x4096, .f32⟩
  | 21 => ⟨S2048x4096, .f32⟩
  | 22 => ⟨S_, .f32⟩
  | 23 => ⟨S2048x4096, .f32⟩
  | 24 => ⟨S2048x4096, .f32⟩
  | 25 => ⟨S_, .f32⟩
  | 26 => ⟨S2048x4096, .f32⟩
  | 27 => ⟨S2048x4096, .f32⟩
  | 28 => ⟨S2048x4096, .f32⟩
  | 29 => ⟨S_, .f32⟩
  | 30 => ⟨S2048x4096, .f32⟩
  | 31 => ⟨S2048x4096, .f32⟩
  | 32 => ⟨S_, .f32⟩
  | 33 => ⟨S2048x4096, .f32⟩
  | 34 => ⟨S2048x4096, .f32⟩
  | 35 => ⟨S2048x4096, .f32⟩
  | 36 => ⟨S2048x2048, .f32⟩
  | 37 => ⟨S2048x2048, .f32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S2048x2048, .f32⟩
  | 45 => ⟨S2048x2048, .f32⟩
  | 46 => ⟨S2048x2048, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x2048, .f32⟩
  | 62 => ⟨S2048x2048, .f32⟩
  | 63 => ⟨S2048x2048, .f32⟩
  | 64 => ⟨S2048x2048, .f32⟩
  | 65 => ⟨S2048x2048, .f32⟩
  | 66 => ⟨S2048x2048, .f32⟩
  | 67 => ⟨S16x128x16x128, .f32⟩
  | 68 => ⟨S_, .i1⟩
  | 69 => ⟨S128x128, .i1⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .i1⟩
  | 77 => ⟨S128x128, .i1⟩
  | 78 => ⟨S128x128, .i1⟩
  | 79 => ⟨S_, .f32⟩
  | 80 => ⟨S16x128x128, .f32⟩
  | 81 => ⟨S16x128x128, .i1⟩
  | 82 => ⟨S16x128x128, .f32⟩
  | 83 => ⟨S_, .f32⟩
  | 84 => ⟨S16x128x128, .f32⟩
  | 85 => ⟨S16x16x128x128, .f32⟩
  | 86 => ⟨S16x128x16x128, .f32⟩
  | 87 => ⟨S128x16, .f32⟩
  | 88 => ⟨S128x16x1, .f32⟩
  | 89 => ⟨S1x128x16x1, .f32⟩
  | 90 => ⟨S16x128x16x128, .f32⟩
  | 91 => ⟨S16x128x16x128, .f32⟩
  | 92 => ⟨S2048x2048, .f32⟩
  | 93 => ⟨S2048x2048, .f32⟩
  | 94 => ⟨S2048x2048, .f32⟩
  | 95 => ⟨S2048x2048, .f32⟩
  | 96 => ⟨S16x128x16x128, .f32⟩
  | 97 => ⟨S_, .f32⟩
  | 98 => ⟨S128x16, .f32⟩
  | 99 => ⟨S1x128x16x1, .f32⟩
  | 100 => ⟨S_, .f32⟩
  | 101 => ⟨S128x16, .f32⟩
  | 102 => ⟨S128x16x1, .f32⟩
  | 103 => ⟨S_, .f32⟩
  | 104 => ⟨S128x16, .f32⟩
  | 105 => ⟨S16x128, .f32⟩
  | 106 => ⟨S16x16x128x128, .f32⟩
  | 107 => ⟨S16x128x128, .f32⟩
  | 108 => ⟨S16x16x128x128, .f32⟩
  | 109 => ⟨S16x128x16x128, .f32⟩
  | 110 => ⟨S_, .f32⟩
  | 111 => ⟨S16x128x128, .f32⟩
  | 112 => ⟨S16x128x128, .f32⟩
  | 113 => ⟨S2048x2048, .f32⟩
  | 114 => ⟨S_, .f32⟩
  | 115 => ⟨S2048, .f32⟩
  | 116 => ⟨S1x2048, .f32⟩
  | 117 => ⟨S2048x2048, .f32⟩
  | 118 => ⟨S_, .f32⟩
  | 119 => ⟨S2048, .f32⟩
  | 120 => ⟨S1x2048, .f32⟩
  | 121 => ⟨S2048x2048, .f32⟩
  | 122 => ⟨S2048x2048, .f32⟩
  | 123 => ⟨S2048x2048, .f32⟩
  | 124 => ⟨S_, .f32⟩
  | 125 => ⟨S2048, .f32⟩
  | 126 => ⟨S2048x1, .f32⟩
  | 127 => ⟨S2048x2048, .f32⟩
  | _ => ⟨S2048x4096, .f32⟩

abbrev hbmTy0_1 (i : Nat) : BufTy := match i % 128 with
  | 0 => ⟨S2048x2048, .f32⟩
  | 1 => ⟨S2048x1, .f32⟩
  | 2 => ⟨S_, .f32⟩
  | 3 => ⟨S2048x1, .f32⟩
  | 4 => ⟨S2048x1, .f32⟩
  | 5 => ⟨S_, .f32⟩
  | 6 => ⟨S2048, .f32⟩
  | 7 => ⟨S2048x2048, .f32⟩
  | 8 => ⟨S2048x2048, .f32⟩
  | 9 => ⟨S2048x2048, .f32⟩
  | 10 => ⟨S2048x2048, .f32⟩
  | 11 => ⟨S2048x2048, .f32⟩
  | 12 => ⟨S2048x2048, .f32⟩
  | 13 => ⟨S_, .f32⟩
  | 14 => ⟨S2048, .f32⟩
  | 15 => ⟨S2048x1, .f32⟩
  | 16 => ⟨S_, .f32⟩
  | 17 => ⟨S2048x1, .f32⟩
  | 18 => ⟨S2048x1, .f32⟩
  | 19 => ⟨S_, .f32⟩
  | 20 => ⟨S2048, .f32⟩
  | 21 => ⟨S2048x2048, .f32⟩
  | 22 => ⟨S2048x2048, .f32⟩
  | 23 => ⟨S2048x4096, .f32⟩
  | 24 => ⟨S2048x4096, .f32⟩
  | 25 => ⟨S2048x4096, .f32⟩
  | 26 => ⟨S_, .f32⟩
  | 27 => ⟨S2048x4096, .f32⟩
  | 28 => ⟨S2048x4096, .f32⟩
  | 29 => ⟨S2048x4096, .f32⟩
  | 30 => ⟨S_, .f32⟩
  | 31 => ⟨S2048x4096, .f32⟩
  | 32 => ⟨S2048x4096, .f32⟩
  | 33 => ⟨S2048x4096, .f32⟩
  | 34 => ⟨S2048x4096, .f32⟩
  | 35 => ⟨S2048x4096, .f32⟩
  | 36 => ⟨S2048x4096, .f32⟩
  | 37 => ⟨S2048x4096, .f32⟩
  | 38 => ⟨S2048x4096, .bf16⟩
  | 39 => ⟨S128x16, .f32⟩
  | 40 => ⟨S_, .i32⟩
  | 41 => ⟨S_, .f32⟩
  | 42 => ⟨S128x128, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c : Ref sig .tc := ⟨.hbm, 68, rfl⟩
abbrev main_v48 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51_1 : Ref sig .tc := ⟨.hbm, 81, rfl⟩
abbrev main_v51_0 : Ref sig .tc := ⟨.hbm, 82, rfl⟩
abbrev main_call1_cst : Ref sig .tc := ⟨.hbm, 83, rfl⟩
abbrev main_v51_2 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_cst_15 : Ref sig .tc := ⟨.hbm, 100, rfl⟩
abbrev main_v66 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call2_cst : Ref sig .tc := ⟨.hbm, 110, rfl⟩
abbrev main_call2_v0 : Ref sig .tc := ⟨.hbm, 111, rfl⟩
abbrev main_v74 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_18 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_19 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_v90 : Ref sig .tc := ⟨.hbm, 132, rfl⟩
abbrev main_cst_21 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_22 : Ref sig .tc := ⟨.hbm, 141, rfl⟩
abbrev main_v98 : Ref sig .tc := ⟨.hbm, 142, rfl⟩
abbrev main_v99 : Ref sig .tc := ⟨.hbm, 143, rfl⟩
abbrev main_cst_23 : Ref sig .tc := ⟨.hbm, 144, rfl⟩
abbrev main_v100 : Ref sig .tc := ⟨.hbm, 145, rfl⟩
abbrev main_v101 : Ref sig .tc := ⟨.hbm, 146, rfl⟩
abbrev main_cst_24 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_25 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_26 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_c_27 : Ref sig .tc := ⟨.hbm, 168, rfl⟩
abbrev main_call3_v0 : Ref sig .tc := ⟨.hbm, 169, rfl⟩
abbrev main_v120 : Ref sig .tc := ⟨.hbm, 170, rfl⟩

abbrev nD : Nat := 1
abbrev τ : Topo := Topo.v7x

variable {F : FTy → Type} [FloatOps F]
-- ==== DownDx.lean ====
abbrev S2048x2048 : Shape := ⟨2, ![2048, 2048]⟩
abbrev S5632x2048 : Shape := ⟨2, ![5632, 2048]⟩
abbrev S2048x5632 : Shape := ⟨2, ![2048, 5632]⟩
abbrev S4x1408x2x1024 : Shape := ⟨4, ![4, 1408, 2, 1024]⟩
abbrev S4x2x1408x1024 : Shape := ⟨4, ![4, 2, 1408, 1024]⟩
abbrev S1024x1024 : Shape := ⟨2, ![1024, 1024]⟩
abbrev S1x1x1408x1024 : Shape := ⟨4, ![1, 1, 1408, 1024]⟩
abbrev S1024x1408 : Shape := ⟨2, ![1024, 1408]⟩
abbrev S1408x1024 : Shape := ⟨2, ![1408, 1024]⟩

abbrev nBuf : Space → Nat
  | .hbm => 9
  | .vmem => 13
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S4x1408x2x1024, .bf16⟩
  | .hbm, ⟨6, _⟩ => ⟨S4x2x1408x1024, .bf16⟩
  | .hbm, ⟨7, _⟩ => ⟨S2048x5632, .bf16⟩
  | .hbm, ⟨8, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg2 c1_i32_5
  let c0_i32_6 : BitVec 32 := 0#32
  let v18 : BitVec 1 := Scalar.cmpi .sgt arg2 c0_i32_6
  let v19 : BitVec 32 := Scalar.extui v18
  let c0_i32_7 : BitVec 32 := 0#32
  let v20 : BitVec 1 := Scalar.cmpi .slt arg2 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg2 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownDxRefIdeal.lean ====
abbrev S2048x2048 : Shape := ⟨2, ![2048, 2048]⟩
abbrev S5632x2048 : Shape := ⟨2, ![5632, 2048]⟩
abbrev S2048x5632 : Shape := ⟨2, ![2048, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .f32⟩
  | .hbm, ⟨2, _⟩ => ⟨S2048x5632, .bf16⟩
  | .hbm, ⟨3, _⟩ => ⟨S2048x5632, .bf16⟩
  | .hbm, ⟨4, _⟩ => ⟨S2048x5632, .f32⟩
  | .hbm, ⟨5, _⟩ => ⟨S2048x5632, .f32⟩
  | .hbm, ⟨6, _⟩ => ⟨S2048x5632, .f32⟩
  | .hbm, ⟨7, _⟩ => ⟨S2048x5632, .f32⟩
  | .hbm, ⟨8, _⟩ => ⟨S_, .f32⟩
  | .hbm, ⟨9, _⟩ => ⟨S2048x5632, .f32⟩
  | .hbm, ⟨10, _⟩ => ⟨S2048x5632, .f32⟩
  | .hbm, ⟨11, _⟩ => ⟨S_, .f32⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x2048, .f32⟩
  | .hbm, ⟨21, _⟩ => ⟨S2048x2048, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .bf16⟩
  | .hbm, ⟨30, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== UpDx.lean ====
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S2048x2048 : Shape := ⟨2, ![2048, 2048]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S2048x5632, .bf16⟩
  | .hbm, ⟨5, _⟩ => ⟨S2x1024x4x1408, .bf16⟩
  | .hbm, ⟨6, _⟩ => ⟨S4x2x1024x1408, .bf16⟩
  | .hbm, ⟨7, _⟩ => ⟨S2048x5632, .bf16⟩
  | .hbm, ⟨8, _⟩ => ⟨S2x1024x4x1408, .bf16⟩
  | .hbm, ⟨9, _⟩ => ⟨S4x2x1024x1408, .bf16⟩
  | .hbm, ⟨10, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpDxRefIdeal.lean ====
abbrev S2048x5632 : Shape := ⟨2, ![2048, 5632]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S2048x5632, .f32⟩
  | .hbm, ⟨3, _⟩ => ⟨S2048x5632, .f32⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x5632, .f32⟩
  | .hbm, ⟨10, _⟩ => ⟨S2048x2048, .f32⟩
  | .hbm, ⟨11, _⟩ => ⟨S2048x2048, .f32⟩
  | .hbm, ⟨12, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpDw.lean ====
abbrev S2048x2048 : Shape := ⟨2, ![2048, 2048]⟩
abbrev S2048x5632 : Shape := ⟨2, ![2048, 5632]⟩
abbrev S2x4x1024x1408 : Shape := ⟨4, ![2, 4, 1024, 1408]⟩
abbrev S1024x1024 : Shape := ⟨2, ![1024, 1024]⟩
abbrev S1024x1408 : Shape := ⟨2, ![1024, 1408]⟩
abbrev S1x1x1024x1408 : Shape := ⟨4, ![1, 1, 1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S2x4x1024x1408, .bf16⟩
  | .hbm, ⟨4, _⟩ => ⟨S2x4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x1x1024x1408, .bf16⟩
  | .local _ .vmem, ⟨7, _⟩ => ⟨S1x1x1024x1408, .bf16⟩
  | .local _ .vmem, ⟨8, _⟩ => ⟨S1x1x1024x1408, .bf16⟩
  | .local _ .vmem, ⟨9, _⟩ => ⟨S1x1x1024x1408, .bf16⟩
  | .local _ .vmem, ⟨10, _⟩ => ⟨S1024x1408, .f32⟩
  | .local _ .vmem, ⟨11, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== UpDwRefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2x1024x4x1408 : Shape := ⟨4, ![2, 1024, 4, 1408]⟩
abbrev S2x4x1024x1408 : Shape := ⟨4, ![2, 4, 1024, 1408]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S2048x5632, .bf16⟩
  | .hbm, ⟨3, _⟩ => ⟨S_, .f32⟩
  | .hbm, ⟨4, _⟩ => ⟨S2048x5632, .f32⟩
  | .hbm, ⟨5, _⟩ => ⟨S2048x2048, .f32⟩
  | .hbm, ⟨6, _⟩ => ⟨S2048x5632, .f32⟩
  | .hbm, ⟨7, _⟩ => ⟨S2048x2048, .f32⟩
  | .hbm, ⟨8, _⟩ => ⟨S2048x5632, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S2048x5632, .bf16⟩
  | .hbm, ⟨16, _⟩ => ⟨S2x1024x4x1408, .bf16⟩
  | .hbm, ⟨17, _⟩ => ⟨S2x4x1024x1408, .bf16⟩
  | .hbm, ⟨18, _⟩ => ⟨S2048x5632, .bf16⟩
  | .hbm, ⟨19, _⟩ => ⟨S2x1024x4x1408, .bf16⟩
  | .hbm, ⟨20, _⟩ => ⟨S2x4x1024x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== DownDw.lean ====
abbrev S2048x5632 : Shape := ⟨2, ![2048, 5632]⟩
abbrev S2048x2048 : Shape := ⟨2, ![2048, 2048]⟩
abbrev S2x4x1408x1024 : Shape := ⟨4, ![2, 4, 1408, 1024]⟩
abbrev S1024x1408 : Shape := ⟨2, ![1024, 1408]⟩
abbrev S1024x1024 : Shape := ⟨2, ![1024, 1024]⟩
abbrev S1x1x1408x1024 : Shape := ⟨4, ![1, 1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2x4x1408x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1408x1024, .bf16⟩
  | .local _ .vmem, ⟨5, _⟩ => ⟨S1x1x1408x1024, .bf16⟩
  | .local _ .vmem, ⟨6, _⟩ => ⟨S1408x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S4x1408x2x1024 : Shape := ⟨4, ![4, 1408, 2, 1024]⟩
abbrev S2x4x1408x1024 : Shape := ⟨4, ![2, 4, 1408, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S4x1408x2x1024, .bf16⟩
  | .hbm, ⟨11, _⟩ => ⟨S2x4x1408x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SqDw.lean ====
abbrev S2048x2048 : Shape := ⟨2, ![2048, 2048]⟩
abbrev S2x4x512x1024 : Shape := ⟨4, ![2, 4, 512, 1024]⟩
abbrev S1024x512 : Shape := ⟨2, ![1024, 512]⟩
abbrev S1024x1024 : Shape := ⟨2, ![1024, 1024]⟩
abbrev S1x1x512x1024 : Shape := ⟨4, ![1, 1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2x4x512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x512x1024, .bf16⟩
  | .local _ .vmem, ⟨5, _⟩ => ⟨S1x1x512x1024, .bf16⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDwRefIdeal.lean ====
abbrev S2048x2048 : Shape := ⟨2, ![2048, 2048]⟩
abbrev S_ : Shape := ⟨0, ![]⟩
abbrev S4x512x2x1024 : Shape := ⟨4, ![4, 512, 2, 1024]⟩
abbrev S2x4x512x1024 : Shape := ⟨4, ![2, 4, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S4x512x2x1024, .bf16⟩
  | .hbm, ⟨11, _⟩ => ⟨S2x4x512x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ColDw.lean ====
abbrev S2048x2048 : Shape := ⟨2, ![2048, 2048]⟩
abbrev S2048x4096 : Shape := ⟨2, ![2048, 4096]⟩
abbrev S2x4x1024x1024 : Shape := ⟨4, ![2, 4, 1024, 1024]⟩
abbrev S1024x1024 : Shape := ⟨2, ![1024, 1024]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2x4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColDwRefIdeal.lean ====
abbrev S2048x2048 : Shape := ⟨2, ![2048, 2048]⟩
abbrev S2048x4096 : Shape := ⟨2, ![2048, 4096]⟩
abbrev S_ : Shape := ⟨0, ![]⟩
abbrev S4096x2048 : Shape := ⟨2, ![4096, 2048]⟩
abbrev S2x1024x4x1024 : Shape := ⟨4, ![2, 1024, 4, 1024]⟩
abbrev S2x4x1024x1024 : Shape := ⟨4, ![2, 4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .bf16⟩
  | .hbm, ⟨2, _⟩ => ⟨S2048x2048, .f32⟩
  | .hbm, ⟨3, _⟩ => ⟨S2048x4096, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2x1024x4x1024, .bf16⟩
  | .hbm, ⟨11, _⟩ => ⟨S2x4x1024x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjDw.lean ====
abbrev S2048x256 : Shape := ⟨2, ![2048, 256]⟩
abbrev S2048x2048 : Shape := ⟨2, ![2048, 2048]⟩
abbrev S2x4x128x512 : Shape := ⟨4, ![2, 4, 128, 512]⟩
abbrev S1024x128 : Shape := ⟨2, ![1024, 128]⟩
abbrev S1024x512 : Shape := ⟨2, ![1024, 512]⟩
abbrev S1x1x128x512 : Shape := ⟨4, ![1, 1, 128, 512]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S2x4x128x512, .bf16⟩
  | .local _ .vmem, ⟨0, _⟩ => ⟨S1024x128, .f32⟩
  | .local _ .vmem, ⟨1, _⟩ => ⟨S1024x128, .f32⟩
  | .local _ .vmem, ⟨2, _⟩ => ⟨S1024x512, .bf16⟩
  | .local _ .vmem, ⟨3, _⟩ => ⟨S1024x512, .bf16⟩
  | .local _ .vmem, ⟨4, _⟩ => ⟨S1x1x128x512, .bf16⟩
  | .local _ .vmem, ⟨5, _⟩ => ⟨S1x1x128x512, .bf16⟩
  | .local _ .vmem, ⟨6, _⟩ => ⟨S128x512, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v33.toNat, v16.toNat, v43.toNat, v53.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩
abbrev S2x128x4x512 : Shape := ⟨4, ![2, 128, 4, 512]⟩
abbrev S2x4x128x512 : Shape := ⟨4, ![2, 4, 128, 512]⟩

abbrev nBuf : Space → Nat
  | .hbm => 11
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S256x2048, .f32⟩
  | .hbm, ⟨5, _⟩ => ⟨S2048x2048, .f32⟩
  | .hbm, ⟨6, _⟩ => ⟨S2048x256, .f32⟩
  | .hbm, ⟨7, _⟩ => ⟨S256x2048, .f32⟩
  | .hbm, ⟨8, _⟩ => ⟨S256x2048, .bf16⟩
  | .hbm, ⟨9, _⟩ => ⟨S2x128x4x512, .bf16⟩
  | .hbm, ⟨10, _⟩ => ⟨S2x4x128x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SqDx.lean ====
abbrev S2048x2048 : Shape := ⟨2, ![2048, 2048]⟩
abbrev S4x512x2x1024 : Shape := ⟨4, ![4, 512, 2, 1024]⟩
abbrev S4x2x512x1024 : Shape := ⟨4, ![4, 2, 512, 1024]⟩
abbrev S2048x1024 : Shape := ⟨2, ![2048, 1024]⟩
abbrev S1x1x512x1024 : Shape := ⟨4, ![1, 1, 512, 1024]⟩
abbrev S2048x512 : Shape := ⟨2, ![2048, 512]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S4x512x2x1024, .bf16⟩
  | .hbm, ⟨4, _⟩ => ⟨S4x2x512x1024, .bf16⟩
  | .hbm, ⟨5, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg2 c1_i32_5
  let c0_i32_6 : BitVec 32 := 0#32
  let v18 : BitVec 1 := Scalar.cmpi .sgt arg2 c0_i32_6
  let v19 : BitVec 32 := Scalar.extui v18
  let c0_i32_7 : BitVec 32 := 0#32
  let v20 : BitVec 1 := Scalar.cmpi .slt arg2 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg2 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDxRefIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ColDx.lean ====
abbrev S2048x4096 : Shape := ⟨2, ![2048, 4096]⟩
abbrev S2x1024x4x1024 : Shape := ⟨4, ![2, 1024, 4, 1024]⟩
abbrev S4x2x1024x1024 : Shape := ⟨4, ![4, 2, 1024, 1024]⟩
abbrev S2048x2048 : Shape := ⟨2, ![2048, 2048]⟩
abbrev S1024x1024 : Shape := ⟨2, ![1024, 1024]⟩
abbrev S1x1x1024x1024 : Shape := ⟨4, ![1, 1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .f32⟩
  | .hbm, ⟨2, _⟩ => ⟨S2048x4096, .bf16⟩
  | .hbm, ⟨3, _⟩ => ⟨S2x1024x4x1024, .bf16⟩
  | .hbm, ⟨4, _⟩ => ⟨S4x2x1024x1024, .bf16⟩
  | .hbm, ⟨5, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg1 c1_i32_5
  let c0_i32_6 : BitVec 32 := 0#32
  let v18 : BitVec 1 := Scalar.cmpi .sgt arg1 c0_i32_6
  let v19 : BitVec 32 := Scalar.extui v18
  let c0_i32_7 : BitVec 32 := 0#32
  let v20 : BitVec 1 := Scalar.cmpi .slt arg1 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg1 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg1 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg2 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ColDxRefIdeal.lean ====
abbrev S2048x4096 : Shape := ⟨2, ![2048, 4096]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .f32⟩
  | .hbm, ⟨2, _⟩ => ⟨S2048x4096, .f32⟩
  | .hbm, ⟨3, _⟩ => ⟨S_, .f32⟩
  | .hbm, ⟨4, _⟩ => ⟨S2048x2048, .f32⟩
  | .hbm, ⟨5, _⟩ => ⟨S2048x4096, .f32⟩
  | .hbm, ⟨6, _⟩ => ⟨S2048x2048, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnUp.lean ====
abbrev S2048x2048 : Shape := ⟨2, ![2048, 2048]⟩
abbrev S2048x5632 : Shape := ⟨2, ![2048, 5632]⟩
abbrev S2x1024x4x1408 : Shape := ⟨4, ![2, 1024, 4, 1408]⟩
abbrev S4x2x1024x1408 : Shape := ⟨4, ![4, 2, 1024, 1408]⟩
abbrev S1024x1024 : Shape := ⟨2, ![1024, 1024]⟩
abbrev S1x1x1024x1408 : Shape := ⟨4, ![1, 1, 1024, 1408]⟩
abbrev S1024x1408 : Shape := ⟨2, ![1024, 1408]⟩

abbrev nBuf : Space → Nat
  | .hbm => 12
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2x1024x4x1408, .bf16⟩
  | .hbm, ⟨5, _⟩ => ⟨S4x2x1024x1408, .bf16⟩
  | .hbm, ⟨6, _⟩ => ⟨S2048x5632, .bf16⟩
  | .hbm, ⟨7, _⟩ => ⟨S2x1024x4x1408, .bf16⟩
  | .hbm, ⟨8, _⟩ => ⟨S4x2x1024x1408, .bf16⟩
  | .hbm, ⟨9, _⟩ => ⟨S2048x5632, .bf16⟩
  | .hbm, ⟨10, _⟩ => ⟨S2048x5632, .bf16⟩
  | .hbm, ⟨11, _⟩ => ⟨S2048x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .f32⟩
  | .local _ .vmem, ⟨13, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi arg2 c1_i32_6
  let c0_i32_7 : BitVec 32 := 0#32
  let v19 : BitVec 1 := Scalar.cmpi .sgt arg2 c0_i32_7
  let v20 : BitVec 32 := Scalar.extui v19
  let c0_i32_8 : BitVec 32 := 0#32
  let v21 : BitVec 1 := Scalar.cmpi .slt arg2 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg2 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi arg2 c1_i32_6
  let c0_i32_7 : BitVec 32 := 0#32
  let v19 : BitVec 1 := Scalar.cmpi .sgt arg2 c0_i32_7
  let v20 : BitVec 32 := Scalar.extui v19
  let c0_i32_8 : BitVec 32 := 0#32
  let v21 : BitVec 1 := Scalar.cmpi .slt arg2 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg2 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnUpRefIdeal.lean ====
abbrev S2048x2048 : Shape := ⟨2, ![2048, 2048]⟩
abbrev S2048x5632 : Shape := ⟨2, ![2048, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .f32⟩
  | .hbm, ⟨2, _⟩ => ⟨S2048x5632, .f32⟩
  | .hbm, ⟨3, _⟩ => ⟨S2048x2048, .f32⟩
  | .hbm, ⟨4, _⟩ => ⟨S2048x5632, .f32⟩
  | .hbm, ⟨5, _⟩ => ⟨S2048x5632, .f32⟩
  | .hbm, ⟨6, _⟩ => ⟨S2048x5632, .bf16⟩
  | .hbm, ⟨7, _⟩ => ⟨S2048x5632, .bf16⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S2048x5632, .f32⟩
  | .hbm, ⟨18, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== FfnDown.lean ====
abbrev S2048x5632 : Shape := ⟨2, ![2048, 5632]⟩
abbrev S5632x2048 : Shape := ⟨2, ![5632, 2048]⟩
abbrev S2048x2048 : Shape := ⟨2, ![2048, 2048]⟩
abbrev S4x1408x2x1024 : Shape := ⟨4, ![4, 1408, 2, 1024]⟩
abbrev S4x2x1408x1024 : Shape := ⟨4, ![4, 2, 1408, 1024]⟩
abbrev S1024x1408 : Shape := ⟨2, ![1024, 1408]⟩
abbrev S1x1x1408x1024 : Shape := ⟨4, ![1, 1, 1408, 1024]⟩
abbrev S1024x1024 : Shape := ⟨2, ![1024, 1024]⟩
abbrev S1408x1024 : Shape := ⟨2, ![1408, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S5632x2048, .bf16⟩
  | .hbm, ⟨4, _⟩ => ⟨S4x1408x2x1024, .bf16⟩
  | .hbm, ⟨5, _⟩ => ⟨S4x2x1408x1024, .bf16⟩
  | .hbm, ⟨6, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x1024, .bf16⟩
  | .local _ .vmem, ⟨3, _⟩ => ⟨S1x1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi v0 c1_i32_6
  let c0_i32_7 : BitVec 32 := 0#32
  let v19 : BitVec 1 := Scalar.cmpi .sgt v0 c0_i32_7
  let v20 : BitVec 32 := Scalar.extui v19
  let c0_i32_8 : BitVec 32 := 0#32
  let v21 : BitVec 1 := Scalar.cmpi .slt v0 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v0 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .f32⟩
  | .hbm, ⟨2, _⟩ => ⟨S2048x2048, .f32⟩
  | .hbm, ⟨3, _⟩ => ⟨S2048x5632, .f32⟩
  | .hbm, ⟨4, _⟩ => ⟨S2048x2048, .f32⟩
  | .hbm, ⟨5, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GmIn.lean ====
abbrev S2048x2048 : Shape := ⟨2, ![2048, 2048]⟩
abbrev S2048x4096 : Shape := ⟨2, ![2048, 4096]⟩
abbrev S2x1024x4x1024 : Shape := ⟨4, ![2, 1024, 4, 1024]⟩
abbrev S4x2x1024x1024 : Shape := ⟨4, ![4, 2, 1024, 1024]⟩
abbrev S1024x1024 : Shape := ⟨2, ![1024, 1024]⟩
abbrev S1x1x1024x1024 : Shape := ⟨4, ![1, 1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x4096, .bf16⟩
  | .hbm, ⟨3, _⟩ => ⟨S2x1024x4x1024, .bf16⟩
  | .hbm, ⟨4, _⟩ => ⟨S4x2x1024x1024, .bf16⟩
  | .hbm, ⟨5, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi arg2 c1_i32_6
  let c0_i32_7 : BitVec 32 := 0#32
  let v19 : BitVec 1 := Scalar.cmpi .sgt arg2 c0_i32_7
  let v20 : BitVec 32 := Scalar.extui v19
  let c0_i32_8 : BitVec 32 := 0#32
  let v21 : BitVec 1 := Scalar.cmpi .slt arg2 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg2 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GmInRefIdeal.lean ====
abbrev S2048x2048 : Shape := ⟨2, ![2048, 2048]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x2048, .f32⟩
  | .hbm, ⟨3, _⟩ => ⟨S2048x4096, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GmOut.lean ====
abbrev S2048x2048 : Shape := ⟨2, ![2048, 2048]⟩
abbrev S4x512x2x1024 : Shape := ⟨4, ![4, 512, 2, 1024]⟩
abbrev S4x2x512x1024 : Shape := ⟨4, ![4, 2, 512, 1024]⟩
abbrev S2048x512 : Shape := ⟨2, ![2048, 512]⟩
abbrev S1x1x512x1024 : Shape := ⟨4, ![1, 1, 512, 1024]⟩
abbrev S2048x1024 : Shape := ⟨2, ![2048, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S4x512x2x1024, .bf16⟩
  | .hbm, ⟨5, _⟩ => ⟨S4x2x512x1024, .bf16⟩
  | .hbm, ⟨6, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi v0 c1_i32_6
  let c0_i32_7 : BitVec 32 := 0#32
  let v19 : BitVec 1 := Scalar.cmpi .sgt v0 c0_i32_7
  let v20 : BitVec 32 := Scalar.extui v19
  let c0_i32_8 : BitVec 32 := 0#32
  let v21 : BitVec 1 := Scalar.cmpi .slt v0 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v0 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GmOutRefIdeal.lean ====
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== S5In.lean ====
abbrev S2048x2048 : Shape := ⟨2, ![2048, 2048]⟩
abbrev S4x512x2x1024 : Shape := ⟨4, ![4, 512, 2, 1024]⟩
abbrev S4x2x512x1024 : Shape := ⟨4, ![4, 2, 512, 1024]⟩
abbrev S2048x512 : Shape := ⟨2, ![2048, 512]⟩
abbrev S1x1x512x1024 : Shape := ⟨4, ![1, 1, 512, 1024]⟩
abbrev S2048x1024 : Shape := ⟨2, ![2048, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S4x512x2x1024, .bf16⟩
  | .hbm, ⟨4, _⟩ => ⟨S4x2x512x1024, .bf16⟩
  | .hbm, ⟨5, _⟩ => ⟨S2048x2048, .f32⟩
  | .local _ .vmem, ⟨0, _⟩ => ⟨S2048x512, .bf16⟩
  | .local _ .vmem, ⟨1, _⟩ => ⟨S2048x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi v0 c1_i32_6
  let c0_i32_7 : BitVec 32 := 0#32
  let v19 : BitVec 1 := Scalar.cmpi .sgt v0 c0_i32_7
  let v20 : BitVec 32 := Scalar.extui v19
  let c0_i32_8 : BitVec 32 := 0#32
  let v21 : BitVec 1 := Scalar.cmpi .slt v0 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v0 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== S5InRefIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== S5Out.lean ====
abbrev S2048x2048 : Shape := ⟨2, ![2048, 2048]⟩
abbrev S2048x4096 : Shape := ⟨2, ![2048, 4096]⟩
abbrev S2x1024x4x1024 : Shape := ⟨4, ![2, 1024, 4, 1024]⟩
abbrev S4x2x1024x1024 : Shape := ⟨4, ![4, 2, 1024, 1024]⟩
abbrev S1024x1024 : Shape := ⟨2, ![1024, 1024]⟩
abbrev S1x1x1024x1024 : Shape := ⟨4, ![1, 1, 1024, 1024]⟩

abbrev nBuf : Space → Nat
  | .hbm => 9
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x2048, .f32⟩
  | .hbm, ⟨3, _⟩ => ⟨S2048x4096, .bf16⟩
  | .hbm, ⟨4, _⟩ => ⟨S2x1024x4x1024, .bf16⟩
  | .hbm, ⟨5, _⟩ => ⟨S4x2x1024x1024, .bf16⟩
  | .hbm, ⟨6, _⟩ => ⟨S2048x2048, .f32⟩
  | .hbm, ⟨7, _⟩ => ⟨S2048x2048, .bf16⟩
  | .hbm, ⟨8, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi v0 c1_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi v0 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi arg2 c1_i32_6
  let c0_i32_7 : BitVec 32 := 0#32
  let v19 : BitVec 1 := Scalar.cmpi .sgt arg2 c0_i32_7
  let v20 : BitVec 32 := Scalar.extui v19
  let c0_i32_8 : BitVec 32 := 0#32
  let v21 : BitVec 1 := Scalar.cmpi .slt arg2 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi arg2 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c1_i32_5 : BitVec 32 := 1#32
  let v18 : BitVec 32 := Scalar.divsi arg2 c1_i32_5
  let c0_i32_6 : BitVec 32 := 0#32
  let v19 : BitVec 1 := Scalar.cmpi .sgt arg2 c0_i32_6
  let v20 : BitVec 32 := Scalar.extui v19
  let c0_i32_7 : BitVec 32 := 0#32
  let v21 : BitVec 1 := Scalar.cmpi .slt arg2 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi arg2 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c1_i32_12 : BitVec 32 := 1#32
  let c0_i32_13 : BitVec 32 := 0#32
  let v35 : BitVec 1 := Scalar.cmpi .eq c1_i32_12 c0_i32_13
  let c1_i32_14 : BitVec 32 := 1#32
  let v36 : BitVec 32 := Scalar.select v35 c1_i32_14 c1_i32_12
  let v37 : BitVec 32 := Scalar.remsi arg2 v36
  let c0_i32_15 : BitVec 32 := 0#32
  let v38 : BitVec 1 := Scalar.cmpi .ne v37 c0_i32_15
  let c0_i32_16 : BitVec 32 := 0#32
  let v39 : BitVec 1 := Scalar.cmpi .slt v37 c0_i32_16
  let c0_i32_17 : BitVec 32 := 0#32
  let v40 : BitVec 1 := Scalar.cmpi .slt v36 c0_i32_17
  let v41 : BitVec 1 := Scalar.xori v39 v40
  let v42 : BitVec 1 := Scalar.andi v41 v38
  let v43 : BitVec 32 := Scalar.addi v37 v36
  let v44 : BitVec 32 := Scalar.select v42 v43 v37
  let c1_i32_18 : BitVec 32 := 1#32
  let c0_i32_19 : BitVec 32 := 0#32
  let v45 : BitVec 1 := Scalar.cmpi .eq c1_i32_18 c0_i32_19
  let c1_i32_20 : BitVec 32 := 1#32
  let v46 : BitVec 32 := Scalar.select v45 c1_i32_20 c1_i32_18
  let v47 : BitVec 32 := Scalar.remsi v0 v46
  let c0_i32_21 : BitVec 32 := 0#32
  let v48 : BitVec 1 := Scalar.cmpi .ne v47 c0_i32_21
  let c0_i32_22 : BitVec 32 := 0#32
  let v49 : BitVec 1 := Scalar.cmpi .slt v47 c0_i32_22
  let c0_i32_23 : BitVec 32 := 0#32
  let v50 : BitVec 1 := Scalar.cmpi .slt v46 c0_i32_23
  let v51 : BitVec 1 := Scalar.xori v49 v50
  let v52 : BitVec 1 := Scalar.andi v51 v48
  let v53 : BitVec 32 := Scalar.addi v47 v46
  let v54 : BitVec 32 := Scalar.select v52 v53 v47
  let c0_i32_24 : BitVec 32 := 0#32
  ![v17.toNat, v34.toNat, v44.toNat, v54.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== S5OutRefIdeal.lean ====
abbrev S2048x2048 : Shape := ⟨2, ![2048, 2048]⟩
abbrev S2048x4096 : Shape := ⟨2, ![2048, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x4096, .f32⟩
  | .hbm, ⟨2, _⟩ => ⟨S2048x2048, .f32⟩
  | .hbm, ⟨3, _⟩ => ⟨S2048x2048, .f32⟩
  | .hbm, ⟨4, _⟩ => ⟨S2048x4096, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PleGate.lean ====
abbrev S2048x2048 : Shape := ⟨2, ![2048, 2048]⟩
abbrev S2048x256 : Shape := ⟨2, ![2048, 256]⟩
abbrev S256x2048 : Shape := ⟨2, ![256, 2048]⟩
abbrev S2x128x4x512 : Shape := ⟨4, ![2, 128, 4, 512]⟩
abbrev S4x2x128x512 : Shape := ⟨4, ![4, 2, 128, 512]⟩
abbrev S4x512x2x1024 : Shape := ⟨4, ![4, 512, 2, 1024]⟩
abbrev S4x2x512x1024 : Shape := ⟨4, ![4, 2, 512, 1024]⟩
abbrev S1024x512 : Shape := ⟨2, ![1024, 512]⟩
abbrev S1x1x512x1024 : Shape := ⟨4, ![1, 1, 512, 1024]⟩
abbrev S1024x1024 : Shape := ⟨2, ![1024, 1024]⟩
abbrev S1024x256 : Shape := ⟨2, ![1024, 256]⟩
abbrev S1x1x128x512 : Shape := ⟨4, ![1, 1, 128, 512]⟩
abbrev S512x1024 : Shape := ⟨2, ![512, 1024]⟩
abbrev S128x512 : Shape := ⟨2, ![128, 512]⟩
abbrev S1024x128 : Shape := ⟨2, ![1024, 128]⟩

abbrev nBuf : Space → Nat
  | .hbm => 14
  | .vmem => 23
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x256, .f32⟩
  | .hbm, ⟨4, _⟩ => ⟨S256x2048, .f32⟩
  | .hbm, ⟨5, _⟩ => ⟨S256x2048, .bf16⟩
  | .hbm, ⟨6, _⟩ => ⟨S2x128x4x512, .bf16⟩
  | .hbm, ⟨7, _⟩ => ⟨S4x2x128x512, .bf16⟩
  | .hbm, ⟨8, _⟩ => ⟨S2048x2048, .bf16⟩
  | .hbm, ⟨9, _⟩ => ⟨S4x512x2x1024, .bf16⟩
  | .hbm, ⟨10, _⟩ => ⟨S4x2x512x1024, .bf16⟩
  | .hbm, ⟨11, _⟩ => ⟨S2048x2048, .f32⟩
  | .hbm, ⟨12, _⟩ => ⟨S2048x2048, .bf16⟩
  | .hbm, ⟨13, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x256, .f32⟩
  | .local _ .vmem, ⟨7, _⟩ => ⟨S1024x256, .f32⟩
  | .local _ .vmem, ⟨8, _⟩ => ⟨S1x1x128x512, .bf16⟩
  | .local _ .vmem, ⟨9, _⟩ => ⟨S1x1x128x512, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S1x1x128x512, .bf16⟩
  | .local _ .vmem, ⟨13, _⟩ => ⟨S1x1x128x512, .bf16⟩
  | .local _ .vmem, ⟨14, _⟩ => ⟨S1x1x128x512, .bf16⟩
  | .local _ .vmem, ⟨15, _⟩ => ⟨S1x1x128x512, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let v1 : BitVec 32 := Scalar.divsi arg2 c1_i32
  let c0_i32_0 : BitVec 32 := 0#32
  let v2 : BitVec 1 := Scalar.cmpi .sgt arg2 c0_i32_0
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg2 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let v18 : BitVec 32 := Scalar.divsi v0 c1_i32_6
  let c0_i32_7 : BitVec 32 := 0#32
  let v19 : BitVec 1 := Scalar.cmpi .sgt v0 c0_i32_7
  let v20 : BitVec 32 := Scalar.extui v19
  let c0_i32_8 : BitVec 32 := 0#32
  let v21 : BitVec 1 := Scalar.cmpi .slt v0 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v0 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg2 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c1_i32_19 : BitVec 32 := 1#32
  let c0_i32_20 : BitVec 32 := 0#32
  let v45 : BitVec 1 := Scalar.cmpi .eq c1_i32_19 c0_i32_20
  let c1_i32_21 : BitVec 32 := 1#32
  let v46 : BitVec 32 := Scalar.select v45 c1_i32_21 c1_i32_19
  let v47 : BitVec 32 := Scalar.remsi v0 v46
  let c0_i32_22 : BitVec 32 := 0#32
  let v48 : BitVec 1 := Scalar.cmpi .ne v47 c0_i32_22
  let c0_i32_23 : BitVec 32 := 0#32
  let v49 : BitVec 1 := Scalar.cmpi .slt v47 c0_i32_23
  let c0_i32_24 : BitVec 32 := 0#32
  let v50 : BitVec 1 := Scalar.cmpi .slt v46 c0_i32_24
  let v51 : BitVec 1 := Scalar.xori v49 v50
  let v52 : BitVec 1 := Scalar.andi v51 v48
  let v53 : BitVec 32 := Scalar.addi v47 v46
  let v54 : BitVec 32 := Scalar.select v52 v53 v47
  let c0_i32_25 : BitVec 32 := 0#32
  ![v17.toNat, v34.toNat, v44.toNat, v54.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi v0 c0_i32
  let c1_i32 : BitVec 32 := 1#32
  let c0_i32_0 : BitVec 32 := 0#32
  let c0_i32_1 : BitVec 32 := 0#32
  let c0_i32_2 : BitVec 32 := 0#32
  ![v1.toNat, c1_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c1_i32_0 : BitVec 32 := 1#32
  let c0_i32 : BitVec 32 := 0#32
  let c0_i32_1 : BitVec 32 := 0#32
  let c0_i32_2 : BitVec 32 := 0#32
  ![v1.toNat, c1_i32_0.toNat, c0_i32.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== PleGateRefIdeal.lean ====
abbrev S2048x2048 : Shape := ⟨2, ![2048, 2048]⟩
abbrev S2048x256 : Shape := ⟨2, ![2048, 256]⟩
abbrev S256x2048 : Shape := ⟨2, ![256, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S2048x256, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== RmsFwd.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PleBwd.lean ====
abbrev S2048x2048 : Shape := ⟨2, ![2048, 2048]⟩
abbrev S_ : Shape := ⟨0, ![]⟩
abbrev S512x2048 : Shape := ⟨2, ![512, 2048]⟩

abbrev nBuf : Space → Nat
  | .hbm => 14
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .bf16⟩
  | .hbm, ⟨13, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleBwdRefIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GluBwd.lean ====
abbrev S2048x2048 : Shape := ⟨2, ![2048, 2048]⟩
abbrev S2048x4096 : Shape := ⟨2, ![2048, 4096]⟩
abbrev S_ : Shape := ⟨0, ![]⟩
abbrev S512x2048 : Shape := ⟨2, ![512, 2048]⟩
abbrev S512x4096 : Shape := ⟨2, ![512, 4096]⟩

abbrev nBuf : Space → Nat
  | .hbm => 15
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x4096, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x4096, .bf16⟩
  | .local _ .vmem, ⟨7, _⟩ => ⟨S512x4096, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluBwdRefIdeal.lean ====
abbrev S2048x2048 : Shape := ⟨2, ![2048, 2048]⟩
abbrev S2048x4096 : Shape := ⟨2, ![2048, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x4096, .f32⟩
  | .hbm, ⟨21, _⟩ => ⟨S2048x4096, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== RmsBwd.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== AdamCol.lean ====
abbrev S1x2048x1024 : Shape := ⟨3, ![1, 2048, 1024]⟩
abbrev S1024x1024 : Shape := ⟨2, ![1024, 1024]⟩
abbrev S1 : Shape := ⟨1, ![1]⟩
abbrev S1x128 : Shape := ⟨2, ![1, 128]⟩
abbrev S1x512x1024 : Shape := ⟨3, ![1, 512, 1024]⟩
abbrev S512x1024 : Shape := ⟨2, ![512, 1024]⟩

abbrev nBuf : Space → Nat
  | .hbm => 10
  | .vmem => 18
  | .smem => 1
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S1x128, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S1x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .smem, ⟨0, _⟩ => ⟨S1, .i32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamColRefIdeal.lean ====
abbrev S1x2048x1024 : Shape := ⟨3, ![1, 2048, 1024]⟩
abbrev S1024x1024 : Shape := ⟨2, ![1024, 1024]⟩
abbrev S1 : Shape := ⟨1, ![1]⟩
abbrev S1x128 : Shape := ⟨2, ![1, 128]⟩
abbrev S_ : Shape := ⟨0, ![]⟩
abbrev S2048x1024 : Shape := ⟨2, ![2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x1024, .f32⟩
  | .hbm, ⟨3, _⟩ => ⟨S1024x1024, .f32⟩
  | .hbm, ⟨4, _⟩ => ⟨S1024x1024, .f32⟩
  | .hbm, ⟨5, _⟩ => ⟨S1, .i32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S1, .i1⟩
  | .hbm, ⟨10, _⟩ => ⟨S1024x1024, .i1⟩
  | .hbm, ⟨11, _⟩ => ⟨S1024x1024, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S1024x1024, .i1⟩
  | .hbm, ⟨16, _⟩ => ⟨S1024x1024, .f32⟩
  | .hbm, ⟨17, _⟩ => ⟨S2048x1024, .f32⟩
  | .hbm, ⟨18, _⟩ => ⟨S1x2048x1024, .f32⟩
  | .hbm, ⟨19, _⟩ => ⟨S_, .f32⟩
  | .hbm, ⟨20, _⟩ => ⟨S1x2048x1024, .f32⟩
  | .hbm, ⟨21, _⟩ => ⟨S1x2048x1024, .f32⟩
  | .hbm, ⟨22, _⟩ => ⟨S_, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S1x2048x1024, .f32⟩
  | .hbm, ⟨34, _⟩ => ⟨S_, .f32⟩
  | .hbm, ⟨35, _⟩ => ⟨S1x2048x1024, .f32⟩
  | .hbm, ⟨36, _⟩ => ⟨S1x2048x1024, .f32⟩
  | .hbm, ⟨37, _⟩ => ⟨S_, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S_, .f32⟩
  | .hbm, ⟨42, _⟩ => ⟨S1x2048x1024, .f32⟩
  | .hbm, ⟨43, _⟩ => ⟨S1x2048x1024, .f32⟩
  | .hbm, ⟨44, _⟩ => ⟨S1x2048x1024, .f32⟩
  | .hbm, ⟨45, _⟩ => ⟨S_, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S_, .f32⟩
  | .hbm, ⟨50, _⟩ => ⟨S1x2048x1024, .f32⟩
  | .hbm, ⟨51, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== AdamRow.lean ====
abbrev S1x512x2048 : Shape := ⟨3, ![1, 512, 2048]⟩
abbrev S512x1024 : Shape := ⟨2, ![512, 1024]⟩
abbrev S1 : Shape := ⟨1, ![1]⟩
abbrev S1x128 : Shape := ⟨2, ![1, 128]⟩
abbrev S1x512x1024 : Shape := ⟨3, ![1, 512, 1024]⟩

abbrev nBuf : Space → Nat
  | .hbm => 10
  | .vmem => 18
  | .smem => 1
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S512x1024, .f32⟩
  | .hbm, ⟨4, _⟩ => ⟨S512x1024, .f32⟩
  | .hbm, ⟨5, _⟩ => ⟨S1x128, .f32⟩
  | .hbm, ⟨6, _⟩ => ⟨S1x512x2048, .f32⟩
  | .hbm, ⟨7, _⟩ => ⟨S1x512x2048, .f32⟩
  | .hbm, ⟨8, _⟩ => ⟨S1x512x2048, .f32⟩
  | .hbm, ⟨9, _⟩ => ⟨S1x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .smem, ⟨0, _⟩ => ⟨S1, .i32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamRowRefIdeal.lean ====
abbrev S1x512x2048 : Shape := ⟨3, ![1, 512, 2048]⟩
abbrev S512x1024 : Shape := ⟨2, ![512, 1024]⟩
abbrev S1 : Shape := ⟨1, ![1]⟩
abbrev S1x128 : Shape := ⟨2, ![1, 128]⟩
abbrev S_ : Shape := ⟨0, ![]⟩
abbrev S512x2048 : Shape := ⟨2, ![512, 2048]⟩

abbrev nBuf : Space → Nat
  | .hbm => 52
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S512x1024, .f32⟩
  | .hbm, ⟨4, _⟩ => ⟨S512x1024, .f32⟩
  | .hbm, ⟨5, _⟩ => ⟨S1, .i32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S1, .i1⟩
  | .hbm, ⟨10, _⟩ => ⟨S512x1024, .i1⟩
  | .hbm, ⟨11, _⟩ => ⟨S512x1024, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S512x1024, .i1⟩
  | .hbm, ⟨16, _⟩ => ⟨S512x1024, .f32⟩
  | .hbm, ⟨17, _⟩ => ⟨S512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S_, .f32⟩
  | .hbm, ⟨38, _⟩ => ⟨S1x512x2048, .f32⟩
  | .hbm, ⟨39, _⟩ => ⟨S1x512x2048, .f32⟩
  | .hbm, ⟨40, _⟩ => ⟨S1x512x2048, .f32⟩
  | .hbm, ⟨41, _⟩ => ⟨S_, .f32⟩
  | .hbm, ⟨42, _⟩ => ⟨S1x512x2048, .f32⟩
  | .hbm, ⟨43, _⟩ => ⟨S1x512x2048, .f32⟩
  | .hbm, ⟨44, _⟩ => ⟨S1x512x2048, .f32⟩
  | .hbm, ⟨45, _⟩ => ⟨S_, .f32⟩
  | .hbm, ⟨46, _⟩ => ⟨S1x512x2048, .f32⟩
  | .hbm, ⟨47, _⟩ => ⟨S1x512x2048, .f32⟩
  | .hbm, ⟨48, _⟩ => ⟨S1x512x2048, .f32⟩
  | .hbm, ⟨49, _⟩ => ⟨S_, .f32⟩
  | .hbm, ⟨50, _⟩ => ⟨S1x512x2048, .f32⟩
  | .hbm, ⟨51, _⟩ => ⟨S1x512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== AdamUp.lean ====
abbrev S2x2048x1408 : Shape := ⟨3, ![2, 2048, 1408]⟩
abbrev S1024x1408 : Shape := ⟨2, ![1024, 1408]⟩
abbrev S1 : Shape := ⟨1, ![1]⟩
abbrev S1x128 : Shape := ⟨2, ![1, 128]⟩
abbrev S1x256x1408 : Shape := ⟨3, ![1, 256, 1408]⟩
abbrev S256x1408 : Shape := ⟨2, ![256, 1408]⟩

abbrev nBuf : Space → Nat
  | .hbm => 14
  | .vmem => 18
  | .smem => 1
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S1024x1408, .f32⟩
  | .hbm, ⟨4, _⟩ => ⟨S1024x1408, .f32⟩
  | .hbm, ⟨5, _⟩ => ⟨S1x128, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S2x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S2x2048x1408 : Shape := ⟨3, ![2, 2048, 1408]⟩
abbrev S1024x1408 : Shape := ⟨2, ![1024, 1408]⟩
abbrev S1 : Shape := ⟨1, ![1]⟩
abbrev S1x128 : Shape := ⟨2, ![1, 128]⟩
abbrev S1x2048x1408 : Shape := ⟨3, ![1, 2048, 1408]⟩
abbrev S_ : Shape := ⟨0, ![]⟩
abbrev S2048x1408 : Shape := ⟨2, ![2048, 1408]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S1024x1408, .f32⟩
  | .hbm, ⟨4, _⟩ => ⟨S1024x1408, .f32⟩
  | .hbm, ⟨5, _⟩ => ⟨S1, .i32⟩
  | .hbm, ⟨6, _⟩ => ⟨S1x128, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S1x2048x1408, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S1024x1408, .i1⟩
  | .hbm, ⟨16, _⟩ => ⟨S1024x1408, .f32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S1024x1408, .i1⟩
  | .hbm, ⟨21, _⟩ => ⟨S1024x1408, .f32⟩
  | .hbm, ⟨22, _⟩ => ⟨S2048x1408, .f32⟩
  | .hbm, ⟨23, _⟩ => ⟨S1x2048x1408, .f32⟩
  | .hbm, ⟨24, _⟩ => ⟨S1x2048x1408, .f32⟩
  | .hbm, ⟨25, _⟩ => ⟨S1x2048x1408, .f32⟩
  | .hbm, ⟨26, _⟩ => ⟨S_, .f32⟩
  | .hbm, ⟨27, _⟩ => ⟨S1x2048x1408, .f32⟩
  | .hbm, ⟨28, _⟩ => ⟨S1x2048x1408, .f32⟩
  | .hbm, ⟨29, _⟩ => ⟨S_, .f32⟩
  | .hbm, ⟨30, _⟩ => ⟨S1x2048x1408, .f32⟩
  | .hbm, ⟨31, _⟩ => ⟨S1x2048x1408, .f32⟩
  | .hbm, ⟨32, _⟩ => ⟨S1x2048x1408, .f32⟩
  | .hbm, ⟨33, _⟩ => ⟨S_, .f32⟩
  | .hbm, ⟨34, _⟩ => ⟨S1x2048x1408, .f32⟩
  | .hbm, ⟨35, _⟩ => ⟨S1x2048x1408, .f32⟩
  | .hbm, ⟨36, _⟩ => ⟨S1x2048x1408, .f32⟩
  | .hbm, ⟨37, _⟩ => ⟨S_, .f32⟩
  | .hbm, ⟨38, _⟩ => ⟨S1x2048x1408, .f32⟩
  | .hbm, ⟨39, _⟩ => ⟨S1x2048x1408, .f32⟩
  | .hbm, ⟨40, _⟩ => ⟨S1x2048x1408, .f32⟩
  | .hbm, ⟨41, _⟩ => ⟨S_, .f32⟩
  | .hbm, ⟨42, _⟩ => ⟨S1x2048x1408, .f32⟩
  | .hbm, ⟨43, _⟩ => ⟨S1x2048x1408, .f32⟩
  | .hbm, ⟨44, _⟩ => ⟨S_, .f32⟩
  | .hbm, ⟨45, _⟩ => ⟨S1x2048x1408, .f32⟩
  | .hbm, ⟨46, _⟩ => ⟨S1x2048x1408, .f32⟩
  | .hbm, ⟨47, _⟩ => ⟨S1x2048x1408, .f32⟩
  | .hbm, ⟨48, _⟩ => ⟨S_, .f32⟩
  | .hbm, ⟨49, _⟩ => ⟨S1x2048x1408, .f32⟩
  | .hbm, ⟨50, _⟩ => ⟨S1x2048x1408, .f32⟩
  | .hbm, ⟨51, _⟩ => ⟨S1x2048x1408, .f32⟩
  | .hbm, ⟨52, _⟩ => ⟨S_, .f32⟩
  | .hbm, ⟨53, _⟩ => ⟨S1x2048x1408, .f32⟩
  | .hbm, ⟨54, _⟩ => ⟨S1x2048x1408, .f32⟩
  | .hbm, ⟨55, _⟩ => ⟨S1x2048x1408, .f32⟩
  | .hbm, ⟨56, _⟩ => ⟨S_, .f32⟩
  | .hbm, ⟨57, _⟩ => ⟨S1x2048x1408, .f32⟩
  | .hbm, ⟨58, _⟩ => ⟨S1x2048x1408, .f32⟩
  | .hbm, ⟨59, _⟩ => ⟨S1x2048x1408, .f32⟩
  | .hbm, ⟨60, _⟩ => ⟨S2x2048x1408, .f32⟩
  | .hbm, ⟨61, _⟩ => ⟨S1x2048x1408, .f32⟩
  | .hbm, ⟨62, _⟩ => ⟨S2x2048x1408, .f32⟩
  | .hbm, ⟨63, _⟩ => ⟨S1x2048x1408, .f32⟩
  | .hbm, ⟨64, _⟩ => ⟨S2x2048x1408, .f32⟩
  | .hbm, ⟨65, _⟩ => ⟨S1x2048x1408, .f32⟩
  | .hbm, ⟨66, _⟩ => ⟨S2x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== AdamDown.lean ====
abbrev S2x1408x2048 : Shape := ⟨3, ![2, 1408, 2048]⟩
abbrev S1408x1024 : Shape := ⟨2, ![1408, 1024]⟩
abbrev S1 : Shape := ⟨1, ![1]⟩
abbrev S1x128 : Shape := ⟨2, ![1, 128]⟩
abbrev S1x352x1024 : Shape := ⟨3, ![1, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S1408x1024, .f32⟩
  | .hbm, ⟨4, _⟩ => ⟨S1408x1024, .f32⟩
  | .hbm, ⟨5, _⟩ => ⟨S1x128, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S2x1408x2048, .f32⟩
  | .hbm, ⟨12, _⟩ => ⟨S2x1408x2048, .f32⟩
  | .hbm, ⟨13, _⟩ => ⟨S2x1408x2048, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S2x1408x2048 : Shape := ⟨3, ![2, 1408, 2048]⟩
abbrev S1408x1024 : Shape := ⟨2, ![1408, 1024]⟩
abbrev S1 : Shape := ⟨1, ![1]⟩
abbrev S1x128 : Shape := ⟨2, ![1, 128]⟩
abbrev S1x1408x2048 : Shape := ⟨3, ![1, 1408, 2048]⟩
abbrev S_ : Shape := ⟨0, ![]⟩
abbrev S1408x2048 : Shape := ⟨2, ![1408, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S1408x1024, .f32⟩
  | .hbm, ⟨4, _⟩ => ⟨S1408x1024, .f32⟩
  | .hbm, ⟨5, _⟩ => ⟨S1, .i32⟩
  | .hbm, ⟨6, _⟩ => ⟨S1x128, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S2x1408x2048, .f32⟩
  | .hbm, ⟨11, _⟩ => ⟨S1x1408x2048, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S1408x1024, .i1⟩
  | .hbm, ⟨16, _⟩ => ⟨S1408x1024, .f32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S1408x1024, .i1⟩
  | .hbm, ⟨21, _⟩ => ⟨S1408x1024, .f32⟩
  | .hbm, ⟨22, _⟩ => ⟨S1408x2048, .f32⟩
  | .hbm, ⟨23, _⟩ => ⟨S1x1408x2048, .f32⟩
  | .hbm, ⟨24, _⟩ => ⟨S1x1408x2048, .f32⟩
  | .hbm, ⟨25, _⟩ => ⟨S1x1408x2048, .f32⟩
  | .hbm, ⟨26, _⟩ => ⟨S_, .f32⟩
  | .hbm, ⟨27, _⟩ => ⟨S1x1408x2048, .f32⟩
  | .hbm, ⟨28, _⟩ => ⟨S1x1408x2048, .f32⟩
  | .hbm, ⟨29, _⟩ => ⟨S_, .f32⟩
  | .hbm, ⟨30, _⟩ => ⟨S1x1408x2048, .f32⟩
  | .hbm, ⟨31, _⟩ => ⟨S1x1408x2048, .f32⟩
  | .hbm, ⟨32, _⟩ => ⟨S1x1408x2048, .f32⟩
  | .hbm, ⟨33, _⟩ => ⟨S_, .f32⟩
  | .hbm, ⟨34, _⟩ => ⟨S1x1408x2048, .f32⟩
  | .hbm, ⟨35, _⟩ => ⟨S1x1408x2048, .f32⟩
  | .hbm, ⟨36, _⟩ => ⟨S1x1408x2048, .f32⟩
  | .hbm, ⟨37, _⟩ => ⟨S_, .f32⟩
  | .hbm, ⟨38, _⟩ => ⟨S1x1408x2048, .f32⟩
  | .hbm, ⟨39, _⟩ => ⟨S1x1408x2048, .f32⟩
  | .hbm, ⟨40, _⟩ => ⟨S1x1408x2048, .f32⟩
  | .hbm, ⟨41, _⟩ => ⟨S_, .f32⟩
  | .hbm, ⟨42, _⟩ => ⟨S1x1408x2048, .f32⟩
  | .hbm, ⟨43, _⟩ => ⟨S1x1408x2048, .f32⟩
  | .hbm, ⟨44, _⟩ => ⟨S_, .f32⟩
  | .hbm, ⟨45, _⟩ => ⟨S1x1408x2048, .f32⟩
  | .hbm, ⟨46, _⟩ => ⟨S1x1408x2048, .f32⟩
  | .hbm, ⟨47, _⟩ => ⟨S1x1408x2048, .f32⟩
  | .hbm, ⟨48, _⟩ => ⟨S_, .f32⟩
  | .hbm, ⟨49, _⟩ => ⟨S1x1408x2048, .f32⟩
  | .hbm, ⟨50, _⟩ => ⟨S1x1408x2048, .f32⟩
  | .hbm, ⟨51, _⟩ => ⟨S1x1408x2048, .f32⟩
  | .hbm, ⟨52, _⟩ => ⟨S_, .f32⟩
  | .hbm, ⟨53, _⟩ => ⟨S1x1408x2048, .f32⟩
  | .hbm, ⟨54, _⟩ => ⟨S1x1408x2048, .f32⟩
  | .hbm, ⟨55, _⟩ => ⟨S1x1408x2048, .f32⟩
  | .hbm, ⟨56, _⟩ => ⟨S_, .f32⟩
  | .hbm, ⟨57, _⟩ => ⟨S1x1408x2048, .f32⟩
  | .hbm, ⟨58, _⟩ => ⟨S1x1408x2048, .f32⟩
  | .hbm, ⟨59, _⟩ => ⟨S1x1408x2048, .f32⟩
  | .hbm, ⟨60, _⟩ => ⟨S2x1408x2048, .f32⟩
  | .hbm, ⟨61, _⟩ => ⟨S1x1408x2048, .f32⟩
  | .hbm, ⟨62, _⟩ => ⟨S2x1408x2048, .f32⟩
  | .hbm, ⟨63, _⟩ => ⟨S1x1408x2048, .f32⟩
  | .hbm, ⟨64, _⟩ => ⟨S2x1408x2048, .f32⟩
  | .hbm, ⟨65, _⟩ => ⟨S1x1408x2048, .f32⟩
  | .hbm, ⟨66, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== AdamGate.lean ====
abbrev S2x512x2048 : Shape := ⟨3, ![2, 512, 2048]⟩
abbrev S512x1024 : Shape := ⟨2, ![512, 1024]⟩
abbrev S1 : Shape := ⟨1, ![1]⟩
abbrev S1x128 : Shape := ⟨2, ![1, 128]⟩
abbrev S1x512x1024 : Shape := ⟨3, ![1, 512, 1024]⟩

abbrev nBuf : Space → Nat
  | .hbm => 14
  | .vmem => 18
  | .smem => 1
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x1024, .f32⟩
  | .hbm, ⟨4, _⟩ => ⟨S512x1024, .f32⟩
  | .hbm, ⟨5, _⟩ => ⟨S1x128, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .hbm, ⟨13, _⟩ => ⟨S2x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGateRefIdeal.lean ====
abbrev S2x512x2048 : Shape := ⟨3, ![2, 512, 2048]⟩
abbrev S512x1024 : Shape := ⟨2, ![512, 1024]⟩
abbrev S1 : Shape := ⟨1, ![1]⟩
abbrev S1x128 : Shape := ⟨2, ![1, 128]⟩
abbrev S1x512x2048 : Shape := ⟨3, ![1, 512, 2048]⟩
abbrev S_ : Shape := ⟨0, ![]⟩
abbrev S512x2048 : Shape := ⟨2, ![512, 2048]⟩

abbrev nBuf : Space → Nat
  | .hbm => 67
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x1024, .f32⟩
  | .hbm, ⟨4, _⟩ => ⟨S512x1024, .f32⟩
  | .hbm, ⟨5, _⟩ => ⟨S1, .i32⟩
  | .hbm, ⟨6, _⟩ => ⟨S1x128, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S1x512x2048, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S512x1024, .i1⟩
  | .hbm, ⟨16, _⟩ => ⟨S512x1024, .f32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S512x1024, .i1⟩
  | .hbm, ⟨21, _⟩ => ⟨S512x1024, .f32⟩
  | .hbm, ⟨22, _⟩ => ⟨S512x2048, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S_, .f32⟩
  | .hbm, ⟨30, _⟩ => ⟨S1x512x2048, .f32⟩
  | .hbm, ⟨31, _⟩ => ⟨S1x512x2048, .f32⟩
  | .hbm, ⟨32, _⟩ => ⟨S1x512x2048, .f32⟩
  | .hbm, ⟨33, _⟩ => ⟨S_, .f32⟩
  | .hbm, ⟨34, _⟩ => ⟨S1x512x2048, .f32⟩
  | .hbm, ⟨35, _⟩ => ⟨S1x512x2048, .f32⟩
  | .hbm, ⟨36, _⟩ => ⟨S1x512x2048, .f32⟩
  | .hbm, ⟨37, _⟩ => ⟨S_, .f32⟩
  | .hbm, ⟨38, _⟩ => ⟨S1x512x2048, .f32⟩
  | .hbm, ⟨39, _⟩ => ⟨S1x512x2048, .f32⟩
  | .hbm, ⟨40, _⟩ => ⟨S1x512x2048, .f32⟩
  | .hbm, ⟨41, _⟩ => ⟨S_, .f32⟩
  | .hbm, ⟨42, _⟩ => ⟨S1x512x2048, .f32⟩
  | .hbm, ⟨43, _⟩ => ⟨S1x512x2048, .f32⟩
  | .hbm, ⟨44, _⟩ => ⟨S_, .f32⟩
  | .hbm, ⟨45, _⟩ => ⟨S1x512x2048, .f32⟩
  | .hbm, ⟨46, _⟩ => ⟨S1x512x2048, .f32⟩
  | .hbm, ⟨47, _⟩ => ⟨S1x512x2048, .f32⟩
  | .hbm, ⟨48, _⟩ => ⟨S_, .f32⟩
  | .hbm, ⟨49, _⟩ => ⟨S1x512x2048, .f32⟩
  | .hbm, ⟨50, _⟩ => ⟨S1x512x2048, .f32⟩
  | .hbm, ⟨51, _⟩ => ⟨S1x512x2048, .f32⟩
  | .hbm, ⟨52, _⟩ => ⟨S_, .f32⟩
  | .hbm, ⟨53, _⟩ => ⟨S1x512x2048, .f32⟩
  | .hbm, ⟨54, _⟩ => ⟨S1x512x2048, .f32⟩
  | .hbm, ⟨55, _⟩ => ⟨S1x512x2048, .f32⟩
  | .hbm, ⟨56, _⟩ => ⟨S_, .f32⟩
  | .hbm, ⟨57, _⟩ => ⟨S1x512x2048, .f32⟩
  | .hbm, ⟨58, _⟩ => ⟨S1x512x2048, .f32⟩
  | .hbm, ⟨59, _⟩ => ⟨S1x512x2048, .f32⟩
  | .hbm, ⟨60, _⟩ => ⟨S2x512x2048, .f32⟩
  | .hbm, ⟨61, _⟩ => ⟨S1x512x2048, .f32⟩
  | .hbm, ⟨62, _⟩ => ⟨S2x512x2048, .f32⟩
  | .hbm, ⟨63, _⟩ => ⟨S1x512x2048, .f32⟩
  | .hbm, ⟨64, _⟩ => ⟨S2x512x2048, .f32⟩
  | .hbm, ⟨65, _⟩ => ⟨S1x512x2048, .f32⟩
  | .hbm, ⟨66, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== AdamProj.lean ====
abbrev S2x256x512 : Shape := ⟨3, ![2, 256, 512]⟩
abbrev S128x512 : Shape := ⟨2, ![128, 512]⟩
abbrev S1 : Shape := ⟨1, ![1]⟩
abbrev S1x128 : Shape := ⟨2, ![1, 128]⟩
abbrev S1x128x512 : Shape := ⟨3, ![1, 128, 512]⟩

abbrev nBuf : Space → Nat
  | .hbm => 14
  | .vmem => 18
  | .smem => 1
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S128x512, .f32⟩
  | .hbm, ⟨4, _⟩ => ⟨S128x512, .f32⟩
  | .hbm, ⟨5, _⟩ => ⟨S1x128, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S2x256x512, .f32⟩
  | .hbm, ⟨12, _⟩ => ⟨S2x256x512, .f32⟩
  | .hbm, ⟨13, _⟩ => ⟨S2x256x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S1, .i32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamProjRefIdeal.lean ====
abbrev S2x256x512 : Shape := ⟨3, ![2, 256, 512]⟩
abbrev S128x512 : Shape := ⟨2, ![128, 512]⟩
abbrev S1 : Shape := ⟨1, ![1]⟩
abbrev S1x128 : Shape := ⟨2, ![1, 128]⟩
abbrev S1x256x512 : Shape := ⟨3, ![1, 256, 512]⟩
abbrev S_ : Shape := ⟨0, ![]⟩
abbrev S256x512 : Shape := ⟨2, ![256, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S128x512, .f32⟩
  | .hbm, ⟨4, _⟩ => ⟨S128x512, .f32⟩
  | .hbm, ⟨5, _⟩ => ⟨S1, .i32⟩
  | .hbm, ⟨6, _⟩ => ⟨S1x128, .f32⟩
  | .hbm, ⟨7, _⟩ => ⟨S2x256x512, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S1x256x512, .f32⟩
  | .hbm, ⟨12, _⟩ => ⟨S_, .i32⟩
  | .hbm, ⟨13, _⟩ => ⟨S1, .i32⟩
  | .hbm, ⟨14, _⟩ => ⟨S1, .i1⟩
  | .hbm, ⟨15, _⟩ => ⟨S128x512, .i1⟩
  | .hbm, ⟨16, _⟩ => ⟨S128x512, .f32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S128x512, .i1⟩
  | .hbm, ⟨21, _⟩ => ⟨S128x512, .f32⟩
  | .hbm, ⟨22, _⟩ => ⟨S256x512, .f32⟩
  | .hbm, ⟨23, _⟩ => ⟨S1x256x512, .f32⟩
  | .hbm, ⟨24, _⟩ => ⟨S1x256x512, .f32⟩
  | .hbm, ⟨25, _⟩ => ⟨S1x256x512, .f32⟩
  | .hbm, ⟨26, _⟩ => ⟨S_, .f32⟩
  | .hbm, ⟨27, _⟩ => ⟨S1x256x512, .f32⟩
  | .hbm, ⟨28, _⟩ => ⟨S1x256x512, .f32⟩
  | .hbm, ⟨29, _⟩ => ⟨S_, .f32⟩
  | .hbm, ⟨30, _⟩ => ⟨S1x256x512, .f32⟩
  | .hbm, ⟨31, _⟩ => ⟨S1x256x512, .f32⟩
  | .hbm, ⟨32, _⟩ => ⟨S1x256x512, .f32⟩
  | .hbm, ⟨33, _⟩ => ⟨S_, .f32⟩
  | .hbm, ⟨34, _⟩ => ⟨S1x256x512, .f32⟩
  | .hbm, ⟨35, _⟩ => ⟨S1x256x512, .f32⟩
  | .hbm, ⟨36, _⟩ => ⟨S1x256x512, .f32⟩
  | .hbm, ⟨37, _⟩ => ⟨S_, .f32⟩
  | .hbm, ⟨38, _⟩ => ⟨S1x256x512, .f32⟩
  | .hbm, ⟨39, _⟩ => ⟨S1x256x512, .f32⟩
  | .hbm, ⟨40, _⟩ => ⟨S1x256x512, .f32⟩
  | .hbm, ⟨41, _⟩ => ⟨S_, .f32⟩
  | .hbm, ⟨42, _⟩ => ⟨S1x256x512, .f32⟩
  | .hbm, ⟨43, _⟩ => ⟨S1x256x512, .f32⟩
  | .hbm, ⟨44, _⟩ => ⟨S_, .f32⟩
  | .hbm, ⟨45, _⟩ => ⟨S1x256x512, .f32⟩
  | .hbm, ⟨46, _⟩ => ⟨S1x256x512, .f32⟩
  | .hbm, ⟨47, _⟩ => ⟨S1x256x512, .f32⟩
  | .hbm, ⟨48, _⟩ => ⟨S_, .f32⟩
  | .hbm, ⟨49, _⟩ => ⟨S1x256x512, .f32⟩
  | .hbm, ⟨50, _⟩ => ⟨S1x256x512, .f32⟩
  | .hbm, ⟨51, _⟩ => ⟨S1x256x512, .f32⟩
  | .hbm, ⟨52, _⟩ => ⟨S_, .f32⟩
  | .hbm, ⟨53, _⟩ => ⟨S1x256x512, .f32⟩
  | .hbm, ⟨54, _⟩ => ⟨S1x256x512, .f32⟩
  | .hbm, ⟨55, _⟩ => ⟨S1x256x512, .f32⟩
  | .hbm, ⟨56, _⟩ => ⟨S_, .f32⟩
  | .hbm, ⟨57, _⟩ => ⟨S1x256x512, .f32⟩
  | .hbm, ⟨58, _⟩ => ⟨S1x256x512, .f32⟩
  | .hbm, ⟨59, _⟩ => ⟨S1x256x512, .f32⟩
  | .hbm, ⟨60, _⟩ => ⟨S2x256x512, .f32⟩
  | .hbm, ⟨61, _⟩ => ⟨S1x256x512, .f32⟩
  | .hbm, ⟨62, _⟩ => ⟨S2x256x512, .f32⟩
  | .hbm, ⟨63, _⟩ => ⟨S1x256x512, .f32⟩
  | .hbm, ⟨64, _⟩ => ⟨S2x256x512, .f32⟩
  | .hbm, ⟨65, _⟩ => ⟨S1x256x512, .f32⟩
  | .hbm, ⟨66, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_cst_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== AdamUp2.lean ====
abbrev S2x2048x1408 : Shape := ⟨3, ![2, 2048, 1408]⟩
abbrev S1024x1408 : Shape := ⟨2, ![1024, 1408]⟩
abbrev S1 : Shape := ⟨1, ![1]⟩
abbrev S1x128 : Shape := ⟨2, ![1, 128]⟩
abbrev S1x256x1408 : Shape := ⟨3, ![1, 256, 1408]⟩
abbrev S256x1408 : Shape := ⟨2, ![256, 1408]⟩
abbrev S1x2048x1408 : Shape := ⟨3, ![1, 2048, 1408]⟩

abbrev nBuf : Space → Nat
  | .hbm => 14
  | .vmem => 18
  | .smem => 1
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S1024x1408, .f32⟩
  | .hbm, ⟨4, _⟩ => ⟨S1024x1408, .f32⟩
  | .hbm, ⟨5, _⟩ => ⟨S1x128, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S1x2048x1408, .f32⟩
  | .hbm, ⟨11, _⟩ => ⟨S1x2048x1408, .f32⟩
  | .hbm, ⟨12, _⟩ => ⟨S1x2048x1408, .f32⟩
  | .hbm, ⟨13, _⟩ => ⟨S1x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUp2RefIdeal.lean ====
abbrev S2x2048x1408 : Shape := ⟨3, ![2, 2048, 1408]⟩
abbrev S1024x1408 : Shape := ⟨2, ![1024, 1408]⟩
abbrev S1 : Shape := ⟨1, ![1]⟩
abbrev S1x128 : Shape := ⟨2, ![1, 128]⟩
abbrev S1x2048x1408 : Shape := ⟨3, ![1, 2048, 1408]⟩
abbrev S_ : Shape := ⟨0, ![]⟩
abbrev S2048x1408 : Shape := ⟨2, ![2048, 1408]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2x2048x1408, .f32⟩
  | .hbm, ⟨2, _⟩ => ⟨S2x2048x1408, .f32⟩
  | .hbm, ⟨3, _⟩ => ⟨S1024x1408, .f32⟩
  | .hbm, ⟨4, _⟩ => ⟨S1024x1408, .f32⟩
  | .hbm, ⟨5, _⟩ => ⟨S1, .i32⟩
  | .hbm, ⟨6, _⟩ => ⟨S1x128, .f32⟩
  | .hbm, ⟨7, _⟩ => ⟨S1x2048x1408, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S1024x1408, .i1⟩
  | .hbm, ⟨12, _⟩ => ⟨S1024x1408, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S1024x1408, .i1⟩
  | .hbm, ⟨17, _⟩ => ⟨S1024x1408, .f32⟩
  | .hbm, ⟨18, _⟩ => ⟨S2048x1408, .f32⟩
  | .hbm, ⟨19, _⟩ => ⟨S1x2048x1408, .f32⟩
  | .hbm, ⟨20, _⟩ => ⟨S1x2048x1408, .f32⟩
  | .hbm, ⟨21, _⟩ => ⟨S1x2048x1408, .f32⟩
  | .hbm, ⟨22, _⟩ => ⟨S_, .f32⟩
  | .hbm, ⟨23, _⟩ => ⟨S1x2048x1408, .f32⟩
  | .hbm, ⟨24, _⟩ => ⟨S1x2048x1408, .f32⟩
  | .hbm, ⟨25, _⟩ => ⟨S_, .f32⟩
  | .hbm, ⟨26, _⟩ => ⟨S1x2048x1408, .f32⟩
  | .hbm, ⟨27, _⟩ => ⟨S1x2048x1408, .f32⟩
  | .hbm, ⟨28, _⟩ => ⟨S1x2048x1408, .f32⟩
  | .hbm, ⟨29, _⟩ => ⟨S_, .f32⟩
  | .hbm, ⟨30, _⟩ => ⟨S1x2048x1408, .f32⟩
  | .hbm, ⟨31, _⟩ => ⟨S1x2048x1408, .f32⟩
  | .hbm, ⟨32, _⟩ => ⟨S1x2048x1408, .f32⟩
  | .hbm, ⟨33, _⟩ => ⟨S_, .f32⟩
  | .hbm, ⟨34, _⟩ => ⟨S1x2048x1408, .f32⟩
  | .hbm, ⟨35, _⟩ => ⟨S1x2048x1408, .f32⟩
  | .hbm, ⟨36, _⟩ => ⟨S1x2048x1408, .f32⟩
  | .hbm, ⟨37, _⟩ => ⟨S_, .f32⟩
  | .hbm, ⟨38, _⟩ => ⟨S1x2048x1408, .f32⟩
  | .hbm, ⟨39, _⟩ => ⟨S1x2048x1408, .f32⟩
  | .hbm, ⟨40, _⟩ => ⟨S_, .f32⟩
  | .hbm, ⟨41, _⟩ => ⟨S1x2048x1408, .f32⟩
  | .hbm, ⟨42, _⟩ => ⟨S1x2048x1408, .f32⟩
  | .hbm, ⟨43, _⟩ => ⟨S1x2048x1408, .f32⟩
  | .hbm, ⟨44, _⟩ => ⟨S_, .f32⟩
  | .hbm, ⟨45, _⟩ => ⟨S1x2048x1408, .f32⟩
  | .hbm, ⟨46, _⟩ => ⟨S1x2048x1408, .f32⟩
  | .hbm, ⟨47, _⟩ => ⟨S1x2048x1408, .f32⟩
  | .hbm, ⟨48, _⟩ => ⟨S_, .f32⟩
  | .hbm, ⟨49, _⟩ => ⟨S1x2048x1408, .f32⟩
  | .hbm, ⟨50, _⟩ => ⟨S1x2048x1408, .f32⟩
  | .hbm, ⟨51, _⟩ => ⟨S1x2048x1408, .f32⟩
  | .hbm, ⟨52, _⟩ => ⟨S_, .f32⟩
  | .hbm, ⟨53, _⟩ => ⟨S1x2048x1408, .f32⟩
  | .hbm, ⟨54, _⟩ => ⟨S1x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== AdamDown2.lean ====
abbrev S2x1408x2048 : Shape := ⟨3, ![2, 1408, 2048]⟩
abbrev S1408x1024 : Shape := ⟨2, ![1408, 1024]⟩
abbrev S1 : Shape := ⟨1, ![1]⟩
abbrev S1x128 : Shape := ⟨2, ![1, 128]⟩
abbrev S1x352x1024 : Shape := ⟨3, ![1, 352, 1024]⟩
abbrev S352x1024 : Shape := ⟨2, ![352, 1024]⟩
abbrev S1x1408x2048 : Shape := ⟨3, ![1, 1408, 2048]⟩

abbrev nBuf : Space → Nat
  | .hbm => 14
  | .vmem => 18
  | .smem => 1
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S1408x1024, .f32⟩
  | .hbm, ⟨4, _⟩ => ⟨S1408x1024, .f32⟩
  | .hbm, ⟨5, _⟩ => ⟨S1x128, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .hbm, ⟨9, _⟩ => ⟨S2x1408x2048, .f32⟩
  | .hbm, ⟨10, _⟩ => ⟨S1x1408x2048, .f32⟩
  | .hbm, ⟨11, _⟩ => ⟨S1x1408x2048, .f32⟩
  | .hbm, ⟨12, _⟩ => ⟨S1x1408x2048, .f32⟩
  | .hbm, ⟨13, _⟩ => ⟨S1x1408x2048, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDown2RefIdeal.lean ====
abbrev S2x1408x2048 : Shape := ⟨3, ![2, 1408, 2048]⟩
abbrev S1408x1024 : Shape := ⟨2, ![1408, 1024]⟩
abbrev S1 : Shape := ⟨1, ![1]⟩
abbrev S1x128 : Shape := ⟨2, ![1, 128]⟩
abbrev S1x1408x2048 : Shape := ⟨3, ![1, 1408, 2048]⟩
abbrev S_ : Shape := ⟨0, ![]⟩
abbrev S1408x2048 : Shape := ⟨2, ![1408, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S1408x1024, .f32⟩
  | .hbm, ⟨4, _⟩ => ⟨S1408x1024, .f32⟩
  | .hbm, ⟨5, _⟩ => ⟨S1, .i32⟩
  | .hbm, ⟨6, _⟩ => ⟨S1x128, .f32⟩
  | .hbm, ⟨7, _⟩ => ⟨S1x1408x2048, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S1408x1024, .i1⟩
  | .hbm, ⟨12, _⟩ => ⟨S1408x1024, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S1408x1024, .i1⟩
  | .hbm, ⟨17, _⟩ => ⟨S1408x1024, .f32⟩
  | .hbm, ⟨18, _⟩ => ⟨S1408x2048, .f32⟩
  | .hbm, ⟨19, _⟩ => ⟨S1x1408x2048, .f32⟩
  | .hbm, ⟨20, _⟩ => ⟨S1x1408x2048, .f32⟩
  | .hbm, ⟨21, _⟩ => ⟨S1x1408x2048, .f32⟩
  | .hbm, ⟨22, _⟩ => ⟨S_, .f32⟩
  | .hbm, ⟨23, _⟩ => ⟨S1x1408x2048, .f32⟩
  | .hbm, ⟨24, _⟩ => ⟨S1x1408x2048, .f32⟩
  | .hbm, ⟨25, _⟩ => ⟨S_, .f32⟩
  | .hbm, ⟨26, _⟩ => ⟨S1x1408x2048, .f32⟩
  | .hbm, ⟨27, _⟩ => ⟨S1x1408x2048, .f32⟩
  | .hbm, ⟨28, _⟩ => ⟨S1x1408x2048, .f32⟩
  | .hbm, ⟨29, _⟩ => ⟨S_, .f32⟩
  | .hbm, ⟨30, _⟩ => ⟨S1x1408x2048, .f32⟩
  | .hbm, ⟨31, _⟩ => ⟨S1x1408x2048, .f32⟩
  | .hbm, ⟨32, _⟩ => ⟨S1x1408x2048, .f32⟩
  | .hbm, ⟨33, _⟩ => ⟨S_, .f32⟩
  | .hbm, ⟨34, _⟩ => ⟨S1x1408x2048, .f32⟩
  | .hbm, ⟨35, _⟩ => ⟨S1x1408x2048, .f32⟩
  | .hbm, ⟨36, _⟩ => ⟨S1x1408x2048, .f32⟩
  | .hbm, ⟨37, _⟩ => ⟨S_, .f32⟩
  | .hbm, ⟨38, _⟩ => ⟨S1x1408x2048, .f32⟩
  | .hbm, ⟨39, _⟩ => ⟨S1x1408x2048, .f32⟩
  | .hbm, ⟨40, _⟩ => ⟨S_, .f32⟩
  | .hbm, ⟨41, _⟩ => ⟨S1x1408x2048, .f32⟩
  | .hbm, ⟨42, _⟩ => ⟨S1x1408x2048, .f32⟩
  | .hbm, ⟨43, _⟩ => ⟨S1x1408x2048, .f32⟩
  | .hbm, ⟨44, _⟩ => ⟨S_, .f32⟩
  | .hbm, ⟨45, _⟩ => ⟨S1x1408x2048, .f32⟩
  | .hbm, ⟨46, _⟩ => ⟨S1x1408x2048, .f32⟩
  | .hbm, ⟨47, _⟩ => ⟨S1x1408x2048, .f32⟩
  | .hbm, ⟨48, _⟩ => ⟨S_, .f32⟩
  | .hbm, ⟨49, _⟩ => ⟨S1x1408x2048, .f32⟩
  | .hbm, ⟨50, _⟩ => ⟨S1x1408x2048, .f32⟩
  | .hbm, ⟨51, _⟩ => ⟨S1x1408x2048, .f32⟩
  | .hbm, ⟨52, _⟩ => ⟨S_, .f32⟩
  | .hbm, ⟨53, _⟩ => ⟨S1x1408x2048, .f32⟩
  | .hbm, ⟨54, _⟩ => ⟨S1x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== AdamGate2.lean ====
abbrev S2x512x2048 : Shape := ⟨3, ![2, 512, 2048]⟩
abbrev S512x1024 : Shape := ⟨2, ![512, 1024]⟩
abbrev S1 : Shape := ⟨1, ![1]⟩
abbrev S1x128 : Shape := ⟨2, ![1, 128]⟩
abbrev S1x512x1024 : Shape := ⟨3, ![1, 512, 1024]⟩
abbrev S1x512x2048 : Shape := ⟨3, ![1, 512, 2048]⟩

abbrev nBuf : Space → Nat
  | .hbm => 14
  | .vmem => 18
  | .smem => 1
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x1024, .f32⟩
  | .hbm, ⟨4, _⟩ => ⟨S512x1024, .f32⟩
  | .hbm, ⟨5, _⟩ => ⟨S1x128, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S1x512x2048, .f32⟩
  | .hbm, ⟨11, _⟩ => ⟨S1x512x2048, .f32⟩
  | .hbm, ⟨12, _⟩ => ⟨S1x512x2048, .f32⟩
  | .hbm, ⟨13, _⟩ => ⟨S1x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .smem, ⟨0, _⟩ => ⟨S1, .i32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGate2RefIdeal.lean ====
abbrev S2x512x2048 : Shape := ⟨3, ![2, 512, 2048]⟩
abbrev S512x1024 : Shape := ⟨2, ![512, 1024]⟩
abbrev S1 : Shape := ⟨1, ![1]⟩
abbrev S1x128 : Shape := ⟨2, ![1, 128]⟩
abbrev S1x512x2048 : Shape := ⟨3, ![1, 512, 2048]⟩
abbrev S_ : Shape := ⟨0, ![]⟩
abbrev S512x2048 : Shape := ⟨2, ![512, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x1024, .f32⟩
  | .hbm, ⟨4, _⟩ => ⟨S512x1024, .f32⟩
  | .hbm, ⟨5, _⟩ => ⟨S1, .i32⟩
  | .hbm, ⟨6, _⟩ => ⟨S1x128, .f32⟩
  | .hbm, ⟨7, _⟩ => ⟨S1x512x2048, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S512x1024, .i1⟩
  | .hbm, ⟨12, _⟩ => ⟨S512x1024, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S512x1024, .i1⟩
  | .hbm, ⟨17, _⟩ => ⟨S512x1024, .f32⟩
  | .hbm, ⟨18, _⟩ => ⟨S512x2048, .f32⟩
  | .hbm, ⟨19, _⟩ => ⟨S1x512x2048, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S_, .f32⟩
  | .hbm, ⟨26, _⟩ => ⟨S1x512x2048, .f32⟩
  | .hbm, ⟨27, _⟩ => ⟨S1x512x2048, .f32⟩
  | .hbm, ⟨28, _⟩ => ⟨S1x512x2048, .f32⟩
  | .hbm, ⟨29, _⟩ => ⟨S_, .f32⟩
  | .hbm, ⟨30, _⟩ => ⟨S1x512x2048, .f32⟩
  | .hbm, ⟨31, _⟩ => ⟨S1x512x2048, .f32⟩
  | .hbm, ⟨32, _⟩ => ⟨S1x512x2048, .f32⟩
  | .hbm, ⟨33, _⟩ => ⟨S_, .f32⟩
  | .hbm, ⟨34, _⟩ => ⟨S1x512x2048, .f32⟩
  | .hbm, ⟨35, _⟩ => ⟨S1x512x2048, .f32⟩
  | .hbm, ⟨36, _⟩ => ⟨S1x512x2048, .f32⟩
  | .hbm, ⟨37, _⟩ => ⟨S_, .f32⟩
  | .hbm, ⟨38, _⟩ => ⟨S1x512x2048, .f32⟩
  | .hbm, ⟨39, _⟩ => ⟨S1x512x2048, .f32⟩
  | .hbm, ⟨40, _⟩ => ⟨S_, .f32⟩
  | .hbm, ⟨41, _⟩ => ⟨S1x512x2048, .f32⟩
  | .hbm, ⟨42, _⟩ => ⟨S1x512x2048, .f32⟩
  | .hbm, ⟨43, _⟩ => ⟨S1x512x2048, .f32⟩
  | .hbm, ⟨44, _⟩ => ⟨S_, .f32⟩
  | .hbm, ⟨45, _⟩ => ⟨S1x512x2048, .f32⟩
  | .hbm, ⟨46, _⟩ => ⟨S1x512x2048, .f32⟩
  | .hbm, ⟨47, _⟩ => ⟨S1x512x2048, .f32⟩
  | .hbm, ⟨48, _⟩ => ⟨S_, .f32⟩
  | .hbm, ⟨49, _⟩ => ⟨S1x512x2048, .f32⟩
  | .hbm, ⟨50, _⟩ => ⟨S1x512x2048, .f32⟩
  | .hbm, ⟨51, _⟩ => ⟨S1x512x2048, .f32⟩
  | .hbm, ⟨52, _⟩ => ⟨S_, .f32⟩
  | .hbm, ⟨53, _⟩ => ⟨S1x512x2048, .f32⟩
  | .hbm, ⟨54, _⟩ => ⟨S1x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== AdamProj2.lean ====
abbrev S2x256x512 : Shape := ⟨3, ![2, 256, 512]⟩
abbrev S128x512 : Shape := ⟨2, ![128, 512]⟩
abbrev S1 : Shape := ⟨1, ![1]⟩
abbrev S1x128 : Shape := ⟨2, ![1, 128]⟩
abbrev S1x128x512 : Shape := ⟨3, ![1, 128, 512]⟩
abbrev S1x256x512 : Shape := ⟨3, ![1, 256, 512]⟩

abbrev nBuf : Space → Nat
  | .hbm => 14
  | .vmem => 18
  | .smem => 1
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S128x512, .f32⟩
  | .hbm, ⟨4, _⟩ => ⟨S128x512, .f32⟩
  | .hbm, ⟨5, _⟩ => ⟨S1x128, .f32⟩
  | .hbm, ⟨6, _⟩ => ⟨S2x256x512, .f32⟩
  | .hbm, ⟨7, _⟩ => ⟨S2x256x512, .f32⟩
  | .hbm, ⟨8, _⟩ => ⟨S2x256x512, .f32⟩
  | .hbm, ⟨9, _⟩ => ⟨S2x256x512, .f32⟩
  | .hbm, ⟨10, _⟩ => ⟨S1x256x512, .f32⟩
  | .hbm, ⟨11, _⟩ => ⟨S1x256x512, .f32⟩
  | .hbm, ⟨12, _⟩ => ⟨S1x256x512, .f32⟩
  | .hbm, ⟨13, _⟩ => ⟨S1x256x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | .local _ .smem, ⟨0, _⟩ => ⟨S1, .i32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_true : BitVec 1 := 1#1
  let v2 : BitVec 1 := Scalar.xori v1 v_true
  let true_0 : BitVec 1 := 1#1
  let v3 : BitVec 1 := Scalar.xori v2 true_0
  let c0_i32 : BitVec 32 := 0#32
  let v4 : BitVec 32 := Scalar.select v3 arg1 c0_i32
  let c0_i32_1 : BitVec 32 := 0#32
  let c0_i32_2 : BitVec 32 := 0#32
  ![v4.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .eq arg0 v0
  let v_false : BitVec 1 := 0#1
  let v2 : BitVec 1 := Scalar.xori v1 v_false
  let v_true : BitVec 1 := 1#1
  let v3 : BitVec 1 := Scalar.xori v2 v_true
  let c0_i32 : BitVec 32 := 0#32
  let v4 : BitVec 32 := Scalar.select v3 arg1 c0_i32
  let c0_i32_0 : BitVec 32 := 0#32
  let c0_i32_1 : BitVec 32 := 0#32
  ![v4.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  let c0_i32_1 : BitVec 32 := 0#32
  ![c1_i32_0.toNat, v1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamProj2RefIdeal.lean ====
abbrev S2x256x512 : Shape := ⟨3, ![2, 256, 512]⟩
abbrev S128x512 : Shape := ⟨2, ![128, 512]⟩
abbrev S1 : Shape := ⟨1, ![1]⟩
abbrev S1x128 : Shape := ⟨2, ![1, 128]⟩
abbrev S1x256x512 : Shape := ⟨3, ![1, 256, 512]⟩
abbrev S_ : Shape := ⟨0, ![]⟩
abbrev S256x512 : Shape := ⟨2, ![256, 512]⟩

abbrev nBuf : Space → Nat
  | .hbm => 55
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S128x512, .f32⟩
  | .hbm, ⟨4, _⟩ => ⟨S128x512, .f32⟩
  | .hbm, ⟨5, _⟩ => ⟨S1, .i32⟩
  | .hbm, ⟨6, _⟩ => ⟨S1x128, .f32⟩
  | .hbm, ⟨7, _⟩ => ⟨S1x256x512, .f32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S128x512, .i1⟩
  | .hbm, ⟨12, _⟩ => ⟨S128x512, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S128x512, .i1⟩
  | .hbm, ⟨17, _⟩ => ⟨S128x512, .f32⟩
  | .hbm, ⟨18, _⟩ => ⟨S256x512, .f32⟩
  | .hbm, ⟨19, _⟩ => ⟨S1x256x512, .f32⟩
  | .hbm, ⟨20, _⟩ => ⟨S1x256x512, .f32⟩
  | .hbm, ⟨21, _⟩ => ⟨S1x256x512, .f32⟩
  | .hbm, ⟨22, _⟩ => ⟨S_, .f32⟩
  | .hbm, ⟨23, _⟩ => ⟨S1x256x512, .f32⟩
  | .hbm, ⟨24, _⟩ => ⟨S1x256x512, .f32⟩
  | .hbm, ⟨25, _⟩ => ⟨S_, .f32⟩
  | .hbm, ⟨26, _⟩ => ⟨S1x256x512, .f32⟩
  | .hbm, ⟨27, _⟩ => ⟨S1x256x512, .f32⟩
  | .hbm, ⟨28, _⟩ => ⟨S1x256x512, .f32⟩
  | .hbm, ⟨29, _⟩ => ⟨S_, .f32⟩
  | .hbm, ⟨30, _⟩ => ⟨S1x256x512, .f32⟩
  | .hbm, ⟨31, _⟩ => ⟨S1x256x512, .f32⟩
  | .hbm, ⟨32, _⟩ => ⟨S1x256x512, .f32⟩
  | .hbm, ⟨33, _⟩ => ⟨S_, .f32⟩
  | .hbm, ⟨34, _⟩ => ⟨S1x256x512, .f32⟩
  | .hbm, ⟨35, _⟩ => ⟨S1x256x512, .f32⟩
  | .hbm, ⟨36, _⟩ => ⟨S1x256x512, .f32⟩
  | .hbm, ⟨37, _⟩ => ⟨S_, .f32⟩
  | .hbm, ⟨38, _⟩ => ⟨S1x256x512, .f32⟩
  | .hbm, ⟨39, _⟩ => ⟨S1x256x512, .f32⟩
  | .hbm, ⟨40, _⟩ => ⟨S_, .f32⟩
  | .hbm, ⟨41, _⟩ => ⟨S1x256x512, .f32⟩
  | .hbm, ⟨42, _⟩ => ⟨S1x256x512, .f32⟩
  | .hbm, ⟨43, _⟩ => ⟨S1x256x512, .f32⟩
  | .hbm, ⟨44, _⟩ => ⟨S_, .f32⟩
  | .hbm, ⟨45, _⟩ => ⟨S1x256x512, .f32⟩
  | .hbm, ⟨46, _⟩ => ⟨S1x256x512, .f32⟩
  | .hbm, ⟨47, _⟩ => ⟨S1x256x512, .f32⟩
  | .hbm, ⟨48, _⟩ => ⟨S_, .f32⟩
  | .hbm, ⟨49, _⟩ => ⟨S1x256x512, .f32⟩
  | .hbm, ⟨50, _⟩ => ⟨S1x256x512, .f32⟩
  | .hbm, ⟨51, _⟩ => ⟨S1x256x512, .f32⟩
  | .hbm, ⟨52, _⟩ => ⟨S_, .f32⟩
  | .hbm, ⟨53, _⟩ => ⟨S1x256x512, .f32⟩
  | .hbm, ⟨54, _⟩ => ⟨S1x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== LossHead.lean ====
abbrev S2048x2048 : Shape := ⟨2, ![2048, 2048]⟩
abbrev S1x2048 : Shape := ⟨2, ![1, 2048]⟩
abbrev S_ : Shape := ⟨0, ![]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 19
  | .vmem => 17
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S2048x2048, .bf16⟩
  | .hbm, ⟨16, _⟩ => ⟨S2048x2048, .bf16⟩
  | .hbm, ⟨17, _⟩ => ⟨S1x2048, .f32⟩
  | .hbm, ⟨18, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x2048, .f32⟩
  | .local _ .vmem, ⟨16, _⟩ => ⟨S1x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossHeadRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048x2048, .f32⟩
  | .hbm, ⟨74, _⟩ => ⟨S2048x2048, .f32⟩
  | .hbm, ⟨75, _⟩ => ⟨S_, .f32⟩
  | .hbm, ⟨76, _⟩ => ⟨S2048x2048, .f32⟩
  | .hbm, ⟨77, _⟩ => ⟨S2048x2048, .f32⟩
  | .hbm, ⟨78, _⟩ => ⟨S_, .f32⟩
  | .hbm, ⟨79, _⟩ => ⟨S2048x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .bf16⟩
  | .hbm, ⟨87, _⟩ => ⟨S2048x2048, .bf16⟩
  | .hbm, ⟨88, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== GmlpFwd.lean ====
abbrev S2048x4096 : Shape := ⟨2, ![2048, 4096]⟩
abbrev S1x2048 : Shape := ⟨2, ![1, 2048]⟩
abbrev S16x128x128 : Shape := ⟨3, ![16, 128, 128]⟩
abbrev S16x128 : Shape := ⟨2, ![16, 128]⟩
abbrev S128x16 : Shape := ⟨2, ![128, 16]⟩
abbrev S2048x2048 : Shape := ⟨2, ![2048, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 7
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S128x16, .f32⟩
  | .hbm, ⟨6, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S16x128x128, .f32⟩
  | .local _ .vmem, ⟨5, _⟩ => ⟨S128x16, .f32⟩
  | .local _ .vmem, ⟨6, _⟩ => ⟨S128x2048, .bf16⟩
  | .local _ .vmem, ⟨7, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdIdeal.lean ====
variable {F : FTy → Type} [FloatOps F] [Named F]
def κ : String → Option EReal := fun
  | "gelu_c" => some ((8943 / 200000 : ℝ) : EReal)
  | _ => none
-- ==== GmlpFwdRefIdeal.lean ====
abbrev S2048x4096 : Shape := ⟨2, ![2048, 4096]⟩
abbrev S1x2048 : Shape := ⟨2, ![1, 2048]⟩
abbrev S16x128x128 : Shape := ⟨3, ![16, 128, 128]⟩
abbrev S16x128 : Shape := ⟨2, ![16, 128]⟩
abbrev S_ : Shape := ⟨0, ![]⟩
abbrev S2048x2048 : Shape := ⟨2, ![2048, 2048]⟩
abbrev S2048 : Shape := ⟨1, ![2048]⟩
abbrev S2048x1 : Shape := ⟨2, ![2048, 1]⟩
abbrev S16x128x16x128 : Shape := ⟨4, ![16, 128, 16, 128]⟩
abbrev S128x128 : Shape := ⟨2, ![128, 128]⟩
abbrev S16x16x128x128 : Shape := ⟨4, ![16, 16, 128, 128]⟩
abbrev S128x16 : Shape := ⟨2, ![128, 16]⟩
abbrev S128x16x1 : Shape := ⟨3, ![128, 16, 1]⟩
abbrev S1x128x16x1 : Shape := ⟨4, ![1, 128, 16, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S16x128x128, .f32⟩
  | .hbm, ⟨4, _⟩ => ⟨S16x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S_, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S16x128x16x128, .f32⟩
  | .hbm, ⟨52, _⟩ => ⟨S_, .i1⟩
  | .hbm, ⟨53, _⟩ => ⟨S128x128, .i1⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .i1⟩
  | .hbm, ⟨61, _⟩ => ⟨S128x128, .i1⟩
  | .hbm, ⟨62, _⟩ => ⟨S128x128, .i1⟩
  | .hbm, ⟨63, _⟩ => ⟨S_, .f32⟩
  | .hbm, ⟨64, _⟩ => ⟨S16x128x128, .f32⟩
  | .hbm, ⟨65, _⟩ => ⟨S16x128x128, .i1⟩
  | .hbm, ⟨66, _⟩ => ⟨S16x128x128, .f32⟩
  | .hbm, ⟨67, _⟩ => ⟨S16x16x128x128, .f32⟩
  | .hbm, ⟨68, _⟩ => ⟨S16x128x16x128, .f32⟩
  | .hbm, ⟨69, _⟩ => ⟨S128x16, .f32⟩
  | .hbm, ⟨70, _⟩ => ⟨S128x16x1, .f32⟩
  | .hbm, ⟨71, _⟩ => ⟨S1x128x16x1, .f32⟩
  | .hbm, ⟨72, _⟩ => ⟨S16x128x16x128, .f32⟩
  | .hbm, ⟨73, _⟩ => ⟨S16x128x16x128, .f32⟩
  | .hbm, ⟨74, _⟩ => ⟨S2048x2048, .f32⟩
  | .hbm, ⟨75, _⟩ => ⟨S2048x2048, .f32⟩
  | .hbm, ⟨76, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_v37 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_0 : Ref sig .tc := ⟨.hbm, 60, rfl⟩
abbrev main_call0_v5 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_call1_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]
-- ==== Proof.Consts.lean ====
/- The float constants of both programs, as the reals that they denote. -/
module

public import Idealize.ShloMosaic.PureOps.Ideal

@[expose] public section

noncomputable section

namespace Cert.Proof.Consts

open Idealize.ShloMosaic

/-- The word for the root of 2/π, and the word for 10⁻⁶. -/
def GC : ℝ := 13386282 / 16777216
def EPS : ℝ := 8796093 / 8796093022208

theorem w_zero : Ideal.ofBits .f32 0x00000000#32 = ((0 : ℝ) : EReal) := by
  simp [Ideal.ofBits, Ideal.ieee]

theorem w_half : Ideal.ofBits .f32 0x3F000000#32 = ((1 / 2 : ℝ) : EReal) := by
  simp [Ideal.ofBits, Ideal.ieee, -EReal.coe_mul]; norm_num

theorem w_neg_half : Ideal.ofBits .f32 0xBF000000#32 = ((-(1 / 2) : ℝ) : EReal) := by
  simp [Ideal.ofBits, Ideal.ieee, -EReal.coe_mul]; norm_num

theorem w_one : Ideal.ofBits .f32 0x3F800000#32 = ((1 : ℝ) : EReal) := by
  simp [Ideal.ofBits, Ideal.ieee, -EReal.coe_mul]; norm_num

theorem w_three : Ideal.ofBits .f32 0x40400000#32 = ((3 : ℝ) : EReal) := by
  simp [Ideal.ofBits, Ideal.ieee, -EReal.coe_mul]; norm_num

theorem w_2048 : Ideal.ofBits .f32 0x45000000#32 = ((2048 : ℝ) : EReal) := by
  simp [Ideal.ofBits, Ideal.ieee, -EReal.coe_mul]; norm_num

theorem w_44715 : Ideal.ofBits .f32 0x472EAB00#32 = ((44715 : ℝ) : EReal) := by
  simp [Ideal.ofBits, Ideal.ieee, -EReal.coe_mul]; norm_num

theorem w_million : Ideal.ofBits .f32 0x49742400#32 = ((1000000 : ℝ) : EReal) := by
  simp [Ideal.ofBits, Ideal.ieee, -EReal.coe_mul]; norm_num

theorem w_gc : Ideal.ofBits .f32 0x3F4C422A#32 = ((GC : ℝ) : EReal) := by
  simp [Ideal.ofBits, Ideal.ieee, -EReal.coe_mul, GC]; norm_num

theorem w_eps : Ideal.ofBits .f32 0x358637BD#32 = ((EPS : ℝ) : EReal) := by
  simp [Ideal.ofBits, Ideal.ieee, -EReal.coe_mul, EPS]; norm_num

theorem w_inf : Ideal.ofBits .f32 0x7F800000#32 = ⊤ := by
  simp [Ideal.ofBits, Ideal.ieee]

end Cert.Proof.Consts

end
-- ==== Proof.Model.lean ====
/- The gating unit's gradient over the reals, for one block of 128 positions: the formulas that both programs compute where
   every argument is a real number. -/
module

public import proofs.«01_k».proof.Proof.Consts

@[expose] public section

noncomputable section

namespace Cert.Proof.Model

open Cert.Proof.Consts Idealize.ShloMosaic

/-- gelu in its tanh form, and its derivative. -/
def th (x : ℝ) : ℝ := Real.tanh (GC * (x + 8943 / 200000 * (x * x * x)))
def gel (x : ℝ) : ℝ := 1 / 2 * x * (1 + th x)
def dgel (x : ℝ) : ℝ := 1 / 2 * (1 + th x) + 1 / 2 * x * (1 - th x * th x) * (GC * (1 + 26829 / 200000 * x * x))

/-- A row's mean, its deviations, its variance, the reciprocal deviation and the normalized row. -/
def mean (f : Fin 2048 → ℝ) : ℝ := (∑ l, f l) / 2048
def xc (f : Fin 2048 → ℝ) (l : Fin 2048) : ℝ := f l - mean f
def var (f : Fin 2048 → ℝ) : ℝ := mean fun l => xc f l * xc f l
def rs (f : Fin 2048 → ℝ) : ℝ := (Real.sqrt (var f + EPS))⁻¹
def vh (f : Fin 2048 → ℝ) (l : Fin 2048) : ℝ := xc f l * rs f

/-- The normalization's gradient of a row `f` from the cotangent `d` of the normalized row. -/
def dnorm (f d : Fin 2048 → ℝ) (l : Fin 2048) : ℝ := rs f * (d l - mean d - vh f l * mean fun k => d k * vh f k)

/-- The column of lane `e` of head `h`, and the columns of the two halves. -/
def lane (h : Fin 16) (e : Fin 128) : Fin 2048 := ⟨128 * h.val + e.val, by omega⟩
def lo (l : Fin 2048) : Fin 4096 := ⟨l.val, by omega⟩
def hi (l : Fin 2048) : Fin 4096 := ⟨2048 + l.val, by omega⟩
def headOf (l : Fin 2048) : Fin 16 := ⟨l.val / 128, by omega⟩
def laneOf (l : Fin 2048) : Fin 128 := ⟨l.val % 128, by omega⟩

section Block

variable (z : Fin 128 → Fin 4096 → ℝ) (dm : Fin 128 → Fin 2048 → ℝ) (g b : Fin 2048 → ℝ)
  (w : Fin 16 → Fin 128 → Fin 128 → ℝ) (bs : Fin 128 → Fin 16 → ℝ)

def uu (r : Fin 128) (l : Fin 2048) : ℝ := gel (z r (lo l))
def vv (r : Fin 128) (l : Fin 2048) : ℝ := gel (z r (hi l))
def vn (r : Fin 128) (l : Fin 2048) : ℝ := vh (vv z r) l * g l + b l

/-- The causal mixing matrix. -/
def mask (h : Fin 16) (t s : Fin 128) : ℝ := if s ≤ t then w h t s else 0

def sv (h : Fin 16) (t e : Fin 128) : ℝ := (∑ s, mask w h t s * vn z g b s (lane h e)) + bs t h
def dsv (h : Fin 16) (t e : Fin 128) : ℝ := dm t (lane h e) * uu z t (lane h e)
def dws (h : Fin 16) (t s : Fin 128) : ℝ := ∑ e, dsv z dm h t e * vn z g b s (lane h e)
def dvn (s : Fin 128) (l : Fin 2048) : ℝ := ∑ t, mask w (headOf l) t s * dsv z dm (headOf l) t (laneOf l)
def dbs (h : Fin 16) (t : Fin 128) : ℝ := ∑ e, dsv z dm h t e
def dg (l : Fin 2048) : ℝ := ∑ s, dvn z dm w s l * vh (vv z s) l
def db (l : Fin 2048) : ℝ := ∑ s, dvn z dm w s l

/-- The gradient of the input, its first and its second half. -/
def dzu (r : Fin 128) (l : Fin 2048) : ℝ := dm r l * sv z g b w bs (headOf l) r (laneOf l) * dgel (z r (lo l))
def dzv (r : Fin 128) (l : Fin 2048) : ℝ := dnorm (vv z r) (fun k => dvn z dm w r k * g k) l * dgel (z r (hi l))

end Block

section Whole

variable (Z : Fin 2048 → Fin 4096 → ℝ) (DM : Fin 2048 → Fin 2048 → ℝ) (g b : Fin 2048 → ℝ)
  (w : Fin 16 → Fin 128 → Fin 128 → ℝ) (B : Fin 16 → Fin 128 → ℝ)

/-- Block `n` of 128 positions. -/
def zb (n : Fin 16) (r : Fin 128) : Fin 4096 → ℝ := Z (lane n r)
def db' (n : Fin 16) (r : Fin 128) : Fin 2048 → ℝ := DM (lane n r)

/-- The five gradients of all 2048 positions. -/
def dzW (i : Fin 2048) (l : Fin 4096) : ℝ :=
  if h : l.val < 2048 then dzu (zb Z (headOf i)) (db' DM (headOf i)) g b w (fun t h => B h t) (laneOf i) ⟨l.val, h⟩
  else dzv (zb Z (headOf i)) (db' DM (headOf i)) g w (laneOf i) ⟨l.val - 2048, by omega⟩
def dwsW (h : Fin 16) (t s : Fin 128) : ℝ := if s ≤ t then ∑ n, dws (zb Z n) (db' DM n) g b h t s else 0
def dbsW (t c : Fin 128) : ℝ := if h : c.val < 16 then ∑ n, dbs (zb Z n) (db' DM n) ⟨c.val, h⟩ t else 0
def dgW (l : Fin 2048) : ℝ := ∑ n, dg (zb Z n) (db' DM n) w l
def dbW (l : Fin 2048) : ℝ := ∑ n, db (zb Z n) (db' DM n) w l

end Whole

theorem lane_of (l : Fin 2048) : lane (headOf l) (laneOf l) = l := Fin.ext (by show 128 * (l.val / 128) + l.val % 128 = _; omega)

/-- A sum of reals, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_mean (f : Fin 2048 → ℝ) : Ideal.div ((∑ l, f l : ℝ) : EReal) ((2048 : ℝ) : EReal) = ((mean f : ℝ) : EReal) := by
  rw [Ideal.div_coe (by norm_num), ← EReal.coe_mul, mean, mul_one_div]

theorem var_nonneg (f : Fin 2048 → ℝ) : 0 ≤ var f :=
  div_nonneg (Finset.sum_nonneg fun l _ => mul_self_nonneg _) (by norm_num)

theorem var_pos (f : Fin 2048 → ℝ) : 0 < var f + EPS := by
  have := var_nonneg f
  have h : (0 : ℝ) < EPS := by norm_num [EPS]
  linarith

theorem coe_rs (f : Fin 2048 → ℝ) : Ideal.rsqrt ((var f + EPS : ℝ) : EReal) = ((rs f : ℝ) : EReal) := by
  have h := var_pos f
  rw [Ideal.rsqrt_coe, if_neg (not_lt.mpr h.le), if_neg h.ne']
  rfl

end Cert.Proof.Model

end
-- ==== Proof.Logistic.lean ====
/- The logistic function, as a kernel writes it with tanh and as the host writes it with exp: the same at every extended real. -/
module

public import proofs.«01_k».proof.Proof.Consts
public import Idealize.ShloMosaic.PureOps.Ideal.Laws

@[expose] public section

set_option pp.maxSteps 400

noncomputable section

namespace Cert.Proof.Logistic

open Cert.Proof.Consts Idealize.ShloMosaic

/-- The logistic function of a real. -/
def lg (x : ℝ) : ℝ := 1 / (1 + Real.exp (-x))

theorem tanh_half (x : ℝ) : 1 / 2 * Real.tanh (1 / 2 * x) + 1 / 2 = lg x := by
  have e : Real.exp (-x) = Real.exp (-(1 / 2 * x)) * Real.exp (-(1 / 2 * x)) := by rw [← Real.exp_add]; congr 1; ring
  have p := Real.exp_pos (-(1 / 2 * x))
  have q : Real.exp (1 / 2 * x) = (Real.exp (-(1 / 2 * x)))⁻¹ := by rw [Real.exp_neg, inv_inv]
  rw [lg, Real.tanh_eq_sinh_div_cosh, Real.sinh_eq, Real.cosh_eq, e, q]
  generalize Real.exp (-(1 / 2 * x)) = y at p
  have : (1 + y * y) ≠ 0 := by positivity
  field_simp
  ring

theorem host_coe (x : ℝ) : Ideal.div (1 : ℝ) ((1 : ℝ) + Ideal.exp (-(x : EReal))) = ((lg x : ℝ) : EReal) := by
  rw [← EReal.coe_neg, Ideal.exp_coe, ← EReal.coe_add, Ideal.div_coe (by positivity), ← EReal.coe_mul, one_mul, lg]

/-- The logistic function as the host writes it. -/
def host (x : EReal) : EReal := Ideal.div 1 (1 + Ideal.exp (-x))

/-- The two forms agree, at the infinities too. -/
theorem same (x : EReal) :
    Ideal.ofBits .f32 0x3F000000#32 * Ideal.tanh (Ideal.ofBits .f32 0x3F000000#32 * x) + Ideal.ofBits .f32 0x3F000000#32
      = host x := by
  rw [host, w_half, ← EReal.coe_one]
  induction x using EReal.rec with
  | bot =>
    rw [EReal.coe_mul_bot_of_pos (by norm_num), Ideal.tanh_bot, EReal.neg_bot, Ideal.exp_top, EReal.coe_add_top]
    rw [show Ideal.div ((1 : ℝ) : EReal) ⊤ = 0 by simp [Ideal.div]]
    rw [show (-1 : EReal) = ((-1 : ℝ) : EReal) by rfl, ← EReal.coe_mul, ← EReal.coe_add]
    norm_num
  | top =>
    rw [EReal.coe_mul_top_of_pos (by norm_num), Ideal.tanh_top, EReal.neg_top, Ideal.exp_bot, add_zero, Ideal.div_coe one_ne_zero, ← EReal.coe_mul, mul_one, ← EReal.coe_add]
    norm_num
  | coe x =>
    rw [host_coe, ← EReal.coe_mul, Ideal.tanh_coe, ← EReal.coe_mul, ← EReal.coe_add, tanh_half]

theorem host_real (x : ℝ) : host x = ((lg x : ℝ) : EReal) := by
  rw [host, ← host_coe, EReal.coe_one]

theorem host_top : host ⊤ = 1 := by
  rw [host, EReal.neg_top, Ideal.exp_bot, add_zero, ← EReal.coe_one, Ideal.div_coe one_ne_zero, ← EReal.coe_mul]
  norm_num

theorem host_bot : host ⊥ = 0 := by
  rw [host, EReal.neg_bot, Ideal.exp_top, ← EReal.coe_one, EReal.coe_add_top]
  simp [Ideal.div]

/-- The gradient of `x ↦ x * host x`, factored and as the product rule gives it, against a real factor. -/
theorem silu (d : ℝ) (x : EReal) :
    (d : EReal) * (host x * (1 + x * (1 - host x))) = d * host x + x * d * (host x * (1 - host x)) := by
  induction x using EReal.rec with
  | bot => rw [host_bot]; simp
  | top =>
    rw [host_top]
    have e : (1 : EReal) - 1 = 0 := by rw [← EReal.coe_one, ← EReal.coe_sub, sub_self, EReal.coe_zero]
    rw [e]; simp
  | coe x =>
    rw [host_real, ← EReal.coe_one]
    simp only [← EReal.coe_mul, ← EReal.coe_sub, ← EReal.coe_add]
    congr 1
    ring

end Cert.Proof.Logistic

end
-- ==== Proof.Finite.lean ====
/- What the precondition says: every element of the six arrays is a real number. -/
module

public import proofs.«01_k».proof.Proof.Consts
public import proofs.«01_k».proof.Proof.Gen.Pre_finite
public import Idealize.ShloMosaic.Lib.ReduceAll
public import Idealize.ShloMosaic.PureOps.Ideal.Laws

@[expose] public section

set_option pp.maxSteps 400

noncomputable section

namespace Cert.Proof.Finite

open Cert.Proof.Consts Idealize.ShloMosaic Cert.Pre_finite

/-- An extended real below infinity in absolute value is a real number. -/
theorem real_of_lt (x : EReal) (h : max x (-x) < ⊤) : x = ((x.toReal : ℝ) : EReal) := by
  refine (EReal.coe_toReal ?_ ?_).symm
  · rintro rfl; simp at h
  · rintro rfl; simp at h

/-- The comparison of an array's absolute values with infinity, all over: every element is real. -/
theorem real_of_all {s t : Shape} {axes : List (Fin s.rank)} [Subsingleton t.Idx] (h : s.ReducesTo axes t) (hu : 0 < S_.numel)
    (hb : S_.BroadcastsInDim s (![] : Fin 0 → Fin s.rank)) (x : FVec Ideal s .f32) (j : t.Idx)
    (e : Host.reduce IntOp.andi (cmpf .olt (Host.absf (F := Ideal) x) (broadcastInDim s ![] hb (constant (F := Ideal) S_ .f32 0x7F800000#32)))
      (constantI S_ 1 1#1) h hu j = 1#1) (i : s.Idx) : x i = (((x i).toReal : ℝ) : EReal) := by
  have := Host.reduce_andi_all _ _ _ _ j e i
  refine real_of_lt _ ?_
  have k : Ideal.cmp .olt (max (x i) (-(x i))) (Ideal.ofBits .f32 0x7F800000#32) = 1#1 := this
  rw [w_inf] at k
  by_contra hn
  simp only [Ideal.cmp, decide_eq_false hn] at k
  exact absurd k (by decide)

theorem all_real (a0 : FVec Ideal S2048x4096 .f32) (a1 : FVec Ideal S2048x2048 .f32) (a2 a3 : FVec Ideal S1x2048 .f32)
    (a4 : FVec Ideal S16x128x128 .f32) (a5 : FVec Ideal S16x128 .f32)
    (h : Cert.Pre_finite.fn (F := Ideal) a0 a1 a2 a3 a4 a5 = fun _ => 1#1) :
    (∀ i, a0 i = (((a0 i).toReal : ℝ) : EReal)) ∧ (∀ i, a1 i = (((a1 i).toReal : ℝ) : EReal)) ∧ (∀ i, a2 i = (((a2 i).toReal : ℝ) : EReal))
      ∧ (∀ i, a3 i = (((a3 i).toReal : ℝ) : EReal)) ∧ (∀ i, a4 i = (((a4 i).toReal : ℝ) : EReal))
      ∧ ∀ i, a5 i = (((a5 i).toReal : ℝ) : EReal) := by
  have j : S_.Idx := fun a => a.elim0
  have e := congrFun h j
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ a0 j e0, real_of_all _ _ _ a1 j e1, real_of_all _ _ _ a2 j e2, real_of_all _ _ _ a3 j e3,
    real_of_all _ _ _ a4 j e4, real_of_all _ _ _ a5 j e5⟩

end Cert.Proof.Finite

end
-- ==== Proof.DownDx.lean ====
/- The feed-forward layer's gated product differentiated: the product with the transposed output weight is added up over
   two halves, and the gradients of the two pre-activations are taken of the finished sum. -/
module

public import proofs.«01_k».proof.Defs
public import proofs.«01_k».proof.Proof.Gen.DownDxIdeal.Value
public import proofs.«01_k».proof.Proof.Gen.DownDxRefIdeal.Read
public import Idealize.ShloMosaic.Lib.Pipeline.ValueKit
public import Idealize.ShloMosaic.Lib.Pipeline.ReadBack
public import Idealize.ShloMosaic.Lib.Claim
public import proofs.«01_k».proof.Proof.Model
public import proofs.«01_k».proof.Proof.Logistic
public import proofs.«01_k».proof.Proof.Finite
public import proofs.«01_k».proof.Proof.Gen.Pre_finite_down

@[expose] public section

set_option maxRecDepth 16384
set_option maxHeartbeats 1000000
set_option pp.maxSteps 400

noncomputable section

namespace Cert.Proof.DownDx

open Cert.DownDxIdeal Cert.DownDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 2] ∧ win0_1.index t = ![t.val / 2 % 4, t.val % 2, 0, 0]
    ∧ win0_2.index t = ![t.val / 8, t.val / 2 % 4] ∧ win0_3.index t = ![t.val / 8, t.val / 2 % 4] :=
  (by decide +kernel : ∀ t : Fin grid0.N, _)

/-- The arrays of the call. -/
def xs : Vec Ideal S2048x2048 .bf16 := m ((c : Thread nD τ).loc main_arg0)
def ys : Vec Ideal S5632x2048 .f32 := m ((c : Thread nD τ).loc main_arg1)
def ps : Vec Ideal S2048x5632 .bf16 := m ((c : Thread nD τ).loc main_arg2)
def qs : Vec Ideal S2048x5632 .bf16 := m ((c : Thread nD τ).loc main_arg3)

/-- Half `s` of the summed axis: its part of the product's row `i` at column `j`. -/
def part (x : Vec Ideal S2048x2048 .bf16) (y : Vec Ideal S5632x2048 .f32) (i : Fin 2048) (j : Fin 5632) (s : Fin 2) : EReal :=
  ∑ k : Fin 1024, x (ix2 i ⟨s.val * 1024 + k.val, by omega⟩) * y (ix2 j ⟨s.val * 1024 + k.val, by omega⟩)

theorem pay1_at (x : Vec Ideal S1024x1024 .bf16) (y : Vec Ideal S1x1x1408x1024 .bf16) (a : Fin 1024) (b : Fin 1408) :
    k0_pay1 (F := Ideal) x y (ix2 a b) = ∑ k : Fin 1024, x (ix2 a k) * y (ix4 0 0 b k) := by
  unfold_payloads
  pointwise

theorem pay3_at (x : Vec Ideal S1024x1024 .bf16) (y : Vec Ideal S1x1x1408x1024 .bf16) (z : Vec Ideal S1024x1408 .f32) (a : Fin 1024) (b : Fin 1408) :
    k0_pay3 (F := Ideal) x y z (ix2 a b) = z (ix2 a b) + k0_pay1 (F := Ideal) x y (ix2 a b) := by
  rw [pay1_at]
  unfold_payloads
  pointwise

theorem pay5_at (p : Vec Ideal S1024x1408 .bf16) (a : Fin 1024) (b : Fin 1408) : k0_pay5 (F := Ideal) p (ix2 a b) = Logistic.host (p (ix2 a b)) := by
  rw [← Logistic.same]
  unfold_payloads
  pointwise

/-- The gate's gradient as the kernel writes it, from a finished product's element. -/
def dgate (f p q : EReal) : EReal := f * q * (Logistic.host p * (1 + p * (1 - Logistic.host p)))
def dup (f p : EReal) : EReal := f * (p * Logistic.host p)

theorem pay6_at (x : Vec Ideal S1024x1024 .bf16) (y : Vec Ideal S1x1x1408x1024 .bf16) (z : Vec Ideal S1024x1408 .f32) (p q : Vec Ideal S1024x1408 .bf16)
    (a : Fin 1024) (b : Fin 1408) :
    k0_pay6 (F := Ideal) x y z p q (ix2 a b) = dgate (k0_pay3 (F := Ideal) x y z (ix2 a b)) (p (ix2 a b)) (q (ix2 a b)) := by
  rw [dgate, ← pay5_at, ← EReal.coe_one, ← Consts.w_one]
  rfl

theorem pay7_at (x : Vec Ideal S1024x1024 .bf16) (y : Vec Ideal S1x1x1408x1024 .bf16) (z : Vec Ideal S1024x1408 .f32) (p : Vec Ideal S1024x1408 .bf16)
    (a : Fin 1024) (b : Fin 1408) :
    k0_pay7 (F := Ideal) x y z p (ix2 a b) = dup (k0_pay3 (F := Ideal) x y z (ix2 a b)) (p (ix2 a b)) := by
  rw [dup, ← pay5_at]
  rfl

theorem tile (t : Fin cfg0.N) (a : Fin 1024) (b : Fin 1408) (i : Fin 2048) (j : Fin 5632) (s : Fin 2) (hs : t.val % 2 = s.val)
    (hi : i.val = t.val / 8 * 1024 + a.val) (hj : j.val = t.val / 2 % 4 * 1408 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2.2 = k0_pay1 (F := Ideal) (iblk m c 0 t) (iblk m c 1 t) := by
  have h2 : ¬t.val % 2 = 1 := by omega
  rw [outsAt0_A m c t h0 h2]
  frame_out

theorem last0 (t : Fin cfg0.N) (h2 : t.val % 2 = 1) :
    (outsAt0 m c t.val t.isLt).1 = k0_pay6 (F := Ideal) (iblk m c 0 t) (iblk m c 1 t) (outsAt0 m c (t.val - 1) (Nat.lt_of_le_of_lt (Nat.sub_le _ _) t.isLt)).2.2 (iblk m c 2 t) (iblk m c 3 t) := by
  have h0 : ¬t.val % 2 = 0 := by omega
  rw [outsAt0_B m c t h0 h2]
  frame_out
  simp only [read_unread_whole]

theorem last1 (t : Fin cfg0.N) (h2 : t.val % 2 = 1) :
    (outsAt0 m c t.val t.isLt).2.1 = k0_pay7 (F := Ideal) (iblk m c 0 t) (iblk m c 1 t) (outsAt0 m c (t.val - 1) (Nat.lt_of_le_of_lt (Nat.sub_le _ _) t.isLt)).2.2 (iblk m c 2 t) := by
  have h0 : ¬t.val % 2 = 0 := by omega
  rw [outsAt0_B m c t h0 h2]
  frame_out
  simp only [read_unread_whole]

theorem sums (t : Fin cfg0.N) (h2 : t.val % 2 = 1) (a : Fin 1024) (b : Fin 1408) (i : Fin 2048) (j : Fin 5632)
    (hi : i.val = t.val / 8 * 1024 + a.val) (hj : j.val = t.val / 2 % 4 * 1408 + b.val) :
    (outsAt0 m c t.val t.isLt).1 (ix2 a b) = dgate (∑ s, part (xs m c) (ys m c) i j s) (ps m c (ix2 i j)) (qs m c (ix2 i j))
      ∧ (outsAt0 m c t.val t.isLt).2.1 (ix2 a b) = dup (∑ s, part (xs m c) (ys m c) i j s) (ps m c (ix2 i j)) := by
  have l := t.isLt
  have p : (iblk m c 2 t : Vec Ideal S1024x1408 .bf16) (ix2 a b) = ps m c (ix2 i j) := by blk_ext! [iblk, V, idx t, ps]
  have q : (iblk m c 3 t : Vec Ideal S1024x1408 .bf16) (ix2 a b) = qs m c (ix2 i j) := by blk_ext! [iblk, V, idx t, qs]
  have f : k0_pay3 (F := Ideal) (iblk m c 0 t) (iblk m c 1 t) (outsAt0 m c (t.val - 1) (Nat.lt_of_le_of_lt (Nat.sub_le _ _) t.isLt)).2.2 (ix2 a b) = ∑ s, part (xs m c) (ys m c) i j s := by
    rw [pay3_at, tile m c t a b i j 1 h2 hi hj, first m c ⟨t.val - 1, by omega⟩ (by show (t.val - 1) % 2 = 0; omega),
      tile m c ⟨t.val - 1, by omega⟩ a b i j 0 (by show (t.val - 1) % 2 = 0; omega) (by show i.val = (t.val - 1) / 8 * 1024 + a.val; omega)
        (by show j.val = (t.val - 1) / 2 % 4 * 1408 + b.val; omega), Fin.sum_univ_two]
  constructor
  · rw [last0 m c t h2, pay6_at, f, p, q]
  · rw [last1 m c t h2, pay7_at, f, p]

/-- The product's row `i` at column `j`. -/
def prod (x : Vec Ideal S2048x2048 .bf16) (y : Vec Ideal S5632x2048 .f32) (i : Fin 2048) (j : Fin 5632) : EReal :=
  ∑ k : Fin 2048, x (ix2 i k) * y (ix2 j k)

theorem parts (x : Vec Ideal S2048x2048 .bf16) (y : Vec Ideal S5632x2048 .f32) (i : Fin 2048) (j : Fin 5632) :
    (∑ s, part x y i j s) = prod x y i j :=
  Fin.sum_mul_add_congr fun s k hl => rfl

theorem value0 (i : Fin 2048) (j : Fin 5632) : Value.G4 m c (ix2 i j) = dgate (prod (xs m c) (ys m c) i j) (ps m c (ix2 i j)) (qs m c (ix2 i j)) := by
  have e0 : Value.pt4Of (ix2 i j) = 2 * (4 * (i.val / 1024 - 0) + 1 * (j.val / 1408 - 0)) + 1 := rfl
  have hp : Value.pt4Of (ix2 i j) < cfg0.N := by rw [e0]; exact lt_of_lt_of_eq (by omega) N_0.symm
  unfold Value.G4
  rw [dif_pos hp, ← Value.outsAt0_sweep m c _ hp]
  have e : Value.loc4Of (ix2 i j) = ix2 (⟨i.val % 1024, by omega⟩ : Fin 1024) (⟨j.val % 1408, by omega⟩ : Fin 1408) := by
    funext a; match a with
    | 0 => rfl
    | 1 => rfl
  rw [e, (sums m c ⟨Value.pt4Of (ix2 i j), hp⟩ (by show Value.pt4Of (ix2 i j) % 2 = 1; omega) _ _ i j
    (by show i.val = Value.pt4Of (ix2 i j) / 8 * 1024 + i.val % 1024; omega)
    (by show j.val = Value.pt4Of (ix2 i j) / 2 % 4 * 1408 + j.val % 1408; omega)).1, parts]

theorem value1 (i : Fin 2048) (j : Fin 5632) : Value.G5 m c (ix2 i j) = dup (prod (xs m c) (ys m c) i j) (ps m c (ix2 i j)) := by
  have e0 : Value.pt5Of (ix2 i j) = 2 * (4 * (i.val / 1024 - 0) + 1 * (j.val / 1408 - 0)) + 1 := rfl
  have hp : Value.pt5Of (ix2 i j) < cfg0.N := by rw [e0]; exact lt_of_lt_of_eq (by omega) N_0.symm
  unfold Value.G5
  rw [dif_pos hp, ← Value.outsAt0_sweep m c _ hp]
  have e : Value.loc5Of (ix2 i j) = ix2 (⟨i.val % 1024, by omega⟩ : Fin 1024) (⟨j.val % 1408, by omega⟩ : Fin 1408) := by
    funext a; match a with
    | 0 => rfl
    | 1 => rfl
  rw [e, (sums m c ⟨Value.pt5Of (ix2 i j), hp⟩ (by show Value.pt5Of (ix2 i j) % 2 = 1; omega) _ _ i j
    (by show i.val = Value.pt5Of (ix2 i j) / 8 * 1024 + i.val % 1024; omega)
    (by show j.val = Value.pt5Of (ix2 i j) / 2 % 4 * 1408 + j.val % 1408; omega)).2, parts]

theorem dgate_real (f q p : EReal) (r : ℝ) (hf : f = r) (hq : q = ((q.toReal : ℝ) : EReal)) :
    dgate f p q = f * q * Logistic.host p + p * (f * q) * (Logistic.host p * (1 - Logistic.host p)) := by
  rw [dgate, hf, hq, ← EReal.coe_mul, Logistic.silu]

/-- What the precondition says: the incoming gradient, the weight and the up projection are real. -/
theorem all_real (a0 : FVec Ideal S2048x2048 .bf16) (a1 : FVec Ideal S5632x2048 .f32) (a2 a3 : FVec Ideal S2048x5632 .bf16)
    (h : Cert.Pre_finite_down.fn (F := Ideal) a0 a1 a2 a3 = fun _ => 1#1) :
    (∀ i, a0 i = (((a0 i).toReal : ℝ) : EReal)) ∧ (∀ i, a1 i = (((a1 i).toReal : ℝ) : EReal)) ∧ ∀ i, a3 i = (((a3 i).toReal : ℝ) : EReal) := by
  have j : Cert.Pre_finite_down.S_.Idx := fun a => a.elim0
  have e := congrFun h j
  obtain ⟨e, e3⟩ := IntOp.andi_eq_one.1 e
  obtain ⟨e0, e1⟩ := IntOp.andi_eq_one.1 e
  exact ⟨fun i => Finite.real_of_all _ _ _ (extf (F := Ideal) .f32 a0 _) j e0 i, fun i => Finite.real_of_all _ _ _ a1 j e1 i,
    fun i => Finite.real_of_all _ _ _ (extf (F := Ideal) .f32 a3 _) j e3 i⟩

/-- A product of real arrays is real. -/
theorem prod_real (x : Vec Ideal S2048x2048 .bf16) (y : Vec Ideal S5632x2048 .f32) (hx : ∀ i, x i = (((x i).toReal : ℝ) : EReal))
    (hy : ∀ i, y i = (((y i).toReal : ℝ) : EReal)) (i : Fin 2048) (j : Fin 5632) : ∃ r : ℝ, prod x y i j = (r : EReal) := by
  refine ⟨∑ k : Fin 2048, (x (ix2 i k)).toReal * (y (ix2 j k)).toReal, ?_⟩
  rw [prod, ← Model.coe_sum]
  refine Finset.sum_congr rfl fun k _ => ?_
  rw [EReal.coe_mul, ← hx, ← hy]

theorem same : Cert.algebraic_DownDxIdeal_DownDxRefIdeal_pre_finite_down := by
  pair_intro
  · run_from Cert.DownDxIdeal.Value.run m g
  · run_from Cert.DownDxRefIdeal.Value.run m' g'
    · refine (DownDxRefIdeal.Read.val_main_v10_eq (F := Ideal) _ _ _ _).trans ?_
      funext j
      idx_vars j
      rw [value0]
      pointwise [DownDxRefIdeal.Read.val_main_v0, DownDxRefIdeal.Read.val_main_v1, DownDxRefIdeal.Read.val_main_call0_v0, DownDxRefIdeal.Read.val_main_call0_v1, DownDxRefIdeal.Read.val_main_call0_cst, DownDxRefIdeal.Read.val_main_call0_v2, DownDxRefIdeal.Read.val_main_call0_v3, DownDxRefIdeal.Read.val_main_call0_cst_0, DownDxRefIdeal.Read.val_main_call0_v4, DownDxRefIdeal.Read.val_main_v2_2, DownDxRefIdeal.Read.val_main_call0_cst_1, DownDxRefIdeal.Read.val_main_call0_v6, DownDxRefIdeal.Read.val_main_call0_v7, DownDxRefIdeal.Read.val_main_v2_1, DownDxRefIdeal.Read.val_main_v2_0, DownDxRefIdeal.Read.val_main_v3, DownDxRefIdeal.Read.val_main_v4, DownDxRefIdeal.Read.val_main_v5, DownDxRefIdeal.Read.val_main_v6, DownDxRefIdeal.Read.val_main_v7, DownDxRefIdeal.Read.val_main_v8, DownDxRefIdeal.Read.val_main_call1_v0, DownDxRefIdeal.Read.val_main_call1_v1, DownDxRefIdeal.Read.val_main_call1_v2, DownDxRefIdeal.Read.val_main_v9, DownDxRefIdeal.Read.val_main_v10, DownDxRefIdeal.Read.val_main_v11]
      obtain ⟨r0, r1, r3⟩ := all_real _ _ _ _ (hpre c)
      obtain ⟨r, hr⟩ := prod_real (xs m c) (ys m c) r0 r1 j0 j1
      exact (dgate_real _ _ _ _ hr (r3 (ix2 j0 j1))).symm
    · refine (DownDxRefIdeal.Read.val_main_v11_eq (F := Ideal) _ _ _).trans ?_
      funext j
      idx_vars j
      rw [value1]
      pointwise [DownDxRefIdeal.Read.val_main_v0, DownDxRefIdeal.Read.val_main_v1, DownDxRefIdeal.Read.val_main_call0_v0, DownDxRefIdeal.Read.val_main_call0_v1, DownDxRefIdeal.Read.val_main_call0_cst, DownDxRefIdeal.Read.val_main_call0_v2, DownDxRefIdeal.Read.val_main_call0_v3, DownDxRefIdeal.Read.val_main_call0_cst_0, DownDxRefIdeal.Read.val_main_call0_v4, DownDxRefIdeal.Read.val_main_v2_2, DownDxRefIdeal.Read.val_main_call0_cst_1, DownDxRefIdeal.Read.val_main_call0_v6, DownDxRefIdeal.Read.val_main_call0_v7, DownDxRefIdeal.Read.val_main_v2_1, DownDxRefIdeal.Read.val_main_v2_0, DownDxRefIdeal.Read.val_main_v3, DownDxRefIdeal.Read.val_main_v4, DownDxRefIdeal.Read.val_main_v5, DownDxRefIdeal.Read.val_main_v6, DownDxRefIdeal.Read.val_main_v7, DownDxRefIdeal.Read.val_main_v8, DownDxRefIdeal.Read.val_main_call1_v0, DownDxRefIdeal.Read.val_main_call1_v1, DownDxRefIdeal.Read.val_main_call1_v2, DownDxRefIdeal.Read.val_main_v9, DownDxRefIdeal.Read.val_main_v10, DownDxRefIdeal.Read.val_main_v11]
      exact mul_comm _ _

end Cert.Proof.DownDx

end
-- ==== Proof.UpDx.lean ====
/- The gradient of the feed-forward layer's input: the array the call returns is the sum of the two products with the
   transposed weights, added up over four tiles of the hidden axis. -/
module

public import proofs.«01_k».proof.Proof.Gen.UpDxIdeal.Value
public import Idealize.ShloMosaic.Lib.Pipeline.ValueKit
public import Idealize.ShloMosaic.Lib.Pipeline.ReadBack
public import Idealize.ShloMosaic.Lib.Claim
public import proofs.«01_k».proof.Defs
public import proofs.«01_k».proof.Proof.Gen.UpDxRefIdeal.Read

@[expose] public section

set_option maxRecDepth 16384
set_option maxHeartbeats 1000000
set_option pp.maxSteps 400

noncomputable section

namespace Cert.Proof.UpDx

open Cert.UpDxIdeal Cert.UpDxIdeal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val / 8, t.val % 4] ∧ win0_1.index t = ![t.val / 8, t.val % 4]
    ∧ win0_2.index t = ![t.val % 4, t.val / 4 % 2, 0, 0] ∧ win0_3.index t = ![t.val % 4, t.val / 4 % 2, 0, 0] :=
  (by decide +kernel : ∀ t : Fin grid0.N, _)

/-- The four arrays of the call. -/
def da : Vec Ideal S2048x5632 .bf16 := m ((c : Thread nD τ).loc main_arg0)
def db : Vec Ideal S2048x5632 .bf16 := m ((c : Thread nD τ).loc main_arg1)
def w1 : Vec Ideal S2048x5632 .f32 := m ((c : Thread nD τ).loc main_arg2)
def w3 : Vec Ideal S2048x5632 .f32 := m ((c : Thread nD τ).loc main_arg3)

/-- Tile `s` of the hidden axis: its part of the row `i` of the gradient at column `j`. -/
def part (i j : Fin 2048) (s : Fin 4) : EReal :=
  (∑ k : Fin 1408, da m c (ix2 i ⟨s.val * 1408 + k.val, by omega⟩) * w1 m c (ix2 j ⟨s.val * 1408 + k.val, by omega⟩))
    + ∑ k : Fin 1408, db m c (ix2 i ⟨s.val * 1408 + k.val, by omega⟩) * w3 m c (ix2 j ⟨s.val * 1408 + k.val, by omega⟩)

theorem pay1_at (v11 v15 : Vec Ideal S1024x1408 .bf16) (v12 v16 : Vec Ideal S1x1x1024x1408 .bf16) (a b : Fin 1024) :
    k0_pay1 (F := Ideal) v11 v12 v15 v16 (ix2 a b) = (∑ k : Fin 1408, v11 (ix2 a k) * v12 (ix4 0 0 b k)) + ∑ k : Fin 1408, v15 (ix2 a k) * v16 (ix4 0 0 b k) := by
  unfold_payloads
  pointwise

theorem pay2_at (v11 v15 : Vec Ideal S1024x1408 .bf16) (v12 v16 : Vec Ideal S1x1x1024x1408 .bf16) (v20 : Vec Ideal S1024x1024 .f32) (a b : Fin 1024) :
    k0_pay2 (F := Ideal) v11 v12 v15 v16 v20 (ix2 a b) = v20 (ix2 a b) + k0_pay1 (F := Ideal) v11 v12 v15 v16 (ix2 a b) := by
  rw [pay1_at]
  unfold_payloads
  pointwise

theorem pay3_at (v11 v15 : Vec Ideal S1024x1408 .bf16) (v12 v16 : Vec Ideal S1x1x1024x1408 .bf16) (v20 : Vec Ideal S1024x1024 .f32) (a b : Fin 1024) :
    k0_pay3 (F := Ideal) v11 v12 v15 v16 v20 (ix2 a b) = v20 (ix2 a b) + k0_pay1 (F := Ideal) v11 v12 v15 v16 (ix2 a b) := by
  rw [pay1_at]
  unfold_payloads
  pointwise

/-- A point's products, as its tile's part of the array's element. -/
theorem tile (t : Fin cfg0.N) (a b : Fin 1024) (i j : Fin 2048) (s : Fin 4) (hs : t.val % 4 = s.val)
    (hi : i.val = t.val / 8 * 1024 + a.val) (hj : j.val = t.val / 4 % 2 * 1024 + b.val) :
    k0_pay1 (F := Ideal) (iblk m c 0 t) (iblk m c 2 t) (iblk m c 1 t) (iblk m c 3 t) (ix2 a b) = part m c i j s := by
  rw [pay1_at]
  refine congr (congrArg _ (Finset.sum_congr rfl fun k _ => ?_)) (Finset.sum_congr rfl fun k _ => ?_)
  · refine congr (congrArg _ ?_) ?_
    · blk_ext! [iblk, V, idx t, da]
    · blk_ext! [iblk, V, idx t, w1]
  · refine congr (congrArg _ ?_) ?_
    · blk_ext! [iblk, V, idx t, db]
    · blk_ext! [iblk, V, idx t, w3]

theorem first (t : Fin cfg0.N) (h0 : t.val % 4 = 0) :
    (outsAt0 m c t.val t.isLt).2 = k0_pay1 (F := Ideal) (iblk m c 0 t) (iblk m c 2 t) (iblk m c 1 t) (iblk m c 3 t) := by
  have h1 : ¬(1 ≤ t.val % 4 ∧ t.val % 4 ≤ 2) := by omega
  have h2 : ¬t.val % 4 = 3 := by omega
  rw [outsAt0_A m c t h0 h1 h2]
  frame_out

theorem next (t : Fin cfg0.N) (h1 : 1 ≤ t.val % 4 ∧ t.val % 4 ≤ 2) :
    (outsAt0 m c t.val t.isLt).2 = k0_pay2 (F := Ideal) (iblk m c 0 t) (iblk m c 2 t) (iblk m c 1 t) (iblk m c 3 t) (outsAt0 m c (t.val - 1) (Nat.lt_of_le_of_lt (Nat.sub_le _ _) t.isLt)).2 := by
  have h0 : ¬t.val % 4 = 0 := by omega
  have h2 : ¬t.val % 4 = 3 := by omega
  rw [outsAt0_B m c t h0 h1 h2]
  frame_out
  simp only [read_unread_whole]

theorem last (t : Fin cfg0.N) (h2 : t.val % 4 = 3) :
    (outsAt0 m c t.val t.isLt).1 = k0_pay3 (F := Ideal) (iblk m c 0 t) (iblk m c 2 t) (iblk m c 1 t) (iblk m c 3 t) (outsAt0 m c (t.val - 1) (Nat.lt_of_le_of_lt (Nat.sub_le _ _) t.isLt)).2 := by
  have h0 : ¬t.val % 4 = 0 := by omega
  have h1 : ¬(1 ≤ t.val % 4 ∧ t.val % 4 ≤ 2) := by omega
  rw [outsAt0_C m c t h0 h1 h2]
  frame_out
  simp only [read_unread_whole]

theorem sums (t : Fin cfg0.N) (h2 : t.val % 4 = 3) (a b : Fin 1024) (i j : Fin 2048)
    (hi : i.val = t.val / 8 * 1024 + a.val) (hj : j.val = t.val / 4 % 2 * 1024 + b.val) :
    (outsAt0 m c t.val t.isLt).1 (ix2 a b) = ∑ s, part m c i j s := by
  have l := t.isLt
  rw [last m c t h2, pay3_at, tile m c t a b i j 3 h2 hi hj,
    next m c ⟨t.val - 1, by omega⟩ (by show 1 ≤ (t.val - 1) % 4 ∧ (t.val - 1) % 4 ≤ 2; omega), pay2_at,
    tile m c ⟨t.val - 1, by omega⟩ a b i j 2 (by show (t.val - 1) % 4 = 2; omega) (by show i.val = (t.val - 1) / 8 * 1024 + a.val; omega) (by show j.val = (t.val - 1) / 4 % 2 * 1024 + b.val; omega),
    next m c ⟨t.val - 1 - 1, by omega⟩ (by show 1 ≤ (t.val - 1 - 1) % 4 ∧ (t.val - 1 - 1) % 4 ≤ 2; omega), pay2_at,
    tile m c ⟨t.val - 1 - 1, by omega⟩ a b i j 1 (by show (t.val - 1 - 1) % 4 = 1; omega) (by show i.val = (t.val - 1 - 1) / 8 * 1024 + a.val; omega) (by show j.val = (t.val - 1 - 1) / 4 % 2 * 1024 + b.val; omega),
    first m c ⟨t.val - 1 - 1 - 1, by omega⟩ (by show (t.val - 1 - 1 - 1) % 4 = 0; omega),
    tile m c ⟨t.val - 1 - 1 - 1, by omega⟩ a b i j 0 (by show (t.val - 1 - 1 - 1) % 4 = 0; omega) (by show i.val = (t.val - 1 - 1 - 1) / 8 * 1024 + a.val; omega) (by show j.val = (t.val - 1 - 1 - 1) / 4 % 2 * 1024 + b.val; omega),
    Fin.sum_univ_four]

theorem value (i j : Fin 2048) :
    Value.G4 m c (ix2 i j) = (∑ l, da m c (ix2 i l) * w1 m c (ix2 j l)) + ∑ l, db m c (ix2 i l) * w3 m c (ix2 j l) := by
  have hp : Value.pt4Of (ix2 i j) < cfg0.N := by
    refine lt_of_lt_of_eq ?_ N_0.symm
    show 4 * (2 * (i.val / 1024 - 0) + 1 * (j.val / 1024 - 0)) + 3 < 16
    omega
  unfold Value.G4
  rw [dif_pos hp, ← Value.outsAt0_sweep m c _ hp]
  have e : Value.loc4Of (ix2 i j) = ix2 (⟨i.val % 1024, by omega⟩ : Fin 1024) (⟨j.val % 1024, by omega⟩ : Fin 1024) := by
    funext a; match a with
    | 0 => rfl
    | 1 => rfl
  rw [e, sums m c ⟨Value.pt4Of (ix2 i j), hp⟩ (by show (4 * (2 * (i.val / 1024 - 0) + 1 * (j.val / 1024 - 0)) + 3) % 4 = 3; omega) _ _ i j
    (by show i.val = (4 * (2 * (i.val / 1024 - 0) + 1 * (j.val / 1024 - 0)) + 3) / 8 * 1024 + i.val % 1024; omega)
    (by show j.val = (4 * (2 * (i.val / 1024 - 0) + 1 * (j.val / 1024 - 0)) + 3) / 4 % 2 * 1024 + j.val % 1024; omega)]
  simp only [part]
  rw [Finset.sum_add_distrib]
  exact congr (congrArg _ (Fin.sum_mul_add_congr fun s k hl => rfl)) (Fin.sum_mul_add_congr fun s k hl => rfl)

theorem same : Cert.algebraic_UpDxIdeal_UpDxRefIdeal := by
  pair_intro
  · run_from Cert.UpDxIdeal.Value.run m g
  · run_from Cert.UpDxRefIdeal.Value.run m' g'
    refine (UpDxRefIdeal.Read.val_main_v7_eq (F := Ideal) _ _ _ _).trans ?_
    funext j
    idx_vars j
    rw [value]
    pointwise [UpDxRefIdeal.Read.val_main_v7, UpDxRefIdeal.Read.val_main_v6, UpDxRefIdeal.Read.val_main_v5]
    exact add_comm _ _

end Cert.Proof.UpDx

end
-- ==== Proof.UpDw.lean ====
/- The gradients of the feed-forward layer's two input weights: each array the call returns is a product over the
   positions of the sequence, added up over two halves of it. -/
module

public import proofs.«01_k».proof.Defs
public import proofs.«01_k».proof.Proof.Gen.UpDwIdeal.Value
public import proofs.«01_k».proof.Proof.Gen.UpDwRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.UpDw

open Cert.UpDwIdeal Cert.UpDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 2, t.val / 8] ∧ win0_1.index t = ![t.val % 2, t.val / 2 % 4]
    ∧ win0_2.index t = ![t.val % 2, t.val / 2 % 4] :=
  (by decide +kernel : ∀ t : Fin grid0.N, _)

/-- The three arrays of the call. -/
def h : Vec Ideal S2048x2048 .bf16 := m ((c : Thread nD τ).loc main_arg0)
def da : Vec Ideal S2048x5632 .bf16 := m ((c : Thread nD τ).loc main_arg1)
def db : Vec Ideal S2048x5632 .bf16 := m ((c : Thread nD τ).loc main_arg2)

/-- Half `s` of the sequence: its part of the weight gradient's row `i` at column `j`. -/
def part (x : Vec Ideal S2048x2048 .bf16) (y : Vec Ideal S2048x5632 .bf16) (i : Fin 2048) (j : Fin 5632) (s : Fin 2) : EReal :=
  ∑ k : Fin 1024, x (ix2 ⟨s.val * 1024 + k.val, by omega⟩ i) * y (ix2 ⟨s.val * 1024 + k.val, by omega⟩ j)

theorem pay1_at (x : Vec Ideal S1024x1024 .bf16) (y : Vec Ideal S1024x1408 .bf16) (a : Fin 1024) (b : Fin 1408) :
    k0_pay1 (F := Ideal) x y (ix2 a b) = ∑ k : Fin 1024, x (ix2 k a) * y (ix2 k b) := by
  unfold_payloads
  pointwise

theorem pay2_at (x : Vec Ideal S1024x1024 .bf16) (y : Vec Ideal S1024x1408 .bf16) (a : Fin 1024) (b : Fin 1408) :
    k0_pay2 (F := Ideal) x y (ix2 a b) = ∑ k : Fin 1024, x (ix2 k a) * y (ix2 k b) := by
  unfold_payloads
  pointwise

theorem pay5_at (x : Vec Ideal S1024x1024 .bf16) (y : Vec Ideal S1024x1408 .bf16) (z : Vec Ideal S1024x1408 .f32) (a : Fin 1024) (b : Fin 1408) :
    k0_pay5 (F := Ideal) x y z (ix4 0 0 a b) = z (ix2 a b) + k0_pay1 (F := Ideal) x y (ix2 a b) := by
  rw [pay1_at]
  unfold_payloads
  pointwise

theorem pay6_at (x : Vec Ideal S1024x1024 .bf16) (y : Vec Ideal S1024x1408 .bf16) (z : Vec Ideal S1024x1408 .f32) (a : Fin 1024) (b : Fin 1408) :
    k0_pay6 (F := Ideal) x y z (ix4 0 0 a b) = z (ix2 a b) + k0_pay2 (F := Ideal) x y (ix2 a b) := by
  rw [pay2_at]
  unfold_payloads
  pointwise

/-- A point's blocks read the arrays at its half of the sequence and its tile. -/
theorem tile1 (t : Fin cfg0.N) (a : Fin 1024) (b : Fin 1408) (i : Fin 2048) (j : Fin 5632) (s : Fin 2) (hs : t.val % 2 = s.val)
    (hi : i.val = t.val / 8 * 1024 + a.val) (hj : j.val = t.val / 2 % 4 * 1408 + b.val) :
    k0_pay1 (F := Ideal) (iblk m c 0 t) (iblk m c 1 t) (ix2 a b) = part (h m c) (da m c) i j s := by
  rw [pay1_at]
  refine Finset.sum_congr rfl fun k _ => congr (congrArg _ ?_) ?_
  · blk_ext! [iblk, V, idx t, h]
  · blk_ext! [iblk, V, idx t, da]

theorem tile2 (t : Fin cfg0.N) (a : Fin 1024) (b : Fin 1408) (i : Fin 2048) (j : Fin 5632) (s : Fin 2) (hs : t.val % 2 = s.val)
    (hi : i.val = t.val / 8 * 1024 + a.val) (hj : j.val = t.val / 2 % 4 * 1408 + b.val) :
    k0_pay2 (F := Ideal) (iblk m c 0 t) (iblk m c 2 t) (ix2 a b) = part (h m c) (db m c) i j s := by
  rw [pay2_at]
  refine Finset.sum_congr rfl fun k _ => congr (congrArg _ ?_) ?_
  · blk_ext! [iblk, V, idx t, h]
  · blk_ext! [iblk, V, idx t, db]

theorem first (t : Fin cfg0.N) (h0 : t.val % 2 = 0) :
    (outsAt0 m c t.val t.isLt).2.2.1 = k0_pay1 (F := Ideal) (iblk m c 0 t) (iblk m c 1 t)
      ∧ (outsAt0 m c t.val t.isLt).2.2.2 = k0_pay2 (F := Ideal) (iblk m c 0 t) (iblk m c 2 t) := by
  have h2 : ¬t.val % 2 = 1 := by omega
  rw [outsAt0_A m c t h0 h2]
  constructor <;> frame_out

theorem last (t : Fin cfg0.N) (h2 : t.val % 2 = 1) :
    (outsAt0 m c t.val t.isLt).1 = k0_pay5 (F := Ideal) (iblk m c 0 t) (iblk m c 1 t) (outsAt0 m c (t.val - 1) (Nat.lt_of_le_of_lt (Nat.sub_le _ _) t.isLt)).2.2.1
      ∧ (outsAt0 m c t.val t.isLt).2.1 = k0_pay6 (F := Ideal) (iblk m c 0 t) (iblk m c 2 t) (outsAt0 m c (t.val - 1) (Nat.lt_of_le_of_lt (Nat.sub_le _ _) t.isLt)).2.2.2 := by
  have h0 : ¬t.val % 2 = 0 := by omega
  rw [outsAt0_B m c t h0 h2]
  constructor
  · frame_out
    simp only [read_unread_whole]
  · frame_out
    simp only [read_unread_whole]

theorem sums (t : Fin cfg0.N) (h2 : t.val % 2 = 1) (a : Fin 1024) (b : Fin 1408) (i : Fin 2048) (j : Fin 5632)
    (hi : i.val = t.val / 8 * 1024 + a.val) (hj : j.val = t.val / 2 % 4 * 1408 + b.val) :
    (outsAt0 m c t.val t.isLt).1 (ix4 0 0 a b) = ∑ s, part (h m c) (da m c) i j s
      ∧ (outsAt0 m c t.val t.isLt).2.1 (ix4 0 0 a b) = ∑ s, part (h m c) (db m c) i j s := by
  have l := t.isLt
  have hi' : i.val = (t.val - 1) / 8 * 1024 + a.val := by omega
  have hj' : j.val = (t.val - 1) / 2 % 4 * 1408 + b.val := by omega
  have f := first m c ⟨t.val - 1, by omega⟩ (by show (t.val - 1) % 2 = 0; omega)
  constructor
  · rw [(last m c t h2).1, pay5_at, tile1 m c t a b i j 1 h2 hi hj, f.1,
      tile1 m c ⟨t.val - 1, by omega⟩ a b i j 0 (by show (t.val - 1) % 2 = 0; omega) hi' hj', Fin.sum_univ_two]
  · rw [(last m c t h2).2, pay6_at, tile2 m c t a b i j 1 h2 hi hj, f.2,
      tile2 m c ⟨t.val - 1, by omega⟩ a b i j 0 (by show (t.val - 1) % 2 = 0; omega) hi' hj', Fin.sum_univ_two]

/-- The row and the column of the gradient that the gathered layout keeps at `(p, q, r, l)`. -/
theorem value3 (p : Fin 2) (q : Fin 4) (r : Fin 1024) (l : Fin 1408) :
    Value.G3 m c (ix4 p q r l) = ∑ k : Fin 2048, h m c (ix2 k ⟨p.val * 1024 + r.val, by omega⟩) * da m c (ix2 k ⟨q.val * 1408 + l.val, by omega⟩) := by
  have e0 : Value.pt3Of (ix4 p q r l) = 8 * p.val + 2 * q.val + 1 := by
    show 2 * (4 * (p.val / 1 - 0) + 1 * (q.val / 1 - 0) + 1 * (r.val / 1024 - 0) + 1 * (l.val / 1408 - 0)) + 1 = _
    omega
  have hp : Value.pt3Of (ix4 p q r l) < cfg0.N := by rw [e0]; exact lt_of_lt_of_eq (by omega) N_0.symm
  unfold Value.G3
  rw [dif_pos hp, ← Value.outsAt0_sweep m c _ hp]
  have e : Value.loc3Of (ix4 p q r l) = ix4 0 0 r l := by
    funext a; match a with
    | 0 => exact Fin.ext (Nat.mod_one _)
    | 1 => exact Fin.ext (Nat.mod_one _)
    | 2 => exact Fin.ext (Nat.mod_eq_of_lt r.isLt)
    | 3 => exact Fin.ext (Nat.mod_eq_of_lt l.isLt)
  rw [e, (sums m c ⟨Value.pt3Of (ix4 p q r l), hp⟩ (by show Value.pt3Of (ix4 p q r l) % 2 = 1; omega) r l ⟨p.val * 1024 + r.val, by omega⟩ ⟨q.val * 1408 + l.val, by omega⟩
    (by show p.val * 1024 + r.val = Value.pt3Of (ix4 p q r l) / 8 * 1024 + r.val; omega)
    (by show q.val * 1408 + l.val = Value.pt3Of (ix4 p q r l) / 2 % 4 * 1408 + l.val; omega)).1]
  exact Fin.sum_mul_add_congr fun s k hl => rfl

theorem value4 (p : Fin 2) (q : Fin 4) (r : Fin 1024) (l : Fin 1408) :
    Value.G4 m c (ix4 p q r l) = ∑ k : Fin 2048, h m c (ix2 k ⟨p.val * 1024 + r.val, by omega⟩) * db m c (ix2 k ⟨q.val * 1408 + l.val, by omega⟩) := by
  have e0 : Value.pt4Of (ix4 p q r l) = 8 * p.val + 2 * q.val + 1 := by
    show 2 * (4 * (p.val / 1 - 0) + 1 * (q.val / 1 - 0) + 1 * (r.val / 1024 - 0) + 1 * (l.val / 1408 - 0)) + 1 = _
    omega
  have hp : Value.pt4Of (ix4 p q r l) < cfg0.N := by rw [e0]; exact lt_of_lt_of_eq (by omega) N_0.symm
  unfold Value.G4
  rw [dif_pos hp, ← Value.outsAt0_sweep m c _ hp]
  have e : Value.loc4Of (ix4 p q r l) = ix4 0 0 r l := by
    funext a; match a with
    | 0 => exact Fin.ext (Nat.mod_one _)
    | 1 => exact Fin.ext (Nat.mod_one _)
    | 2 => exact Fin.ext (Nat.mod_eq_of_lt r.isLt)
    | 3 => exact Fin.ext (Nat.mod_eq_of_lt l.isLt)
  rw [e, (sums m c ⟨Value.pt4Of (ix4 p q r l), hp⟩ (by show Value.pt4Of (ix4 p q r l) % 2 = 1; omega) r l ⟨p.val * 1024 + r.val, by omega⟩ ⟨q.val * 1408 + l.val, by omega⟩
    (by show p.val * 1024 + r.val = Value.pt4Of (ix4 p q r l) / 8 * 1024 + r.val; omega)
    (by show q.val * 1408 + l.val = Value.pt4Of (ix4 p q r l) / 2 % 4 * 1408 + l.val; omega)).2]
  exact Fin.sum_mul_add_congr fun s k hl => rfl

theorem same : Cert.algebraic_UpDwIdeal_UpDwRefIdeal := by
  pair_intro
  · run_from Cert.UpDwIdeal.Value.run m g
  · run_from Cert.UpDwRefIdeal.Value.run m' g'
    · refine (UpDwRefIdeal.Read.val_main_v13_eq (F := Ideal) _ _).trans ?_
      funext j
      idx_vars j
      rw [value3]
      pointwise [UpDwRefIdeal.Read.val_main_v13, UpDwRefIdeal.Read.val_main_v12, UpDwRefIdeal.Read.val_main_v11, UpDwRefIdeal.Read.val_main_v10, UpDwRefIdeal.Read.val_main_v9]
      exact Finset.sum_congr rfl fun k _ => mul_comm _ _
    · refine (UpDwRefIdeal.Read.val_main_v16_eq (F := Ideal) _ _).trans ?_
      funext j
      idx_vars j
      rw [value4]
      pointwise [UpDwRefIdeal.Read.val_main_v16, UpDwRefIdeal.Read.val_main_v15, UpDwRefIdeal.Read.val_main_v14, UpDwRefIdeal.Read.val_main_v8, UpDwRefIdeal.Read.val_main_v7]
      exact Finset.sum_congr rfl fun k _ => mul_comm _ _

end Cert.Proof.UpDw

end
-- ==== Proof.DownDw.lean ====
/- The gradient of the feed-forward layer's output weight: the array the call returns is a product over the positions of
   the sequence, added up over two halves of it. -/
module

public import proofs.«01_k».proof.Defs
public import proofs.«01_k».proof.Proof.Gen.DownDwIdeal.Value
public import proofs.«01_k».proof.Proof.Gen.DownDwRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.DownDw

open Cert.DownDwIdeal Cert.DownDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 2, t.val / 4] ∧ win0_1.index t = ![t.val % 2, t.val / 2 % 2] :=
  (by decide +kernel : ∀ t : Fin grid0.N, _)

/-- The arrays of the call. -/
def xs : Vec Ideal S2048x5632 .bf16 := m ((c : Thread nD τ).loc main_arg0)
def ys : Vec Ideal S2048x2048 .bf16 := m ((c : Thread nD τ).loc main_arg1)

/-- Tile `s` of the summed axis: its part of the product's row `i` at column `j`. -/
def part (x : Vec Ideal S2048x5632 .bf16) (y : Vec Ideal S2048x2048 .bf16) (i : Fin 5632) (j : Fin 2048) (s : Fin 2) : EReal :=
  ∑ k : Fin 1024, x (ix2 ⟨s.val * 1024 + k.val, by omega⟩ i) * y (ix2 ⟨s.val * 1024 + k.val, by omega⟩ j)

theorem pay1_at (x : Vec Ideal S1024x1408 .bf16) (y : Vec Ideal S1024x1024 .bf16) (a : Fin 1408) (b : Fin 1024) :
    k0_pay1 (F := Ideal) x y (ix2 a b) = ∑ k : Fin 1024, x (ix2 k a) * y (ix2 k b) := by
  unfold_payloads
  pointwise

theorem pay3_at (x : Vec Ideal S1024x1408 .bf16) (y : Vec Ideal S1024x1024 .bf16) (z : Vec Ideal S1408x1024 .f32) (a : Fin 1408) (b : Fin 1024) :
    k0_pay3 (F := Ideal) x y z (ix4 0 0 a b) = z (ix2 a b) + k0_pay1 (F := Ideal) x y (ix2 a b) := by
  rw [pay1_at]
  unfold_payloads
  pointwise

/-- A point's product, as its tile's part of the array's element. -/
theorem tile (t : Fin cfg0.N) (a : Fin 1408) (b : Fin 1024) (i : Fin 5632) (j : Fin 2048) (s : Fin 2) (hs : t.val % 2 = s.val)
    (hi : i.val = t.val / 4 * 1408 + a.val) (hj : j.val = t.val / 2 % 2 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2 = k0_pay1 (F := Ideal) (iblk m c 0 t) (iblk m c 1 t) := by
  have h2 : ¬t.val % 2 = 1 := by omega
  rw [outsAt0_A m c t h0 h2]
  frame_out

theorem last (t : Fin cfg0.N) (h2 : t.val % 2 = 1) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 2 = 0 := by omega
  rw [outsAt0_B m c t h0 h2]
  frame_out
  simp only [read_unread_whole]

theorem sums (t : Fin cfg0.N) (h2 : t.val % 2 = 1) (a : Fin 1408) (b : Fin 1024) (i : Fin 5632) (j : Fin 2048)
    (hi : i.val = t.val / 4 * 1408 + a.val) (hj : j.val = t.val / 2 % 2 * 1024 + b.val) :
    (outsAt0 m c t.val t.isLt).1 (ix4 0 0 a b) = (∑ s, part (xs m c) (ys m c) i j s) := by
  have l := t.isLt
  rw [last m c t h2, pay3_at, tile m c t a b i j 1 h2 hi hj,
    first m c ⟨t.val - 1, by omega⟩ (by show (t.val - 1) % 2 = 0; omega),
    tile m c ⟨t.val - 1, by omega⟩ a b i j 0 (by show (t.val - 1) % 2 = 0; omega) (by show i.val = (t.val - 1) / 4 * 1408 + a.val; omega) (by show j.val = (t.val - 1) / 2 % 2 * 1024 + b.val; omega),
    Fin.sum_univ_two]

/-- The call's array at `(p, q, r, l)`, the gathered layout's place of a row and a column of the product. -/
theorem value (p : Fin 2) (q : Fin 4) (r : Fin 1408) (l : Fin 1024) :
    Value.G2 m c (ix4 p q r l) = ∑ k : Fin 2048, xs m c (ix2 k ⟨q.val * 1408 + r.val, by omega⟩) * ys m c (ix2 k ⟨p.val * 1024 + l.val, by omega⟩) := by
  have e0 : Value.pt2Of (ix4 p q r l) = 4 * q.val + 2 * p.val + 1 := by
    show 2 * (1 * (p.val / 1 - 0) + 2 * (q.val / 1 - 0) + 8 * (r.val / 1408 - 0) + 8 * (l.val / 1024 - 0)) + 1 = _
    omega
  have hp : Value.pt2Of (ix4 p q r l) < cfg0.N := by rw [e0]; exact lt_of_lt_of_eq (by omega) N_0.symm
  unfold Value.G2
  rw [dif_pos hp, ← Value.outsAt0_sweep m c _ hp]
  have e : Value.loc2Of (ix4 p q r l) = ix4 0 0 r l := by
    funext a; match a with
    | 0 => exact Fin.ext (Nat.mod_one _)
    | 1 => exact Fin.ext (Nat.mod_one _)
    | 2 => exact Fin.ext (Nat.mod_eq_of_lt r.isLt)
    | 3 => exact Fin.ext (Nat.mod_eq_of_lt l.isLt)
  rw [e, sums m c ⟨Value.pt2Of (ix4 p q r l), hp⟩ (by show Value.pt2Of (ix4 p q r l) % 2 = 1; omega) r l ⟨q.val * 1408 + r.val, by omega⟩ ⟨p.val * 1024 + l.val, by omega⟩
    (by show q.val * 1408 + r.val = Value.pt2Of (ix4 p q r l) / 4 * 1408 + r.val; omega)
    (by show p.val * 1024 + l.val = Value.pt2Of (ix4 p q r l) / 2 % 2 * 1024 + l.val; omega)]
  exact Fin.sum_mul_add_congr fun s k hl => rfl

theorem same : Cert.algebraic_DownDwIdeal_DownDwRefIdeal := by
  pair_intro
  · run_from Cert.DownDwIdeal.Value.run m g
  · run_from Cert.DownDwRefIdeal.Value.run m' g'
    refine (DownDwRefIdeal.Read.val_main_v8_eq (F := Ideal) _ _).trans ?_
    funext j
    idx_vars j
    rw [value]
    pointwise [DownDwRefIdeal.Read.val_main_v0, DownDwRefIdeal.Read.val_main_v1, DownDwRefIdeal.Read.val_main_v2, DownDwRefIdeal.Read.val_main_v3, DownDwRefIdeal.Read.val_main_v4, DownDwRefIdeal.Read.val_main_v5, DownDwRefIdeal.Read.val_main_v6, DownDwRefIdeal.Read.val_main_v7, DownDwRefIdeal.Read.val_main_v8]
    exact Finset.sum_congr rfl fun k _ => mul_comm _ _

end Cert.Proof.DownDw

end
-- ==== Proof.SqDw.lean ====
/- The gradient of a square weight: the array the call returns is a product over the positions of the sequence, added up
   over two halves of it. -/
module

public import proofs.«01_k».proof.Defs
public import proofs.«01_k».proof.Proof.Gen.SqDwIdeal.Value
public import proofs.«01_k».proof.Proof.Gen.SqDwRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.SqDw

open Cert.SqDwIdeal Cert.SqDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 2, t.val / 4] ∧ win0_1.index t = ![t.val % 2, t.val / 2 % 2] :=
  (by decide +kernel : ∀ t : Fin grid0.N, _)

/-- The arrays of the call. -/
def xs : Vec Ideal S2048x2048 .bf16 := m ((c : Thread nD τ).loc main_arg0)
def ys : Vec Ideal S2048x2048 .bf16 := m ((c : Thread nD τ).loc main_arg1)

/-- Tile `s` of the summed axis: its part of the product's row `i` at column `j`. -/
def part (x : Vec Ideal S2048x2048 .bf16) (y : Vec Ideal S2048x2048 .bf16) (i : Fin 2048) (j : Fin 2048) (s : Fin 2) : EReal :=
  ∑ k : Fin 1024, x (ix2 ⟨s.val * 1024 + k.val, by omega⟩ i) * y (ix2 ⟨s.val * 1024 + k.val, by omega⟩ j)

theorem pay1_at (x : Vec Ideal S1024x512 .bf16) (y : Vec Ideal S1024x1024 .bf16) (a : Fin 512) (b : Fin 1024) :
    k0_pay1 (F := Ideal) x y (ix2 a b) = ∑ k : Fin 1024, x (ix2 k a) * y (ix2 k b) := by
  unfold_payloads
  pointwise

theorem pay3_at (x : Vec Ideal S1024x512 .bf16) (y : Vec Ideal S1024x1024 .bf16) (z : Vec Ideal S512x1024 .f32) (a : Fin 512) (b : Fin 1024) :
    k0_pay3 (F := Ideal) x y z (ix4 0 0 a b) = z (ix2 a b) + k0_pay1 (F := Ideal) x y (ix2 a b) := by
  rw [pay1_at]
  unfold_payloads
  pointwise

/-- A point's product, as its tile's part of the array's element. -/
theorem tile (t : Fin cfg0.N) (a : Fin 512) (b : Fin 1024) (i : Fin 2048) (j : Fin 2048) (s : Fin 2) (hs : t.val % 2 = s.val)
    (hi : i.val = t.val / 4 * 512 + a.val) (hj : j.val = t.val / 2 % 2 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2 = k0_pay1 (F := Ideal) (iblk m c 0 t) (iblk m c 1 t) := by
  have h2 : ¬t.val % 2 = 1 := by omega
  rw [outsAt0_A m c t h0 h2]
  frame_out

theorem last (t : Fin cfg0.N) (h2 : t.val % 2 = 1) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 2 = 0 := by omega
  rw [outsAt0_B m c t h0 h2]
  frame_out
  simp only [read_unread_whole]

theorem sums (t : Fin cfg0.N) (h2 : t.val % 2 = 1) (a : Fin 512) (b : Fin 1024) (i : Fin 2048) (j : Fin 2048)
    (hi : i.val = t.val / 4 * 512 + a.val) (hj : j.val = t.val / 2 % 2 * 1024 + b.val) :
    (outsAt0 m c t.val t.isLt).1 (ix4 0 0 a b) = (∑ s, part (xs m c) (ys m c) i j s) := by
  have l := t.isLt
  rw [last m c t h2, pay3_at, tile m c t a b i j 1 h2 hi hj,
    first m c ⟨t.val - 1, by omega⟩ (by show (t.val - 1) % 2 = 0; omega),
    tile m c ⟨t.val - 1, by omega⟩ a b i j 0 (by show (t.val - 1) % 2 = 0; omega) (by show i.val = (t.val - 1) / 4 * 512 + a.val; omega) (by show j.val = (t.val - 1) / 2 % 2 * 1024 + b.val; omega),
    Fin.sum_univ_two]

/-- The call's array at `(p, q, r, l)`, the gathered layout's place of a row and a column of the product. -/
theorem value (p : Fin 2) (q : Fin 4) (r : Fin 512) (l : Fin 1024) :
    Value.G2 m c (ix4 p q r l) = ∑ k : Fin 2048, xs m c (ix2 k ⟨q.val * 512 + r.val, by omega⟩) * ys m c (ix2 k ⟨p.val * 1024 + l.val, by omega⟩) := by
  have e0 : Value.pt2Of (ix4 p q r l) = 4 * q.val + 2 * p.val + 1 := by
    show 2 * (1 * (p.val / 1 - 0) + 2 * (q.val / 1 - 0) + 8 * (r.val / 512 - 0) + 8 * (l.val / 1024 - 0)) + 1 = _
    omega
  have hp : Value.pt2Of (ix4 p q r l) < cfg0.N := by rw [e0]; exact lt_of_lt_of_eq (by omega) N_0.symm
  unfold Value.G2
  rw [dif_pos hp, ← Value.outsAt0_sweep m c _ hp]
  have e : Value.loc2Of (ix4 p q r l) = ix4 0 0 r l := by
    funext a; match a with
    | 0 => exact Fin.ext (Nat.mod_one _)
    | 1 => exact Fin.ext (Nat.mod_one _)
    | 2 => exact Fin.ext (Nat.mod_eq_of_lt r.isLt)
    | 3 => exact Fin.ext (Nat.mod_eq_of_lt l.isLt)
  rw [e, sums m c ⟨Value.pt2Of (ix4 p q r l), hp⟩ (by show Value.pt2Of (ix4 p q r l) % 2 = 1; omega) r l ⟨q.val * 512 + r.val, by omega⟩ ⟨p.val * 1024 + l.val, by omega⟩
    (by show q.val * 512 + r.val = Value.pt2Of (ix4 p q r l) / 4 * 512 + r.val; omega)
    (by show p.val * 1024 + l.val = Value.pt2Of (ix4 p q r l) / 2 % 2 * 1024 + l.val; omega)]
  exact Fin.sum_mul_add_congr fun s k hl => rfl

theorem same : Cert.algebraic_SqDwIdeal_SqDwRefIdeal := by
  pair_intro
  · run_from Cert.SqDwIdeal.Value.run m g
  · run_from Cert.SqDwRefIdeal.Value.run m' g'
    refine (SqDwRefIdeal.Read.val_main_v8_eq (F := Ideal) _ _).trans ?_
    funext j
    idx_vars j
    rw [value]
    pointwise [SqDwRefIdeal.Read.val_main_v0, SqDwRefIdeal.Read.val_main_v1, SqDwRefIdeal.Read.val_main_v2, SqDwRefIdeal.Read.val_main_v3, SqDwRefIdeal.Read.val_main_v4, SqDwRefIdeal.Read.val_main_v5, SqDwRefIdeal.Read.val_main_v6, SqDwRefIdeal.Read.val_main_v7, SqDwRefIdeal.Read.val_main_v8]
    exact Finset.sum_congr rfl fun k _ => mul_comm _ _

end Cert.Proof.SqDw

end
-- ==== Proof.ColDw.lean ====
/- The gradient of a weight of twice the model's width: the array the call returns is a product over the positions of the
   sequence, added up over two halves of it. -/
module

public import proofs.«01_k».proof.Defs
public import proofs.«01_k».proof.Proof.Gen.ColDwIdeal.Value
public import proofs.«01_k».proof.Proof.Gen.ColDwRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.ColDw

open Cert.ColDwIdeal Cert.ColDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 2, t.val / 8] ∧ win0_1.index t = ![t.val % 2, t.val / 2 % 4] :=
  (by decide +kernel : ∀ t : Fin grid0.N, _)

/-- The arrays of the call. -/
def xs : Vec Ideal S2048x2048 .bf16 := m ((c : Thread nD τ).loc main_arg0)
def ys : Vec Ideal S2048x4096 .bf16 := m ((c : Thread nD τ).loc main_arg1)

/-- Tile `s` of the summed axis: its part of the product's row `i` at column `j`. -/
def part (x : Vec Ideal S2048x2048 .bf16) (y : Vec Ideal S2048x4096 .bf16) (i : Fin 2048) (j : Fin 4096) (s : Fin 2) : EReal :=
  ∑ k : Fin 1024, x (ix2 ⟨s.val * 1024 + k.val, by omega⟩ i) * y (ix2 ⟨s.val * 1024 + k.val, by omega⟩ j)

theorem pay1_at (x : Vec Ideal S1024x1024 .bf16) (y : Vec Ideal S1024x1024 .bf16) (a : Fin 1024) (b : Fin 1024) :
    k0_pay1 (F := Ideal) x y (ix2 a b) = ∑ k : Fin 1024, x (ix2 k a) * y (ix2 k b) := by
  unfold_payloads
  pointwise

theorem pay3_at (x : Vec Ideal S1024x1024 .bf16) (y : Vec Ideal S1024x1024 .bf16) (z : Vec Ideal S1024x1024 .f32) (a : Fin 1024) (b : Fin 1024) :
    k0_pay3 (F := Ideal) x y z (ix4 0 0 a b) = z (ix2 a b) + k0_pay1 (F := Ideal) x y (ix2 a b) := by
  rw [pay1_at]
  unfold_payloads
  pointwise

/-- A point's product, as its tile's part of the array's element. -/
theorem tile (t : Fin cfg0.N) (a : Fin 1024) (b : Fin 1024) (i : Fin 2048) (j : Fin 4096) (s : Fin 2) (hs : t.val % 2 = s.val)
    (hi : i.val = t.val / 8 * 1024 + a.val) (hj : j.val = t.val / 2 % 4 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2 = k0_pay1 (F := Ideal) (iblk m c 0 t) (iblk m c 1 t) := by
  have h2 : ¬t.val % 2 = 1 := by omega
  rw [outsAt0_A m c t h0 h2]
  frame_out

theorem last (t : Fin cfg0.N) (h2 : t.val % 2 = 1) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 2 = 0 := by omega
  rw [outsAt0_B m c t h0 h2]
  frame_out
  simp only [read_unread_whole]

theorem sums (t : Fin cfg0.N) (h2 : t.val % 2 = 1) (a : Fin 1024) (b : Fin 1024) (i : Fin 2048) (j : Fin 4096)
    (hi : i.val = t.val / 8 * 1024 + a.val) (hj : j.val = t.val / 2 % 4 * 1024 + b.val) :
    (outsAt0 m c t.val t.isLt).1 (ix4 0 0 a b) = (∑ s, part (xs m c) (ys m c) i j s) := by
  have l := t.isLt
  rw [last m c t h2, pay3_at, tile m c t a b i j 1 h2 hi hj,
    first m c ⟨t.val - 1, by omega⟩ (by show (t.val - 1) % 2 = 0; omega),
    tile m c ⟨t.val - 1, by omega⟩ a b i j 0 (by show (t.val - 1) % 2 = 0; omega) (by show i.val = (t.val - 1) / 8 * 1024 + a.val; omega) (by show j.val = (t.val - 1) / 2 % 4 * 1024 + b.val; omega),
    Fin.sum_univ_two]

/-- The call's array at `(p, q, r, l)`, the gathered layout's place of a row and a column of the product. -/
theorem value (p : Fin 2) (q : Fin 4) (r : Fin 1024) (l : Fin 1024) :
    Value.G2 m c (ix4 p q r l) = ∑ k : Fin 2048, xs m c (ix2 k ⟨p.val * 1024 + r.val, by omega⟩) * ys m c (ix2 k ⟨q.val * 1024 + l.val, by omega⟩) := by
  have e0 : Value.pt2Of (ix4 p q r l) = 8 * p.val + 2 * q.val + 1 := by
    show 2 * (4 * (p.val / 1 - 0) + 1 * (q.val / 1 - 0) + 1 * (r.val / 1024 - 0) + 1 * (l.val / 1024 - 0)) + 1 = _
    omega
  have hp : Value.pt2Of (ix4 p q r l) < cfg0.N := by rw [e0]; exact lt_of_lt_of_eq (by omega) N_0.symm
  unfold Value.G2
  rw [dif_pos hp, ← Value.outsAt0_sweep m c _ hp]
  have e : Value.loc2Of (ix4 p q r l) = ix4 0 0 r l := by
    funext a; match a with
    | 0 => exact Fin.ext (Nat.mod_one _)
    | 1 => exact Fin.ext (Nat.mod_one _)
    | 2 => exact Fin.ext (Nat.mod_eq_of_lt r.isLt)
    | 3 => exact Fin.ext (Nat.mod_eq_of_lt l.isLt)
  rw [e, sums m c ⟨Value.pt2Of (ix4 p q r l), hp⟩ (by show Value.pt2Of (ix4 p q r l) % 2 = 1; omega) r l ⟨p.val * 1024 + r.val, by omega⟩ ⟨q.val * 1024 + l.val, by omega⟩
    (by show p.val * 1024 + r.val = Value.pt2Of (ix4 p q r l) / 8 * 1024 + r.val; omega)
    (by show q.val * 1024 + l.val = Value.pt2Of (ix4 p q r l) / 2 % 4 * 1024 + l.val; omega)]
  exact Fin.sum_mul_add_congr fun s k hl => rfl

theorem same : Cert.algebraic_ColDwIdeal_ColDwRefIdeal := by
  pair_intro
  · run_from Cert.ColDwIdeal.Value.run m g
  · run_from Cert.ColDwRefIdeal.Value.run m' g'
    refine (ColDwRefIdeal.Read.val_main_v8_eq (F := Ideal) _ _).trans ?_
    funext j
    idx_vars j
    rw [value]
    pointwise [ColDwRefIdeal.Read.val_main_v0, ColDwRefIdeal.Read.val_main_v1, ColDwRefIdeal.Read.val_main_v2, ColDwRefIdeal.Read.val_main_v3, ColDwRefIdeal.Read.val_main_v4, ColDwRefIdeal.Read.val_main_v5, ColDwRefIdeal.Read.val_main_v6, ColDwRefIdeal.Read.val_main_v7, ColDwRefIdeal.Read.val_main_v8]
    exact Finset.sum_congr rfl fun k _ => mul_comm _ _

end Cert.Proof.ColDw

end
-- ==== Proof.ProjDw.lean ====
/- The gradient of the per-layer embedding's projection: a product over the positions of the sequence, added up over two
   halves of it. -/
module

public import proofs.«01_k».proof.Defs
public import proofs.«01_k».proof.Proof.Gen.ProjDwIdeal.Value
public import proofs.«01_k».proof.Proof.Gen.ProjDwRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.ProjDw

open Cert.ProjDwIdeal Cert.ProjDwIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val % 2, t.val / 8] ∧ win0_1.index t = ![t.val % 2, t.val / 2 % 4] :=
  (by decide +kernel : ∀ t : Fin grid0.N, _)

/-- The arrays of the call. -/
def xs : Vec Ideal S2048x256 .f32 := m ((c : Thread nD τ).loc main_arg0)
def ys : Vec Ideal S2048x2048 .bf16 := m ((c : Thread nD τ).loc main_arg1)

/-- Tile `s` of the summed axis: its part of the product's row `i` at column `j`. -/
def part (x : Vec Ideal S2048x256 .f32) (y : Vec Ideal S2048x2048 .bf16) (i : Fin 256) (j : Fin 2048) (s : Fin 2) : EReal :=
  ∑ k : Fin 1024, x (ix2 ⟨s.val * 1024 + k.val, by omega⟩ i) * y (ix2 ⟨s.val * 1024 + k.val, by omega⟩ j)

theorem pay1_at (x : Vec Ideal S1024x128 .f32) (y : Vec Ideal S1024x512 .bf16) (a : Fin 128) (b : Fin 512) :
    k0_pay1 (F := Ideal) x y (ix2 a b) = ∑ k : Fin 1024, x (ix2 k a) * y (ix2 k b) := by
  unfold_payloads
  pointwise

theorem pay3_at (x : Vec Ideal S1024x128 .f32) (y : Vec Ideal S1024x512 .bf16) (z : Vec Ideal S128x512 .f32) (a : Fin 128) (b : Fin 512) :
    k0_pay3 (F := Ideal) x y z (ix4 0 0 a b) = z (ix2 a b) + k0_pay1 (F := Ideal) x y (ix2 a b) := by
  rw [pay1_at]
  unfold_payloads
  pointwise

/-- A point's product, as its tile's part of the array's element. -/
theorem tile (t : Fin cfg0.N) (a : Fin 128) (b : Fin 512) (i : Fin 256) (j : Fin 2048) (s : Fin 2) (hs : t.val % 2 = s.val)
    (hi : i.val = t.val / 8 * 128 + a.val) (hj : j.val = t.val / 2 % 4 * 512 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2 = k0_pay1 (F := Ideal) (iblk m c 0 t) (iblk m c 1 t) := by
  have h2 : ¬t.val % 2 = 1 := by omega
  rw [outsAt0_A m c t h0 h2]
  frame_out

theorem last (t : Fin cfg0.N) (h2 : t.val % 2 = 1) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 2 = 0 := by omega
  rw [outsAt0_B m c t h0 h2]
  frame_out
  simp only [read_unread_whole]

theorem sums (t : Fin cfg0.N) (h2 : t.val % 2 = 1) (a : Fin 128) (b : Fin 512) (i : Fin 256) (j : Fin 2048)
    (hi : i.val = t.val / 8 * 128 + a.val) (hj : j.val = t.val / 2 % 4 * 512 + b.val) :
    (outsAt0 m c t.val t.isLt).1 (ix4 0 0 a b) = (∑ s, part (xs m c) (ys m c) i j s) := by
  have l := t.isLt
  rw [last m c t h2, pay3_at, tile m c t a b i j 1 h2 hi hj,
    first m c ⟨t.val - 1, by omega⟩ (by show (t.val - 1) % 2 = 0; omega),
    tile m c ⟨t.val - 1, by omega⟩ a b i j 0 (by show (t.val - 1) % 2 = 0; omega) (by show i.val = (t.val - 1) / 8 * 128 + a.val; omega) (by show j.val = (t.val - 1) / 2 % 4 * 512 + b.val; omega),
    Fin.sum_univ_two]

/-- The call's array at `(p, q, r, l)`, the gathered layout's place of a row and a column of the product. -/
theorem value (p : Fin 2) (q : Fin 4) (r : Fin 128) (l : Fin 512) :
    Value.G2 m c (ix4 p q r l) = ∑ k : Fin 2048, xs m c (ix2 k ⟨p.val * 128 + r.val, by omega⟩) * ys m c (ix2 k ⟨q.val * 512 + l.val, by omega⟩) := by
  have e0 : Value.pt2Of (ix4 p q r l) = 8 * p.val + 2 * q.val + 1 := by
    show 2 * (4 * (p.val / 1 - 0) + 1 * (q.val / 1 - 0) + 1 * (r.val / 128 - 0) + 1 * (l.val / 512 - 0)) + 1 = _
    omega
  have hp : Value.pt2Of (ix4 p q r l) < cfg0.N := by rw [e0]; exact lt_of_lt_of_eq (by omega) N_0.symm
  unfold Value.G2
  rw [dif_pos hp, ← Value.outsAt0_sweep m c _ hp]
  have e : Value.loc2Of (ix4 p q r l) = ix4 0 0 r l := by
    funext a; match a with
    | 0 => exact Fin.ext (Nat.mod_one _)
    | 1 => exact Fin.ext (Nat.mod_one _)
    | 2 => exact Fin.ext (Nat.mod_eq_of_lt r.isLt)
    | 3 => exact Fin.ext (Nat.mod_eq_of_lt l.isLt)
  rw [e, sums m c ⟨Value.pt2Of (ix4 p q r l), hp⟩ (by show Value.pt2Of (ix4 p q r l) % 2 = 1; omega) r l ⟨p.val * 128 + r.val, by omega⟩ ⟨q.val * 512 + l.val, by omega⟩
    (by show p.val * 128 + r.val = Value.pt2Of (ix4 p q r l) / 8 * 128 + r.val; omega)
    (by show q.val * 512 + l.val = Value.pt2Of (ix4 p q r l) / 2 % 4 * 512 + l.val; omega)]
  exact Fin.sum_mul_add_congr fun s k hl => rfl

theorem same : Cert.algebraic_ProjDwIdeal_ProjDwRefIdeal := by
  pair_intro
  · run_from Cert.ProjDwIdeal.Value.run m g
  · run_from Cert.ProjDwRefIdeal.Value.run m' g'
    refine (ProjDwRefIdeal.Read.val_main_v7_eq (F := Ideal) _ _).trans ?_
    funext j
    idx_vars j
    rw [value]
    pointwise [ProjDwRefIdeal.Read.val_main_v0, ProjDwRefIdeal.Read.val_main_v1, ProjDwRefIdeal.Read.val_main_v2, ProjDwRefIdeal.Read.val_main_v3, ProjDwRefIdeal.Read.val_main_v4, ProjDwRefIdeal.Read.val_main_v5, ProjDwRefIdeal.Read.val_main_v6, ProjDwRefIdeal.Read.val_main_v7]
    exact Finset.sum_congr rfl fun k _ => mul_comm _ _

end Cert.Proof.ProjDw

end
-- ==== Proof.SqDx.lean ====
/- The gradient of a square product's input: the product with the transposed weight, added up over two tiles. -/
module

public import proofs.«01_k».proof.Defs
public import proofs.«01_k».proof.Proof.Gen.SqDxIdeal.Value
public import proofs.«01_k».proof.Proof.Gen.SqDxRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.SqDx

open Cert.SqDxIdeal Cert.SqDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 2] ∧ win0_1.index t = ![t.val / 2 % 4, t.val % 2, 0, 0] :=
  (by decide +kernel : ∀ t : Fin grid0.N, _)

/-- The arrays of the call. -/
def xs : Vec Ideal S2048x2048 .bf16 := m ((c : Thread nD τ).loc main_arg0)
def ys : Vec Ideal S2048x2048 .f32 := m ((c : Thread nD τ).loc main_arg1)

/-- Tile `s` of the summed axis: its part of the product's row `i` at column `j`. -/
def part (x : Vec Ideal S2048x2048 .bf16) (y : Vec Ideal S2048x2048 .f32) (i : Fin 2048) (j : Fin 2048) (s : Fin 2) : EReal :=
  ∑ k : Fin 1024, x (ix2 i ⟨s.val * 1024 + k.val, by omega⟩) * y (ix2 j ⟨s.val * 1024 + k.val, by omega⟩)

theorem pay1_at (x : Vec Ideal S2048x1024 .bf16) (y : Vec Ideal S1x1x512x1024 .bf16) (a : Fin 2048) (b : Fin 512) :
    k0_pay1 (F := Ideal) x y (ix2 a b) = ∑ k : Fin 1024, x (ix2 a k) * y (ix4 0 0 b k) := by
  unfold_payloads
  pointwise

theorem pay3_at (x : Vec Ideal S2048x1024 .bf16) (y : Vec Ideal S1x1x512x1024 .bf16) (z : Vec Ideal S2048x512 .f32) (a : Fin 2048) (b : Fin 512) :
    k0_pay3 (F := Ideal) x y z (ix2 a b) = z (ix2 a b) + k0_pay1 (F := Ideal) x y (ix2 a b) := by
  rw [pay1_at]
  unfold_payloads
  pointwise

/-- A point's product, as its tile's part of the array's element. -/
theorem tile (t : Fin cfg0.N) (a : Fin 2048) (b : Fin 512) (i : Fin 2048) (j : Fin 2048) (s : Fin 2) (hs : t.val % 2 = s.val)
    (hi : i.val = t.val / 8 * 2048 + a.val) (hj : j.val = t.val / 2 % 4 * 512 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2 = k0_pay1 (F := Ideal) (iblk m c 0 t) (iblk m c 1 t) := by
  have h2 : ¬t.val % 2 = 1 := by omega
  rw [outsAt0_A m c t h0 h2]
  frame_out

theorem last (t : Fin cfg0.N) (h2 : t.val % 2 = 1) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 2 = 0 := by omega
  rw [outsAt0_B m c t h0 h2]
  frame_out
  simp only [read_unread_whole]

theorem sums (t : Fin cfg0.N) (h2 : t.val % 2 = 1) (a : Fin 2048) (b : Fin 512) (i : Fin 2048) (j : Fin 2048)
    (hi : i.val = t.val / 8 * 2048 + a.val) (hj : j.val = t.val / 2 % 4 * 512 + b.val) :
    (outsAt0 m c t.val t.isLt).1 (ix2 a b) = (∑ s, part (xs m c) (ys m c) i j s) := by
  have l := t.isLt
  rw [last m c t h2, pay3_at, tile m c t a b i j 1 h2 hi hj,
    first m c ⟨t.val - 1, by omega⟩ (by show (t.val - 1) % 2 = 0; omega),
    tile m c ⟨t.val - 1, by omega⟩ a b i j 0 (by show (t.val - 1) % 2 = 0; omega) (by show i.val = (t.val - 1) / 8 * 2048 + a.val; omega) (by show j.val = (t.val - 1) / 2 % 4 * 512 + b.val; omega),
    Fin.sum_univ_two]

/-- The call's array is the product. -/
theorem value (i : Fin 2048) (j : Fin 2048) : Value.G2 m c (ix2 i j) = (∑ k : Fin 2048, xs m c (ix2 i k) * ys m c (ix2 j k)) := by
  have e0 : Value.pt2Of (ix2 i j) = 2 * (4 * (i.val / 2048 - 0) + 1 * (j.val / 512 - 0)) + 1 := rfl
  have hp : Value.pt2Of (ix2 i j) < cfg0.N := by rw [e0]; exact lt_of_lt_of_eq (by omega) N_0.symm
  unfold Value.G2
  rw [dif_pos hp, ← Value.outsAt0_sweep m c _ hp]
  have e : Value.loc2Of (ix2 i j) = ix2 (⟨i.val % 2048, by omega⟩ : Fin 2048) (⟨j.val % 512, by omega⟩ : Fin 512) := by
    funext a; match a with
    | 0 => rfl
    | 1 => rfl
  rw [e, sums m c ⟨Value.pt2Of (ix2 i j), hp⟩ (by show Value.pt2Of (ix2 i j) % 2 = 1; omega) _ _ i j
    (by show i.val = Value.pt2Of (ix2 i j) / 8 * 2048 + i.val % 2048; omega)
    (by show j.val = Value.pt2Of (ix2 i j) / 2 % 4 * 512 + j.val % 512; omega)]
  exact Fin.sum_mul_add_congr fun s k hl => rfl

theorem same : Cert.algebraic_SqDxIdeal_SqDxRefIdeal := by
  pair_intro
  · run_from Cert.SqDxIdeal.Value.run m g
  · run_from Cert.SqDxRefIdeal.Value.run m' g'
    refine (SqDxRefIdeal.Read.val_main_v3_eq (F := Ideal) _ _).trans ?_
    funext j
    idx_vars j
    rw [value]
    pointwise [SqDxRefIdeal.Read.val_main_v0, SqDxRefIdeal.Read.val_main_v1, SqDxRefIdeal.Read.val_main_v2, SqDxRefIdeal.Read.val_main_v3]
    rfl

end Cert.Proof.SqDx

end
-- ==== Proof.ColDx.lean ====
/- The gradient of the input of a product of twice the model's width: the product with the transposed weight, added up over
   four tiles. -/
module

public import proofs.«01_k».proof.Defs
public import proofs.«01_k».proof.Proof.Gen.ColDxIdeal.Value
public import proofs.«01_k».proof.Proof.Gen.ColDxRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.ColDx

open Cert.ColDxIdeal Cert.ColDxIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0, 0] :=
  (by decide +kernel : ∀ t : Fin grid0.N, _)

/-- The arrays of the call. -/
def xs : Vec Ideal S2048x4096 .bf16 := m ((c : Thread nD τ).loc main_arg0)
def ys : Vec Ideal S2048x4096 .f32 := m ((c : Thread nD τ).loc main_arg1)

/-- Tile `s` of the summed axis: its part of the product's row `i` at column `j`. -/
def part (x : Vec Ideal S2048x4096 .bf16) (y : Vec Ideal S2048x4096 .f32) (i : Fin 2048) (j : Fin 2048) (s : Fin 4) : EReal :=
  ∑ k : Fin 1024, x (ix2 i ⟨s.val * 1024 + k.val, by omega⟩) * y (ix2 j ⟨s.val * 1024 + k.val, by omega⟩)

theorem pay1_at (x : Vec Ideal S1024x1024 .bf16) (y : Vec Ideal S1x1x1024x1024 .bf16) (a : Fin 1024) (b : Fin 1024) :
    k0_pay1 (F := Ideal) x y (ix2 a b) = ∑ k : Fin 1024, x (ix2 a k) * y (ix4 0 0 b k) := by
  unfold_payloads
  pointwise

theorem pay2_at (x : Vec Ideal S1024x1024 .bf16) (y : Vec Ideal S1x1x1024x1024 .bf16) (z : Vec Ideal S1024x1024 .f32) (a : Fin 1024) (b : Fin 1024) :
    k0_pay2 (F := Ideal) x y z (ix2 a b) = z (ix2 a b) + k0_pay1 (F := Ideal) x y (ix2 a b) := by
  rw [pay1_at]
  unfold_payloads
  pointwise

theorem pay3_at (x : Vec Ideal S1024x1024 .bf16) (y : Vec Ideal S1x1x1024x1024 .bf16) (z : Vec Ideal S1024x1024 .f32) (a : Fin 1024) (b : Fin 1024) :
    k0_pay3 (F := Ideal) x y z (ix2 a b) = z (ix2 a b) + k0_pay1 (F := Ideal) x y (ix2 a b) := by
  rw [pay1_at]
  unfold_payloads
  pointwise

/-- A point's product, as its tile's part of the array's element. -/
theorem tile (t : Fin cfg0.N) (a : Fin 1024) (b : Fin 1024) (i : Fin 2048) (j : Fin 2048) (s : Fin 4) (hs : t.val % 4 = s.val)
    (hi : i.val = t.val / 8 * 1024 + a.val) (hj : j.val = t.val / 4 % 2 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 4 = 0) :
    (outsAt0 m c t.val t.isLt).2 = k0_pay1 (F := Ideal) (iblk m c 0 t) (iblk m c 1 t) := by
  have h1 : ¬(1 ≤ t.val % 4 ∧ t.val % 4 ≤ 2) := by omega
  have h2 : ¬t.val % 4 = 3 := by omega
  rw [outsAt0_A m c t h0 h1 h2]
  frame_out

theorem next (t : Fin cfg0.N) (h1 : 1 ≤ t.val % 4 ∧ t.val % 4 ≤ 2) :
    (outsAt0 m c t.val t.isLt).2 = k0_pay2 (F := Ideal) (iblk m c 0 t) (iblk m c 1 t) (outsAt0 m c (t.val - 1) (Nat.lt_of_le_of_lt (Nat.sub_le _ _) t.isLt)).2 := by
  have h0 : ¬t.val % 4 = 0 := by omega
  have h2 : ¬t.val % 4 = 3 := by omega
  rw [outsAt0_B m c t h0 h1 h2]
  frame_out
  simp only [read_unread_whole]

theorem last (t : Fin cfg0.N) (h2 : t.val % 4 = 3) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 4 = 0 := by omega
  have h1 : ¬(1 ≤ t.val % 4 ∧ t.val % 4 ≤ 2) := by omega
  rw [outsAt0_C m c t h0 h1 h2]
  frame_out
  simp only [read_unread_whole]

theorem sums (t : Fin cfg0.N) (h2 : t.val % 4 = 3) (a : Fin 1024) (b : Fin 1024) (i : Fin 2048) (j : Fin 2048)
    (hi : i.val = t.val / 8 * 1024 + a.val) (hj : j.val = t.val / 4 % 2 * 1024 + b.val) :
    (outsAt0 m c t.val t.isLt).1 (ix2 a b) = (∑ s, part (xs m c) (ys m c) i j s) := by
  have l := t.isLt
  rw [last m c t h2, pay3_at, tile m c t a b i j 3 h2 hi hj,
    next m c ⟨t.val - 1, by omega⟩ (by show 1 ≤ (t.val - 1) % 4 ∧ (t.val - 1) % 4 ≤ 2; omega), pay2_at,
    tile m c ⟨t.val - 1, by omega⟩ a b i j 2 (by show (t.val - 1) % 4 = 2; omega) (by show i.val = (t.val - 1) / 8 * 1024 + a.val; omega) (by show j.val = (t.val - 1) / 4 % 2 * 1024 + b.val; omega),
    next m c ⟨t.val - 1 - 1, by omega⟩ (by show 1 ≤ (t.val - 1 - 1) % 4 ∧ (t.val - 1 - 1) % 4 ≤ 2; omega), pay2_at,
    tile m c ⟨t.val - 1 - 1, by omega⟩ a b i j 1 (by show (t.val - 1 - 1) % 4 = 1; omega) (by show i.val = (t.val - 1 - 1) / 8 * 1024 + a.val; omega) (by show j.val = (t.val - 1 - 1) / 4 % 2 * 1024 + b.val; omega),
    first m c ⟨t.val - 1 - 1 - 1, by omega⟩ (by show (t.val - 1 - 1 - 1) % 4 = 0; omega),
    tile m c ⟨t.val - 1 - 1 - 1, by omega⟩ a b i j 0 (by show (t.val - 1 - 1 - 1) % 4 = 0; omega) (by show i.val = (t.val - 1 - 1 - 1) / 8 * 1024 + a.val; omega) (by show j.val = (t.val - 1 - 1 - 1) / 4 % 2 * 1024 + b.val; omega),
    Fin.sum_univ_four]

/-- The call's array is the product. -/
theorem value (i : Fin 2048) (j : Fin 2048) : Value.G2 m c (ix2 i j) = (∑ k : Fin 4096, xs m c (ix2 i k) * ys m c (ix2 j k)) := by
  have e0 : Value.pt2Of (ix2 i j) = 4 * (2 * (i.val / 1024 - 0) + 1 * (j.val / 1024 - 0)) + 3 := rfl
  have hp : Value.pt2Of (ix2 i j) < cfg0.N := by rw [e0]; exact lt_of_lt_of_eq (by omega) N_0.symm
  unfold Value.G2
  rw [dif_pos hp, ← Value.outsAt0_sweep m c _ hp]
  have e : Value.loc2Of (ix2 i j) = ix2 (⟨i.val % 1024, by omega⟩ : Fin 1024) (⟨j.val % 1024, by omega⟩ : Fin 1024) := by
    funext a; match a with
    | 0 => rfl
    | 1 => rfl
  rw [e, sums m c ⟨Value.pt2Of (ix2 i j), hp⟩ (by show Value.pt2Of (ix2 i j) % 4 = 3; omega) _ _ i j
    (by show i.val = Value.pt2Of (ix2 i j) / 8 * 1024 + i.val % 1024; omega)
    (by show j.val = Value.pt2Of (ix2 i j) / 4 % 2 * 1024 + j.val % 1024; omega)]
  exact Fin.sum_mul_add_congr fun s k hl => rfl

theorem same : Cert.algebraic_ColDxIdeal_ColDxRefIdeal := by
  pair_intro
  · run_from Cert.ColDxIdeal.Value.run m g
  · run_from Cert.ColDxRefIdeal.Value.run m' g'
    refine (ColDxRefIdeal.Read.val_main_v3_eq (F := Ideal) _ _).trans ?_
    funext j
    idx_vars j
    rw [value]
    pointwise [ColDxRefIdeal.Read.val_main_v0, ColDxRefIdeal.Read.val_main_v1, ColDxRefIdeal.Read.val_main_v2, ColDxRefIdeal.Read.val_main_v3]
    rfl

end Cert.Proof.ColDx

end
-- ==== Proof.FfnUp.lean ====
/- The feed-forward layer's two input products and the gated product of them: each product is added up over two halves, and
   the gate is applied to the finished sums. -/
module

public import proofs.«01_k».proof.Defs
public import proofs.«01_k».proof.Proof.Gen.FfnUpIdeal.Value
public import proofs.«01_k».proof.Proof.Gen.FfnUpRefIdeal.Read
public import Idealize.ShloMosaic.Lib.Pipeline.ValueKit
public import Idealize.ShloMosaic.Lib.Pipeline.ReadBack
public import Idealize.ShloMosaic.Lib.Claim
public import proofs.«01_k».proof.Proof.Logistic

@[expose] public section

set_option maxRecDepth 16384
set_option maxHeartbeats 1000000
set_option pp.maxSteps 400

noncomputable section

namespace Cert.Proof.FfnUp

open Cert.FfnUpIdeal Cert.FfnUpIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 2] ∧ win0_1.index t = ![t.val / 2 % 4, t.val % 2, 0, 0]
    ∧ win0_2.index t = ![t.val / 2 % 4, t.val % 2, 0, 0] :=
  (by decide +kernel : ∀ t : Fin grid0.N, _)

/-- The arrays of the call. -/
def xs : Vec Ideal S2048x2048 .bf16 := m ((c : Thread nD τ).loc main_arg0)
def ys : Vec Ideal S2048x5632 .f32 := m ((c : Thread nD τ).loc main_arg1)
def zs : Vec Ideal S2048x5632 .f32 := m ((c : Thread nD τ).loc main_arg2)

/-- Half `s` of the summed axis: its part of the product's row `i` at column `j`. -/
def part (x : Vec Ideal S2048x2048 .bf16) (y : Vec Ideal S2048x5632 .f32) (i : Fin 2048) (j : Fin 5632) (s : Fin 2) : EReal :=
  ∑ k : Fin 1024, x (ix2 i ⟨s.val * 1024 + k.val, by omega⟩) * y (ix2 ⟨s.val * 1024 + k.val, by omega⟩ j)

theorem pay1_at (x : Vec Ideal S1024x1024 .bf16) (y : Vec Ideal S1x1x1024x1408 .bf16) (a : Fin 1024) (b : Fin 1408) :
    k0_pay1 (F := Ideal) x y (ix2 a b) = ∑ k : Fin 1024, x (ix2 a k) * y (ix4 0 0 k b) := by
  unfold_payloads
  pointwise

theorem pay2_at (x : Vec Ideal S1024x1024 .bf16) (y : Vec Ideal S1x1x1024x1408 .bf16) (a : Fin 1024) (b : Fin 1408) :
    k0_pay2 (F := Ideal) x y (ix2 a b) = ∑ k : Fin 1024, x (ix2 a k) * y (ix4 0 0 k b) := by
  unfold_payloads
  pointwise

theorem pay7_at (x : Vec Ideal S1024x1024 .bf16) (y : Vec Ideal S1x1x1024x1408 .bf16) (z : Vec Ideal S1024x1408 .f32) (a : Fin 1024) (b : Fin 1408) :
    k0_pay7 (F := Ideal) x y z (ix2 a b) = z (ix2 a b) + k0_pay1 (F := Ideal) x y (ix2 a b) := by
  rw [pay1_at]
  unfold_payloads
  pointwise

theorem pay8_at (x : Vec Ideal S1024x1024 .bf16) (y : Vec Ideal S1x1x1024x1408 .bf16) (z : Vec Ideal S1024x1408 .f32) (a : Fin 1024) (b : Fin 1408) :
    k0_pay8 (F := Ideal) x y z (ix2 a b) = z (ix2 a b) + k0_pay2 (F := Ideal) x y (ix2 a b) := by
  rw [pay2_at]
  unfold_payloads
  pointwise

theorem pay9_at (x x' : Vec Ideal S1024x1024 .bf16) (y y' : Vec Ideal S1x1x1024x1408 .bf16) (z z' : Vec Ideal S1024x1408 .f32) (a : Fin 1024) (b : Fin 1408) :
    k0_pay9 (F := Ideal) x y x' y' z z' (ix2 a b) = k0_pay7 (F := Ideal) x y z (ix2 a b) * Logistic.host (k0_pay7 (F := Ideal) x y z (ix2 a b))
      * k0_pay8 (F := Ideal) x' y' z' (ix2 a b) :=
  congrArg (· * k0_pay8 (F := Ideal) x' y' z' (ix2 a b)) (congrArg (k0_pay7 (F := Ideal) x y z (ix2 a b) * ·)
    (Logistic.same (k0_pay7 (F := Ideal) x y z (ix2 a b))))

theorem tile1 (t : Fin cfg0.N) (a : Fin 1024) (b : Fin 1408) (i : Fin 2048) (j : Fin 5632) (s : Fin 2) (hs : t.val % 2 = s.val)
    (hi : i.val = t.val / 8 * 1024 + a.val) (hj : j.val = (t.val / 2 % 4) * 1408 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem tile2 (t : Fin cfg0.N) (a : Fin 1024) (b : Fin 1408) (i : Fin 2048) (j : Fin 5632) (s : Fin 2) (hs : t.val % 2 = s.val)
    (hi : i.val = t.val / 8 * 1024 + a.val) (hj : j.val = (t.val / 2 % 4) * 1408 + b.val) :
    k0_pay2 (F := Ideal) (iblk m c 0 t) (iblk m c 2 t) (ix2 a b) = part (xs m c) (zs m c) i j s := by
  rw [pay2_at]
  refine Finset.sum_congr rfl fun k _ => congr (congrArg _ ?_) ?_
  · blk_ext! [iblk, V, idx t, xs]
  · blk_ext! [iblk, V, idx t, zs]

theorem first (t : Fin cfg0.N) (h0 : t.val % 2 = 0) :
    (outsAt0 m c t.val t.isLt).2.2.2.1 = k0_pay1 (F := Ideal) (iblk m c 0 t) (iblk m c 1 t)
      ∧ (outsAt0 m c t.val t.isLt).2.2.2.2 = k0_pay2 (F := Ideal) (iblk m c 0 t) (iblk m c 2 t) := by
  have h2 : ¬t.val % 2 = 1 := by omega
  rw [outsAt0_A m c t h0 h2]
  constructor <;> frame_out

theorem last0 (t : Fin cfg0.N) (h2 : t.val % 2 = 1) :
    (outsAt0 m c t.val t.isLt).1 = k0_pay7 (F := Ideal) (iblk m c 0 t) (iblk m c 1 t) (outsAt0 m c (t.val - 1) (Nat.lt_of_le_of_lt (Nat.sub_le _ _) t.isLt)).2.2.2.1 := by
  have h0 : ¬t.val % 2 = 0 := by omega
  rw [outsAt0_B m c t h0 h2]
  frame_out
  simp only [read_unread_whole]

theorem last1 (t : Fin cfg0.N) (h2 : t.val % 2 = 1) :
    (outsAt0 m c t.val t.isLt).2.1 = k0_pay8 (F := Ideal) (iblk m c 0 t) (iblk m c 2 t) (outsAt0 m c (t.val - 1) (Nat.lt_of_le_of_lt (Nat.sub_le _ _) t.isLt)).2.2.2.2 := by
  have h0 : ¬t.val % 2 = 0 := by omega
  rw [outsAt0_B m c t h0 h2]
  frame_out
  simp only [read_unread_whole]

theorem last2 (t : Fin cfg0.N) (h2 : t.val % 2 = 1) :
    (outsAt0 m c t.val t.isLt).2.2.1 = k0_pay9 (F := Ideal) (iblk m c 0 t) (iblk m c 1 t) (iblk m c 0 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 := by
  have h0 : ¬t.val % 2 = 0 := by omega
  rw [outsAt0_B m c t h0 h2]
  frame_out
  simp only [read_unread_whole]

theorem sums (t : Fin cfg0.N) (h2 : t.val % 2 = 1) (a : Fin 1024) (b : Fin 1408) (i : Fin 2048) (j : Fin 5632)
    (hi : i.val = t.val / 8 * 1024 + a.val) (hj : j.val = t.val / 2 % 4 * 1408 + b.val) :
    (outsAt0 m c t.val t.isLt).1 (ix2 a b) = (∑ s, part (xs m c) (ys m c) i j s)
      ∧ (outsAt0 m c t.val t.isLt).2.1 (ix2 a b) = (∑ s, part (xs m c) (zs m c) i j s)
      ∧ (outsAt0 m c t.val t.isLt).2.2.1 (ix2 a b) = (∑ s, part (xs m c) (ys m c) i j s) * Logistic.host (∑ s, part (xs m c) (ys m c) i j s) * (∑ s, part (xs m c) (zs m c) i j s) := by
  have lt := t.isLt
  have q1 : (outsAt0 m c (t.val - 1) (Nat.lt_of_le_of_lt (Nat.sub_le _ _) t.isLt)).2.2.2.1 (ix2 a b) + k0_pay1 (F := Ideal) (iblk m c 0 t) (iblk m c 1 t) (ix2 a b) = ∑ s, part (xs m c) (ys m c) i j s := by
    rw [tile1 m c t a b i j 1 h2 hi hj, (first m c ⟨t.val - 1, by omega⟩ (by show (t.val - 1) % 2 = 0; omega)).1,
      tile1 m c ⟨t.val - 1, by omega⟩ a b i j 0 (by show (t.val - 1) % 2 = 0; omega) (by show i.val = (t.val - 1) / 8 * 1024 + a.val; omega)
        (by show j.val = ((t.val - 1) / 2 % 4) * 1408 + b.val; omega), Fin.sum_univ_two]
  have q2 : (outsAt0 m c (t.val - 1) (Nat.lt_of_le_of_lt (Nat.sub_le _ _) t.isLt)).2.2.2.2 (ix2 a b) + k0_pay2 (F := Ideal) (iblk m c 0 t) (iblk m c 2 t) (ix2 a b) = ∑ s, part (xs m c) (zs m c) i j s := by
    rw [tile2 m c t a b i j 1 h2 hi hj, (first m c ⟨t.val - 1, by omega⟩ (by show (t.val - 1) % 2 = 0; omega)).2,
      tile2 m c ⟨t.val - 1, by omega⟩ a b i j 0 (by show (t.val - 1) % 2 = 0; omega) (by show i.val = (t.val - 1) / 8 * 1024 + a.val; omega)
        (by show j.val = ((t.val - 1) / 2 % 4) * 1408 + b.val; omega), Fin.sum_univ_two]
  refine ⟨?_, ?_, ?_⟩
  · rw [last0 m c t h2, pay7_at, q1]
  · rw [last1 m c t h2, pay8_at, q2]
  · rw [last2 m c t h2, pay9_at, pay7_at, pay8_at, q1, q2]

/-- The product's row `i` at column `j`. -/
def prod (x : Vec Ideal S2048x2048 .bf16) (y : Vec Ideal S2048x5632 .f32) (i : Fin 2048) (j : Fin 5632) : EReal :=
  ∑ k : Fin 2048, x (ix2 i k) * y (ix2 k j)

theorem parts (x : Vec Ideal S2048x2048 .bf16) (y : Vec Ideal S2048x5632 .f32) (i : Fin 2048) (j : Fin 5632) :
    (∑ s, part x y i j s) = prod x y i j :=
  Fin.sum_mul_add_congr fun s k hl => rfl

theorem value0 (i : Fin 2048) (j : Fin 5632) : Value.G3 m c (ix2 i j) = prod (xs m c) (ys m c) i j := by
  have e0 : Value.pt3Of (ix2 i j) = 2 * (4 * (i.val / 1024 - 0) + 1 * (j.val / 1408 - 0)) + 1 := rfl
  have hp : Value.pt3Of (ix2 i j) < cfg0.N := by rw [e0]; exact lt_of_lt_of_eq (by omega) N_0.symm
  unfold Value.G3
  rw [dif_pos hp, ← Value.outsAt0_sweep m c _ hp]
  have e : Value.loc3Of (ix2 i j) = ix2 (⟨i.val % 1024, by omega⟩ : Fin 1024) (⟨j.val % 1408, by omega⟩ : Fin 1408) := by
    funext a; match a with
    | 0 => rfl
    | 1 => rfl
  rw [e, (sums m c ⟨Value.pt3Of (ix2 i j), hp⟩ (by show Value.pt3Of (ix2 i j) % 2 = 1; omega) _ _ i j
    (by show i.val = Value.pt3Of (ix2 i j) / 8 * 1024 + i.val % 1024; omega)
    (by show j.val = Value.pt3Of (ix2 i j) / 2 % 4 * 1408 + j.val % 1408; omega)).1]
  simp only [parts]

theorem value1 (i : Fin 2048) (j : Fin 5632) : Value.G4 m c (ix2 i j) = prod (xs m c) (zs m c) i j := by
  have e0 : Value.pt4Of (ix2 i j) = 2 * (4 * (i.val / 1024 - 0) + 1 * (j.val / 1408 - 0)) + 1 := rfl
  have hp : Value.pt4Of (ix2 i j) < cfg0.N := by rw [e0]; exact lt_of_lt_of_eq (by omega) N_0.symm
  unfold Value.G4
  rw [dif_pos hp, ← Value.outsAt0_sweep m c _ hp]
  have e : Value.loc4Of (ix2 i j) = ix2 (⟨i.val % 1024, by omega⟩ : Fin 1024) (⟨j.val % 1408, by omega⟩ : Fin 1408) := by
    funext a; match a with
    | 0 => rfl
    | 1 => rfl
  rw [e, (sums m c ⟨Value.pt4Of (ix2 i j), hp⟩ (by show Value.pt4Of (ix2 i j) % 2 = 1; omega) _ _ i j
    (by show i.val = Value.pt4Of (ix2 i j) / 8 * 1024 + i.val % 1024; omega)
    (by show j.val = Value.pt4Of (ix2 i j) / 2 % 4 * 1408 + j.val % 1408; omega)).2.1]
  simp only [parts]

theorem value2 (i : Fin 2048) (j : Fin 5632) : Value.G5 m c (ix2 i j) = prod (xs m c) (ys m c) i j * Logistic.host (prod (xs m c) (ys m c) i j) * prod (xs m c) (zs m c) i j := by
  have e0 : Value.pt5Of (ix2 i j) = 2 * (4 * (i.val / 1024 - 0) + 1 * (j.val / 1408 - 0)) + 1 := rfl
  have hp : Value.pt5Of (ix2 i j) < cfg0.N := by rw [e0]; exact lt_of_lt_of_eq (by omega) N_0.symm
  unfold Value.G5
  rw [dif_pos hp, ← Value.outsAt0_sweep m c _ hp]
  have e : Value.loc5Of (ix2 i j) = ix2 (⟨i.val % 1024, by omega⟩ : Fin 1024) (⟨j.val % 1408, by omega⟩ : Fin 1408) := by
    funext a; match a with
    | 0 => rfl
    | 1 => rfl
  rw [e, (sums m c ⟨Value.pt5Of (ix2 i j), hp⟩ (by show Value.pt5Of (ix2 i j) % 2 = 1; omega) _ _ i j
    (by show i.val = Value.pt5Of (ix2 i j) / 8 * 1024 + i.val % 1024; omega)
    (by show j.val = Value.pt5Of (ix2 i j) / 2 % 4 * 1408 + j.val % 1408; omega)).2.2]
  simp only [parts]

theorem same : Cert.algebraic_FfnUpIdeal_FfnUpRefIdeal := by
  pair_intro
  · run_from Cert.FfnUpIdeal.Value.run m g
  · run_from Cert.FfnUpRefIdeal.Value.run m' g'
    · refine (FfnUpRefIdeal.Read.val_main_v3_eq (F := Ideal) _ _).trans ?_
      funext j
      idx_vars j
      rw [value0]
      pointwise [FfnUpRefIdeal.Read.val_main_v0, FfnUpRefIdeal.Read.val_main_v1, FfnUpRefIdeal.Read.val_main_v2, FfnUpRefIdeal.Read.val_main_v3, FfnUpRefIdeal.Read.val_main_v4, FfnUpRefIdeal.Read.val_main_call0_v0, FfnUpRefIdeal.Read.val_main_call0_v1, FfnUpRefIdeal.Read.val_main_call0_cst, FfnUpRefIdeal.Read.val_main_call0_v2, FfnUpRefIdeal.Read.val_main_call0_v3, FfnUpRefIdeal.Read.val_main_call0_cst_0, FfnUpRefIdeal.Read.val_main_call0_v4, FfnUpRefIdeal.Read.val_main_call0_v5, FfnUpRefIdeal.Read.val_main_v5, FfnUpRefIdeal.Read.val_main_v6, FfnUpRefIdeal.Read.val_main_v7]
      rfl
    · refine (FfnUpRefIdeal.Read.val_main_v4_eq (F := Ideal) _ _).trans ?_
      funext j
      idx_vars j
      rw [value1]
      pointwise [FfnUpRefIdeal.Read.val_main_v0, FfnUpRefIdeal.Read.val_main_v1, FfnUpRefIdeal.Read.val_main_v2, FfnUpRefIdeal.Read.val_main_v3, FfnUpRefIdeal.Read.val_main_v4, FfnUpRefIdeal.Read.val_main_call0_v0, FfnUpRefIdeal.Read.val_main_call0_v1, FfnUpRefIdeal.Read.val_main_call0_cst, FfnUpRefIdeal.Read.val_main_call0_v2, FfnUpRefIdeal.Read.val_main_call0_v3, FfnUpRefIdeal.Read.val_main_call0_cst_0, FfnUpRefIdeal.Read.val_main_call0_v4, FfnUpRefIdeal.Read.val_main_call0_v5, FfnUpRefIdeal.Read.val_main_v5, FfnUpRefIdeal.Read.val_main_v6, FfnUpRefIdeal.Read.val_main_v7]
      rfl
    · refine (FfnUpRefIdeal.Read.val_main_v7_eq (F := Ideal) _ _ _).trans ?_
      funext j
      idx_vars j
      rw [value2]
      pointwise [FfnUpRefIdeal.Read.val_main_v0, FfnUpRefIdeal.Read.val_main_v1, FfnUpRefIdeal.Read.val_main_v2, FfnUpRefIdeal.Read.val_main_v3, FfnUpRefIdeal.Read.val_main_v4, FfnUpRefIdeal.Read.val_main_call0_v0, FfnUpRefIdeal.Read.val_main_call0_v1, FfnUpRefIdeal.Read.val_main_call0_cst, FfnUpRefIdeal.Read.val_main_call0_v2, FfnUpRefIdeal.Read.val_main_call0_v3, FfnUpRefIdeal.Read.val_main_call0_cst_0, FfnUpRefIdeal.Read.val_main_call0_v4, FfnUpRefIdeal.Read.val_main_call0_v5, FfnUpRefIdeal.Read.val_main_v5, FfnUpRefIdeal.Read.val_main_v6, FfnUpRefIdeal.Read.val_main_v7]
      rfl

end Cert.Proof.FfnUp

end
-- ==== Proof.FfnDown.lean ====
/- The feed-forward layer's output: the residual and the product with the output weight, added up over four tiles. -/
module

public import proofs.«01_k».proof.Defs
public import proofs.«01_k».proof.Proof.Gen.FfnDownIdeal.Value
public import proofs.«01_k».proof.Proof.Gen.FfnDownRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.FfnDown

open Cert.FfnDownIdeal Cert.FfnDownIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0, 0] ∧ win0_2.index t = ![t.val / 8, t.val / 4 % 2] :=
  (by decide +kernel : ∀ t : Fin grid0.N, _)

/-- The arrays of the call. -/
def xs : Vec Ideal S2048x5632 .bf16 := m ((c : Thread nD τ).loc main_arg0)
def ys : Vec Ideal S5632x2048 .f32 := m ((c : Thread nD τ).loc main_arg1)
def zs : Vec Ideal S2048x2048 .f32 := m ((c : Thread nD τ).loc main_arg2)

/-- Tile `s` of the summed axis: its part of the product's row `i` at column `j`. -/
def part (x : Vec Ideal S2048x5632 .bf16) (y : Vec Ideal S5632x2048 .f32) (i : Fin 2048) (j : Fin 2048) (s : Fin 4) : EReal :=
  ∑ k : Fin 1408, x (ix2 i ⟨s.val * 1408 + k.val, by omega⟩) * y (ix2 ⟨s.val * 1408 + k.val, by omega⟩ j)

theorem pay1_at (x : Vec Ideal S1024x1408 .bf16) (y : Vec Ideal S1x1x1408x1024 .bf16) (a : Fin 1024) (b : Fin 1024) :
    k0_pay1 (F := Ideal) x y (ix2 a b) = ∑ k : Fin 1408, x (ix2 a k) * y (ix4 0 0 k b) := by
  unfold_payloads
  pointwise

theorem pay2_at (x : Vec Ideal S1024x1408 .bf16) (y : Vec Ideal S1x1x1408x1024 .bf16) (z : Vec Ideal S1024x1024 .f32) (a : Fin 1024) (b : Fin 1024) :
    k0_pay2 (F := Ideal) x y z (ix2 a b) = z (ix2 a b) + k0_pay1 (F := Ideal) x y (ix2 a b) := by
  rw [pay1_at]
  unfold_payloads
  pointwise

theorem pay3_at (x : Vec Ideal S1024x1408 .bf16) (y : Vec Ideal S1x1x1408x1024 .bf16) (z : Vec Ideal S1024x1024 .f32) (e : Vec Ideal S1024x1024 .f32) (a : Fin 1024) (b : Fin 1024) :
    k0_pay3 (F := Ideal) x y z e (ix2 a b) = z (ix2 a b) + k0_pay1 (F := Ideal) x y (ix2 a b) + e (ix2 a b) := by
  rw [pay1_at]
  unfold_payloads
  pointwise

/-- A point's product, as its tile's part of the array's element. -/
theorem tile (t : Fin cfg0.N) (a : Fin 1024) (b : Fin 1024) (i : Fin 2048) (j : Fin 2048) (s : Fin 4) (hs : t.val % 4 = s.val)
    (hi : i.val = t.val / 8 * 1024 + a.val) (hj : j.val = t.val / 4 % 2 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 4 = 0) :
    (outsAt0 m c t.val t.isLt).2 = k0_pay1 (F := Ideal) (iblk m c 0 t) (iblk m c 1 t) := by
  have h1 : ¬(1 ≤ t.val % 4 ∧ t.val % 4 ≤ 2) := by omega
  have h2 : ¬t.val % 4 = 3 := by omega
  rw [outsAt0_A m c t h0 h1 h2]
  frame_out

theorem next (t : Fin cfg0.N) (h1 : 1 ≤ t.val % 4 ∧ t.val % 4 ≤ 2) :
    (outsAt0 m c t.val t.isLt).2 = k0_pay2 (F := Ideal) (iblk m c 0 t) (iblk m c 1 t) (outsAt0 m c (t.val - 1) (Nat.lt_of_le_of_lt (Nat.sub_le _ _) t.isLt)).2 := by
  have h0 : ¬t.val % 4 = 0 := by omega
  have h2 : ¬t.val % 4 = 3 := by omega
  rw [outsAt0_B m c t h0 h1 h2]
  frame_out
  simp only [read_unread_whole]

theorem last (t : Fin cfg0.N) (h2 : t.val % 4 = 3) :
    (outsAt0 m c t.val t.isLt).1 = k0_pay3 (F := Ideal) (iblk m c 0 t) (iblk m c 1 t) (outsAt0 m c (t.val - 1) (Nat.lt_of_le_of_lt (Nat.sub_le _ _) t.isLt)).2 (iblk m c 2 t) := by
  have h0 : ¬t.val % 4 = 0 := by omega
  have h1 : ¬(1 ≤ t.val % 4 ∧ t.val % 4 ≤ 2) := by omega
  rw [outsAt0_C m c t h0 h1 h2]
  frame_out
  simp only [read_unread_whole]

theorem sums (t : Fin cfg0.N) (h2 : t.val % 4 = 3) (a : Fin 1024) (b : Fin 1024) (i : Fin 2048) (j : Fin 2048)
    (hi : i.val = t.val / 8 * 1024 + a.val) (hj : j.val = t.val / 4 % 2 * 1024 + b.val) :
    (outsAt0 m c t.val t.isLt).1 (ix2 a b) = (∑ s, part (xs m c) (ys m c) i j s) + zs m c (ix2 i j) := by
  have l := t.isLt
  have hz : (iblk m c 2 t : Vec Ideal S1024x1024 .f32) (ix2 a b) = zs m c (ix2 i j) := by blk_ext! [iblk, V, idx t, zs]
  rw [last m c t h2, pay3_at, hz, tile m c t a b i j 3 h2 hi hj,
    next m c ⟨t.val - 1, by omega⟩ (by show 1 ≤ (t.val - 1) % 4 ∧ (t.val - 1) % 4 ≤ 2; omega), pay2_at,
    tile m c ⟨t.val - 1, by omega⟩ a b i j 2 (by show (t.val - 1) % 4 = 2; omega) (by show i.val = (t.val - 1) / 8 * 1024 + a.val; omega) (by show j.val = (t.val - 1) / 4 % 2 * 1024 + b.val; omega),
    next m c ⟨t.val - 1 - 1, by omega⟩ (by show 1 ≤ (t.val - 1 - 1) % 4 ∧ (t.val - 1 - 1) % 4 ≤ 2; omega), pay2_at,
    tile m c ⟨t.val - 1 - 1, by omega⟩ a b i j 1 (by show (t.val - 1 - 1) % 4 = 1; omega) (by show i.val = (t.val - 1 - 1) / 8 * 1024 + a.val; omega) (by show j.val = (t.val - 1 - 1) / 4 % 2 * 1024 + b.val; omega),
    first m c ⟨t.val - 1 - 1 - 1, by omega⟩ (by show (t.val - 1 - 1 - 1) % 4 = 0; omega),
    tile m c ⟨t.val - 1 - 1 - 1, by omega⟩ a b i j 0 (by show (t.val - 1 - 1 - 1) % 4 = 0; omega) (by show i.val = (t.val - 1 - 1 - 1) / 8 * 1024 + a.val; omega) (by show j.val = (t.val - 1 - 1 - 1) / 4 % 2 * 1024 + b.val; omega),
    Fin.sum_univ_four]

/-- The call's array is the product and the residual. -/
theorem value (i : Fin 2048) (j : Fin 2048) : Value.G3 m c (ix2 i j) = (∑ k : Fin 5632, xs m c (ix2 i k) * ys m c (ix2 k j)) + zs m c (ix2 i j) := by
  have e0 : Value.pt3Of (ix2 i j) = 4 * (2 * (i.val / 1024 - 0) + 1 * (j.val / 1024 - 0)) + 3 := rfl
  have hp : Value.pt3Of (ix2 i j) < cfg0.N := by rw [e0]; exact lt_of_lt_of_eq (by omega) N_0.symm
  unfold Value.G3
  rw [dif_pos hp, ← Value.outsAt0_sweep m c _ hp]
  have e : Value.loc3Of (ix2 i j) = ix2 (⟨i.val % 1024, by omega⟩ : Fin 1024) (⟨j.val % 1024, by omega⟩ : Fin 1024) := by
    funext a; match a with
    | 0 => rfl
    | 1 => rfl
  rw [e, sums m c ⟨Value.pt3Of (ix2 i j), hp⟩ (by show Value.pt3Of (ix2 i j) % 4 = 3; omega) _ _ i j
    (by show i.val = Value.pt3Of (ix2 i j) / 8 * 1024 + i.val % 1024; omega)
    (by show j.val = Value.pt3Of (ix2 i j) / 4 % 2 * 1024 + j.val % 1024; omega)]
  exact congrArg (· + zs m c (ix2 i j)) (Fin.sum_mul_add_congr fun s k hl => rfl)

theorem same : Cert.algebraic_FfnDownIdeal_FfnDownRefIdeal := by
  pair_intro
  · run_from Cert.FfnDownIdeal.Value.run m g
  · run_from Cert.FfnDownRefIdeal.Value.run m' g'
    refine (FfnDownRefIdeal.Read.val_main_v2_eq (F := Ideal) _ _ _).trans ?_
    funext j
    idx_vars j
    rw [value]
    pointwise [FfnDownRefIdeal.Read.val_main_v0, FfnDownRefIdeal.Read.val_main_v1, FfnDownRefIdeal.Read.val_main_v2]
    exact add_comm _ _

end Cert.Proof.FfnDown

end
-- ==== Proof.GmIn.lean ====
/- The gating unit's input product, added up over two tiles. -/
module

public import proofs.«01_k».proof.Defs
public import proofs.«01_k».proof.Proof.Gen.GmInIdeal.Value
public import proofs.«01_k».proof.Proof.Gen.GmInRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.GmIn

open Cert.GmInIdeal Cert.GmInIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 2] ∧ win0_1.index t = ![t.val / 2 % 4, t.val % 2, 0, 0] :=
  (by decide +kernel : ∀ t : Fin grid0.N, _)

/-- The arrays of the call. -/
def xs : Vec Ideal S2048x2048 .bf16 := m ((c : Thread nD τ).loc main_arg0)
def ys : Vec Ideal S2048x4096 .f32 := m ((c : Thread nD τ).loc main_arg1)

/-- Tile `s` of the summed axis: its part of the product's row `i` at column `j`. -/
def part (x : Vec Ideal S2048x2048 .bf16) (y : Vec Ideal S2048x4096 .f32) (i : Fin 2048) (j : Fin 4096) (s : Fin 2) : EReal :=
  ∑ k : Fin 1024, x (ix2 i ⟨s.val * 1024 + k.val, by omega⟩) * y (ix2 ⟨s.val * 1024 + k.val, by omega⟩ j)

theorem pay1_at (x : Vec Ideal S1024x1024 .bf16) (y : Vec Ideal S1x1x1024x1024 .bf16) (a : Fin 1024) (b : Fin 1024) :
    k0_pay1 (F := Ideal) x y (ix2 a b) = ∑ k : Fin 1024, x (ix2 a k) * y (ix4 0 0 k b) := by
  unfold_payloads
  pointwise

theorem pay3_at (x : Vec Ideal S1024x1024 .bf16) (y : Vec Ideal S1x1x1024x1024 .bf16) (z : Vec Ideal S1024x1024 .f32) (a : Fin 1024) (b : Fin 1024) :
    k0_pay3 (F := Ideal) x y z (ix2 a b) = z (ix2 a b) + k0_pay1 (F := Ideal) x y (ix2 a b) := by
  rw [pay1_at]
  unfold_payloads
  pointwise

/-- A point's product, as its tile's part of the array's element. -/
theorem tile (t : Fin cfg0.N) (a : Fin 1024) (b : Fin 1024) (i : Fin 2048) (j : Fin 4096) (s : Fin 2) (hs : t.val % 2 = s.val)
    (hi : i.val = t.val / 8 * 1024 + a.val) (hj : j.val = t.val / 2 % 4 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2 = k0_pay1 (F := Ideal) (iblk m c 0 t) (iblk m c 1 t) := by
  have h2 : ¬t.val % 2 = 1 := by omega
  rw [outsAt0_A m c t h0 h2]
  frame_out

theorem last (t : Fin cfg0.N) (h2 : t.val % 2 = 1) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 2 = 0 := by omega
  rw [outsAt0_B m c t h0 h2]
  frame_out
  simp only [read_unread_whole]

theorem sums (t : Fin cfg0.N) (h2 : t.val % 2 = 1) (a : Fin 1024) (b : Fin 1024) (i : Fin 2048) (j : Fin 4096)
    (hi : i.val = t.val / 8 * 1024 + a.val) (hj : j.val = t.val / 2 % 4 * 1024 + b.val) :
    (outsAt0 m c t.val t.isLt).1 (ix2 a b) = (∑ s, part (xs m c) (ys m c) i j s) := by
  have l := t.isLt
  rw [last m c t h2, pay3_at, tile m c t a b i j 1 h2 hi hj,
    first m c ⟨t.val - 1, by omega⟩ (by show (t.val - 1) % 2 = 0; omega),
    tile m c ⟨t.val - 1, by omega⟩ a b i j 0 (by show (t.val - 1) % 2 = 0; omega) (by show i.val = (t.val - 1) / 8 * 1024 + a.val; omega) (by show j.val = (t.val - 1) / 2 % 4 * 1024 + b.val; omega),
    Fin.sum_univ_two]

/-- The call's array is the product. -/
theorem value (i : Fin 2048) (j : Fin 4096) : Value.G2 m c (ix2 i j) = (∑ k : Fin 2048, xs m c (ix2 i k) * ys m c (ix2 k j)) := by
  have e0 : Value.pt2Of (ix2 i j) = 2 * (4 * (i.val / 1024 - 0) + 1 * (j.val / 1024 - 0)) + 1 := rfl
  have hp : Value.pt2Of (ix2 i j) < cfg0.N := by rw [e0]; exact lt_of_lt_of_eq (by omega) N_0.symm
  unfold Value.G2
  rw [dif_pos hp, ← Value.outsAt0_sweep m c _ hp]
  have e : Value.loc2Of (ix2 i j) = ix2 (⟨i.val % 1024, by omega⟩ : Fin 1024) (⟨j.val % 1024, by omega⟩ : Fin 1024) := by
    funext a; match a with
    | 0 => rfl
    | 1 => rfl
  rw [e, sums m c ⟨Value.pt2Of (ix2 i j), hp⟩ (by show Value.pt2Of (ix2 i j) % 2 = 1; omega) _ _ i j
    (by show i.val = Value.pt2Of (ix2 i j) / 8 * 1024 + i.val % 1024; omega)
    (by show j.val = Value.pt2Of (ix2 i j) / 2 % 4 * 1024 + j.val % 1024; omega)]
  exact Fin.sum_mul_add_congr fun s k hl => rfl

theorem same : Cert.algebraic_GmInIdeal_GmInRefIdeal := by
  pair_intro
  · run_from Cert.GmInIdeal.Value.run m g
  · run_from Cert.GmInRefIdeal.Value.run m' g'
    refine (GmInRefIdeal.Read.val_main_v1_eq (F := Ideal) _ _).trans ?_
    funext j
    idx_vars j
    rw [value]
    pointwise [GmInRefIdeal.Read.val_main_v0, GmInRefIdeal.Read.val_main_v1]
    rfl

end Cert.Proof.GmIn

end
-- ==== Proof.GmOut.lean ====
/- The gating unit's output: the residual and the product with the output weight, added up over four tiles. -/
module

public import proofs.«01_k».proof.Defs
public import proofs.«01_k».proof.Proof.Gen.GmOutIdeal.Value
public import proofs.«01_k».proof.Proof.Gen.GmOutRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.GmOut

open Cert.GmOutIdeal Cert.GmOutIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0, 0] ∧ win0_2.index t = ![t.val / 8, t.val / 4 % 2] :=
  (by decide +kernel : ∀ t : Fin grid0.N, _)

/-- The arrays of the call. -/
def xs : Vec Ideal S2048x2048 .bf16 := m ((c : Thread nD τ).loc main_arg0)
def ys : Vec Ideal S2048x2048 .f32 := m ((c : Thread nD τ).loc main_arg1)
def zs : Vec Ideal S2048x2048 .f32 := m ((c : Thread nD τ).loc main_arg2)

/-- Tile `s` of the summed axis: its part of the product's row `i` at column `j`. -/
def part (x : Vec Ideal S2048x2048 .bf16) (y : Vec Ideal S2048x2048 .f32) (i : Fin 2048) (j : Fin 2048) (s : Fin 4) : EReal :=
  ∑ k : Fin 512, x (ix2 i ⟨s.val * 512 + k.val, by omega⟩) * y (ix2 ⟨s.val * 512 + k.val, by omega⟩ j)

theorem pay1_at (x : Vec Ideal S2048x512 .bf16) (y : Vec Ideal S1x1x512x1024 .bf16) (a : Fin 2048) (b : Fin 1024) :
    k0_pay1 (F := Ideal) x y (ix2 a b) = ∑ k : Fin 512, x (ix2 a k) * y (ix4 0 0 k b) := by
  unfold_payloads
  pointwise

theorem pay2_at (x : Vec Ideal S2048x512 .bf16) (y : Vec Ideal S1x1x512x1024 .bf16) (z : Vec Ideal S2048x1024 .f32) (a : Fin 2048) (b : Fin 1024) :
    k0_pay2 (F := Ideal) x y z (ix2 a b) = z (ix2 a b) + k0_pay1 (F := Ideal) x y (ix2 a b) := by
  rw [pay1_at]
  unfold_payloads
  pointwise

theorem pay3_at (x : Vec Ideal S2048x512 .bf16) (y : Vec Ideal S1x1x512x1024 .bf16) (z : Vec Ideal S2048x1024 .f32) (e : Vec Ideal S2048x1024 .f32) (a : Fin 2048) (b : Fin 1024) :
    k0_pay3 (F := Ideal) x y z e (ix2 a b) = z (ix2 a b) + k0_pay1 (F := Ideal) x y (ix2 a b) + e (ix2 a b) := by
  rw [pay1_at]
  unfold_payloads
  pointwise

/-- A point's product, as its tile's part of the array's element. -/
theorem tile (t : Fin cfg0.N) (a : Fin 2048) (b : Fin 1024) (i : Fin 2048) (j : Fin 2048) (s : Fin 4) (hs : t.val % 4 = s.val)
    (hi : i.val = t.val / 8 * 2048 + a.val) (hj : j.val = t.val / 4 % 2 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 4 = 0) :
    (outsAt0 m c t.val t.isLt).2 = k0_pay1 (F := Ideal) (iblk m c 0 t) (iblk m c 1 t) := by
  have h1 : ¬(1 ≤ t.val % 4 ∧ t.val % 4 ≤ 2) := by omega
  have h2 : ¬t.val % 4 = 3 := by omega
  rw [outsAt0_A m c t h0 h1 h2]
  frame_out

theorem next (t : Fin cfg0.N) (h1 : 1 ≤ t.val % 4 ∧ t.val % 4 ≤ 2) :
    (outsAt0 m c t.val t.isLt).2 = k0_pay2 (F := Ideal) (iblk m c 0 t) (iblk m c 1 t) (outsAt0 m c (t.val - 1) (Nat.lt_of_le_of_lt (Nat.sub_le _ _) t.isLt)).2 := by
  have h0 : ¬t.val % 4 = 0 := by omega
  have h2 : ¬t.val % 4 = 3 := by omega
  rw [outsAt0_B m c t h0 h1 h2]
  frame_out
  simp only [read_unread_whole]

theorem last (t : Fin cfg0.N) (h2 : t.val % 4 = 3) :
    (outsAt0 m c t.val t.isLt).1 = k0_pay3 (F := Ideal) (iblk m c 0 t) (iblk m c 1 t) (outsAt0 m c (t.val - 1) (Nat.lt_of_le_of_lt (Nat.sub_le _ _) t.isLt)).2 (iblk m c 2 t) := by
  have h0 : ¬t.val % 4 = 0 := by omega
  have h1 : ¬(1 ≤ t.val % 4 ∧ t.val % 4 ≤ 2) := by omega
  rw [outsAt0_C m c t h0 h1 h2]
  frame_out
  simp only [read_unread_whole]

theorem sums (t : Fin cfg0.N) (h2 : t.val % 4 = 3) (a : Fin 2048) (b : Fin 1024) (i : Fin 2048) (j : Fin 2048)
    (hi : i.val = t.val / 8 * 2048 + a.val) (hj : j.val = t.val / 4 % 2 * 1024 + b.val) :
    (outsAt0 m c t.val t.isLt).1 (ix2 a b) = (∑ s, part (xs m c) (ys m c) i j s) + zs m c (ix2 i j) := by
  have l := t.isLt
  have hz : (iblk m c 2 t : Vec Ideal S2048x1024 .f32) (ix2 a b) = zs m c (ix2 i j) := by blk_ext! [iblk, V, idx t, zs]
  rw [last m c t h2, pay3_at, hz, tile m c t a b i j 3 h2 hi hj,
    next m c ⟨t.val - 1, by omega⟩ (by show 1 ≤ (t.val - 1) % 4 ∧ (t.val - 1) % 4 ≤ 2; omega), pay2_at,
    tile m c ⟨t.val - 1, by omega⟩ a b i j 2 (by show (t.val - 1) % 4 = 2; omega) (by show i.val = (t.val - 1) / 8 * 2048 + a.val; omega) (by show j.val = (t.val - 1) / 4 % 2 * 1024 + b.val; omega),
    next m c ⟨t.val - 1 - 1, by omega⟩ (by show 1 ≤ (t.val - 1 - 1) % 4 ∧ (t.val - 1 - 1) % 4 ≤ 2; omega), pay2_at,
    tile m c ⟨t.val - 1 - 1, by omega⟩ a b i j 1 (by show (t.val - 1 - 1) % 4 = 1; omega) (by show i.val = (t.val - 1 - 1) / 8 * 2048 + a.val; omega) (by show j.val = (t.val - 1 - 1) / 4 % 2 * 1024 + b.val; omega),
    first m c ⟨t.val - 1 - 1 - 1, by omega⟩ (by show (t.val - 1 - 1 - 1) % 4 = 0; omega),
    tile m c ⟨t.val - 1 - 1 - 1, by omega⟩ a b i j 0 (by show (t.val - 1 - 1 - 1) % 4 = 0; omega) (by show i.val = (t.val - 1 - 1 - 1) / 8 * 2048 + a.val; omega) (by show j.val = (t.val - 1 - 1 - 1) / 4 % 2 * 1024 + b.val; omega),
    Fin.sum_univ_four]

/-- The call's array is the product and the residual. -/
theorem value (i : Fin 2048) (j : Fin 2048) : Value.G3 m c (ix2 i j) = (∑ k : Fin 2048, xs m c (ix2 i k) * ys m c (ix2 k j)) + zs m c (ix2 i j) := by
  have e0 : Value.pt3Of (ix2 i j) = 4 * (2 * (i.val / 2048 - 0) + 1 * (j.val / 1024 - 0)) + 3 := rfl
  have hp : Value.pt3Of (ix2 i j) < cfg0.N := by rw [e0]; exact lt_of_lt_of_eq (by omega) N_0.symm
  unfold Value.G3
  rw [dif_pos hp, ← Value.outsAt0_sweep m c _ hp]
  have e : Value.loc3Of (ix2 i j) = ix2 (⟨i.val % 2048, by omega⟩ : Fin 2048) (⟨j.val % 1024, by omega⟩ : Fin 1024) := by
    funext a; match a with
    | 0 => rfl
    | 1 => rfl
  rw [e, sums m c ⟨Value.pt3Of (ix2 i j), hp⟩ (by show Value.pt3Of (ix2 i j) % 4 = 3; omega) _ _ i j
    (by show i.val = Value.pt3Of (ix2 i j) / 8 * 2048 + i.val % 2048; omega)
    (by show j.val = Value.pt3Of (ix2 i j) / 4 % 2 * 1024 + j.val % 1024; omega)]
  exact congrArg (· + zs m c (ix2 i j)) (Fin.sum_mul_add_congr fun s k hl => rfl)

theorem same : Cert.algebraic_GmOutIdeal_GmOutRefIdeal := by
  pair_intro
  · run_from Cert.GmOutIdeal.Value.run m g
  · run_from Cert.GmOutRefIdeal.Value.run m' g'
    refine (GmOutRefIdeal.Read.val_main_v2_eq (F := Ideal) _ _ _).trans ?_
    funext j
    idx_vars j
    rw [value]
    pointwise [GmOutRefIdeal.Read.val_main_v0, GmOutRefIdeal.Read.val_main_v1, GmOutRefIdeal.Read.val_main_v2]
    exact add_comm _ _

end Cert.Proof.GmOut

end
-- ==== Proof.S5In.lean ====
/- The state-space layer's input product, added up over four tiles. -/
module

public import proofs.«01_k».proof.Defs
public import proofs.«01_k».proof.Proof.Gen.S5InIdeal.Value
public import proofs.«01_k».proof.Proof.Gen.S5InRefIdeal.Read
public import Idealize.ShloMosaic.Lib.Pipeline.ValueKit
public import Idealize.ShloMosaic.Lib.Pipeline.ReadBack
public import Idealize.ShloMosaic.Lib.Claim

@[expose] public section

set_option maxRecDepth 16384
set_option maxHeartbeats 1000000
set_option pp.maxSteps 400

noncomputable section

namespace Cert.Proof.S5In

open Cert.S5InIdeal Cert.S5InIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0, 0] :=
  (by decide +kernel : ∀ t : Fin grid0.N, _)

/-- The arrays of the call. -/
def xs : Vec Ideal S2048x2048 .bf16 := m ((c : Thread nD τ).loc main_arg0)
def ys : Vec Ideal S2048x2048 .f32 := m ((c : Thread nD τ).loc main_arg1)

/-- Tile `s` of the summed axis: its part of the product's row `i` at column `j`. -/
def part (x : Vec Ideal S2048x2048 .bf16) (y : Vec Ideal S2048x2048 .f32) (i : Fin 2048) (j : Fin 2048) (s : Fin 4) : EReal :=
  ∑ k : Fin 512, x (ix2 i ⟨s.val * 512 + k.val, by omega⟩) * y (ix2 ⟨s.val * 512 + k.val, by omega⟩ j)

theorem pay1_at (x : Vec Ideal S2048x512 .bf16) (y : Vec Ideal S1x1x512x1024 .bf16) (a : Fin 2048) (b : Fin 1024) :
    k0_pay1 (F := Ideal) x y (ix2 a b) = ∑ k : Fin 512, x (ix2 a k) * y (ix4 0 0 k b) := by
  unfold_payloads
  pointwise

theorem pay2_at (x : Vec Ideal S2048x512 .bf16) (y : Vec Ideal S1x1x512x1024 .bf16) (z : Vec Ideal S2048x1024 .f32) (a : Fin 2048) (b : Fin 1024) :
    k0_pay2 (F := Ideal) x y z (ix2 a b) = z (ix2 a b) + k0_pay1 (F := Ideal) x y (ix2 a b) := by
  rw [pay1_at]
  unfold_payloads
  pointwise

theorem pay3_at (x : Vec Ideal S2048x512 .bf16) (y : Vec Ideal S1x1x512x1024 .bf16) (z : Vec Ideal S2048x1024 .f32) (a : Fin 2048) (b : Fin 1024) :
    k0_pay3 (F := Ideal) x y z (ix2 a b) = z (ix2 a b) + k0_pay1 (F := Ideal) x y (ix2 a b) := by
  rw [pay1_at]
  unfold_payloads
  pointwise

/-- A point's product, as its tile's part of the array's element. -/
theorem tile (t : Fin cfg0.N) (a : Fin 2048) (b : Fin 1024) (i : Fin 2048) (j : Fin 2048) (s : Fin 4) (hs : t.val % 4 = s.val)
    (hi : i.val = t.val / 8 * 2048 + a.val) (hj : j.val = t.val / 4 % 2 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem first (t : Fin cfg0.N) (h0 : t.val % 4 = 0) :
    (outsAt0 m c t.val t.isLt).2 = k0_pay1 (F := Ideal) (iblk m c 0 t) (iblk m c 1 t) := by
  have h1 : ¬(1 ≤ t.val % 4 ∧ t.val % 4 ≤ 2) := by omega
  have h2 : ¬t.val % 4 = 3 := by omega
  rw [outsAt0_A m c t h0 h1 h2]
  frame_out

theorem next (t : Fin cfg0.N) (h1 : 1 ≤ t.val % 4 ∧ t.val % 4 ≤ 2) :
    (outsAt0 m c t.val t.isLt).2 = k0_pay2 (F := Ideal) (iblk m c 0 t) (iblk m c 1 t) (outsAt0 m c (t.val - 1) (Nat.lt_of_le_of_lt (Nat.sub_le _ _) t.isLt)).2 := by
  have h0 : ¬t.val % 4 = 0 := by omega
  have h2 : ¬t.val % 4 = 3 := by omega
  rw [outsAt0_B m c t h0 h1 h2]
  frame_out
  simp only [read_unread_whole]

theorem last (t : Fin cfg0.N) (h2 : t.val % 4 = 3) :
    (outsAt0 m c t.val t.isLt).1 = k0_pay3 (F := Ideal) (iblk m c 0 t) (iblk m c 1 t) (outsAt0 m c (t.val - 1) (Nat.lt_of_le_of_lt (Nat.sub_le _ _) t.isLt)).2 := by
  have h0 : ¬t.val % 4 = 0 := by omega
  have h1 : ¬(1 ≤ t.val % 4 ∧ t.val % 4 ≤ 2) := by omega
  rw [outsAt0_C m c t h0 h1 h2]
  frame_out
  simp only [read_unread_whole]

theorem sums (t : Fin cfg0.N) (h2 : t.val % 4 = 3) (a : Fin 2048) (b : Fin 1024) (i : Fin 2048) (j : Fin 2048)
    (hi : i.val = t.val / 8 * 2048 + a.val) (hj : j.val = t.val / 4 % 2 * 1024 + b.val) :
    (outsAt0 m c t.val t.isLt).1 (ix2 a b) = (∑ s, part (xs m c) (ys m c) i j s) := by
  have l := t.isLt
  rw [last m c t h2, pay3_at, tile m c t a b i j 3 h2 hi hj,
    next m c ⟨t.val - 1, by omega⟩ (by show 1 ≤ (t.val - 1) % 4 ∧ (t.val - 1) % 4 ≤ 2; omega), pay2_at,
    tile m c ⟨t.val - 1, by omega⟩ a b i j 2 (by show (t.val - 1) % 4 = 2; omega) (by show i.val = (t.val - 1) / 8 * 2048 + a.val; omega) (by show j.val = (t.val - 1) / 4 % 2 * 1024 + b.val; omega),
    next m c ⟨t.val - 1 - 1, by omega⟩ (by show 1 ≤ (t.val - 1 - 1) % 4 ∧ (t.val - 1 - 1) % 4 ≤ 2; omega), pay2_at,
    tile m c ⟨t.val - 1 - 1, by omega⟩ a b i j 1 (by show (t.val - 1 - 1) % 4 = 1; omega) (by show i.val = (t.val - 1 - 1) / 8 * 2048 + a.val; omega) (by show j.val = (t.val - 1 - 1) / 4 % 2 * 1024 + b.val; omega),
    first m c ⟨t.val - 1 - 1 - 1, by omega⟩ (by show (t.val - 1 - 1 - 1) % 4 = 0; omega),
    tile m c ⟨t.val - 1 - 1 - 1, by omega⟩ a b i j 0 (by show (t.val - 1 - 1 - 1) % 4 = 0; omega) (by show i.val = (t.val - 1 - 1 - 1) / 8 * 2048 + a.val; omega) (by show j.val = (t.val - 1 - 1 - 1) / 4 % 2 * 1024 + b.val; omega),
    Fin.sum_univ_four]

/-- The call's array is the product. -/
theorem value (i : Fin 2048) (j : Fin 2048) : Value.G2 m c (ix2 i j) = (∑ k : Fin 2048, xs m c (ix2 i k) * ys m c (ix2 k j)) := by
  have e0 : Value.pt2Of (ix2 i j) = 4 * (2 * (i.val / 2048 - 0) + 1 * (j.val / 1024 - 0)) + 3 := rfl
  have hp : Value.pt2Of (ix2 i j) < cfg0.N := by rw [e0]; exact lt_of_lt_of_eq (by omega) N_0.symm
  unfold Value.G2
  rw [dif_pos hp, ← Value.outsAt0_sweep m c _ hp]
  have e : Value.loc2Of (ix2 i j) = ix2 (⟨i.val % 2048, by omega⟩ : Fin 2048) (⟨j.val % 1024, by omega⟩ : Fin 1024) := by
    funext a; match a with
    | 0 => rfl
    | 1 => rfl
  rw [e, sums m c ⟨Value.pt2Of (ix2 i j), hp⟩ (by show Value.pt2Of (ix2 i j) % 4 = 3; omega) _ _ i j
    (by show i.val = Value.pt2Of (ix2 i j) / 8 * 2048 + i.val % 2048; omega)
    (by show j.val = Value.pt2Of (ix2 i j) / 4 % 2 * 1024 + j.val % 1024; omega)]
  exact Fin.sum_mul_add_congr fun s k hl => rfl

theorem same : Cert.algebraic_S5InIdeal_S5InRefIdeal := by
  pair_intro
  · run_from Cert.S5InIdeal.Value.run m g
  · run_from Cert.S5InRefIdeal.Value.run m' g'
    refine (S5InRefIdeal.Read.val_main_v1_eq (F := Ideal) _ _).trans ?_
    funext j
    idx_vars j
    rw [value]
    pointwise [S5InRefIdeal.Read.val_main_v0, S5InRefIdeal.Read.val_main_v1]
    rfl

end Cert.Proof.S5In

end
-- ==== Proof.S5Out.lean ====
/- The state-space layer's output product and its gate: both halves of the product are added up over two halves of the
   summed axis, and the gate and the residual are applied to the finished sums. -/
module

public import proofs.«01_k».proof.Defs
public import proofs.«01_k».proof.Proof.Gen.S5OutIdeal.Value
public import proofs.«01_k».proof.Proof.Gen.S5OutRefIdeal.Read
public import Idealize.ShloMosaic.Lib.Pipeline.ValueKit
public import Idealize.ShloMosaic.Lib.Pipeline.ReadBack
public import Idealize.ShloMosaic.Lib.Claim
public import proofs.«01_k».proof.Proof.Logistic

@[expose] public section

set_option maxRecDepth 16384
set_option maxHeartbeats 1000000
set_option pp.maxSteps 400

noncomputable section

namespace Cert.Proof.S5Out

open Cert.S5OutIdeal Cert.S5OutIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 4, t.val % 2] ∧ win0_1.index t = ![t.val / 2 % 2, t.val % 2, 0, 0]
    ∧ win0_2.index t = ![t.val / 2 % 2 + 2, t.val % 2, 0, 0]
    ∧ win0_3.index t = ![t.val / 4, t.val / 2 % 2] :=
  (by decide +kernel : ∀ t : Fin grid0.N, _)

/-- The arrays of the call. -/
def xs : Vec Ideal S2048x2048 .bf16 := m ((c : Thread nD τ).loc main_arg0)
def ys : Vec Ideal S2048x4096 .f32 := m ((c : Thread nD τ).loc main_arg1)
def zs : Vec Ideal S2048x2048 .f32 := m ((c : Thread nD τ).loc main_arg2)

/-- Half `s` of the summed axis: its part of the product's row `i` at column `j`. -/
def part (x : Vec Ideal S2048x2048 .bf16) (y : Vec Ideal S2048x4096 .f32) (i : Fin 2048) (j : Fin 4096) (s : Fin 2) : EReal :=
  ∑ k : Fin 1024, x (ix2 i ⟨s.val * 1024 + k.val, by omega⟩) * y (ix2 ⟨s.val * 1024 + k.val, by omega⟩ j)

theorem pay1_at (x : Vec Ideal S1024x1024 .bf16) (y : Vec Ideal S1x1x1024x1024 .bf16) (a : Fin 1024) (b : Fin 1024) :
    k0_pay1 (F := Ideal) x y (ix2 a b) = ∑ k : Fin 1024, x (ix2 a k) * y (ix4 0 0 k b) := by
  unfold_payloads
  pointwise

theorem pay2_at (x : Vec Ideal S1024x1024 .bf16) (y : Vec Ideal S1x1x1024x1024 .bf16) (a : Fin 1024) (b : Fin 1024) :
    k0_pay2 (F := Ideal) x y (ix2 a b) = ∑ k : Fin 1024, x (ix2 a k) * y (ix4 0 0 k b) := by
  unfold_payloads
  pointwise

theorem pay8_at (x : Vec Ideal S1024x1024 .bf16) (y : Vec Ideal S1x1x1024x1024 .bf16) (z : Vec Ideal S1024x1024 .f32) (a : Fin 1024) (b : Fin 1024) :
    k0_pay8 (F := Ideal) x y z (ix2 a b) = z (ix2 a b) + k0_pay1 (F := Ideal) x y (ix2 a b) := by
  rw [pay1_at]
  unfold_payloads
  pointwise

theorem pay6_at (x : Vec Ideal S1024x1024 .bf16) (y : Vec Ideal S1x1x1024x1024 .bf16) (z : Vec Ideal S1024x1024 .f32) (a : Fin 1024) (b : Fin 1024) :
    k0_pay6 (F := Ideal) x y z (ix2 a b) = Logistic.host (z (ix2 a b) + k0_pay2 (F := Ideal) x y (ix2 a b)) := by
  rw [← Logistic.same, pay2_at]
  unfold_payloads
  pointwise

theorem pay9_at (x : Vec Ideal S1024x1024 .bf16) (y : Vec Ideal S1x1x1024x1024 .bf16) (z : Vec Ideal S1024x1024 .f32) (a : Fin 1024) (b : Fin 1024) :
    k0_pay9 (F := Ideal) x y z (ix2 a b) = Logistic.host (z (ix2 a b) + k0_pay2 (F := Ideal) x y (ix2 a b)) :=
  pay6_at x y z a b

theorem pay7_at (x x' : Vec Ideal S1024x1024 .bf16) (y y' : Vec Ideal S1x1x1024x1024 .bf16) (z z' e : Vec Ideal S1024x1024 .f32) (a : Fin 1024) (b : Fin 1024) :
    k0_pay7 (F := Ideal) x y x' y' z z' e (ix2 a b) = e (ix2 a b) + k0_pay8 (F := Ideal) x y z (ix2 a b) * k0_pay9 (F := Ideal) x' y' z' (ix2 a b) := rfl

theorem tile1 (t : Fin cfg0.N) (a : Fin 1024) (b : Fin 1024) (i : Fin 2048) (j : Fin 4096) (s : Fin 2) (hs : t.val % 2 = s.val)
    (hi : i.val = t.val / 4 * 1024 + a.val) (hj : j.val = (t.val / 2 % 2) * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

theorem tile2 (t : Fin cfg0.N) (a : Fin 1024) (b : Fin 1024) (i : Fin 2048) (j : Fin 4096) (s : Fin 2) (hs : t.val % 2 = s.val)
    (hi : i.val = t.val / 4 * 1024 + a.val) (hj : j.val = (t.val / 2 % 2 + 2) * 1024 + b.val) :
    k0_pay2 (F := Ideal) (iblk m c 0 t) (iblk m c 2 t) (ix2 a b) = part (xs m c) (ys m c) i j s := by
  rw [pay2_at]
  refine Finset.sum_congr rfl fun k _ => congr (congrArg _ ?_) ?_
  · blk_ext! [iblk, V, idx t, xs]
  · blk_ext! [iblk, V, idx t, ys]

theorem first (t : Fin cfg0.N) (h0 : t.val % 2 = 0) :
    (outsAt0 m c t.val t.isLt).2.2.2.1 = k0_pay1 (F := Ideal) (iblk m c 0 t) (iblk m c 1 t)
      ∧ (outsAt0 m c t.val t.isLt).2.2.2.2 = k0_pay2 (F := Ideal) (iblk m c 0 t) (iblk m c 2 t) := by
  have h2 : ¬t.val % 2 = 1 := by omega
  rw [outsAt0_A m c t h0 h2]
  constructor <;> frame_out

theorem last0 (t : Fin cfg0.N) (h2 : t.val % 2 = 1) :
    (outsAt0 m c t.val t.isLt).1 = k0_pay7 (F := Ideal) (iblk m c 0 t) (iblk m c 1 t) (iblk m c 0 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (iblk m c 3 t) := by
  have h0 : ¬t.val % 2 = 0 := by omega
  rw [outsAt0_B m c t h0 h2]
  frame_out
  simp only [read_unread_whole]

theorem last1 (t : Fin cfg0.N) (h2 : t.val % 2 = 1) :
    (outsAt0 m c t.val t.isLt).2.1 = k0_pay8 (F := Ideal) (iblk m c 0 t) (iblk m c 1 t) (outsAt0 m c (t.val - 1) (Nat.lt_of_le_of_lt (Nat.sub_le _ _) t.isLt)).2.2.2.1 := by
  have h0 : ¬t.val % 2 = 0 := by omega
  rw [outsAt0_B m c t h0 h2]
  frame_out
  simp only [read_unread_whole]

theorem last2 (t : Fin cfg0.N) (h2 : t.val % 2 = 1) :
    (outsAt0 m c t.val t.isLt).2.2.1 = k0_pay9 (F := Ideal) (iblk m c 0 t) (iblk m c 2 t) (outsAt0 m c (t.val - 1) (Nat.lt_of_le_of_lt (Nat.sub_le _ _) t.isLt)).2.2.2.2 := by
  have h0 : ¬t.val % 2 = 0 := by omega
  rw [outsAt0_B m c t h0 h2]
  frame_out
  simp only [read_unread_whole]

theorem sums (t : Fin cfg0.N) (h2 : t.val % 2 = 1) (a : Fin 1024) (b : Fin 1024) (i : Fin 2048) (j j2 : Fin 4096) (l : Fin 2048)
    (hi : i.val = t.val / 4 * 1024 + a.val) (hj : j.val = t.val / 2 % 2 * 1024 + b.val) (hj2 : j2.val = (t.val / 2 % 2 + 2) * 1024 + b.val) (hl : l.val = t.val / 2 % 2 * 1024 + b.val) :
    (outsAt0 m c t.val t.isLt).1 (ix2 a b) = zs m c (ix2 i l) + (∑ s, part (xs m c) (ys m c) i j s) * Logistic.host (∑ s, part (xs m c) (ys m c) i j2 s)
      ∧ (outsAt0 m c t.val t.isLt).2.1 (ix2 a b) = (∑ s, part (xs m c) (ys m c) i j s)
      ∧ (outsAt0 m c t.val t.isLt).2.2.1 (ix2 a b) = Logistic.host (∑ s, part (xs m c) (ys m c) i j2 s) := by
  have lt := t.isLt
  have q1 : (outsAt0 m c (t.val - 1) (Nat.lt_of_le_of_lt (Nat.sub_le _ _) t.isLt)).2.2.2.1 (ix2 a b) + k0_pay1 (F := Ideal) (iblk m c 0 t) (iblk m c 1 t) (ix2 a b) = ∑ s, part (xs m c) (ys m c) i j s := by
    rw [tile1 m c t a b i j 1 h2 hi hj, (first m c ⟨t.val - 1, by omega⟩ (by show (t.val - 1) % 2 = 0; omega)).1,
      tile1 m c ⟨t.val - 1, by omega⟩ a b i j 0 (by show (t.val - 1) % 2 = 0; omega) (by show i.val = (t.val - 1) / 4 * 1024 + a.val; omega)
        (by show j.val = ((t.val - 1) / 2 % 2) * 1024 + b.val; omega), Fin.sum_univ_two]
  have q2 : (outsAt0 m c (t.val - 1) (Nat.lt_of_le_of_lt (Nat.sub_le _ _) t.isLt)).2.2.2.2 (ix2 a b) + k0_pay2 (F := Ideal) (iblk m c 0 t) (iblk m c 2 t) (ix2 a b) = ∑ s, part (xs m c) (ys m c) i j2 s := by
    rw [tile2 m c t a b i j2 1 h2 hi hj2, (first m c ⟨t.val - 1, by omega⟩ (by show (t.val - 1) % 2 = 0; omega)).2,
      tile2 m c ⟨t.val - 1, by omega⟩ a b i j2 0 (by show (t.val - 1) % 2 = 0; omega) (by show i.val = (t.val - 1) / 4 * 1024 + a.val; omega)
        (by show j2.val = ((t.val - 1) / 2 % 2 + 2) * 1024 + b.val; omega), Fin.sum_univ_two]
  have hz : (iblk m c 3 t : Vec Ideal S1024x1024 .f32) (ix2 a b) = zs m c (ix2 i l) := by blk_ext! [iblk, V, idx t, zs]
  refine ⟨?_, ?_, ?_⟩
  · rw [last0 m c t h2, pay7_at, pay8_at, pay9_at, hz, q1, q2]
  · rw [last1 m c t h2, pay8_at, q1]
  · rw [last2 m c t h2, pay9_at, q2]

/-- The product's row `i` at column `j`. -/
def prod (x : Vec Ideal S2048x2048 .bf16) (y : Vec Ideal S2048x4096 .f32) (i : Fin 2048) (j : Fin 4096) : EReal :=
  ∑ k : Fin 2048, x (ix2 i k) * y (ix2 k j)

theorem parts (x : Vec Ideal S2048x2048 .bf16) (y : Vec Ideal S2048x4096 .f32) (i : Fin 2048) (j : Fin 4096) :
    (∑ s, part x y i j s) = prod x y i j :=
  Fin.sum_mul_add_congr fun s k hl => rfl

theorem value0 (i : Fin 2048) (j : Fin 2048) : Value.G4 m c (ix2 i j) = zs m c (ix2 i j) + prod (xs m c) (ys m c) i ⟨j.val, by omega⟩ * Logistic.host (prod (xs m c) (ys m c) i ⟨2048 + j.val, by omega⟩) := by
  have e0 : Value.pt4Of (ix2 i j) = 2 * (2 * (i.val / 1024 - 0) + 1 * (j.val / 1024 - 0)) + 1 := rfl
  have hp : Value.pt4Of (ix2 i j) < cfg0.N := by rw [e0]; exact lt_of_lt_of_eq (by omega) N_0.symm
  unfold Value.G4
  rw [dif_pos hp, ← Value.outsAt0_sweep m c _ hp]
  have e : Value.loc4Of (ix2 i j) = ix2 (⟨i.val % 1024, by omega⟩ : Fin 1024) (⟨j.val % 1024, by omega⟩ : Fin 1024) := by
    funext a; match a with
    | 0 => rfl
    | 1 => rfl
  rw [e, (sums m c ⟨Value.pt4Of (ix2 i j), hp⟩ (by show Value.pt4Of (ix2 i j) % 2 = 1; omega) _ _ i ⟨j.val, by omega⟩ ⟨2048 + j.val, by omega⟩ j
    (by show i.val = Value.pt4Of (ix2 i j) / 4 * 1024 + i.val % 1024; omega)
    (by show j.val = Value.pt4Of (ix2 i j) / 2 % 2 * 1024 + j.val % 1024; omega)
    (by show 2048 + j.val = (Value.pt4Of (ix2 i j) / 2 % 2 + 2) * 1024 + j.val % 1024; omega)
    (by show j.val = Value.pt4Of (ix2 i j) / 2 % 2 * 1024 + j.val % 1024; omega)).1]
  simp only [parts]

theorem value1 (i : Fin 2048) (j : Fin 2048) : Value.G5 m c (ix2 i j) = prod (xs m c) (ys m c) i ⟨j.val, by omega⟩ := by
  have e0 : Value.pt5Of (ix2 i j) = 2 * (2 * (i.val / 1024 - 0) + 1 * (j.val / 1024 - 0)) + 1 := rfl
  have hp : Value.pt5Of (ix2 i j) < cfg0.N := by rw [e0]; exact lt_of_lt_of_eq (by omega) N_0.symm
  unfold Value.G5
  rw [dif_pos hp, ← Value.outsAt0_sweep m c _ hp]
  have e : Value.loc5Of (ix2 i j) = ix2 (⟨i.val % 1024, by omega⟩ : Fin 1024) (⟨j.val % 1024, by omega⟩ : Fin 1024) := by
    funext a; match a with
    | 0 => rfl
    | 1 => rfl
  rw [e, (sums m c ⟨Value.pt5Of (ix2 i j), hp⟩ (by show Value.pt5Of (ix2 i j) % 2 = 1; omega) _ _ i ⟨j.val, by omega⟩ ⟨2048 + j.val, by omega⟩ j
    (by show i.val = Value.pt5Of (ix2 i j) / 4 * 1024 + i.val % 1024; omega)
    (by show j.val = Value.pt5Of (ix2 i j) / 2 % 2 * 1024 + j.val % 1024; omega)
    (by show 2048 + j.val = (Value.pt5Of (ix2 i j) / 2 % 2 + 2) * 1024 + j.val % 1024; omega)
    (by show j.val = Value.pt5Of (ix2 i j) / 2 % 2 * 1024 + j.val % 1024; omega)).2.1]
  simp only [parts]

theorem value2 (i : Fin 2048) (j : Fin 2048) : Value.G6 m c (ix2 i j) = Logistic.host (prod (xs m c) (ys m c) i ⟨2048 + j.val, by omega⟩) := by
  have e0 : Value.pt6Of (ix2 i j) = 2 * (2 * (i.val / 1024 - 0) + 1 * (j.val / 1024 - 0)) + 1 := rfl
  have hp : Value.pt6Of (ix2 i j) < cfg0.N := by rw [e0]; exact lt_of_lt_of_eq (by omega) N_0.symm
  unfold Value.G6
  rw [dif_pos hp, ← Value.outsAt0_sweep m c _ hp]
  have e : Value.loc6Of (ix2 i j) = ix2 (⟨i.val % 1024, by omega⟩ : Fin 1024) (⟨j.val % 1024, by omega⟩ : Fin 1024) := by
    funext a; match a with
    | 0 => rfl
    | 1 => rfl
  rw [e, (sums m c ⟨Value.pt6Of (ix2 i j), hp⟩ (by show Value.pt6Of (ix2 i j) % 2 = 1; omega) _ _ i ⟨j.val, by omega⟩ ⟨2048 + j.val, by omega⟩ j
    (by show i.val = Value.pt6Of (ix2 i j) / 4 * 1024 + i.val % 1024; omega)
    (by show j.val = Value.pt6Of (ix2 i j) / 2 % 2 * 1024 + j.val % 1024; omega)
    (by show 2048 + j.val = (Value.pt6Of (ix2 i j) / 2 % 2 + 2) * 1024 + j.val % 1024; omega)
    (by show j.val = Value.pt6Of (ix2 i j) / 2 % 2 * 1024 + j.val % 1024; omega)).2.2]
  simp only [parts]

theorem same : Cert.algebraic_S5OutIdeal_S5OutRefIdeal := by
  pair_intro
  · run_from Cert.S5OutIdeal.Value.run m g
  · run_from Cert.S5OutRefIdeal.Value.run m' g'
    · refine (S5OutRefIdeal.Read.val_main_v11_eq (F := Ideal) _ _ _).trans ?_
      funext j
      idx_vars j
      rw [value0]
      pointwise [S5OutRefIdeal.Read.val_main_v0, S5OutRefIdeal.Read.val_main_v1, S5OutRefIdeal.Read.val_main_v2, S5OutRefIdeal.Read.val_main_v3, S5OutRefIdeal.Read.val_main_v4, S5OutRefIdeal.Read.val_main_v5, S5OutRefIdeal.Read.val_main_cst, S5OutRefIdeal.Read.val_main_v6, S5OutRefIdeal.Read.val_main_v7, S5OutRefIdeal.Read.val_main_cst_0, S5OutRefIdeal.Read.val_main_v8, S5OutRefIdeal.Read.val_main_v9, S5OutRefIdeal.Read.val_main_v10, S5OutRefIdeal.Read.val_main_v11, S5OutRefIdeal.Read.val_main_v12, S5OutRefIdeal.Read.val_main_v13]
      rfl
    · refine (S5OutRefIdeal.Read.val_main_v12_eq (F := Ideal) _ _).trans ?_
      funext j
      idx_vars j
      rw [value1]
      pointwise [S5OutRefIdeal.Read.val_main_v0, S5OutRefIdeal.Read.val_main_v1, S5OutRefIdeal.Read.val_main_v2, S5OutRefIdeal.Read.val_main_v3, S5OutRefIdeal.Read.val_main_v4, S5OutRefIdeal.Read.val_main_v5, S5OutRefIdeal.Read.val_main_cst, S5OutRefIdeal.Read.val_main_v6, S5OutRefIdeal.Read.val_main_v7, S5OutRefIdeal.Read.val_main_cst_0, S5OutRefIdeal.Read.val_main_v8, S5OutRefIdeal.Read.val_main_v9, S5OutRefIdeal.Read.val_main_v10, S5OutRefIdeal.Read.val_main_v11, S5OutRefIdeal.Read.val_main_v12, S5OutRefIdeal.Read.val_main_v13]
      rfl
    · refine (S5OutRefIdeal.Read.val_main_v13_eq (F := Ideal) _ _).trans ?_
      funext j
      idx_vars j
      rw [value2]
      pointwise [S5OutRefIdeal.Read.val_main_v0, S5OutRefIdeal.Read.val_main_v1, S5OutRefIdeal.Read.val_main_v2, S5OutRefIdeal.Read.val_main_v3, S5OutRefIdeal.Read.val_main_v4, S5OutRefIdeal.Read.val_main_v5, S5OutRefIdeal.Read.val_main_cst, S5OutRefIdeal.Read.val_main_v6, S5OutRefIdeal.Read.val_main_v7, S5OutRefIdeal.Read.val_main_cst_0, S5OutRefIdeal.Read.val_main_v8, S5OutRefIdeal.Read.val_main_v9, S5OutRefIdeal.Read.val_main_v10, S5OutRefIdeal.Read.val_main_v11, S5OutRefIdeal.Read.val_main_v12, S5OutRefIdeal.Read.val_main_v13]
      rfl

end Cert.Proof.S5Out

end
-- ==== Proof.PleGate.lean ====
/- The per-layer embedding's gate: the gate's product is added up over four tiles, the embedding's projection is taken in
   four quarters, and the residual stream takes the gated projection. -/
module

public import proofs.«01_k».proof.Defs
public import proofs.«01_k».proof.Proof.Gen.PleGateIdeal.Value
public import proofs.«01_k».proof.Proof.Gen.PleGateRefIdeal.Read
public import Idealize.ShloMosaic.Lib.Pipeline.ValueKit
public import Idealize.ShloMosaic.Lib.Pipeline.ReadBack
public import Idealize.ShloMosaic.Lib.Claim
public import proofs.«01_k».proof.Proof.Logistic

@[expose] public section

set_option maxRecDepth 16384
set_option maxHeartbeats 1000000
set_option pp.maxSteps 400

noncomputable section

namespace Cert.Proof.PleGate

open Cert.PleGateIdeal Cert.PleGateIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0, 0]
    ∧ win0_2.index t = ![t.val / 8, t.val / 4 % 2] ∧ win0_3.index t = ![t.val / 8, 0]
    ∧ win0_4.index t = ![2 * (t.val / 4 % 2), 0, 0, 0] ∧ win0_5.index t = ![2 * (t.val / 4 % 2), 1, 0, 0]
    ∧ win0_6.index t = ![2 * (t.val / 4 % 2) + 1, 0, 0, 0] ∧ win0_7.index t = ![2 * (t.val / 4 % 2) + 1, 1, 0, 0] :=
  (by decide +kernel : ∀ t : Fin grid0.N, _)

/-- The arrays of the call. -/
def xs : Vec Ideal S2048x2048 .bf16 := m ((c : Thread nD τ).loc main_arg0)
def ys : Vec Ideal S2048x2048 .f32 := m ((c : Thread nD τ).loc main_arg1)
def zs : Vec Ideal S2048x2048 .f32 := m ((c : Thread nD τ).loc main_arg2)
def ps : Vec Ideal S2048x256 .f32 := m ((c : Thread nD τ).loc main_arg3)
def ws : Vec Ideal S256x2048 .f32 := m ((c : Thread nD τ).loc main_arg4)

/-- Tile `s` of the summed axis: its part of the gate's product, and of the projection. -/
def part (x : Vec Ideal S2048x2048 .bf16) (y : Vec Ideal S2048x2048 .f32) (i : Fin 2048) (j : Fin 2048) (s : Fin 4) : EReal :=
  ∑ k : Fin 512, x (ix2 i ⟨s.val * 512 + k.val, by omega⟩) * y (ix2 ⟨s.val * 512 + k.val, by omega⟩ j)
def ppart (x : Vec Ideal S2048x256 .f32) (y : Vec Ideal S256x2048 .f32) (i : Fin 2048) (j : Fin 2048) (s : Fin 2) : EReal :=
  ∑ k : Fin 128, x (ix2 i ⟨s.val * 128 + k.val, by omega⟩) * y (ix2 ⟨s.val * 128 + k.val, by omega⟩ j)

theorem pay1_at (x : Vec Ideal S1024x512 .bf16) (y : Vec Ideal S1x1x512x1024 .bf16) (a : Fin 1024) (b : Fin 1024) :
    k0_pay1 (F := Ideal) x y (ix2 a b) = ∑ k : Fin 512, x (ix2 a k) * y (ix4 0 0 k b) := by
  unfold_payloads
  pointwise

theorem pay2_at (x : Vec Ideal S1024x512 .bf16) (y : Vec Ideal S1x1x512x1024 .bf16) (z : Vec Ideal S1024x1024 .f32) (a : Fin 1024) (b : Fin 1024) :
    k0_pay2 (F := Ideal) x y z (ix2 a b) = z (ix2 a b) + k0_pay1 (F := Ideal) x y (ix2 a b) := by
  rw [pay1_at]
  unfold_payloads
  pointwise

theorem pay7_at (x : Vec Ideal S1024x512 .bf16) (y : Vec Ideal S1x1x512x1024 .bf16) (z : Vec Ideal S1024x1024 .f32) (a : Fin 1024) (b : Fin 1024) :
    k0_pay7 (F := Ideal) x y z (ix2 a b) = z (ix2 a b) + k0_pay1 (F := Ideal) x y (ix2 a b) := by
  rw [pay1_at]
  unfold_payloads
  pointwise

theorem pay6_at (z : Vec Ideal S1024x1024 .f32) (a : Fin 1024) (b : Fin 1024) :
    k0_pay6 (F := Ideal) z (ix2 a b) = Logistic.host (z (ix2 a b)) := by
  rw [← Logistic.same]
  unfold_payloads
  pointwise

/-- The projection of a block of rows as the call takes it: two quarters of its columns side by side. -/
abbrev proj (p : Vec Ideal S1024x256 .f32) (w0 w1 w2 w3 : Vec Ideal S1x1x128x512 .bf16) : FVec Ideal S1024x1024 .f32 :=
  k0_pay3 (F := Ideal) (k0_pay8 w3) (k0_pay9 p w0 w1) (k0_pay10 p w2) (k0_pay11 p)

/-- The lanes of the two quarters. -/
abbrev lo (b : Fin 512) : Fin 1024 := ⟨b.val, by omega⟩
abbrev up (b : Fin 512) : Fin 1024 := ⟨512 + b.val, by omega⟩

theorem proj_lo (p : Vec Ideal S1024x256 .f32) (w0 w1 w2 w3 : Vec Ideal S1x1x128x512 .bf16) (a : Fin 1024) (b : Fin 512) :
    proj p w0 w1 w2 w3 (ix2 a (lo b)) = (∑ k : Fin 128, p (ix2 a ⟨k.val, by omega⟩) * w0 (ix4 0 0 k b))
      + ∑ k : Fin 128, p (ix2 a ⟨128 + k.val, by omega⟩) * w1 (ix4 0 0 k b) := by
  unfold proj
  unfold_payloads
  pointwise

theorem proj_hi (p : Vec Ideal S1024x256 .f32) (w0 w1 w2 w3 : Vec Ideal S1x1x128x512 .bf16) (a : Fin 1024) (b : Fin 512) :
    proj p w0 w1 w2 w3 (ix2 a (up b)) = (∑ k : Fin 128, p (ix2 a ⟨k.val, by omega⟩) * w2 (ix4 0 0 k b))
      + ∑ k : Fin 128, p (ix2 a ⟨128 + k.val, by omega⟩) * w3 (ix4 0 0 k b) := by
  unfold proj
  unfold_payloads
  pointwise

theorem pay5_at (z x : Vec Ideal S1024x1024 .f32) (p : Vec Ideal S1024x256 .f32) (w0 w1 w2 w3 : Vec Ideal S1x1x128x512 .bf16) (a b : Fin 1024) :
    k0_pay5 (F := Ideal) z x (k0_pay8 w3) (k0_pay9 p w0 w1) (k0_pay10 p w2) (k0_pay11 p) (ix2 a b)
      = x (ix2 a b) + k0_pay6 (F := Ideal) z (ix2 a b) * proj p w0 w1 w2 w3 (ix2 a b) := rfl

theorem tile (t : Fin cfg0.N) (a : Fin 1024) (b : Fin 1024) (i : Fin 2048) (j : Fin 2048) (s : Fin 4) (hs : t.val % 4 = s.val)
    (hi : i.val = t.val / 8 * 1024 + a.val) (hj : j.val = t.val / 4 % 2 * 1024 + b.val) :
    k0_pay1 (F := Ideal) (iblk m c 0 t) (iblk m c 1 t) (ix2 a b) = part (xs m c) (ys m c) i j s := by
  rw [pay1_at]
  refine Finset.sum_congr rfl fun k _ => congr (congrArg _ ?_) ?_
  · blk_ext! [iblk, V, idx t, xs]
  · blk_ext! [iblk, V, idx t, ys]

/-- The projection at a point, as the projection's two halves of the summed axis. -/
theorem proj_at (t : Fin cfg0.N) (a b : Fin 1024) (i j : Fin 2048)
    (hi : i.val = t.val / 8 * 1024 + a.val) (hj : j.val = t.val / 4 % 2 * 1024 + b.val) :
    proj (iblk m c 3 t) (iblk m c 4 t) (iblk m c 5 t) (iblk m c 6 t) (iblk m c 7 t) (ix2 a b) = ∑ s, ppart (ps m c) (ws m c) i j s := by
  rw [Fin.sum_univ_two]
  rcases Nat.lt_or_ge b.val 512 with h | h
  · obtain ⟨b', rfl⟩ : ∃ b' : Fin 512, b = lo b' := ⟨⟨b.val, h⟩, rfl⟩
    rw [proj_lo]
    replace hj : j.val = t.val / 4 % 2 * 1024 + b'.val := hj
    refine congr (congrArg _ ?_) ?_
    · refine Finset.sum_congr rfl fun k _ => congr (congrArg _ ?_) ?_
      · blk_ext! [iblk, V, idx t, ps]
      · blk_ext! [iblk, V, idx t, ws]
    · refine Finset.sum_congr rfl fun k _ => congr (congrArg _ ?_) ?_
      · blk_ext! [iblk, V, idx t, ps]
      · blk_ext! [iblk, V, idx t, ws]
  · obtain ⟨b', rfl⟩ : ∃ b' : Fin 512, b = up b' := ⟨⟨b.val - 512, by omega⟩, Fin.ext (by show b.val = 512 + (b.val - 512); omega)⟩
    rw [proj_hi]
    replace hj : j.val = t.val / 4 % 2 * 1024 + (512 + b'.val) := hj
    refine congr (congrArg _ ?_) ?_
    · refine Finset.sum_congr rfl fun k _ => congr (congrArg _ ?_) ?_
      · blk_ext! [iblk, V, idx t, ps]
      · blk_ext! [iblk, V, idx t, ws]
    · refine Finset.sum_congr rfl fun k _ => congr (congrArg _ ?_) ?_
      · blk_ext! [iblk, V, idx t, ps]
      · blk_ext! [iblk, V, idx t, ws]

theorem first (t : Fin cfg0.N) (h0 : t.val % 4 = 0) :
    (outsAt0 m c t.val t.isLt).2.2.2 = k0_pay1 (F := Ideal) (iblk m c 0 t) (iblk m c 1 t) := by
  have h1 : ¬(1 ≤ t.val % 4 ∧ t.val % 4 ≤ 2) := by omega
  have h2 : ¬t.val % 4 = 3 := by omega
  rw [outsAt0_A m c t h0 h1 h2]
  frame_out

theorem next (t : Fin cfg0.N) (h1 : 1 ≤ t.val % 4 ∧ t.val % 4 ≤ 2) :
    (outsAt0 m c t.val t.isLt).2.2.2 = k0_pay2 (F := Ideal) (iblk m c 0 t) (iblk m c 1 t) (outsAt0 m c (t.val - 1) (Nat.lt_of_le_of_lt (Nat.sub_le _ _) t.isLt)).2.2.2 := by
  have h0 : ¬t.val % 4 = 0 := by omega
  have h2 : ¬t.val % 4 = 3 := by omega
  rw [outsAt0_B m c t h0 h1 h2]
  frame_out
  simp only [read_unread_whole]

/-- The gate's finished product at a group's last point. -/
abbrev done (t : Fin cfg0.N) : Vec Ideal S1024x1024 .f32 := k0_pay7 (F := Ideal) (iblk m c 0 t) (iblk m c 1 t) (outsAt0 m c (t.val - 1) (Nat.lt_of_le_of_lt (Nat.sub_le _ _) t.isLt)).2.2.2

theorem last0 (t : Fin cfg0.N) (h2 : t.val % 4 = 3) :
    (outsAt0 m c t.val t.isLt).1 = k0_pay5 (F := Ideal) (done m c t) (iblk m c 2 t) (k0_pay8 (iblk m c 7 t)) (k0_pay9 (iblk m c 3 t) (iblk m c 4 t) (iblk m c 5 t)) (k0_pay10 (iblk m c 3 t) (iblk m c 6 t)) (k0_pay11 (iblk m c 3 t)) := by
  have h0 : ¬t.val % 4 = 0 := by omega
  have h1 : ¬(1 ≤ t.val % 4 ∧ t.val % 4 ≤ 2) := by omega
  rw [outsAt0_C m c t h0 h1 h2]
  frame_out
  simp only [read_unread_whole]

theorem last1 (t : Fin cfg0.N) (h2 : t.val % 4 = 3) :
    (outsAt0 m c t.val t.isLt).2.1 = k0_pay6 (F := Ideal) (done m c t) := by
  have h0 : ¬t.val % 4 = 0 := by omega
  have h1 : ¬(1 ≤ t.val % 4 ∧ t.val % 4 ≤ 2) := by omega
  rw [outsAt0_C m c t h0 h1 h2]
  frame_out
  simp only [read_unread_whole]

theorem last2 (t : Fin cfg0.N) (h2 : t.val % 4 = 3) :
    (outsAt0 m c t.val t.isLt).2.2.1 = proj (iblk m c 3 t) (iblk m c 4 t) (iblk m c 5 t) (iblk m c 6 t) (iblk m c 7 t) := by
  have h0 : ¬t.val % 4 = 0 := by omega
  have h1 : ¬(1 ≤ t.val % 4 ∧ t.val % 4 ≤ 2) := by omega
  rw [outsAt0_C m c t h0 h1 h2]
  frame_out

theorem done_at (t : Fin cfg0.N) (h2 : t.val % 4 = 3) (a : Fin 1024) (b : Fin 1024) (i : Fin 2048) (j : Fin 2048)
    (hi : i.val = t.val / 8 * 1024 + a.val) (hj : j.val = t.val / 4 % 2 * 1024 + b.val) :
    done m c t (ix2 a b) = ∑ s, part (xs m c) (ys m c) i j s := by
  have l := t.isLt
  unfold done
  rw [pay7_at, tile m c t a b i j 3 h2 hi hj,
    next m c ⟨t.val - 1, by omega⟩ (by show 1 ≤ (t.val - 1) % 4 ∧ (t.val - 1) % 4 ≤ 2; omega), pay2_at,
    tile m c ⟨t.val - 1, by omega⟩ a b i j 2 (by show (t.val - 1) % 4 = 2; omega) (by show i.val = (t.val - 1) / 8 * 1024 + a.val; omega) (by show j.val = (t.val - 1) / 4 % 2 * 1024 + b.val; omega),
    next m c ⟨t.val - 1 - 1, by omega⟩ (by show 1 ≤ (t.val - 1 - 1) % 4 ∧ (t.val - 1 - 1) % 4 ≤ 2; omega), pay2_at,
    tile m c ⟨t.val - 1 - 1, by omega⟩ a b i j 1 (by show (t.val - 1 - 1) % 4 = 1; omega) (by show i.val = (t.val - 1 - 1) / 8 * 1024 + a.val; omega) (by show j.val = (t.val - 1 - 1) / 4 % 2 * 1024 + b.val; omega),
    first m c ⟨t.val - 1 - 1 - 1, by omega⟩ (by show (t.val - 1 - 1 - 1) % 4 = 0; omega),
    tile m c ⟨t.val - 1 - 1 - 1, by omega⟩ a b i j 0 (by show (t.val - 1 - 1 - 1) % 4 = 0; omega) (by show i.val = (t.val - 1 - 1 - 1) / 8 * 1024 + a.val; omega) (by show j.val = (t.val - 1 - 1 - 1) / 4 % 2 * 1024 + b.val; omega),
    Fin.sum_univ_four]

/-- The gate's product and the projection, row `i` at column `j`. -/
def gate (x : Vec Ideal S2048x2048 .bf16) (y : Vec Ideal S2048x2048 .f32) (i j : Fin 2048) : EReal := ∑ k : Fin 2048, x (ix2 i k) * y (ix2 k j)
def emb (x : Vec Ideal S2048x256 .f32) (y : Vec Ideal S256x2048 .f32) (i j : Fin 2048) : EReal := ∑ k : Fin 256, x (ix2 i k) * y (ix2 k j)

theorem parts (x : Vec Ideal S2048x2048 .bf16) (y : Vec Ideal S2048x2048 .f32) (i j : Fin 2048) : (∑ s, part x y i j s) = gate x y i j :=
  Fin.sum_mul_add_congr fun s k hl => rfl

theorem pparts (x : Vec Ideal S2048x256 .f32) (y : Vec Ideal S256x2048 .f32) (i j : Fin 2048) : (∑ s, ppart x y i j s) = emb x y i j :=
  Fin.sum_mul_add_congr fun s k hl => rfl

theorem value0 (i j : Fin 2048) : Value.G8 m c (ix2 i j) = zs m c (ix2 i j) + Logistic.host (gate (xs m c) (ys m c) i j) * emb (ps m c) (ws m c) i j := by
  have e0 : Value.pt8Of (ix2 i j) = 4 * (2 * (i.val / 1024 - 0) + 1 * (j.val / 1024 - 0)) + 3 := rfl
  have hp : Value.pt8Of (ix2 i j) < cfg0.N := by rw [e0]; exact lt_of_lt_of_eq (by omega) N_0.symm
  have h3 : Value.pt8Of (ix2 i j) % 4 = 3 := by omega
  have hi : i.val = Value.pt8Of (ix2 i j) / 8 * 1024 + i.val % 1024 := by omega
  have hj : j.val = Value.pt8Of (ix2 i j) / 4 % 2 * 1024 + j.val % 1024 := by omega
  unfold Value.G8
  rw [dif_pos hp, ← Value.outsAt0_sweep m c _ hp]
  have e : Value.loc8Of (ix2 i j) = ix2 (⟨i.val % 1024, by omega⟩ : Fin 1024) (⟨j.val % 1024, by omega⟩ : Fin 1024) := by
    funext a; match a with
    | 0 => rfl
    | 1 => rfl
  have hz : (iblk m c 2 ⟨Value.pt8Of (ix2 i j), hp⟩ : Vec Ideal S1024x1024 .f32) (ix2 (⟨i.val % 1024, by omega⟩ : Fin 1024) (⟨j.val % 1024, by omega⟩ : Fin 1024)) = zs m c (ix2 i j) := by
    replace hi : i.val = (⟨Value.pt8Of (ix2 i j), hp⟩ : Fin cfg0.N).val / 8 * 1024 + i.val % 1024 := hi
    replace hj : j.val = (⟨Value.pt8Of (ix2 i j), hp⟩ : Fin cfg0.N).val / 4 % 2 * 1024 + j.val % 1024 := hj
    generalize (⟨Value.pt8Of (ix2 i j), hp⟩ : Fin cfg0.N) = t at hi hj ⊢
    blk_ext! [iblk, V, idx t, zs]
  rw [e, last0 m c ⟨Value.pt8Of (ix2 i j), hp⟩ h3, pay5_at, pay6_at, done_at m c ⟨Value.pt8Of (ix2 i j), hp⟩ h3 _ _ i j hi hj, proj_at m c ⟨Value.pt8Of (ix2 i j), hp⟩ _ _ i j hi hj, hz, parts, pparts]

theorem value1 (i j : Fin 2048) : Value.G9 m c (ix2 i j) = Logistic.host (gate (xs m c) (ys m c) i j) := by
  have e0 : Value.pt9Of (ix2 i j) = 4 * (2 * (i.val / 1024 - 0) + 1 * (j.val / 1024 - 0)) + 3 := rfl
  have hp : Value.pt9Of (ix2 i j) < cfg0.N := by rw [e0]; exact lt_of_lt_of_eq (by omega) N_0.symm
  have h3 : Value.pt9Of (ix2 i j) % 4 = 3 := by omega
  have hi : i.val = Value.pt9Of (ix2 i j) / 8 * 1024 + i.val % 1024 := by omega
  have hj : j.val = Value.pt9Of (ix2 i j) / 4 % 2 * 1024 + j.val % 1024 := by omega
  unfold Value.G9
  rw [dif_pos hp, ← Value.outsAt0_sweep m c _ hp]
  have e : Value.loc9Of (ix2 i j) = ix2 (⟨i.val % 1024, by omega⟩ : Fin 1024) (⟨j.val % 1024, by omega⟩ : Fin 1024) := by
    funext a; match a with
    | 0 => rfl
    | 1 => rfl
  rw [e, last1 m c ⟨Value.pt9Of (ix2 i j), hp⟩ h3, pay6_at, done_at m c ⟨Value.pt9Of (ix2 i j), hp⟩ h3 _ _ i j hi hj, parts]

theorem value2 (i j : Fin 2048) : Value.G10 m c (ix2 i j) = emb (ps m c) (ws m c) i j := by
  have e0 : Value.pt10Of (ix2 i j) = 4 * (2 * (i.val / 1024 - 0) + 1 * (j.val / 1024 - 0)) + 3 := rfl
  have hp : Value.pt10Of (ix2 i j) < cfg0.N := by rw [e0]; exact lt_of_lt_of_eq (by omega) N_0.symm
  have h3 : Value.pt10Of (ix2 i j) % 4 = 3 := by omega
  have hi : i.val = Value.pt10Of (ix2 i j) / 8 * 1024 + i.val % 1024 := by omega
  have hj : j.val = Value.pt10Of (ix2 i j) / 4 % 2 * 1024 + j.val % 1024 := by omega
  unfold Value.G10
  rw [dif_pos hp, ← Value.outsAt0_sweep m c _ hp]
  have e : Value.loc10Of (ix2 i j) = ix2 (⟨i.val % 1024, by omega⟩ : Fin 1024) (⟨j.val % 1024, by omega⟩ : Fin 1024) := by
    funext a; match a with
    | 0 => rfl
    | 1 => rfl
  rw [e, last2 m c ⟨Value.pt10Of (ix2 i j), hp⟩ h3, proj_at m c ⟨Value.pt10Of (ix2 i j), hp⟩ _ _ i j hi hj, pparts]

theorem same : Cert.algebraic_PleGateIdeal_PleGateRefIdeal := by
  pair_intro
  · run_from Cert.PleGateIdeal.Value.run m g
  · run_from Cert.PleGateRefIdeal.Value.run m' g'
    · refine (PleGateRefIdeal.Read.val_main_v10_eq (F := Ideal) _ _ _ _ _).trans ?_
      funext j
      idx_vars j
      rw [value0]
      pointwise [PleGateRefIdeal.Read.val_main_v0, PleGateRefIdeal.Read.val_main_v1, PleGateRefIdeal.Read.val_main_v2, PleGateRefIdeal.Read.val_main_v3, PleGateRefIdeal.Read.val_main_cst, PleGateRefIdeal.Read.val_main_v4, PleGateRefIdeal.Read.val_main_v5, PleGateRefIdeal.Read.val_main_cst_0, PleGateRefIdeal.Read.val_main_v6, PleGateRefIdeal.Read.val_main_v7, PleGateRefIdeal.Read.val_main_v8, PleGateRefIdeal.Read.val_main_v9, PleGateRefIdeal.Read.val_main_v10, PleGateRefIdeal.Read.val_main_v11]
      rfl
    · refine (PleGateRefIdeal.Read.val_main_v11_eq (F := Ideal) _ _).trans ?_
      funext j
      idx_vars j
      rw [value1]
      pointwise [PleGateRefIdeal.Read.val_main_v0, PleGateRefIdeal.Read.val_main_v1, PleGateRefIdeal.Read.val_main_v2, PleGateRefIdeal.Read.val_main_v3, PleGateRefIdeal.Read.val_main_cst, PleGateRefIdeal.Read.val_main_v4, PleGateRefIdeal.Read.val_main_v5, PleGateRefIdeal.Read.val_main_cst_0, PleGateRefIdeal.Read.val_main_v6, PleGateRefIdeal.Read.val_main_v7, PleGateRefIdeal.Read.val_main_v8, PleGateRefIdeal.Read.val_main_v9, PleGateRefIdeal.Read.val_main_v10, PleGateRefIdeal.Read.val_main_v11]
      rfl
    · refine (PleGateRefIdeal.Read.val_main_v8_eq (F := Ideal) _ _).trans ?_
      funext j
      idx_vars j
      rw [value2]
      pointwise [PleGateRefIdeal.Read.val_main_v0, PleGateRefIdeal.Read.val_main_v1, PleGateRefIdeal.Read.val_main_v2, PleGateRefIdeal.Read.val_main_v3, PleGateRefIdeal.Read.val_main_cst, PleGateRefIdeal.Read.val_main_v4, PleGateRefIdeal.Read.val_main_v5, PleGateRefIdeal.Read.val_main_cst_0, PleGateRefIdeal.Read.val_main_v6, PleGateRefIdeal.Read.val_main_v7, PleGateRefIdeal.Read.val_main_v8, PleGateRefIdeal.Read.val_main_v9, PleGateRefIdeal.Read.val_main_v10, PleGateRefIdeal.Read.val_main_v11]
      rfl

end Cert.Proof.PleGate

end
-- ==== Proof.Rms.lean ====
/- The root-mean-square normalization of a row, and its gradient: the reference's terms regroup into the closed form. -/
module

public import proofs.«01_k».proof.Proof.Model

@[expose] public section

noncomputable section

namespace Cert.Proof.Rms

open Cert.Proof.Consts Idealize.ShloMosaic

/-- A row's mean square and the small constant, and one over its root. -/
def msq (x : Fin 2048 → EReal) : EReal :=
  Ideal.div (∑ k, x k * x k) (Ideal.ofBits .f32 0x45000000#32) + Ideal.ofBits .f32 0x358637BD#32
def inv (x : Fin 2048 → EReal) : EReal := Ideal.rsqrt (msq x)

/-- The normalization's gradient at an entry, in closed form. -/
def back (d x g : Fin 2048 → EReal) (l : Fin 2048) : EReal :=
  inv x * (d l * g l - x l * inv x * Ideal.div (∑ k, d k * g k * (x k * inv x)) (Ideal.ofBits .f32 0x45000000#32))

/-- The mean square's part of the gradient as differentiation leaves it. -/
def part (d x g : Fin 2048 → EReal) : EReal :=
  Ideal.div ((∑ k, x k * (d k * g k)) * (Ideal.ofBits .f32 0xBF000000#32 * Ideal.div (inv x) (msq x))) (Ideal.ofBits .f32 0x45000000#32)

/-- A nonnegative real factor goes out of any sum. -/
theorem sum_mul {ι : Type} [Fintype ι] (f : ι → EReal) (c : ℝ) (hc : 0 ≤ c) : ∑ k, f k * (c : EReal) = (∑ k, f k) * (c : EReal) := by
  classical
  refine Finset.induction_on (Finset.univ : Finset ι) ?_ ?_
  · simp
  · intro k u hk ih
    rw [Finset.sum_insert hk, Finset.sum_insert hk, ih, EReal.right_distrib_of_nonneg_of_ne_top (EReal.coe_nonneg.2 hc) (EReal.coe_ne_top c)]

theorem twice (y : EReal) : y + y = y * ((2 : ℝ) : EReal) := by
  induction y using EReal.rec with
  | bot => rw [EReal.bot_mul_coe_of_pos (by norm_num)]; rfl
  | coe y => rw [← EReal.coe_add, ← EReal.coe_mul, mul_two]
  | top => rw [EReal.top_mul_coe_of_pos (by norm_num)]; rfl

theorem sq_nonneg (y : EReal) : 0 ≤ y * y := by
  induction y using EReal.rec with
  | bot => rw [EReal.bot_mul_bot]; exact le_top
  | coe y => rw [← EReal.coe_mul]; exact EReal.coe_nonneg.2 (mul_self_nonneg y)
  | top => rw [EReal.top_mul_top]; exact le_top

/-- A row's mean square and the small constant is a positive real, or infinite. -/
theorem msq_cases (x : Fin 2048 → EReal) : msq x = ⊤ ∨ ∃ q : ℝ, 0 < q ∧ msq x = (q : EReal) := by
  have h : 0 < msq x := by
    have e : (0 : EReal) < ((EPS : ℝ) : EReal) := EReal.coe_pos.2 (by norm_num [EPS])
    have n : 0 ≤ Ideal.div (∑ k, x k * x k) (Ideal.ofBits .f32 0x45000000#32) := by
      rw [w_2048, Ideal.div_coe (by norm_num)]
      exact mul_nonneg (Finset.sum_nonneg fun k _ => sq_nonneg _) (EReal.coe_nonneg.2 (by norm_num))
    unfold msq
    rw [w_eps]
    exact lt_of_lt_of_le e (le_add_of_nonneg_left n)
  generalize msq x = y at h
  induction y using EReal.rec with
  | bot => exact absurd h (not_lt.2 bot_le)
  | coe y => exact .inr ⟨y, EReal.coe_pos.1 h, rfl⟩
  | top => exact .inl rfl

theorem inv_pos {q : ℝ} (h : 0 < q) : 0 < (Real.sqrt q)⁻¹ := _root_.inv_pos.2 (Real.sqrt_pos.2 h)

theorem inv_coe (x : Fin 2048 → EReal) {q : ℝ} (h : 0 < q) (e : msq x = (q : EReal)) : inv x = (((Real.sqrt q)⁻¹ : ℝ) : EReal) := by
  rw [inv, e, Ideal.rsqrt_coe, if_neg (not_lt.mpr h.le), if_neg h.ne']

theorem inv_top (x : Fin 2048 → EReal) (e : msq x = ⊤) : inv x = 0 := by
  rw [inv, e]
  rfl

/-- The terms differentiation leaves add up to the closed form, at every extended real. -/
theorem back_of (d x g : Fin 2048 → EReal) (l : Fin 2048) : d l * g l * inv x + x l * part d x g + part d x g * x l = back d x g l := by
  rcases msq_cases x with e | ⟨q, hq, e⟩
  · have z : part d x g = 0 := by
      have t : Ideal.div 0 ⊤ = 0 := by rw [Ideal.div, if_neg EReal.top_ne_zero, zero_mul]
      rw [part, inv_top x e, e, t, w_2048, Ideal.div_coe (by norm_num), mul_zero, mul_zero, zero_mul]
    rw [z, back, inv_top x e, mul_zero, mul_zero, zero_mul, zero_mul, add_zero, add_zero]
  · have r0 := inv_pos hq
    have r3 : (Real.sqrt q)⁻¹ * (1 / q) = (Real.sqrt q)⁻¹ * (Real.sqrt q)⁻¹ * (Real.sqrt q)⁻¹ := by
      rw [mul_assoc, ← mul_inv, Real.mul_self_sqrt hq.le, one_div]
    have hp : part d x g = (∑ k, x k * (d k * g k))
        * ((-(1 / 2) * ((Real.sqrt q)⁻¹ * (Real.sqrt q)⁻¹ * (Real.sqrt q)⁻¹) * (1 / 2048) : ℝ) : EReal) := by
      rw [part, inv_coe x hq e, e, w_2048, w_neg_half, Ideal.div_coe hq.ne', Ideal.div_coe (by norm_num), ← EReal.coe_mul, ← EReal.coe_mul,
        mul_assoc, ← EReal.coe_mul, r3]
    have hs : ∑ k, d k * g k * (x k * (((Real.sqrt q)⁻¹ : ℝ) : EReal)) = (∑ k, x k * (d k * g k)) * (((Real.sqrt q)⁻¹ : ℝ) : EReal) := by
      rw [← sum_mul _ _ r0.le]
      exact Finset.sum_congr rfl fun k _ => by rw [← mul_assoc, mul_comm (d k * g k)]
    rw [back, inv_coe x hq e, hs, hp, w_2048, Ideal.div_coe (by norm_num), sub_eq_add_neg,
      EReal.left_distrib_of_nonneg_of_ne_top (EReal.coe_nonneg.2 r0.le) (EReal.coe_ne_top _), add_assoc, mul_comm _ (x l), twice]
    generalize ∑ k, x k * (d k * g k) = S
    generalize (Real.sqrt q)⁻¹ = r
    refine congr (congrArg _ (mul_comm _ _)) ?_
    have a1 : x l * (S * ((-(1 / 2) * (r * r * r) * (1 / 2048) : ℝ) : EReal)) * ((2 : ℝ) : EReal) = x l * S * ((-(r * r * r * (1 / 2048)) : ℝ) : EReal) := by
      rw [← mul_assoc, mul_assoc (x l * S), ← EReal.coe_mul]
      congr 2
      ring
    have a2 : x l * (r : EReal) * (S * (r : EReal) * ((1 / 2048 : ℝ) : EReal)) = x l * S * ((r * r * (1 / 2048) : ℝ) : EReal) := by
      rw [EReal.coe_mul, EReal.coe_mul]
      ac_rfl
    rw [a1, a2, mul_neg, mul_comm (r : EReal), mul_assoc (x l * S) _ (r : EReal), ← EReal.coe_mul, EReal.coe_neg, mul_neg]
    congr 3
    ring

end Cert.Proof.Rms

end
-- ==== Proof.RmsFwd.lean ====
/- The root-mean-square normalization of the rows. -/
module

public import proofs.«01_k».proof.Defs
public import proofs.«01_k».proof.Proof.Gen.RmsFwdIdeal.Value
public import proofs.«01_k».proof.Proof.Gen.RmsFwdRefIdeal.Read
public import Idealize.ShloMosaic.Lib.Pipeline.ValueKit
public import Idealize.ShloMosaic.Lib.Pipeline.ReadBack
public import Idealize.ShloMosaic.Lib.Claim
public import proofs.«01_k».proof.Proof.Rms

@[expose] public section

set_option maxRecDepth 16384
set_option maxHeartbeats 1000000
set_option pp.maxSteps 400

noncomputable section

namespace Cert.Proof.RmsFwd

open Cert.RmsFwdIdeal Cert.RmsFwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The arrays of the call: the rows and the scale. -/
def xs : Vec Ideal S2048x2048 .f32 := m ((c : Thread nD τ).loc main_arg0)
def gs : Vec Ideal S1x2048 .f32 := m ((c : Thread nD τ).loc main_arg1)

/-- The normalized entries. -/
def norm (y : S2048x2048.Idx) : EReal :=
  xs m c y * Rms.inv (fun k => xs m c (ix2 (y 0) k)) * gs m c (ix2 0 (y 1))

theorem pay1_at (x : Vec Ideal S512x2048 .f32) (g : Vec Ideal S1x2048 .f32) (a : Fin 512) (l : Fin 2048) :
    k0_pay1 (F := Ideal) x g (ix2 a l) = x (ix2 a l) * Rms.inv (fun k => x (ix2 a k)) * g (ix2 0 l) := by
  unfold_payloads
  pointwise
  rfl

/-- Row `a` of block `t`. -/
abbrev row (t : Fin cfg0.N) (a : Fin 512) : Fin 2048 := ⟨t.val * 512 + a.val, by have : t.val < 4 := t.isLt; omega⟩

theorem b0 (t : Fin cfg0.N) (a : Fin 512) (l : Fin 2048) : iblk m c 0 t (ix2 a l) = xs m c (ix2 (row t a) l) := by
  blk_ext! [iblk, V, idx t, xs]

theorem b1 (t : Fin cfg0.N) (l : Fin 2048) : iblk m c 1 t (ix2 0 l) = gs m c (ix2 0 l) := by
  blk_ext! [iblk, V, idx t, gs]

theorem arr2 : (dats m 0 c).arrAt 2 cfg0.N = norm m c := by
  refine (dats m 0 c).arrAt_eq_of_covers 2 _ (by decide +kernel) fun t hf y => ?_
  blk_simp
  rw [after0_2]
  refine (show _ = k0_pay1 (F := Ideal) (iblk m c 0 t) (iblk m c 1 t) y from ?_).trans ?_
  · frame_out
  · idx_vars y
    have e : (win0_2.blk t).view.emb (ix2 y0 y1) = ix2 (row t y0) y1 := by blk_ext [idx t]
    rw [e, pay1_at, b0, b1]
    simp only [b0]
    rfl

theorem same : Cert.algebraic_RmsFwdIdeal_RmsFwdRefIdeal := by
  pair_intro
  · run_from Cert.RmsFwdIdeal.Value.run_blocks m g
  · run_from Cert.RmsFwdRefIdeal.Value.run m' g'
    · refine (RmsFwdRefIdeal.Read.val_main_v12_eq (F := Ideal) _ _).trans ?_
      rw [arr2]
      funext j
      idx_vars j
      pointwise [RmsFwdRefIdeal.Read.val_main_v0, RmsFwdRefIdeal.Read.val_main_cst, RmsFwdRefIdeal.Read.val_main_v1, RmsFwdRefIdeal.Read.val_main_v2, RmsFwdRefIdeal.Read.val_main_cst_0, RmsFwdRefIdeal.Read.val_main_v3, RmsFwdRefIdeal.Read.val_main_v4, RmsFwdRefIdeal.Read.val_main_cst_1, RmsFwdRefIdeal.Read.val_main_v5, RmsFwdRefIdeal.Read.val_main_v6, RmsFwdRefIdeal.Read.val_main_v7, RmsFwdRefIdeal.Read.val_main_v8, RmsFwdRefIdeal.Read.val_main_v9, RmsFwdRefIdeal.Read.val_main_v10, RmsFwdRefIdeal.Read.val_main_v11, RmsFwdRefIdeal.Read.val_main_v12]
      rfl

end Cert.Proof.RmsFwd

end
-- ==== Proof.PleBwd.lean ====
/- The per-layer embedding's backward pass, element by element: the gradients of the gate's argument and of the projection. -/
module

public import proofs.«01_k».proof.Defs
public import proofs.«01_k».proof.Proof.Gen.PleBwdIdeal.Value
public import proofs.«01_k».proof.Proof.Gen.PleBwdRefIdeal.Read
public import Idealize.ShloMosaic.Lib.Pipeline.ValueKit
public import Idealize.ShloMosaic.Lib.Pipeline.ReadBack
public import Idealize.ShloMosaic.Lib.Claim
public import proofs.«01_k».proof.Proof.Logistic

@[expose] public section

set_option maxRecDepth 16384
set_option maxHeartbeats 1000000
set_option pp.maxSteps 400

noncomputable section

namespace Cert.Proof.PleBwd

open Cert.PleBwdIdeal Cert.PleBwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- The arrays of the call: the stream's gradient, the gate's argument and the projection. -/
def ds : Vec Ideal S2048x2048 .f32 := m ((c : Thread nD τ).loc main_arg0)
def zs : Vec Ideal S2048x2048 .f32 := m ((c : Thread nD τ).loc main_arg1)
def ps : Vec Ideal S2048x2048 .f32 := m ((c : Thread nD τ).loc main_arg2)

/-- The gradients the call leaves, entry by entry. -/
def dgate (y : S2048x2048.Idx) : EReal :=
  ds m c y * ps m c y * Logistic.host (zs m c y) * (1 - Logistic.host (zs m c y))
def dproj (y : S2048x2048.Idx) : EReal := ds m c y * Logistic.host (zs m c y)

theorem pay2_at (x y : Vec Ideal S512x2048 .f32) (z : Vec Ideal S512x2048 .bf16) (j) :
    k0_pay2 (F := Ideal) x y z j = x j * y j * z j * (1 - z j) := by
  idx_vars j
  unfold_payloads
  pointwise

theorem pay3_at (x : Vec Ideal S512x2048 .f32) (z : Vec Ideal S512x2048 .bf16) (j) :
    k0_pay3 (F := Ideal) x z j = x j * z j := by
  idx_vars j
  unfold_payloads
  pointwise

theorem b0 (t : Fin cfg0.N) (y : S512x2048.Idx) : iblk m c 0 t y = ds m c ((win0_3.blk t).view.emb y) := by
  blk_ext! [iblk, V, idx t, ds]

theorem b1 (t : Fin cfg0.N) (y : S512x2048.Idx) : iblk m c 1 t y = ps m c ((win0_3.blk t).view.emb y) := by
  blk_ext! [iblk, V, idx t, ps]

theorem gate (y : S2048x2048.Idx) : V m c main_v6 y = Logistic.host (zs m c y) := by
  entry_read
  idx_vars y
  pointwise
  rfl

theorem b2 (t : Fin cfg0.N) (y : S512x2048.Idx) : iblk m c 2 t y = Logistic.host (zs m c ((win0_3.blk t).view.emb y)) := by
  refine Eq.trans ?_ (gate m c _)
  blk_simp [iblk]
  exact congrArg _ (by blk_ext [idx t])

theorem arr3 : (dats m 0 c).arrAt 3 cfg0.N = dgate m c := by
  refine (dats m 0 c).arrAt_eq_of_covers 3 _ (by decide +kernel) fun t hf y => ?_
  blk_simp
  rw [after0_3]
  refine (show _ = k0_pay2 (F := Ideal) (iblk m c 0 t) (iblk m c 1 t) (iblk m c 2 t) y from ?_).trans ?_
  · frame_out
  · rw [pay2_at, b0, b1, b2]
    rfl

theorem arr4 : (dats m 0 c).arrAt 4 cfg0.N = dproj m c := by
  refine (dats m 0 c).arrAt_eq_of_covers 4 _ (by decide +kernel) fun t hf y => ?_
  blk_simp
  rw [after0_4]
  refine (show _ = k0_pay3 (F := Ideal) (iblk m c 0 t) (iblk m c 2 t) y from ?_).trans ?_
  · frame_out
  · rw [pay3_at, b0, b2]
    rfl

theorem same : Cert.algebraic_PleBwdIdeal_PleBwdRefIdeal := by
  pair_intro
  · run_from Cert.PleBwdIdeal.Value.run_blocks m g
  · run_from Cert.PleBwdRefIdeal.Value.run m' g'
    · refine (PleBwdRefIdeal.Read.val_main_v13_eq (F := Ideal) _ _ _).trans ?_
      rw [arr3]
      funext j
      idx_vars j
      pointwise [PleBwdRefIdeal.Read.val_main_v0, PleBwdRefIdeal.Read.val_main_v1, PleBwdRefIdeal.Read.val_main_cst, PleBwdRefIdeal.Read.val_main_v2, PleBwdRefIdeal.Read.val_main_v3, PleBwdRefIdeal.Read.val_main_cst_0, PleBwdRefIdeal.Read.val_main_v4, PleBwdRefIdeal.Read.val_main_v5, PleBwdRefIdeal.Read.val_main_cst_1, PleBwdRefIdeal.Read.val_main_v6, PleBwdRefIdeal.Read.val_main_v7, PleBwdRefIdeal.Read.val_main_v8, PleBwdRefIdeal.Read.val_main_v9, PleBwdRefIdeal.Read.val_main_v10, PleBwdRefIdeal.Read.val_main_v11, PleBwdRefIdeal.Read.val_main_v12, PleBwdRefIdeal.Read.val_main_v13, PleBwdRefIdeal.Read.val_main_v14]
      exact (mul_assoc _ _ _).symm
    · refine (PleBwdRefIdeal.Read.val_main_v14_eq (F := Ideal) _ _).trans ?_
      rw [arr4]
      funext j
      idx_vars j
      pointwise [PleBwdRefIdeal.Read.val_main_v0, PleBwdRefIdeal.Read.val_main_v1, PleBwdRefIdeal.Read.val_main_cst, PleBwdRefIdeal.Read.val_main_v2, PleBwdRefIdeal.Read.val_main_v3, PleBwdRefIdeal.Read.val_main_cst_0, PleBwdRefIdeal.Read.val_main_v4, PleBwdRefIdeal.Read.val_main_v5, PleBwdRefIdeal.Read.val_main_cst_1, PleBwdRefIdeal.Read.val_main_v6, PleBwdRefIdeal.Read.val_main_v7, PleBwdRefIdeal.Read.val_main_v8, PleBwdRefIdeal.Read.val_main_v9, PleBwdRefIdeal.Read.val_main_v10, PleBwdRefIdeal.Read.val_main_v11, PleBwdRefIdeal.Read.val_main_v12, PleBwdRefIdeal.Read.val_main_v13, PleBwdRefIdeal.Read.val_main_v14]
      exact mul_comm _ _

end Cert.Proof.PleBwd

end
-- ==== Proof.GluBwd.lean ====
/- The gated output's backward pass, element by element: the gradient of the value beside the gradient of the gate's argument. -/
module

public import proofs.«01_k».proof.Defs
public import proofs.«01_k».proof.Proof.Gen.GluBwdIdeal.Value
public import proofs.«01_k».proof.Proof.Gen.GluBwdRefIdeal.Read
public import Idealize.ShloMosaic.Lib.Pipeline.ValueKit
public import Idealize.ShloMosaic.Lib.Pipeline.ReadBack
public import Idealize.ShloMosaic.Lib.Claim
public import proofs.«01_k».proof.Proof.Logistic

@[expose] public section

set_option maxRecDepth 16384
set_option maxHeartbeats 1000000
set_option pp.maxSteps 400

noncomputable section

namespace Cert.Proof.GluBwd

open Cert.GluBwdIdeal Cert.GluBwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

/-- The arrays of the call: the stream's gradient, and the output whose halves are the value and the gate's argument. -/
def ds : Vec Ideal S2048x2048 .f32 := m ((c : Thread nD τ).loc main_arg0)
def os : Vec Ideal S2048x4096 .f32 := m ((c : Thread nD τ).loc main_arg1)

/-- The lanes of the two halves. -/
abbrev lo (l : Fin 2048) : Fin 4096 := ⟨l.val, by omega⟩
abbrev up (l : Fin 2048) : Fin 4096 := ⟨2048 + l.val, by omega⟩

/-- The gradients of the value and of the gate's argument, entry by entry. -/
def dval (i l : Fin 2048) : EReal := ds m c (ix2 i l) * Logistic.host (os m c (ix2 i (up l)))
def dgate (i l : Fin 2048) : EReal :=
  ds m c (ix2 i l) * os m c (ix2 i (lo l)) * Logistic.host (os m c (ix2 i (up l))) * (1 - Logistic.host (os m c (ix2 i (up l))))

theorem pay_lo (x : Vec Ideal S512x2048 .f32) (v s : Vec Ideal S512x2048 .bf16) (a : Fin 512) (l : Fin 2048) :
    k0_pay1 (F := Ideal) x v s (ix2 a (lo l)) = x (ix2 a l) * s (ix2 a l) := by
  unfold_payloads
  pointwise

theorem pay_up (x : Vec Ideal S512x2048 .f32) (v s : Vec Ideal S512x2048 .bf16) (a : Fin 512) (l : Fin 2048) :
    k0_pay1 (F := Ideal) x v s (ix2 a (up l)) = x (ix2 a l) * v (ix2 a l) * s (ix2 a l) * (1 - s (ix2 a l)) := by
  unfold_payloads
  pointwise

theorem gate (i l : Fin 2048) : V m c main_v9 (ix2 i l) = Logistic.host (os m c (ix2 i (up l))) := by
  entry_read
  pointwise
  rfl

theorem value (i l : Fin 2048) : V m c main_v1 (ix2 i l) = os m c (ix2 i (lo l)) := by
  entry_read
  pointwise
  rfl

/-- Row `a` of block `t`. -/
abbrev row (t : Fin cfg0.N) (a : Fin 512) : Fin 2048 := ⟨t.val * 512 + a.val, by have : t.val < 4 := t.isLt; omega⟩

theorem b0 (t : Fin cfg0.N) (a : Fin 512) (l : Fin 2048) : iblk m c 0 t (ix2 a l) = ds m c (ix2 (row t a) l) := by
  blk_ext! [iblk, V, idx t, ds]

theorem b1 (t : Fin cfg0.N) (a : Fin 512) (l : Fin 2048) : iblk m c 1 t (ix2 a l) = os m c (ix2 (row t a) (lo l)) := by
  refine Eq.trans ?_ (value m c _ _)
  blk_simp [iblk]
  exact congrArg _ (by blk_ext [idx t])

theorem b2 (t : Fin cfg0.N) (a : Fin 512) (l : Fin 2048) : iblk m c 2 t (ix2 a l) = Logistic.host (os m c (ix2 (row t a) (up l))) := by
  refine Eq.trans ?_ (gate m c _ _)
  blk_simp [iblk]
  exact congrArg _ (by blk_ext [idx t])

/-- A lane of the double width is a lane of one of the halves. -/
theorem half (l : Fin 4096) : (∃ k : Fin 2048, l = lo k) ∨ ∃ k : Fin 2048, l = up k := by
  by_cases h : l.val < 2048
  · exact .inl ⟨⟨l.val, h⟩, rfl⟩
  · exact .inr ⟨⟨l.val - 2048, by omega⟩, Fin.ext (by show l.val = 2048 + (l.val - 2048); omega)⟩

/-- The two gradients side by side. -/
def both (y : S2048x4096.Idx) : EReal :=
  if h : (y 1).val < 2048 then dval m c (y 0) ⟨(y 1).val, h⟩ else dgate m c (y 0) ⟨(y 1).val - 2048, by
    have : (y 1).val < 4096 := (y 1).isLt
    omega⟩

theorem both_lo (i l : Fin 2048) : both m c (ix2 i (lo l)) = dval m c i l :=
  dif_pos l.isLt

theorem both_up (i l : Fin 2048) : both m c (ix2 i (up l)) = dgate m c i l :=
  (dif_neg (by show ¬(2048 + l.val < 2048); omega)).trans
    (congrArg (dgate m c i) (Fin.ext (by show 2048 + l.val - 2048 = l.val; omega)))

theorem arr3 : (dats m 0 c).arrAt 3 cfg0.N = both m c := by
  refine (dats m 0 c).arrAt_eq_of_covers 3 _ (by decide +kernel) fun t hf y => ?_
  blk_simp
  rw [after0_3]
  refine (show _ = k0_pay1 (F := Ideal) (iblk m c 0 t) (iblk m c 1 t) (iblk m c 2 t) y from ?_).trans ?_
  · frame_out
  · idx_vars y
    have e : (win0_3.blk t).view.emb (ix2 y0 y1) = ix2 (row t y0) y1 := by blk_ext [idx t]
    rw [e]
    rcases half y1 with ⟨l, rfl⟩ | ⟨l, rfl⟩
    · rw [pay_lo, both_lo, b0, b2]
      rfl
    · rw [pay_up, both_up, b0, b1, b2]
      rfl

theorem same : Cert.algebraic_GluBwdIdeal_GluBwdRefIdeal := by
  pair_intro
  · run_from Cert.GluBwdIdeal.Value.run_blocks m g
  · run_from Cert.GluBwdRefIdeal.Value.run m' g'
    · refine (GluBwdRefIdeal.Read.val_main_v16_eq (F := Ideal) _ _).trans ?_
      rw [arr3]
      funext j
      idx_vars j
      rcases half j1 with ⟨l, rfl⟩ | ⟨l, rfl⟩
      · rw [both_lo]
        pointwise [GluBwdRefIdeal.Read.val_main_v0, GluBwdRefIdeal.Read.val_main_v1, GluBwdRefIdeal.Read.val_main_v2, GluBwdRefIdeal.Read.val_main_v3, GluBwdRefIdeal.Read.val_main_cst, GluBwdRefIdeal.Read.val_main_v4, GluBwdRefIdeal.Read.val_main_v5, GluBwdRefIdeal.Read.val_main_cst_0, GluBwdRefIdeal.Read.val_main_v6, GluBwdRefIdeal.Read.val_main_v7, GluBwdRefIdeal.Read.val_main_cst_1, GluBwdRefIdeal.Read.val_main_v8, GluBwdRefIdeal.Read.val_main_v9, GluBwdRefIdeal.Read.val_main_v10, GluBwdRefIdeal.Read.val_main_v11, GluBwdRefIdeal.Read.val_main_v12, GluBwdRefIdeal.Read.val_main_v13, GluBwdRefIdeal.Read.val_main_v14, GluBwdRefIdeal.Read.val_main_v15, GluBwdRefIdeal.Read.val_main_v16]
        rfl
      · rw [both_up]
        pointwise [GluBwdRefIdeal.Read.val_main_v0, GluBwdRefIdeal.Read.val_main_v1, GluBwdRefIdeal.Read.val_main_v2, GluBwdRefIdeal.Read.val_main_v3, GluBwdRefIdeal.Read.val_main_cst, GluBwdRefIdeal.Read.val_main_v4, GluBwdRefIdeal.Read.val_main_v5, GluBwdRefIdeal.Read.val_main_cst_0, GluBwdRefIdeal.Read.val_main_v6, GluBwdRefIdeal.Read.val_main_v7, GluBwdRefIdeal.Read.val_main_cst_1, GluBwdRefIdeal.Read.val_main_v8, GluBwdRefIdeal.Read.val_main_v9, GluBwdRefIdeal.Read.val_main_v10, GluBwdRefIdeal.Read.val_main_v11, GluBwdRefIdeal.Read.val_main_v12, GluBwdRefIdeal.Read.val_main_v13, GluBwdRefIdeal.Read.val_main_v14, GluBwdRefIdeal.Read.val_main_v15, GluBwdRefIdeal.Read.val_main_v16]
        exact (congrArg (· * _) (mul_comm _ _)).trans (mul_assoc _ _ _).symm

end Cert.Proof.GluBwd

end
-- ==== Proof.RmsBwd.lean ====
/- The normalization's backward pass: the stream's gradient, the same rounded, and the scale's gradient added up over the blocks of rows. -/
module

public import proofs.«01_k».proof.Defs
public import proofs.«01_k».proof.Proof.Gen.RmsBwdIdeal.Value
public import proofs.«01_k».proof.Proof.Gen.RmsBwdRefIdeal.Read
public import Idealize.ShloMosaic.Lib.Pipeline.ValueKit
public import Idealize.ShloMosaic.Lib.Pipeline.ReadBack
public import Idealize.ShloMosaic.Lib.Claim
public import proofs.«01_k».proof.Proof.Rms

@[expose] public section

set_option maxRecDepth 16384
set_option maxHeartbeats 1000000
set_option pp.maxSteps 400

noncomputable section

namespace Cert.Proof.RmsBwd

open Cert.RmsBwdIdeal Cert.RmsBwdIdeal.Gen Idealize.ShloMosaic Idealize.ShloMosaic.TcCoe Idealize.SL.Sem

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0] :=
  (by decide +kernel : ∀ t : Fin grid0.N, _)

/-- The arrays of the call: the normalized row's gradient, the rows, the scale and the stream's gradient. -/
def ds : Vec Ideal S2048x2048 .f32 := m ((c : Thread nD τ).loc main_arg0)
def xs : Vec Ideal S2048x2048 .f32 := m ((c : Thread nD τ).loc main_arg1)
def gs : Vec Ideal S1x2048 .f32 := m ((c : Thread nD τ).loc main_arg2)
def rs : Vec Ideal S2048x2048 .f32 := m ((c : Thread nD τ).loc main_arg3)

/-- The stream's gradient, entry by entry. -/
def dx (y : S2048x2048.Idx) : EReal :=
  rs m c y + Rms.back (fun k => ds m c (ix2 (y 0) k)) (fun k => xs m c (ix2 (y 0) k)) (fun k => gs m c (ix2 0 k)) (y 1)

/-- A row's part of the scale's gradient. -/
def dgRow (i l : Fin 2048) : EReal := ds m c (ix2 i l) * (xs m c (ix2 i l) * Rms.inv (fun k => xs m c (ix2 i k)))

theorem pay2_at (x : Vec Ideal S512x2048 .f32) (a : Fin 512) (z : Fin 1) :
    k0_pay2 (F := Ideal) x (ix2 a z) = Rms.inv (fun k => x (ix2 a k)) := by
  unfold_payloads
  pointwise
  rfl

theorem pay3_at (x : Vec Ideal S512x2048 .f32) (a : Fin 512) (l : Fin 2048) :
    k0_pay3 (F := Ideal) x (ix2 a l) = x (ix2 a l) * Rms.inv (fun k => x (ix2 a k)) := by
  unfold_payloads
  pointwise
  rfl

theorem pay4_at (d x : Vec Ideal S512x2048 .f32) (g : Vec Ideal S1x2048 .f32) (r : Vec Ideal S512x2048 .f32) (a : Fin 512) (l : Fin 2048) :
    k0_pay4 (F := Ideal) d x g r (ix2 a l)
      = r (ix2 a l) + Rms.back (fun k => d (ix2 a k)) (fun k => x (ix2 a k)) (fun k => g (ix2 0 k)) l := by
  unfold_payloads
  pointwise
  rfl

theorem pay5_at (d x : Vec Ideal S512x2048 .f32) (l : Fin 2048) :
    k0_pay5 (F := Ideal) d x (ix2 0 l) = ∑ a : Fin 512, d (ix2 a l) * (x (ix2 a l) * Rms.inv (fun k => x (ix2 a k))) := by
  unfold_payloads
  pointwise
  rfl

theorem pay1_at (d x : Vec Ideal S512x2048 .f32) (p : Vec Ideal S1x2048 .f32) (l : Fin 2048) :
    k0_pay1 (F := Ideal) (k0_pay5 d x) p (ix2 0 l) = p (ix2 0 l) + k0_pay5 (F := Ideal) d x (ix2 0 l) := by
  unfold k0_pay1
  pointwise

theorem pay7_at (i) : k0_pay7 (F := Ideal) i = 0 := by
  idx_vars i
  unfold_payloads
  pointwise

/-- Row `a` of block `t`. -/
abbrev row (t : Fin cfg0.N) (a : Fin 512) : Fin 2048 := ⟨t.val * 512 + a.val, by have : t.val < 4 := t.isLt; omega⟩

theorem b0 (t : Fin cfg0.N) (a : Fin 512) (l : Fin 2048) : iblk m c 0 t (ix2 a l) = ds m c (ix2 (row t a) l) := by
  blk_ext! [iblk, V, idx t, ds]

theorem b1 (t : Fin cfg0.N) (a : Fin 512) (l : Fin 2048) : iblk m c 1 t (ix2 a l) = xs m c (ix2 (row t a) l) := by
  blk_ext! [iblk, V, idx t, xs]

theorem b2 (t : Fin cfg0.N) (l : Fin 2048) : iblk m c 2 t (ix2 0 l) = gs m c (ix2 0 l) := by
  blk_ext! [iblk, V, idx t, gs]

theorem b3 (t : Fin cfg0.N) (a : Fin 512) (l : Fin 2048) : iblk m c 3 t (ix2 a l) = rs m c (ix2 (row t a) l) := by
  blk_ext! [iblk, V, idx t, rs]

theorem out4 (t : Fin cfg0.N) : (outsAt0 m c t.val t.isLt).1 = k0_pay4 (F := Ideal) (iblk m c 0 t) (iblk m c 1 t) (iblk m c 2 t) (iblk m c 3 t) := by
  by_cases h : t.val % 4 = 0
  · rw [outsAt0_A m c t h]
    frame_out
  · rw [outsAt0_B m c t h]
    frame_out

theorem out5 (t : Fin cfg0.N) : (outsAt0 m c t.val t.isLt).2.1 = k0_pay6 (F := Ideal) (iblk m c 0 t) (iblk m c 1 t) (iblk m c 2 t) (iblk m c 3 t) := by
  by_cases h : t.val % 4 = 0
  · rw [outsAt0_A m c t h]
    frame_out
  · rw [outsAt0_B m c t h]
    frame_out

theorem first6 (t : Fin cfg0.N) (h : t.val % 4 = 0) : (outsAt0 m c t.val t.isLt).2.2
    = k0_pay1 (F := Ideal) (k0_pay5 (iblk m c 0 t) (iblk m c 1 t)) (k0_pay7 (F := Ideal)) := by
  rw [outsAt0_A m c t h]
  frame_out
  try simp only [read_unread_whole]

theorem next6 (t : Fin cfg0.N) (h : ¬t.val % 4 = 0) : (outsAt0 m c t.val t.isLt).2.2
    = k0_pay1 (F := Ideal) (k0_pay5 (iblk m c 0 t) (iblk m c 1 t)) (outsAt0 m c (t.val - 1) (Nat.lt_of_le_of_lt (Nat.sub_le _ _) t.isLt)).2.2 := by
  rw [outsAt0_B m c t h]
  frame_out
  try simp only [read_unread_whole]

theorem entry4 (t : Fin cfg0.N) (a : Fin 512) (l : Fin 2048) :
    k0_pay4 (F := Ideal) (iblk m c 0 t) (iblk m c 1 t) (iblk m c 2 t) (iblk m c 3 t) (ix2 a l) = dx m c (ix2 (row t a) l) := by
  rw [pay4_at, b3]
  simp only [b0, b1, b2]
  rfl

theorem arr4 : (dats m 0 c).arrAt 4 cfg0.N = dx m c := by
  refine (dats m 0 c).arrAt_eq_of_covers 4 _ (by decide +kernel) fun t hf y => ?_
  blk_simp
  rw [after0_4, out4]
  idx_vars y
  have e : (win0_4.blk t).view.emb (ix2 y0 y1) = ix2 (row t y0) y1 := by blk_ext [idx t]
  rw [e, ← entry4]

theorem arr5 : (dats m 0 c).arrAt 5 cfg0.N = dx m c := by
  refine (dats m 0 c).arrAt_eq_of_covers 5 _ (by decide +kernel) fun t hf y => ?_
  blk_simp
  rw [after0_5, out5]
  idx_vars y
  have e : (win0_5.blk t).view.emb (ix2 y0 y1) = ix2 (row t y0) y1 := by blk_ext [idx t]
  rw [e, ← entry4]
  rfl

def tlast : Fin cfg0.N := ⟨3, by decide +kernel⟩

theorem sum6 (l : Fin 2048) : (outsAt0 m c tlast.val tlast.isLt).2.2 (ix2 0 l) = ∑ i, dgRow m c i l := by
  rw [Pipeline.eq_sum_fin_of_reset_step_apply_last (fun n h => (outsAt0 m c n h).2.2) 4 (k0_pay7 (F := Ideal))
    (fun t => k0_pay5 (F := Ideal) (iblk m c 0 t) (iblk m c 1 t))
    (fun t h i => by rw [first6 m c t h]; idx_vars i; obtain rfl : i0 = 0 := Subsingleton.elim _ _; exact pay1_at _ _ _ _)
    (fun t h i => by rw [next6 m c t h]; idx_vars i; obtain rfl : i0 = 0 := Subsingleton.elim _ _; exact pay1_at _ _ _ _)
    (by decide +kernel) tlast (by decide +kernel) _, pay7_at, zero_add]
  have e : ∀ t : Fin cfg0.N, k0_pay5 (F := Ideal) (iblk m c 0 t) (iblk m c 1 t) (ix2 0 l) = ∑ a, dgRow m c (row t a) l := fun t => by
    rw [pay5_at]
    simp only [b0, b1]
    rfl
  rw [Finset.sum_congr rfl fun t _ => e t]
  refine (Fintype.sum_equiv (finCongr N_0) _ (fun s : Fin 4 => ∑ a : Fin 512, dgRow m c ⟨s.val * 512 + a.val, by omega⟩ l) fun _ => rfl).trans ?_
  exact Fin.sum_mul_add_congr fun s k hl => rfl

theorem arr6 : (dats m 0 c).arrAt 6 cfg0.N = (outsAt0 m c tlast.val tlast.isLt).2.2 := by
  refine (dats m 0 c).arrAt_eq_of_after_last 6 tlast (by decide +kernel) _ fun j => ?_
  blk_simp
  rw [after0_6]

theorem ref_at (d x : Vec Ideal S2048x2048 .f32) (g : Vec Ideal S1x2048 .f32) (r : Vec Ideal S2048x2048 .f32) (i l : Fin 2048) :
    RmsBwdRefIdeal.Read.val_main_v34 (F := Ideal) d x g r (ix2 i l) = r (ix2 i l) + d (ix2 i l) * g (ix2 0 l) * Rms.inv (fun k => x (ix2 i k))
      + x (ix2 i l) * Rms.part (fun k => d (ix2 i k)) (fun k => x (ix2 i k)) (fun k => g (ix2 0 k))
      + Rms.part (fun k => d (ix2 i k)) (fun k => x (ix2 i k)) (fun k => g (ix2 0 k)) * x (ix2 i l) := by
  pointwise [RmsBwdRefIdeal.Read.val_main_v0, RmsBwdRefIdeal.Read.val_main_cst, RmsBwdRefIdeal.Read.val_main_v1, RmsBwdRefIdeal.Read.val_main_v2, RmsBwdRefIdeal.Read.val_main_cst_0, RmsBwdRefIdeal.Read.val_main_v3, RmsBwdRefIdeal.Read.val_main_v4, RmsBwdRefIdeal.Read.val_main_cst_1, RmsBwdRefIdeal.Read.val_main_v5, RmsBwdRefIdeal.Read.val_main_v6, RmsBwdRefIdeal.Read.val_main_v7, RmsBwdRefIdeal.Read.val_main_v8, RmsBwdRefIdeal.Read.val_main_cst_2, RmsBwdRefIdeal.Read.val_main_v9, RmsBwdRefIdeal.Read.val_main_v10, RmsBwdRefIdeal.Read.val_main_v11, RmsBwdRefIdeal.Read.val_main_v12, RmsBwdRefIdeal.Read.val_main_v13, RmsBwdRefIdeal.Read.val_main_v14, RmsBwdRefIdeal.Read.val_main_v15, RmsBwdRefIdeal.Read.val_main_cst_3, RmsBwdRefIdeal.Read.val_main_v16, RmsBwdRefIdeal.Read.val_main_v17, RmsBwdRefIdeal.Read.val_main_v18, RmsBwdRefIdeal.Read.val_main_v19, RmsBwdRefIdeal.Read.val_main_v20, RmsBwdRefIdeal.Read.val_main_cst_4, RmsBwdRefIdeal.Read.val_main_v21, RmsBwdRefIdeal.Read.val_main_v22, RmsBwdRefIdeal.Read.val_main_v23, RmsBwdRefIdeal.Read.val_main_v24, RmsBwdRefIdeal.Read.val_main_v25, RmsBwdRefIdeal.Read.val_main_v26, RmsBwdRefIdeal.Read.val_main_cst_5, RmsBwdRefIdeal.Read.val_main_v27, RmsBwdRefIdeal.Read.val_main_v28, RmsBwdRefIdeal.Read.val_main_cst_6, RmsBwdRefIdeal.Read.val_main_v29, RmsBwdRefIdeal.Read.val_main_v30, RmsBwdRefIdeal.Read.val_main_v31, RmsBwdRefIdeal.Read.val_main_v32, RmsBwdRefIdeal.Read.val_main_v33, RmsBwdRefIdeal.Read.val_main_v34, RmsBwdRefIdeal.Read.val_main_v35]
  simp only [Finset.univ_unique, Finset.sum_singleton]
  rfl

theorem ref_dx (d x : Vec Ideal S2048x2048 .f32) (g : Vec Ideal S1x2048 .f32) (r : Vec Ideal S2048x2048 .f32) (y : S2048x2048.Idx) :
    RmsBwdRefIdeal.Read.val_main_v34 (F := Ideal) d x g r y
      = r y + Rms.back (fun k => d (ix2 (y 0) k)) (fun k => x (ix2 (y 0) k)) (fun k => g (ix2 0 k)) (y 1) := by
  idx_vars y
  rw [ref_at]
  refine Eq.trans ?_ (congrArg (r (ix2 y0 y1) + ·)
    (Rms.back_of (fun k => d (ix2 y0 k)) (fun k => x (ix2 y0 k)) (fun k => g (ix2 0 k)) y1))
  rw [add_assoc, add_assoc, ← add_assoc (d (ix2 y0 y1) * g (ix2 0 y1) * _)]

/-- The reference's run, its results named by their last stages. -/
theorem ref_run (m : (ℓ : Loc RmsBwdRefIdeal.nD RmsBwdRefIdeal.τ RmsBwdRefIdeal.sig) → Buf (Elt Ideal) ℓ) (ρ : Dev RmsBwdRefIdeal.nD → PrngReg) :
    θ_run RmsBwdRefIdeal.defs (onTc (τ := RmsBwdRefIdeal.τ) (RmsBwdRefIdeal.main (F := Ideal))) ⟨m, fun _ => 0, ρ⟩ fun r => ∀ c : Dev RmsBwdRefIdeal.nD,
      r.2.mem ((c.tc : Thread RmsBwdRefIdeal.nD RmsBwdRefIdeal.τ).loc RmsBwdRefIdeal.main_v34) = RmsBwdRefIdeal.Read.val_main_v34 (F := Ideal) (m ((c.tc : Thread RmsBwdRefIdeal.nD RmsBwdRefIdeal.τ).loc RmsBwdRefIdeal.main_arg0)) (m ((c.tc : Thread RmsBwdRefIdeal.nD RmsBwdRefIdeal.τ).loc RmsBwdRefIdeal.main_arg1)) (m ((c.tc : Thread RmsBwdRefIdeal.nD RmsBwdRefIdeal.τ).loc RmsBwdRefIdeal.main_arg2)) (m ((c.tc : Thread RmsBwdRefIdeal.nD RmsBwdRefIdeal.τ).loc RmsBwdRefIdeal.main_arg3))
      ∧ r.2.mem ((c.tc : Thread RmsBwdRefIdeal.nD RmsBwdRefIdeal.τ).loc RmsBwdRefIdeal.main_v35) = RmsBwdRefIdeal.Read.val_main_v35 (F := Ideal) (m ((c.tc : Thread RmsBwdRefIdeal.nD RmsBwdRefIdeal.τ).loc RmsBwdRefIdeal.main_arg0)) (m ((c.tc : Thread RmsBwdRefIdeal.nD RmsBwdRefIdeal.τ).loc RmsBwdRefIdeal.main_arg1)) (m ((c.tc : Thread RmsBwdRefIdeal.nD RmsBwdRefIdeal.τ).loc RmsBwdRefIdeal.main_arg2)) (m ((c.tc : Thread RmsBwdRefIdeal.nD RmsBwdRefIdeal.τ).loc RmsBwdRefIdeal.main_arg3))
      ∧ r.2.mem ((c.tc : Thread RmsBwdRefIdeal.nD RmsBwdRefIdeal.τ).loc RmsBwdRefIdeal.main_v17) = RmsBwdRefIdeal.Read.val_main_v17 (F := Ideal) (m ((c.tc : Thread RmsBwdRefIdeal.nD RmsBwdRefIdeal.τ).loc RmsBwdRefIdeal.main_arg0)) (m ((c.tc : Thread RmsBwdRefIdeal.nD RmsBwdRefIdeal.τ).loc RmsBwdRefIdeal.main_arg1))
      ∧ r.2.mem ((c.tc : Thread RmsBwdRefIdeal.nD RmsBwdRefIdeal.τ).loc RmsBwdRefIdeal.main_arg0) = m ((c.tc : Thread RmsBwdRefIdeal.nD RmsBwdRefIdeal.τ).loc RmsBwdRefIdeal.main_arg0)
      ∧ r.2.mem ((c.tc : Thread RmsBwdRefIdeal.nD RmsBwdRefIdeal.τ).loc RmsBwdRefIdeal.main_arg1) = m ((c.tc : Thread RmsBwdRefIdeal.nD RmsBwdRefIdeal.τ).loc RmsBwdRefIdeal.main_arg1)
      ∧ r.2.mem ((c.tc : Thread RmsBwdRefIdeal.nD RmsBwdRefIdeal.τ).loc RmsBwdRefIdeal.main_arg2) = m ((c.tc : Thread RmsBwdRefIdeal.nD RmsBwdRefIdeal.τ).loc RmsBwdRefIdeal.main_arg2)
      ∧ r.2.mem ((c.tc : Thread RmsBwdRefIdeal.nD RmsBwdRefIdeal.τ).loc RmsBwdRefIdeal.main_arg3) = m ((c.tc : Thread RmsBwdRefIdeal.nD RmsBwdRefIdeal.τ).loc RmsBwdRefIdeal.main_arg3) :=
  (θ_run _ _ _).mono (fun r h c => ⟨(h c).1.trans (RmsBwdRefIdeal.Read.val_main_v34_eq _ _ _ _),
      (h c).2.1.trans (RmsBwdRefIdeal.Read.val_main_v35_eq _ _ _ _),
      (h c).2.2.1.trans (RmsBwdRefIdeal.Read.val_main_v17_eq _ _),
      (h c).2.2.2⟩)
    (RmsBwdRefIdeal.Value.run m ρ)

theorem same : Cert.algebraic_RmsBwdIdeal_RmsBwdRefIdeal := by
  pair_intro
  · run_from Cert.RmsBwdIdeal.Value.run_blocks m g
  · run_from ref_run m' g'
    · rw [arr4]
      exact funext fun y => ref_dx _ _ _ _ y
    · rw [arr5]
      exact funext fun y => ref_dx _ _ _ _ y
    · rw [arr6]
      funext j
      idx_vars j
      obtain rfl : j0 = 0 := Subsingleton.elim _ _
      rw [sum6]
      pointwise [RmsBwdRefIdeal.Read.val_main_v0, RmsBwdRefIdeal.Read.val_main_cst, RmsBwdRefIdeal.Read.val_main_v1, RmsBwdRefIdeal.Read.val_main_v2, RmsBwdRefIdeal.Read.val_main_cst_0, RmsBwdRefIdeal.Read.val_main_v3, RmsBwdRefIdeal.Read.val_main_v4, RmsBwdRefIdeal.Read.val_main_cst_1, RmsBwdRefIdeal.Read.val_main_v5, RmsBwdRefIdeal.Read.val_main_v6, RmsBwdRefIdeal.Read.val_main_v7, RmsBwdRefIdeal.Read.val_main_v8, RmsBwdRefIdeal.Read.val_main_cst_2, RmsBwdRefIdeal.Read.val_main_v9, RmsBwdRefIdeal.Read.val_main_v10, RmsBwdRefIdeal.Read.val_main_v11, RmsBwdRefIdeal.Read.val_main_v12, RmsBwdRefIdeal.Read.val_main_v13, RmsBwdRefIdeal.Read.val_main_v14, RmsBwdRefIdeal.Read.val_main_v15, RmsBwdRefIdeal.Read.val_main_cst_3, RmsBwdRefIdeal.Read.val_main_v16, RmsBwdRefIdeal.Read.val_main_v17, RmsBwdRefIdeal.Read.val_main_v18, RmsBwdRefIdeal.Read.val_main_v19, RmsBwdRefIdeal.Read.val_main_v20, RmsBwdRefIdeal.Read.val_main_cst_4, RmsBwdRefIdeal.Read.val_main_v21, RmsBwdRefIdeal.Read.val_main_v22, RmsBwdRefIdeal.Read.val_main_v23, RmsBwdRefIdeal.Read.val_main_v24, RmsBwdRefIdeal.Read.val_main_v25, RmsBwdRefIdeal.Read.val_main_v26, RmsBwdRefIdeal.Read.val_main_cst_5, RmsBwdRefIdeal.Read.val_main_v27, RmsBwdRefIdeal.Read.val_main_v28, RmsBwdRefIdeal.Read.val_main_cst_6, RmsBwdRefIdeal.Read.val_main_v29, RmsBwdRefIdeal.Read.val_main_v30, RmsBwdRefIdeal.Read.val_main_v31, RmsBwdRefIdeal.Read.val_main_v32, RmsBwdRefIdeal.Read.val_main_v33, RmsBwdRefIdeal.Read.val_main_v34, RmsBwdRefIdeal.Read.val_main_v35]
      exact Finset.sum_congr rfl fun k _ => mul_comm _ _

end Cert.Proof.RmsBwd

end
-- ==== Proof.AdamCol.lean ====
/- The optimiser's step of one weight whose gradient comes in two halves of its rows. -/
module

public import proofs.«01_k».proof.Defs
public import Idealize.ShloMosaic.Lib.Pipeline.ValueKit
public import Idealize.ShloMosaic.Lib.Pipeline.ReadBack
public import Idealize.ShloMosaic.Lib.Claim
public import proofs.«01_k».proof.Proof.Gen.AdamColIdeal.Frame
public import proofs.«01_k».proof.Proof.Gen.AdamColRefIdeal.Read
public import proofs.«01_k».proof.Proof.Gen.AdamCol.Frame

@[expose] public section

set_option maxRecDepth 16384
set_option maxHeartbeats 1000000

noncomputable section

namespace Cert.Proof.AdamCol

open Idealize.ShloMosaic Idealize.ShloMosaic.TcCoe Idealize.SL.Sem Memref.IsWhole

/-- The two moments and the step of one entry: of the weight, the moments and the gradient. -/
def mom (b g : EReal) : EReal := Ideal.ofBits .f32 0x3F666666#32 * b + Ideal.ofBits .f32 0x3DCCCCCD#32 * g
def var (b g : EReal) : EReal := Ideal.ofBits .f32 0x3F7FBE77#32 * b + Ideal.ofBits .f32 0x3A83126F#32 * (g * g)
def step (w b v g : EReal) : EReal := Ideal.ofBits .f32 0xBA83126F#32 *
  (Ideal.div (Ideal.div (mom b g) (Ideal.ofBits .f32 0x3F26BD02#32)) (Ideal.sqrt (Ideal.div (var v g) (Ideal.ofBits .f32 0x3C231ACC#32)) + Ideal.ofBits .f32 0x322BCC77#32)
    + Ideal.ofBits .f32 0x3C23D70A#32 * w)

/-- The choices by a word between two values. -/
theorem select_eq {α : Type} (w k : BitVec 32) (a b : α) : Scalar.select (IntOp.cmpi .eq w k) a b = if k = w then a else b := by
  by_cases e : k = w
  · rw [if_pos e, e, IntOp.cmpi]
    simp only [beq_self_eq_true]
    rfl
  · rw [if_neg e, IntOp.cmpi]
    simp only [beq_false_of_ne (Ne.symm e)]
    rfl

theorem pick {α : Type} (k w : BitVec 32) (x y : α) : Scalar.select (Scalar.cmpi .eq k w) x y = if k = w then x else y :=
  (select_eq k w x y).trans (if_congr eq_comm rfl rfl)

theorem own_sel (k w n : BitVec 32) : (Scalar.select (Scalar.xori (Scalar.xori (Scalar.cmpi .eq k w) 1#1) 1#1) n 0#32).toNat
    = if k = w then n.toNat else 0 := by
  by_cases e : k = w
  · rw [if_pos e, e, Scalar.cmpi, IntOp.cmpi]
    simp only [beq_self_eq_true]
    rfl
  · rw [if_neg e, Scalar.cmpi, IntOp.cmpi]
    simp only [beq_false_of_ne e]
    rfl

theorem other_sel (k w n : BitVec 32) : (Scalar.select (Scalar.xori (Scalar.xori (Scalar.cmpi .eq k w) 0#1) 1#1) n 0#32).toNat
    = if k = w then 0 else n.toNat := by
  by_cases e : k = w
  · rw [if_pos e, e, Scalar.cmpi, IntOp.cmpi]
    simp only [beq_self_eq_true]
    rfl
  · rw [if_neg e, Scalar.cmpi, IntOp.cmpi]
    simp only [beq_false_of_ne e]
    rfl

section Reference

open Cert.AdamColRefIdeal Cert.AdamColRefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v7) = val_main_v7 (F := Ideal) (m (rl c main_arg3)) (m (rl c main_arg4)) (m (rl c main_arg5))
      ∧ r.2.mem (rl c main_v31) = val_main_v31 (F := Ideal) (m (rl c main_arg0)) (m (rl c main_arg1)) (m (rl c main_arg2)) (m (rl c main_arg3)) (m (rl c main_arg4)) (m (rl c main_arg5))
      ∧ r.2.mem (rl c main_v12) = val_main_v12 (F := Ideal) (m (rl c main_arg1)) (m (rl c main_arg3)) (m (rl c main_arg4)) (m (rl c main_arg5))
      ∧ r.2.mem (rl c main_v18) = val_main_v18 (F := Ideal) (m (rl c main_arg2)) (m (rl c main_arg3)) (m (rl c main_arg4)) (m (rl c main_arg5))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6) :=
  (θ_run _ _ _).mono (fun r h c => ⟨(h c).1.trans (val_main_v7_eq _ _ _), (h c).2.1.trans (val_main_v31_eq _ _ _ _ _ _), (h c).2.2.1.trans (val_main_v12_eq _ _ _ _), (h c).2.2.2.1.trans (val_main_v18_eq _ _ _ _), (h c).2.2.2.2⟩)
    (Cert.AdamColRefIdeal.Value.run m ρ)

variable (x0 x1 x2 : Vec Ideal S1x2048x1024 .f32) (x3 x4 : Vec Ideal S1024x1024 .f32) (x5 : Vec Ideal S1 .i32) (r : Fin 2048) (l : Fin 1024)

theorem ref_g : val_main_v7 (F := Ideal) x3 x4 x5 (ix3 0 r l)
      = if BitVec.ofNat 32 (r.val / 1024) = x5 (ix1 0) then x3 (ix2 ⟨r.val % 1024, by omega⟩ l) else x4 (ix2 ⟨r.val % 1024, by omega⟩ l) := by
  pointwise [val_main_v7, val_main_v6]
  by_cases h : r.val < 1024
  · rw [dif_pos h]
    pointwise [val_main_v2, val_main_call0_v0, val_main_v1, val_main_v0, val_main_c]
    rw [select_eq, (by omega : r.val / 1024 = 0), (Fin.ext (by show r.val % 1024 = r.val; omega) : (⟨r.val % 1024, by omega⟩ : Fin 1024) = ⟨r.val, h⟩)]
  · rw [dif_neg h]
    pointwise [val_main_v5, val_main_call1_v0, val_main_v4, val_main_v3, val_main_c_0]
    rw [select_eq, (by omega : r.val / 1024 = 1), (Fin.ext (by show r.val % 1024 = r.val - 1024; omega) : (⟨r.val % 1024, by omega⟩ : Fin 1024) = ⟨r.val - 1024, by omega⟩)]

theorem ref_mom : val_main_v12 (F := Ideal) x1 x3 x4 x5 (ix3 0 r l) = mom (x1 (ix3 0 r l)) (val_main_v7 (F := Ideal) x3 x4 x5 (ix3 0 r l)) := by
  rfl

theorem ref_var : val_main_v18 (F := Ideal) x2 x3 x4 x5 (ix3 0 r l) = var (x2 (ix3 0 r l)) (val_main_v7 (F := Ideal) x3 x4 x5 (ix3 0 r l)) := by
  rfl

theorem ref_step : val_main_v31 (F := Ideal) x0 x1 x2 x3 x4 x5 (ix3 0 r l) = step (x0 (ix3 0 r l)) (x1 (ix3 0 r l)) (x2 (ix3 0 r l)) (val_main_v7 (F := Ideal) x3 x4 x5 (ix3 0 r l)) := by
  rfl

end Reference

open Cert.AdamColIdeal Cert.AdamColIdeal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem inside (n : Nat) (h : n < 2) : ∀ a : Fin 2, ((![n, 0] : Fin 2 → Nat) a + 1) * S512x1024.size a ≤ S1024x1024.size a := by
  interval_cases n <;> decide

theorem point_lt : (BitVec.ofNat 32 (i 1).val).toNat < 2 := by
  have h : (i 1).val < 2 := (i 1).isLt
  rw [BitVec.toNat_ofNat]
  omega

theorem ok_all : ok0 pf := by
  refine ⟨fun i => ⟨?_, .inl rfl⟩, fun i => ⟨?_, .inl rfl⟩⟩ <;> [rw [own_map]; rw [other_map]] <;>
    (refine inside _ ?_; have := point_lt i; split <;> omega)

end Maps

theorem ok : Ok m := ok_all _

theorem okBits (m : (ℓ : Loc Cert.AdamCol.nD Cert.AdamCol.τ Cert.AdamCol.sig) → Buf (Elt Bits) ℓ) : Cert.AdamCol.Gen.Ok m :=
  ok_all (F := Bits) (Cert.AdamCol.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 512) (l : Fin 1024)

/-- The blocks at a point: of the arguments, of the gradient, and what is written. -/
abbrev ib (k : Fin (Q m).W) := iblk m (ok m) c k t
abbrev gblk : Vec Ideal S512x1024 .f32 := k0_pay5 (F := Ideal) (grid0.coords t) (word m) (ib m c t 3) (ib m c t 4)

theorem cov5 : ((Q m).win 5).Covers := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).Covers := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).Covers := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).Covers := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![0, t.val, 0] := by decide +kernel

abbrev row : Fin 2048 := ⟨t.val * 512 + a.val, by have : t.val < 4 := t.isLt; omega⟩
abbrev low : Fin 1024 := ⟨t.val % 2 * 512 + a.val, by omega⟩

theorem emb : (((Q m).win 0).rect t).emb (ix3 0 a l : S1x512x1024.Idx) = (ix3 0 (row m t a) l : S1x2048x1024.Idx) := by
  funext b
  apply Fin.ext
  refine (((Q m).win 0).rect_emb_val t (ix3 0 a l : S1x512x1024.Idx) b).trans ?_
  show cc0_transform_0 (grid0.coords t) b * _ + _ = _
  rw [idx t]
  fin_cases b
  · rfl
  · rfl
  · exact (congrArg (· + l.val) (Nat.zero_mul _)).trans (Nat.zero_add _)

abbrev a0 (r : Fin 2048) (l : Fin 1024) : EReal := m (kl c main_arg0) (ix3 0 r l)
theorem b0 : ib m c t 0 (ix3 0 a l) = a0 m c (row m t a) l :=
  (congrArg (V m c main_arg0) (emb m t a l)).trans (congrFun (V_main_arg0 m c) _)
abbrev a1 (r : Fin 2048) (l : Fin 1024) : EReal := m (kl c main_arg1) (ix3 0 r l)
theorem b1 : ib m c t 1 (ix3 0 a l) = a1 m c (row m t a) l :=
  (congrArg (V m c main_arg1) (emb m t a l)).trans (congrFun (V_main_arg1 m c) _)
abbrev a2 (r : Fin 2048) (l : Fin 1024) : EReal := m (kl c main_arg2) (ix3 0 r l)
theorem b2 : ib m c t 2 (ix3 0 a l) = a2 m c (row m t a) l :=
  (congrArg (V m c main_arg2) (emb m t a l)).trans (congrFun (V_main_arg2 m c) _)

theorem coords_at : ∀ t : Fin grid0.N, (BitVec.ofNat 32 (grid0.coords t 0).val) = BitVec.ofNat 32 (t.val / 2) ∧ (BitVec.ofNat 32 (grid0.coords t 1).val).toNat = t.val % 2 := by decide +kernel

theorem emb3 (h : BitVec.ofNat 32 (grid0.coords t 0).val = word m) : (((Q m).win 3).rect t).emb (ix2 a l : S512x1024.Idx) = (ix2 (low m t a) l : S1024x1024.Idx) := by
  funext b
  apply Fin.ext
  refine (((Q m).win 3).rect_emb_val t (ix2 a l : S512x1024.Idx) b).trans ?_
  show cc0_transform_3 inb_S1_S1_0 numel1_S1 (tbl m) (grid0.coords t) b * _ + _ = _
  rw [own_map, if_pos h, (coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S512x1024.Idx) = (ix2 (low m t a) l : S1024x1024.Idx) := by
  funext b
  apply Fin.ext
  refine (((Q m).win 4).rect_emb_val t (ix2 a l : S512x1024.Idx) b).trans ?_
  show cc0_transform_4 inb_S1_S1_0 numel1_S1 (tbl m) (grid0.coords t) b * _ + _ = _
  rw [other_map, if_neg h, (coords_at t).2]
  fin_cases b
  · rfl
  · exact (congrArg (· + l.val) (Nat.zero_mul _)).trans (Nat.zero_add _)

/-- The halves joined: each is the device's own where the word names it, else the other's. -/
def joined (r : Fin 2048) (l : Fin 1024) : EReal :=
  if BitVec.ofNat 32 (r.val / 1024) = word m then m (kl c main_arg3) (ix2 ⟨r.val % 1024, by omega⟩ l) else m (kl c main_arg4) (ix2 ⟨r.val % 1024, by omega⟩ l)

theorem gblk_at : gblk m c t (ix2 a l) = joined m c (row m t a) l := by
  have ht : t.val < 4 := t.isLt
  have e : (row m t a).val / 1024 = t.val / 2 := by show (t.val * 512 + a.val) / 1024 = _; omega
  have e' : (⟨(row m t a).val % 1024, by omega⟩ : Fin 1024) = low m t a := Fin.ext (by show (t.val * 512 + a.val) % 1024 = t.val % 2 * 512 + a.val; omega)
  unfold joined
  rw [e, e', ← (coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

section Payloads

variable (i : grid0.Coords) (v : Elt Ideal .i32) (x3 x4 : Vec Ideal S512x1024 .f32) (x0 x1 x2 : Vec Ideal S1x512x1024 .f32)

theorem up (x : Vec Ideal S512x1024 .f32) : k0_pay1 x (ix3 0 a l) = x (ix2 a l) := by
  unfold k0_pay1
  pointwise

theorem down : shapeCast S512x1024 x0 Cert.AdamColIdeal.Gen.facts.shapeCasts_S1x512x1024_S512x1024 (ix2 a l) = x0 (ix3 0 a l) := by pointwise

abbrev g5 := k0_pay5 (F := Ideal) i v x3 x4

theorem pay5 : k0_pay1 (g5 i v x3 x4) (ix3 0 a l) = g5 i v x3 x4 (ix2 a l) := up a l _

theorem pay6 : k0_pay2 (k0_pay8 (F := Ideal) i v x3 x4 x0 x1 x2) (ix3 0 a l) = step (x0 (ix3 0 a l)) (x1 (ix3 0 a l)) (x2 (ix3 0 a l)) (g5 i v x3 x4 (ix2 a l)) := by
  rw [← down a l x0, ← down a l x1, ← down a l x2]
  exact up a l _

theorem pay7 : k0_pay3 (k0_pay6 (F := Ideal) i v x3 x4 x1) (ix3 0 a l) = mom (x1 (ix3 0 a l)) (g5 i v x3 x4 (ix2 a l)) := by
  rw [← down a l x1]
  exact up a l _

theorem pay8 : k0_pay4 (k0_pay7 (F := Ideal) i v x3 x4 x2) (ix3 0 a l) = var (x2 (ix3 0 a l)) (g5 i v x3 x4 (ix2 a l)) := by
  rw [← down a l x2]
  exact up a l _

end Payloads

abbrev stepOf (r : Fin 2048) (l : Fin 1024) : EReal := step (a0 m c r l) (a1 m c r l) (a2 m c r l) (joined m c r l)
abbrev momOf (r : Fin 2048) (l : Fin 1024) : EReal := mom (a1 m c r l) (joined m c r l)
abbrev varOf (r : Fin 2048) (l : Fin 1024) : EReal := var (a2 m c r l) (joined m c r l)

/-- An array from the entries of a layer. -/
abbrev both (f : Fin 2048 → Fin 1024 → EReal) : Vec Ideal S1x2048x1024 .f32 := fun y => f (y 1) (y 2)

theorem blk_eq (f : Fin 2048 → Fin 1024 → EReal) (v : Vec Ideal S1x512x1024 .f32) (h : ∀ a l, v (ix3 0 a l) = f (row m t a) l) (y : S1x512x1024.Idx) : v y = both f ((((Q m).win 0).rect t).emb y) := by
  idx_vars y
  obtain rfl : y0 = 0 := Subsingleton.elim _ _
  rw [emb]
  exact h y1 y2

theorem arr5 : (D m c).arrAt 5 (Q m).N = both (joined m c) := by
  refine (D m c).arrAt_eq_of_covers 5 _ (cov5 m) fun t hf y => ?_
  rw [after0_5, out5]
  exact blk_eq m t (joined m c) (k0_pay1 (gblk m c t)) (fun a l => (pay5 a l _ _ _ _).trans (gblk_at m c t a l)) y

theorem arr6 : (D m c).arrAt 6 (Q m).N = both (stepOf m c) := by
  refine (D m c).arrAt_eq_of_covers 6 _ (cov6 m) fun t hf y => ?_
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : (D m c).arrAt 7 (Q m).N = both (momOf m c) := by
  refine (D m c).arrAt_eq_of_covers 7 _ (cov7 m) fun t hf y => ?_
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : (D m c).arrAt 8 (Q m).N = both (varOf m c) := by
  refine (D m c).arrAt_eq_of_covers 8 _ (cov8 m) fun t hf y => ?_
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v0_0) = both (joined m c)
      ∧ r.2.mem (kl c main_v0_1) = both (stepOf m c)
      ∧ r.2.mem (kl c main_v0_2) = both (momOf m c)
      ∧ r.2.mem (kl c main_v0_3) = both (varOf m c)
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6) :=
  (θ_run defs _ _).mono (fun r h c => ⟨((h c).1 5).trans (arr5 m c),
      ((h c).1 6).trans (arr6 m c),
      ((h c).1 7).trans (arr7 m c),
      ((h c).1 8).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (V_main_arg5 m c),
      ((h c).2 main_arg6 (by decide : bare main_arg6)).trans (V_main_arg6 m c)⟩)
    (run_main m ρ (ok m))

theorem ref_lay (p : Vec Ideal S1x2048x1024 .f32) (f : Fin 2048 → Fin 1024 → EReal) (h : ∀ r l, p (ix3 0 r l) = f r l) : p = both f := by
  funext y
  idx_vars y
  obtain rfl : y0 = 0 := Subsingleton.elim _ _
  exact h y1 y2

theorem ref_joined (r : Fin 2048) (l : Fin 1024) : Cert.AdamColRefIdeal.Read.val_main_v7 (F := Ideal) (m (kl c main_arg3)) (m (kl c main_arg4)) (m (kl c main_arg5)) (ix3 0 r l) = joined m c r l := by
  refine (ref_g _ _ _ r l).trans ?_
  unfold joined
  rw [word_eq m c]

theorem same : Cert.algebraic_AdamColIdeal_AdamColRefIdeal := by
  pair_intro
  · run_from Cert.Proof.AdamCol.run m g
  · run_from ref_run m' g'
    · exact ref_lay _ _ fun r l => ref_joined m c r l
    · exact ref_lay _ _ fun r l => (ref_step _ _ _ _ _ _ _ _).trans (congrArg _ (ref_joined m c r l))
    · exact ref_lay _ _ fun r l => (ref_mom _ _ _ _ _ _).trans (congrArg _ (ref_joined m c r l))
    · exact ref_lay _ _ fun r l => (ref_var _ _ _ _ _ _).trans (congrArg _ (ref_joined m c r l))

end Cert.Proof.AdamCol

end
-- ==== Proof.AdamRow.lean ====
/- The optimiser's step of one weight whose gradient comes in two halves of its columns. -/
module

public import proofs.«01_k».proof.Proof.AdamCol
public import proofs.«01_k».proof.Proof.Gen.AdamRowIdeal.Frame
public import proofs.«01_k».proof.Proof.Gen.AdamRowRefIdeal.Read
public import proofs.«01_k».proof.Proof.Gen.AdamRow.Frame

@[expose] public section

set_option maxRecDepth 16384
set_option maxHeartbeats 1000000

noncomputable section

namespace Cert.Proof.AdamRow

open Idealize.ShloMosaic Idealize.ShloMosaic.TcCoe Idealize.SL.Sem Memref.IsWhole
open Cert.Proof.AdamCol (mom var step select_eq pick own_sel other_sel)

section Reference

open Cert.AdamRowRefIdeal Cert.AdamRowRefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v7) = val_main_v7 (F := Ideal) (m (rl c main_arg3)) (m (rl c main_arg4)) (m (rl c main_arg5))
      ∧ r.2.mem (rl c main_v31) = val_main_v31 (F := Ideal) (m (rl c main_arg0)) (m (rl c main_arg1)) (m (rl c main_arg2)) (m (rl c main_arg3)) (m (rl c main_arg4)) (m (rl c main_arg5))
      ∧ r.2.mem (rl c main_v12) = val_main_v12 (F := Ideal) (m (rl c main_arg1)) (m (rl c main_arg3)) (m (rl c main_arg4)) (m (rl c main_arg5))
      ∧ r.2.mem (rl c main_v18) = val_main_v18 (F := Ideal) (m (rl c main_arg2)) (m (rl c main_arg3)) (m (rl c main_arg4)) (m (rl c main_arg5))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6) :=
  (θ_run _ _ _).mono (fun r h c => ⟨(h c).1.trans (val_main_v7_eq _ _ _), (h c).2.1.trans (val_main_v31_eq _ _ _ _ _ _), (h c).2.2.1.trans (val_main_v12_eq _ _ _ _), (h c).2.2.2.1.trans (val_main_v18_eq _ _ _ _), (h c).2.2.2.2⟩)
    (Cert.AdamRowRefIdeal.Value.run m ρ)

variable (x0 x1 x2 : Vec Ideal S1x512x2048 .f32) (x3 x4 : Vec Ideal S512x1024 .f32) (x5 : Vec Ideal S1 .i32) (r : Fin 512) (l : Fin 2048)

theorem ref_g : val_main_v7 (F := Ideal) x3 x4 x5 (ix3 0 r l)
      = if BitVec.ofNat 32 (l.val / 1024) = x5 (ix1 0) then x3 (ix2 r ⟨l.val % 1024, by omega⟩) else x4 (ix2 r ⟨l.val % 1024, by omega⟩) := by
  pointwise [val_main_v7, val_main_v6]
  by_cases h : l.val < 1024
  · rw [dif_pos h]
    pointwise [val_main_v2, val_main_call0_v0, val_main_v1, val_main_v0, val_main_c]
    rw [select_eq, (by omega : l.val / 1024 = 0), (Fin.ext (by show l.val % 1024 = l.val; omega) : (⟨l.val % 1024, by omega⟩ : Fin 1024) = ⟨l.val, h⟩)]
  · rw [dif_neg h]
    pointwise [val_main_v5, val_main_call1_v0, val_main_v4, val_main_v3, val_main_c_0]
    rw [select_eq, (by omega : l.val / 1024 = 1), (Fin.ext (by show l.val % 1024 = l.val - 1024; omega) : (⟨l.val % 1024, by omega⟩ : Fin 1024) = ⟨l.val - 1024, by omega⟩)]

theorem ref_mom : val_main_v12 (F := Ideal) x1 x3 x4 x5 (ix3 0 r l) = mom (x1 (ix3 0 r l)) (val_main_v7 (F := Ideal) x3 x4 x5 (ix3 0 r l)) := by
  rfl

theorem ref_var : val_main_v18 (F := Ideal) x2 x3 x4 x5 (ix3 0 r l) = var (x2 (ix3 0 r l)) (val_main_v7 (F := Ideal) x3 x4 x5 (ix3 0 r l)) := by
  rfl

theorem ref_step : val_main_v31 (F := Ideal) x0 x1 x2 x3 x4 x5 (ix3 0 r l) = step (x0 (ix3 0 r l)) (x1 (ix3 0 r l)) (x2 (ix3 0 r l)) (val_main_v7 (F := Ideal) x3 x4 x5 (ix3 0 r l)) := by
  rfl

end Reference

open Cert.AdamRowIdeal Cert.AdamRowIdeal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem inside (n : Nat) (h : n < 1) : ∀ a : Fin 2, ((![n, 0] : Fin 2 → Nat) a + 1) * S512x1024.size a ≤ S512x1024.size a := by
  interval_cases n <;> decide

theorem point_lt : (BitVec.ofNat 32 (i 1).val).toNat < 1 := by
  have h : (i 1).val < 1 := (i 1).isLt
  rw [BitVec.toNat_ofNat]
  omega

theorem ok_all : ok0 pf := by
  refine ⟨fun i => ⟨?_, .inl rfl⟩, fun i => ⟨?_, .inl rfl⟩⟩ <;> [rw [own_map]; rw [other_map]] <;>
    (refine inside _ ?_; have := point_lt i; split <;> omega)

end Maps

theorem ok : Ok m := ok_all _

theorem okBits (m : (ℓ : Loc Cert.AdamRow.nD Cert.AdamRow.τ Cert.AdamRow.sig) → Buf (Elt Bits) ℓ) : Cert.AdamRow.Gen.Ok m :=
  ok_all (F := Bits) (Cert.AdamRow.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 512) (l : Fin 1024)

/-- The blocks at a point: of the arguments, of the gradient, and what is written. -/
abbrev ib (k : Fin (Q m).W) := iblk m (ok m) c k t
abbrev gblk : Vec Ideal S512x1024 .f32 := k0_pay5 (F := Ideal) (grid0.coords t) (word m) (ib m c t 3) (ib m c t 4)

theorem cov5 : ((Q m).win 5).Covers := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).Covers := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).Covers := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).Covers := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![0, t.val % 1, t.val / 1] := by decide +kernel

abbrev row : Fin 512 := ⟨t.val % 1 * 512 + a.val, by have : t.val < 2 := t.isLt; omega⟩
abbrev lane : Fin 2048 := ⟨t.val / 1 * 1024 + l.val, by have : t.val < 2 := t.isLt; omega⟩

theorem emb : (((Q m).win 0).rect t).emb (ix3 0 a l : S1x512x1024.Idx) = (ix3 0 (row m t a) (lane m t l) : S1x512x2048.Idx) := by
  funext b
  apply Fin.ext
  refine (((Q m).win 0).rect_emb_val t (ix3 0 a l : S1x512x1024.Idx) b).trans ?_
  show cc0_transform_0 (grid0.coords t) b * _ + _ = _
  rw [idx t]
  fin_cases b
  · rfl
  · rfl
  · exact rfl

abbrev a0 (r : Fin 512) (l : Fin 2048) : EReal := m (kl c main_arg0) (ix3 0 r l)
theorem b0 : ib m c t 0 (ix3 0 a l) = a0 m c (row m t a) (lane m t l) :=
  (congrArg (V m c main_arg0) (emb m t a l)).trans (congrFun (V_main_arg0 m c) _)
abbrev a1 (r : Fin 512) (l : Fin 2048) : EReal := m (kl c main_arg1) (ix3 0 r l)
theorem b1 : ib m c t 1 (ix3 0 a l) = a1 m c (row m t a) (lane m t l) :=
  (congrArg (V m c main_arg1) (emb m t a l)).trans (congrFun (V_main_arg1 m c) _)
abbrev a2 (r : Fin 512) (l : Fin 2048) : EReal := m (kl c main_arg2) (ix3 0 r l)
theorem b2 : ib m c t 2 (ix3 0 a l) = a2 m c (row m t a) (lane m t l) :=
  (congrArg (V m c main_arg2) (emb m t a l)).trans (congrFun (V_main_arg2 m c) _)

theorem coords_at : ∀ t : Fin grid0.N, (BitVec.ofNat 32 (grid0.coords t 0).val) = BitVec.ofNat 32 (t.val / 1) ∧ (BitVec.ofNat 32 (grid0.coords t 1).val).toNat = t.val % 1 := by decide +kernel

theorem emb3 (h : BitVec.ofNat 32 (grid0.coords t 0).val = word m) : (((Q m).win 3).rect t).emb (ix2 a l : S512x1024.Idx) = (ix2 (row m t a) l : S512x1024.Idx) := by
  funext b
  apply Fin.ext
  refine (((Q m).win 3).rect_emb_val t (ix2 a l : S512x1024.Idx) b).trans ?_
  show cc0_transform_3 inb_S1_S1_0 numel1_S1 (tbl m) (grid0.coords t) b * _ + _ = _
  rw [own_map, if_pos h, (coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S512x1024.Idx) = (ix2 (row m t a) l : S512x1024.Idx) := by
  funext b
  apply Fin.ext
  refine (((Q m).win 4).rect_emb_val t (ix2 a l : S512x1024.Idx) b).trans ?_
  show cc0_transform_4 inb_S1_S1_0 numel1_S1 (tbl m) (grid0.coords t) b * _ + _ = _
  rw [other_map, if_neg h, (coords_at t).2]
  fin_cases b
  · rfl
  · exact (congrArg (· + l.val) (Nat.zero_mul _)).trans (Nat.zero_add _)

/-- The halves joined: each is the device's own where the word names it, else the other's. -/
def joined (r : Fin 512) (l : Fin 2048) : EReal :=
  if BitVec.ofNat 32 (l.val / 1024) = word m then m (kl c main_arg3) (ix2 r ⟨l.val % 1024, by omega⟩) else m (kl c main_arg4) (ix2 r ⟨l.val % 1024, by omega⟩)

theorem gblk_at : gblk m c t (ix2 a l) = joined m c (row m t a) (lane m t l) := by
  have ht : t.val < 2 := t.isLt
  have e : (lane m t l).val / 1024 = t.val / 1 := by show (t.val / 1 * 1024 + l.val) / 1024 = _; omega
  have e' : (⟨(lane m t l).val % 1024, by omega⟩ : Fin 1024) = l := Fin.ext (by show (t.val / 1 * 1024 + l.val) % 1024 = l.val; omega)
  unfold joined
  rw [e, e', ← (coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

section Payloads

variable (i : grid0.Coords) (v : Elt Ideal .i32) (x3 x4 : Vec Ideal S512x1024 .f32) (x0 x1 x2 : Vec Ideal S1x512x1024 .f32)

theorem up (x : Vec Ideal S512x1024 .f32) : k0_pay1 x (ix3 0 a l) = x (ix2 a l) := by
  unfold k0_pay1
  pointwise

theorem down : shapeCast S512x1024 x0 Cert.AdamRowIdeal.Gen.facts.shapeCasts_S1x512x1024_S512x1024 (ix2 a l) = x0 (ix3 0 a l) := by pointwise

abbrev g5 := k0_pay5 (F := Ideal) i v x3 x4

theorem pay5 : k0_pay1 (g5 i v x3 x4) (ix3 0 a l) = g5 i v x3 x4 (ix2 a l) := up a l _

theorem pay6 : k0_pay2 (k0_pay8 (F := Ideal) i v x3 x4 x0 x1 x2) (ix3 0 a l) = step (x0 (ix3 0 a l)) (x1 (ix3 0 a l)) (x2 (ix3 0 a l)) (g5 i v x3 x4 (ix2 a l)) := by
  rw [← down a l x0, ← down a l x1, ← down a l x2]
  exact up a l _

theorem pay7 : k0_pay3 (k0_pay6 (F := Ideal) i v x3 x4 x1) (ix3 0 a l) = mom (x1 (ix3 0 a l)) (g5 i v x3 x4 (ix2 a l)) := by
  rw [← down a l x1]
  exact up a l _

theorem pay8 : k0_pay4 (k0_pay7 (F := Ideal) i v x3 x4 x2) (ix3 0 a l) = var (x2 (ix3 0 a l)) (g5 i v x3 x4 (ix2 a l)) := by
  rw [← down a l x2]
  exact up a l _

end Payloads

abbrev stepOf (r : Fin 512) (l : Fin 2048) : EReal := step (a0 m c r l) (a1 m c r l) (a2 m c r l) (joined m c r l)
abbrev momOf (r : Fin 512) (l : Fin 2048) : EReal := mom (a1 m c r l) (joined m c r l)
abbrev varOf (r : Fin 512) (l : Fin 2048) : EReal := var (a2 m c r l) (joined m c r l)

/-- An array from the entries of a layer. -/
abbrev both (f : Fin 512 → Fin 2048 → EReal) : Vec Ideal S1x512x2048 .f32 := fun y => f (y 1) (y 2)

theorem blk_eq (f : Fin 512 → Fin 2048 → EReal) (v : Vec Ideal S1x512x1024 .f32) (h : ∀ a l, v (ix3 0 a l) = f (row m t a) (lane m t l)) (y : S1x512x1024.Idx) : v y = both f ((((Q m).win 0).rect t).emb y) := by
  idx_vars y
  obtain rfl : y0 = 0 := Subsingleton.elim _ _
  rw [emb]
  exact h y1 y2

theorem arr5 : (D m c).arrAt 5 (Q m).N = both (joined m c) := by
  refine (D m c).arrAt_eq_of_covers 5 _ (cov5 m) fun t hf y => ?_
  rw [after0_5, out5]
  exact blk_eq m t (joined m c) (k0_pay1 (gblk m c t)) (fun a l => (pay5 a l _ _ _ _).trans (gblk_at m c t a l)) y

theorem arr6 : (D m c).arrAt 6 (Q m).N = both (stepOf m c) := by
  refine (D m c).arrAt_eq_of_covers 6 _ (cov6 m) fun t hf y => ?_
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : (D m c).arrAt 7 (Q m).N = both (momOf m c) := by
  refine (D m c).arrAt_eq_of_covers 7 _ (cov7 m) fun t hf y => ?_
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : (D m c).arrAt 8 (Q m).N = both (varOf m c) := by
  refine (D m c).arrAt_eq_of_covers 8 _ (cov8 m) fun t hf y => ?_
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v0_0) = both (joined m c)
      ∧ r.2.mem (kl c main_v0_1) = both (stepOf m c)
      ∧ r.2.mem (kl c main_v0_2) = both (momOf m c)
      ∧ r.2.mem (kl c main_v0_3) = both (varOf m c)
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6) :=
  (θ_run defs _ _).mono (fun r h c => ⟨((h c).1 5).trans (arr5 m c),
      ((h c).1 6).trans (arr6 m c),
      ((h c).1 7).trans (arr7 m c),
      ((h c).1 8).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (V_main_arg5 m c),
      ((h c).2 main_arg6 (by decide : bare main_arg6)).trans (V_main_arg6 m c)⟩)
    (run_main m ρ (ok m))

theorem ref_lay (p : Vec Ideal S1x512x2048 .f32) (f : Fin 512 → Fin 2048 → EReal) (h : ∀ r l, p (ix3 0 r l) = f r l) : p = both f := by
  funext y
  idx_vars y
  obtain rfl : y0 = 0 := Subsingleton.elim _ _
  exact h y1 y2

theorem ref_joined (r : Fin 512) (l : Fin 2048) : Cert.AdamRowRefIdeal.Read.val_main_v7 (F := Ideal) (m (kl c main_arg3)) (m (kl c main_arg4)) (m (kl c main_arg5)) (ix3 0 r l) = joined m c r l := by
  refine (ref_g _ _ _ r l).trans ?_
  unfold joined
  rw [word_eq m c]

theorem same : Cert.algebraic_AdamRowIdeal_AdamRowRefIdeal := by
  pair_intro
  · run_from Cert.Proof.AdamRow.run m g
  · run_from ref_run m' g'
    · exact ref_lay _ _ fun r l => ref_joined m c r l
    · exact ref_lay _ _ fun r l => (ref_step _ _ _ _ _ _ _ _).trans (congrArg _ (ref_joined m c r l))
    · exact ref_lay _ _ fun r l => (ref_mom _ _ _ _ _ _).trans (congrArg _ (ref_joined m c r l))
    · exact ref_lay _ _ fun r l => (ref_var _ _ _ _ _ _).trans (congrArg _ (ref_joined m c r l))

end Cert.Proof.AdamRow

end
-- ==== Proof.AdamUp.lean ====
/- The optimiser's step of the first layer of one of two stacked weights, the gradient in two halves of its rows: `ffn_w1` and `ffn_w3`. -/
module

public import proofs.«01_k».proof.Proof.AdamCol
public import proofs.«01_k».proof.Proof.Gen.AdamUpIdeal.Frame
public import proofs.«01_k».proof.Proof.Gen.AdamUpRefIdeal.Read
public import proofs.«01_k».proof.Proof.Gen.AdamUp.Frame

@[expose] public section

set_option maxRecDepth 16384
set_option maxHeartbeats 1000000

noncomputable section

namespace Cert.Proof.AdamUp

open Idealize.ShloMosaic Idealize.ShloMosaic.TcCoe Idealize.SL.Sem Memref.IsWhole
open Cert.Proof.AdamCol (mom var step select_eq pick own_sel other_sel)

section Reference

open Cert.AdamUpRefIdeal Cert.AdamUpRefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v36) = val_main_v36 (F := Ideal) (m (rl c main_arg3)) (m (rl c main_arg4)) (m (rl c main_arg5)) (m (rl c main_arg7))
      ∧ r.2.mem (rl c main_v38) = val_main_v38 (F := Ideal) (m (rl c main_arg0)) (m (rl c main_arg1)) (m (rl c main_arg2)) (m (rl c main_arg3)) (m (rl c main_arg4)) (m (rl c main_arg5)) (m (rl c main_arg8))
      ∧ r.2.mem (rl c main_v40) = val_main_v40 (F := Ideal) (m (rl c main_arg1)) (m (rl c main_arg3)) (m (rl c main_arg4)) (m (rl c main_arg5)) (m (rl c main_arg9))
      ∧ r.2.mem (rl c main_v42) = val_main_v42 (F := Ideal) (m (rl c main_arg2)) (m (rl c main_arg3)) (m (rl c main_arg4)) (m (rl c main_arg5)) (m (rl c main_arg10))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6)
      ∧ r.2.mem (rl c main_arg7) = m (rl c main_arg7)
      ∧ r.2.mem (rl c main_arg8) = m (rl c main_arg8)
      ∧ r.2.mem (rl c main_arg9) = m (rl c main_arg9)
      ∧ r.2.mem (rl c main_arg10) = m (rl c main_arg10) :=
  (θ_run _ _ _).mono (fun r h c => ⟨(h c).1.trans (val_main_v36_eq _ _ _ _), (h c).2.1.trans (val_main_v38_eq _ _ _ _ _ _ _), (h c).2.2.1.trans (val_main_v40_eq _ _ _ _ _), (h c).2.2.2.1.trans (val_main_v42_eq _ _ _ _ _), (h c).2.2.2.2⟩)
    (Cert.AdamUpRefIdeal.Value.run m ρ)

variable (x0 x1 x2 : Vec Ideal S2x2048x1408 .f32) (x3 x4 : Vec Ideal S1024x1408 .f32) (x5 : Vec Ideal S1 .i32) (r : Fin 2048) (l : Fin 1408)

theorem ref_g : val_main_v8 (F := Ideal) x3 x4 x5 (ix3 0 r l)
      = if BitVec.ofNat 32 (r.val / 1024) = x5 (ix1 0) then x3 (ix2 ⟨r.val % 1024, by omega⟩ l) else x4 (ix2 ⟨r.val % 1024, by omega⟩ l) := by
  pointwise [val_main_v8, val_main_v7]
  by_cases h : r.val < 1024
  · rw [dif_pos h]
    pointwise [val_main_v3, val_main_call0_v0, val_main_v2, val_main_v1, val_main_c]
    rw [select_eq, (by omega : r.val / 1024 = 0), (Fin.ext (by show r.val % 1024 = r.val; omega) : (⟨r.val % 1024, by omega⟩ : Fin 1024) = ⟨r.val, h⟩)]
  · rw [dif_neg h]
    pointwise [val_main_v6, val_main_call1_v0, val_main_v5, val_main_v4, val_main_c_0]
    rw [select_eq, (by omega : r.val / 1024 = 1), (Fin.ext (by show r.val % 1024 = r.val - 1024; omega) : (⟨r.val % 1024, by omega⟩ : Fin 1024) = ⟨r.val - 1024, by omega⟩)]

theorem ref0 : val_main_v0 (F := Ideal) x0 (ix3 0 r l) = x0 (ix3 0 r l) := by pointwise [val_main_v0]

theorem ref1 : val_main_v9 (F := Ideal) x1 (ix3 0 r l) = x1 (ix3 0 r l) := by pointwise [val_main_v9]

theorem ref2 : val_main_v10 (F := Ideal) x2 (ix3 0 r l) = x2 (ix3 0 r l) := by pointwise [val_main_v10]

theorem ref_mom : val_main_v15 (F := Ideal) x1 x3 x4 x5 (ix3 0 r l) = mom (x1 (ix3 0 r l)) (val_main_v8 (F := Ideal) x3 x4 x5 (ix3 0 r l)) := by
  rw [← ref1 x1 r l]
  rfl

theorem ref_var : val_main_v21 (F := Ideal) x2 x3 x4 x5 (ix3 0 r l) = var (x2 (ix3 0 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 0 r l)) (x1 (ix3 0 r l)) (x2 (ix3 0 r l)) (val_main_v8 (F := Ideal) x3 x4 x5 (ix3 0 r l)) := by
  rw [← ref0 x0 r l, ← ref1 x1 r l, ← ref2 x2 r l]
  rfl

end Reference

open Cert.AdamUpIdeal Cert.AdamUpIdeal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem inside (n : Nat) (h : n < 4) : ∀ a : Fin 2, ((![n, 0] : Fin 2 → Nat) a + 1) * S256x1408.size a ≤ S1024x1408.size a := by
  interval_cases n <;> decide

theorem point_lt : (BitVec.ofNat 32 (i 1).val).toNat < 4 := by
  have h : (i 1).val < 4 := (i 1).isLt
  rw [BitVec.toNat_ofNat]
  omega

theorem ok_all : ok0 pf := by
  refine ⟨fun i => ⟨?_, .inl rfl⟩, fun i => ⟨?_, .inl rfl⟩⟩ <;> [rw [own_map]; rw [other_map]] <;>
    (refine inside _ ?_; have := point_lt i; split <;> omega)

end Maps

theorem ok : Ok m := ok_all _

theorem okBits (m : (ℓ : Loc Cert.AdamUp.nD Cert.AdamUp.τ Cert.AdamUp.sig) → Buf (Elt Bits) ℓ) : Cert.AdamUp.Gen.Ok m :=
  ok_all (F := Bits) (Cert.AdamUp.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 256) (l : Fin 1408)

/-- The blocks at a point: of the arguments, of the gradient, and what is written. -/
abbrev ib (k : Fin (Q m).W) := iblk m (ok m) c k t
abbrev gblk : Vec Ideal S256x1408 .f32 := k0_pay5 (F := Ideal) (grid0.coords t) (word m) (ib m c t 3) (ib m c t 4)

theorem cov5 : ((Q m).win 5).CoversWhere (fun β => β ⟨0, (by decide : 0 < 3)⟩ = 0) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 0) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 0) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 0) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![0, t.val, 0] := by decide +kernel

abbrev row : Fin 2048 := ⟨t.val * 256 + a.val, by have : t.val < 8 := t.isLt; omega⟩
abbrev low : Fin 1024 := ⟨t.val % 4 * 256 + a.val, by omega⟩

theorem emb : (((Q m).win 0).rect t).emb (ix3 0 a l : S1x256x1408.Idx) = (ix3 0 (row m t a) l : S2x2048x1408.Idx) := by
  funext b
  apply Fin.ext
  refine (((Q m).win 0).rect_emb_val t (ix3 0 a l : S1x256x1408.Idx) b).trans ?_
  show cc0_transform_0 (grid0.coords t) b * _ + _ = _
  rw [idx t]
  fin_cases b
  · rfl
  · rfl
  · exact (congrArg (· + l.val) (Nat.zero_mul _)).trans (Nat.zero_add _)

abbrev a0 (r : Fin 2048) (l : Fin 1408) : EReal := m (kl c main_arg0) (ix3 0 r l)
theorem b0 : ib m c t 0 (ix3 0 a l) = a0 m c (row m t a) l :=
  (congrArg (V m c main_arg0) (emb m t a l)).trans (congrFun (V_main_arg0 m c) _)
abbrev a1 (r : Fin 2048) (l : Fin 1408) : EReal := m (kl c main_arg1) (ix3 0 r l)
theorem b1 : ib m c t 1 (ix3 0 a l) = a1 m c (row m t a) l :=
  (congrArg (V m c main_arg1) (emb m t a l)).trans (congrFun (V_main_arg1 m c) _)
abbrev a2 (r : Fin 2048) (l : Fin 1408) : EReal := m (kl c main_arg2) (ix3 0 r l)
theorem b2 : ib m c t 2 (ix3 0 a l) = a2 m c (row m t a) l :=
  (congrArg (V m c main_arg2) (emb m t a l)).trans (congrFun (V_main_arg2 m c) _)

theorem coords_at : ∀ t : Fin grid0.N, (BitVec.ofNat 32 (grid0.coords t 0).val) = BitVec.ofNat 32 (t.val / 4) ∧ (BitVec.ofNat 32 (grid0.coords t 1).val).toNat = t.val % 4 := by decide +kernel

theorem emb3 (h : BitVec.ofNat 32 (grid0.coords t 0).val = word m) : (((Q m).win 3).rect t).emb (ix2 a l : S256x1408.Idx) = (ix2 (low m t a) l : S1024x1408.Idx) := by
  funext b
  apply Fin.ext
  refine (((Q m).win 3).rect_emb_val t (ix2 a l : S256x1408.Idx) b).trans ?_
  show cc0_transform_3 inb_S1_S1_0 numel1_S1 (tbl m) (grid0.coords t) b * _ + _ = _
  rw [own_map, if_pos h, (coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S256x1408.Idx) = (ix2 (low m t a) l : S1024x1408.Idx) := by
  funext b
  apply Fin.ext
  refine (((Q m).win 4).rect_emb_val t (ix2 a l : S256x1408.Idx) b).trans ?_
  show cc0_transform_4 inb_S1_S1_0 numel1_S1 (tbl m) (grid0.coords t) b * _ + _ = _
  rw [other_map, if_neg h, (coords_at t).2]
  fin_cases b
  · rfl
  · exact (congrArg (· + l.val) (Nat.zero_mul _)).trans (Nat.zero_add _)

/-- The halves joined: each is the device's own where the word names it, else the other's. -/
def joined (r : Fin 2048) (l : Fin 1408) : EReal :=
  if BitVec.ofNat 32 (r.val / 1024) = word m then m (kl c main_arg3) (ix2 ⟨r.val % 1024, by omega⟩ l) else m (kl c main_arg4) (ix2 ⟨r.val % 1024, by omega⟩ l)

theorem gblk_at : gblk m c t (ix2 a l) = joined m c (row m t a) l := by
  have ht : t.val < 8 := t.isLt
  have e : (row m t a).val / 1024 = t.val / 4 := by show (t.val * 256 + a.val) / 1024 = _; omega
  have e' : (⟨(row m t a).val % 1024, by omega⟩ : Fin 1024) = low m t a := Fin.ext (by show (t.val * 256 + a.val) % 1024 = t.val % 4 * 256 + a.val; omega)
  unfold joined
  rw [e, e', ← (coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

section Payloads

variable (i : grid0.Coords) (v : Elt Ideal .i32) (x3 x4 : Vec Ideal S256x1408 .f32) (x0 x1 x2 : Vec Ideal S1x256x1408 .f32)

theorem up (x : Vec Ideal S256x1408 .f32) : k0_pay1 x (ix3 0 a l) = x (ix2 a l) := by
  unfold k0_pay1
  pointwise

theorem down : shapeCast S256x1408 x0 Cert.AdamUpIdeal.Gen.facts.shapeCasts_S1x256x1408_S256x1408 (ix2 a l) = x0 (ix3 0 a l) := by pointwise

abbrev g5 := k0_pay5 (F := Ideal) i v x3 x4

theorem pay5 : k0_pay1 (g5 i v x3 x4) (ix3 0 a l) = g5 i v x3 x4 (ix2 a l) := up a l _

theorem pay6 : k0_pay2 (k0_pay8 (F := Ideal) i v x3 x4 x0 x1 x2) (ix3 0 a l) = step (x0 (ix3 0 a l)) (x1 (ix3 0 a l)) (x2 (ix3 0 a l)) (g5 i v x3 x4 (ix2 a l)) := by
  rw [← down a l x0, ← down a l x1, ← down a l x2]
  exact up a l _

theorem pay7 : k0_pay3 (k0_pay6 (F := Ideal) i v x3 x4 x1) (ix3 0 a l) = mom (x1 (ix3 0 a l)) (g5 i v x3 x4 (ix2 a l)) := by
  rw [← down a l x1]
  exact up a l _

theorem pay8 : k0_pay4 (k0_pay7 (F := Ideal) i v x3 x4 x2) (ix3 0 a l) = var (x2 (ix3 0 a l)) (g5 i v x3 x4 (ix2 a l)) := by
  rw [← down a l x2]
  exact up a l _

end Payloads

abbrev stepOf (r : Fin 2048) (l : Fin 1408) : EReal := step (a0 m c r l) (a1 m c r l) (a2 m c r l) (joined m c r l)
abbrev momOf (r : Fin 2048) (l : Fin 1408) : EReal := mom (a1 m c r l) (joined m c r l)
abbrev varOf (r : Fin 2048) (l : Fin 1408) : EReal := var (a2 m c r l) (joined m c r l)

/-- An array from the entries of a layer. -/
abbrev both (f : Fin 2048 → Fin 1408 → EReal) : Vec Ideal S2x2048x1408 .f32 := fun y => f (y 1) (y 2)
abbrev over (f : Fin 2048 → Fin 1408 → EReal) (A : Vec Ideal S2x2048x1408 .f32) : Vec Ideal S2x2048x1408 .f32 := fun y => if (y 0).val / 1 = 0 then both f y else A y

theorem blk_eq (f : Fin 2048 → Fin 1408 → EReal) (v : Vec Ideal S1x256x1408 .f32) (h : ∀ a l, v (ix3 0 a l) = f (row m t a) l) (y : S1x256x1408.Idx) : v y = both f ((((Q m).win 0).rect t).emb y) := by
  idx_vars y
  obtain rfl : y0 = 0 := Subsingleton.elim _ _
  rw [emb]
  exact h y1 y2

theorem arr5 : (D m c).arrAt 5 (Q m).N = over (joined m c) (m (kl c main_arg7)) := by
  refine Eq.trans ((D m c).arrAt_eq_of_coversWhere 5 (both (joined m c)) (fun β => β ⟨0, (by decide : 0 < 3)⟩ = 0) (cov5 m) (fun t hf y => ?_) (fun j => Iff.rfl)) (congrArg (over (joined m c)) ((A_eq m (ok m) c 5).trans ?_))
  swap
  · show V m c main_v0_0 = _
    unfold V hostOps0
    after_results
    rfl
  rw [after0_5, out5]
  exact blk_eq m t (joined m c) (k0_pay1 (gblk m c t)) (fun a l => (pay5 a l _ _ _ _).trans (gblk_at m c t a l)) y

theorem arr6 : (D m c).arrAt 6 (Q m).N = over (stepOf m c) (m (kl c main_arg8)) := by
  refine Eq.trans ((D m c).arrAt_eq_of_coversWhere 6 (both (stepOf m c)) (fun β => β ⟨0, (by decide : 0 < 3)⟩ = 0) (cov6 m) (fun t hf y => ?_) (fun j => Iff.rfl)) (congrArg (over (stepOf m c)) ((A_eq m (ok m) c 6).trans ?_))
  swap
  · show V m c main_v0_1 = _
    unfold V hostOps0
    after_results
    rfl
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : (D m c).arrAt 7 (Q m).N = over (momOf m c) (m (kl c main_arg9)) := by
  refine Eq.trans ((D m c).arrAt_eq_of_coversWhere 7 (both (momOf m c)) (fun β => β ⟨0, (by decide : 0 < 3)⟩ = 0) (cov7 m) (fun t hf y => ?_) (fun j => Iff.rfl)) (congrArg (over (momOf m c)) ((A_eq m (ok m) c 7).trans ?_))
  swap
  · show V m c main_v0_2 = _
    unfold V hostOps0
    after_results
    rfl
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : (D m c).arrAt 8 (Q m).N = over (varOf m c) (m (kl c main_arg10)) := by
  refine Eq.trans ((D m c).arrAt_eq_of_coversWhere 8 (both (varOf m c)) (fun β => β ⟨0, (by decide : 0 < 3)⟩ = 0) (cov8 m) (fun t hf y => ?_) (fun j => Iff.rfl)) (congrArg (over (varOf m c)) ((A_eq m (ok m) c 8).trans ?_))
  swap
  · show V m c main_v0_3 = _
    unfold V hostOps0
    after_results
    rfl
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v0_0) = over (joined m c) (m (kl c main_arg7))
      ∧ r.2.mem (kl c main_v0_1) = over (stepOf m c) (m (kl c main_arg8))
      ∧ r.2.mem (kl c main_v0_2) = over (momOf m c) (m (kl c main_arg9))
      ∧ r.2.mem (kl c main_v0_3) = over (varOf m c) (m (kl c main_arg10))
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6)
      ∧ r.2.mem (kl c main_arg7) = m (kl c main_arg7)
      ∧ r.2.mem (kl c main_arg8) = m (kl c main_arg8)
      ∧ r.2.mem (kl c main_arg9) = m (kl c main_arg9)
      ∧ r.2.mem (kl c main_arg10) = m (kl c main_arg10) :=
  (θ_run defs _ _).mono (fun r h c => ⟨((h c).1 5).trans (arr5 m c),
      ((h c).1 6).trans (arr6 m c),
      ((h c).1 7).trans (arr7 m c),
      ((h c).1 8).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (V_main_arg5 m c),
      ((h c).2 main_arg6 (by decide : bare main_arg6)).trans (V_main_arg6 m c),
      ((h c).2 main_arg7 (by decide : bare main_arg7)).trans (V_main_arg7 m c),
      ((h c).2 main_arg8 (by decide : bare main_arg8)).trans (V_main_arg8 m c),
      ((h c).2 main_arg9 (by decide : bare main_arg9)).trans (V_main_arg9 m c),
      ((h c).2 main_arg10 (by decide : bare main_arg10)).trans (V_main_arg10 m c)⟩)
    (run_main m ρ (ok m))

/-- A layer put before the second layer of another array, entry by entry. -/
theorem ref_lay (p : Vec Ideal Cert.AdamUpRefIdeal.S1x2048x1408 .f32) (A : Vec Ideal S2x2048x1408 .f32) (f : Fin 2048 → Fin 1408 → EReal) (h : ∀ r l, p (ix3 0 r l) = f r l) :
    (concatenate S2x2048x1408 0 [⟨Cert.AdamUpRefIdeal.S1x2048x1408, p⟩, ⟨Cert.AdamUpRefIdeal.S1x2048x1408, extractStridedSlice Cert.AdamUpRefIdeal.S1x2048x1408 ![1, 0, 0] A Cert.AdamUpRefIdeal.Gen.facts.slices_S2x2048x1408_S1x2048x1408_1_0_0⟩]
      Cert.AdamUpRefIdeal.Gen.facts.concatenates_S1x2048x1408_S1x2048x1408_S2x2048x1408_d0 : Vec Ideal S2x2048x1408 .f32) = over f A := by
  funext y
  idx_vars y
  rcases (by omega : y0 = 0 ∨ y0 = 1) with rfl | rfl
  · pointwise
    exact (h y1 y2).trans (if_pos (show (0 : Fin 2).val / 1 = 0 by decide)).symm
  · pointwise
    exact (if_neg (show ¬(1 : Fin 2).val / 1 = 0 by decide)).symm

theorem ref_joined (r : Fin 2048) (l : Fin 1408) : Cert.AdamUpRefIdeal.Read.val_main_v8 (F := Ideal) (m (kl c main_arg3)) (m (kl c main_arg4)) (m (kl c main_arg5)) (ix3 0 r l) = joined m c r l := by
  refine (ref_g _ _ _ r l).trans ?_
  unfold joined
  rw [word_eq m c]

theorem same : Cert.algebraic_AdamUpIdeal_AdamUpRefIdeal := by
  pair_intro
  · run_from Cert.Proof.AdamUp.run m g
  · run_from ref_run m' g'
    · exact ref_lay _ _ _ fun r l => ref_joined m c r l
    · exact ref_lay _ _ _ fun r l => (ref_step _ _ _ _ _ _ _ _).trans (congrArg _ (ref_joined m c r l))
    · exact ref_lay _ _ _ fun r l => (ref_mom _ _ _ _ _ _).trans (congrArg _ (ref_joined m c r l))
    · exact ref_lay _ _ _ fun r l => (ref_var _ _ _ _ _ _).trans (congrArg _ (ref_joined m c r l))

end Cert.Proof.AdamUp

end
-- ==== Proof.AdamDown.lean ====
/- The optimiser's step of the first layer of one of two stacked weights, the gradient in two halves of its columns: `ffn_w2`. -/
module

public import proofs.«01_k».proof.Proof.AdamCol
public import proofs.«01_k».proof.Proof.Gen.AdamDownIdeal.Frame
public import proofs.«01_k».proof.Proof.Gen.AdamDownRefIdeal.Read
public import proofs.«01_k».proof.Proof.Gen.AdamDown.Frame

@[expose] public section

set_option maxRecDepth 16384
set_option maxHeartbeats 1000000

noncomputable section

namespace Cert.Proof.AdamDown

open Idealize.ShloMosaic Idealize.ShloMosaic.TcCoe Idealize.SL.Sem Memref.IsWhole
open Cert.Proof.AdamCol (mom var step select_eq pick own_sel other_sel)

section Reference

open Cert.AdamDownRefIdeal Cert.AdamDownRefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v36) = val_main_v36 (F := Ideal) (m (rl c main_arg3)) (m (rl c main_arg4)) (m (rl c main_arg5)) (m (rl c main_arg7))
      ∧ r.2.mem (rl c main_v38) = val_main_v38 (F := Ideal) (m (rl c main_arg0)) (m (rl c main_arg1)) (m (rl c main_arg2)) (m (rl c main_arg3)) (m (rl c main_arg4)) (m (rl c main_arg5)) (m (rl c main_arg8))
      ∧ r.2.mem (rl c main_v40) = val_main_v40 (F := Ideal) (m (rl c main_arg1)) (m (rl c main_arg3)) (m (rl c main_arg4)) (m (rl c main_arg5)) (m (rl c main_arg9))
      ∧ r.2.mem (rl c main_v42) = val_main_v42 (F := Ideal) (m (rl c main_arg2)) (m (rl c main_arg3)) (m (rl c main_arg4)) (m (rl c main_arg5)) (m (rl c main_arg10))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6)
      ∧ r.2.mem (rl c main_arg7) = m (rl c main_arg7)
      ∧ r.2.mem (rl c main_arg8) = m (rl c main_arg8)
      ∧ r.2.mem (rl c main_arg9) = m (rl c main_arg9)
      ∧ r.2.mem (rl c main_arg10) = m (rl c main_arg10) :=
  (θ_run _ _ _).mono (fun r h c => ⟨(h c).1.trans (val_main_v36_eq _ _ _ _), (h c).2.1.trans (val_main_v38_eq _ _ _ _ _ _ _), (h c).2.2.1.trans (val_main_v40_eq _ _ _ _ _), (h c).2.2.2.1.trans (val_main_v42_eq _ _ _ _ _), (h c).2.2.2.2⟩)
    (Cert.AdamDownRefIdeal.Value.run m ρ)

variable (x0 x1 x2 : Vec Ideal S2x1408x2048 .f32) (x3 x4 : Vec Ideal S1408x1024 .f32) (x5 : Vec Ideal S1 .i32) (r : Fin 1408) (l : Fin 2048)

theorem ref_g : val_main_v8 (F := Ideal) x3 x4 x5 (ix3 0 r l)
      = if BitVec.ofNat 32 (l.val / 1024) = x5 (ix1 0) then x3 (ix2 r ⟨l.val % 1024, by omega⟩) else x4 (ix2 r ⟨l.val % 1024, by omega⟩) := by
  pointwise [val_main_v8, val_main_v7]
  by_cases h : l.val < 1024
  · rw [dif_pos h]
    pointwise [val_main_v3, val_main_call0_v0, val_main_v2, val_main_v1, val_main_c]
    rw [select_eq, (by omega : l.val / 1024 = 0), (Fin.ext (by show l.val % 1024 = l.val; omega) : (⟨l.val % 1024, by omega⟩ : Fin 1024) = ⟨l.val, h⟩)]
  · rw [dif_neg h]
    pointwise [val_main_v6, val_main_call1_v0, val_main_v5, val_main_v4, val_main_c_0]
    rw [select_eq, (by omega : l.val / 1024 = 1), (Fin.ext (by show l.val % 1024 = l.val - 1024; omega) : (⟨l.val % 1024, by omega⟩ : Fin 1024) = ⟨l.val - 1024, by omega⟩)]

theorem ref0 : val_main_v0 (F := Ideal) x0 (ix3 0 r l) = x0 (ix3 0 r l) := by pointwise [val_main_v0]

theorem ref1 : val_main_v9 (F := Ideal) x1 (ix3 0 r l) = x1 (ix3 0 r l) := by pointwise [val_main_v9]

theorem ref2 : val_main_v10 (F := Ideal) x2 (ix3 0 r l) = x2 (ix3 0 r l) := by pointwise [val_main_v10]

theorem ref_mom : val_main_v15 (F := Ideal) x1 x3 x4 x5 (ix3 0 r l) = mom (x1 (ix3 0 r l)) (val_main_v8 (F := Ideal) x3 x4 x5 (ix3 0 r l)) := by
  rw [← ref1 x1 r l]
  rfl

theorem ref_var : val_main_v21 (F := Ideal) x2 x3 x4 x5 (ix3 0 r l) = var (x2 (ix3 0 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 0 r l)) (x1 (ix3 0 r l)) (x2 (ix3 0 r l)) (val_main_v8 (F := Ideal) x3 x4 x5 (ix3 0 r l)) := by
  rw [← ref0 x0 r l, ← ref1 x1 r l, ← ref2 x2 r l]
  rfl

end Reference

open Cert.AdamDownIdeal Cert.AdamDownIdeal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem inside (n : Nat) (h : n < 4) : ∀ a : Fin 2, ((![n, 0] : Fin 2 → Nat) a + 1) * S352x1024.size a ≤ S1408x1024.size a := by
  interval_cases n <;> decide

theorem point_lt : (BitVec.ofNat 32 (i 1).val).toNat < 4 := by
  have h : (i 1).val < 4 := (i 1).isLt
  rw [BitVec.toNat_ofNat]
  omega

theorem ok_all : ok0 pf := by
  refine ⟨fun i => ⟨?_, .inl rfl⟩, fun i => ⟨?_, .inl rfl⟩⟩ <;> [rw [own_map]; rw [other_map]] <;>
    (refine inside _ ?_; have := point_lt i; split <;> omega)

end Maps

theorem ok : Ok m := ok_all _

theorem okBits (m : (ℓ : Loc Cert.AdamDown.nD Cert.AdamDown.τ Cert.AdamDown.sig) → Buf (Elt Bits) ℓ) : Cert.AdamDown.Gen.Ok m :=
  ok_all (F := Bits) (Cert.AdamDown.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 352) (l : Fin 1024)

/-- The blocks at a point: of the arguments, of the gradient, and what is written. -/
abbrev ib (k : Fin (Q m).W) := iblk m (ok m) c k t
abbrev gblk : Vec Ideal S352x1024 .f32 := k0_pay5 (F := Ideal) (grid0.coords t) (word m) (ib m c t 3) (ib m c t 4)

theorem cov5 : ((Q m).win 5).CoversWhere (fun β => β ⟨0, (by decide : 0 < 3)⟩ = 0) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 0) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 0) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 0) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![0, t.val % 4, t.val / 4] := by decide +kernel

abbrev row : Fin 1408 := ⟨t.val % 4 * 352 + a.val, by have : t.val < 8 := t.isLt; omega⟩
abbrev lane : Fin 2048 := ⟨t.val / 4 * 1024 + l.val, by have : t.val < 8 := t.isLt; omega⟩

theorem emb : (((Q m).win 0).rect t).emb (ix3 0 a l : S1x352x1024.Idx) = (ix3 0 (row m t a) (lane m t l) : S2x1408x2048.Idx) := by
  funext b
  apply Fin.ext
  refine (((Q m).win 0).rect_emb_val t (ix3 0 a l : S1x352x1024.Idx) b).trans ?_
  show cc0_transform_0 (grid0.coords t) b * _ + _ = _
  rw [idx t]
  fin_cases b
  · rfl
  · rfl
  · exact rfl

abbrev a0 (r : Fin 1408) (l : Fin 2048) : EReal := m (kl c main_arg0) (ix3 0 r l)
theorem b0 : ib m c t 0 (ix3 0 a l) = a0 m c (row m t a) (lane m t l) :=
  (congrArg (V m c main_arg0) (emb m t a l)).trans (congrFun (V_main_arg0 m c) _)
abbrev a1 (r : Fin 1408) (l : Fin 2048) : EReal := m (kl c main_arg1) (ix3 0 r l)
theorem b1 : ib m c t 1 (ix3 0 a l) = a1 m c (row m t a) (lane m t l) :=
  (congrArg (V m c main_arg1) (emb m t a l)).trans (congrFun (V_main_arg1 m c) _)
abbrev a2 (r : Fin 1408) (l : Fin 2048) : EReal := m (kl c main_arg2) (ix3 0 r l)
theorem b2 : ib m c t 2 (ix3 0 a l) = a2 m c (row m t a) (lane m t l) :=
  (congrArg (V m c main_arg2) (emb m t a l)).trans (congrFun (V_main_arg2 m c) _)

theorem coords_at : ∀ t : Fin grid0.N, (BitVec.ofNat 32 (grid0.coords t 0).val) = BitVec.ofNat 32 (t.val / 4) ∧ (BitVec.ofNat 32 (grid0.coords t 1).val).toNat = t.val % 4 := by decide +kernel

theorem emb3 (h : BitVec.ofNat 32 (grid0.coords t 0).val = word m) : (((Q m).win 3).rect t).emb (ix2 a l : S352x1024.Idx) = (ix2 (row m t a) l : S1408x1024.Idx) := by
  funext b
  apply Fin.ext
  refine (((Q m).win 3).rect_emb_val t (ix2 a l : S352x1024.Idx) b).trans ?_
  show cc0_transform_3 inb_S1_S1_0 numel1_S1 (tbl m) (grid0.coords t) b * _ + _ = _
  rw [own_map, if_pos h, (coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S352x1024.Idx) = (ix2 (row m t a) l : S1408x1024.Idx) := by
  funext b
  apply Fin.ext
  refine (((Q m).win 4).rect_emb_val t (ix2 a l : S352x1024.Idx) b).trans ?_
  show cc0_transform_4 inb_S1_S1_0 numel1_S1 (tbl m) (grid0.coords t) b * _ + _ = _
  rw [other_map, if_neg h, (coords_at t).2]
  fin_cases b
  · rfl
  · exact (congrArg (· + l.val) (Nat.zero_mul _)).trans (Nat.zero_add _)

/-- The halves joined: each is the device's own where the word names it, else the other's. -/
def joined (r : Fin 1408) (l : Fin 2048) : EReal :=
  if BitVec.ofNat 32 (l.val / 1024) = word m then m (kl c main_arg3) (ix2 r ⟨l.val % 1024, by omega⟩) else m (kl c main_arg4) (ix2 r ⟨l.val % 1024, by omega⟩)

theorem gblk_at : gblk m c t (ix2 a l) = joined m c (row m t a) (lane m t l) := by
  have ht : t.val < 8 := t.isLt
  have e : (lane m t l).val / 1024 = t.val / 4 := by show (t.val / 4 * 1024 + l.val) / 1024 = _; omega
  have e' : (⟨(lane m t l).val % 1024, by omega⟩ : Fin 1024) = l := Fin.ext (by show (t.val / 4 * 1024 + l.val) % 1024 = l.val; omega)
  unfold joined
  rw [e, e', ← (coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

section Payloads

variable (i : grid0.Coords) (v : Elt Ideal .i32) (x3 x4 : Vec Ideal S352x1024 .f32) (x0 x1 x2 : Vec Ideal S1x352x1024 .f32)

theorem up (x : Vec Ideal S352x1024 .f32) : k0_pay1 x (ix3 0 a l) = x (ix2 a l) := by
  unfold k0_pay1
  pointwise

theorem down : shapeCast S352x1024 x0 Cert.AdamDownIdeal.Gen.facts.shapeCasts_S1x352x1024_S352x1024 (ix2 a l) = x0 (ix3 0 a l) := by pointwise

abbrev g5 := k0_pay5 (F := Ideal) i v x3 x4

theorem pay5 : k0_pay1 (g5 i v x3 x4) (ix3 0 a l) = g5 i v x3 x4 (ix2 a l) := up a l _

theorem pay6 : k0_pay2 (k0_pay8 (F := Ideal) i v x3 x4 x0 x1 x2) (ix3 0 a l) = step (x0 (ix3 0 a l)) (x1 (ix3 0 a l)) (x2 (ix3 0 a l)) (g5 i v x3 x4 (ix2 a l)) := by
  rw [← down a l x0, ← down a l x1, ← down a l x2]
  exact up a l _

theorem pay7 : k0_pay3 (k0_pay6 (F := Ideal) i v x3 x4 x1) (ix3 0 a l) = mom (x1 (ix3 0 a l)) (g5 i v x3 x4 (ix2 a l)) := by
  rw [← down a l x1]
  exact up a l _

theorem pay8 : k0_pay4 (k0_pay7 (F := Ideal) i v x3 x4 x2) (ix3 0 a l) = var (x2 (ix3 0 a l)) (g5 i v x3 x4 (ix2 a l)) := by
  rw [← down a l x2]
  exact up a l _

end Payloads

abbrev stepOf (r : Fin 1408) (l : Fin 2048) : EReal := step (a0 m c r l) (a1 m c r l) (a2 m c r l) (joined m c r l)
abbrev momOf (r : Fin 1408) (l : Fin 2048) : EReal := mom (a1 m c r l) (joined m c r l)
abbrev varOf (r : Fin 1408) (l : Fin 2048) : EReal := var (a2 m c r l) (joined m c r l)

/-- An array from the entries of a layer. -/
abbrev both (f : Fin 1408 → Fin 2048 → EReal) : Vec Ideal S2x1408x2048 .f32 := fun y => f (y 1) (y 2)
abbrev over (f : Fin 1408 → Fin 2048 → EReal) (A : Vec Ideal S2x1408x2048 .f32) : Vec Ideal S2x1408x2048 .f32 := fun y => if (y 0).val / 1 = 0 then both f y else A y

theorem blk_eq (f : Fin 1408 → Fin 2048 → EReal) (v : Vec Ideal S1x352x1024 .f32) (h : ∀ a l, v (ix3 0 a l) = f (row m t a) (lane m t l)) (y : S1x352x1024.Idx) : v y = both f ((((Q m).win 0).rect t).emb y) := by
  idx_vars y
  obtain rfl : y0 = 0 := Subsingleton.elim _ _
  rw [emb]
  exact h y1 y2

theorem arr5 : (D m c).arrAt 5 (Q m).N = over (joined m c) (m (kl c main_arg7)) := by
  refine Eq.trans ((D m c).arrAt_eq_of_coversWhere 5 (both (joined m c)) (fun β => β ⟨0, (by decide : 0 < 3)⟩ = 0) (cov5 m) (fun t hf y => ?_) (fun j => Iff.rfl)) (congrArg (over (joined m c)) ((A_eq m (ok m) c 5).trans ?_))
  swap
  · show V m c main_v0_0 = _
    unfold V hostOps0
    after_results
    rfl
  rw [after0_5, out5]
  exact blk_eq m t (joined m c) (k0_pay1 (gblk m c t)) (fun a l => (pay5 a l _ _ _ _).trans (gblk_at m c t a l)) y

theorem arr6 : (D m c).arrAt 6 (Q m).N = over (stepOf m c) (m (kl c main_arg8)) := by
  refine Eq.trans ((D m c).arrAt_eq_of_coversWhere 6 (both (stepOf m c)) (fun β => β ⟨0, (by decide : 0 < 3)⟩ = 0) (cov6 m) (fun t hf y => ?_) (fun j => Iff.rfl)) (congrArg (over (stepOf m c)) ((A_eq m (ok m) c 6).trans ?_))
  swap
  · show V m c main_v0_1 = _
    unfold V hostOps0
    after_results
    rfl
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : (D m c).arrAt 7 (Q m).N = over (momOf m c) (m (kl c main_arg9)) := by
  refine Eq.trans ((D m c).arrAt_eq_of_coversWhere 7 (both (momOf m c)) (fun β => β ⟨0, (by decide : 0 < 3)⟩ = 0) (cov7 m) (fun t hf y => ?_) (fun j => Iff.rfl)) (congrArg (over (momOf m c)) ((A_eq m (ok m) c 7).trans ?_))
  swap
  · show V m c main_v0_2 = _
    unfold V hostOps0
    after_results
    rfl
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : (D m c).arrAt 8 (Q m).N = over (varOf m c) (m (kl c main_arg10)) := by
  refine Eq.trans ((D m c).arrAt_eq_of_coversWhere 8 (both (varOf m c)) (fun β => β ⟨0, (by decide : 0 < 3)⟩ = 0) (cov8 m) (fun t hf y => ?_) (fun j => Iff.rfl)) (congrArg (over (varOf m c)) ((A_eq m (ok m) c 8).trans ?_))
  swap
  · show V m c main_v0_3 = _
    unfold V hostOps0
    after_results
    rfl
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v0_0) = over (joined m c) (m (kl c main_arg7))
      ∧ r.2.mem (kl c main_v0_1) = over (stepOf m c) (m (kl c main_arg8))
      ∧ r.2.mem (kl c main_v0_2) = over (momOf m c) (m (kl c main_arg9))
      ∧ r.2.mem (kl c main_v0_3) = over (varOf m c) (m (kl c main_arg10))
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6)
      ∧ r.2.mem (kl c main_arg7) = m (kl c main_arg7)
      ∧ r.2.mem (kl c main_arg8) = m (kl c main_arg8)
      ∧ r.2.mem (kl c main_arg9) = m (kl c main_arg9)
      ∧ r.2.mem (kl c main_arg10) = m (kl c main_arg10) :=
  (θ_run defs _ _).mono (fun r h c => ⟨((h c).1 5).trans (arr5 m c),
      ((h c).1 6).trans (arr6 m c),
      ((h c).1 7).trans (arr7 m c),
      ((h c).1 8).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (V_main_arg5 m c),
      ((h c).2 main_arg6 (by decide : bare main_arg6)).trans (V_main_arg6 m c),
      ((h c).2 main_arg7 (by decide : bare main_arg7)).trans (V_main_arg7 m c),
      ((h c).2 main_arg8 (by decide : bare main_arg8)).trans (V_main_arg8 m c),
      ((h c).2 main_arg9 (by decide : bare main_arg9)).trans (V_main_arg9 m c),
      ((h c).2 main_arg10 (by decide : bare main_arg10)).trans (V_main_arg10 m c)⟩)
    (run_main m ρ (ok m))

/-- A layer put before the second layer of another array, entry by entry. -/
theorem ref_lay (p : Vec Ideal Cert.AdamDownRefIdeal.S1x1408x2048 .f32) (A : Vec Ideal S2x1408x2048 .f32) (f : Fin 1408 → Fin 2048 → EReal) (h : ∀ r l, p (ix3 0 r l) = f r l) :
    (concatenate S2x1408x2048 0 [⟨Cert.AdamDownRefIdeal.S1x1408x2048, p⟩, ⟨Cert.AdamDownRefIdeal.S1x1408x2048, extractStridedSlice Cert.AdamDownRefIdeal.S1x1408x2048 ![1, 0, 0] A Cert.AdamDownRefIdeal.Gen.facts.slices_S2x1408x2048_S1x1408x2048_1_0_0⟩]
      Cert.AdamDownRefIdeal.Gen.facts.concatenates_S1x1408x2048_S1x1408x2048_S2x1408x2048_d0 : Vec Ideal S2x1408x2048 .f32) = over f A := by
  funext y
  idx_vars y
  rcases (by omega : y0 = 0 ∨ y0 = 1) with rfl | rfl
  · pointwise
    exact (h y1 y2).trans (if_pos (show (0 : Fin 2).val / 1 = 0 by decide)).symm
  · pointwise
    exact (if_neg (show ¬(1 : Fin 2).val / 1 = 0 by decide)).symm

theorem ref_joined (r : Fin 1408) (l : Fin 2048) : Cert.AdamDownRefIdeal.Read.val_main_v8 (F := Ideal) (m (kl c main_arg3)) (m (kl c main_arg4)) (m (kl c main_arg5)) (ix3 0 r l) = joined m c r l := by
  refine (ref_g _ _ _ r l).trans ?_
  unfold joined
  rw [word_eq m c]

theorem same : Cert.algebraic_AdamDownIdeal_AdamDownRefIdeal := by
  pair_intro
  · run_from Cert.Proof.AdamDown.run m g
  · run_from ref_run m' g'
    · exact ref_lay _ _ _ fun r l => ref_joined m c r l
    · exact ref_lay _ _ _ fun r l => (ref_step _ _ _ _ _ _ _ _).trans (congrArg _ (ref_joined m c r l))
    · exact ref_lay _ _ _ fun r l => (ref_mom _ _ _ _ _ _).trans (congrArg _ (ref_joined m c r l))
    · exact ref_lay _ _ _ fun r l => (ref_var _ _ _ _ _ _).trans (congrArg _ (ref_joined m c r l))

end Cert.Proof.AdamDown

end
-- ==== Proof.AdamGate.lean ====
/- The optimiser's step of the first layer of one of two stacked weights, the gradient in two halves of its columns: `ple_w_gate`. -/
module

public import proofs.«01_k».proof.Proof.AdamCol
public import proofs.«01_k».proof.Proof.Gen.AdamGateIdeal.Frame
public import proofs.«01_k».proof.Proof.Gen.AdamGateRefIdeal.Read
public import proofs.«01_k».proof.Proof.Gen.AdamGate.Frame

@[expose] public section

set_option maxRecDepth 16384
set_option maxHeartbeats 1000000

noncomputable section

namespace Cert.Proof.AdamGate

open Idealize.ShloMosaic Idealize.ShloMosaic.TcCoe Idealize.SL.Sem Memref.IsWhole
open Cert.Proof.AdamCol (mom var step select_eq pick own_sel other_sel)

section Reference

open Cert.AdamGateRefIdeal Cert.AdamGateRefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v36) = val_main_v36 (F := Ideal) (m (rl c main_arg3)) (m (rl c main_arg4)) (m (rl c main_arg5)) (m (rl c main_arg7))
      ∧ r.2.mem (rl c main_v38) = val_main_v38 (F := Ideal) (m (rl c main_arg0)) (m (rl c main_arg1)) (m (rl c main_arg2)) (m (rl c main_arg3)) (m (rl c main_arg4)) (m (rl c main_arg5)) (m (rl c main_arg8))
      ∧ r.2.mem (rl c main_v40) = val_main_v40 (F := Ideal) (m (rl c main_arg1)) (m (rl c main_arg3)) (m (rl c main_arg4)) (m (rl c main_arg5)) (m (rl c main_arg9))
      ∧ r.2.mem (rl c main_v42) = val_main_v42 (F := Ideal) (m (rl c main_arg2)) (m (rl c main_arg3)) (m (rl c main_arg4)) (m (rl c main_arg5)) (m (rl c main_arg10))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6)
      ∧ r.2.mem (rl c main_arg7) = m (rl c main_arg7)
      ∧ r.2.mem (rl c main_arg8) = m (rl c main_arg8)
      ∧ r.2.mem (rl c main_arg9) = m (rl c main_arg9)
      ∧ r.2.mem (rl c main_arg10) = m (rl c main_arg10) :=
  (θ_run _ _ _).mono (fun r h c => ⟨(h c).1.trans (val_main_v36_eq _ _ _ _), (h c).2.1.trans (val_main_v38_eq _ _ _ _ _ _ _), (h c).2.2.1.trans (val_main_v40_eq _ _ _ _ _), (h c).2.2.2.1.trans (val_main_v42_eq _ _ _ _ _), (h c).2.2.2.2⟩)
    (Cert.AdamGateRefIdeal.Value.run m ρ)

variable (x0 x1 x2 : Vec Ideal S2x512x2048 .f32) (x3 x4 : Vec Ideal S512x1024 .f32) (x5 : Vec Ideal S1 .i32) (r : Fin 512) (l : Fin 2048)

theorem ref_g : val_main_v8 (F := Ideal) x3 x4 x5 (ix3 0 r l)
      = if BitVec.ofNat 32 (l.val / 1024) = x5 (ix1 0) then x3 (ix2 r ⟨l.val % 1024, by omega⟩) else x4 (ix2 r ⟨l.val % 1024, by omega⟩) := by
  pointwise [val_main_v8, val_main_v7]
  by_cases h : l.val < 1024
  · rw [dif_pos h]
    pointwise [val_main_v3, val_main_call0_v0, val_main_v2, val_main_v1, val_main_c]
    rw [select_eq, (by omega : l.val / 1024 = 0), (Fin.ext (by show l.val % 1024 = l.val; omega) : (⟨l.val % 1024, by omega⟩ : Fin 1024) = ⟨l.val, h⟩)]
  · rw [dif_neg h]
    pointwise [val_main_v6, val_main_call1_v0, val_main_v5, val_main_v4, val_main_c_0]
    rw [select_eq, (by omega : l.val / 1024 = 1), (Fin.ext (by show l.val % 1024 = l.val - 1024; omega) : (⟨l.val % 1024, by omega⟩ : Fin 1024) = ⟨l.val - 1024, by omega⟩)]

theorem ref0 : val_main_v0 (F := Ideal) x0 (ix3 0 r l) = x0 (ix3 0 r l) := by pointwise [val_main_v0]

theorem ref1 : val_main_v9 (F := Ideal) x1 (ix3 0 r l) = x1 (ix3 0 r l) := by pointwise [val_main_v9]

theorem ref2 : val_main_v10 (F := Ideal) x2 (ix3 0 r l) = x2 (ix3 0 r l) := by pointwise [val_main_v10]

theorem ref_mom : val_main_v15 (F := Ideal) x1 x3 x4 x5 (ix3 0 r l) = mom (x1 (ix3 0 r l)) (val_main_v8 (F := Ideal) x3 x4 x5 (ix3 0 r l)) := by
  rw [← ref1 x1 r l]
  rfl

theorem ref_var : val_main_v21 (F := Ideal) x2 x3 x4 x5 (ix3 0 r l) = var (x2 (ix3 0 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 0 r l)) (x1 (ix3 0 r l)) (x2 (ix3 0 r l)) (val_main_v8 (F := Ideal) x3 x4 x5 (ix3 0 r l)) := by
  rw [← ref0 x0 r l, ← ref1 x1 r l, ← ref2 x2 r l]
  rfl

end Reference

open Cert.AdamGateIdeal Cert.AdamGateIdeal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem inside (n : Nat) (h : n < 1) : ∀ a : Fin 2, ((![n, 0] : Fin 2 → Nat) a + 1) * S512x1024.size a ≤ S512x1024.size a := by
  interval_cases n <;> decide

theorem point_lt : (BitVec.ofNat 32 (i 1).val).toNat < 1 := by
  have h : (i 1).val < 1 := (i 1).isLt
  rw [BitVec.toNat_ofNat]
  omega

theorem ok_all : ok0 pf := by
  refine ⟨fun i => ⟨?_, .inl rfl⟩, fun i => ⟨?_, .inl rfl⟩⟩ <;> [rw [own_map]; rw [other_map]] <;>
    (refine inside _ ?_; have := point_lt i; split <;> omega)

end Maps

theorem ok : Ok m := ok_all _

theorem okBits (m : (ℓ : Loc Cert.AdamGate.nD Cert.AdamGate.τ Cert.AdamGate.sig) → Buf (Elt Bits) ℓ) : Cert.AdamGate.Gen.Ok m :=
  ok_all (F := Bits) (Cert.AdamGate.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 512) (l : Fin 1024)

/-- The blocks at a point: of the arguments, of the gradient, and what is written. -/
abbrev ib (k : Fin (Q m).W) := iblk m (ok m) c k t
abbrev gblk : Vec Ideal S512x1024 .f32 := k0_pay5 (F := Ideal) (grid0.coords t) (word m) (ib m c t 3) (ib m c t 4)

theorem cov5 : ((Q m).win 5).CoversWhere (fun β => β ⟨0, (by decide : 0 < 3)⟩ = 0) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 0) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 0) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 0) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![0, t.val % 1, t.val / 1] := by decide +kernel

abbrev row : Fin 512 := ⟨t.val % 1 * 512 + a.val, by have : t.val < 2 := t.isLt; omega⟩
abbrev lane : Fin 2048 := ⟨t.val / 1 * 1024 + l.val, by have : t.val < 2 := t.isLt; omega⟩

theorem emb : (((Q m).win 0).rect t).emb (ix3 0 a l : S1x512x1024.Idx) = (ix3 0 (row m t a) (lane m t l) : S2x512x2048.Idx) := by
  funext b
  apply Fin.ext
  refine (((Q m).win 0).rect_emb_val t (ix3 0 a l : S1x512x1024.Idx) b).trans ?_
  show cc0_transform_0 (grid0.coords t) b * _ + _ = _
  rw [idx t]
  fin_cases b
  · rfl
  · rfl
  · exact rfl

abbrev a0 (r : Fin 512) (l : Fin 2048) : EReal := m (kl c main_arg0) (ix3 0 r l)
theorem b0 : ib m c t 0 (ix3 0 a l) = a0 m c (row m t a) (lane m t l) :=
  (congrArg (V m c main_arg0) (emb m t a l)).trans (congrFun (V_main_arg0 m c) _)
abbrev a1 (r : Fin 512) (l : Fin 2048) : EReal := m (kl c main_arg1) (ix3 0 r l)
theorem b1 : ib m c t 1 (ix3 0 a l) = a1 m c (row m t a) (lane m t l) :=
  (congrArg (V m c main_arg1) (emb m t a l)).trans (congrFun (V_main_arg1 m c) _)
abbrev a2 (r : Fin 512) (l : Fin 2048) : EReal := m (kl c main_arg2) (ix3 0 r l)
theorem b2 : ib m c t 2 (ix3 0 a l) = a2 m c (row m t a) (lane m t l) :=
  (congrArg (V m c main_arg2) (emb m t a l)).trans (congrFun (V_main_arg2 m c) _)

theorem coords_at : ∀ t : Fin grid0.N, (BitVec.ofNat 32 (grid0.coords t 0).val) = BitVec.ofNat 32 (t.val / 1) ∧ (BitVec.ofNat 32 (grid0.coords t 1).val).toNat = t.val % 1 := by decide +kernel

theorem emb3 (h : BitVec.ofNat 32 (grid0.coords t 0).val = word m) : (((Q m).win 3).rect t).emb (ix2 a l : S512x1024.Idx) = (ix2 (row m t a) l : S512x1024.Idx) := by
  funext b
  apply Fin.ext
  refine (((Q m).win 3).rect_emb_val t (ix2 a l : S512x1024.Idx) b).trans ?_
  show cc0_transform_3 inb_S1_S1_0 numel1_S1 (tbl m) (grid0.coords t) b * _ + _ = _
  rw [own_map, if_pos h, (coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S512x1024.Idx) = (ix2 (row m t a) l : S512x1024.Idx) := by
  funext b
  apply Fin.ext
  refine (((Q m).win 4).rect_emb_val t (ix2 a l : S512x1024.Idx) b).trans ?_
  show cc0_transform_4 inb_S1_S1_0 numel1_S1 (tbl m) (grid0.coords t) b * _ + _ = _
  rw [other_map, if_neg h, (coords_at t).2]
  fin_cases b
  · rfl
  · exact (congrArg (· + l.val) (Nat.zero_mul _)).trans (Nat.zero_add _)

/-- The halves joined: each is the device's own where the word names it, else the other's. -/
def joined (r : Fin 512) (l : Fin 2048) : EReal :=
  if BitVec.ofNat 32 (l.val / 1024) = word m then m (kl c main_arg3) (ix2 r ⟨l.val % 1024, by omega⟩) else m (kl c main_arg4) (ix2 r ⟨l.val % 1024, by omega⟩)

theorem gblk_at : gblk m c t (ix2 a l) = joined m c (row m t a) (lane m t l) := by
  have ht : t.val < 2 := t.isLt
  have e : (lane m t l).val / 1024 = t.val / 1 := by show (t.val / 1 * 1024 + l.val) / 1024 = _; omega
  have e' : (⟨(lane m t l).val % 1024, by omega⟩ : Fin 1024) = l := Fin.ext (by show (t.val / 1 * 1024 + l.val) % 1024 = l.val; omega)
  unfold joined
  rw [e, e', ← (coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

section Payloads

variable (i : grid0.Coords) (v : Elt Ideal .i32) (x3 x4 : Vec Ideal S512x1024 .f32) (x0 x1 x2 : Vec Ideal S1x512x1024 .f32)

theorem up (x : Vec Ideal S512x1024 .f32) : k0_pay1 x (ix3 0 a l) = x (ix2 a l) := by
  unfold k0_pay1
  pointwise

theorem down : shapeCast S512x1024 x0 Cert.AdamGateIdeal.Gen.facts.shapeCasts_S1x512x1024_S512x1024 (ix2 a l) = x0 (ix3 0 a l) := by pointwise

abbrev g5 := k0_pay5 (F := Ideal) i v x3 x4

theorem pay5 : k0_pay1 (g5 i v x3 x4) (ix3 0 a l) = g5 i v x3 x4 (ix2 a l) := up a l _

theorem pay6 : k0_pay2 (k0_pay8 (F := Ideal) i v x3 x4 x0 x1 x2) (ix3 0 a l) = step (x0 (ix3 0 a l)) (x1 (ix3 0 a l)) (x2 (ix3 0 a l)) (g5 i v x3 x4 (ix2 a l)) := by
  rw [← down a l x0, ← down a l x1, ← down a l x2]
  exact up a l _

theorem pay7 : k0_pay3 (k0_pay6 (F := Ideal) i v x3 x4 x1) (ix3 0 a l) = mom (x1 (ix3 0 a l)) (g5 i v x3 x4 (ix2 a l)) := by
  rw [← down a l x1]
  exact up a l _

theorem pay8 : k0_pay4 (k0_pay7 (F := Ideal) i v x3 x4 x2) (ix3 0 a l) = var (x2 (ix3 0 a l)) (g5 i v x3 x4 (ix2 a l)) := by
  rw [← down a l x2]
  exact up a l _

end Payloads

abbrev stepOf (r : Fin 512) (l : Fin 2048) : EReal := step (a0 m c r l) (a1 m c r l) (a2 m c r l) (joined m c r l)
abbrev momOf (r : Fin 512) (l : Fin 2048) : EReal := mom (a1 m c r l) (joined m c r l)
abbrev varOf (r : Fin 512) (l : Fin 2048) : EReal := var (a2 m c r l) (joined m c r l)

/-- An array from the entries of a layer. -/
abbrev both (f : Fin 512 → Fin 2048 → EReal) : Vec Ideal S2x512x2048 .f32 := fun y => f (y 1) (y 2)
abbrev over (f : Fin 512 → Fin 2048 → EReal) (A : Vec Ideal S2x512x2048 .f32) : Vec Ideal S2x512x2048 .f32 := fun y => if (y 0).val / 1 = 0 then both f y else A y

theorem blk_eq (f : Fin 512 → Fin 2048 → EReal) (v : Vec Ideal S1x512x1024 .f32) (h : ∀ a l, v (ix3 0 a l) = f (row m t a) (lane m t l)) (y : S1x512x1024.Idx) : v y = both f ((((Q m).win 0).rect t).emb y) := by
  idx_vars y
  obtain rfl : y0 = 0 := Subsingleton.elim _ _
  rw [emb]
  exact h y1 y2

theorem arr5 : (D m c).arrAt 5 (Q m).N = over (joined m c) (m (kl c main_arg7)) := by
  refine Eq.trans ((D m c).arrAt_eq_of_coversWhere 5 (both (joined m c)) (fun β => β ⟨0, (by decide : 0 < 3)⟩ = 0) (cov5 m) (fun t hf y => ?_) (fun j => Iff.rfl)) (congrArg (over (joined m c)) ((A_eq m (ok m) c 5).trans ?_))
  swap
  · show V m c main_v0_0 = _
    unfold V hostOps0
    after_results
    rfl
  rw [after0_5, out5]
  exact blk_eq m t (joined m c) (k0_pay1 (gblk m c t)) (fun a l => (pay5 a l _ _ _ _).trans (gblk_at m c t a l)) y

theorem arr6 : (D m c).arrAt 6 (Q m).N = over (stepOf m c) (m (kl c main_arg8)) := by
  refine Eq.trans ((D m c).arrAt_eq_of_coversWhere 6 (both (stepOf m c)) (fun β => β ⟨0, (by decide : 0 < 3)⟩ = 0) (cov6 m) (fun t hf y => ?_) (fun j => Iff.rfl)) (congrArg (over (stepOf m c)) ((A_eq m (ok m) c 6).trans ?_))
  swap
  · show V m c main_v0_1 = _
    unfold V hostOps0
    after_results
    rfl
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : (D m c).arrAt 7 (Q m).N = over (momOf m c) (m (kl c main_arg9)) := by
  refine Eq.trans ((D m c).arrAt_eq_of_coversWhere 7 (both (momOf m c)) (fun β => β ⟨0, (by decide : 0 < 3)⟩ = 0) (cov7 m) (fun t hf y => ?_) (fun j => Iff.rfl)) (congrArg (over (momOf m c)) ((A_eq m (ok m) c 7).trans ?_))
  swap
  · show V m c main_v0_2 = _
    unfold V hostOps0
    after_results
    rfl
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : (D m c).arrAt 8 (Q m).N = over (varOf m c) (m (kl c main_arg10)) := by
  refine Eq.trans ((D m c).arrAt_eq_of_coversWhere 8 (both (varOf m c)) (fun β => β ⟨0, (by decide : 0 < 3)⟩ = 0) (cov8 m) (fun t hf y => ?_) (fun j => Iff.rfl)) (congrArg (over (varOf m c)) ((A_eq m (ok m) c 8).trans ?_))
  swap
  · show V m c main_v0_3 = _
    unfold V hostOps0
    after_results
    rfl
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v0_0) = over (joined m c) (m (kl c main_arg7))
      ∧ r.2.mem (kl c main_v0_1) = over (stepOf m c) (m (kl c main_arg8))
      ∧ r.2.mem (kl c main_v0_2) = over (momOf m c) (m (kl c main_arg9))
      ∧ r.2.mem (kl c main_v0_3) = over (varOf m c) (m (kl c main_arg10))
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6)
      ∧ r.2.mem (kl c main_arg7) = m (kl c main_arg7)
      ∧ r.2.mem (kl c main_arg8) = m (kl c main_arg8)
      ∧ r.2.mem (kl c main_arg9) = m (kl c main_arg9)
      ∧ r.2.mem (kl c main_arg10) = m (kl c main_arg10) :=
  (θ_run defs _ _).mono (fun r h c => ⟨((h c).1 5).trans (arr5 m c),
      ((h c).1 6).trans (arr6 m c),
      ((h c).1 7).trans (arr7 m c),
      ((h c).1 8).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (V_main_arg5 m c),
      ((h c).2 main_arg6 (by decide : bare main_arg6)).trans (V_main_arg6 m c),
      ((h c).2 main_arg7 (by decide : bare main_arg7)).trans (V_main_arg7 m c),
      ((h c).2 main_arg8 (by decide : bare main_arg8)).trans (V_main_arg8 m c),
      ((h c).2 main_arg9 (by decide : bare main_arg9)).trans (V_main_arg9 m c),
      ((h c).2 main_arg10 (by decide : bare main_arg10)).trans (V_main_arg10 m c)⟩)
    (run_main m ρ (ok m))

/-- A layer put before the second layer of another array, entry by entry. -/
theorem ref_lay (p : Vec Ideal Cert.AdamGateRefIdeal.S1x512x2048 .f32) (A : Vec Ideal S2x512x2048 .f32) (f : Fin 512 → Fin 2048 → EReal) (h : ∀ r l, p (ix3 0 r l) = f r l) :
    (concatenate S2x512x2048 0 [⟨Cert.AdamGateRefIdeal.S1x512x2048, p⟩, ⟨Cert.AdamGateRefIdeal.S1x512x2048, extractStridedSlice Cert.AdamGateRefIdeal.S1x512x2048 ![1, 0, 0] A Cert.AdamGateRefIdeal.Gen.facts.slices_S2x512x2048_S1x512x2048_1_0_0⟩]
      Cert.AdamGateRefIdeal.Gen.facts.concatenates_S1x512x2048_S1x512x2048_S2x512x2048_d0 : Vec Ideal S2x512x2048 .f32) = over f A := by
  funext y
  idx_vars y
  rcases (by omega : y0 = 0 ∨ y0 = 1) with rfl | rfl
  · pointwise
    exact (h y1 y2).trans (if_pos (show (0 : Fin 2).val / 1 = 0 by decide)).symm
  · pointwise
    exact (if_neg (show ¬(1 : Fin 2).val / 1 = 0 by decide)).symm

theorem ref_joined (r : Fin 512) (l : Fin 2048) : Cert.AdamGateRefIdeal.Read.val_main_v8 (F := Ideal) (m (kl c main_arg3)) (m (kl c main_arg4)) (m (kl c main_arg5)) (ix3 0 r l) = joined m c r l := by
  refine (ref_g _ _ _ r l).trans ?_
  unfold joined
  rw [word_eq m c]

theorem same : Cert.algebraic_AdamGateIdeal_AdamGateRefIdeal := by
  pair_intro
  · run_from Cert.Proof.AdamGate.run m g
  · run_from ref_run m' g'
    · exact ref_lay _ _ _ fun r l => ref_joined m c r l
    · exact ref_lay _ _ _ fun r l => (ref_step _ _ _ _ _ _ _ _).trans (congrArg _ (ref_joined m c r l))
    · exact ref_lay _ _ _ fun r l => (ref_mom _ _ _ _ _ _).trans (congrArg _ (ref_joined m c r l))
    · exact ref_lay _ _ _ fun r l => (ref_var _ _ _ _ _ _).trans (congrArg _ (ref_joined m c r l))

end Cert.Proof.AdamGate

end
-- ==== Proof.AdamProj.lean ====
/- The optimiser's step of the first layer of one of two stacked weights, the gradient in two halves of its rows: `ple_w_proj`. -/
module

public import proofs.«01_k».proof.Proof.AdamCol
public import proofs.«01_k».proof.Proof.Gen.AdamProjIdeal.Frame
public import proofs.«01_k».proof.Proof.Gen.AdamProjRefIdeal.Read
public import proofs.«01_k».proof.Proof.Gen.AdamProj.Frame

@[expose] public section

set_option maxRecDepth 16384
set_option maxHeartbeats 1000000

noncomputable section

namespace Cert.Proof.AdamProj

open Idealize.ShloMosaic Idealize.ShloMosaic.TcCoe Idealize.SL.Sem Memref.IsWhole
open Cert.Proof.AdamCol (mom var step select_eq pick own_sel other_sel)

section Reference

open Cert.AdamProjRefIdeal Cert.AdamProjRefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v36) = val_main_v36 (F := Ideal) (m (rl c main_arg3)) (m (rl c main_arg4)) (m (rl c main_arg5)) (m (rl c main_arg7))
      ∧ r.2.mem (rl c main_v38) = val_main_v38 (F := Ideal) (m (rl c main_arg0)) (m (rl c main_arg1)) (m (rl c main_arg2)) (m (rl c main_arg3)) (m (rl c main_arg4)) (m (rl c main_arg5)) (m (rl c main_arg8))
      ∧ r.2.mem (rl c main_v40) = val_main_v40 (F := Ideal) (m (rl c main_arg1)) (m (rl c main_arg3)) (m (rl c main_arg4)) (m (rl c main_arg5)) (m (rl c main_arg9))
      ∧ r.2.mem (rl c main_v42) = val_main_v42 (F := Ideal) (m (rl c main_arg2)) (m (rl c main_arg3)) (m (rl c main_arg4)) (m (rl c main_arg5)) (m (rl c main_arg10))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6)
      ∧ r.2.mem (rl c main_arg7) = m (rl c main_arg7)
      ∧ r.2.mem (rl c main_arg8) = m (rl c main_arg8)
      ∧ r.2.mem (rl c main_arg9) = m (rl c main_arg9)
      ∧ r.2.mem (rl c main_arg10) = m (rl c main_arg10) :=
  (θ_run _ _ _).mono (fun r h c => ⟨(h c).1.trans (val_main_v36_eq _ _ _ _), (h c).2.1.trans (val_main_v38_eq _ _ _ _ _ _ _), (h c).2.2.1.trans (val_main_v40_eq _ _ _ _ _), (h c).2.2.2.1.trans (val_main_v42_eq _ _ _ _ _), (h c).2.2.2.2⟩)
    (Cert.AdamProjRefIdeal.Value.run m ρ)

variable (x0 x1 x2 : Vec Ideal S2x256x512 .f32) (x3 x4 : Vec Ideal S128x512 .f32) (x5 : Vec Ideal S1 .i32) (r : Fin 256) (l : Fin 512)

theorem ref_g : val_main_v8 (F := Ideal) x3 x4 x5 (ix3 0 r l)
      = if BitVec.ofNat 32 (r.val / 128) = x5 (ix1 0) then x3 (ix2 ⟨r.val % 128, by omega⟩ l) else x4 (ix2 ⟨r.val % 128, by omega⟩ l) := by
  pointwise [val_main_v8, val_main_v7]
  by_cases h : r.val < 128
  · rw [dif_pos h]
    pointwise [val_main_v3, val_main_call0_v0, val_main_v2, val_main_v1, val_main_c]
    rw [select_eq, (by omega : r.val / 128 = 0), (Fin.ext (by show r.val % 128 = r.val; omega) : (⟨r.val % 128, by omega⟩ : Fin 128) = ⟨r.val, h⟩)]
  · rw [dif_neg h]
    pointwise [val_main_v6, val_main_call1_v0, val_main_v5, val_main_v4, val_main_c_0]
    rw [select_eq, (by omega : r.val / 128 = 1), (Fin.ext (by show r.val % 128 = r.val - 128; omega) : (⟨r.val % 128, by omega⟩ : Fin 128) = ⟨r.val - 128, by omega⟩)]

theorem ref0 : val_main_v0 (F := Ideal) x0 (ix3 0 r l) = x0 (ix3 0 r l) := by pointwise [val_main_v0]

theorem ref1 : val_main_v9 (F := Ideal) x1 (ix3 0 r l) = x1 (ix3 0 r l) := by pointwise [val_main_v9]

theorem ref2 : val_main_v10 (F := Ideal) x2 (ix3 0 r l) = x2 (ix3 0 r l) := by pointwise [val_main_v10]

theorem ref_mom : val_main_v15 (F := Ideal) x1 x3 x4 x5 (ix3 0 r l) = mom (x1 (ix3 0 r l)) (val_main_v8 (F := Ideal) x3 x4 x5 (ix3 0 r l)) := by
  rw [← ref1 x1 r l]
  rfl

theorem ref_var : val_main_v21 (F := Ideal) x2 x3 x4 x5 (ix3 0 r l) = var (x2 (ix3 0 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 0 r l)) (x1 (ix3 0 r l)) (x2 (ix3 0 r l)) (val_main_v8 (F := Ideal) x3 x4 x5 (ix3 0 r l)) := by
  rw [← ref0 x0 r l, ← ref1 x1 r l, ← ref2 x2 r l]
  rfl

end Reference

open Cert.AdamProjIdeal Cert.AdamProjIdeal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem inside (n : Nat) (h : n < 1) : ∀ a : Fin 2, ((![n, 0] : Fin 2 → Nat) a + 1) * S128x512.size a ≤ S128x512.size a := by
  interval_cases n <;> decide

theorem point_lt : (BitVec.ofNat 32 (i 1).val).toNat < 1 := by
  have h : (i 1).val < 1 := (i 1).isLt
  rw [BitVec.toNat_ofNat]
  omega

theorem ok_all : ok0 pf := by
  refine ⟨fun i => ⟨?_, .inl rfl⟩, fun i => ⟨?_, .inl rfl⟩⟩ <;> [rw [own_map]; rw [other_map]] <;>
    (refine inside _ ?_; have := point_lt i; split <;> omega)

end Maps

theorem ok : Ok m := ok_all _

theorem okBits (m : (ℓ : Loc Cert.AdamProj.nD Cert.AdamProj.τ Cert.AdamProj.sig) → Buf (Elt Bits) ℓ) : Cert.AdamProj.Gen.Ok m :=
  ok_all (F := Bits) (Cert.AdamProj.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 128) (l : Fin 512)

/-- The blocks at a point: of the arguments, of the gradient, and what is written. -/
abbrev ib (k : Fin (Q m).W) := iblk m (ok m) c k t
abbrev gblk : Vec Ideal S128x512 .f32 := k0_pay5 (F := Ideal) (grid0.coords t) (word m) (ib m c t 3) (ib m c t 4)

theorem cov5 : ((Q m).win 5).CoversWhere (fun β => β ⟨0, (by decide : 0 < 3)⟩ = 0) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 0) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 0) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 0) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![0, t.val, 0] := by decide +kernel

abbrev row : Fin 256 := ⟨t.val * 128 + a.val, by have : t.val < 2 := t.isLt; omega⟩
abbrev low : Fin 128 := ⟨t.val % 1 * 128 + a.val, by omega⟩

theorem emb : (((Q m).win 0).rect t).emb (ix3 0 a l : S1x128x512.Idx) = (ix3 0 (row m t a) l : S2x256x512.Idx) := by
  funext b
  apply Fin.ext
  refine (((Q m).win 0).rect_emb_val t (ix3 0 a l : S1x128x512.Idx) b).trans ?_
  show cc0_transform_0 (grid0.coords t) b * _ + _ = _
  rw [idx t]
  fin_cases b
  · rfl
  · rfl
  · exact (congrArg (· + l.val) (Nat.zero_mul _)).trans (Nat.zero_add _)

abbrev a0 (r : Fin 256) (l : Fin 512) : EReal := m (kl c main_arg0) (ix3 0 r l)
theorem b0 : ib m c t 0 (ix3 0 a l) = a0 m c (row m t a) l :=
  (congrArg (V m c main_arg0) (emb m t a l)).trans (congrFun (V_main_arg0 m c) _)
abbrev a1 (r : Fin 256) (l : Fin 512) : EReal := m (kl c main_arg1) (ix3 0 r l)
theorem b1 : ib m c t 1 (ix3 0 a l) = a1 m c (row m t a) l :=
  (congrArg (V m c main_arg1) (emb m t a l)).trans (congrFun (V_main_arg1 m c) _)
abbrev a2 (r : Fin 256) (l : Fin 512) : EReal := m (kl c main_arg2) (ix3 0 r l)
theorem b2 : ib m c t 2 (ix3 0 a l) = a2 m c (row m t a) l :=
  (congrArg (V m c main_arg2) (emb m t a l)).trans (congrFun (V_main_arg2 m c) _)

theorem coords_at : ∀ t : Fin grid0.N, (BitVec.ofNat 32 (grid0.coords t 0).val) = BitVec.ofNat 32 (t.val / 1) ∧ (BitVec.ofNat 32 (grid0.coords t 1).val).toNat = t.val % 1 := by decide +kernel

theorem emb3 (h : BitVec.ofNat 32 (grid0.coords t 0).val = word m) : (((Q m).win 3).rect t).emb (ix2 a l : S128x512.Idx) = (ix2 (low m t a) l : S128x512.Idx) := by
  funext b
  apply Fin.ext
  refine (((Q m).win 3).rect_emb_val t (ix2 a l : S128x512.Idx) b).trans ?_
  show cc0_transform_3 inb_S1_S1_0 numel1_S1 (tbl m) (grid0.coords t) b * _ + _ = _
  rw [own_map, if_pos h, (coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S128x512.Idx) = (ix2 (low m t a) l : S128x512.Idx) := by
  funext b
  apply Fin.ext
  refine (((Q m).win 4).rect_emb_val t (ix2 a l : S128x512.Idx) b).trans ?_
  show cc0_transform_4 inb_S1_S1_0 numel1_S1 (tbl m) (grid0.coords t) b * _ + _ = _
  rw [other_map, if_neg h, (coords_at t).2]
  fin_cases b
  · rfl
  · exact (congrArg (· + l.val) (Nat.zero_mul _)).trans (Nat.zero_add _)

/-- The halves joined: each is the device's own where the word names it, else the other's. -/
def joined (r : Fin 256) (l : Fin 512) : EReal :=
  if BitVec.ofNat 32 (r.val / 128) = word m then m (kl c main_arg3) (ix2 ⟨r.val % 128, by omega⟩ l) else m (kl c main_arg4) (ix2 ⟨r.val % 128, by omega⟩ l)

theorem gblk_at : gblk m c t (ix2 a l) = joined m c (row m t a) l := by
  have ht : t.val < 2 := t.isLt
  have e : (row m t a).val / 128 = t.val / 1 := by show (t.val * 128 + a.val) / 128 = _; omega
  have e' : (⟨(row m t a).val % 128, by omega⟩ : Fin 128) = low m t a := Fin.ext (by show (t.val * 128 + a.val) % 128 = t.val % 1 * 128 + a.val; omega)
  unfold joined
  rw [e, e', ← (coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

section Payloads

variable (i : grid0.Coords) (v : Elt Ideal .i32) (x3 x4 : Vec Ideal S128x512 .f32) (x0 x1 x2 : Vec Ideal S1x128x512 .f32)

theorem up (x : Vec Ideal S128x512 .f32) : k0_pay1 x (ix3 0 a l) = x (ix2 a l) := by
  unfold k0_pay1
  pointwise

theorem down : shapeCast S128x512 x0 Cert.AdamProjIdeal.Gen.facts.shapeCasts_S1x128x512_S128x512 (ix2 a l) = x0 (ix3 0 a l) := by pointwise

abbrev g5 := k0_pay5 (F := Ideal) i v x3 x4

theorem pay5 : k0_pay1 (g5 i v x3 x4) (ix3 0 a l) = g5 i v x3 x4 (ix2 a l) := up a l _

theorem pay6 : k0_pay2 (k0_pay8 (F := Ideal) i v x3 x4 x0 x1 x2) (ix3 0 a l) = step (x0 (ix3 0 a l)) (x1 (ix3 0 a l)) (x2 (ix3 0 a l)) (g5 i v x3 x4 (ix2 a l)) := by
  rw [← down a l x0, ← down a l x1, ← down a l x2]
  exact up a l _

theorem pay7 : k0_pay3 (k0_pay6 (F := Ideal) i v x3 x4 x1) (ix3 0 a l) = mom (x1 (ix3 0 a l)) (g5 i v x3 x4 (ix2 a l)) := by
  rw [← down a l x1]
  exact up a l _

theorem pay8 : k0_pay4 (k0_pay7 (F := Ideal) i v x3 x4 x2) (ix3 0 a l) = var (x2 (ix3 0 a l)) (g5 i v x3 x4 (ix2 a l)) := by
  rw [← down a l x2]
  exact up a l _

end Payloads

abbrev stepOf (r : Fin 256) (l : Fin 512) : EReal := step (a0 m c r l) (a1 m c r l) (a2 m c r l) (joined m c r l)
abbrev momOf (r : Fin 256) (l : Fin 512) : EReal := mom (a1 m c r l) (joined m c r l)
abbrev varOf (r : Fin 256) (l : Fin 512) : EReal := var (a2 m c r l) (joined m c r l)

/-- An array from the entries of a layer. -/
abbrev both (f : Fin 256 → Fin 512 → EReal) : Vec Ideal S2x256x512 .f32 := fun y => f (y 1) (y 2)
abbrev over (f : Fin 256 → Fin 512 → EReal) (A : Vec Ideal S2x256x512 .f32) : Vec Ideal S2x256x512 .f32 := fun y => if (y 0).val / 1 = 0 then both f y else A y

theorem blk_eq (f : Fin 256 → Fin 512 → EReal) (v : Vec Ideal S1x128x512 .f32) (h : ∀ a l, v (ix3 0 a l) = f (row m t a) l) (y : S1x128x512.Idx) : v y = both f ((((Q m).win 0).rect t).emb y) := by
  idx_vars y
  obtain rfl : y0 = 0 := Subsingleton.elim _ _
  rw [emb]
  exact h y1 y2

theorem arr5 : (D m c).arrAt 5 (Q m).N = over (joined m c) (m (kl c main_arg7)) := by
  refine Eq.trans ((D m c).arrAt_eq_of_coversWhere 5 (both (joined m c)) (fun β => β ⟨0, (by decide : 0 < 3)⟩ = 0) (cov5 m) (fun t hf y => ?_) (fun j => Iff.rfl)) (congrArg (over (joined m c)) ((A_eq m (ok m) c 5).trans ?_))
  swap
  · show V m c main_v0_0 = _
    unfold V hostOps0
    after_results
    rfl
  rw [after0_5, out5]
  exact blk_eq m t (joined m c) (k0_pay1 (gblk m c t)) (fun a l => (pay5 a l _ _ _ _).trans (gblk_at m c t a l)) y

theorem arr6 : (D m c).arrAt 6 (Q m).N = over (stepOf m c) (m (kl c main_arg8)) := by
  refine Eq.trans ((D m c).arrAt_eq_of_coversWhere 6 (both (stepOf m c)) (fun β => β ⟨0, (by decide : 0 < 3)⟩ = 0) (cov6 m) (fun t hf y => ?_) (fun j => Iff.rfl)) (congrArg (over (stepOf m c)) ((A_eq m (ok m) c 6).trans ?_))
  swap
  · show V m c main_v0_1 = _
    unfold V hostOps0
    after_results
    rfl
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : (D m c).arrAt 7 (Q m).N = over (momOf m c) (m (kl c main_arg9)) := by
  refine Eq.trans ((D m c).arrAt_eq_of_coversWhere 7 (both (momOf m c)) (fun β => β ⟨0, (by decide : 0 < 3)⟩ = 0) (cov7 m) (fun t hf y => ?_) (fun j => Iff.rfl)) (congrArg (over (momOf m c)) ((A_eq m (ok m) c 7).trans ?_))
  swap
  · show V m c main_v0_2 = _
    unfold V hostOps0
    after_results
    rfl
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : (D m c).arrAt 8 (Q m).N = over (varOf m c) (m (kl c main_arg10)) := by
  refine Eq.trans ((D m c).arrAt_eq_of_coversWhere 8 (both (varOf m c)) (fun β => β ⟨0, (by decide : 0 < 3)⟩ = 0) (cov8 m) (fun t hf y => ?_) (fun j => Iff.rfl)) (congrArg (over (varOf m c)) ((A_eq m (ok m) c 8).trans ?_))
  swap
  · show V m c main_v0_3 = _
    unfold V hostOps0
    after_results
    rfl
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v0_0) = over (joined m c) (m (kl c main_arg7))
      ∧ r.2.mem (kl c main_v0_1) = over (stepOf m c) (m (kl c main_arg8))
      ∧ r.2.mem (kl c main_v0_2) = over (momOf m c) (m (kl c main_arg9))
      ∧ r.2.mem (kl c main_v0_3) = over (varOf m c) (m (kl c main_arg10))
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6)
      ∧ r.2.mem (kl c main_arg7) = m (kl c main_arg7)
      ∧ r.2.mem (kl c main_arg8) = m (kl c main_arg8)
      ∧ r.2.mem (kl c main_arg9) = m (kl c main_arg9)
      ∧ r.2.mem (kl c main_arg10) = m (kl c main_arg10) :=
  (θ_run defs _ _).mono (fun r h c => ⟨((h c).1 5).trans (arr5 m c),
      ((h c).1 6).trans (arr6 m c),
      ((h c).1 7).trans (arr7 m c),
      ((h c).1 8).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (V_main_arg5 m c),
      ((h c).2 main_arg6 (by decide : bare main_arg6)).trans (V_main_arg6 m c),
      ((h c).2 main_arg7 (by decide : bare main_arg7)).trans (V_main_arg7 m c),
      ((h c).2 main_arg8 (by decide : bare main_arg8)).trans (V_main_arg8 m c),
      ((h c).2 main_arg9 (by decide : bare main_arg9)).trans (V_main_arg9 m c),
      ((h c).2 main_arg10 (by decide : bare main_arg10)).trans (V_main_arg10 m c)⟩)
    (run_main m ρ (ok m))

/-- A layer put before the second layer of another array, entry by entry. -/
theorem ref_lay (p : Vec Ideal Cert.AdamProjRefIdeal.S1x256x512 .f32) (A : Vec Ideal S2x256x512 .f32) (f : Fin 256 → Fin 512 → EReal) (h : ∀ r l, p (ix3 0 r l) = f r l) :
    (concatenate S2x256x512 0 [⟨Cert.AdamProjRefIdeal.S1x256x512, p⟩, ⟨Cert.AdamProjRefIdeal.S1x256x512, extractStridedSlice Cert.AdamProjRefIdeal.S1x256x512 ![1, 0, 0] A Cert.AdamProjRefIdeal.Gen.facts.slices_S2x256x512_S1x256x512_1_0_0⟩]
      Cert.AdamProjRefIdeal.Gen.facts.concatenates_S1x256x512_S1x256x512_S2x256x512_d0 : Vec Ideal S2x256x512 .f32) = over f A := by
  funext y
  idx_vars y
  rcases (by omega : y0 = 0 ∨ y0 = 1) with rfl | rfl
  · pointwise
    exact (h y1 y2).trans (if_pos (show (0 : Fin 2).val / 1 = 0 by decide)).symm
  · pointwise
    exact (if_neg (show ¬(1 : Fin 2).val / 1 = 0 by decide)).symm

theorem ref_joined (r : Fin 256) (l : Fin 512) : Cert.AdamProjRefIdeal.Read.val_main_v8 (F := Ideal) (m (kl c main_arg3)) (m (kl c main_arg4)) (m (kl c main_arg5)) (ix3 0 r l) = joined m c r l := by
  refine (ref_g _ _ _ r l).trans ?_
  unfold joined
  rw [word_eq m c]

theorem same : Cert.algebraic_AdamProjIdeal_AdamProjRefIdeal := by
  pair_intro
  · run_from Cert.Proof.AdamProj.run m g
  · run_from ref_run m' g'
    · exact ref_lay _ _ _ fun r l => ref_joined m c r l
    · exact ref_lay _ _ _ fun r l => (ref_step _ _ _ _ _ _ _ _).trans (congrArg _ (ref_joined m c r l))
    · exact ref_lay _ _ _ fun r l => (ref_mom _ _ _ _ _ _).trans (congrArg _ (ref_joined m c r l))
    · exact ref_lay _ _ _ fun r l => (ref_var _ _ _ _ _ _).trans (congrArg _ (ref_joined m c r l))

end Cert.Proof.AdamProj

end
-- ==== Proof.AdamUp2.lean ====
/- The optimiser's step of the second layer of one of two stacked weights, the gradient in two halves of its rows: `ffn_w1` and `ffn_w3`. -/
module

public import proofs.«01_k».proof.Proof.AdamUp
public import proofs.«01_k».proof.Proof.Gen.AdamUp2Ideal.Frame
public import proofs.«01_k».proof.Proof.Gen.AdamUp2RefIdeal.Read
public import proofs.«01_k».proof.Proof.Gen.AdamUp2.Frame

@[expose] public section

set_option maxRecDepth 16384
set_option maxHeartbeats 1000000

noncomputable section

namespace Cert.Proof.AdamUp2

open Idealize.ShloMosaic Idealize.ShloMosaic.TcCoe Idealize.SL.Sem Memref.IsWhole
open Cert.Proof.AdamCol (mom var step select_eq pick own_sel other_sel)
open Cert.Proof.AdamUp (pay5 pay6 pay7 pay8)

section Reference

open Cert.AdamUp2RefIdeal Cert.AdamUp2RefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v8) = val_main_v8 (F := Ideal) (m (rl c main_arg3)) (m (rl c main_arg4)) (m (rl c main_arg5))
      ∧ r.2.mem (rl c main_v34) = val_main_v34 (F := Ideal) (m (rl c main_arg0)) (m (rl c main_arg1)) (m (rl c main_arg2)) (m (rl c main_arg3)) (m (rl c main_arg4)) (m (rl c main_arg5))
      ∧ r.2.mem (rl c main_v15) = val_main_v15 (F := Ideal) (m (rl c main_arg1)) (m (rl c main_arg3)) (m (rl c main_arg4)) (m (rl c main_arg5))
      ∧ r.2.mem (rl c main_v21) = val_main_v21 (F := Ideal) (m (rl c main_arg2)) (m (rl c main_arg3)) (m (rl c main_arg4)) (m (rl c main_arg5))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6) :=
  (θ_run _ _ _).mono (fun r h c => ⟨(h c).1.trans (val_main_v8_eq _ _ _), (h c).2.1.trans (val_main_v34_eq _ _ _ _ _ _), (h c).2.2.1.trans (val_main_v15_eq _ _ _ _), (h c).2.2.2.1.trans (val_main_v21_eq _ _ _ _), (h c).2.2.2.2⟩)
    (Cert.AdamUp2RefIdeal.Value.run m ρ)

variable (x0 x1 x2 : Vec Ideal S2x2048x1408 .f32) (x3 x4 : Vec Ideal S1024x1408 .f32) (x5 : Vec Ideal S1 .i32) (r : Fin 2048) (l : Fin 1408)

theorem ref0 : val_main_v0 (F := Ideal) x0 (ix3 0 r l) = x0 (ix3 1 r l) := by pointwise [val_main_v0]

theorem ref1 : val_main_v9 (F := Ideal) x1 (ix3 0 r l) = x1 (ix3 1 r l) := by pointwise [val_main_v9]

theorem ref2 : val_main_v10 (F := Ideal) x2 (ix3 0 r l) = x2 (ix3 1 r l) := by pointwise [val_main_v10]

theorem ref_mom : val_main_v15 (F := Ideal) x1 x3 x4 x5 (ix3 0 r l) = mom (x1 (ix3 1 r l)) (val_main_v8 (F := Ideal) x3 x4 x5 (ix3 0 r l)) := by
  rw [← ref1 x1 r l]
  rfl

theorem ref_var : val_main_v21 (F := Ideal) x2 x3 x4 x5 (ix3 0 r l) = var (x2 (ix3 1 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 1 r l)) (x1 (ix3 1 r l)) (x2 (ix3 1 r l)) (val_main_v8 (F := Ideal) x3 x4 x5 (ix3 0 r l)) := by
  rw [← ref0 x0 r l, ← ref1 x1 r l, ← ref2 x2 r l]
  rfl

end Reference

open Cert.AdamUp2Ideal Cert.AdamUp2Ideal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem ok_all : ok0 pf := by
  refine ⟨fun i => ⟨?_, .inl rfl⟩, fun i => ⟨?_, .inl rfl⟩⟩ <;> [rw [own_map]; rw [other_map]] <;>
    (refine Cert.Proof.AdamUp.inside _ ?_; have := Cert.Proof.AdamUp.point_lt i; split <;> omega)

end Maps

theorem ok : Ok m := ok_all _

theorem okBits (m : (ℓ : Loc Cert.AdamUp2.nD Cert.AdamUp2.τ Cert.AdamUp2.sig) → Buf (Elt Bits) ℓ) : Cert.AdamUp2.Gen.Ok m :=
  ok_all (F := Bits) (Cert.AdamUp2.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 256) (l : Fin 1408)

/-- The blocks at a point: of the arguments, of the gradient, and what is written. -/
abbrev ib (k : Fin (Q m).W) := iblk m (ok m) c k t
abbrev gblk : Vec Ideal S256x1408 .f32 := k0_pay5 (F := Ideal) (grid0.coords t) (word m) (ib m c t 3) (ib m c t 4)

theorem cov5 : ((Q m).win 5).CoversWhere (fun β => β ⟨0, (by decide : 0 < 3)⟩ = 1) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 1) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 1) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 1) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![1, t.val, 0] := by decide +kernel

abbrev row : Fin 2048 := ⟨t.val * 256 + a.val, by have : t.val < 8 := t.isLt; omega⟩
abbrev low : Fin 1024 := ⟨t.val % 4 * 256 + a.val, by omega⟩

theorem emb : (((Q m).win 0).rect t).emb (ix3 0 a l : S1x256x1408.Idx) = (ix3 1 (row m t a) l : S2x2048x1408.Idx) := by
  funext b
  apply Fin.ext
  refine (((Q m).win 0).rect_emb_val t (ix3 0 a l : S1x256x1408.Idx) b).trans ?_
  show cc0_transform_0 (grid0.coords t) b * _ + _ = _
  rw [idx t]
  fin_cases b
  · rfl
  · rfl
  · exact (congrArg (· + l.val) (Nat.zero_mul _)).trans (Nat.zero_add _)

abbrev a0 (r : Fin 2048) (l : Fin 1408) : EReal := m (kl c main_arg0) (ix3 1 r l)
theorem b0 : ib m c t 0 (ix3 0 a l) = a0 m c (row m t a) l :=
  (congrArg (V m c main_arg0) (emb m t a l)).trans (congrFun (V_main_arg0 m c) _)
abbrev a1 (r : Fin 2048) (l : Fin 1408) : EReal := m (kl c main_arg1) (ix3 1 r l)
theorem b1 : ib m c t 1 (ix3 0 a l) = a1 m c (row m t a) l :=
  (congrArg (V m c main_arg1) (emb m t a l)).trans (congrFun (V_main_arg1 m c) _)
abbrev a2 (r : Fin 2048) (l : Fin 1408) : EReal := m (kl c main_arg2) (ix3 1 r l)
theorem b2 : ib m c t 2 (ix3 0 a l) = a2 m c (row m t a) l :=
  (congrArg (V m c main_arg2) (emb m t a l)).trans (congrFun (V_main_arg2 m c) _)

theorem emb3 (h : BitVec.ofNat 32 (grid0.coords t 0).val = word m) : (((Q m).win 3).rect t).emb (ix2 a l : S256x1408.Idx) = (ix2 (low m t a) l : S1024x1408.Idx) := by
  funext b
  apply Fin.ext
  refine (((Q m).win 3).rect_emb_val t (ix2 a l : S256x1408.Idx) b).trans ?_
  show cc0_transform_3 inb_S1_S1_0 numel1_S1 (tbl m) (grid0.coords t) b * _ + _ = _
  rw [own_map, if_pos h, (Cert.Proof.AdamUp.coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S256x1408.Idx) = (ix2 (low m t a) l : S1024x1408.Idx) := by
  funext b
  apply Fin.ext
  refine (((Q m).win 4).rect_emb_val t (ix2 a l : S256x1408.Idx) b).trans ?_
  show cc0_transform_4 inb_S1_S1_0 numel1_S1 (tbl m) (grid0.coords t) b * _ + _ = _
  rw [other_map, if_neg h, (Cert.Proof.AdamUp.coords_at t).2]
  fin_cases b
  · rfl
  · exact (congrArg (· + l.val) (Nat.zero_mul _)).trans (Nat.zero_add _)

/-- The halves joined: each is the device's own where the word names it, else the other's. -/
def joined (r : Fin 2048) (l : Fin 1408) : EReal :=
  if BitVec.ofNat 32 (r.val / 1024) = word m then m (kl c main_arg3) (ix2 ⟨r.val % 1024, by omega⟩ l) else m (kl c main_arg4) (ix2 ⟨r.val % 1024, by omega⟩ l)

theorem gblk_at : gblk m c t (ix2 a l) = joined m c (row m t a) l := by
  have ht : t.val < 8 := t.isLt
  have e : (row m t a).val / 1024 = t.val / 4 := by show (t.val * 256 + a.val) / 1024 = _; omega
  have e' : (⟨(row m t a).val % 1024, by omega⟩ : Fin 1024) = low m t a := Fin.ext (by show (t.val * 256 + a.val) % 1024 = t.val % 4 * 256 + a.val; omega)
  unfold joined
  rw [e, e', ← (Cert.Proof.AdamUp.coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

abbrev stepOf (r : Fin 2048) (l : Fin 1408) : EReal := step (a0 m c r l) (a1 m c r l) (a2 m c r l) (joined m c r l)
abbrev momOf (r : Fin 2048) (l : Fin 1408) : EReal := mom (a1 m c r l) (joined m c r l)
abbrev varOf (r : Fin 2048) (l : Fin 1408) : EReal := var (a2 m c r l) (joined m c r l)

/-- An array from the entries of a layer. -/
abbrev both (f : Fin 2048 → Fin 1408 → EReal) : Vec Ideal S2x2048x1408 .f32 := fun y => f (y 1) (y 2)
abbrev lay (f : Fin 2048 → Fin 1408 → EReal) : Vec Ideal S1x2048x1408 .f32 := fun y => f (y 1) (y 2)
abbrev over (f : Fin 2048 → Fin 1408 → EReal) (A : Vec Ideal S2x2048x1408 .f32) : Vec Ideal S2x2048x1408 .f32 := fun y => if (y 0).val / 1 = 1 then both f y else A y

theorem slice_of (f : Fin 2048 → Fin 1408 → EReal) (A B : Vec Ideal S2x2048x1408 .f32) (h : A = over f B) : extractStridedSlice S1x2048x1408 ![1, 0, 0] A Cert.AdamUp2Ideal.Gen.facts.slices_S2x2048x1408_S1x2048x1408_1_0_0 = lay f := by
  rw [h]
  funext y
  idx_vars y
  obtain rfl : y0 = 0 := Subsingleton.elim _ _
  pointwise
  exact if_pos (show (1 : Fin 2).val / 1 = 1 by decide)

abbrev out (b : Ref sig .tc) : Buf (Elt Ideal) (kl c b) := Pipeline.afterTail pcfgs (fun _ => adm m (ok m)) (dats m (ok m)) 0 (V0 m) [hostOps1] c b

theorem blk_eq (f : Fin 2048 → Fin 1408 → EReal) (v : Vec Ideal S1x256x1408 .f32) (h : ∀ a l, v (ix3 0 a l) = f (row m t a) l) (y : S1x256x1408.Idx) : v y = both f ((((Q m).win 0).rect t).emb y) := by
  idx_vars y
  obtain rfl : y0 = 0 := Subsingleton.elim _ _
  rw [emb]
  exact h y1 y2

theorem arr5 : out m c main_v1 = lay (joined m c) := by
  refine Eq.trans ?_ (slice_of _ _ ((D m c).A 5) ((D m c).arrAt_eq_of_coversWhere 5 (both (joined m c)) (fun β => β ⟨0, (by decide : 0 < 3)⟩ = 1) (cov5 m) (fun t hf y => ?_) (fun j => Iff.rfl)))
  · show StableHlo.after hostOps1 _ (Proc.devRef .tc main_v1) = _
    unfold hostOps1
    after_results
    exact congrArg (fun A => extractStridedSlice S1x2048x1408 ![1, 0, 0] A Cert.AdamUp2Ideal.Gen.facts.slices_S2x2048x1408_S1x2048x1408_1_0_0) (Pipeline.withArrays_arr spec0 (by decide) c _ _ 5)
  rw [after0_5, out5]
  exact blk_eq m t (joined m c) (k0_pay1 (gblk m c t)) (fun a l => (pay5 a l _ _ _ _).trans (gblk_at m c t a l)) y

theorem arr6 : out m c main_v2 = lay (stepOf m c) := by
  refine Eq.trans ?_ (slice_of _ _ ((D m c).A 6) ((D m c).arrAt_eq_of_coversWhere 6 (both (stepOf m c)) (fun β => β ⟨0, (by decide : 0 < 3)⟩ = 1) (cov6 m) (fun t hf y => ?_) (fun j => Iff.rfl)))
  · show StableHlo.after hostOps1 _ (Proc.devRef .tc main_v2) = _
    unfold hostOps1
    after_results
    exact congrArg (fun A => extractStridedSlice S1x2048x1408 ![1, 0, 0] A Cert.AdamUp2Ideal.Gen.facts.slices_S2x2048x1408_S1x2048x1408_1_0_0) (Pipeline.withArrays_arr spec0 (by decide) c _ _ 6)
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : out m c main_v3 = lay (momOf m c) := by
  refine Eq.trans ?_ (slice_of _ _ ((D m c).A 7) ((D m c).arrAt_eq_of_coversWhere 7 (both (momOf m c)) (fun β => β ⟨0, (by decide : 0 < 3)⟩ = 1) (cov7 m) (fun t hf y => ?_) (fun j => Iff.rfl)))
  · show StableHlo.after hostOps1 _ (Proc.devRef .tc main_v3) = _
    unfold hostOps1
    after_results
    exact congrArg (fun A => extractStridedSlice S1x2048x1408 ![1, 0, 0] A Cert.AdamUp2Ideal.Gen.facts.slices_S2x2048x1408_S1x2048x1408_1_0_0) (Pipeline.withArrays_arr spec0 (by decide) c _ _ 7)
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : out m c main_v4 = lay (varOf m c) := by
  refine Eq.trans ?_ (slice_of _ _ ((D m c).A 8) ((D m c).arrAt_eq_of_coversWhere 8 (both (varOf m c)) (fun β => β ⟨0, (by decide : 0 < 3)⟩ = 1) (cov8 m) (fun t hf y => ?_) (fun j => Iff.rfl)))
  · show StableHlo.after hostOps1 _ (Proc.devRef .tc main_v4) = _
    unfold hostOps1
    after_results
    exact congrArg (fun A => extractStridedSlice S1x2048x1408 ![1, 0, 0] A Cert.AdamUp2Ideal.Gen.facts.slices_S2x2048x1408_S1x2048x1408_1_0_0) (Pipeline.withArrays_arr spec0 (by decide) c _ _ 8)
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v1) = lay (joined m c)
      ∧ r.2.mem (kl c main_v2) = lay (stepOf m c)
      ∧ r.2.mem (kl c main_v3) = lay (momOf m c)
      ∧ r.2.mem (kl c main_v4) = lay (varOf m c)
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6) :=
  (θ_run defs _ _).mono (fun r h c => ⟨((h c).2 main_v1 (by decide : bare main_v1)).trans (arr5 m c),
      ((h c).2 main_v2 (by decide : bare main_v2)).trans (arr6 m c),
      ((h c).2 main_v3 (by decide : bare main_v3)).trans (arr7 m c),
      ((h c).2 main_v4 (by decide : bare main_v4)).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (W_main_arg5 m (ok m) _ c),
      ((h c).2 main_arg6 (by decide : bare main_arg6)).trans (W_main_arg6 m (ok m) _ c)⟩)
    (run_main m ρ (ok m))

theorem ref_lay (p : Vec Ideal S1x2048x1408 .f32) (f : Fin 2048 → Fin 1408 → EReal) (h : ∀ r l, p (ix3 0 r l) = f r l) : p = lay f := by
  funext y
  idx_vars y
  obtain rfl : y0 = 0 := Subsingleton.elim _ _
  exact h y1 y2

theorem ref_joined (r : Fin 2048) (l : Fin 1408) : Cert.AdamUp2RefIdeal.Read.val_main_v8 (F := Ideal) (m (kl c main_arg3)) (m (kl c main_arg4)) (m (kl c main_arg5)) (ix3 0 r l) = joined m c r l := by
  refine (Cert.Proof.AdamUp.ref_g _ _ _ r l).trans ?_
  unfold joined
  rw [word_eq m c]

theorem same : Cert.algebraic_AdamUp2Ideal_AdamUp2RefIdeal := by
  pair_intro
  · run_from Cert.Proof.AdamUp2.run m g
  · run_from ref_run m' g'
    · exact ref_lay _ _ fun r l => ref_joined m c r l
    · exact ref_lay _ _ fun r l => (ref_step _ _ _ _ _ _ _ _).trans (congrArg _ (ref_joined m c r l))
    · exact ref_lay _ _ fun r l => (ref_mom _ _ _ _ _ _).trans (congrArg _ (ref_joined m c r l))
    · exact ref_lay _ _ fun r l => (ref_var _ _ _ _ _ _).trans (congrArg _ (ref_joined m c r l))

end Cert.Proof.AdamUp2

end
-- ==== Proof.AdamDown2.lean ====
/- The optimiser's step of the second layer of one of two stacked weights, the gradient in two halves of its columns: `ffn_w2`. -/
module

public import proofs.«01_k».proof.Proof.AdamDown
public import proofs.«01_k».proof.Proof.Gen.AdamDown2Ideal.Frame
public import proofs.«01_k».proof.Proof.Gen.AdamDown2RefIdeal.Read
public import proofs.«01_k».proof.Proof.Gen.AdamDown2.Frame

@[expose] public section

set_option maxRecDepth 16384
set_option maxHeartbeats 1000000

noncomputable section

namespace Cert.Proof.AdamDown2

open Idealize.ShloMosaic Idealize.ShloMosaic.TcCoe Idealize.SL.Sem Memref.IsWhole
open Cert.Proof.AdamCol (mom var step select_eq pick own_sel other_sel)
open Cert.Proof.AdamDown (pay5 pay6 pay7 pay8)

section Reference

open Cert.AdamDown2RefIdeal Cert.AdamDown2RefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v8) = val_main_v8 (F := Ideal) (m (rl c main_arg3)) (m (rl c main_arg4)) (m (rl c main_arg5))
      ∧ r.2.mem (rl c main_v34) = val_main_v34 (F := Ideal) (m (rl c main_arg0)) (m (rl c main_arg1)) (m (rl c main_arg2)) (m (rl c main_arg3)) (m (rl c main_arg4)) (m (rl c main_arg5))
      ∧ r.2.mem (rl c main_v15) = val_main_v15 (F := Ideal) (m (rl c main_arg1)) (m (rl c main_arg3)) (m (rl c main_arg4)) (m (rl c main_arg5))
      ∧ r.2.mem (rl c main_v21) = val_main_v21 (F := Ideal) (m (rl c main_arg2)) (m (rl c main_arg3)) (m (rl c main_arg4)) (m (rl c main_arg5))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6) :=
  (θ_run _ _ _).mono (fun r h c => ⟨(h c).1.trans (val_main_v8_eq _ _ _), (h c).2.1.trans (val_main_v34_eq _ _ _ _ _ _), (h c).2.2.1.trans (val_main_v15_eq _ _ _ _), (h c).2.2.2.1.trans (val_main_v21_eq _ _ _ _), (h c).2.2.2.2⟩)
    (Cert.AdamDown2RefIdeal.Value.run m ρ)

variable (x0 x1 x2 : Vec Ideal S2x1408x2048 .f32) (x3 x4 : Vec Ideal S1408x1024 .f32) (x5 : Vec Ideal S1 .i32) (r : Fin 1408) (l : Fin 2048)

theorem ref0 : val_main_v0 (F := Ideal) x0 (ix3 0 r l) = x0 (ix3 1 r l) := by pointwise [val_main_v0]

theorem ref1 : val_main_v9 (F := Ideal) x1 (ix3 0 r l) = x1 (ix3 1 r l) := by pointwise [val_main_v9]

theorem ref2 : val_main_v10 (F := Ideal) x2 (ix3 0 r l) = x2 (ix3 1 r l) := by pointwise [val_main_v10]

theorem ref_mom : val_main_v15 (F := Ideal) x1 x3 x4 x5 (ix3 0 r l) = mom (x1 (ix3 1 r l)) (val_main_v8 (F := Ideal) x3 x4 x5 (ix3 0 r l)) := by
  rw [← ref1 x1 r l]
  rfl

theorem ref_var : val_main_v21 (F := Ideal) x2 x3 x4 x5 (ix3 0 r l) = var (x2 (ix3 1 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 1 r l)) (x1 (ix3 1 r l)) (x2 (ix3 1 r l)) (val_main_v8 (F := Ideal) x3 x4 x5 (ix3 0 r l)) := by
  rw [← ref0 x0 r l, ← ref1 x1 r l, ← ref2 x2 r l]
  rfl

end Reference

open Cert.AdamDown2Ideal Cert.AdamDown2Ideal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem ok_all : ok0 pf := by
  refine ⟨fun i => ⟨?_, .inl rfl⟩, fun i => ⟨?_, .inl rfl⟩⟩ <;> [rw [own_map]; rw [other_map]] <;>
    (refine Cert.Proof.AdamDown.inside _ ?_; have := Cert.Proof.AdamDown.point_lt i; split <;> omega)

end Maps

theorem ok : Ok m := ok_all _

theorem okBits (m : (ℓ : Loc Cert.AdamDown2.nD Cert.AdamDown2.τ Cert.AdamDown2.sig) → Buf (Elt Bits) ℓ) : Cert.AdamDown2.Gen.Ok m :=
  ok_all (F := Bits) (Cert.AdamDown2.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 352) (l : Fin 1024)

/-- The blocks at a point: of the arguments, of the gradient, and what is written. -/
abbrev ib (k : Fin (Q m).W) := iblk m (ok m) c k t
abbrev gblk : Vec Ideal S352x1024 .f32 := k0_pay5 (F := Ideal) (grid0.coords t) (word m) (ib m c t 3) (ib m c t 4)

theorem cov5 : ((Q m).win 5).CoversWhere (fun β => β ⟨0, (by decide : 0 < 3)⟩ = 1) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 1) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 1) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 1) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![1, t.val % 4, t.val / 4] := by decide +kernel

abbrev row : Fin 1408 := ⟨t.val % 4 * 352 + a.val, by have : t.val < 8 := t.isLt; omega⟩
abbrev lane : Fin 2048 := ⟨t.val / 4 * 1024 + l.val, by have : t.val < 8 := t.isLt; omega⟩

theorem emb : (((Q m).win 0).rect t).emb (ix3 0 a l : S1x352x1024.Idx) = (ix3 1 (row m t a) (lane m t l) : S2x1408x2048.Idx) := by
  funext b
  apply Fin.ext
  refine (((Q m).win 0).rect_emb_val t (ix3 0 a l : S1x352x1024.Idx) b).trans ?_
  show cc0_transform_0 (grid0.coords t) b * _ + _ = _
  rw [idx t]
  fin_cases b
  · rfl
  · rfl
  · exact rfl

abbrev a0 (r : Fin 1408) (l : Fin 2048) : EReal := m (kl c main_arg0) (ix3 1 r l)
theorem b0 : ib m c t 0 (ix3 0 a l) = a0 m c (row m t a) (lane m t l) :=
  (congrArg (V m c main_arg0) (emb m t a l)).trans (congrFun (V_main_arg0 m c) _)
abbrev a1 (r : Fin 1408) (l : Fin 2048) : EReal := m (kl c main_arg1) (ix3 1 r l)
theorem b1 : ib m c t 1 (ix3 0 a l) = a1 m c (row m t a) (lane m t l) :=
  (congrArg (V m c main_arg1) (emb m t a l)).trans (congrFun (V_main_arg1 m c) _)
abbrev a2 (r : Fin 1408) (l : Fin 2048) : EReal := m (kl c main_arg2) (ix3 1 r l)
theorem b2 : ib m c t 2 (ix3 0 a l) = a2 m c (row m t a) (lane m t l) :=
  (congrArg (V m c main_arg2) (emb m t a l)).trans (congrFun (V_main_arg2 m c) _)

theorem emb3 (h : BitVec.ofNat 32 (grid0.coords t 0).val = word m) : (((Q m).win 3).rect t).emb (ix2 a l : S352x1024.Idx) = (ix2 (row m t a) l : S1408x1024.Idx) := by
  funext b
  apply Fin.ext
  refine (((Q m).win 3).rect_emb_val t (ix2 a l : S352x1024.Idx) b).trans ?_
  show cc0_transform_3 inb_S1_S1_0 numel1_S1 (tbl m) (grid0.coords t) b * _ + _ = _
  rw [own_map, if_pos h, (Cert.Proof.AdamDown.coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S352x1024.Idx) = (ix2 (row m t a) l : S1408x1024.Idx) := by
  funext b
  apply Fin.ext
  refine (((Q m).win 4).rect_emb_val t (ix2 a l : S352x1024.Idx) b).trans ?_
  show cc0_transform_4 inb_S1_S1_0 numel1_S1 (tbl m) (grid0.coords t) b * _ + _ = _
  rw [other_map, if_neg h, (Cert.Proof.AdamDown.coords_at t).2]
  fin_cases b
  · rfl
  · exact (congrArg (· + l.val) (Nat.zero_mul _)).trans (Nat.zero_add _)

/-- The halves joined: each is the device's own where the word names it, else the other's. -/
def joined (r : Fin 1408) (l : Fin 2048) : EReal :=
  if BitVec.ofNat 32 (l.val / 1024) = word m then m (kl c main_arg3) (ix2 r ⟨l.val % 1024, by omega⟩) else m (kl c main_arg4) (ix2 r ⟨l.val % 1024, by omega⟩)

theorem gblk_at : gblk m c t (ix2 a l) = joined m c (row m t a) (lane m t l) := by
  have ht : t.val < 8 := t.isLt
  have e : (lane m t l).val / 1024 = t.val / 4 := by show (t.val / 4 * 1024 + l.val) / 1024 = _; omega
  have e' : (⟨(lane m t l).val % 1024, by omega⟩ : Fin 1024) = l := Fin.ext (by show (t.val / 4 * 1024 + l.val) % 1024 = l.val; omega)
  unfold joined
  rw [e, e', ← (Cert.Proof.AdamDown.coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

abbrev stepOf (r : Fin 1408) (l : Fin 2048) : EReal := step (a0 m c r l) (a1 m c r l) (a2 m c r l) (joined m c r l)
abbrev momOf (r : Fin 1408) (l : Fin 2048) : EReal := mom (a1 m c r l) (joined m c r l)
abbrev varOf (r : Fin 1408) (l : Fin 2048) : EReal := var (a2 m c r l) (joined m c r l)

/-- An array from the entries of a layer. -/
abbrev both (f : Fin 1408 → Fin 2048 → EReal) : Vec Ideal S2x1408x2048 .f32 := fun y => f (y 1) (y 2)
abbrev lay (f : Fin 1408 → Fin 2048 → EReal) : Vec Ideal S1x1408x2048 .f32 := fun y => f (y 1) (y 2)
abbrev over (f : Fin 1408 → Fin 2048 → EReal) (A : Vec Ideal S2x1408x2048 .f32) : Vec Ideal S2x1408x2048 .f32 := fun y => if (y 0).val / 1 = 1 then both f y else A y

theorem slice_of (f : Fin 1408 → Fin 2048 → EReal) (A B : Vec Ideal S2x1408x2048 .f32) (h : A = over f B) : extractStridedSlice S1x1408x2048 ![1, 0, 0] A Cert.AdamDown2Ideal.Gen.facts.slices_S2x1408x2048_S1x1408x2048_1_0_0 = lay f := by
  rw [h]
  funext y
  idx_vars y
  obtain rfl : y0 = 0 := Subsingleton.elim _ _
  pointwise
  exact if_pos (show (1 : Fin 2).val / 1 = 1 by decide)

abbrev out (b : Ref sig .tc) : Buf (Elt Ideal) (kl c b) := Pipeline.afterTail pcfgs (fun _ => adm m (ok m)) (dats m (ok m)) 0 (V0 m) [hostOps1] c b

theorem blk_eq (f : Fin 1408 → Fin 2048 → EReal) (v : Vec Ideal S1x352x1024 .f32) (h : ∀ a l, v (ix3 0 a l) = f (row m t a) (lane m t l)) (y : S1x352x1024.Idx) : v y = both f ((((Q m).win 0).rect t).emb y) := by
  idx_vars y
  obtain rfl : y0 = 0 := Subsingleton.elim _ _
  rw [emb]
  exact h y1 y2

theorem arr5 : out m c main_v1 = lay (joined m c) := by
  refine Eq.trans ?_ (slice_of _ _ ((D m c).A 5) ((D m c).arrAt_eq_of_coversWhere 5 (both (joined m c)) (fun β => β ⟨0, (by decide : 0 < 3)⟩ = 1) (cov5 m) (fun t hf y => ?_) (fun j => Iff.rfl)))
  · show StableHlo.after hostOps1 _ (Proc.devRef .tc main_v1) = _
    unfold hostOps1
    after_results
    exact congrArg (fun A => extractStridedSlice S1x1408x2048 ![1, 0, 0] A Cert.AdamDown2Ideal.Gen.facts.slices_S2x1408x2048_S1x1408x2048_1_0_0) (Pipeline.withArrays_arr spec0 (by decide) c _ _ 5)
  rw [after0_5, out5]
  exact blk_eq m t (joined m c) (k0_pay1 (gblk m c t)) (fun a l => (pay5 a l _ _ _ _).trans (gblk_at m c t a l)) y

theorem arr6 : out m c main_v2 = lay (stepOf m c) := by
  refine Eq.trans ?_ (slice_of _ _ ((D m c).A 6) ((D m c).arrAt_eq_of_coversWhere 6 (both (stepOf m c)) (fun β => β ⟨0, (by decide : 0 < 3)⟩ = 1) (cov6 m) (fun t hf y => ?_) (fun j => Iff.rfl)))
  · show StableHlo.after hostOps1 _ (Proc.devRef .tc main_v2) = _
    unfold hostOps1
    after_results
    exact congrArg (fun A => extractStridedSlice S1x1408x2048 ![1, 0, 0] A Cert.AdamDown2Ideal.Gen.facts.slices_S2x1408x2048_S1x1408x2048_1_0_0) (Pipeline.withArrays_arr spec0 (by decide) c _ _ 6)
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : out m c main_v3 = lay (momOf m c) := by
  refine Eq.trans ?_ (slice_of _ _ ((D m c).A 7) ((D m c).arrAt_eq_of_coversWhere 7 (both (momOf m c)) (fun β => β ⟨0, (by decide : 0 < 3)⟩ = 1) (cov7 m) (fun t hf y => ?_) (fun j => Iff.rfl)))
  · show StableHlo.after hostOps1 _ (Proc.devRef .tc main_v3) = _
    unfold hostOps1
    after_results
    exact congrArg (fun A => extractStridedSlice S1x1408x2048 ![1, 0, 0] A Cert.AdamDown2Ideal.Gen.facts.slices_S2x1408x2048_S1x1408x2048_1_0_0) (Pipeline.withArrays_arr spec0 (by decide) c _ _ 7)
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : out m c main_v4 = lay (varOf m c) := by
  refine Eq.trans ?_ (slice_of _ _ ((D m c).A 8) ((D m c).arrAt_eq_of_coversWhere 8 (both (varOf m c)) (fun β => β ⟨0, (by decide : 0 < 3)⟩ = 1) (cov8 m) (fun t hf y => ?_) (fun j => Iff.rfl)))
  · show StableHlo.after hostOps1 _ (Proc.devRef .tc main_v4) = _
    unfold hostOps1
    after_results
    exact congrArg (fun A => extractStridedSlice S1x1408x2048 ![1, 0, 0] A Cert.AdamDown2Ideal.Gen.facts.slices_S2x1408x2048_S1x1408x2048_1_0_0) (Pipeline.withArrays_arr spec0 (by decide) c _ _ 8)
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v1) = lay (joined m c)
      ∧ r.2.mem (kl c main_v2) = lay (stepOf m c)
      ∧ r.2.mem (kl c main_v3) = lay (momOf m c)
      ∧ r.2.mem (kl c main_v4) = lay (varOf m c)
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6) :=
  (θ_run defs _ _).mono (fun r h c => ⟨((h c).2 main_v1 (by decide : bare main_v1)).trans (arr5 m c),
      ((h c).2 main_v2 (by decide : bare main_v2)).trans (arr6 m c),
      ((h c).2 main_v3 (by decide : bare main_v3)).trans (arr7 m c),
      ((h c).2 main_v4 (by decide : bare main_v4)).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (W_main_arg5 m (ok m) _ c),
      ((h c).2 main_arg6 (by decide : bare main_arg6)).trans (W_main_arg6 m (ok m) _ c)⟩)
    (run_main m ρ (ok m))

theorem ref_lay (p : Vec Ideal S1x1408x2048 .f32) (f : Fin 1408 → Fin 2048 → EReal) (h : ∀ r l, p (ix3 0 r l) = f r l) : p = lay f := by
  funext y
  idx_vars y
  obtain rfl : y0 = 0 := Subsingleton.elim _ _
  exact h y1 y2

theorem ref_joined (r : Fin 1408) (l : Fin 2048) : Cert.AdamDown2RefIdeal.Read.val_main_v8 (F := Ideal) (m (kl c main_arg3)) (m (kl c main_arg4)) (m (kl c main_arg5)) (ix3 0 r l) = joined m c r l := by
  refine (Cert.Proof.AdamDown.ref_g _ _ _ r l).trans ?_
  unfold joined
  rw [word_eq m c]

theorem same : Cert.algebraic_AdamDown2Ideal_AdamDown2RefIdeal := by
  pair_intro
  · run_from Cert.Proof.AdamDown2.run m g
  · run_from ref_run m' g'
    · exact ref_lay _ _ fun r l => ref_joined m c r l
    · exact ref_lay _ _ fun r l => (ref_step _ _ _ _ _ _ _ _).trans (congrArg _ (ref_joined m c r l))
    · exact ref_lay _ _ fun r l => (ref_mom _ _ _ _ _ _).trans (congrArg _ (ref_joined m c r l))
    · exact ref_lay _ _ fun r l => (ref_var _ _ _ _ _ _).trans (congrArg _ (ref_joined m c r l))

end Cert.Proof.AdamDown2

end
-- ==== Proof.AdamGate2.lean ====
/- The optimiser's step of the second layer of one of two stacked weights, the gradient in two halves of its columns: `ple_w_gate`. -/
module

public import proofs.«01_k».proof.Proof.AdamGate
public import proofs.«01_k».proof.Proof.Gen.AdamGate2Ideal.Frame
public import proofs.«01_k».proof.Proof.Gen.AdamGate2RefIdeal.Read
public import proofs.«01_k».proof.Proof.Gen.AdamGate2.Frame

@[expose] public section

set_option maxRecDepth 16384
set_option maxHeartbeats 1000000

noncomputable section

namespace Cert.Proof.AdamGate2

open Idealize.ShloMosaic Idealize.ShloMosaic.TcCoe Idealize.SL.Sem Memref.IsWhole
open Cert.Proof.AdamCol (mom var step select_eq pick own_sel other_sel)
open Cert.Proof.AdamGate (pay5 pay6 pay7 pay8)

section Reference

open Cert.AdamGate2RefIdeal Cert.AdamGate2RefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v8) = val_main_v8 (F := Ideal) (m (rl c main_arg3)) (m (rl c main_arg4)) (m (rl c main_arg5))
      ∧ r.2.mem (rl c main_v34) = val_main_v34 (F := Ideal) (m (rl c main_arg0)) (m (rl c main_arg1)) (m (rl c main_arg2)) (m (rl c main_arg3)) (m (rl c main_arg4)) (m (rl c main_arg5))
      ∧ r.2.mem (rl c main_v15) = val_main_v15 (F := Ideal) (m (rl c main_arg1)) (m (rl c main_arg3)) (m (rl c main_arg4)) (m (rl c main_arg5))
      ∧ r.2.mem (rl c main_v21) = val_main_v21 (F := Ideal) (m (rl c main_arg2)) (m (rl c main_arg3)) (m (rl c main_arg4)) (m (rl c main_arg5))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6) :=
  (θ_run _ _ _).mono (fun r h c => ⟨(h c).1.trans (val_main_v8_eq _ _ _), (h c).2.1.trans (val_main_v34_eq _ _ _ _ _ _), (h c).2.2.1.trans (val_main_v15_eq _ _ _ _), (h c).2.2.2.1.trans (val_main_v21_eq _ _ _ _), (h c).2.2.2.2⟩)
    (Cert.AdamGate2RefIdeal.Value.run m ρ)

variable (x0 x1 x2 : Vec Ideal S2x512x2048 .f32) (x3 x4 : Vec Ideal S512x1024 .f32) (x5 : Vec Ideal S1 .i32) (r : Fin 512) (l : Fin 2048)

theorem ref0 : val_main_v0 (F := Ideal) x0 (ix3 0 r l) = x0 (ix3 1 r l) := by pointwise [val_main_v0]

theorem ref1 : val_main_v9 (F := Ideal) x1 (ix3 0 r l) = x1 (ix3 1 r l) := by pointwise [val_main_v9]

theorem ref2 : val_main_v10 (F := Ideal) x2 (ix3 0 r l) = x2 (ix3 1 r l) := by pointwise [val_main_v10]

theorem ref_mom : val_main_v15 (F := Ideal) x1 x3 x4 x5 (ix3 0 r l) = mom (x1 (ix3 1 r l)) (val_main_v8 (F := Ideal) x3 x4 x5 (ix3 0 r l)) := by
  rw [← ref1 x1 r l]
  rfl

theorem ref_var : val_main_v21 (F := Ideal) x2 x3 x4 x5 (ix3 0 r l) = var (x2 (ix3 1 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 1 r l)) (x1 (ix3 1 r l)) (x2 (ix3 1 r l)) (val_main_v8 (F := Ideal) x3 x4 x5 (ix3 0 r l)) := by
  rw [← ref0 x0 r l, ← ref1 x1 r l, ← ref2 x2 r l]
  rfl

end Reference

open Cert.AdamGate2Ideal Cert.AdamGate2Ideal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem ok_all : ok0 pf := by
  refine ⟨fun i => ⟨?_, .inl rfl⟩, fun i => ⟨?_, .inl rfl⟩⟩ <;> [rw [own_map]; rw [other_map]] <;>
    (refine Cert.Proof.AdamGate.inside _ ?_; have := Cert.Proof.AdamGate.point_lt i; split <;> omega)

end Maps

theorem ok : Ok m := ok_all _

theorem okBits (m : (ℓ : Loc Cert.AdamGate2.nD Cert.AdamGate2.τ Cert.AdamGate2.sig) → Buf (Elt Bits) ℓ) : Cert.AdamGate2.Gen.Ok m :=
  ok_all (F := Bits) (Cert.AdamGate2.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 512) (l : Fin 1024)

/-- The blocks at a point: of the arguments, of the gradient, and what is written. -/
abbrev ib (k : Fin (Q m).W) := iblk m (ok m) c k t
abbrev gblk : Vec Ideal S512x1024 .f32 := k0_pay5 (F := Ideal) (grid0.coords t) (word m) (ib m c t 3) (ib m c t 4)

theorem cov5 : ((Q m).win 5).CoversWhere (fun β => β ⟨0, (by decide : 0 < 3)⟩ = 1) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 1) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 1) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 1) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![1, t.val % 1, t.val / 1] := by decide +kernel

abbrev row : Fin 512 := ⟨t.val % 1 * 512 + a.val, by have : t.val < 2 := t.isLt; omega⟩
abbrev lane : Fin 2048 := ⟨t.val / 1 * 1024 + l.val, by have : t.val < 2 := t.isLt; omega⟩

theorem emb : (((Q m).win 0).rect t).emb (ix3 0 a l : S1x512x1024.Idx) = (ix3 1 (row m t a) (lane m t l) : S2x512x2048.Idx) := by
  funext b
  apply Fin.ext
  refine (((Q m).win 0).rect_emb_val t (ix3 0 a l : S1x512x1024.Idx) b).trans ?_
  show cc0_transform_0 (grid0.coords t) b * _ + _ = _
  rw [idx t]
  fin_cases b
  · rfl
  · rfl
  · exact rfl

abbrev a0 (r : Fin 512) (l : Fin 2048) : EReal := m (kl c main_arg0) (ix3 1 r l)
theorem b0 : ib m c t 0 (ix3 0 a l) = a0 m c (row m t a) (lane m t l) :=
  (congrArg (V m c main_arg0) (emb m t a l)).trans (congrFun (V_main_arg0 m c) _)
abbrev a1 (r : Fin 512) (l : Fin 2048) : EReal := m (kl c main_arg1) (ix3 1 r l)
theorem b1 : ib m c t 1 (ix3 0 a l) = a1 m c (row m t a) (lane m t l) :=
  (congrArg (V m c main_arg1) (emb m t a l)).trans (congrFun (V_main_arg1 m c) _)
abbrev a2 (r : Fin 512) (l : Fin 2048) : EReal := m (kl c main_arg2) (ix3 1 r l)
theorem b2 : ib m c t 2 (ix3 0 a l) = a2 m c (row m t a) (lane m t l) :=
  (congrArg (V m c main_arg2) (emb m t a l)).trans (congrFun (V_main_arg2 m c) _)

theorem emb3 (h : BitVec.ofNat 32 (grid0.coords t 0).val = word m) : (((Q m).win 3).rect t).emb (ix2 a l : S512x1024.Idx) = (ix2 (row m t a) l : S512x1024.Idx) := by
  funext b
  apply Fin.ext
  refine (((Q m).win 3).rect_emb_val t (ix2 a l : S512x1024.Idx) b).trans ?_
  show cc0_transform_3 inb_S1_S1_0 numel1_S1 (tbl m) (grid0.coords t) b * _ + _ = _
  rw [own_map, if_pos h, (Cert.Proof.AdamGate.coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S512x1024.Idx) = (ix2 (row m t a) l : S512x1024.Idx) := by
  funext b
  apply Fin.ext
  refine (((Q m).win 4).rect_emb_val t (ix2 a l : S512x1024.Idx) b).trans ?_
  show cc0_transform_4 inb_S1_S1_0 numel1_S1 (tbl m) (grid0.coords t) b * _ + _ = _
  rw [other_map, if_neg h, (Cert.Proof.AdamGate.coords_at t).2]
  fin_cases b
  · rfl
  · exact (congrArg (· + l.val) (Nat.zero_mul _)).trans (Nat.zero_add _)

/-- The halves joined: each is the device's own where the word names it, else the other's. -/
def joined (r : Fin 512) (l : Fin 2048) : EReal :=
  if BitVec.ofNat 32 (l.val / 1024) = word m then m (kl c main_arg3) (ix2 r ⟨l.val % 1024, by omega⟩) else m (kl c main_arg4) (ix2 r ⟨l.val % 1024, by omega⟩)

theorem gblk_at : gblk m c t (ix2 a l) = joined m c (row m t a) (lane m t l) := by
  have ht : t.val < 2 := t.isLt
  have e : (lane m t l).val / 1024 = t.val / 1 := by show (t.val / 1 * 1024 + l.val) / 1024 = _; omega
  have e' : (⟨(lane m t l).val % 1024, by omega⟩ : Fin 1024) = l := Fin.ext (by show (t.val / 1 * 1024 + l.val) % 1024 = l.val; omega)
  unfold joined
  rw [e, e', ← (Cert.Proof.AdamGate.coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

abbrev stepOf (r : Fin 512) (l : Fin 2048) : EReal := step (a0 m c r l) (a1 m c r l) (a2 m c r l) (joined m c r l)
abbrev momOf (r : Fin 512) (l : Fin 2048) : EReal := mom (a1 m c r l) (joined m c r l)
abbrev varOf (r : Fin 512) (l : Fin 2048) : EReal := var (a2 m c r l) (joined m c r l)

/-- An array from the entries of a layer. -/
abbrev both (f : Fin 512 → Fin 2048 → EReal) : Vec Ideal S2x512x2048 .f32 := fun y => f (y 1) (y 2)
abbrev lay (f : Fin 512 → Fin 2048 → EReal) : Vec Ideal S1x512x2048 .f32 := fun y => f (y 1) (y 2)
abbrev over (f : Fin 512 → Fin 2048 → EReal) (A : Vec Ideal S2x512x2048 .f32) : Vec Ideal S2x512x2048 .f32 := fun y => if (y 0).val / 1 = 1 then both f y else A y

theorem slice_of (f : Fin 512 → Fin 2048 → EReal) (A B : Vec Ideal S2x512x2048 .f32) (h : A = over f B) : extractStridedSlice S1x512x2048 ![1, 0, 0] A Cert.AdamGate2Ideal.Gen.facts.slices_S2x512x2048_S1x512x2048_1_0_0 = lay f := by
  rw [h]
  funext y
  idx_vars y
  obtain rfl : y0 = 0 := Subsingleton.elim _ _
  pointwise
  exact if_pos (show (1 : Fin 2).val / 1 = 1 by decide)

abbrev out (b : Ref sig .tc) : Buf (Elt Ideal) (kl c b) := Pipeline.afterTail pcfgs (fun _ => adm m (ok m)) (dats m (ok m)) 0 (V0 m) [hostOps1] c b

theorem blk_eq (f : Fin 512 → Fin 2048 → EReal) (v : Vec Ideal S1x512x1024 .f32) (h : ∀ a l, v (ix3 0 a l) = f (row m t a) (lane m t l)) (y : S1x512x1024.Idx) : v y = both f ((((Q m).win 0).rect t).emb y) := by
  idx_vars y
  obtain rfl : y0 = 0 := Subsingleton.elim _ _
  rw [emb]
  exact h y1 y2

theorem arr5 : out m c main_v1 = lay (joined m c) := by
  refine Eq.trans ?_ (slice_of _ _ ((D m c).A 5) ((D m c).arrAt_eq_of_coversWhere 5 (both (joined m c)) (fun β => β ⟨0, (by decide : 0 < 3)⟩ = 1) (cov5 m) (fun t hf y => ?_) (fun j => Iff.rfl)))
  · show StableHlo.after hostOps1 _ (Proc.devRef .tc main_v1) = _
    unfold hostOps1
    after_results
    exact congrArg (fun A => extractStridedSlice S1x512x2048 ![1, 0, 0] A Cert.AdamGate2Ideal.Gen.facts.slices_S2x512x2048_S1x512x2048_1_0_0) (Pipeline.withArrays_arr spec0 (by decide) c _ _ 5)
  rw [after0_5, out5]
  exact blk_eq m t (joined m c) (k0_pay1 (gblk m c t)) (fun a l => (pay5 a l _ _ _ _).trans (gblk_at m c t a l)) y

theorem arr6 : out m c main_v2 = lay (stepOf m c) := by
  refine Eq.trans ?_ (slice_of _ _ ((D m c).A 6) ((D m c).arrAt_eq_of_coversWhere 6 (both (stepOf m c)) (fun β => β ⟨0, (by decide : 0 < 3)⟩ = 1) (cov6 m) (fun t hf y => ?_) (fun j => Iff.rfl)))
  · show StableHlo.after hostOps1 _ (Proc.devRef .tc main_v2) = _
    unfold hostOps1
    after_results
    exact congrArg (fun A => extractStridedSlice S1x512x2048 ![1, 0, 0] A Cert.AdamGate2Ideal.Gen.facts.slices_S2x512x2048_S1x512x2048_1_0_0) (Pipeline.withArrays_arr spec0 (by decide) c _ _ 6)
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : out m c main_v3 = lay (momOf m c) := by
  refine Eq.trans ?_ (slice_of _ _ ((D m c).A 7) ((D m c).arrAt_eq_of_coversWhere 7 (both (momOf m c)) (fun β => β ⟨0, (by decide : 0 < 3)⟩ = 1) (cov7 m) (fun t hf y => ?_) (fun j => Iff.rfl)))
  · show StableHlo.after hostOps1 _ (Proc.devRef .tc main_v3) = _
    unfold hostOps1
    after_results
    exact congrArg (fun A => extractStridedSlice S1x512x2048 ![1, 0, 0] A Cert.AdamGate2Ideal.Gen.facts.slices_S2x512x2048_S1x512x2048_1_0_0) (Pipeline.withArrays_arr spec0 (by decide) c _ _ 7)
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : out m c main_v4 = lay (varOf m c) := by
  refine Eq.trans ?_ (slice_of _ _ ((D m c).A 8) ((D m c).arrAt_eq_of_coversWhere 8 (both (varOf m c)) (fun β => β ⟨0, (by decide : 0 < 3)⟩ = 1) (cov8 m) (fun t hf y => ?_) (fun j => Iff.rfl)))
  · show StableHlo.after hostOps1 _ (Proc.devRef .tc main_v4) = _
    unfold hostOps1
    after_results
    exact congrArg (fun A => extractStridedSlice S1x512x2048 ![1, 0, 0] A Cert.AdamGate2Ideal.Gen.facts.slices_S2x512x2048_S1x512x2048_1_0_0) (Pipeline.withArrays_arr spec0 (by decide) c _ _ 8)
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v1) = lay (joined m c)
      ∧ r.2.mem (kl c main_v2) = lay (stepOf m c)
      ∧ r.2.mem (kl c main_v3) = lay (momOf m c)
      ∧ r.2.mem (kl c main_v4) = lay (varOf m c)
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6) :=
  (θ_run defs _ _).mono (fun r h c => ⟨((h c).2 main_v1 (by decide : bare main_v1)).trans (arr5 m c),
      ((h c).2 main_v2 (by decide : bare main_v2)).trans (arr6 m c),
      ((h c).2 main_v3 (by decide : bare main_v3)).trans (arr7 m c),
      ((h c).2 main_v4 (by decide : bare main_v4)).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (W_main_arg5 m (ok m) _ c),
      ((h c).2 main_arg6 (by decide : bare main_arg6)).trans (W_main_arg6 m (ok m) _ c)⟩)
    (run_main m ρ (ok m))

theorem ref_lay (p : Vec Ideal S1x512x2048 .f32) (f : Fin 512 → Fin 2048 → EReal) (h : ∀ r l, p (ix3 0 r l) = f r l) : p = lay f := by
  funext y
  idx_vars y
  obtain rfl : y0 = 0 := Subsingleton.elim _ _
  exact h y1 y2

theorem ref_joined (r : Fin 512) (l : Fin 2048) : Cert.AdamGate2RefIdeal.Read.val_main_v8 (F := Ideal) (m (kl c main_arg3)) (m (kl c main_arg4)) (m (kl c main_arg5)) (ix3 0 r l) = joined m c r l := by
  refine (Cert.Proof.AdamGate.ref_g _ _ _ r l).trans ?_
  unfold joined
  rw [word_eq m c]

theorem same : Cert.algebraic_AdamGate2Ideal_AdamGate2RefIdeal := by
  pair_intro
  · run_from Cert.Proof.AdamGate2.run m g
  · run_from ref_run m' g'
    · exact ref_lay _ _ fun r l => ref_joined m c r l
    · exact ref_lay _ _ fun r l => (ref_step _ _ _ _ _ _ _ _).trans (congrArg _ (ref_joined m c r l))
    · exact ref_lay _ _ fun r l => (ref_mom _ _ _ _ _ _).trans (congrArg _ (ref_joined m c r l))
    · exact ref_lay _ _ fun r l => (ref_var _ _ _ _ _ _).trans (congrArg _ (ref_joined m c r l))

end Cert.Proof.AdamGate2

end
-- ==== Proof.AdamProj2.lean ====
/- The optimiser's step of the second layer of one of two stacked weights, the gradient in two halves of its rows: `ple_w_proj`. -/
module

public import proofs.«01_k».proof.Proof.AdamProj
public import proofs.«01_k».proof.Proof.Gen.AdamProj2Ideal.Frame
public import proofs.«01_k».proof.Proof.Gen.AdamProj2RefIdeal.Read
public import proofs.«01_k».proof.Proof.Gen.AdamProj2.Frame

@[expose] public section

set_option maxRecDepth 16384
set_option maxHeartbeats 1000000

noncomputable section

namespace Cert.Proof.AdamProj2

open Idealize.ShloMosaic Idealize.ShloMosaic.TcCoe Idealize.SL.Sem Memref.IsWhole
open Cert.Proof.AdamCol (mom var step select_eq pick own_sel other_sel)
open Cert.Proof.AdamProj (pay5 pay6 pay7 pay8)

section Reference

open Cert.AdamProj2RefIdeal Cert.AdamProj2RefIdeal.Read

abbrev rl (c : Dev nD) (b : Ref sig .tc) : Loc nD τ sig := (c.tc : Thread nD τ).loc b

/-- The reference's run, its results named by their last stages. -/
theorem ref_run (m : (ℓ : Loc nD τ sig) → Buf (Elt Ideal) ℓ) (ρ : Dev nD → PrngReg) : θ_run defs (onTc (τ := τ) (main (F := Ideal))) ⟨m, fun _ => 0, ρ⟩ fun r => ∀ c : Dev nD,
      r.2.mem (rl c main_v8) = val_main_v8 (F := Ideal) (m (rl c main_arg3)) (m (rl c main_arg4)) (m (rl c main_arg5))
      ∧ r.2.mem (rl c main_v34) = val_main_v34 (F := Ideal) (m (rl c main_arg0)) (m (rl c main_arg1)) (m (rl c main_arg2)) (m (rl c main_arg3)) (m (rl c main_arg4)) (m (rl c main_arg5))
      ∧ r.2.mem (rl c main_v15) = val_main_v15 (F := Ideal) (m (rl c main_arg1)) (m (rl c main_arg3)) (m (rl c main_arg4)) (m (rl c main_arg5))
      ∧ r.2.mem (rl c main_v21) = val_main_v21 (F := Ideal) (m (rl c main_arg2)) (m (rl c main_arg3)) (m (rl c main_arg4)) (m (rl c main_arg5))
      ∧ r.2.mem (rl c main_arg0) = m (rl c main_arg0)
      ∧ r.2.mem (rl c main_arg1) = m (rl c main_arg1)
      ∧ r.2.mem (rl c main_arg2) = m (rl c main_arg2)
      ∧ r.2.mem (rl c main_arg3) = m (rl c main_arg3)
      ∧ r.2.mem (rl c main_arg4) = m (rl c main_arg4)
      ∧ r.2.mem (rl c main_arg5) = m (rl c main_arg5)
      ∧ r.2.mem (rl c main_arg6) = m (rl c main_arg6) :=
  (θ_run _ _ _).mono (fun r h c => ⟨(h c).1.trans (val_main_v8_eq _ _ _), (h c).2.1.trans (val_main_v34_eq _ _ _ _ _ _), (h c).2.2.1.trans (val_main_v15_eq _ _ _ _), (h c).2.2.2.1.trans (val_main_v21_eq _ _ _ _), (h c).2.2.2.2⟩)
    (Cert.AdamProj2RefIdeal.Value.run m ρ)

variable (x0 x1 x2 : Vec Ideal S2x256x512 .f32) (x3 x4 : Vec Ideal S128x512 .f32) (x5 : Vec Ideal S1 .i32) (r : Fin 256) (l : Fin 512)

theorem ref0 : val_main_v0 (F := Ideal) x0 (ix3 0 r l) = x0 (ix3 1 r l) := by pointwise [val_main_v0]

theorem ref1 : val_main_v9 (F := Ideal) x1 (ix3 0 r l) = x1 (ix3 1 r l) := by pointwise [val_main_v9]

theorem ref2 : val_main_v10 (F := Ideal) x2 (ix3 0 r l) = x2 (ix3 1 r l) := by pointwise [val_main_v10]

theorem ref_mom : val_main_v15 (F := Ideal) x1 x3 x4 x5 (ix3 0 r l) = mom (x1 (ix3 1 r l)) (val_main_v8 (F := Ideal) x3 x4 x5 (ix3 0 r l)) := by
  rw [← ref1 x1 r l]
  rfl

theorem ref_var : val_main_v21 (F := Ideal) x2 x3 x4 x5 (ix3 0 r l) = var (x2 (ix3 1 r l)) (val_main_v8 (F := Ideal) x3 x4 x5 (ix3 0 r l)) := by
  rw [← ref2 x2 r l]
  rfl

theorem ref_step : val_main_v34 (F := Ideal) x0 x1 x2 x3 x4 x5 (ix3 0 r l) = step (x0 (ix3 1 r l)) (x1 (ix3 1 r l)) (x2 (ix3 1 r l)) (val_main_v8 (F := Ideal) x3 x4 x5 (ix3 0 r l)) := by
  rw [← ref0 x0 r l, ← ref1 x1 r l, ← ref2 x2 r l]
  rfl

end Reference

open Cert.AdamProj2Ideal Cert.AdamProj2Ideal.Gen

variable (m : (ℓ : Loc nD τ sig) → Buf (Elt Ideal) ℓ) (c : Dev nD)

section Maps

variable {F : FTy → Type} [FloatOps F] (pf : pre0.Contents (Elt F)) (i : grid0.Coords)

/-- The half that the device holds, and where each half's blocks are read at a point. -/
abbrev wordOf : BitVec 32 := pf.at 0 (Rect.unit (s := S1) ![0] S1.size inb_S1_S1_0) numel1_S1

theorem own_map : cc0_transform_3 inb_S1_S1_0 numel1_S1 pf i = ![if BitVec.ofNat 32 (i 0).val = wordOf pf then (BitVec.ofNat 32 (i 1).val).toNat else 0, 0] :=
  congrArg (fun n : Nat => (![n, 0] : Fin 2 → Nat)) (own_sel _ _ _)

theorem other_map : cc0_transform_4 inb_S1_S1_0 numel1_S1 pf i = ![if BitVec.ofNat 32 (i 0).val = wordOf pf then 0 else (BitVec.ofNat 32 (i 1).val).toNat, 0] :=
  congrArg (fun n : Nat => (![n, 0] : Fin 2 → Nat)) (other_sel _ _ _)

theorem ok_all : ok0 pf := by
  refine ⟨fun i => ⟨?_, .inl rfl⟩, fun i => ⟨?_, .inl rfl⟩⟩ <;> [rw [own_map]; rw [other_map]] <;>
    (refine Cert.Proof.AdamProj.inside _ ?_; have := Cert.Proof.AdamProj.point_lt i; split <;> omega)

end Maps

theorem ok : Ok m := ok_all _

theorem okBits (m : (ℓ : Loc Cert.AdamProj2.nD Cert.AdamProj2.τ Cert.AdamProj2.sig) → Buf (Elt Bits) ℓ) : Cert.AdamProj2.Gen.Ok m :=
  ok_all (F := Bits) (Cert.AdamProj2.Gen.tbl m)

abbrev Q := cfgM m (ok m)
abbrev D := dats m (ok m) 0 c
abbrev kl (c : Dev nD) (b : Ref sig .tc) : Loc nD τ sig := (c.tc : Thread nD τ).loc b
abbrev word : BitVec 32 := wordOf (tbl m)

theorem word_eq : word m = m (kl c main_arg5) (ix1 0) := by
  obtain rfl : c = 0 := Subsingleton.elim _ _
  exact (congrFun (V_main_arg5 m 0) _).trans (congrArg (m (kl 0 main_arg5)) (by funext a; fin_cases a; rfl))

variable (t : Fin (Q m).N) (a : Fin 128) (l : Fin 512)

/-- The blocks at a point: of the arguments, of the gradient, and what is written. -/
abbrev ib (k : Fin (Q m).W) := iblk m (ok m) c k t
abbrev gblk : Vec Ideal S128x512 .f32 := k0_pay5 (F := Ideal) (grid0.coords t) (word m) (ib m c t 3) (ib m c t 4)

theorem cov5 : ((Q m).win 5).CoversWhere (fun β => β ⟨0, (by decide : 0 < 3)⟩ = 1) := of_decide_eq_true (by sl_kernel_rfl)
theorem out5 : (outsAt0 m (ok m) c t).1 = k0_pay1 (gblk m c t) := by
  unfold outsAt0
  dsimp only
  frame_out
  exact congrArg k0_pay1 (congrArg₂ (k0_pay5 (F := Ideal) (grid0.coords t) (word m)) (read_unread _ _) (read_unread _ _))

theorem cov6 : ((Q m).win 6).CoversWhere (fun β => β ⟨0, (by decide : 0 < 3)⟩ = 1) := of_decide_eq_true (by sl_kernel_rfl)
theorem out6 : (outsAt0 m (ok m) c t).2.1 = k0_pay2 (k0_pay8 (F := Ideal) (grid0.coords t) (word m) (ib m c t 3) (ib m c t 4) (ib m c t 0) (ib m c t 1) (ib m c t 2)) := by
  unfold outsAt0
  dsimp only
  frame_out
  exact congrArg k0_pay2 (congr (congr (congr (congrArg₂ (k0_pay8 (F := Ideal) (grid0.coords t) (word m)) (read_unread _ _) (read_unread _ _)) (read_unread _ _)) (read_unread _ _)) (read_unread _ _))

theorem cov7 : ((Q m).win 7).CoversWhere (fun β => β ⟨0, (by decide : 0 < 3)⟩ = 1) := of_decide_eq_true (by sl_kernel_rfl)
theorem out7 : (outsAt0 m (ok m) c t).2.2.1 = k0_pay3 (k0_pay6 (F := Ideal) (grid0.coords t) (word m) (ib m c t 3) (ib m c t 4) (ib m c t 1)) := by
  unfold outsAt0
  dsimp only
  frame_out
  exact congrArg k0_pay3 (congr (congrArg₂ (k0_pay6 (F := Ideal) (grid0.coords t) (word m)) (read_unread _ _) (read_unread _ _)) (read_unread _ _))

theorem cov8 : ((Q m).win 8).CoversWhere (fun β => β ⟨0, (by decide : 0 < 3)⟩ = 1) := of_decide_eq_true (by sl_kernel_rfl)
theorem out8 : (outsAt0 m (ok m) c t).2.2.2 = k0_pay4 (k0_pay7 (F := Ideal) (grid0.coords t) (word m) (ib m c t 3) (ib m c t 4) (ib m c t 2)) := by
  unfold outsAt0
  dsimp only
  frame_out
  exact congrArg k0_pay4 (congr (congrArg₂ (k0_pay7 (F := Ideal) (grid0.coords t) (word m)) (read_unread _ _) (read_unread _ _)) (read_unread _ _))

theorem idx : ∀ t : Fin grid0.N, cc0_transform_0 (grid0.coords t) = ![1, t.val, 0] := by decide +kernel

abbrev row : Fin 256 := ⟨t.val * 128 + a.val, by have : t.val < 2 := t.isLt; omega⟩
abbrev low : Fin 128 := ⟨t.val % 1 * 128 + a.val, by omega⟩

theorem emb : (((Q m).win 0).rect t).emb (ix3 0 a l : S1x128x512.Idx) = (ix3 1 (row m t a) l : S2x256x512.Idx) := by
  funext b
  apply Fin.ext
  refine (((Q m).win 0).rect_emb_val t (ix3 0 a l : S1x128x512.Idx) b).trans ?_
  show cc0_transform_0 (grid0.coords t) b * _ + _ = _
  rw [idx t]
  fin_cases b
  · rfl
  · rfl
  · exact (congrArg (· + l.val) (Nat.zero_mul _)).trans (Nat.zero_add _)

abbrev a0 (r : Fin 256) (l : Fin 512) : EReal := m (kl c main_arg0) (ix3 1 r l)
theorem b0 : ib m c t 0 (ix3 0 a l) = a0 m c (row m t a) l :=
  (congrArg (V m c main_arg0) (emb m t a l)).trans (congrFun (V_main_arg0 m c) _)
abbrev a1 (r : Fin 256) (l : Fin 512) : EReal := m (kl c main_arg1) (ix3 1 r l)
theorem b1 : ib m c t 1 (ix3 0 a l) = a1 m c (row m t a) l :=
  (congrArg (V m c main_arg1) (emb m t a l)).trans (congrFun (V_main_arg1 m c) _)
abbrev a2 (r : Fin 256) (l : Fin 512) : EReal := m (kl c main_arg2) (ix3 1 r l)
theorem b2 : ib m c t 2 (ix3 0 a l) = a2 m c (row m t a) l :=
  (congrArg (V m c main_arg2) (emb m t a l)).trans (congrFun (V_main_arg2 m c) _)

theorem emb3 (h : BitVec.ofNat 32 (grid0.coords t 0).val = word m) : (((Q m).win 3).rect t).emb (ix2 a l : S128x512.Idx) = (ix2 (low m t a) l : S128x512.Idx) := by
  funext b
  apply Fin.ext
  refine (((Q m).win 3).rect_emb_val t (ix2 a l : S128x512.Idx) b).trans ?_
  show cc0_transform_3 inb_S1_S1_0 numel1_S1 (tbl m) (grid0.coords t) b * _ + _ = _
  rw [own_map, if_pos h, (Cert.Proof.AdamProj.coords_at t).2]
  fin_cases b
  · rfl
  · exact (congrArg (· + l.val) (Nat.zero_mul _)).trans (Nat.zero_add _)

theorem emb4 (h : ¬BitVec.ofNat 32 (grid0.coords t 0).val = word m) : (((Q m).win 4).rect t).emb (ix2 a l : S128x512.Idx) = (ix2 (low m t a) l : S128x512.Idx) := by
  funext b
  apply Fin.ext
  refine (((Q m).win 4).rect_emb_val t (ix2 a l : S128x512.Idx) b).trans ?_
  show cc0_transform_4 inb_S1_S1_0 numel1_S1 (tbl m) (grid0.coords t) b * _ + _ = _
  rw [other_map, if_neg h, (Cert.Proof.AdamProj.coords_at t).2]
  fin_cases b
  · rfl
  · exact (congrArg (· + l.val) (Nat.zero_mul _)).trans (Nat.zero_add _)

/-- The halves joined: each is the device's own where the word names it, else the other's. -/
def joined (r : Fin 256) (l : Fin 512) : EReal :=
  if BitVec.ofNat 32 (r.val / 128) = word m then m (kl c main_arg3) (ix2 ⟨r.val % 128, by omega⟩ l) else m (kl c main_arg4) (ix2 ⟨r.val % 128, by omega⟩ l)

theorem gblk_at : gblk m c t (ix2 a l) = joined m c (row m t a) l := by
  have ht : t.val < 2 := t.isLt
  have e : (row m t a).val / 128 = t.val / 1 := by show (t.val * 128 + a.val) / 128 = _; omega
  have e' : (⟨(row m t a).val % 128, by omega⟩ : Fin 128) = low m t a := Fin.ext (by show (t.val * 128 + a.val) % 128 = t.val % 1 * 128 + a.val; omega)
  unfold joined
  rw [e, e', ← (Cert.Proof.AdamProj.coords_at t).1]
  by_cases h : BitVec.ofNat 32 (grid0.coords t 0).val = word m
  · exact ((congrFun ((pick _ _ (ib m c t 3) (ib m c t 4)).trans (if_pos h)) _).trans <| congrArg (V m c main_arg3) (emb3 m t a l h)).trans ((congrFun (V_main_arg3 m c) _).trans (if_pos h).symm)
  · exact ((congrFun ((pick _ _ (ib m c t 3) (ib m c t 4)).trans (if_neg h)) _).trans <| congrArg (V m c main_arg4) (emb4 m t a l h)).trans ((congrFun (V_main_arg4 m c) _).trans (if_neg h).symm)

abbrev stepOf (r : Fin 256) (l : Fin 512) : EReal := step (a0 m c r l) (a1 m c r l) (a2 m c r l) (joined m c r l)
abbrev momOf (r : Fin 256) (l : Fin 512) : EReal := mom (a1 m c r l) (joined m c r l)
abbrev varOf (r : Fin 256) (l : Fin 512) : EReal := var (a2 m c r l) (joined m c r l)

/-- An array from the entries of a layer. -/
abbrev both (f : Fin 256 → Fin 512 → EReal) : Vec Ideal S2x256x512 .f32 := fun y => f (y 1) (y 2)
abbrev lay (f : Fin 256 → Fin 512 → EReal) : Vec Ideal S1x256x512 .f32 := fun y => f (y 1) (y 2)
abbrev over (f : Fin 256 → Fin 512 → EReal) (A : Vec Ideal S2x256x512 .f32) : Vec Ideal S2x256x512 .f32 := fun y => if (y 0).val / 1 = 1 then both f y else A y

theorem slice_of (f : Fin 256 → Fin 512 → EReal) (A B : Vec Ideal S2x256x512 .f32) (h : A = over f B) : extractStridedSlice S1x256x512 ![1, 0, 0] A Cert.AdamProj2Ideal.Gen.facts.slices_S2x256x512_S1x256x512_1_0_0 = lay f := by
  rw [h]
  funext y
  idx_vars y
  obtain rfl : y0 = 0 := Subsingleton.elim _ _
  pointwise
  exact if_pos (show (1 : Fin 2).val / 1 = 1 by decide)

abbrev out (b : Ref sig .tc) : Buf (Elt Ideal) (kl c b) := Pipeline.afterTail pcfgs (fun _ => adm m (ok m)) (dats m (ok m)) 0 (V0 m) [hostOps1] c b

theorem blk_eq (f : Fin 256 → Fin 512 → EReal) (v : Vec Ideal S1x128x512 .f32) (h : ∀ a l, v (ix3 0 a l) = f (row m t a) l) (y : S1x128x512.Idx) : v y = both f ((((Q m).win 0).rect t).emb y) := by
  idx_vars y
  obtain rfl : y0 = 0 := Subsingleton.elim _ _
  rw [emb]
  exact h y1 y2

theorem arr5 : out m c main_v1 = lay (joined m c) := by
  refine Eq.trans ?_ (slice_of _ _ ((D m c).A 5) ((D m c).arrAt_eq_of_coversWhere 5 (both (joined m c)) (fun β => β ⟨0, (by decide : 0 < 3)⟩ = 1) (cov5 m) (fun t hf y => ?_) (fun j => Iff.rfl)))
  · show StableHlo.after hostOps1 _ (Proc.devRef .tc main_v1) = _
    unfold hostOps1
    after_results
    exact congrArg (fun A => extractStridedSlice S1x256x512 ![1, 0, 0] A Cert.AdamProj2Ideal.Gen.facts.slices_S2x256x512_S1x256x512_1_0_0) (Pipeline.withArrays_arr spec0 (by decide) c _ _ 5)
  rw [after0_5, out5]
  exact blk_eq m t (joined m c) (k0_pay1 (gblk m c t)) (fun a l => (pay5 a l _ _ _ _).trans (gblk_at m c t a l)) y

theorem arr6 : out m c main_v2 = lay (stepOf m c) := by
  refine Eq.trans ?_ (slice_of _ _ ((D m c).A 6) ((D m c).arrAt_eq_of_coversWhere 6 (both (stepOf m c)) (fun β => β ⟨0, (by decide : 0 < 3)⟩ = 1) (cov6 m) (fun t hf y => ?_) (fun j => Iff.rfl)))
  · show StableHlo.after hostOps1 _ (Proc.devRef .tc main_v2) = _
    unfold hostOps1
    after_results
    exact congrArg (fun A => extractStridedSlice S1x256x512 ![1, 0, 0] A Cert.AdamProj2Ideal.Gen.facts.slices_S2x256x512_S1x256x512_1_0_0) (Pipeline.withArrays_arr spec0 (by decide) c _ _ 6)
  rw [after0_6, out6]
  exact blk_eq m t (stepOf m c) (k0_pay2 (k0_pay8 (F := Ideal) (grid0.coords t) (word m) (ib m c t 3) (ib m c t 4) (ib m c t 0) (ib m c t 1) (ib m c t 2))) (fun a l => (pay6 a l _ _ _ _ _ _ _).trans (congr (congr (congrArg₂ step (b0 m c t a l) (b1 m c t a l)) (b2 m c t a l)) (gblk_at m c t a l))) y

theorem arr7 : out m c main_v3 = lay (momOf m c) := by
  refine Eq.trans ?_ (slice_of _ _ ((D m c).A 7) ((D m c).arrAt_eq_of_coversWhere 7 (both (momOf m c)) (fun β => β ⟨0, (by decide : 0 < 3)⟩ = 1) (cov7 m) (fun t hf y => ?_) (fun j => Iff.rfl)))
  · show StableHlo.after hostOps1 _ (Proc.devRef .tc main_v3) = _
    unfold hostOps1
    after_results
    exact congrArg (fun A => extractStridedSlice S1x256x512 ![1, 0, 0] A Cert.AdamProj2Ideal.Gen.facts.slices_S2x256x512_S1x256x512_1_0_0) (Pipeline.withArrays_arr spec0 (by decide) c _ _ 7)
  rw [after0_7, out7]
  exact blk_eq m t (momOf m c) (k0_pay3 (k0_pay6 (F := Ideal) (grid0.coords t) (word m) (ib m c t 3) (ib m c t 4) (ib m c t 1))) (fun a l => (pay7 a l _ _ _ _ _).trans (congrArg₂ mom (b1 m c t a l) (gblk_at m c t a l))) y

theorem arr8 : out m c main_v4 = lay (varOf m c) := by
  refine Eq.trans ?_ (slice_of _ _ ((D m c).A 8) ((D m c).arrAt_eq_of_coversWhere 8 (both (varOf m c)) (fun β => β ⟨0, (by decide : 0 < 3)⟩ = 1) (cov8 m) (fun t hf y => ?_) (fun j => Iff.rfl)))
  · show StableHlo.after hostOps1 _ (Proc.devRef .tc main_v4) = _
    unfold hostOps1
    after_results
    exact congrArg (fun A => extractStridedSlice S1x256x512 ![1, 0, 0] A Cert.AdamProj2Ideal.Gen.facts.slices_S2x256x512_S1x256x512_1_0_0) (Pipeline.withArrays_arr spec0 (by decide) c _ _ 8)
  rw [after0_8, out8]
  exact blk_eq m t (varOf m c) (k0_pay4 (k0_pay7 (F := Ideal) (grid0.coords t) (word m) (ib m c t 3) (ib m c t 4) (ib m c t 2))) (fun a l => (pay8 a l _ _ _ _ _).trans (congrArg₂ var (b2 m c t a l) (gblk_at m c t a l))) y

theorem kept (k : Fin (Q m).W) (h : ((Q m).win k).isOut = false) : (D m c).arrAt k (Q m).N = V m c (Pipeline.arrRef spec0 k) := ((D m c).arrAt_in k h _).trans (A_eq m (ok m) c k)
abbrev bare (b : Ref sig .tc) : Prop := b ∈ Pipeline.restRefs sig spec0

theorem run (ρ : Dev nD → PrngReg) : θ_run defs (onTc (τ := τ) (main (F := Ideal))) ⟨m, fun _ => 0, ρ⟩ fun r => ∀ c : Dev nD,
      r.2.mem (kl c main_v1) = lay (joined m c)
      ∧ r.2.mem (kl c main_v2) = lay (stepOf m c)
      ∧ r.2.mem (kl c main_v3) = lay (momOf m c)
      ∧ r.2.mem (kl c main_v4) = lay (varOf m c)
      ∧ r.2.mem (kl c main_arg0) = m (kl c main_arg0)
      ∧ r.2.mem (kl c main_arg1) = m (kl c main_arg1)
      ∧ r.2.mem (kl c main_arg2) = m (kl c main_arg2)
      ∧ r.2.mem (kl c main_arg3) = m (kl c main_arg3)
      ∧ r.2.mem (kl c main_arg4) = m (kl c main_arg4)
      ∧ r.2.mem (kl c main_arg5) = m (kl c main_arg5)
      ∧ r.2.mem (kl c main_arg6) = m (kl c main_arg6) :=
  (θ_run defs _ _).mono (fun r h c => ⟨((h c).2 main_v1 (by decide : bare main_v1)).trans (arr5 m c),
      ((h c).2 main_v2 (by decide : bare main_v2)).trans (arr6 m c),
      ((h c).2 main_v3 (by decide : bare main_v3)).trans (arr7 m c),
      ((h c).2 main_v4 (by decide : bare main_v4)).trans (arr8 m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c)),
      ((h c).1 4).trans ((kept m c 4 rfl).trans (V_main_arg4 m c)),
      ((h c).2 main_arg5 (by decide : bare main_arg5)).trans (W_main_arg5 m (ok m) _ c),
      ((h c).2 main_arg6 (by decide : bare main_arg6)).trans (W_main_arg6 m (ok m) _ c)⟩)
    (run_main m ρ (ok m))

theorem ref_lay (p : Vec Ideal S1x256x512 .f32) (f : Fin 256 → Fin 512 → EReal) (h : ∀ r l, p (ix3 0 r l) = f r l) : p = lay f := by
  funext y
  idx_vars y
  obtain rfl : y0 = 0 := Subsingleton.elim _ _
  exact h y1 y2

theorem ref_joined (r : Fin 256) (l : Fin 512) : Cert.AdamProj2RefIdeal.Read.val_main_v8 (F := Ideal) (m (kl c main_arg3)) (m (kl c main_arg4)) (m (kl c main_arg5)) (ix3 0 r l) = joined m c r l := by
  refine (Cert.Proof.AdamProj.ref_g _ _ _ r l).trans ?_
  unfold joined
  rw [word_eq m c]

theorem same : Cert.algebraic_AdamProj2Ideal_AdamProj2RefIdeal := by
  pair_intro
  · run_from Cert.Proof.AdamProj2.run m g
  · run_from ref_run m' g'
    · exact ref_lay _ _ fun r l => ref_joined m c r l
    · exact ref_lay _ _ fun r l => (ref_step _ _ _ _ _ _ _ _).trans (congrArg _ (ref_joined m c r l))
    · exact ref_lay _ _ fun r l => (ref_mom _ _ _ _ _ _).trans (congrArg _ (ref_joined m c r l))
    · exact ref_lay _ _ fun r l => (ref_var _ _ _ _ _ _).trans (congrArg _ (ref_joined m c r l))

end Cert.Proof.AdamProj2

end
-- ==== Proof.LossHead.lean ====
/- The loss head: the loss added up over the rows, and the gradients it starts the backward pass with. -/
module

public import proofs.«01_k».proof.Defs
public import proofs.«01_k».proof.Proof.Gen.LossHeadIdeal.Value
public import proofs.«01_k».proof.Proof.Gen.LossHeadRefIdeal.Read
public import Idealize.ShloMosaic.Lib.Pipeline.ValueKit
public import Idealize.ShloMosaic.Lib.Pipeline.ReadBack
public import Idealize.ShloMosaic.Lib.Claim
public import proofs.«01_k».proof.Proof.Rms
public import proofs.«01_k».proof.Proof.Logistic

@[expose] public section

set_option maxRecDepth 16384
set_option maxHeartbeats 1000000
set_option pp.maxSteps 400

noncomputable section

namespace Cert.Proof.LossHead

open Cert.LossHeadIdeal Cert.LossHeadIdeal.Gen Idealize.ShloMosaic Idealize.ShloMosaic.TcCoe Idealize.SL.Sem

variable (m : (ℓ : Loc nD τ sig) → Buf (Elt Ideal) ℓ) (c : Dev nD)

open Cert.Proof.Consts

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

/-- The words for two and for one over the row's length. -/
theorem w_two : Ideal.ofBits .f32 0x40000000#32 = ((2 : ℝ) : EReal) := by
  simp [Ideal.ofBits, Ideal.ieee, -EReal.coe_mul]; norm_num

theorem w_scale : Ideal.ofBits .f32 0x3A000000#32 = ((1 / 2048 : ℝ) : EReal) := by
  simp [Ideal.ofBits, Ideal.ieee, -EReal.coe_mul]; norm_num

/-- A row's error, its gradient as the call writes it and as differentiation leaves it, and the row's part of the loss. -/
def err (x g t : Fin 2048 → EReal) (l : Fin 2048) : EReal := x l * Rms.inv x * g l - t l
def dy (x g t : Fin 2048 → EReal) (l : Fin 2048) : EReal := err x g t l * Ideal.ofBits .f32 0x3A000000#32
def dy' (x g t : Fin 2048 → EReal) (l : Fin 2048) : EReal :=
  Ideal.div (Ideal.ofBits .f32 0x3F000000#32 * Ideal.ofBits .f32 0x3F800000#32) (Ideal.ofBits .f32 0x45000000#32)
    * (Ideal.ofBits .f32 0x40000000#32 * err x g t l)
def msErr (x g t : Fin 2048 → EReal) : EReal := Ideal.div (∑ k, err x g t k * err x g t k) (Ideal.ofBits .f32 0x45000000#32)
def half : EReal := Ideal.ofBits .f32 0x3F000000#32

theorem dy_eq (x g t : Fin 2048 → EReal) : dy' x g t = dy x g t := by
  funext l
  unfold dy' dy
  rw [w_half, w_one, w_2048, w_two, w_scale, Ideal.div_coe (by norm_num), ← mul_assoc, ← EReal.coe_mul, ← EReal.coe_mul, ← EReal.coe_mul, mul_comm]
  norm_num

/-- A half taken out of a sum. -/
theorem half_sum (f : Fin 2048 → EReal) : ∑ i, half * f i = half * ∑ i, f i := by
  rw [half, w_half, mul_comm, ← Rms.sum_mul _ _ (by norm_num)]
  exact Finset.sum_congr rfl fun k _ => mul_comm _ _

/-- The arrays of the call: the rows, the scale, the target, the projection and the gate's argument. -/
def xs : Vec Ideal S2048x2048 .f32 := m ((c : Thread nD τ).loc main_arg0)
def gs : Vec Ideal S1x2048 .f32 := m ((c : Thread nD τ).loc main_arg1)
def ts : Vec Ideal S2048x2048 .f32 := m ((c : Thread nD τ).loc main_arg2)
def ps : Vec Ideal S2048x2048 .f32 := m ((c : Thread nD τ).loc main_arg3)
def zs : Vec Ideal S2048x2048 .f32 := m ((c : Thread nD τ).loc main_arg4)

/-- A row and the scale of an array of rows. -/
abbrev rw_ {n : Nat} (x : (⟨2, ![n, 2048]⟩ : Shape).Idx → EReal) (i : Fin n) : Fin 2048 → EReal := fun k => x (ix2 i k)

/-- What the call leaves, entry by entry. -/
def dx (y : S2048x2048.Idx) : EReal := Rms.back (dy (rw_ (xs m c) (y 0)) (rw_ (gs m c) 0) (rw_ (ts m c) (y 0))) (rw_ (xs m c) (y 0)) (rw_ (gs m c) 0) (y 1)
def dgate (y : S2048x2048.Idx) : EReal := dx m c y * ps m c y * Logistic.host (zs m c y) * (1 - Logistic.host (zs m c y))
def dproj (y : S2048x2048.Idx) : EReal := dx m c y * Logistic.host (zs m c y)
def dgRow (i l : Fin 2048) : EReal := dy (rw_ (xs m c) i) (rw_ (gs m c) 0) (rw_ (ts m c) i) l * (xs m c (ix2 i l) * Rms.inv (rw_ (xs m c) i))
def lossRow (i : Fin 2048) : EReal := half * msErr (rw_ (xs m c) i) (rw_ (gs m c) 0) (rw_ (ts m c) i)

theorem pay9_at (x : Vec Ideal S256x2048 .f32) (a : Fin 256) (z : Fin 1) : k0_pay9 (F := Ideal) x (ix2 a z) = Rms.inv (rw_ x a) := by
  unfold_payloads
  pointwise
  rfl

theorem pay10_at (x : Vec Ideal S256x2048 .f32) (a : Fin 256) (l : Fin 2048) :
    k0_pay10 (F := Ideal) x (ix2 a l) = x (ix2 a l) * Rms.inv (rw_ x a) := by
  rw [← pay9_at x a 0]
  unfold k0_pay10
  pointwise

theorem pay11_at (x : Vec Ideal S256x2048 .f32) (g : Vec Ideal S1x2048 .f32) (t : Vec Ideal S256x2048 .f32) (a : Fin 256) (l : Fin 2048) :
    k0_pay11 (F := Ideal) x g t (ix2 a l) = err (rw_ x a) (rw_ g 0) (rw_ t a) l := by
  unfold err
  rw [← pay10_at x a l]
  unfold k0_pay11
  pointwise

theorem pay12_at (x : Vec Ideal S256x2048 .f32) (g : Vec Ideal S1x2048 .f32) (t : Vec Ideal S256x2048 .f32) (a : Fin 256) (l : Fin 2048) :
    k0_pay12 (F := Ideal) x g t (ix2 a l) = dy (rw_ x a) (rw_ g 0) (rw_ t a) l := by
  unfold dy
  rw [← pay11_at x g t a l]
  unfold k0_pay12
  pointwise

theorem pay13_at (x : Vec Ideal S256x2048 .f32) (g : Vec Ideal S1x2048 .f32) (t : Vec Ideal S256x2048 .f32) (a : Fin 256) (l : Fin 2048) :
    k0_pay13 (F := Ideal) x g t (ix2 a l) = Rms.back (dy (rw_ x a) (rw_ g 0) (rw_ t a)) (rw_ x a) (rw_ g 0) l := by
  unfold Rms.back
  simp only [← pay12_at, ← pay9_at x a 0]
  unfold k0_pay13
  pointwise [k0_pay10]

theorem pay14_at (x : Vec Ideal S256x2048 .f32) (g : Vec Ideal S1x2048 .f32) (t : Vec Ideal S256x2048 .f32) (a : Fin 256) (z : Fin 1) :
    k0_pay14 (F := Ideal) x g t (ix2 a z) = half * msErr (rw_ x a) (rw_ g 0) (rw_ t a) := by
  unfold msErr
  simp only [← pay11_at]
  unfold k0_pay14
  pointwise
  rfl

theorem pay2_at (p : Vec Ideal S256x2048 .f32) (s : Vec Ideal S256x2048 .bf16) (d : Vec Ideal S256x2048 .f32) (j) :
    k0_pay2 (F := Ideal) p (k0_pay8 s) d j = d j * p j * s j * (1 - s j) := by
  idx_vars j
  unfold_payloads
  pointwise

theorem pay3_at (s : Vec Ideal S256x2048 .bf16) (d : Vec Ideal S256x2048 .f32) (j) : k0_pay3 (F := Ideal) (k0_pay8 s) d j = d j * s j := by
  idx_vars j
  unfold_payloads
  pointwise

theorem pay6_at (h d : Vec Ideal S256x2048 .f32) (p : Vec Ideal S1x2048 .f32) (l : Fin 2048) :
    k0_pay6 (F := Ideal) h d p (ix2 0 l) = p (ix2 0 l) + ∑ a : Fin 256, d (ix2 a l) * h (ix2 a l) := by
  unfold_payloads
  pointwise

theorem pay7_at (e : Vec Ideal S256x1 .f32) (p : Vec Ideal S1x128 .f32) (l : Fin 128) :
    k0_pay7 (F := Ideal) e p (ix2 0 l) = p (ix2 0 l) + ∑ a : Fin 256, e (ix2 a 0) := by
  unfold_payloads
  pointwise

theorem pay4_at (i) : k0_pay4 (F := Ideal) i = 0 := by
  idx_vars i
  unfold_payloads
  pointwise

theorem pay5_at (i) : k0_pay5 (F := Ideal) i = 0 := by
  idx_vars i
  unfold_payloads
  pointwise

/-- Row `a` of block `t`. -/
abbrev row (t : Fin cfg0.N) (a : Fin 256) : Fin 2048 := ⟨t.val * 256 + a.val, by have : t.val < 8 := t.isLt; omega⟩

theorem b0 (t : Fin cfg0.N) (a : Fin 256) (l : Fin 2048) : iblk m c 0 t (ix2 a l) = xs m c (ix2 (row t a) l) := by
  blk_ext! [iblk, V, idx t, xs]

theorem b1 (t : Fin cfg0.N) (l : Fin 2048) : iblk m c 1 t (ix2 0 l) = gs m c (ix2 0 l) := by
  blk_ext! [iblk, V, idx t, gs]

theorem b2 (t : Fin cfg0.N) (a : Fin 256) (l : Fin 2048) : iblk m c 2 t (ix2 a l) = ts m c (ix2 (row t a) l) := by
  blk_ext! [iblk, V, idx t, ts]

theorem b3 (t : Fin cfg0.N) (a : Fin 256) (l : Fin 2048) : iblk m c 3 t (ix2 a l) = ps m c (ix2 (row t a) l) := by
  blk_ext! [iblk, V, idx t, ps]

theorem gate (y : S2048x2048.Idx) : V m c main_v6 y = Logistic.host (zs m c y) := by
  entry_read
  idx_vars y
  pointwise
  rfl

theorem b4 (t : Fin cfg0.N) (a : Fin 256) (l : Fin 2048) : iblk m c 4 t (ix2 a l) = Logistic.host (zs m c (ix2 (row t a) l)) := by
  refine Eq.trans ?_ (gate m c _)
  blk_simp [iblk]
  exact congrArg _ (by blk_ext [idx t])

/-- The block's rows, the scale and the target's rows. -/
theorem r0 (t : Fin cfg0.N) (a : Fin 256) : rw_ (iblk m c 0 t) a = rw_ (xs m c) (row t a) := funext fun l => b0 m c t a l
theorem r1 (t : Fin cfg0.N) : rw_ (iblk m c 1 t) 0 = rw_ (gs m c) 0 := funext fun l => b1 m c t l
theorem r2 (t : Fin cfg0.N) (a : Fin 256) : rw_ (iblk m c 2 t) a = rw_ (ts m c) (row t a) := funext fun l => b2 m c t a l

theorem dx_at (t : Fin cfg0.N) (a : Fin 256) (l : Fin 2048) :
    k0_pay13 (F := Ideal) (iblk m c 0 t) (iblk m c 1 t) (iblk m c 2 t) (ix2 a l) = dx m c (ix2 (row t a) l) := by
  rw [pay13_at, r0, r1, r2]
  rfl

theorem out5 (t : Fin cfg0.N) : (outsAt0 m c t.val t.isLt).1 = k0_pay13 (F := Ideal) (iblk m c 0 t) (iblk m c 1 t) (iblk m c 2 t) := by
  by_cases h : t.val % 8 = 0
  · rw [outsAt0_A m c t h]
    frame_out
  · rw [outsAt0_B m c t h]
    frame_out

theorem out6 (t : Fin cfg0.N) : (outsAt0 m c t.val t.isLt).2.1 = k0_pay2 (F := Ideal) (iblk m c 3 t) (k0_pay8 (iblk m c 4 t)) (k0_pay13 (iblk m c 0 t) (iblk m c 1 t) (iblk m c 2 t)) := by
  by_cases h : t.val % 8 = 0
  · rw [outsAt0_A m c t h]
    frame_out
  · rw [outsAt0_B m c t h]
    frame_out

theorem out7 (t : Fin cfg0.N) : (outsAt0 m c t.val t.isLt).2.2.1 = k0_pay3 (F := Ideal) (k0_pay8 (iblk m c 4 t)) (k0_pay13 (iblk m c 0 t) (iblk m c 1 t) (iblk m c 2 t)) := by
  by_cases h : t.val % 8 = 0
  · rw [outsAt0_A m c t h]
    frame_out
  · rw [outsAt0_B m c t h]
    frame_out

theorem arr5 : (dats m 0 c).arrAt 5 cfg0.N = dx m c := by
  refine (dats m 0 c).arrAt_eq_of_covers 5 _ (by decide +kernel) fun t hf y => ?_
  blk_simp
  rw [after0_5, out5]
  idx_vars y
  have e : (win0_5.blk t).view.emb (ix2 y0 y1) = ix2 (row t y0) y1 := by blk_ext [idx t]
  rw [e]
  exact dx_at m c t y0 y1

theorem arr6 : (dats m 0 c).arrAt 6 cfg0.N = dgate m c := by
  refine (dats m 0 c).arrAt_eq_of_covers 6 _ (by decide +kernel) fun t hf y => ?_
  blk_simp
  rw [after0_6, out6]
  idx_vars y
  have e : (win0_6.blk t).view.emb (ix2 y0 y1) = ix2 (row t y0) y1 := by blk_ext [idx t]
  rw [e, pay2_at, dx_at, b3, b4]
  rfl

theorem arr7 : (dats m 0 c).arrAt 7 cfg0.N = dproj m c := by
  refine (dats m 0 c).arrAt_eq_of_covers 7 _ (by decide +kernel) fun t hf y => ?_
  blk_simp
  rw [after0_7, out7]
  idx_vars y
  have e : (win0_7.blk t).view.emb (ix2 y0 y1) = ix2 (row t y0) y1 := by blk_ext [idx t]
  rw [e, pay3_at, dx_at, b4]
  rfl

theorem first8 (t : Fin cfg0.N) (h : t.val % 8 = 0) : (outsAt0 m c t.val t.isLt).2.2.2.1 = k0_pay6 (F := Ideal) (k0_pay10 (iblk m c 0 t)) (k0_pay12 (iblk m c 0 t) (iblk m c 1 t) (iblk m c 2 t)) (k0_pay4 (F := Ideal)) := by
  rw [outsAt0_A m c t h]
  frame_out
  try simp only [read_unread_whole]

theorem next8 (t : Fin cfg0.N) (h : ¬t.val % 8 = 0) : (outsAt0 m c t.val t.isLt).2.2.2.1
    = k0_pay6 (F := Ideal) (k0_pay10 (iblk m c 0 t)) (k0_pay12 (iblk m c 0 t) (iblk m c 1 t) (iblk m c 2 t)) (outsAt0 m c (t.val - 1) (Nat.lt_of_le_of_lt (Nat.sub_le _ _) t.isLt)).2.2.2.1 := by
  rw [outsAt0_B m c t h]
  frame_out
  try simp only [read_unread_whole]

theorem first9 (t : Fin cfg0.N) (h : t.val % 8 = 0) : (outsAt0 m c t.val t.isLt).2.2.2.2 = k0_pay7 (F := Ideal) (k0_pay14 (iblk m c 0 t) (iblk m c 1 t) (iblk m c 2 t)) (k0_pay5 (F := Ideal)) := by
  rw [outsAt0_A m c t h]
  frame_out
  try simp only [read_unread_whole]

theorem next9 (t : Fin cfg0.N) (h : ¬t.val % 8 = 0) : (outsAt0 m c t.val t.isLt).2.2.2.2
    = k0_pay7 (F := Ideal) (k0_pay14 (iblk m c 0 t) (iblk m c 1 t) (iblk m c 2 t)) (outsAt0 m c (t.val - 1) (Nat.lt_of_le_of_lt (Nat.sub_le _ _) t.isLt)).2.2.2.2 := by
  rw [outsAt0_B m c t h]
  frame_out
  try simp only [read_unread_whole]

def tlast : Fin cfg0.N := ⟨7, by decide +kernel⟩

theorem sum8 (l : Fin 2048) : (outsAt0 m c tlast.val tlast.isLt).2.2.2.1 (ix2 0 l) = ∑ i, dgRow m c i l := by
  rw [Pipeline.eq_sum_fin_of_reset_step_apply_last (fun n h => (outsAt0 m c n h).2.2.2.1) 8 (k0_pay4 (F := Ideal))
    (fun t j => ∑ a : Fin 256, k0_pay12 (F := Ideal) (iblk m c 0 t) (iblk m c 1 t) (iblk m c 2 t) (ix2 a (j 1)) * k0_pay10 (F := Ideal) (iblk m c 0 t) (ix2 a (j 1)))
    (fun t h i => by rw [first8 m c t h]; idx_vars i; obtain rfl : i0 = 0 := Subsingleton.elim _ _; exact pay6_at _ _ _ _)
    (fun t h i => by rw [next8 m c t h]; idx_vars i; obtain rfl : i0 = 0 := Subsingleton.elim _ _; exact pay6_at _ _ _ _)
    (by decide +kernel) tlast (by decide +kernel) _, pay4_at, zero_add]
  have e : ∀ t : Fin cfg0.N, (∑ a : Fin 256, k0_pay12 (F := Ideal) (iblk m c 0 t) (iblk m c 1 t) (iblk m c 2 t) (ix2 a l) * k0_pay10 (F := Ideal) (iblk m c 0 t) (ix2 a l)) = ∑ a, dgRow m c (row t a) l := fun t => by
    refine Finset.sum_congr rfl fun a _ => ?_
    rw [pay12_at, pay10_at, r0, r1, r2, b0]
    rfl
  refine (Finset.sum_congr rfl fun t _ => e t).trans ?_
  refine (Fintype.sum_equiv (finCongr N_0) _ (fun s : Fin 8 => ∑ a : Fin 256, dgRow m c ⟨s.val * 256 + a.val, by omega⟩ l) fun _ => rfl).trans ?_
  exact Fin.sum_mul_add_congr fun s k hl => rfl

theorem sum9 (l : Fin 128) : (outsAt0 m c tlast.val tlast.isLt).2.2.2.2 (ix2 0 l) = ∑ i, lossRow m c i := by
  rw [Pipeline.eq_sum_fin_of_reset_step_apply_last (fun n h => (outsAt0 m c n h).2.2.2.2) 8 (k0_pay5 (F := Ideal))
    (fun t j => ∑ a : Fin 256, k0_pay14 (F := Ideal) (iblk m c 0 t) (iblk m c 1 t) (iblk m c 2 t) (ix2 a 0))
    (fun t h i => by rw [first9 m c t h]; idx_vars i; obtain rfl : i0 = 0 := Subsingleton.elim _ _; exact pay7_at _ _ _)
    (fun t h i => by rw [next9 m c t h]; idx_vars i; obtain rfl : i0 = 0 := Subsingleton.elim _ _; exact pay7_at _ _ _)
    (by decide +kernel) tlast (by decide +kernel) _, pay5_at, zero_add]
  have e : ∀ t : Fin cfg0.N, (∑ a : Fin 256, k0_pay14 (F := Ideal) (iblk m c 0 t) (iblk m c 1 t) (iblk m c 2 t) (ix2 a 0)) = ∑ a, lossRow m c (row t a) := fun t => by
    refine Finset.sum_congr rfl fun a _ => ?_
    rw [pay14_at, r0, r1, r2]
    rfl
  refine (Finset.sum_congr rfl fun t _ => e t).trans ?_
  refine (Fintype.sum_equiv (finCongr N_0) _ (fun s : Fin 8 => ∑ a : Fin 256, lossRow m c ⟨s.val * 256 + a.val, by omega⟩) fun _ => rfl).trans ?_
  exact Fin.sum_mul_add_congr fun s k hl => rfl

theorem arr8 : (dats m 0 c).arrAt 8 cfg0.N = (outsAt0 m c tlast.val tlast.isLt).2.2.2.1 := by
  refine (dats m 0 c).arrAt_eq_of_after_last 8 tlast (by decide +kernel) _ fun j => ?_
  blk_simp
  rw [after0_8]

theorem arr9 : (dats m 0 c).arrAt 9 cfg0.N = (outsAt0 m c tlast.val tlast.isLt).2.2.2.2 := by
  refine (dats m 0 c).arrAt_eq_of_after_last 9 tlast (by decide +kernel) _ fun j => ?_
  blk_simp
  rw [after0_9]

section
variable (x : Vec Ideal S2048x2048 .f32) (g : Vec Ideal S1x2048 .f32) (t p z : Vec Ideal S2048x2048 .f32)

theorem ref_err (i l : Fin 2048) : LossHeadRefIdeal.Read.val_main_v15 (F := Ideal) x g t (ix2 i l) = err (rw_ x i) (rw_ g 0) (rw_ t i) l := by
  pointwise [LossHeadRefIdeal.Read.val_main_v0, LossHeadRefIdeal.Read.val_main_cst, LossHeadRefIdeal.Read.val_main_v1, LossHeadRefIdeal.Read.val_main_v2, LossHeadRefIdeal.Read.val_main_cst_0, LossHeadRefIdeal.Read.val_main_v3, LossHeadRefIdeal.Read.val_main_v4, LossHeadRefIdeal.Read.val_main_cst_1, LossHeadRefIdeal.Read.val_main_v5, LossHeadRefIdeal.Read.val_main_v6, LossHeadRefIdeal.Read.val_main_v7, LossHeadRefIdeal.Read.val_main_v8, LossHeadRefIdeal.Read.val_main_cst_2, LossHeadRefIdeal.Read.val_main_v9, LossHeadRefIdeal.Read.val_main_v10, LossHeadRefIdeal.Read.val_main_v11, LossHeadRefIdeal.Read.val_main_v12, LossHeadRefIdeal.Read.val_main_v13, LossHeadRefIdeal.Read.val_main_v14, LossHeadRefIdeal.Read.val_main_v15]
  rfl

theorem ref_dy (i l : Fin 2048) : LossHeadRefIdeal.Read.val_main_v29 (F := Ideal) x g t (ix2 i l) = dy' (rw_ x i) (rw_ g 0) (rw_ t i) l := by
  unfold dy'
  rw [← ref_err]
  pointwise [LossHeadRefIdeal.Read.val_main_v0, LossHeadRefIdeal.Read.val_main_cst, LossHeadRefIdeal.Read.val_main_v1, LossHeadRefIdeal.Read.val_main_v2, LossHeadRefIdeal.Read.val_main_cst_0, LossHeadRefIdeal.Read.val_main_v3, LossHeadRefIdeal.Read.val_main_v4, LossHeadRefIdeal.Read.val_main_cst_1, LossHeadRefIdeal.Read.val_main_v5, LossHeadRefIdeal.Read.val_main_v6, LossHeadRefIdeal.Read.val_main_v7, LossHeadRefIdeal.Read.val_main_v8, LossHeadRefIdeal.Read.val_main_cst_2, LossHeadRefIdeal.Read.val_main_v9, LossHeadRefIdeal.Read.val_main_v10, LossHeadRefIdeal.Read.val_main_v11, LossHeadRefIdeal.Read.val_main_v12, LossHeadRefIdeal.Read.val_main_v13, LossHeadRefIdeal.Read.val_main_v14, LossHeadRefIdeal.Read.val_main_v16, LossHeadRefIdeal.Read.val_main_cst_3, LossHeadRefIdeal.Read.val_main_v17, LossHeadRefIdeal.Read.val_main_v18, LossHeadRefIdeal.Read.val_main_cst_4, LossHeadRefIdeal.Read.val_main_v19, LossHeadRefIdeal.Read.val_main_cst_5, LossHeadRefIdeal.Read.val_main_v20, LossHeadRefIdeal.Read.val_main_v21, LossHeadRefIdeal.Read.val_main_cst_6, LossHeadRefIdeal.Read.val_main_v22, LossHeadRefIdeal.Read.val_main_cst_7, LossHeadRefIdeal.Read.val_main_v23, LossHeadRefIdeal.Read.val_main_cst_8, LossHeadRefIdeal.Read.val_main_cst_9, LossHeadRefIdeal.Read.val_main_v24, LossHeadRefIdeal.Read.val_main_v25, LossHeadRefIdeal.Read.val_main_cst_10, LossHeadRefIdeal.Read.val_main_v26, LossHeadRefIdeal.Read.val_main_v27, LossHeadRefIdeal.Read.val_main_v28, LossHeadRefIdeal.Read.val_main_v29]

theorem ref_dx' (i l : Fin 2048) : LossHeadRefIdeal.Read.val_main_v48 (F := Ideal) x g t (ix2 i l)
      = dy' (rw_ x i) (rw_ g 0) (rw_ t i) l * g (ix2 0 l) * Rms.inv (rw_ x i)
      + x (ix2 i l) * Rms.part (dy' (rw_ x i) (rw_ g 0) (rw_ t i)) (rw_ x i) (rw_ g 0)
      + Rms.part (dy' (rw_ x i) (rw_ g 0) (rw_ t i)) (rw_ x i) (rw_ g 0) * x (ix2 i l) := by
  simp only [Rms.part, ← ref_dy]
  pointwise [LossHeadRefIdeal.Read.val_main_v0, LossHeadRefIdeal.Read.val_main_cst, LossHeadRefIdeal.Read.val_main_v1, LossHeadRefIdeal.Read.val_main_v2, LossHeadRefIdeal.Read.val_main_cst_0, LossHeadRefIdeal.Read.val_main_v3, LossHeadRefIdeal.Read.val_main_v4, LossHeadRefIdeal.Read.val_main_cst_1, LossHeadRefIdeal.Read.val_main_v5, LossHeadRefIdeal.Read.val_main_v6, LossHeadRefIdeal.Read.val_main_v7, LossHeadRefIdeal.Read.val_main_v8, LossHeadRefIdeal.Read.val_main_cst_2, LossHeadRefIdeal.Read.val_main_v9, LossHeadRefIdeal.Read.val_main_v10, LossHeadRefIdeal.Read.val_main_v11, LossHeadRefIdeal.Read.val_main_v12, LossHeadRefIdeal.Read.val_main_v13, LossHeadRefIdeal.Read.val_main_v14, LossHeadRefIdeal.Read.val_main_v15, LossHeadRefIdeal.Read.val_main_v16, LossHeadRefIdeal.Read.val_main_cst_3, LossHeadRefIdeal.Read.val_main_v17, LossHeadRefIdeal.Read.val_main_v18, LossHeadRefIdeal.Read.val_main_cst_4, LossHeadRefIdeal.Read.val_main_v19, LossHeadRefIdeal.Read.val_main_cst_5, LossHeadRefIdeal.Read.val_main_v20, LossHeadRefIdeal.Read.val_main_v21, LossHeadRefIdeal.Read.val_main_cst_6, LossHeadRefIdeal.Read.val_main_v22, LossHeadRefIdeal.Read.val_main_cst_7, LossHeadRefIdeal.Read.val_main_v23, LossHeadRefIdeal.Read.val_main_cst_8, LossHeadRefIdeal.Read.val_main_cst_9, LossHeadRefIdeal.Read.val_main_v24, LossHeadRefIdeal.Read.val_main_v25, LossHeadRefIdeal.Read.val_main_cst_10, LossHeadRefIdeal.Read.val_main_v26, LossHeadRefIdeal.Read.val_main_v27, LossHeadRefIdeal.Read.val_main_v28, LossHeadRefIdeal.Read.val_main_v30, LossHeadRefIdeal.Read.val_main_cst_11, LossHeadRefIdeal.Read.val_main_v31, LossHeadRefIdeal.Read.val_main_v32, LossHeadRefIdeal.Read.val_main_v33, LossHeadRefIdeal.Read.val_main_v34, LossHeadRefIdeal.Read.val_main_v35, LossHeadRefIdeal.Read.val_main_cst_12, LossHeadRefIdeal.Read.val_main_v36, LossHeadRefIdeal.Read.val_main_v37, LossHeadRefIdeal.Read.val_main_v38, LossHeadRefIdeal.Read.val_main_v39, LossHeadRefIdeal.Read.val_main_v40, LossHeadRefIdeal.Read.val_main_cst_13, LossHeadRefIdeal.Read.val_main_v41, LossHeadRefIdeal.Read.val_main_v42, LossHeadRefIdeal.Read.val_main_cst_14, LossHeadRefIdeal.Read.val_main_v43, LossHeadRefIdeal.Read.val_main_v44, LossHeadRefIdeal.Read.val_main_v45, LossHeadRefIdeal.Read.val_main_v46, LossHeadRefIdeal.Read.val_main_v47, LossHeadRefIdeal.Read.val_main_v48]
  simp only [Finset.univ_unique, Finset.sum_singleton]
  rfl

theorem ref_dx2 (i l : Fin 2048) : LossHeadRefIdeal.Read.val_main_v48 (F := Ideal) x g t (ix2 i l)
      = Rms.back (dy (rw_ x i) (rw_ g 0) (rw_ t i)) (rw_ x i) (rw_ g 0) l := by
  have e := ref_dx' x g t i l
  rw [dy_eq] at e
  exact e.trans (Rms.back_of (dy (rw_ x i) (rw_ g 0) (rw_ t i)) (rw_ x i) (rw_ g 0) l)

theorem ref_dx (y : S2048x2048.Idx) : LossHeadRefIdeal.Read.val_main_v48 (F := Ideal) x g t y
      = Rms.back (dy (rw_ x (y 0)) (rw_ g 0) (rw_ t (y 0))) (rw_ x (y 0)) (rw_ g 0) (y 1) := by
  idx_vars y
  exact ref_dx2 x g t y0 y1

theorem ref_dgate (y : S2048x2048.Idx) : LossHeadRefIdeal.Read.val_main_v62 (F := Ideal) x g t p z y
      = Rms.back (dy (rw_ x (y 0)) (rw_ g 0) (rw_ t (y 0))) (rw_ x (y 0)) (rw_ g 0) (y 1) * p y * Logistic.host (z y) * (1 - Logistic.host (z y)) := by
  rw [← ref_dx x g t y, mul_assoc (_ * p y)]
  idx_vars y
  pointwise [LossHeadRefIdeal.Read.val_main_v0, LossHeadRefIdeal.Read.val_main_cst, LossHeadRefIdeal.Read.val_main_v1, LossHeadRefIdeal.Read.val_main_v2, LossHeadRefIdeal.Read.val_main_cst_0, LossHeadRefIdeal.Read.val_main_v3, LossHeadRefIdeal.Read.val_main_v4, LossHeadRefIdeal.Read.val_main_cst_1, LossHeadRefIdeal.Read.val_main_v5, LossHeadRefIdeal.Read.val_main_v6, LossHeadRefIdeal.Read.val_main_v7, LossHeadRefIdeal.Read.val_main_v8, LossHeadRefIdeal.Read.val_main_cst_2, LossHeadRefIdeal.Read.val_main_v9, LossHeadRefIdeal.Read.val_main_v10, LossHeadRefIdeal.Read.val_main_v11, LossHeadRefIdeal.Read.val_main_v12, LossHeadRefIdeal.Read.val_main_v13, LossHeadRefIdeal.Read.val_main_v14, LossHeadRefIdeal.Read.val_main_v15, LossHeadRefIdeal.Read.val_main_v16, LossHeadRefIdeal.Read.val_main_cst_3, LossHeadRefIdeal.Read.val_main_v17, LossHeadRefIdeal.Read.val_main_v18, LossHeadRefIdeal.Read.val_main_cst_4, LossHeadRefIdeal.Read.val_main_v19, LossHeadRefIdeal.Read.val_main_cst_5, LossHeadRefIdeal.Read.val_main_v20, LossHeadRefIdeal.Read.val_main_v21, LossHeadRefIdeal.Read.val_main_cst_6, LossHeadRefIdeal.Read.val_main_v22, LossHeadRefIdeal.Read.val_main_cst_7, LossHeadRefIdeal.Read.val_main_v23, LossHeadRefIdeal.Read.val_main_cst_8, LossHeadRefIdeal.Read.val_main_cst_9, LossHeadRefIdeal.Read.val_main_v24, LossHeadRefIdeal.Read.val_main_v25, LossHeadRefIdeal.Read.val_main_cst_10, LossHeadRefIdeal.Read.val_main_v26, LossHeadRefIdeal.Read.val_main_v27, LossHeadRefIdeal.Read.val_main_v28, LossHeadRefIdeal.Read.val_main_v29, LossHeadRefIdeal.Read.val_main_v30, LossHeadRefIdeal.Read.val_main_cst_11, LossHeadRefIdeal.Read.val_main_v31, LossHeadRefIdeal.Read.val_main_v32, LossHeadRefIdeal.Read.val_main_v33, LossHeadRefIdeal.Read.val_main_v34, LossHeadRefIdeal.Read.val_main_v35, LossHeadRefIdeal.Read.val_main_cst_12, LossHeadRefIdeal.Read.val_main_v36, LossHeadRefIdeal.Read.val_main_v37, LossHeadRefIdeal.Read.val_main_v38, LossHeadRefIdeal.Read.val_main_v39, LossHeadRefIdeal.Read.val_main_v40, LossHeadRefIdeal.Read.val_main_cst_13, LossHeadRefIdeal.Read.val_main_v41, LossHeadRefIdeal.Read.val_main_v42, LossHeadRefIdeal.Read.val_main_cst_14, LossHeadRefIdeal.Read.val_main_v43, LossHeadRefIdeal.Read.val_main_v44, LossHeadRefIdeal.Read.val_main_v45, LossHeadRefIdeal.Read.val_main_v46, LossHeadRefIdeal.Read.val_main_v47, LossHeadRefIdeal.Read.val_main_v49, LossHeadRefIdeal.Read.val_main_v50, LossHeadRefIdeal.Read.val_main_cst_15, LossHeadRefIdeal.Read.val_main_v51, LossHeadRefIdeal.Read.val_main_v52, LossHeadRefIdeal.Read.val_main_cst_16, LossHeadRefIdeal.Read.val_main_v53, LossHeadRefIdeal.Read.val_main_v54, LossHeadRefIdeal.Read.val_main_cst_17, LossHeadRefIdeal.Read.val_main_v55, LossHeadRefIdeal.Read.val_main_v56, LossHeadRefIdeal.Read.val_main_v57, LossHeadRefIdeal.Read.val_main_v58, LossHeadRefIdeal.Read.val_main_v59, LossHeadRefIdeal.Read.val_main_v60, LossHeadRefIdeal.Read.val_main_v61, LossHeadRefIdeal.Read.val_main_v62]
  rfl

theorem ref_dproj (y : S2048x2048.Idx) : LossHeadRefIdeal.Read.val_main_v63 (F := Ideal) x g t z y
      = Rms.back (dy (rw_ x (y 0)) (rw_ g 0) (rw_ t (y 0))) (rw_ x (y 0)) (rw_ g 0) (y 1) * Logistic.host (z y) := by
  rw [← ref_dx x g t y, mul_comm]
  idx_vars y
  pointwise [LossHeadRefIdeal.Read.val_main_v0, LossHeadRefIdeal.Read.val_main_cst, LossHeadRefIdeal.Read.val_main_v1, LossHeadRefIdeal.Read.val_main_v2, LossHeadRefIdeal.Read.val_main_cst_0, LossHeadRefIdeal.Read.val_main_v3, LossHeadRefIdeal.Read.val_main_v4, LossHeadRefIdeal.Read.val_main_cst_1, LossHeadRefIdeal.Read.val_main_v5, LossHeadRefIdeal.Read.val_main_v6, LossHeadRefIdeal.Read.val_main_v7, LossHeadRefIdeal.Read.val_main_v8, LossHeadRefIdeal.Read.val_main_cst_2, LossHeadRefIdeal.Read.val_main_v9, LossHeadRefIdeal.Read.val_main_v10, LossHeadRefIdeal.Read.val_main_v11, LossHeadRefIdeal.Read.val_main_v12, LossHeadRefIdeal.Read.val_main_v13, LossHeadRefIdeal.Read.val_main_v14, LossHeadRefIdeal.Read.val_main_v15, LossHeadRefIdeal.Read.val_main_v16, LossHeadRefIdeal.Read.val_main_cst_3, LossHeadRefIdeal.Read.val_main_v17, LossHeadRefIdeal.Read.val_main_v18, LossHeadRefIdeal.Read.val_main_cst_4, LossHeadRefIdeal.Read.val_main_v19, LossHeadRefIdeal.Read.val_main_cst_5, LossHeadRefIdeal.Read.val_main_v20, LossHeadRefIdeal.Read.val_main_v21, LossHeadRefIdeal.Read.val_main_cst_6, LossHeadRefIdeal.Read.val_main_v22, LossHeadRefIdeal.Read.val_main_cst_7, LossHeadRefIdeal.Read.val_main_v23, LossHeadRefIdeal.Read.val_main_cst_8, LossHeadRefIdeal.Read.val_main_cst_9, LossHeadRefIdeal.Read.val_main_v24, LossHeadRefIdeal.Read.val_main_v25, LossHeadRefIdeal.Read.val_main_cst_10, LossHeadRefIdeal.Read.val_main_v26, LossHeadRefIdeal.Read.val_main_v27, LossHeadRefIdeal.Read.val_main_v28, LossHeadRefIdeal.Read.val_main_v29, LossHeadRefIdeal.Read.val_main_v30, LossHeadRefIdeal.Read.val_main_cst_11, LossHeadRefIdeal.Read.val_main_v31, LossHeadRefIdeal.Read.val_main_v32, LossHeadRefIdeal.Read.val_main_v33, LossHeadRefIdeal.Read.val_main_v34, LossHeadRefIdeal.Read.val_main_v35, LossHeadRefIdeal.Read.val_main_cst_12, LossHeadRefIdeal.Read.val_main_v36, LossHeadRefIdeal.Read.val_main_v37, LossHeadRefIdeal.Read.val_main_v38, LossHeadRefIdeal.Read.val_main_v39, LossHeadRefIdeal.Read.val_main_v40, LossHeadRefIdeal.Read.val_main_cst_13, LossHeadRefIdeal.Read.val_main_v41, LossHeadRefIdeal.Read.val_main_v42, LossHeadRefIdeal.Read.val_main_cst_14, LossHeadRefIdeal.Read.val_main_v43, LossHeadRefIdeal.Read.val_main_v44, LossHeadRefIdeal.Read.val_main_v45, LossHeadRefIdeal.Read.val_main_v46, LossHeadRefIdeal.Read.val_main_v47, LossHeadRefIdeal.Read.val_main_v49, LossHeadRefIdeal.Read.val_main_v50, LossHeadRefIdeal.Read.val_main_cst_15, LossHeadRefIdeal.Read.val_main_v51, LossHeadRefIdeal.Read.val_main_v52, LossHeadRefIdeal.Read.val_main_cst_16, LossHeadRefIdeal.Read.val_main_v53, LossHeadRefIdeal.Read.val_main_v54, LossHeadRefIdeal.Read.val_main_cst_17, LossHeadRefIdeal.Read.val_main_v55, LossHeadRefIdeal.Read.val_main_v56, LossHeadRefIdeal.Read.val_main_v57, LossHeadRefIdeal.Read.val_main_v58, LossHeadRefIdeal.Read.val_main_v59, LossHeadRefIdeal.Read.val_main_v60, LossHeadRefIdeal.Read.val_main_v61, LossHeadRefIdeal.Read.val_main_v63]
  rfl

theorem ref_dg (l : Fin 2048) : LossHeadRefIdeal.Read.val_main_v32 (F := Ideal) x g t (ix2 0 l)
      = ∑ i : Fin 2048, dy (rw_ x i) (rw_ g 0) (rw_ t i) l * (x (ix2 i l) * Rms.inv (rw_ x i)) := by
  have e : ∀ i, dy (rw_ x i) (rw_ g 0) (rw_ t i) l * (x (ix2 i l) * Rms.inv (rw_ x i))
      = x (ix2 i l) * Rms.inv (rw_ x i) * LossHeadRefIdeal.Read.val_main_v29 (F := Ideal) x g t (ix2 i l) := fun i => by
    rw [ref_dy, dy_eq, mul_comm]
  rw [Finset.sum_congr rfl fun i _ => e i]
  pointwise [LossHeadRefIdeal.Read.val_main_v0, LossHeadRefIdeal.Read.val_main_cst, LossHeadRefIdeal.Read.val_main_v1, LossHeadRefIdeal.Read.val_main_v2, LossHeadRefIdeal.Read.val_main_cst_0, LossHeadRefIdeal.Read.val_main_v3, LossHeadRefIdeal.Read.val_main_v4, LossHeadRefIdeal.Read.val_main_cst_1, LossHeadRefIdeal.Read.val_main_v5, LossHeadRefIdeal.Read.val_main_v6, LossHeadRefIdeal.Read.val_main_v7, LossHeadRefIdeal.Read.val_main_v8, LossHeadRefIdeal.Read.val_main_cst_2, LossHeadRefIdeal.Read.val_main_v9, LossHeadRefIdeal.Read.val_main_v10, LossHeadRefIdeal.Read.val_main_v11, LossHeadRefIdeal.Read.val_main_v12, LossHeadRefIdeal.Read.val_main_v13, LossHeadRefIdeal.Read.val_main_v14, LossHeadRefIdeal.Read.val_main_v15, LossHeadRefIdeal.Read.val_main_v16, LossHeadRefIdeal.Read.val_main_cst_3, LossHeadRefIdeal.Read.val_main_v17, LossHeadRefIdeal.Read.val_main_v18, LossHeadRefIdeal.Read.val_main_cst_4, LossHeadRefIdeal.Read.val_main_v19, LossHeadRefIdeal.Read.val_main_cst_5, LossHeadRefIdeal.Read.val_main_v20, LossHeadRefIdeal.Read.val_main_v21, LossHeadRefIdeal.Read.val_main_cst_6, LossHeadRefIdeal.Read.val_main_v22, LossHeadRefIdeal.Read.val_main_cst_7, LossHeadRefIdeal.Read.val_main_v23, LossHeadRefIdeal.Read.val_main_cst_8, LossHeadRefIdeal.Read.val_main_cst_9, LossHeadRefIdeal.Read.val_main_v24, LossHeadRefIdeal.Read.val_main_v25, LossHeadRefIdeal.Read.val_main_cst_10, LossHeadRefIdeal.Read.val_main_v26, LossHeadRefIdeal.Read.val_main_v27, LossHeadRefIdeal.Read.val_main_v28, LossHeadRefIdeal.Read.val_main_v30, LossHeadRefIdeal.Read.val_main_cst_11, LossHeadRefIdeal.Read.val_main_v31, LossHeadRefIdeal.Read.val_main_v32]
  rfl

theorem ref_loss (l : Fin 128) : LossHeadRefIdeal.Read.val_main_v64 (F := Ideal) x g t (ix2 0 l)
      = ∑ i : Fin 2048, half * msErr (rw_ x i) (rw_ g 0) (rw_ t i) := by
  rw [half_sum]
  simp only [msErr, ← ref_err]
  pointwise [LossHeadRefIdeal.Read.val_main_v0, LossHeadRefIdeal.Read.val_main_cst, LossHeadRefIdeal.Read.val_main_v1, LossHeadRefIdeal.Read.val_main_v2, LossHeadRefIdeal.Read.val_main_cst_0, LossHeadRefIdeal.Read.val_main_v3, LossHeadRefIdeal.Read.val_main_v4, LossHeadRefIdeal.Read.val_main_cst_1, LossHeadRefIdeal.Read.val_main_v5, LossHeadRefIdeal.Read.val_main_v6, LossHeadRefIdeal.Read.val_main_v7, LossHeadRefIdeal.Read.val_main_v8, LossHeadRefIdeal.Read.val_main_cst_2, LossHeadRefIdeal.Read.val_main_v9, LossHeadRefIdeal.Read.val_main_v10, LossHeadRefIdeal.Read.val_main_v11, LossHeadRefIdeal.Read.val_main_v12, LossHeadRefIdeal.Read.val_main_v13, LossHeadRefIdeal.Read.val_main_v14, LossHeadRefIdeal.Read.val_main_v16, LossHeadRefIdeal.Read.val_main_cst_3, LossHeadRefIdeal.Read.val_main_v17, LossHeadRefIdeal.Read.val_main_v18, LossHeadRefIdeal.Read.val_main_cst_4, LossHeadRefIdeal.Read.val_main_v19, LossHeadRefIdeal.Read.val_main_cst_5, LossHeadRefIdeal.Read.val_main_v20, LossHeadRefIdeal.Read.val_main_v21, LossHeadRefIdeal.Read.val_main_cst_6, LossHeadRefIdeal.Read.val_main_v22, LossHeadRefIdeal.Read.val_main_cst_7, LossHeadRefIdeal.Read.val_main_v23, LossHeadRefIdeal.Read.val_main_cst_8, LossHeadRefIdeal.Read.val_main_cst_9, LossHeadRefIdeal.Read.val_main_v24, LossHeadRefIdeal.Read.val_main_v25, LossHeadRefIdeal.Read.val_main_cst_10, LossHeadRefIdeal.Read.val_main_v26, LossHeadRefIdeal.Read.val_main_v27, LossHeadRefIdeal.Read.val_main_v28, LossHeadRefIdeal.Read.val_main_v29, LossHeadRefIdeal.Read.val_main_v30, LossHeadRefIdeal.Read.val_main_cst_11, LossHeadRefIdeal.Read.val_main_v31, LossHeadRefIdeal.Read.val_main_v32, LossHeadRefIdeal.Read.val_main_v33, LossHeadRefIdeal.Read.val_main_v34, LossHeadRefIdeal.Read.val_main_v35, LossHeadRefIdeal.Read.val_main_cst_12, LossHeadRefIdeal.Read.val_main_v36, LossHeadRefIdeal.Read.val_main_v37, LossHeadRefIdeal.Read.val_main_v38, LossHeadRefIdeal.Read.val_main_v39, LossHeadRefIdeal.Read.val_main_v40, LossHeadRefIdeal.Read.val_main_cst_13, LossHeadRefIdeal.Read.val_main_v41, LossHeadRefIdeal.Read.val_main_v42, LossHeadRefIdeal.Read.val_main_cst_14, LossHeadRefIdeal.Read.val_main_v43, LossHeadRefIdeal.Read.val_main_v44, LossHeadRefIdeal.Read.val_main_v45, LossHeadRefIdeal.Read.val_main_v46, LossHeadRefIdeal.Read.val_main_v47, LossHeadRefIdeal.Read.val_main_v48, LossHeadRefIdeal.Read.val_main_v49, LossHeadRefIdeal.Read.val_main_v50, LossHeadRefIdeal.Read.val_main_cst_15, LossHeadRefIdeal.Read.val_main_v51, LossHeadRefIdeal.Read.val_main_v52, LossHeadRefIdeal.Read.val_main_cst_16, LossHeadRefIdeal.Read.val_main_v53, LossHeadRefIdeal.Read.val_main_v54, LossHeadRefIdeal.Read.val_main_cst_17, LossHeadRefIdeal.Read.val_main_v55, LossHeadRefIdeal.Read.val_main_v56, LossHeadRefIdeal.Read.val_main_v57, LossHeadRefIdeal.Read.val_main_v58, LossHeadRefIdeal.Read.val_main_v59, LossHeadRefIdeal.Read.val_main_v60, LossHeadRefIdeal.Read.val_main_v61, LossHeadRefIdeal.Read.val_main_v62, LossHeadRefIdeal.Read.val_main_v63, LossHeadRefIdeal.Read.val_main_v64]
  rfl

end

/-- The reference's run, its results named by their last stages. -/
theorem ref_run (m : (ℓ : Loc LossHeadRefIdeal.nD LossHeadRefIdeal.τ LossHeadRefIdeal.sig) → Buf (Elt Ideal) ℓ) (ρ : Dev LossHeadRefIdeal.nD → PrngReg) :
    θ_run LossHeadRefIdeal.defs (onTc (τ := LossHeadRefIdeal.τ) (LossHeadRefIdeal.main (F := Ideal))) ⟨m, fun _ => 0, ρ⟩ fun r => ∀ c : Dev LossHeadRefIdeal.nD,
      r.2.mem ((c.tc : Thread LossHeadRefIdeal.nD LossHeadRefIdeal.τ).loc LossHeadRefIdeal.main_v48) = LossHeadRefIdeal.Read.val_main_v48 (F := Ideal) (m ((c.tc : Thread LossHeadRefIdeal.nD LossHeadRefIdeal.τ).loc LossHeadRefIdeal.main_arg0)) (m ((c.tc : Thread LossHeadRefIdeal.nD LossHeadRefIdeal.τ).loc LossHeadRefIdeal.main_arg1)) (m ((c.tc : Thread LossHeadRefIdeal.nD LossHeadRefIdeal.τ).loc LossHeadRefIdeal.main_arg2))
      ∧ r.2.mem ((c.tc : Thread LossHeadRefIdeal.nD LossHeadRefIdeal.τ).loc LossHeadRefIdeal.main_v62) = LossHeadRefIdeal.Read.val_main_v62 (F := Ideal) (m ((c.tc : Thread LossHeadRefIdeal.nD LossHeadRefIdeal.τ).loc LossHeadRefIdeal.main_arg0)) (m ((c.tc : Thread LossHeadRefIdeal.nD LossHeadRefIdeal.τ).loc LossHeadRefIdeal.main_arg1)) (m ((c.tc : Thread LossHeadRefIdeal.nD LossHeadRefIdeal.τ).loc LossHeadRefIdeal.main_arg2)) (m ((c.tc : Thread LossHeadRefIdeal.nD LossHeadRefIdeal.τ).loc LossHeadRefIdeal.main_arg3)) (m ((c.tc : Thread LossHeadRefIdeal.nD LossHeadRefIdeal.τ).loc LossHeadRefIdeal.main_arg4))
      ∧ r.2.mem ((c.tc : Thread LossHeadRefIdeal.nD LossHeadRefIdeal.τ).loc LossHeadRefIdeal.main_v63) = LossHeadRefIdeal.Read.val_main_v63 (F := Ideal) (m ((c.tc : Thread LossHeadRefIdeal.nD LossHeadRefIdeal.τ).loc LossHeadRefIdeal.main_arg0)) (m ((c.tc : Thread LossHeadRefIdeal.nD LossHeadRefIdeal.τ).loc LossHeadRefIdeal.main_arg1)) (m ((c.tc : Thread LossHeadRefIdeal.nD LossHeadRefIdeal.τ).loc LossHeadRefIdeal.main_arg2)) (m ((c.tc : Thread LossHeadRefIdeal.nD LossHeadRefIdeal.τ).loc LossHeadRefIdeal.main_arg4))
      ∧ r.2.mem ((c.tc : Thread LossHeadRefIdeal.nD LossHeadRefIdeal.τ).loc LossHeadRefIdeal.main_v32) = LossHeadRefIdeal.Read.val_main_v32 (F := Ideal) (m ((c.tc : Thread LossHeadRefIdeal.nD LossHeadRefIdeal.τ).loc LossHeadRefIdeal.main_arg0)) (m ((c.tc : Thread LossHeadRefIdeal.nD LossHeadRefIdeal.τ).loc LossHeadRefIdeal.main_arg1)) (m ((c.tc : Thread LossHeadRefIdeal.nD LossHeadRefIdeal.τ).loc LossHeadRefIdeal.main_arg2))
      ∧ r.2.mem ((c.tc : Thread LossHeadRefIdeal.nD LossHeadRefIdeal.τ).loc LossHeadRefIdeal.main_v64) = LossHeadRefIdeal.Read.val_main_v64 (F := Ideal) (m ((c.tc : Thread LossHeadRefIdeal.nD LossHeadRefIdeal.τ).loc LossHeadRefIdeal.main_arg0)) (m ((c.tc : Thread LossHeadRefIdeal.nD LossHeadRefIdeal.τ).loc LossHeadRefIdeal.main_arg1)) (m ((c.tc : Thread LossHeadRefIdeal.nD LossHeadRefIdeal.τ).loc LossHeadRefIdeal.main_arg2))
      ∧ r.2.mem ((c.tc : Thread LossHeadRefIdeal.nD LossHeadRefIdeal.τ).loc LossHeadRefIdeal.main_arg0) = m ((c.tc : Thread LossHeadRefIdeal.nD LossHeadRefIdeal.τ).loc LossHeadRefIdeal.main_arg0)
      ∧ r.2.mem ((c.tc : Thread LossHeadRefIdeal.nD LossHeadRefIdeal.τ).loc LossHeadRefIdeal.main_arg1) = m ((c.tc : Thread LossHeadRefIdeal.nD LossHeadRefIdeal.τ).loc LossHeadRefIdeal.main_arg1)
      ∧ r.2.mem ((c.tc : Thread LossHeadRefIdeal.nD LossHeadRefIdeal.τ).loc LossHeadRefIdeal.main_arg2) = m ((c.tc : Thread LossHeadRefIdeal.nD LossHeadRefIdeal.τ).loc LossHeadRefIdeal.main_arg2)
      ∧ r.2.mem ((c.tc : Thread LossHeadRefIdeal.nD LossHeadRefIdeal.τ).loc LossHeadRefIdeal.main_arg3) = m ((c.tc : Thread LossHeadRefIdeal.nD LossHeadRefIdeal.τ).loc LossHeadRefIdeal.main_arg3)
      ∧ r.2.mem ((c.tc : Thread LossHeadRefIdeal.nD LossHeadRefIdeal.τ).loc LossHeadRefIdeal.main_arg4) = m ((c.tc : Thread LossHeadRefIdeal.nD LossHeadRefIdeal.τ).loc LossHeadRefIdeal.main_arg4) :=
  (θ_run _ _ _).mono (fun r h c => ⟨(h c).1.trans (LossHeadRefIdeal.Read.val_main_v48_eq m c),
      (h c).2.1.trans (LossHeadRefIdeal.Read.val_main_v62_eq m c),
      (h c).2.2.1.trans (LossHeadRefIdeal.Read.val_main_v63_eq m c),
      (h c).2.2.2.1.trans (LossHeadRefIdeal.Read.val_main_v32_eq _ _ _),
      (h c).2.2.2.2.1.trans (LossHeadRefIdeal.Read.val_main_v64_eq _ _ _),
      (h c).2.2.2.2.2⟩)
    (LossHeadRefIdeal.Value.run m ρ)

theorem same : Cert.algebraic_LossHeadIdeal_LossHeadRefIdeal := by
  pair_intro
  · run_from Cert.LossHeadIdeal.Value.run_blocks m g
  · run_from ref_run m' g'
    · rw [arr5]
      exact funext fun y => ref_dx _ _ _ y
    · rw [arr6]
      exact funext fun y => ref_dgate _ _ _ _ _ y
    · rw [arr7]
      exact funext fun y => ref_dproj _ _ _ _ y
    · rw [arr8]
      funext j
      idx_vars j
      obtain rfl : j0 = 0 := Subsingleton.elim _ _
      rw [sum8]
      exact ref_dg _ _ _ _
    · rw [arr9]
      funext j
      idx_vars j
      obtain rfl : j0 = 0 := Subsingleton.elim _ _
      rw [sum9]
      exact ref_loss _ _ _ _

end Cert.Proof.LossHead

end
-- ==== Proof.Heads.lean ====
/- One grid point of the gating unit's gradient, as vector terms that are the same for every head: the columns of a head, the
   two forms of gelu, and the blocks that the point adds to or stores. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Heads

open Cert.KernelIdeal Cert.KernelIdeal.Gen Idealize.ShloMosaic Idealize.ShloMosaic.TcCoe Idealize.SL.Sem

variable {F : FTy → Type} [FloatOps F] [Named F]

/-- The columns of head `h` lie in the block. -/
theorem cols_in : ∀ h : Fin 16, S128x2048.Slices ![0, 128 * h.val] S128x128 := by decide

theorem mat_in : ∀ h : Fin 16, S16x128x128.Slices ![h.val, 0, 0] S1x128x128 := by decide

theorem col_in : ∀ h : Fin 16, S128x16.Slices ![0, h.val] S128x1 := by decide

/-- The columns of head `h`. -/
def cols {φ : FTy} (h : Fin 16) (x : FVec F S128x2048 φ) : FVec F S128x128 φ :=
  extractStridedSlice S128x128 ![0, 128 * h.val] x (cols_in h)

/-- The mixing matrix of head `h`. -/
def mat {φ : FTy} (h : Fin 16) (w : FVec F S16x128x128 φ) : FVec F S128x128 φ :=
  shapeCast S128x128 (extractStridedSlice S1x128x128 ![h.val, 0, 0] w (mat_in h)) shapeCasts_S1x128x128_S128x128

/-- The bias of head `h`, along the lanes. -/
def bias (h : Fin 16) (b : FVec F S128x16 .f32) : FVec F S128x128 .f32 :=
  broadcastTo S128x128 (extractStridedSlice S128x1 ![0, h.val] b (col_in h)) broadcasts_S128x1_S128x128

/-- The hyperbolic tangent inside gelu. -/
def tn (s : Shape) (z : FVec F s .f32) : FVec F s .f32 :=
  tanh (mulf (broadcast s (Scalar.ofBits .f32 0x3F4C422A#32))
    (addf z (mulf (broadcast s (Named.named κ "gelu_c" 0x3D372713#32)) (mulf (mulf z z) z))))

/-- The derivative of gelu. -/
def dgelu (s : Shape) (z : FVec F s .f32) : FVec F s .f32 :=
  addf (mulf (broadcast s (Scalar.ofBits .f32 0x3F000000#32)) (addf (broadcast s (Scalar.ofBits .f32 0x3F800000#32)) (tn s z)))
    (mulf
      (mulf (mulf (broadcast s (Scalar.ofBits .f32 0x3F000000#32)) z)
        (subf (broadcast s (Scalar.ofBits .f32 0x3F800000#32)) (mulf (tn s z) (tn s z))))
      (mulf (broadcast s (Scalar.ofBits .f32 0x3F4C422A#32))
        (addf (broadcast s (Scalar.ofBits .f32 0x3F800000#32))
          (mulf (mulf (broadcast s (Named.named κ "gelu_3c" 0x3E095D4F#32)) z) z))))

section Point

variable (x0 : Vec F S128x4096 .f32) (x1 : Vec F S128x2048 .f32) (x2 x3 : Vec F S1x2048 .f32)
  (x4 : Vec F S16x128x128 .f32) (x5 : Vec F S128x16 .f32)

/-- The reciprocal deviation, the normalized rows, and the rows after gain and offset. -/
def rstd : FVec F S128x1 .f32 := k0_pay14 (k0_pay11 x0) (k0_pay12 x0) (Scalar.ofBits .f32 0x3F4C422A#32)
def vhat : FVec F S128x2048 .f32 := k0_pay15 (k0_pay11 x0) (k0_pay12 x0) (Scalar.ofBits .f32 0x3F4C422A#32)
def vnrm : FVec F S128x2048 .bf16 := k0_pay16 x2 x3 (k0_pay11 x0) (k0_pay12 x0) (Scalar.ofBits .f32 0x3F4C422A#32)

/-- The cotangent of head `h`'s mixed values. -/
def dsv (h : Fin 16) : FVec F S128x128 .f32 := mulf (cols h x1) (cols h (k0_pay10 x0))

/-- Head `h`'s mixed values. -/
def sv (h : Fin 16) : FVec F S128x128 .f32 :=
  addf (matmul dot_S128x128_S128x128_S128x128_1_0_0_1_n_n none (mat h (k0_pay6 x4)) (cols h (vnrm x0 x2 x3))
    (constant S128x128 .f32 0x00000000#32)) (bias h (k0_pay7 x5))

/-- Head `h`'s part of the first half of the input's gradient. -/
def dzu (h : Fin 16) : FVec F S128x128 .bf16 :=
  truncf .bf16 (mulf (mulf (cols h x1) (sv x0 x2 x3 x4 x5 h)) (dgelu S128x128 (cols h (k0_pay8 x0)))) bitsLt_bf16_f32

/-- What head `h` adds to its mixing matrix's gradient. -/
def dws (h : Fin 16) : FVec F S128x128 .f32 :=
  matmul dot_S128x128_S128x128_S128x128_1_1_0_0_n_n none (truncf .bf16 (dsv x0 x1 h) bitsLt_bf16_f32) (cols h (vnrm x0 x2 x3))
    (constant S128x128 .f32 0x00000000#32)

/-- The cotangent of the values before mixing, one head. -/
def dvnH (h : Fin 16) : FVec F S128x128 .f32 :=
  matmul dot_S128x128_S128x128_S128x128_0_0_1_1_n_n none (mat h (k0_pay6 x4)) (truncf .bf16 (dsv x0 x1 h) bitsLt_bf16_f32)
    (constant S128x128 .f32 0x00000000#32)

/-- What head `h` adds to the bias gradient: its row sums in lane `h`. -/
def dbsH (h : Fin 16) : FVec F S128x128 .f32 :=
  select (cmpi .eq (iota .tc S128x128 32 [1] iota_S128x128_d1_w32) (broadcast S128x128 (BitVec.ofNat 32 h.val)))
    (broadcastTo S128x128 (shapeCast S128x1 (shapeCast S128x1
      (multiReduction .add [1] S128 (dsv x0 x1 h) 0x00000000#32 reduces_S128x128_S128 (.inl rfl) rfl) shapeCasts_S128_S128x1)
        shapeCasts_S128x1_S128x1) broadcasts_S128x1_S128x128)
    (broadcast S128x128 (Scalar.ofBits .f32 0x00000000#32))

/-- The bias gradient's block after the first `n` heads. -/
def dbs : ℕ → FVec F S128x128 .f32
  | 0 => broadcast S128x128 (Scalar.ofBits .f32 0x00000000#32)
  | n + 1 => addf (dbs n) (dbsH x0 x1 (Fin.ofNat 16 n))

/-- The cotangent of the values before mixing, all heads side by side. -/
def dvn : FVec F S128x2048 .f32 :=
  concatenate S128x2048 1 [⟨S128x128, dvnH x0 x1 x4 0⟩, ⟨S128x128, dvnH x0 x1 x4 1⟩, ⟨S128x128, dvnH x0 x1 x4 2⟩,
    ⟨S128x128, dvnH x0 x1 x4 3⟩, ⟨S128x128, dvnH x0 x1 x4 4⟩, ⟨S128x128, dvnH x0 x1 x4 5⟩, ⟨S128x128, dvnH x0 x1 x4 6⟩,
    ⟨S128x128, dvnH x0 x1 x4 7⟩, ⟨S128x128, dvnH x0 x1 x4 8⟩, ⟨S128x128, dvnH x0 x1 x4 9⟩, ⟨S128x128, dvnH x0 x1 x4 10⟩,
    ⟨S128x128, dvnH x0 x1 x4 11⟩, ⟨S128x128, dvnH x0 x1 x4 12⟩, ⟨S128x128, dvnH x0 x1 x4 13⟩, ⟨S128x128, dvnH x0 x1 x4 14⟩,
    ⟨S128x128, dvnH x0 x1 x4 15⟩]
    concatenates_S128x128_S128x128_S128x128_S128x128_S128x128_S128x128_S128x128_S128x128_S128x128_S128x128_S128x128_S128x128_S128x128_S128x128_S128x128_S128x128_S128x2048_d1

/-- The second half of the input's gradient. -/
def dzv : FVec F S128x2048 .bf16 :=
  k0_pay190 (k0_pay9 x0) (rstd x0) (vhat x0) (mulf (dvn x0 x1 x4) (broadcastTo S128x2048 x2 broadcasts_S1x2048_S128x2048))

/-- What the point adds to the gain's and the offset's gradient. -/
def dgain : FVec F S1x2048 .f32 :=
  shapeCast S1x2048 (multiReduction .add [0] S2048 (mulf (dvn x0 x1 x4) (vhat x0)) 0x00000000#32 reduces_S128x2048_S2048 (.inl rfl) rfl)
    shapeCasts_S2048_S1x2048
def doff : FVec F S1x2048 .f32 :=
  shapeCast S1x2048 (multiReduction .add [0] S2048 (dvn x0 x1 x4) 0x00000000#32 reduces_S128x2048_S2048 (.inl rfl) rfl)
    shapeCasts_S2048_S1x2048

end Point

end Cert.Proof.Heads

end
-- ==== Proof.Blocks.lean ====
/- What one grid point leaves in each output block, in every case of the point: the input's gradient in two halves, and the
   four sums with the point's part added. -/
module

public import proofs.«01_k».proof.Proof.Heads
public import Idealize.ShloMosaic.Lib.ValueLayout

@[expose] public section

set_option maxRecDepth 16384
set_option maxHeartbeats 2000000
set_option pp.maxSteps 400

noncomputable section

namespace Cert.Proof.Blocks

open Cert.Proof.Heads Cert.KernelIdeal Cert.KernelIdeal.Gen Idealize.ShloMosaic Idealize.ShloMosaic.TcCoe Idealize.SL.Sem

variable {F : FTy → Type} [FloatOps F] [Named F]

/-- The input's gradient at row `r` and column `l` of the block. -/
def dz (x0 : Vec F S128x4096 .f32) (x1 : Vec F S128x2048 .f32) (x2 x3 : Vec F S1x2048 .f32)
    (x4 : Vec F S16x128x128 .f32) (x5 : Vec F S128x16 .f32) (r : Fin 128) (l : Fin 4096) : F .bf16 :=
  if h : l.val < 2048 then dzu x0 x1 x2 x3 x4 x5 ⟨l.val / 128, by omega⟩ (ix2 r ⟨l.val % 128, by omega⟩)
  else dzv x0 x1 x2 x4 (ix2 r ⟨l.val - 2048, by omega⟩)

/-- A store of head `h` holds the input's gradient at its place. -/
theorem dz_first (x0 : Vec F S128x4096 .f32) (x1 : Vec F S128x2048 .f32) (x2 x3 : Vec F S1x2048 .f32)
    (x4 : Vec F S16x128x128 .f32) (x5 : Vec F S128x16 .f32) (r : Fin 128) (l : Fin 4096) (h : Fin 16)
    (x : S128x128.Idx) (p : S128x128.Idx → F .bf16) (hp : p = dzu x0 x1 x2 x3 x4 x5 h) (e0 : r.val = (x 0).val)
    (e1 : l.val = 128 * h.val + (x 1).val) : p x = dz x0 x1 x2 x3 x4 x5 r l := by
  have hx : (x 1).val < 128 := (x 1).isLt
  have hl : l.val < 2048 := by have := h.isLt; omega
  have a : (⟨l.val / 128, by omega⟩ : Fin 16) = h := Fin.ext (by show l.val / 128 = _; omega)
  have b : ix2 r ⟨l.val % 128, by omega⟩ = x := by
    refine Eq.trans ?_ (eq_ix2 x).symm
    congr 1
    · exact Fin.ext e0
    · exact Fin.ext (by show l.val % 128 = _; omega)
  unfold dz
  rw [dif_pos hl, a, b, hp]

/-- The store of the second half holds the input's gradient at its place. -/
theorem dz_second (x0 : Vec F S128x4096 .f32) (x1 : Vec F S128x2048 .f32) (x2 x3 : Vec F S1x2048 .f32)
    (x4 : Vec F S16x128x128 .f32) (x5 : Vec F S128x16 .f32) (r : Fin 128) (l : Fin 4096)
    (x : S128x2048.Idx) (p : S128x2048.Idx → F .bf16) (hp : p = dzv x0 x1 x2 x4) (e0 : r.val = (x 0).val)
    (e1 : l.val = 2048 + (x 1).val) : p x = dz x0 x1 x2 x3 x4 x5 r l := by
  have hl : ¬ l.val < 2048 := by omega
  have b : ix2 r ⟨l.val - 2048, by omega⟩ = x := by
    refine Eq.trans ?_ (eq_ix2 x).symm
    congr 1
    · exact Fin.ext e0
    · exact Fin.ext (by show l.val - 2048 = _; omega)
  unfold dz
  rw [dif_neg hl, b, hp]

theorem half_in : ∀ h : Fin 16, ∀ a, (![0, 128 * h.val] : Fin 2 → ℕ) a + S128x128.size a ≤ S128x4096.size a := by decide

/-- The store of head `h` of the first half, and the store of the second half. -/
def firstH (x0 : Vec F S128x4096 .f32) (x1 : Vec F S128x2048 .f32) (x2 x3 : Vec F S1x2048 .f32)
    (x4 : Vec F S16x128x128 .f32) (x5 : Vec F S128x16 .f32) (h : Fin 16) : View.Piece (Elt F) S128x4096 .bf16 :=
  ⟨Rect.unit (s := S128x4096) ![0, 128 * h.val] S128x128.size (half_in h), dzu x0 x1 x2 x3 x4 x5 h⟩
def secondH (x0 : Vec F S128x4096 .f32) (x1 : Vec F S128x2048 .f32) (x2 x3 : Vec F S1x2048 .f32)
    (x4 : Vec F S16x128x128 .f32) (x5 : Vec F S128x16 .f32) : View.Piece (Elt F) S128x4096 .bf16 :=
  ⟨Rect.unit (s := S128x4096) ![0, 2048] S128x2048.size inb_S128x4096_S128x2048_0_2048, dzv x0 x1 x2 x4⟩

/-- The seventeen stores, the last one first. -/
def halves (x0 : Vec F S128x4096 .f32) (x1 : Vec F S128x2048 .f32) (x2 x3 : Vec F S1x2048 .f32)
    (x4 : Vec F S16x128x128 .f32) (x5 : Vec F S128x16 .f32) : List (View.Piece (Elt F) S128x4096 .bf16) :=
  [secondH x0 x1 x2 x3 x4 x5, firstH x0 x1 x2 x3 x4 x5 15, firstH x0 x1 x2 x3 x4 x5 14, firstH x0 x1 x2 x3 x4 x5 13, firstH x0 x1 x2 x3 x4 x5 12, firstH x0 x1 x2 x3 x4 x5 11, firstH x0 x1 x2 x3 x4 x5 10, firstH x0 x1 x2 x3 x4 x5 9, firstH x0 x1 x2 x3 x4 x5 8, firstH x0 x1 x2 x3 x4 x5 7, firstH x0 x1 x2 x3 x4 x5 6, firstH x0 x1 x2 x3 x4 x5 5, firstH x0 x1 x2 x3 x4 x5 4, firstH x0 x1 x2 x3 x4 x5 3, firstH x0 x1 x2 x3 x4 x5 2, firstH x0 x1 x2 x3 x4 x5 1, firstH x0 x1 x2 x3 x4 x5 0]

theorem first_mem (x0 : Vec F S128x4096 .f32) (x1 : Vec F S128x2048 .f32) (x2 x3 : Vec F S1x2048 .f32)
    (x4 : Vec F S16x128x128 .f32) (x5 : Vec F S128x16 .f32) (h : Fin 16) : firstH x0 x1 x2 x3 x4 x5 h ∈ halves x0 x1 x2 x3 x4 x5 := by
  refine List.mem_cons_of_mem _ ?_
  revert h
  intro h
  have : firstH x0 x1 x2 x3 x4 x5 h ∈ (List.finRange 16).reverse.map (firstH x0 x1 x2 x3 x4 x5) :=
    List.mem_map_of_mem (List.mem_reverse.mpr (List.mem_finRange h))
  exact this

theorem halves_cover (x0 : Vec F S128x4096 .f32) (x1 : Vec F S128x2048 .f32) (x2 x3 : Vec F S1x2048 .f32)
    (x4 : Vec F S16x128x128 .f32) (x5 : Vec F S128x16 .f32) (y : S128x4096.Idx) : ∃ p ∈ halves x0 x1 x2 x3 x4 x5, y ∈ p.1.set := by
  have y0 : (y 0).val < 128 := (y 0).isLt
  have y1 : (y 1).val < 4096 := (y 1).isLt
  by_cases h : (y 1).val < 2048
  · refine ⟨_, first_mem x0 x1 x2 x3 x4 x5 ⟨(y 1).val / 128, by omega⟩, (Rect.mem_set_unit (inb := half_in _)).mpr fun a => ?_⟩
    match a with
    | 0 => exact ⟨Nat.zero_le _, by show _ < 0 + 128; omega⟩
    | 1 => exact ⟨by show 128 * ((y 1).val / 128) ≤ _; omega, by show _ < 128 * ((y 1).val / 128) + 128; omega⟩
  · refine ⟨_, List.mem_cons_self, (Rect.mem_set_unit (inb := inb_S128x4096_S128x2048_0_2048)).mpr fun a => ?_⟩
    match a with
    | 0 => exact ⟨Nat.zero_le _, by show _ < 0 + 128; omega⟩
    | 1 => exact ⟨by show 2048 ≤ _; omega, by show _ < 2048 + 2048; omega⟩

theorem first_apply (x0 : Vec F S128x4096 .f32) (x1 : Vec F S128x2048 .f32) (x2 x3 : Vec F S1x2048 .f32)
    (x4 : Vec F S16x128x128 .f32) (x5 : Vec F S128x16 .f32) (h : Fin 16) (x : S128x128.Idx) : (firstH x0 x1 x2 x3 x4 x5 h).2 x =
    dz x0 x1 x2 x3 x4 x5 ((firstH x0 x1 x2 x3 x4 x5 h).1.emb x 0) ((firstH x0 x1 x2 x3 x4 x5 h).1.emb x 1) := by
  have e0 : ((firstH x0 x1 x2 x3 x4 x5 h).1.emb x 0).val = 0 + (x 0).val := Rect.idx_unit_val (s := S128x4096) ![0, 128 * h.val] S128x128.size (half_in h) x 0
  have e1 : ((firstH x0 x1 x2 x3 x4 x5 h).1.emb x 1).val = 128 * h.val + (x 1).val := Rect.idx_unit_val (s := S128x4096) ![0, 128 * h.val] S128x128.size (half_in h) x 1
  exact dz_first x0 x1 x2 x3 x4 x5 _ _ h x _ rfl (by omega) e1

theorem second_apply (x0 : Vec F S128x4096 .f32) (x1 : Vec F S128x2048 .f32) (x2 x3 : Vec F S1x2048 .f32)
    (x4 : Vec F S16x128x128 .f32) (x5 : Vec F S128x16 .f32) (x : S128x2048.Idx) : (secondH x0 x1 x2 x3 x4 x5).2 x =
    dz x0 x1 x2 x3 x4 x5 ((secondH x0 x1 x2 x3 x4 x5).1.emb x 0) ((secondH x0 x1 x2 x3 x4 x5).1.emb x 1) := by
  have e0 : ((secondH x0 x1 x2 x3 x4 x5).1.emb x 0).val = 0 + (x 0).val := Rect.idx_unit_val (s := S128x4096) ![0, 2048] S128x2048.size inb_S128x4096_S128x2048_0_2048 x 0
  have e1 : ((secondH x0 x1 x2 x3 x4 x5).1.emb x 1).val = 2048 + (x 1).val := Rect.idx_unit_val (s := S128x4096) ![0, 2048] S128x2048.size inb_S128x4096_S128x2048_0_2048 x 1
  exact dz_second x0 x1 x2 x3 x4 x5 _ _ x _ rfl (by omega) e1

theorem halves_canon (x0 : Vec F S128x4096 .f32) (x1 : Vec F S128x2048 .f32) (x2 x3 : Vec F S1x2048 .f32)
    (x4 : Vec F S16x128x128 .f32) (x5 : Vec F S128x16 .f32) : View.canon (halves x0 x1 x2 x3 x4 x5 ++ []) = fun j => dz x0 x1 x2 x3 x4 x5 (j 0) (j 1) := by
  funext j
  refine View.canon_append_of_piecesOf (fun j => dz x0 x1 x2 x3 x4 x5 (j 0) (j 1)) _ _ ?_ j (halves_cover x0 x1 x2 x3 x4 x5 j)
  exact ⟨second_apply x0 x1 x2 x3 x4 x5, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, first_apply x0 x1 x2 x3 x4 x5 _, trivial⟩

/-- What the point adds to the mixing matrices' gradient. -/
def dwsAll (x0 : Vec F S128x4096 .f32) (x1 : Vec F S128x2048 .f32) (x2 x3 : Vec F S1x2048 .f32) : FVec F S16x128x128 .f32 :=
  fun j => dws x0 x1 x2 x3 (j 0) (ix2 (j 1) (j 2))

theorem piece_in : ∀ h : Fin 16, ∀ a, (![h.val, 0, 0] : Fin 3 → ℕ) a + S1x128x128.size a ≤ S16x128x128.size a := by decide

/-- The store of head `h`'s matrix over the sum `xo`. -/
def piece (x0 : Vec F S128x4096 .f32) (x1 : Vec F S128x2048 .f32) (x2 x3 : Vec F S1x2048 .f32) (xo : Vec F S16x128x128 .f32)
    (h : Fin 16) : View.Piece (Elt F) S16x128x128 .f32 :=
  ⟨Rect.unit (s := S16x128x128) ![h.val, 0, 0] S1x128x128.size (piece_in h),
    shapeCast S1x128x128 (addf (shapeCast S128x128
      (View.ld xo (Rect.unit (s := S16x128x128) ![h.val, 0, 0] S1x128x128.size (piece_in h)) : Vec F S1x128x128 .f32)
        shapeCasts_S1x128x128_S128x128) (dws x0 x1 x2 x3 h)) shapeCasts_S128x128_S1x128x128⟩

theorem piece_apply (x0 : Vec F S128x4096 .f32) (x1 : Vec F S128x2048 .f32) (x2 x3 : Vec F S1x2048 .f32) (xo : Vec F S16x128x128 .f32)
    (h : Fin 16) (x : S1x128x128.Idx) :
    (piece x0 x1 x2 x3 xo h).2 x = addf xo (dwsAll x0 x1 x2 x3) ((piece x0 x1 x2 x3 xo h).1.emb x) := by
  obtain ⟨u, a, b, rfl⟩ : ∃ u a b, x = ix3 u a b := ⟨_, _, _, eq_ix3 x⟩
  have e : (piece x0 x1 x2 x3 xo h).1.emb (ix3 u a b) = ix3 h a b := by
    have e0 : ((piece x0 x1 x2 x3 xo h).1.emb (ix3 u a b) 0).val = h.val + u.val := Rect.idx_unit_val (s := S16x128x128) ![h.val, 0, 0] S1x128x128.size (piece_in h) (ix3 u a b) 0
    have e1 : ((piece x0 x1 x2 x3 xo h).1.emb (ix3 u a b) 1).val = 0 + a.val := Rect.idx_unit_val (s := S16x128x128) ![h.val, 0, 0] S1x128x128.size (piece_in h) (ix3 u a b) 1
    have e2 : ((piece x0 x1 x2 x3 xo h).1.emb (ix3 u a b) 2).val = 0 + b.val := Rect.idx_unit_val (s := S16x128x128) ![h.val, 0, 0] S1x128x128.size (piece_in h) (ix3 u a b) 2
    have hu : u.val < 1 := u.isLt
    refine (eq_ix3 _).trans ?_
    congr 1
    · exact Fin.ext (by omega)
    · exact Fin.ext (by omega)
    · exact Fin.ext (by omega)
  rw [e]
  show shapeCast ⟨3, ![1, 128, 128]⟩ (addf (shapeCast ⟨2, ![128, 128]⟩
      (View.ld xo (Rect.unit (s := S16x128x128) ![h.val, 0, 0] S1x128x128.size (piece_in h)) : Vec F S1x128x128 .f32)
        shapeCasts_S1x128x128_S128x128) (dws x0 x1 x2 x3 h)) shapeCasts_S128x128_S1x128x128 (ValueIdx.ix3 u a b) = _
  rw [ValueIdx.shapeCast_ab_1ab_apply]
  refine congrArg₂ FloatOps.addf (Eq.trans (ValueIdx.shapeCast_1ab_ab_apply _ _ a b) ?_) rfl
  have e : (piece x0 x1 x2 x3 xo h).1.emb (ix3 0 a b) = ix3 h a b := (congrArg _ (by congr 1; exact Subsingleton.elim _ _)).trans e
  exact congrArg xo e

/-- The sixteen stores, the last one first. -/
def pieces (x0 : Vec F S128x4096 .f32) (x1 : Vec F S128x2048 .f32) (x2 x3 : Vec F S1x2048 .f32) (xo : Vec F S16x128x128 .f32) :
    List (View.Piece (Elt F) S16x128x128 .f32) :=
  [piece x0 x1 x2 x3 xo 15, piece x0 x1 x2 x3 xo 14, piece x0 x1 x2 x3 xo 13, piece x0 x1 x2 x3 xo 12, piece x0 x1 x2 x3 xo 11, piece x0 x1 x2 x3 xo 10, piece x0 x1 x2 x3 xo 9, piece x0 x1 x2 x3 xo 8, piece x0 x1 x2 x3 xo 7, piece x0 x1 x2 x3 xo 6, piece x0 x1 x2 x3 xo 5, piece x0 x1 x2 x3 xo 4, piece x0 x1 x2 x3 xo 3, piece x0 x1 x2 x3 xo 2, piece x0 x1 x2 x3 xo 1, piece x0 x1 x2 x3 xo 0]

theorem pieces_canon (x0 : Vec F S128x4096 .f32) (x1 : Vec F S128x2048 .f32) (x2 x3 : Vec F S1x2048 .f32) (xo : Vec F S16x128x128 .f32)
    (L : List (View.Piece (Elt F) S16x128x128 .f32)) : View.canon (pieces x0 x1 x2 x3 xo ++ L) = addf xo (dwsAll x0 x1 x2 x3) := by
  funext j
  refine View.canon_append_of_piecesOf _ _ _ ?_ j (View.cover_of_tiledL (pieces x0 x1 x2 x3 xo) ![1, 128, 128] (by rfl) j)
  exact ⟨piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, piece_apply x0 x1 x2 x3 xo _, trivial⟩

theorem out_A_6 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) :
   out0_A_6 c i arg1 harg1 arg2 harg2 arg3 harg3 arg4 harg4 arg5 harg5 arg6 harg6 arg7 harg7 arg8 harg8 arg9 harg9 arg10 harg10 arg11 harg11 hc0 hc1 x0 x1 x2 x3 x4 x5 = fun j => dz x0 x1 x2 x3 x4 x5 (j 0) (j 1) := by
  frame_out
  exact (congrArg View.canon (List.append_nil _).symm).trans (halves_canon x0 x1 x2 x3 x4 x5)

theorem out_A_7 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) :
   out0_A_7 c i arg1 harg1 arg2 harg2 arg3 harg3 arg4 harg4 arg5 harg5 arg6 harg6 arg7 harg7 arg8 harg8 arg9 harg9 arg10 harg10 arg11 harg11 hc0 hc1 x0 x1 x2 x3 x4 x5 = addf k0_pay2 (dwsAll x0 x1 x2 x3) := by
  frame_open
  simp (disch := decide) only [↓ View.readCov_skip, ↓ View.readCov_cons_toLoadRect, ↓ View.readCov_fill]
  frame_out
  exact pieces_canon x0 x1 x2 x3 k0_pay2 [_]

theorem out_A_8 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) :
   out0_A_8 c i arg1 harg1 arg2 harg2 arg3 harg3 arg4 harg4 arg5 harg5 arg6 harg6 arg7 harg7 arg8 harg8 arg9 harg9 arg10 harg10 arg11 harg11 hc0 hc1 x0 x1 x2 x3 x4 x5 = addf k0_pay3 (dbs x0 x1 16) := by
  frame_out; unfold k0_pay185; rw [shapeCast_self]; rfl

theorem out_A_9 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) :
   out0_A_9 c i arg1 harg1 arg2 harg2 arg3 harg3 arg4 harg4 arg5 harg5 arg6 harg6 arg7 harg7 arg8 harg8 arg9 harg9 arg10 harg10 arg11 harg11 hc0 hc1 x0 x1 x2 x3 x4 x5 = addf k0_pay4 (dgain x0 x1 x4) := by
  frame_out; unfold k0_pay187; rw [shapeCast_self]; rfl

theorem out_A_10 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) :
   out0_A_10 c i arg1 harg1 arg2 harg2 arg3 harg3 arg4 harg4 arg5 harg5 arg6 harg6 arg7 harg7 arg8 harg8 arg9 harg9 arg10 harg10 arg11 harg11 hc0 hc1 x0 x1 x2 x3 x4 x5 = addf k0_pay5 (doff x0 x1 x4) := by
  frame_out; unfold k0_pay188; rw [shapeCast_self]; rfl

theorem out_B_6 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_B_6 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = fun j => dz x0 x1 x2 x3 x4 x5 (j 0) (j 1) := by
  frame_out
  exact (congrArg View.canon (List.append_nil _).symm).trans (halves_canon x0 x1 x2 x3 x4 x5)

theorem out_B_7 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_B_7 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = addf xo7 (dwsAll x0 x1 x2 x3) := by
  frame_open
  simp (disch := decide) only [↓ View.readCov_skip, ↓ View.readCov_cons_toLoadRect, ↓ View.readCov_fill]
  frame_out
  exact (congrArg View.canon (List.append_nil _).symm).trans (pieces_canon x0 x1 x2 x3 xo7 [])

theorem out_B_8 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_B_8 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = addf xo8 (dbs x0 x1 16) := by
  frame_out; unfold k0_pay185; rw [shapeCast_self]; rfl

theorem out_B_9 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_B_9 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = addf xo9 (dgain x0 x1 x4) := by
  frame_out; unfold k0_pay187; rw [shapeCast_self]; rfl

theorem out_B_10 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : ¬cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_B_10 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = addf xo10 (doff x0 x1 x4) := by
  frame_out; unfold k0_pay188; rw [shapeCast_self]; rfl

theorem out_C_6 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_C_6 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = fun j => dz x0 x1 x2 x3 x4 x5 (j 0) (j 1) := by
  frame_out
  exact (congrArg View.canon (List.append_nil _).symm).trans (halves_canon x0 x1 x2 x3 x4 x5)

theorem out_C_7 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_C_7 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = k0_pay1 (addf xo7 (dwsAll x0 x1 x2 x3)) := by
  frame_open
  simp (disch := decide) only [↓ View.readCov_skip, ↓ View.readCov_cons_toLoadRect, ↓ View.readCov_fill]
  frame_out
  rw [View.readCov_eq_canon']
  refine congrArg k0_pay1 (Eq.trans ?_ (pieces_canon x0 x1 x2 x3 xo7 []))
  exact View.ld_unit_lit (off := ![0, 0, 0]) inb_S16x128x128_S16x128x128_0_0_0 (View.canon (pieces x0 x1 x2 x3 xo7 ++ [])) (by decide)

theorem out_C_8 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_C_8 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = addf xo8 (dbs x0 x1 16) := by
  frame_out; unfold k0_pay185; rw [shapeCast_self]; rfl

theorem out_C_9 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_C_9 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = addf xo9 (dgain x0 x1 x4) := by
  frame_out; unfold k0_pay187; rw [shapeCast_self]; rfl

theorem out_C_10 (c : Dev nD) (i : grid0.Coords) (arg1 : Memref sig .tc .vmem S128x4096 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S128x16 .f32) (harg6 : arg6.IsWhole) (arg7 : Memref sig .tc .vmem S128x4096 .bf16) (harg7 : arg7.IsWhole) (arg8 : Memref sig .tc .vmem S16x128x128 .f32) (harg8 : arg8.IsWhole) (arg9 : Memref sig .tc .vmem S128x128 .f32) (harg9 : arg9.IsWhole) (arg10 : Memref sig .tc .vmem S1x2048 .f32) (harg10 : arg10.IsWhole) (arg11 : Memref sig .tc .vmem S1x2048 .f32) (harg11 : arg11.IsWhole) (hc0 : ¬cond0_0 i) (hc1 : cond0_1 i)
    (x0 : Vec F S128x4096 .f32) (x1 : Vec F S128x2048 .f32) (x2 : Vec F S1x2048 .f32) (x3 : Vec F S1x2048 .f32) (x4 : Vec F S16x128x128 .f32) (x5 : Vec F S128x16 .f32) (xo7 : Vec F S16x128x128 .f32) (xo8 : Vec F S128x128 .f32) (xo9 : Vec F S1x2048 .f32) (xo10 : Vec F S1x2048 .f32) :
   out0_C_10 c i arg1 harg1 arg2 harg2 arg3 harg3 arg4 harg4 arg5 harg5 arg6 harg6 arg7 harg7 arg8 harg8 arg9 harg9 arg10 harg10 arg11 harg11 hc0 hc1 x0 x1 x2 x3 x4 x5 xo7 xo8 xo9 xo10 = addf xo10 (doff x0 x1 x4) := by
  frame_out; unfold k0_pay188; rw [shapeCast_self]; rfl

end Cert.Proof.Blocks

end
-- ==== Proof.Point.lean ====
/- One grid point of the kernel at real arguments: every block term is the model's formula. -/
module

public import proofs.«01_k».proof.Proof.Blocks
public import proofs.«01_k».proof.Proof.Model
public import Idealize.ShloMosaic.Lib.ValueIdx
public import Idealize.ShloMosaic.Lib.ValueLayoutCasts
public import Idealize.ShloMosaic.PureOps.Ideal.Laws

@[expose] public section

set_option maxRecDepth 16384
set_option maxHeartbeats 1000000
set_option pp.maxSteps 400

noncomputable section

namespace Cert.Proof.Point

open Cert.Proof.Heads Cert.Proof.Consts Cert.KernelIdeal Cert.KernelIdeal.Gen Idealize.ShloMosaic Idealize.ShloMosaic.TcCoe Idealize.SL.Sem
open Cert.Proof.Model (th gel dgel mean xc var rs vh dnorm lane lo hi headOf laneOf uu vv vn mask)

theorem named_c : Named.named (F := Ideal) κ "gelu_c" (φ := .f32) 0x3D372713#32 = ((8943 / 200000 : ℝ) : EReal) :=
  IdealRules.named_const.ideal_named_scalar κ "gelu_c" _ _ rfl

theorem named_3c : Named.named (F := Ideal) κ "gelu_3c" (φ := .f32) 0x3E095D4F#32 = ((26829 / 200000 : ℝ) : EReal) :=
  IdealRules.named_const.ideal_named_scalar κ "gelu_3c" _ _ rfl

/-- gelu as the kernel writes it. -/
def gelu (s : Shape) (z : FVec Ideal s .f32) : FVec Ideal s .f32 :=
  mulf (mulf (broadcast s (Scalar.ofBits .f32 0x3F000000#32)) z) (addf (broadcast s (Scalar.ofBits .f32 0x3F800000#32)) (tn s z))

theorem tn_at (s : Shape) (z : FVec Ideal s .f32) (i : s.Idx) (x : ℝ) (h : z i = ((x : ℝ) : EReal)) :
    tn s z i = ((th x : ℝ) : EReal) := by
  show Ideal.tanh (Ideal.ofBits .f32 0x3F4C422A#32 * (z i + Named.named (F := Ideal) κ "gelu_c" (φ := .f32) 0x3D372713#32 * (z i * z i * z i))) = _
  rw [h, named_c, w_gc]
  simp only [← EReal.coe_mul, ← EReal.coe_add, Ideal.tanh_coe]
  rfl

theorem gelu_at (s : Shape) (z : FVec Ideal s .f32) (i : s.Idx) (x : ℝ) (h : z i = ((x : ℝ) : EReal)) :
    gelu s z i = ((gel x : ℝ) : EReal) := by
  show Ideal.ofBits .f32 0x3F000000#32 * z i * (Ideal.ofBits .f32 0x3F800000#32 + tn s z i) = _
  rw [tn_at s z i x h, h, w_half, w_one]
  simp only [← EReal.coe_mul, ← EReal.coe_add]
  rfl

theorem dgelu_at (s : Shape) (z : FVec Ideal s .f32) (i : s.Idx) (x : ℝ) (h : z i = ((x : ℝ) : EReal)) :
    dgelu s z i = ((dgel x : ℝ) : EReal) := by
  show Ideal.ofBits .f32 0x3F000000#32 * (Ideal.ofBits .f32 0x3F800000#32 + tn s z i)
    + Ideal.ofBits .f32 0x3F000000#32 * z i * (Ideal.ofBits .f32 0x3F800000#32 - tn s z i * tn s z i)
      * (Ideal.ofBits .f32 0x3F4C422A#32 * (Ideal.ofBits .f32 0x3F800000#32
        + Named.named (F := Ideal) κ "gelu_3c" (φ := .f32) 0x3E095D4F#32 * z i * z i)) = _
  rw [tn_at s z i x h, h, w_half, w_one, w_gc, named_3c]
  simp only [← EReal.coe_mul, ← EReal.coe_add, ← EReal.coe_sub]
  rfl

/-- A row's mean as the kernel takes it. -/
def rowMean (x : FVec Ideal S128x2048 .f32) : FVec Ideal S128x1 .f32 :=
  divf (shapeCast S128x1 (multiReduction .add [1] S128 x 0x00000000#32 reduces_S128x2048_S128 (.inl rfl) rfl) shapeCasts_S128_S128x1)
    (broadcast S128x1 (Scalar.ofBits .f32 0x45000000#32))

theorem lift_lane (r : Fin 128) (k : Fin 2048) : reduces_S128x2048_S128.lift (ix1 r) k = ix2 r k := by
  funext a; match a with | 0 => rfl | 1 => rfl

theorem lift_row (l : Fin 2048) (k : Fin 128) : reduces_S128x2048_S2048.lift (ix1 l) k = ix2 k l := by
  funext a; match a with | 0 => rfl | 1 => rfl

theorem lift_head (r : Fin 128) (k : Fin 128) : reduces_S128x128_S128.lift (ix1 r) k = ix2 r k := by
  funext a; match a with | 0 => rfl | 1 => rfl

theorem rowMean_at (x : FVec Ideal S128x2048 .f32) (f : Fin 128 → Fin 2048 → ℝ)
    (h : ∀ r l, x (ix2 r l) = ((f r l : ℝ) : EReal)) (r : Fin 128) (u : Fin 1) :
    rowMean x (ix2 r u) = ((mean (f r) : ℝ) : EReal) := by
  show Ideal.div (shapeCast S128x1 _ shapeCasts_S128_S128x1 (ix2 r u)) (Ideal.ofBits .f32 0x45000000#32) = _
  have e : shapeCast S128x1 (multiReduction .add [1] S128 x 0x00000000#32 reduces_S128x2048_S128 (.inl rfl) rfl) shapeCasts_S128_S128x1
      (ix2 r u) = ((∑ l, f r l : ℝ) : EReal) := by
    refine (ValueIdx.shapeCast_a_a1_apply _ shapeCasts_S128_S128x1 r u).trans ?_
    refine (Ideal.multiReduction_add_single _ _ reduces_S128x2048_S128 _ _ _).trans ?_
    rw [← Model.coe_sum]
    exact Finset.sum_congr rfl fun k _ => (congrArg x (lift_lane r k)).trans (h r k)
  rw [e, w_2048, Model.coe_mean]

theorem bcast_col {φ : FTy} (x : FVec Ideal S128x1 φ) (r : Fin 128) (l : Fin 2048) :
    broadcastTo S128x2048 x broadcasts_S128x1_S128x2048 (ix2 r l) = x (ix2 r 0) :=
  broadcastTo_apply x broadcasts_S128x1_S128x2048 _ (ix2 r 0) (by intro a; match a with | 0 => rfl | 1 => rfl)

theorem bcast_row {φ : FTy} (x : FVec Ideal S1x2048 φ) (r : Fin 128) (l : Fin 2048) :
    broadcastTo S128x2048 x broadcasts_S1x2048_S128x2048 (ix2 r l) = x (ix2 0 l) :=
  broadcastTo_apply x broadcasts_S1x2048_S128x2048 _ (ix2 0 l) (by intro a; match a with | 0 => rfl | 1 => rfl)

theorem bcast_head {φ : FTy} (x : FVec Ideal S128x1 φ) (r l : Fin 128) :
    broadcastTo S128x128 x broadcasts_S128x1_S128x128 (ix2 r l) = x (ix2 r 0) :=
  broadcastTo_apply x broadcasts_S128x1_S128x128 _ (ix2 r 0) (by intro a; match a with | 0 => rfl | 1 => rfl)

theorem cols_at {φ : FTy} (h : Fin 16) (x : FVec Ideal S128x2048 φ) (r e : Fin 128) : cols h x (ix2 r e) = x (ix2 r (lane h e)) :=
  extractStridedSlice_apply _ x (cols_in h) _ (ix2 r (lane h e)) (by intro a; match a with | 0 => exact (Nat.zero_add _).symm | 1 => rfl)

theorem mat_at {φ : FTy} (h : Fin 16) (x : FVec Ideal S16x128x128 φ) (t s : Fin 128) : mat h x (ix2 t s) = x (ix3 h t s) := by
  refine (ValueIdx.shapeCast_1ab_ab_apply _ shapeCasts_S1x128x128_S128x128 t s).trans ?_
  exact extractStridedSlice_apply _ x (mat_in h) _ (ix3 h t s) (by
    intro a; match a with | 0 => rfl | 1 => exact (Nat.zero_add _).symm | 2 => exact (Nat.zero_add _).symm)

theorem bias_at (h : Fin 16) (x : FVec Ideal S128x16 .f32) (t e : Fin 128) : bias h x (ix2 t e) = x (ix2 t h) := by
  refine (bcast_head _ t e).trans ?_
  exact extractStridedSlice_apply _ x (col_in h) _ (ix2 t h) (by
    intro a; match a with | 0 => exact (Nat.zero_add _).symm | 1 => rfl)

/-- Comparisons of small words. -/
theorem sle_iff : ∀ s t : Fin 128, IntOp.cmpi .sle (BitVec.ofNat 32 s.val) (BitVec.ofNat 32 t.val) = 1 ↔ s ≤ t := by decide +kernel

theorem eq_iff : ∀ (s : Fin 128) (t : Fin 16), IntOp.cmpi .eq (BitVec.ofNat 32 s.val) (BitVec.ofNat 32 t.val) = 1 ↔ s.val = t.val := by
  decide +kernel

/-- The three products of a head, read at an index. -/
theorem dot_nn (a b : FVec Ideal S128x128 .bf16) (i j : Fin 128) :
    matmul dot_S128x128_S128x128_S128x128_1_0_0_1_n_n none a b (constant S128x128 .f32 0x00000000#32) (ix2 i j)
      = ∑ k : Fin 128, a (ix2 i k) * b (ix2 k j) := by
  refine (Ideal.matmul_constant_zero_apply _ none _ _ _).trans ?_
  rw [← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  refine congrArg₂ (· * ·) (congrArg a ?_) (congrArg b ?_)
  · exact funext fun x => Fin.ext (by match x with | 0 => rfl | 1 => exact hk)
  · exact funext fun x => Fin.ext (by match x with | 0 => exact hk | 1 => rfl)

theorem dot_nt (a b : FVec Ideal S128x128 .bf16) (i j : Fin 128) :
    matmul dot_S128x128_S128x128_S128x128_1_1_0_0_n_n none a b (constant S128x128 .f32 0x00000000#32) (ix2 i j)
      = ∑ k : Fin 128, a (ix2 i k) * b (ix2 j k) := by
  refine (Ideal.matmul_constant_zero_apply _ none _ _ _).trans ?_
  rw [← Equiv.sum_comp (ValueIdx.contrEquiv1 dot_S128x128_S128x128_S128x128_1_1_0_0_n_n 128 rfl rfl).symm]
  refine Finset.sum_congr rfl fun k _ => ?_
  have hk := ValueIdx.contrEquiv1_symm_val dot_S128x128_S128x128_S128x128_1_1_0_0_n_n 128 rfl rfl k
  refine congrArg₂ (· * ·) (congrArg a ?_) (congrArg b ?_)
  · exact funext fun x => Fin.ext (by match x with | 0 => rfl | 1 => exact hk)
  · exact funext fun x => Fin.ext (by match x with | 0 => rfl | 1 => exact hk)

theorem dot_tn (a b : FVec Ideal S128x128 .bf16) (i j : Fin 128) :
    matmul dot_S128x128_S128x128_S128x128_0_0_1_1_n_n none a b (constant S128x128 .f32 0x00000000#32) (ix2 i j)
      = ∑ k : Fin 128, a (ix2 k i) * b (ix2 k j) := by
  refine (Ideal.matmul_constant_zero_apply _ none _ _ _).trans ?_
  rw [← Equiv.sum_comp (ValueIdx.contrEquiv1 dot_S128x128_S128x128_S128x128_0_0_1_1_n_n 128 rfl rfl).symm]
  refine Finset.sum_congr rfl fun k _ => ?_
  have hk := ValueIdx.contrEquiv1_symm_val dot_S128x128_S128x128_S128x128_0_0_1_1_n_n 128 rfl rfl k
  refine congrArg₂ (· * ·) (congrArg a ?_) (congrArg b ?_)
  · exact funext fun x => Fin.ext (by match x with | 0 => exact hk | 1 => rfl)
  · exact funext fun x => Fin.ext (by match x with | 0 => exact hk | 1 => rfl)

section Point

variable (x0 : FVec Ideal S128x4096 .f32) (x1 : FVec Ideal S128x2048 .f32) (x2 x3 : FVec Ideal S1x2048 .f32)
  (x4 : FVec Ideal S16x128x128 .f32) (x5 : FVec Ideal S128x16 .f32)
  (z : Fin 128 → Fin 4096 → ℝ) (dm : Fin 128 → Fin 2048 → ℝ) (g b : Fin 2048 → ℝ)
  (w : Fin 16 → Fin 128 → Fin 128 → ℝ) (bs : Fin 128 → Fin 16 → ℝ)
  (h0 : ∀ r l, x0 (ix2 r l) = ((z r l : ℝ) : EReal)) (h1 : ∀ r l, x1 (ix2 r l) = ((dm r l : ℝ) : EReal))
  (h2 : ∀ l, x2 (ix2 0 l) = ((g l : ℝ) : EReal)) (h3 : ∀ l, x3 (ix2 0 l) = ((b l : ℝ) : EReal))
  (h4 : ∀ h t s, x4 (ix3 h t s) = ((w h t s : ℝ) : EReal)) (h5 : ∀ t h, x5 (ix2 t h) = ((bs t h : ℝ) : EReal))

include h0 in
theorem pay8_at (r : Fin 128) (l : Fin 2048) : k0_pay8 (F := Ideal) x0 (ix2 r l) = ((z r (lo l) : ℝ) : EReal) :=
  (extractStridedSlice_apply _ x0 slices_S128x4096_o0_0_S128x2048 _ (ix2 r (lo l)) (by
    intro a; match a with | 0 => exact (Nat.zero_add _).symm | 1 => exact (Nat.zero_add _).symm)).trans (h0 r (lo l))

include h0 in
theorem pay9_at (r : Fin 128) (l : Fin 2048) : k0_pay9 (F := Ideal) x0 (ix2 r l) = ((z r (hi l) : ℝ) : EReal) :=
  (extractStridedSlice_apply _ x0 slices_S128x4096_o0_2048_S128x2048 _ (ix2 r (hi l)) (by
    intro a; match a with | 0 => exact (Nat.zero_add _).symm | 1 => rfl)).trans (h0 r (hi l))

include h0 in
theorem pay10_at (r : Fin 128) (l : Fin 2048) : k0_pay10 (F := Ideal) x0 (ix2 r l) = ((uu z r l : ℝ) : EReal) :=
  gelu_at S128x2048 (k0_pay8 (F := Ideal) x0) _ _ (pay8_at x0 z h0 r l)

include h0 in
theorem v_at (r : Fin 128) (l : Fin 2048) : gelu S128x2048 (k0_pay9 (F := Ideal) x0) (ix2 r l) = ((vv z r l : ℝ) : EReal) :=
  gelu_at S128x2048 (k0_pay9 (F := Ideal) x0) _ _ (pay9_at x0 z h0 r l)

/-- The deviations as the kernel takes them. -/
def dev : FVec Ideal S128x2048 .f32 := k0_pay13 (k0_pay11 x0) (k0_pay12 x0) (Scalar.ofBits .f32 0x3F4C422A#32)

include h0 in
theorem dev_at (r : Fin 128) (l : Fin 2048) : dev x0 (ix2 r l) = ((xc (vv z r) l : ℝ) : EReal) := by
  show gelu S128x2048 (k0_pay9 (F := Ideal) x0) (ix2 r l)
    - broadcastTo S128x2048 (rowMean (gelu S128x2048 (k0_pay9 (F := Ideal) x0))) broadcasts_S128x1_S128x2048 (ix2 r l) = _
  rw [bcast_col, rowMean_at _ _ (v_at x0 z h0), v_at x0 z h0, ← EReal.coe_sub]
  rfl

include h0 in
theorem rstd_at (r : Fin 128) (u : Fin 1) : rstd (F := Ideal) x0 (ix2 r u) = ((rs (vv z r) : ℝ) : EReal) := by
  show Ideal.rsqrt (rowMean (mulf (dev x0) (dev x0)) (ix2 r u) + Ideal.ofBits .f32 0x358637BD#32) = _
  rw [rowMean_at (mulf (dev x0) (dev x0)) (fun r l => xc (vv z r) l * xc (vv z r) l) (fun r l => by
    show dev x0 (ix2 r l) * dev x0 (ix2 r l) = _
    rw [dev_at x0 z h0, ← EReal.coe_mul]), w_eps, ← EReal.coe_add]
  exact Model.coe_rs _

include h0 in
theorem vhat_at (r : Fin 128) (l : Fin 2048) : vhat (F := Ideal) x0 (ix2 r l) = ((vh (vv z r) l : ℝ) : EReal) := by
  show dev x0 (ix2 r l) * broadcastTo S128x2048 (rstd (F := Ideal) x0) broadcasts_S128x1_S128x2048 (ix2 r l) = _
  rw [bcast_col, dev_at x0 z h0, rstd_at x0 z h0, ← EReal.coe_mul]
  rfl

include h0 h2 h3 in
theorem vnrm_at (r : Fin 128) (l : Fin 2048) : vnrm (F := Ideal) x0 x2 x3 (ix2 r l) = ((vn z g b r l : ℝ) : EReal) := by
  show vhat (F := Ideal) x0 (ix2 r l) * broadcastTo S128x2048 x2 broadcasts_S1x2048_S128x2048 (ix2 r l)
    + broadcastTo S128x2048 x3 broadcasts_S1x2048_S128x2048 (ix2 r l) = _
  rw [bcast_row, bcast_row, vhat_at x0 z h0, h2, h3, ← EReal.coe_mul, ← EReal.coe_add]
  rfl

include h0 h1 in
theorem dsv_at (h : Fin 16) (t e : Fin 128) : dsv (F := Ideal) x0 x1 h (ix2 t e) = ((Model.dsv z dm h t e : ℝ) : EReal) := by
  show cols h x1 (ix2 t e) * cols h (k0_pay10 (F := Ideal) x0) (ix2 t e) = _
  rw [cols_at, cols_at, h1, pay10_at x0 z h0, ← EReal.coe_mul]
  rfl

/-- The causal choice at an index. -/
theorem causal (x : FVec Ideal S16x128x128 .f32) (h : Fin 16) (t s : Fin 128) :
    select (cmpi .sle (iota .tc S16x128x128 32 [2] iota_S16x128x128_d2_w32) (iota .tc S16x128x128 32 [1] iota_S16x128x128_d1_w32)) x
      (broadcast S16x128x128 (Scalar.ofBits .f32 0x00000000#32)) (ix3 h t s) = if s ≤ t then x (ix3 h t s) else 0 := by
  show Scalar.select (IntOp.cmpi .sle (iota .tc S16x128x128 32 [2] iota_S16x128x128_d2_w32 (ix3 h t s))
    (iota .tc S16x128x128 32 [1] iota_S16x128x128_d1_w32 (ix3 h t s))) (x (ix3 h t s)) (Ideal.ofBits .f32 0x00000000#32) = _
  rw [iota_single_apply, iota_single_apply, Ideal.ofBits_zero_f32]
  show (if IntOp.cmpi .sle (BitVec.ofNat 32 s.val) (BitVec.ofNat 32 t.val) = 1 then x (ix3 h t s) else 0) = _
  simp only [sle_iff]

include h4 in
theorem mask_at (h : Fin 16) (t s : Fin 128) : mat h (k0_pay6 (F := Ideal) x4) (ix2 t s) = ((mask w h t s : ℝ) : EReal) := by
  refine (mat_at h _ t s).trans ((causal x4 h t s).trans ?_)
  rw [h4, mask]
  split <;> rfl

include h0 h2 h3 h4 h5 in
theorem sv_at (h : Fin 16) (t e : Fin 128) : sv (F := Ideal) x0 x2 x3 x4 x5 h (ix2 t e) = ((Model.sv z g b w bs h t e : ℝ) : EReal) := by
  show matmul dot_S128x128_S128x128_S128x128_1_0_0_1_n_n none (mat h (k0_pay6 (F := Ideal) x4)) (cols h (vnrm (F := Ideal) x0 x2 x3))
    (constant S128x128 .f32 0x00000000#32) (ix2 t e) + bias h (k0_pay7 (F := Ideal) x5) (ix2 t e) = _
  have e7 : k0_pay7 (F := Ideal) x5 = x5 := by unfold k0_pay7; exact shapeCast_self _ _
  rw [bias_at, e7, h5, Model.sv, EReal.coe_add, ← Model.coe_sum]
  refine congrArg (· + _) ?_
  refine (dot_nn _ _ t e).trans (Finset.sum_congr rfl fun s _ => ?_)
  rw [mask_at x4 w h4, cols_at, vnrm_at x0 x2 x3 z g b h0 h2 h3, ← EReal.coe_mul]

include h0 h1 h2 h3 h4 h5 in
theorem dzu_at (r : Fin 128) (l : Fin 2048) :
    dzu (F := Ideal) x0 x1 x2 x3 x4 x5 (headOf l) (ix2 r (laneOf l)) = ((Model.dzu z dm g b w bs r l : ℝ) : EReal) := by
  show cols (headOf l) x1 (ix2 r (laneOf l)) * sv (F := Ideal) x0 x2 x3 x4 x5 (headOf l) (ix2 r (laneOf l))
    * dgelu S128x128 (cols (headOf l) (k0_pay8 (F := Ideal) x0)) (ix2 r (laneOf l)) = _
  rw [dgelu_at S128x128 _ _ (z r (lo l)) (by rw [cols_at, Model.lane_of, pay8_at x0 z h0]), cols_at, Model.lane_of, h1,
    sv_at x0 x2 x3 x4 x5 z g b w bs h0 h2 h3 h4 h5, ← EReal.coe_mul, ← EReal.coe_mul]
  rfl

include h0 h1 h2 h3 in
theorem dws_at (h : Fin 16) (t s : Fin 128) : dws (F := Ideal) x0 x1 x2 x3 h (ix2 t s) = ((Model.dws z dm g b h t s : ℝ) : EReal) := by
  refine (dot_nt _ _ t s).trans ?_
  rw [Model.dws, ← Model.coe_sum]
  refine Finset.sum_congr rfl fun e _ => ?_
  rw [cols_at, vnrm_at x0 x2 x3 z g b h0 h2 h3, EReal.coe_mul]
  exact congrArg (· * _) (dsv_at x0 x1 z dm h0 h1 h t e)

include h0 h1 h4 in
theorem dvnH_at (h : Fin 16) (s e : Fin 128) :
    dvnH (F := Ideal) x0 x1 x4 h (ix2 s e) = ((∑ t, mask w h t s * Model.dsv z dm h t e : ℝ) : EReal) := by
  refine (dot_tn _ _ s e).trans ?_
  rw [← Model.coe_sum]
  refine Finset.sum_congr rfl fun t _ => ?_
  rw [mask_at x4 w h4, EReal.coe_mul]
  exact congrArg (_ * ·) (dsv_at x0 x1 z dm h0 h1 h t e)

include h0 h1 h4 in
theorem dvn_at (s : Fin 128) (l : Fin 2048) : Heads.dvn (F := Ideal) x0 x1 x4 (ix2 s l) = ((Model.dvn z dm w s l : ℝ) : EReal) := by
  refine Eq.trans ?_ (dvnH_at x0 x1 x4 z dm w h0 h1 h4 (headOf l) s (laneOf l))
  exact concatenate_ofFn_apply (s₁ := S128x128) (t := S128x2048) 1 (fun h : Fin 16 => dvnH (F := Ideal) x0 x1 x4 h)
    concatenates_S128x128_S128x128_S128x128_S128x128_S128x128_S128x128_S128x128_S128x128_S128x128_S128x128_S128x128_S128x128_S128x128_S128x128_S128x128_S128x128_S128x2048_d1
    rfl 128 rfl (ix2 s l) (headOf l) rfl (ix2 s (laneOf l)) rfl (by
      intro a ha; match a with | 0 => rfl | 1 => exact absurd rfl ha)

include h0 h1 h4 in
theorem doff_at (l : Fin 2048) : doff (F := Ideal) x0 x1 x4 (ix2 0 l) = ((Model.db z dm w l : ℝ) : EReal) := by
  refine (ValueIdx.shapeCast_a_1a_apply _ shapeCasts_S2048_S1x2048 0 l).trans ?_
  refine (Ideal.multiReduction_add_single _ _ reduces_S128x2048_S2048 _ _ _).trans ?_
  rw [Model.db, ← Model.coe_sum]
  exact Finset.sum_congr rfl fun k _ => (congrArg (Heads.dvn (F := Ideal) x0 x1 x4) (lift_row l k)).trans (dvn_at x0 x1 x4 z dm w h0 h1 h4 k l)

include h0 h1 h4 in
theorem dgain_at (l : Fin 2048) : dgain (F := Ideal) x0 x1 x4 (ix2 0 l) = ((Model.dg z dm w l : ℝ) : EReal) := by
  refine (ValueIdx.shapeCast_a_1a_apply _ shapeCasts_S2048_S1x2048 0 l).trans ?_
  refine (Ideal.multiReduction_add_single _ _ reduces_S128x2048_S2048 _ _ _).trans ?_
  rw [Model.dg, ← Model.coe_sum]
  refine Finset.sum_congr rfl fun k _ => ?_
  refine (congrArg (mulf (Heads.dvn (F := Ideal) x0 x1 x4) (vhat (F := Ideal) x0)) (lift_row l k)).trans ?_
  exact (congrArg₂ (· * ·) (dvn_at x0 x1 x4 z dm w h0 h1 h4 k l) (vhat_at x0 z h0 k l)).trans (EReal.coe_mul _ _).symm

/-- The cotangent of the normalized rows as the kernel takes it. -/
def dxh : FVec Ideal S128x2048 .f32 := mulf (Heads.dvn (F := Ideal) x0 x1 x4) (broadcastTo S128x2048 x2 broadcasts_S1x2048_S128x2048)

include h0 h1 h2 h4 in
theorem dxh_at (r : Fin 128) (l : Fin 2048) : dxh x0 x1 x2 x4 (ix2 r l) = ((Model.dvn z dm w r l * g l : ℝ) : EReal) := by
  show Heads.dvn (F := Ideal) x0 x1 x4 (ix2 r l) * broadcastTo S128x2048 x2 broadcasts_S1x2048_S128x2048 (ix2 r l) = _
  rw [bcast_row, dvn_at x0 x1 x4 z dm w h0 h1 h4, h2, EReal.coe_mul]

include h0 h1 h2 h4 in
theorem dzv_at (r : Fin 128) (l : Fin 2048) : dzv (F := Ideal) x0 x1 x2 x4 (ix2 r l) = ((Model.dzv z dm g w r l : ℝ) : EReal) := by
  show broadcastTo S128x2048 (rstd (F := Ideal) x0) broadcasts_S128x1_S128x2048 (ix2 r l)
      * (dxh x0 x1 x2 x4 (ix2 r l) - broadcastTo S128x2048 (rowMean (dxh x0 x1 x2 x4)) broadcasts_S128x1_S128x2048 (ix2 r l)
        - vhat (F := Ideal) x0 (ix2 r l)
          * broadcastTo S128x2048 (rowMean (mulf (dxh x0 x1 x2 x4) (vhat (F := Ideal) x0))) broadcasts_S128x1_S128x2048 (ix2 r l))
      * dgelu S128x2048 (k0_pay9 (F := Ideal) x0) (ix2 r l) = _
  rw [bcast_col, bcast_col, bcast_col, rowMean_at _ _ (dxh_at x0 x1 x2 x4 z dm g w h0 h1 h2 h4),
    rowMean_at (mulf (dxh x0 x1 x2 x4) (vhat (F := Ideal) x0)) (fun r k => Model.dvn z dm w r k * g k * vh (vv z r) k) (fun r l => by
      show dxh x0 x1 x2 x4 (ix2 r l) * vhat (F := Ideal) x0 (ix2 r l) = _
      rw [dxh_at x0 x1 x2 x4 z dm g w h0 h1 h2 h4, vhat_at x0 z h0, ← EReal.coe_mul]),
    dxh_at x0 x1 x2 x4 z dm g w h0 h1 h2 h4, vhat_at x0 z h0, rstd_at x0 z h0,
    dgelu_at S128x2048 _ _ _ (pay9_at x0 z h0 r l)]
  simp only [← EReal.coe_mul, ← EReal.coe_sub]
  rfl

include h0 h1 in
theorem dbsH_at (h : Fin 16) (t c : Fin 128) :
    dbsH (F := Ideal) x0 x1 h (ix2 t c) = if c.val = h.val then ((Model.dbs z dm h t : ℝ) : EReal) else 0 := by
  show Scalar.select (IntOp.cmpi .eq (iota .tc S128x128 32 [1] iota_S128x128_d1_w32 (ix2 t c)) (BitVec.ofNat 32 h.val))
    (broadcastTo S128x128 _ broadcasts_S128x1_S128x128 (ix2 t c)) (Ideal.ofBits .f32 0x00000000#32) = _
  rw [bcast_head, iota_single_apply, Ideal.ofBits_zero_f32, shapeCast_self]
  have e : shapeCast S128x1 (multiReduction .add [1] S128 (dsv (F := Ideal) x0 x1 h) 0x00000000#32 reduces_S128x128_S128 (.inl rfl) rfl) shapeCasts_S128_S128x1
      (ix2 t 0) = ((Model.dbs z dm h t : ℝ) : EReal) := by
    refine (ValueIdx.shapeCast_a_a1_apply _ shapeCasts_S128_S128x1 t 0).trans ?_
    refine (Ideal.multiReduction_add_single _ _ reduces_S128x128_S128 _ _ _).trans ?_
    rw [Model.dbs, ← Model.coe_sum]
    exact Finset.sum_congr rfl fun k _ => (congrArg (dsv (F := Ideal) x0 x1 h) (lift_head t k)).trans (dsv_at x0 x1 z dm h0 h1 h t k)
  rw [e]
  show (if IntOp.cmpi .eq (BitVec.ofNat 32 c.val) (BitVec.ofNat 32 h.val) = 1 then _ else _) = _
  simp only [eq_iff]

/-- The bias gradient's block: lane `h` holds head `h`'s row sums, the other lanes hold zero. -/
def dbsM (t c : Fin 128) : ℝ := if h : c.val < 16 then Model.dbs z dm ⟨c.val, h⟩ t else 0

include h0 h1 in
theorem dbs_upto (n : ℕ) (hn : n ≤ 16) (t c : Fin 128) :
    Heads.dbs (F := Ideal) x0 x1 n (ix2 t c) = if c.val < n then ((dbsM z dm t c : ℝ) : EReal) else 0 := by
  induction n with
  | zero => exact (Ideal.ofBits_zero_f32).trans (if_neg (Nat.not_lt_zero _)).symm
  | succ n ih =>
    have hv : (Fin.ofNat 16 n).val = n := Nat.mod_eq_of_lt (by omega)
    show Heads.dbs (F := Ideal) x0 x1 n (ix2 t c) + dbsH (F := Ideal) x0 x1 (Fin.ofNat 16 n) (ix2 t c) = _
    rw [ih (by omega), dbsH_at x0 x1 z dm h0 h1, hv]
    by_cases hc : c.val = n
    · rw [if_neg (by omega), if_pos hc, if_pos (by omega), zero_add, dbsM, dif_pos (by omega)]
      exact congrArg (fun h => ((Model.dbs z dm h t : ℝ) : EReal)) (Fin.ext (hv.trans hc.symm))
    · rw [if_neg hc, add_zero]
      by_cases hl : c.val < n
      · rw [if_pos hl, if_pos (by omega)]
      · rw [if_neg hl, if_neg (by omega)]

include h0 h1 in
theorem dbs_at (t c : Fin 128) : Heads.dbs (F := Ideal) x0 x1 16 (ix2 t c) = ((dbsM z dm t c : ℝ) : EReal) := by
  rw [dbs_upto x0 x1 z dm h0 h1 16 le_rfl]
  by_cases hc : c.val < 16
  · rw [if_pos hc]
  · rw [if_neg hc, dbsM, dif_neg hc]; rfl

include h0 h1 h2 h3 h4 h5 in
theorem dz_at (r : Fin 128) (l : Fin 4096) : Blocks.dz (F := Ideal) x0 x1 x2 x3 x4 x5 r l =
    ((if h : l.val < 2048 then Model.dzu z dm g b w bs r ⟨l.val, h⟩ else Model.dzv z dm g w r ⟨l.val - 2048, by omega⟩ : ℝ) : EReal) := by
  unfold Blocks.dz
  by_cases h : l.val < 2048
  · rw [dif_pos h, dif_pos h]
    exact dzu_at x0 x1 x2 x3 x4 x5 z dm g b w bs h0 h1 h2 h3 h4 h5 r ⟨l.val, h⟩
  · rw [dif_neg h, dif_neg h]
    exact dzv_at x0 x1 x2 x4 z dm g w h0 h1 h2 h4 r ⟨l.val - 2048, by omega⟩

end Point

end Cert.Proof.Point

end
-- ==== Proof.Ref.lean ====
/- The reference's run at real arguments, operation by operation: every intermediate array is the model's formula at its
   position. -/
module

public import proofs.«01_k».proof.Proof.Model
public import proofs.«01_k».proof.Proof.Gen.ReferenceIdeal.Read
public import Idealize.ShloMosaic.Lib.Pointwise
public import Idealize.ShloMosaic.Lib.KernelVsHost
public import Idealize.ShloMosaic.PureOps.Ideal.Laws

@[expose] public section

set_option maxRecDepth 16384
set_option maxHeartbeats 1000000
set_option pp.maxSteps 400

noncomputable section

namespace Cert.Proof.Ref

open Cert.Proof.Consts Cert.ReferenceIdeal Cert.ReferenceIdeal.Gen Cert.ReferenceIdeal.Read Idealize.ShloMosaic
open Cert.Proof.Model (th gel dgel mean xc var rs vh dnorm lane lo hi headOf laneOf uu vv vn mask zb db')

/-! ## Indices -/

theorem at1 {n : ℕ} (p : (⟨1, ![n]⟩ : Shape).Idx) (a : Fin n) (h : (p 0).val = a.val) : p = ix1 a :=
  funext fun i => Fin.ext (by match i with | ⟨0, _⟩ => exact h)

theorem at2 {n k : ℕ} (p : (⟨2, ![n, k]⟩ : Shape).Idx) (a : Fin n) (b : Fin k) (h0 : (p 0).val = a.val) (h1 : (p 1).val = b.val) :
    p = ix2 a b :=
  funext fun i => Fin.ext (by match i with | ⟨0, _⟩ => exact h0 | ⟨1, _⟩ => exact h1)

theorem at3 {n k l : ℕ} (p : (⟨3, ![n, k, l]⟩ : Shape).Idx) (a : Fin n) (b : Fin k) (c : Fin l) (h0 : (p 0).val = a.val)
    (h1 : (p 1).val = b.val) (h2 : (p 2).val = c.val) : p = ix3 a b c :=
  funext fun i => Fin.ext (by match i with | ⟨0, _⟩ => exact h0 | ⟨1, _⟩ => exact h1 | ⟨2, _⟩ => exact h2)

theorem at4 {n k l q : ℕ} (p : (⟨4, ![n, k, l, q]⟩ : Shape).Idx) (a : Fin n) (b : Fin k) (c : Fin l) (d : Fin q)
    (h0 : (p 0).val = a.val) (h1 : (p 1).val = b.val) (h2 : (p 2).val = c.val) (h3 : (p 3).val = d.val) : p = ix4 a b c d :=
  funext fun i => Fin.ext (by match i with | ⟨0, _⟩ => exact h0 | ⟨1, _⟩ => exact h1 | ⟨2, _⟩ => exact h2 | ⟨3, _⟩ => exact h3)

theorem row_of (i : Fin 2048) : lane (headOf i) (laneOf i) = i := Model.lane_of i

/-- A sum over 2048 positions, block by block. -/
theorem sum_rows {M : Type} [AddCommMonoid M] (f : Fin 2048 → M) : ∑ i, f i = ∑ n : Fin 16, ∑ r : Fin 128, f (lane n r) := by
  rw [← Fintype.sum_prod_type' (fun n r => f (lane n r))]
  refine (Fintype.sum_equiv (finProdFinEquiv (m := 16) (n := 128)) _ _ fun p => ?_).symm
  refine congrArg f (Fin.ext ?_)
  show 128 * p.1.val + p.2.val = p.2.val + 128 * p.1.val
  omega

theorem sum_of (a : EReal) {n : ℕ} (f : Fin n → EReal) (k : Fin n → ℝ) (ha : a = 0) (h : ∀ i, f i = ((k i : ℝ) : EReal)) :
    a + ∑ i, f i = ((∑ i, k i : ℝ) : EReal) := by
  rw [ha, zero_add, Finset.sum_congr rfl fun i _ => h i, Model.coe_sum]

/-- The host's sum over the first and the last of four axes. -/
theorem sum_outer {a b c d : ℕ} (h : (⟨4, ![a, b, c, d]⟩ : Shape).ReducesTo [0, 3] ⟨2, ![b, c]⟩)
    (x : (⟨4, ![a, b, c, d]⟩ : Shape).Idx → EReal) (init : EReal) (t : Fin b) (k : Fin c) :
    Ideal.hostReduceAdd h x init (ix2 t k) = init + ∑ n : Fin a, ∑ e : Fin d, x (ix4 n t k e) := by
  have hd : ∀ i, h.drop i = ix2 (n0 := b) (n1 := c) (i 1) (i 2) := fun i => at2 _ _ _ rfl rfl
  unfold Ideal.hostReduceAdd
  rw [← Fintype.sum_prod_type' (fun n e => x (ix4 n t k e))]
  refine congrArg (init + ·) ?_
  refine Finset.sum_nbij' (fun i => ((i 0 : Fin a), (i 3 : Fin d))) (fun p => ix4 p.1 t k p.2) ?_ ?_ ?_ ?_ ?_
  · intro i _; exact Finset.mem_univ _
  · intro p _; exact Finset.mem_filter.2 ⟨Finset.mem_univ _, hd _⟩
  · intro i hi
    have e := (hd i).symm.trans (Finset.mem_filter.1 hi).2
    exact (at4 i _ _ _ _ rfl (congrArg Fin.val (congrFun e 0)) (congrArg Fin.val (congrFun e 1)) rfl).symm
  · intro p _; rfl
  · intro i hi
    have e := (hd i).symm.trans (Finset.mem_filter.1 hi).2
    exact congrArg x (at4 i _ _ _ _ rfl (congrArg Fin.val (congrFun e 0)) (congrArg Fin.val (congrFun e 1)) rfl)

/-! ## The arrays -/

section Arrays

variable (x0 : FVec Ideal S2048x4096 .f32) (x1 : FVec Ideal S2048x2048 .f32) (x2 x3 : FVec Ideal S1x2048 .f32)
  (x4 : FVec Ideal S16x128x128 .f32) (x5 : FVec Ideal S16x128 .f32)
  (Z : Fin 2048 → Fin 4096 → ℝ) (DM : Fin 2048 → Fin 2048 → ℝ) (g b : Fin 2048 → ℝ)
  (w : Fin 16 → Fin 128 → Fin 128 → ℝ) (B : Fin 16 → Fin 128 → ℝ)
  (hZ : ∀ i l, x0 (ix2 i l) = ((Z i l : ℝ) : EReal)) (hD : ∀ i l, x1 (ix2 i l) = ((DM i l : ℝ) : EReal))
  (hg : ∀ l, x2 (ix2 0 l) = ((g l : ℝ) : EReal)) (hb : ∀ l, x3 (ix2 0 l) = ((b l : ℝ) : EReal))
  (hw : ∀ h t s, x4 (ix3 h t s) = ((w h t s : ℝ) : EReal)) (hB : ∀ h t, x5 (ix2 h t) = ((B h t : ℝ) : EReal))

theorem c_at (i : S_.Idx) : val_main_v0 (F := Ideal) i = ((8943 / 200000 : ℝ) : EReal) := by
  show Ideal.div (Ideal.ofBits .f32 0x472EAB00#32) (Ideal.ofBits .f32 0x49742400#32) = _
  rw [w_44715, w_million, Ideal.div_coe (by norm_num), ← EReal.coe_mul]
  exact EReal.coe_eq_coe_iff.mpr (by norm_num)

include hZ in
theorem th_at (i : Fin 2048) (l : Fin 4096) : val_main_v11 (F := Ideal) x0 (ix2 i l) = ((th (Z i l) : ℝ) : EReal) := by
  show Ideal.tanh (val_main_v9 (F := Ideal) (ix2 i l) * (x0 (ix2 i l) + val_main_v6 (F := Ideal) (ix2 i l)
    * (x0 (ix2 i l) * x0 (ix2 i l) * x0 (ix2 i l)))) = _
  rw [val_main_v9_apply, val_main_v6_apply, c_at, hZ]
  show Ideal.tanh (Ideal.ofBits .f32 0x3F4C422A#32 * _) = _
  rw [w_gc]
  simp only [← EReal.coe_mul, ← EReal.coe_add, Ideal.tanh_coe]
  rfl

include hZ in
/-- Half of one and the tanh, and one minus its square. -/
theorem half_at (i : Fin 2048) (l : Fin 4096) : val_main_v20 (F := Ideal) x0 (ix2 i l) = ((1 / 2 * (1 + th (Z i l)) : ℝ) : EReal) := by
  show val_main_v19 (F := Ideal) (ix2 i l) * (val_main_v17 (F := Ideal) (ix2 i l) + val_main_v11 (F := Ideal) x0 (ix2 i l)) = _
  rw [val_main_v19_apply, val_main_v17_apply, th_at x0 Z hZ]
  show Ideal.ofBits .f32 0x3F000000#32 * (Ideal.ofBits .f32 0x3F800000#32 + _) = _
  rw [w_half, w_one, ← EReal.coe_add, ← EReal.coe_mul]

include hZ in
theorem slope_at (i : Fin 2048) (l : Fin 4096) :
    val_main_v16 (F := Ideal) x0 (ix2 i l) = ((1 - th (Z i l) * th (Z i l) : ℝ) : EReal) := by
  show (val_main_v12 (F := Ideal) (ix2 i l) + val_main_v11 (F := Ideal) x0 (ix2 i l))
    * (val_main_v14 (F := Ideal) (ix2 i l) - val_main_v11 (F := Ideal) x0 (ix2 i l)) = _
  rw [val_main_v12_apply, val_main_v14_apply, th_at x0 Z hZ]
  show (Ideal.ofBits .f32 0x3F800000#32 + _) * (Ideal.ofBits .f32 0x3F800000#32 - _) = _
  rw [w_one, ← EReal.coe_add, ← EReal.coe_sub, ← EReal.coe_mul]
  exact EReal.coe_eq_coe_iff.mpr (by ring)

include hZ in
theorem cube_at (i : Fin 2048) (l : Fin 4096) : val_main_v5 (F := Ideal) x0 (ix2 i l) = ((3 * (Z i l * Z i l) : ℝ) : EReal) := by
  show val_main_v4 (F := Ideal) (ix2 i l) * (x0 (ix2 i l) * x0 (ix2 i l)) = _
  rw [val_main_v4_apply, hZ]
  show Ideal.ofBits .f32 0x40400000#32 * _ = _
  rw [w_three, ← EReal.coe_mul, ← EReal.coe_mul]

include hZ in
theorem gel_at (i : Fin 2048) (l : Fin 4096) : val_main_v21 (F := Ideal) x0 (ix2 i l) = ((gel (Z i l) : ℝ) : EReal) := by
  show x0 (ix2 i l) * val_main_v20 (F := Ideal) x0 (ix2 i l) = _
  rw [half_at x0 Z hZ, hZ, ← EReal.coe_mul]
  exact EReal.coe_eq_coe_iff.mpr (by unfold gel; ring)

include hZ in
theorem u_at (i l : Fin 2048) : val_main_v22 (F := Ideal) x0 (ix2 i l) = ((gel (Z i (lo l)) : ℝ) : EReal) := by
  rw [val_main_v22_apply, at2 (idx_main_v22 (ix2 i l)) i (lo l) rfl rfl, gel_at x0 Z hZ]

/-- The second half of a row after gelu. -/
def row (i : Fin 2048) (l : Fin 2048) : ℝ := gel (Z i (hi l))

include hZ in
theorem v_at (i l : Fin 2048) : val_main_v23 (F := Ideal) x0 (ix2 i l) = ((row Z i l : ℝ) : EReal) := by
  rw [val_main_v23_apply, at2 (idx_main_v23 (ix2 i l)) i (hi l) rfl rfl, gel_at x0 Z hZ]
  rfl

include hZ in
theorem mean_at (i : Fin 2048) (k : Fin 1) : val_main_v27 (F := Ideal) x0 (ix2 i k) = ((mean (row Z i) : ℝ) : EReal) := by
  show Ideal.div (val_main_v25 (F := Ideal) x0 (ix2 i k)) (val_main_v26 (F := Ideal) (ix2 i k)) = _
  rw [val_main_v25_apply, at1 (idx_main_v25 (ix2 i k)) i rfl, val_main_v24_apply,
    sum_of (val_main_cst_7 (F := Ideal) _) _ (row Z i) Ideal.ofBits_zero_f32 fun l => by
      rw [at2 (idx_main_v24 (ix1 i) l) i l rfl rfl, v_at x0 Z hZ], val_main_v26_apply]
  show Ideal.div _ (Ideal.ofBits .f32 0x45000000#32) = _
  rw [w_2048]
  exact Model.coe_mean _

include hZ in
theorem dev_at (i l : Fin 2048) : val_main_v29 (F := Ideal) x0 (ix2 i l) = ((xc (row Z i) l : ℝ) : EReal) := by
  show val_main_v23 (F := Ideal) x0 (ix2 i l) - val_main_v28 (F := Ideal) x0 (ix2 i l) = _
  rw [v_at x0 Z hZ, val_main_v28_apply, at2 (idx_main_v28 (ix2 i l)) i 0 rfl rfl, mean_at x0 Z hZ, ← EReal.coe_sub]
  rfl

include hZ in
theorem var_at (i : Fin 2048) (k : Fin 1) : val_main_v36 (F := Ideal) x0 (ix2 i k) = ((var (row Z i) + EPS : ℝ) : EReal) := by
  show Ideal.div (val_main_v32 (F := Ideal) x0 (ix2 i k)) (val_main_v33 (F := Ideal) (ix2 i k)) + val_main_v35 (F := Ideal) (ix2 i k) = _
  rw [val_main_v32_apply, at1 (idx_main_v32 (ix2 i k)) i rfl, val_main_v31_apply,
    sum_of (val_main_cst_9 (F := Ideal) _) _ (fun l => xc (row Z i) l * xc (row Z i) l) Ideal.ofBits_zero_f32 fun l => by
      rw [at2 (idx_main_v31 (ix1 i) l) i l rfl rfl]
      show val_main_v29 (F := Ideal) x0 (ix2 i l) * val_main_v29 (F := Ideal) x0 (ix2 i l) = _
      rw [dev_at x0 Z hZ, ← EReal.coe_mul], val_main_v33_apply, val_main_v35_apply]
  show Ideal.div _ (Ideal.ofBits .f32 0x45000000#32) + Ideal.ofBits .f32 0x358637BD#32 = _
  rw [w_2048, w_eps, EReal.coe_add]
  exact congrArg (· + _) (Model.coe_mean _)

include hZ in
theorem rs_at (i : Fin 2048) (k : Fin 1) : val_main_v37 (F := Ideal) x0 (ix2 i k) = ((rs (row Z i) : ℝ) : EReal) := by
  show Ideal.rsqrt (val_main_v36 (F := Ideal) x0 (ix2 i k)) = _
  rw [var_at x0 Z hZ]
  exact Model.coe_rs _

include hZ in
theorem vh_at (i l : Fin 2048) : val_main_v42 (F := Ideal) x0 (ix2 i l) = ((vh (row Z i) l : ℝ) : EReal) := by
  show val_main_v29 (F := Ideal) x0 (ix2 i l) * val_main_v41 (F := Ideal) x0 (ix2 i l) = _
  rw [dev_at x0 Z hZ, val_main_v41_apply, at2 (idx_main_v41 (ix2 i l)) i 0 rfl rfl, rs_at x0 Z hZ, ← EReal.coe_mul]
  rfl

include hZ in
/-- The factor that carries the variance's cotangent: minus a half of the cubed reciprocal deviation. -/
theorem cub_at (i : Fin 2048) (k : Fin 1) :
    val_main_v40 (F := Ideal) x0 (ix2 i k) = ((-(1 / 2) * (rs (row Z i) * rs (row Z i) * rs (row Z i)) : ℝ) : EReal) := by
  show val_main_v39 (F := Ideal) (ix2 i k) * Ideal.div (val_main_v37 (F := Ideal) x0 (ix2 i k)) (val_main_v36 (F := Ideal) x0 (ix2 i k)) = _
  rw [val_main_v39_apply, rs_at x0 Z hZ, var_at x0 Z hZ]
  show Ideal.ofBits .f32 0xBF000000#32 * _ = _
  have hp := Model.var_pos (row Z i)
  rw [w_neg_half, Ideal.div_coe hp.ne', ← EReal.coe_mul, ← EReal.coe_mul]
  refine EReal.coe_eq_coe_iff.mpr ?_
  have e : 1 / (var (row Z i) + EPS) = rs (row Z i) * rs (row Z i) := by
    unfold rs
    rw [← mul_inv, Real.mul_self_sqrt hp.le, one_div]
  rw [e]
  ring

include hZ hg hb in
theorem vn_at (i l : Fin 2048) : val_main_v46 (F := Ideal) x0 x2 x3 (ix2 i l) = ((vh (row Z i) l * g l + b l : ℝ) : EReal) := by
  show val_main_v42 (F := Ideal) x0 (ix2 i l) * val_main_v43 (F := Ideal) x2 (ix2 i l) + val_main_v45 (F := Ideal) x3 (ix2 i l) = _
  rw [vh_at x0 Z hZ, val_main_v43_apply, val_main_v45_apply, at2 (idx_main_v43 (ix2 i l)) 0 l rfl rfl,
    at2 (idx_main_v45 (ix2 i l)) 0 l rfl rfl, hg, hb, ← EReal.coe_mul, ← EReal.coe_add]

include hZ hg hb in
theorem vn4_at (n : Fin 16) (t : Fin 128) (h : Fin 16) (e : Fin 128) :
    val_main_v47 (F := Ideal) x0 x2 x3 (ix4 n t h e) = ((vn (zb Z n) g b t (lane h e) : ℝ) : EReal) := by
  rw [val_main_v47_apply, at2 (idx_main_v47 (ix4 n t h e)) (lane n t) (lane h e)
    (by show (((n.val * 128 + t.val) * 16 + h.val) * 128 + e.val) / 2048 = 128 * n.val + t.val; omega)
    (by show (((n.val * 128 + t.val) * 16 + h.val) * 128 + e.val) % 2048 = 128 * h.val + e.val; omega), vn_at x0 x2 x3 Z g b hZ hg hb]
  rfl

theorem sge_iff : ∀ t s : Fin 128, IntOp.cmpi .sge (IntOp.addi (BitVec.ofNat 32 t.val) 0#32) (BitVec.ofNat 32 s.val) = 1 ↔ s ≤ t := by
  decide +kernel

theorem tri_at (h : Fin 16) (t s : Fin 128) : val_main_v51_1 (F := Ideal) (ix3 h t s) = if s ≤ t then 1#1 else 0#1 := by
  rw [val_main_v51_1_apply, at2 (idx_main_v51_1 (ix3 h t s)) t s rfl rfl, val_main_v49_apply, val_main_v48_apply, val_main_call0_v5_apply]
  show (if IntOp.cmpi .sge (IntOp.addi (BitVec.ofNat 32 t.val) (val_main_call0_v1 (F := Ideal) (ix2 t s))) (BitVec.ofNat 32 s.val) = 1
    then 1#1 else 0#1) = _
  rw [val_main_call0_v1_apply]
  simp only [val_main_call0_c_apply, sge_iff]

include hw in
theorem mask_at (h : Fin 16) (t s : Fin 128) : val_main_v51_0 (F := Ideal) x4 (ix3 h t s) = ((mask w h t s : ℝ) : EReal) := by
  rw [val_main_v51_0_apply, tri_at, val_main_v50_apply, hw]
  show (if (if s ≤ t then 1#1 else 0#1) = (1#1 : BitVec 1) then ((w h t s : ℝ) : EReal) else Ideal.ofBits .f32 0x00000000#32) = _
  rw [Ideal.ofBits_zero_f32, mask]
  by_cases hs : s ≤ t
  · rw [if_pos hs, if_pos rfl, if_pos hs]
  · rw [if_neg hs, if_neg (by decide), if_neg hs]; rfl

include hZ hg hb hw hB in
theorem sv_at (n : Fin 16) (t : Fin 128) (h : Fin 16) (e : Fin 128) : val_main_v58 (F := Ideal) x0 x2 x3 x4 x5 (ix4 n t h e)
    = ((Model.sv (zb Z n) g b w (fun t h => B h t) h t e : ℝ) : EReal) := by
  show val_main_v53 (F := Ideal) x0 x2 x3 x4 (ix4 n t h e) + val_main_v57 (F := Ideal) x5 (ix4 n t h e) = _
  rw [val_main_v53_apply, at4 (idx_main_v53 (ix4 n t h e)) h n e t rfl rfl rfl rfl, val_main_v57_apply,
    at4 (idx_main_v57 (ix4 n t h e)) 0 t h 0 rfl rfl rfl rfl, val_main_v56_apply, at3 (idx_main_v56 (ix4 0 t h 0)) t h 0 rfl rfl rfl,
    val_main_v55_apply, at2 (idx_main_v55 (ix3 t h 0)) t h rfl rfl, val_main_v54_apply, at2 (idx_main_v54 (ix2 t h)) h t rfl rfl, hB,
    val_main_v52_apply, Model.sv, EReal.coe_add, ← Model.coe_sum]
  refine congrArg (· + _) (Finset.sum_congr rfl fun s _ => ?_)
  rw [at4 (lidx_main_v52 (ix4 h n e t) s) n s h e rfl rfl rfl rfl, at3 (ridx_main_v52 (ix4 h n e t) s) h t s rfl rfl rfl,
    vn4_at x0 x2 x3 Z g b hZ hg hb, mask_at x4 w hw, ← EReal.coe_mul, mul_comm]

include hZ hg hb hw hB hD in
/-- The first half's cotangent, before gelu's slope. -/
theorem du_at (i l : Fin 2048) : val_main_v62 (F := Ideal) x0 x1 x2 x3 x4 x5 (ix2 i l)
    = ((DM i l * Model.sv (zb Z (headOf i)) g b w (fun t h => B h t) (headOf l) (laneOf i) (laneOf l) : ℝ) : EReal) := by
  show x1 (ix2 i l) * val_main_v59 (F := Ideal) x0 x2 x3 x4 x5 (ix2 i l) = _
  rw [val_main_v59_apply, at4 (idx_main_v59 (ix2 i l)) (headOf i) (laneOf i) (headOf l) (laneOf l)
    (by show (i.val * 2048 + l.val) / 262144 = i.val / 128; omega)
    (by show (i.val * 2048 + l.val) / 2048 % 128 = i.val % 128; omega)
    (by show (i.val * 2048 + l.val) / 128 % 16 = l.val / 128; omega)
    (by show (i.val * 2048 + l.val) % 128 = l.val % 128; omega), sv_at x0 x2 x3 x4 x5 Z g b w B hZ hg hb hw hB, hD, ← EReal.coe_mul]

include hZ hD in
theorem dsv_at (n : Fin 16) (t : Fin 128) (h : Fin 16) (e : Fin 128) :
    val_main_v63 (F := Ideal) x0 x1 (ix4 n t h e) = ((Model.dsv (zb Z n) (db' DM n) h t e : ℝ) : EReal) := by
  rw [val_main_v63_apply, at2 (idx_main_v63 (ix4 n t h e)) (lane n t) (lane h e)
    (by show (((n.val * 128 + t.val) * 16 + h.val) * 128 + e.val) / 2048 = 128 * n.val + t.val; omega)
    (by show (((n.val * 128 + t.val) * 16 + h.val) * 128 + e.val) % 2048 = 128 * h.val + e.val; omega)]
  show val_main_v22 (F := Ideal) x0 (ix2 (lane n t) (lane h e)) * x1 (ix2 (lane n t) (lane h e)) = _
  rw [u_at x0 Z hZ, hD, ← EReal.coe_mul, mul_comm]
  rfl

end Arrays

end Cert.Proof.Ref

end
-- ==== Proof.GmlpFwd.lean ====
/- The gating unit of the forward pass: the first half after gelu, times the normalized second half mixed along the positions.
   The sixteen heads are one term; every claim holds at every extended real. -/
module

public import proofs.«01_k».proof.Defs
public import proofs.«01_k».proof.Proof.Gen.GmlpFwdIdeal.Value
public import proofs.«01_k».proof.Proof.Gen.GmlpFwdRefIdeal.Read
public import proofs.«01_k».proof.Proof.Model
public import proofs.«01_k».proof.Proof.Point
public import proofs.«01_k».proof.Proof.Ref
public import Idealize.ShloMosaic.Lib.Pipeline.ValueKit
public import Idealize.ShloMosaic.Lib.Pipeline.ReadBack
public import Idealize.ShloMosaic.Lib.Claim
public import Idealize.ShloMosaic.Lib.ValueLayout

@[expose] public section

set_option maxRecDepth 16384
set_option maxHeartbeats 1000000
set_option pp.maxSteps 400

noncomputable section

namespace Cert.Proof.GmlpFwd

open Cert.GmlpFwdIdeal Cert.GmlpFwdIdeal.Gen Idealize.ShloMosaic Idealize.ShloMosaic.TcCoe Idealize.SL.Sem
open Cert.Proof.Consts
open Cert.Proof.Model (lane lo hi headOf laneOf)
open Cert.Proof.Ref (at1 at2 at3 at4)

/-! ## The formulas -/

/-- gelu in its tanh form. -/
def gel (x : EReal) : EReal :=
  Ideal.ofBits .f32 0x3F000000#32 * x * (Ideal.ofBits .f32 0x3F800000#32
    + Ideal.tanh (Ideal.ofBits .f32 0x3F4C422A#32 * (x + ((8943 / 200000 : ℝ) : EReal) * (x * x * x))))

/-- A row's mean, its deviations, and the row over its deviation. -/
def mean (f : Fin 2048 → EReal) : EReal := Ideal.div (∑ k, f k) (Ideal.ofBits .f32 0x45000000#32)
def dev (f : Fin 2048 → EReal) (l : Fin 2048) : EReal := f l - mean f
def nrm (f : Fin 2048 → EReal) (l : Fin 2048) : EReal :=
  dev f l * Ideal.rsqrt (mean (fun k => dev f k * dev f k) + Ideal.ofBits .f32 0x358637BD#32)

/-- The call's result at row `i` and column `l`, from its arguments. -/
def vn (z : Fin 2048 → Fin 4096 → EReal) (g b : Fin 2048 → EReal) (i l : Fin 2048) : EReal :=
  nrm (fun k => gel (z i (hi k))) l * g l + b l
def mixed (z : Fin 2048 → Fin 4096 → EReal) (g b : Fin 2048 → EReal) (w : Fin 16 → Fin 128 → Fin 128 → EReal)
    (bs : Fin 16 → Fin 128 → EReal) (n h : Fin 16) (t e : Fin 128) : EReal :=
  (∑ s : Fin 128, (if s ≤ t then w h t s else 0) * vn z g b (lane n s) (lane h e)) + bs h t
def gated (z : Fin 2048 → Fin 4096 → EReal) (g b : Fin 2048 → EReal) (w : Fin 16 → Fin 128 → Fin 128 → EReal)
    (bs : Fin 16 → Fin 128 → EReal) (i l : Fin 2048) : EReal :=
  gel (z i (lo l)) * mixed z g b w bs (headOf i) (headOf l) (laneOf i) (laneOf l)

/-! ## One grid point, every head -/

theorem cols_in : ∀ h : Fin 16, S128x2048.Slices ![0, 128 * h.val] S128x128 := by decide
theorem mat_in : ∀ h : Fin 16, S16x128x128.Slices ![h.val, 0, 0] S1x128x128 := by decide
theorem col_in : ∀ h : Fin 16, S128x16.Slices ![0, h.val] S128x1 := by decide
theorem store_in : ∀ h : Fin 16, ∀ a, (![0, 128 * h.val] : Fin 2 → ℕ) a + S128x128.size a ≤ S128x2048.size a := by decide

section Heads

variable (u : FVec Ideal S128x2048 .f32) (w : FVec Ideal S16x128x128 .bf16) (b : FVec Ideal S128x16 .f32) (v : FVec Ideal S128x2048 .bf16)

/-- The columns of head `h`, its matrix, its bias along the lanes. -/
def cols {φ : FTy} (x : FVec Ideal S128x2048 φ) (h : Fin 16) : FVec Ideal S128x128 φ :=
  extractStridedSlice S128x128 ![0, 128 * h.val] x (cols_in h)
def mat (h : Fin 16) : FVec Ideal S128x128 .bf16 :=
  shapeCast S128x128 (extractStridedSlice S1x128x128 ![h.val, 0, 0] w (mat_in h)) shapeCasts_S1x128x128_S128x128
def bias (h : Fin 16) : FVec Ideal S128x128 .f32 :=
  broadcastTo S128x128 (extractStridedSlice S128x1 ![0, h.val] b (col_in h)) broadcasts_S128x1_S128x128

/-- What head `h` stores. -/
def headv (h : Fin 16) : FVec Ideal S128x128 .bf16 :=
  truncf .bf16 (mulf (cols u h) (addf (matmul dot_S128x128_S128x128_S128x128_1_0_0_1_n_n none (mat w h) (cols v h)
    (constant S128x128 .f32 0x00000000#32)) (bias b h))) bitsLt_bf16_f32

/-- The block at row `r` and column `l`. -/
def blockv (r : Fin 128) (l : Fin 2048) : EReal := headv u w b v (headOf l) (ix2 r (laneOf l))

def store (h : Fin 16) : View.Piece (Elt Ideal) S128x2048 .bf16 :=
  ⟨Rect.unit (s := S128x2048) ![0, 128 * h.val] S128x128.size (store_in h), headv u w b v h⟩

/-- The sixteen stores, the last one first. -/
def stores : List (View.Piece (Elt Ideal) S128x2048 .bf16) :=
  [store u w b v 15, store u w b v 14, store u w b v 13, store u w b v 12, store u w b v 11, store u w b v 10, store u w b v 9, store u w b v 8, store u w b v 7, store u w b v 6, store u w b v 5, store u w b v 4, store u w b v 3, store u w b v 2, store u w b v 1, store u w b v 0]

theorem store_mem (h : Fin 16) : store u w b v h ∈ stores u w b v := by
  have : store u w b v h ∈ (List.finRange 16).reverse.map (store u w b v) :=
    List.mem_map_of_mem (List.mem_reverse.mpr (List.mem_finRange h))
  exact this

theorem stores_cover (y : S128x2048.Idx) : ∃ p ∈ stores u w b v, y ∈ p.1.set := by
  have y0 : (y 0).val < 128 := (y 0).isLt
  have y1 : (y 1).val < 2048 := (y 1).isLt
  refine ⟨_, store_mem u w b v ⟨(y 1).val / 128, by omega⟩, (Rect.mem_set_unit (inb := store_in _)).mpr fun a => ?_⟩
  match a with
  | 0 => exact ⟨Nat.zero_le _, by show _ < 0 + 128; omega⟩
  | 1 => exact ⟨by show 128 * ((y 1).val / 128) ≤ _; omega, by show _ < 128 * ((y 1).val / 128) + 128; omega⟩

theorem store_apply (h : Fin 16) (x : S128x128.Idx) :
    (store u w b v h).2 x = blockv u w b v ((store u w b v h).1.emb x 0) ((store u w b v h).1.emb x 1) := by
  have e0 : ((store u w b v h).1.emb x 0).val = 0 + (x 0).val := Rect.idx_unit_val (s := S128x2048) ![0, 128 * h.val] S128x128.size (store_in h) x 0
  have e1 : ((store u w b v h).1.emb x 1).val = 128 * h.val + (x 1).val := Rect.idx_unit_val (s := S128x2048) ![0, 128 * h.val] S128x128.size (store_in h) x 1
  generalize (store u w b v h).1.emb x 0 = r at e0
  generalize (store u w b v h).1.emb x 1 = l at e1
  have hx : (x 1).val < 128 := (x 1).isLt
  have hh : headOf l = h := Fin.ext (by show l.val / 128 = _; omega)
  have hl : ix2 r (laneOf l) = x := (at2 x r (laneOf l) (by omega) (by show _ = l.val % 128; omega)).symm
  unfold blockv
  rw [hh]
  exact congrArg (headv u w b v h) hl.symm

theorem stores_canon : View.canon (stores u w b v) = fun j => blockv u w b v (j 0) (j 1) := by
  funext j
  refine (congrFun (congrArg View.canon (List.append_nil _).symm) j).trans ?_
  refine View.canon_append_of_piecesOf (fun j => blockv u w b v (j 0) (j 1)) _ _ ?_ j (stores_cover u w b v j)
  exact ⟨store_apply u w b v _, store_apply u w b v _, store_apply u w b v _, store_apply u w b v _, store_apply u w b v _, store_apply u w b v _, store_apply u w b v _, store_apply u w b v _, store_apply u w b v _, store_apply u w b v _, store_apply u w b v _, store_apply u w b v _, store_apply u w b v _, store_apply u w b v _, store_apply u w b v _, store_apply u w b v _, trivial⟩

end Heads

theorem out_eq (x0 : Vec Ideal S128x4096 .f32) (x1 x2 : Vec Ideal S1x2048 .f32) (x3 : Vec Ideal S16x128x128 .f32) (x4 : Vec Ideal S128x16 .f32) :
    out0_5 x0 x1 x2 x3 x4 = fun j => blockv (k0_pay45 x0 x1 x2 x3 x4) (k0_pay43 x0 x1 x2 x3 x4) (k0_pay44 x0 x1 x2 x3 x4)
      (k0_pay48 x0 x1 x2 x3 x4) (j 0) (j 1) := by
  rw [← stores_canon]
  rfl

theorem named_c : Named.named (F := Ideal) κ "gelu_c" (φ := .f32) 0x3D372713#32 = ((8943 / 200000 : ℝ) : EReal) :=
  IdealRules.named_const.ideal_named_scalar κ "gelu_c" _ _ rfl

/-- gelu of the two halves of a row. -/
theorem first_at (x : Vec Ideal S128x4096 .f32) (r : Fin 128) (l : Fin 2048) : k0_pay8 (F := Ideal) x (ix2 r l) = gel (x (ix2 r (lo l))) := by
  have e : extractStridedSlice S128x2048 ![0, 0] x slices_S128x4096_o0_0_S128x2048 (ix2 r l) = x (ix2 r (lo l)) :=
    extractStridedSlice_apply _ x slices_S128x4096_o0_0_S128x2048 _ (ix2 r (lo l)) (by
      intro a; match a with | 0 => exact (Nat.zero_add _).symm | 1 => exact (Nat.zero_add _).symm)
  rw [← e, gel, ← named_c]
  rfl

theorem second_at (x : Vec Ideal S128x4096 .f32) (r : Fin 128) (l : Fin 2048) :
    k0_pay9 (F := Ideal) x (ix2 r l) * k0_pay10 (F := Ideal) x (ix2 r l) = gel (x (ix2 r (hi l))) := by
  have e : extractStridedSlice S128x2048 ![0, 2048] x slices_S128x4096_o0_2048_S128x2048 (ix2 r l) = x (ix2 r (hi l)) :=
    extractStridedSlice_apply _ x slices_S128x4096_o0_2048_S128x2048 _ (ix2 r (hi l)) (by
      intro a; match a with | 0 => exact (Nat.zero_add _).symm | 1 => rfl)
  rw [← e, gel, ← named_c]
  rfl

theorem norm_at (g b : Vec Ideal S1x2048 .f32) (p q : FVec Ideal S128x2048 .f32) (r : Fin 128) (l : Fin 2048) :
    k0_pay11 (F := Ideal) g b p q (ix2 r l) = nrm (fun k => p (ix2 r k) * q (ix2 r k)) l * g (ix2 0 l) + b (ix2 0 l) := by
  unfold_payloads
  pointwise
  rfl

/-- The causal choice at an index. -/
theorem causal_at (x : Vec Ideal S16x128x128 .f32) (h : Fin 16) (t s : Fin 128) :
    k0_pay5 (F := Ideal) x (ix3 h t s) = if s ≤ t then x (ix3 h t s) else 0 := by
  show Scalar.select (IntOp.cmpi .sle (iota .tc S16x128x128 32 [2] iota_S16x128x128_d2_w32 (ix3 h t s))
    (iota .tc S16x128x128 32 [1] iota_S16x128x128_d1_w32 (ix3 h t s))) (x (ix3 h t s)) (Ideal.ofBits .f32 0x00000000#32) = _
  rw [iota_single_apply, iota_single_apply, Ideal.ofBits_zero_f32]
  show (if IntOp.cmpi .sle (BitVec.ofNat 32 s.val) (BitVec.ofNat 32 t.val) = 1 then x (ix3 h t s) else 0) = _
  simp only [Point.sle_iff]

theorem block_at (u : FVec Ideal S128x2048 .f32) (w : FVec Ideal S16x128x128 .bf16) (b : FVec Ideal S128x16 .f32) (v : FVec Ideal S128x2048 .bf16)
    (r : Fin 128) (l : Fin 2048) : blockv u w b v r l
      = u (ix2 r l) * ((∑ s : Fin 128, w (ix3 (headOf l) r s) * v (ix2 s l)) + b (ix2 r (headOf l))) := by
  have c : ∀ {φ : FTy} (x : FVec Ideal S128x2048 φ) (t : Fin 128), cols x (headOf l) (ix2 t (laneOf l)) = x (ix2 t l) := fun x t =>
    (extractStridedSlice_apply _ x (cols_in _) _ (ix2 t (lane (headOf l) (laneOf l))) (by
      intro a; match a with | 0 => exact (Nat.zero_add _).symm | 1 => rfl)).trans (congrArg (fun k => x (ix2 t k)) (Model.lane_of l))
  have m : ∀ t s, mat w (headOf l) (ix2 t s) = w (ix3 (headOf l) t s) := fun t s =>
    (ValueIdx.shapeCast_1ab_ab_apply _ shapeCasts_S1x128x128_S128x128 t s).trans
      (extractStridedSlice_apply _ w (mat_in _) _ (ix3 (headOf l) t s) (by
        intro a; match a with | 0 => rfl | 1 => exact (Nat.zero_add _).symm | 2 => exact (Nat.zero_add _).symm))
  have d : bias b (headOf l) (ix2 r (laneOf l)) = b (ix2 r (headOf l)) :=
    (broadcastTo_apply _ broadcasts_S128x1_S128x128 _ (ix2 r 0) (by intro a; match a with | 0 => rfl | 1 => rfl)).trans
      (extractStridedSlice_apply _ b (col_in _) _ (ix2 r (headOf l)) (by
        intro a; match a with | 0 => exact (Nat.zero_add _).symm | 1 => rfl))
  show cols u (headOf l) (ix2 r (laneOf l)) * (matmul dot_S128x128_S128x128_S128x128_1_0_0_1_n_n none (mat w (headOf l)) (cols v (headOf l))
    (constant S128x128 .f32 0x00000000#32) (ix2 r (laneOf l)) + bias b (headOf l) (ix2 r (laneOf l))) = _
  rw [c, d]
  refine congrArg (u (ix2 r l) * ·) (congrArg (· + _) ((Point.dot_nn _ _ r (laneOf l)).trans (Finset.sum_congr rfl fun s _ => ?_)))
  rw [m, c]

/-! ## The call's array -/

section Run

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- The arguments of the call. -/
def zs (i : Fin 2048) (l : Fin 4096) : EReal := (m ((c : Thread nD τ).loc main_arg0) : Vec Ideal S2048x4096 .f32) (ix2 i l)
def gs (l : Fin 2048) : EReal := (m ((c : Thread nD τ).loc main_arg1) : Vec Ideal S1x2048 .f32) (ix2 0 l)
def os (l : Fin 2048) : EReal := (m ((c : Thread nD τ).loc main_arg2) : Vec Ideal S1x2048 .f32) (ix2 0 l)
def ws (h : Fin 16) (t s : Fin 128) : EReal := (m ((c : Thread nD τ).loc main_arg3) : Vec Ideal S16x128x128 .f32) (ix3 h t s)
def bs (h : Fin 16) (t : Fin 128) : EReal := (m ((c : Thread nD τ).loc main_arg4) : Vec Ideal S16x128 .f32) (ix2 h t)

/-- The point's number among the sixteen. -/
def pt (t : Fin cfg0.N) : Fin 16 := ⟨t.val, t.isLt⟩

theorem b0 (t : Fin cfg0.N) (r : Fin 128) (l : Fin 4096) : iblk m c 0 t (ix2 r l) = zs m c (lane (pt t) r) l := by
  blk_ext [iblk, V, idx t, zs]
  show t.val * 128 + r.val = 128 * t.val + r.val
  omega

theorem b1 (t : Fin cfg0.N) (l : Fin 2048) : iblk m c 1 t (ix2 0 l) = gs m c l := by
  blk_ext! [iblk, V, idx t, gs]

theorem b2 (t : Fin cfg0.N) (l : Fin 2048) : iblk m c 2 t (ix2 0 l) = os m c l := by
  blk_ext! [iblk, V, idx t, os]

theorem b3 (t : Fin cfg0.N) (h : Fin 16) (r s : Fin 128) : iblk m c 3 t (ix3 h r s) = ws m c h r s := by
  blk_ext! [iblk, V, idx t, ws]

theorem b4 (t : Fin cfg0.N) (s : Fin 128) (h : Fin 16) : iblk m c 4 t (ix2 s h) = bs m c h s := by
  blk_simp [iblk, V, idx t]
  entry_read
  refine transpose_apply _ _ _ _ (ix2 h s) fun b => ?_
  have e : (win0_4.blk t).view.emb (ix2 s h) = ix2 s h := by blk_ext [idx t]
  exact Eq.trans (by match b with | 0 => rfl | 1 => rfl) (congrArg (fun j : S128x16.Idx => (j b).val) e).symm

theorem arr5 : (dats m 0 c).arrAt 5 cfg0.N = fun y => gated (zs m c) (gs m c) (os m c) (ws m c) (bs m c) (y 0) (y 1) := by
  refine (dats m 0 c).arrAt_eq_of_covers 5 _ (by decide +kernel) fun t hf y => ?_
  blk_simp
  rw [after0_5, out_eq]
  idx_vars y
  have e : (win0_5.blk t).view.emb (ix2 y0 y1) = ix2 (lane (pt t) y0) y1 := by
    blk_ext [idx t]
    show t.val * 128 + y0.val = 128 * t.val + y0.val
    omega
  have hn : headOf (lane (pt t) y0) = pt t := Fin.ext (by show (128 * t.val + y0.val) / 128 = t.val; omega)
  have hr : laneOf (lane (pt t) y0) = y0 := Fin.ext (by show (128 * t.val + y0.val) % 128 = y0.val; omega)
  rw [e]
  show blockv _ _ _ _ y0 y1 = gated _ _ _ _ _ (lane (pt t) y0) y1
  have r1 : ∀ x : Vec Ideal S128x4096 .f32, View.ld x r0_1 = x := fun x => View.ld_unit_lit (off := ![0, 0]) inb_S128x4096_S128x4096_0_0 x (by decide)
  have r2 : ∀ x : Vec Ideal S1x2048 .f32, View.ld x r0_2 = x := fun x => View.ld_unit_lit (off := ![0, 0]) inb_S1x2048_S1x2048_0_0 x (by decide)
  have r3 : ∀ x : Vec Ideal S128x16 .f32, View.ld x r0_3 = x := fun x => View.ld_unit_lit (off := ![0, 0]) inb_S128x16_S128x16_0_0 x (by decide)
  have r0 : ∀ x : Vec Ideal S16x128x128 .f32, View.ld x r0_0 = x := fun x => View.ld_unit_lit (off := ![0, 0, 0]) inb_S16x128x128_S16x128x128_0_0_0 x (by decide)
  have p6 : ∀ x : Vec Ideal S128x16 .f32, k0_pay6 (F := Ideal) x (ix2 y0 (headOf y1)) = x (ix2 y0 (headOf y1)) := fun x => by
    unfold_payloads
    pointwise
  unfold k0_pay45 k0_pay44 k0_pay43 k0_pay48 k0_pay46 k0_pay47
  rw [block_at, r0, r1, r2, r2, r3, first_at, p6, b0, b4, gated, mixed, hn, hr, Model.lane_of]
  refine congrArg (_ * ·) (congrArg (· + _) (Finset.sum_congr rfl fun s _ => ?_))
  rw [causal_at, b3, norm_at, b1, b2, vn]
  simp only [second_at, b0]

end Run

/-! ## The reference -/

section Reference

open Cert.GmlpFwdRefIdeal.Read

variable (x0 : FVec Ideal S2048x4096 .f32) (x1 x2 : FVec Ideal S1x2048 .f32) (x3 : FVec Ideal S16x128x128 .f32) (x4 : FVec Ideal S16x128 .f32)

theorem c_at (i : GmlpFwdRefIdeal.S_.Idx) : val_main_v0 (F := Ideal) i = ((8943 / 200000 : ℝ) : EReal) := by
  show Ideal.div (Ideal.ofBits .f32 0x472EAB00#32) (Ideal.ofBits .f32 0x49742400#32) = _
  rw [w_44715, w_million, Ideal.div_coe (by norm_num), ← EReal.coe_mul]
  exact EReal.coe_eq_coe_iff.mpr (by norm_num)

theorem gel_at (i : Fin 2048) (l : Fin 4096) : val_main_v13 (F := Ideal) x0 (ix2 i l) = gel (x0 (ix2 i l)) := by
  show x0 (ix2 i l) * (val_main_v11 (F := Ideal) (ix2 i l) * (val_main_v9 (F := Ideal) (ix2 i l)
    + Ideal.tanh (val_main_v6 (F := Ideal) (ix2 i l) * (x0 (ix2 i l) + val_main_v3 (F := Ideal) (ix2 i l)
      * (x0 (ix2 i l) * x0 (ix2 i l) * x0 (ix2 i l)))))) = _
  rw [val_main_v11_apply, val_main_v9_apply, val_main_v6_apply, val_main_v3_apply, c_at, gel, ← mul_assoc, mul_comm (x0 (ix2 i l))]
  rfl

theorem u_at (i l : Fin 2048) : val_main_v14 (F := Ideal) x0 (ix2 i l) = gel (x0 (ix2 i (lo l))) := by
  rw [val_main_v14_apply, at2 (idx_main_v14 (ix2 i l)) i (lo l) rfl rfl, gel_at]

/-- The second half of a row after gelu. -/
def row (i : Fin 2048) (k : Fin 2048) : EReal := gel (x0 (ix2 i (hi k)))

theorem v_at (i l : Fin 2048) : val_main_v15 (F := Ideal) x0 (ix2 i l) = row x0 i l := by
  rw [val_main_v15_apply, at2 (idx_main_v15 (ix2 i l)) i (hi l) rfl rfl, gel_at]
  rfl

theorem mean_at (i : Fin 2048) (k : Fin 1) : val_main_v19 (F := Ideal) x0 (ix2 i k) = mean (row x0 i) := by
  show Ideal.div (val_main_v17 (F := Ideal) x0 (ix2 i k)) (val_main_v18 (F := Ideal) (ix2 i k)) = _
  rw [val_main_v17_apply, at1 (idx_main_v17 (ix2 i k)) i rfl, val_main_v16_apply, val_main_v18_apply]
  show Ideal.div (Ideal.ofBits .f32 0x00000000#32 + _) (Ideal.ofBits .f32 0x45000000#32) = _
  rw [Ideal.ofBits_zero_f32, zero_add, mean]
  exact congrArg (Ideal.div · _) (Finset.sum_congr rfl fun l _ => by rw [at2 (idx_main_v16 (ix1 i) l) i l rfl rfl, v_at])

theorem dev_at (i l : Fin 2048) : val_main_v21 (F := Ideal) x0 (ix2 i l) = dev (row x0 i) l := by
  show val_main_v15 (F := Ideal) x0 (ix2 i l) - val_main_v20 (F := Ideal) x0 (ix2 i l) = _
  rw [v_at, val_main_v20_apply, at2 (idx_main_v20 (ix2 i l)) i 0 rfl rfl, mean_at]
  rfl

theorem var_at (i : Fin 2048) (k : Fin 1) : val_main_v26 (F := Ideal) x0 (ix2 i k) = mean fun l => dev (row x0 i) l * dev (row x0 i) l := by
  show Ideal.div (val_main_v24 (F := Ideal) x0 (ix2 i k)) (val_main_v25 (F := Ideal) (ix2 i k)) = _
  rw [val_main_v24_apply, at1 (idx_main_v24 (ix2 i k)) i rfl, val_main_v23_apply, val_main_v25_apply]
  show Ideal.div (Ideal.ofBits .f32 0x00000000#32 + _) (Ideal.ofBits .f32 0x45000000#32) = _
  rw [Ideal.ofBits_zero_f32, zero_add, mean]
  refine congrArg (Ideal.div · _) (Finset.sum_congr rfl fun l _ => ?_)
  rw [at2 (idx_main_v23 (ix1 i) l) i l rfl rfl]
  show val_main_v21 (F := Ideal) x0 (ix2 i l) * val_main_v21 (F := Ideal) x0 (ix2 i l) = _
  rw [dev_at]

theorem vn_at (i l : Fin 2048) : val_main_v35 (F := Ideal) x0 x1 x2 (ix2 i l)
    = vn (fun i l => x0 (ix2 i l)) (fun l => x1 (ix2 0 l)) (fun l => x2 (ix2 0 l)) i l := by
  show val_main_v21 (F := Ideal) x0 (ix2 i l) * val_main_v30 (F := Ideal) x0 (ix2 i l) * val_main_v32 (F := Ideal) x1 (ix2 i l)
    + val_main_v34 (F := Ideal) x2 (ix2 i l) = _
  rw [dev_at, val_main_v30_apply, at2 (idx_main_v30 (ix2 i l)) i 0 rfl rfl, val_main_v32_apply, val_main_v34_apply,
    at2 (idx_main_v32 (ix2 i l)) 0 l rfl rfl, at2 (idx_main_v34 (ix2 i l)) 0 l rfl rfl]
  show _ * Ideal.rsqrt (val_main_v26 (F := Ideal) x0 (ix2 i 0) + val_main_v27 (F := Ideal) (ix2 i 0)) * _ + _ = _
  rw [var_at, val_main_v27_apply]
  rfl

theorem mask_at (h : Fin 16) (t s : Fin 128) : val_main_v40 (F := Ideal) x3 (ix3 h t s) = if s ≤ t then x3 (ix3 h t s) else 0 := by
  rw [val_main_v40_apply, val_main_call1_v0_apply, at2 (idx_main_call1_v0 (ix3 h t s)) t s rfl rfl, val_main_v38_apply,
    val_main_v37_apply, val_main_call0_v5_apply, val_main_v39_apply]
  show (if (if IntOp.cmpi .sge (IntOp.addi (BitVec.ofNat 32 t.val) (val_main_call0_v1 (F := Ideal) (ix2 t s))) (BitVec.ofNat 32 s.val) = 1
    then 1#1 else 0#1) = (1#1 : BitVec 1) then x3 (ix3 h t s) else Ideal.ofBits .f32 0x00000000#32) = _
  rw [val_main_call0_v1_apply, Ideal.ofBits_zero_f32]
  simp only [val_main_call0_c_apply, Ref.sge_iff]
  by_cases hs : s ≤ t
  · rw [if_pos hs, if_pos rfl, if_pos hs]
  · rw [if_neg hs, if_neg (by decide), if_neg hs]

theorem mixed_at (n : Fin 16) (t : Fin 128) (h : Fin 16) (e : Fin 128) : val_main_v47 (F := Ideal) x0 x1 x2 x3 x4 (ix4 n t h e)
    = mixed (fun i l => x0 (ix2 i l)) (fun l => x1 (ix2 0 l)) (fun l => x2 (ix2 0 l)) (fun h t s => x3 (ix3 h t s)) (fun h t => x4 (ix2 h t)) n h t e := by
  show val_main_v42 (F := Ideal) x0 x1 x2 x3 (ix4 n t h e) + val_main_v46 (F := Ideal) x4 (ix4 n t h e) = _
  rw [val_main_v42_apply, at4 (idx_main_v42 (ix4 n t h e)) h n e t rfl rfl rfl rfl, val_main_v46_apply,
    at4 (idx_main_v46 (ix4 n t h e)) 0 t h 0 rfl rfl rfl rfl, val_main_v45_apply, at3 (idx_main_v45 (ix4 0 t h 0)) t h 0 rfl rfl rfl,
    val_main_v44_apply, at2 (idx_main_v44 (ix3 t h 0)) t h rfl rfl, val_main_v43_apply, at2 (idx_main_v43 (ix2 t h)) h t rfl rfl,
    val_main_v41_apply, mixed]
  refine congrArg (· + _) (Finset.sum_congr rfl fun s _ => ?_)
  rw [at4 (lidx_main_v41 (ix4 h n e t) s) n s h e rfl rfl rfl rfl, at3 (ridx_main_v41 (ix4 h n e t) s) h t s rfl rfl rfl,
    val_main_v36_apply, at2 (idx_main_v36 (ix4 n s h e)) (lane n s) (lane h e)
    (by show (((n.val * 128 + s.val) * 16 + h.val) * 128 + e.val) / 2048 = 128 * n.val + s.val; omega)
    (by show (((n.val * 128 + s.val) * 16 + h.val) * 128 + e.val) % 2048 = 128 * h.val + e.val; omega), vn_at, mask_at, mul_comm]

theorem gated_at (i l : Fin 2048) : val_main_v50 (F := Ideal) x0 x1 x2 x3 x4 (ix2 i l)
    = gated (fun i l => x0 (ix2 i l)) (fun l => x1 (ix2 0 l)) (fun l => x2 (ix2 0 l)) (fun h t s => x3 (ix3 h t s)) (fun h t => x4 (ix2 h t)) i l := by
  show val_main_v14 (F := Ideal) x0 (ix2 i l) * val_main_v48 (F := Ideal) x0 x1 x2 x3 x4 (ix2 i l) = _
  rw [u_at, val_main_v48_apply, at4 (idx_main_v48 (ix2 i l)) (headOf i) (laneOf i) (headOf l) (laneOf l)
    (by show (i.val * 2048 + l.val) / 262144 = i.val / 128; omega)
    (by show (i.val * 2048 + l.val) / 2048 % 128 = i.val % 128; omega)
    (by show (i.val * 2048 + l.val) / 128 % 16 = l.val / 128; omega)
    (by show (i.val * 2048 + l.val) % 128 = l.val % 128; omega), mixed_at, gated]

end Reference

theorem same : Cert.algebraic_GmlpFwdIdeal_GmlpFwdRefIdeal := by
  pair_intro
  · run_from Cert.GmlpFwdIdeal.Value.run_blocks m g
  · run_from Cert.GmlpFwdRefIdeal.Value.run m' g'
    refine (GmlpFwdRefIdeal.Read.val_main_v50_eq (F := Ideal) _ _).trans ?_
    rw [arr5]
    funext j
    idx_vars j
    refine (gated_at _ _ _ _ _ j0 j1).trans ?_
    rw [(hagree c).1, (hagree c).2.1, (hagree c).2.2.1, (hagree c).2.2.2.1, (hagree c).2.2.2.2]
    rfl

end Cert.Proof.GmlpFwd

end
-- ==== Proof.Run.lean ====
/- The kernel's run at real arguments: the input blocks at every grid point, the sums over the points, and the five arrays the
   run ends with. -/
module

public import proofs.«01_k».proof.Proof.Point
public import proofs.«01_k».proof.Proof.Gen.KernelIdeal.Value
public import Idealize.ShloMosaic.Lib.Pipeline.ValueKit
public import Idealize.ShloMosaic.Lib.Claim

@[expose] public section

set_option maxRecDepth 16384
set_option maxHeartbeats 1000000
set_option pp.maxSteps 400

noncomputable section

namespace Cert.Proof.Run

open Cert.Proof.Heads Cert.KernelIdeal Cert.KernelIdeal.Gen Idealize.ShloMosaic Idealize.ShloMosaic.TcCoe Idealize.SL.Sem
open Idealize.ShloMosaic.Pipeline (Dat)
open Cert.Proof.Model (lane headOf laneOf)

variable (m : (ℓ : Loc nD τ sig) → Buf (Elt Ideal) ℓ) (c : Dev nD)

/-! ## The input blocks -/

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- The point's number among the sixteen. -/
def pt (t : Fin cfg0.N) : Fin 16 := ⟨t.val, t.isLt⟩

theorem iblk0 (t : Fin cfg0.N) (r : Fin 128) (l : Fin 4096) :
    iblk m c 0 t (ix2 r l) = m ((c : Thread nD τ).loc main_arg0) (ix2 (lane (pt t) r) l) := by
  blk_ext [iblk, V, idx t]
  show t.val * 128 + r.val = 128 * t.val + r.val
  omega

theorem iblk1 (t : Fin cfg0.N) (r : Fin 128) (l : Fin 2048) :
    iblk m c 1 t (ix2 r l) = m ((c : Thread nD τ).loc main_arg1) (ix2 (lane (pt t) r) l) := by
  blk_ext [iblk, V, idx t]
  show t.val * 128 + r.val = 128 * t.val + r.val
  omega

theorem iblk2 (t : Fin cfg0.N) : iblk m c 2 t = m ((c : Thread nD τ).loc main_arg2) := by
  blk_ext! [iblk, V, idx t]

theorem iblk3 (t : Fin cfg0.N) : iblk m c 3 t = m ((c : Thread nD τ).loc main_arg3) := by
  blk_ext! [iblk, V, idx t]

theorem iblk4 (t : Fin cfg0.N) : iblk m c 4 t = m ((c : Thread nD τ).loc main_arg4) := by
  blk_ext! [iblk, V, idx t]

theorem iblk5 (t : Fin cfg0.N) (s : Fin 128) (h : Fin 16) :
    iblk m c 5 t (ix2 s h) = m ((c : Thread nD τ).loc main_arg5) (ix2 h s) := by
  blk_simp [iblk, V, idx t]
  entry_read
  refine transpose_apply _ _ _ _ (ix2 h s) fun b => ?_
  have e : (win0_5.blk t).view.emb (ix2 s h) = ix2 s h := by blk_ext [idx t]
  exact Eq.trans (by match b with | 0 => rfl | 1 => rfl) (congrArg (fun j : S128x16.Idx => (j b).val) e).symm

/-! ## What a point leaves -/

theorem outs6 (t : Fin cfg0.N) : (outsAt0 m c t.val t.isLt).1 = fun j => Blocks.dz (F := Ideal) (iblk m c 0 t) (iblk m c 1 t) (iblk m c 2 t) (iblk m c 3 t) (iblk m c 4 t) (iblk m c 5 t) (j 0) (j 1) := by
  by_cases h0 : t.val % 16 = 0
  · have h1 : ¬t.val % 16 = 15 := by omega
    simp only [outsAt0_A m c t h0 h1]
    rw [Blocks.out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (iblk m c 0 t) (iblk m c 1 t) (iblk m c 2 t) (iblk m c 3 t) (iblk m c 4 t) (iblk m c 5 t)]
  · by_cases h1 : t.val % 16 = 15
    · simp only [outsAt0_C m c t h0 h1]
      rw [Blocks.out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
    · simp only [outsAt0_B m c t h0 h1]
      rw [Blocks.out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

theorem first7 (t : Fin cfg0.N) (h0 : t.val % 16 = 0) : (outsAt0 m c t.val t.isLt).2.1 = addf (F := Ideal) (k0_pay2 (F := Ideal)) (Blocks.dwsAll (F := Ideal) (iblk m c 0 t) (iblk m c 1 t) (iblk m c 2 t) (iblk m c 3 t)) := by
  have h1 : ¬t.val % 16 = 15 := by omega
  simp only [outsAt0_A m c t h0 h1]
  rw [Blocks.out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (iblk m c 0 t) (iblk m c 1 t) (iblk m c 2 t) (iblk m c 3 t) (iblk m c 4 t) (iblk m c 5 t)]

theorem next7 (t : Fin cfg0.N) (h0 : ¬t.val % 16 = 0) (h1 : ¬t.val % 16 = 15) :
    (outsAt0 m c t.val t.isLt).2.1 = addf (F := Ideal) (outsAt0 m c (t.val - 1) (Nat.lt_of_le_of_lt (Nat.sub_le _ _) t.isLt)).2.1 (Blocks.dwsAll (F := Ideal) (iblk m c 0 t) (iblk m c 1 t) (iblk m c 2 t) (iblk m c 3 t)) := by
  simp only [outsAt0_B m c t h0 h1]
  rw [Blocks.out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

theorem last7 (t : Fin cfg0.N) (h1 : t.val % 16 = 15) :
    (outsAt0 m c t.val t.isLt).2.1 = k0_pay1 (F := Ideal) (addf (F := Ideal) (outsAt0 m c (t.val - 1) (Nat.lt_of_le_of_lt (Nat.sub_le _ _) t.isLt)).2.1 (Blocks.dwsAll (F := Ideal) (iblk m c 0 t) (iblk m c 1 t) (iblk m c 2 t) (iblk m c 3 t))) := by
  have h0 : ¬t.val % 16 = 0 := by omega
  simp only [outsAt0_C m c t h0 h1]
  rw [Blocks.out_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

theorem first8 (t : Fin cfg0.N) (h0 : t.val % 16 = 0) : (outsAt0 m c t.val t.isLt).2.2.1 = addf (F := Ideal) (k0_pay3 (F := Ideal)) (Heads.dbs (F := Ideal) (iblk m c 0 t) (iblk m c 1 t) 16) := by
  have h1 : ¬t.val % 16 = 15 := by omega
  simp only [outsAt0_A m c t h0 h1]
  rw [Blocks.out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (iblk m c 0 t) (iblk m c 1 t) (iblk m c 2 t) (iblk m c 3 t) (iblk m c 4 t) (iblk m c 5 t)]

theorem next8 (t : Fin cfg0.N) (h0 : ¬t.val % 16 = 0) :
    (outsAt0 m c t.val t.isLt).2.2.1 = addf (F := Ideal) (outsAt0 m c (t.val - 1) (Nat.lt_of_le_of_lt (Nat.sub_le _ _) t.isLt)).2.2.1 (Heads.dbs (F := Ideal) (iblk m c 0 t) (iblk m c 1 t) 16) := by
  by_cases h1 : t.val % 16 = 15
  · simp only [outsAt0_C m c t h0 h1]
    rw [Blocks.out_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · simp only [outsAt0_B m c t h0 h1]
    rw [Blocks.out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

theorem first9 (t : Fin cfg0.N) (h0 : t.val % 16 = 0) : (outsAt0 m c t.val t.isLt).2.2.2.1 = addf (F := Ideal) (k0_pay4 (F := Ideal)) (Heads.dgain (F := Ideal) (iblk m c 0 t) (iblk m c 1 t) (iblk m c 4 t)) := by
  have h1 : ¬t.val % 16 = 15 := by omega
  simp only [outsAt0_A m c t h0 h1]
  rw [Blocks.out_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (iblk m c 0 t) (iblk m c 1 t) (iblk m c 2 t) (iblk m c 3 t) (iblk m c 4 t) (iblk m c 5 t)]

theorem next9 (t : Fin cfg0.N) (h0 : ¬t.val % 16 = 0) :
    (outsAt0 m c t.val t.isLt).2.2.2.1 = addf (F := Ideal) (outsAt0 m c (t.val - 1) (Nat.lt_of_le_of_lt (Nat.sub_le _ _) t.isLt)).2.2.2.1 (Heads.dgain (F := Ideal) (iblk m c 0 t) (iblk m c 1 t) (iblk m c 4 t)) := by
  by_cases h1 : t.val % 16 = 15
  · simp only [outsAt0_C m c t h0 h1]
    rw [Blocks.out_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · simp only [outsAt0_B m c t h0 h1]
    rw [Blocks.out_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

theorem first10 (t : Fin cfg0.N) (h0 : t.val % 16 = 0) : (outsAt0 m c t.val t.isLt).2.2.2.2 = addf (F := Ideal) (k0_pay5 (F := Ideal)) (Heads.doff (F := Ideal) (iblk m c 0 t) (iblk m c 1 t) (iblk m c 4 t)) := by
  have h1 : ¬t.val % 16 = 15 := by omega
  simp only [outsAt0_A m c t h0 h1]
  rw [Blocks.out_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (iblk m c 0 t) (iblk m c 1 t) (iblk m c 2 t) (iblk m c 3 t) (iblk m c 4 t) (iblk m c 5 t)]

theorem next10 (t : Fin cfg0.N) (h0 : ¬t.val % 16 = 0) :
    (outsAt0 m c t.val t.isLt).2.2.2.2 = addf (F := Ideal) (outsAt0 m c (t.val - 1) (Nat.lt_of_le_of_lt (Nat.sub_le _ _) t.isLt)).2.2.2.2 (Heads.doff (F := Ideal) (iblk m c 0 t) (iblk m c 1 t) (iblk m c 4 t)) := by
  by_cases h1 : t.val % 16 = 15
  · simp only [outsAt0_C m c t h0 h1]
    rw [Blocks.out_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  · simp only [outsAt0_B m c t h0 h1]
    rw [Blocks.out_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

/-! ## The last point -/

def tlast : Fin cfg0.N := ⟨15, by decide +kernel⟩

theorem sum_pt {M : Type} [AddCommMonoid M] (f : Fin 16 → M) : ∑ p : Fin cfg0.N, f (pt p) = ∑ n, f n :=
  Fintype.sum_equiv (finCongr (by decide +kernel : cfg0.N = 16)) _ _ fun _ => rfl

theorem zero_sum (a : EReal) (f k : Fin cfg0.N → EReal) (ha : a = 0) (h : ∀ n, f n = k n) : a + ∑ n, f n = ∑ n, k n := by
  rw [ha, zero_add, Finset.sum_congr rfl fun n _ => h n]

theorem sum8 (i) : (outsAt0 m c tlast.val tlast.isLt).2.2.1 i
    = (k0_pay3 (F := Ideal)) i + ∑ t : Fin cfg0.N, (Heads.dbs (F := Ideal) (iblk m c 0 t) (iblk m c 1 t) 16) i := by
  rw [Pipeline.eq_sum_fin_of_reset_step_apply_last (fun n h => (outsAt0 m c n h).2.2.1) 16 (k0_pay3 (F := Ideal))
    (fun t => Heads.dbs (F := Ideal) (iblk m c 0 t) (iblk m c 1 t) 16)
    (fun t h i => by rw [first8 m c t h]; rfl) (fun t h i => by rw [next8 m c t h]; rfl)
    (by decide +kernel) tlast (by decide +kernel) i]

theorem sum9 (i) : (outsAt0 m c tlast.val tlast.isLt).2.2.2.1 i
    = (k0_pay4 (F := Ideal)) i + ∑ t : Fin cfg0.N, (Heads.dgain (F := Ideal) (iblk m c 0 t) (iblk m c 1 t) (iblk m c 4 t)) i := by
  rw [Pipeline.eq_sum_fin_of_reset_step_apply_last (fun n h => (outsAt0 m c n h).2.2.2.1) 16 (k0_pay4 (F := Ideal))
    (fun t => Heads.dgain (F := Ideal) (iblk m c 0 t) (iblk m c 1 t) (iblk m c 4 t))
    (fun t h i => by rw [first9 m c t h]; rfl) (fun t h i => by rw [next9 m c t h]; rfl)
    (by decide +kernel) tlast (by decide +kernel) i]

theorem sum10 (i) : (outsAt0 m c tlast.val tlast.isLt).2.2.2.2 i
    = (k0_pay5 (F := Ideal)) i + ∑ t : Fin cfg0.N, (Heads.doff (F := Ideal) (iblk m c 0 t) (iblk m c 1 t) (iblk m c 4 t)) i := by
  rw [Pipeline.eq_sum_fin_of_reset_step_apply_last (fun n h => (outsAt0 m c n h).2.2.2.2) 16 (k0_pay5 (F := Ideal))
    (fun t => Heads.doff (F := Ideal) (iblk m c 0 t) (iblk m c 1 t) (iblk m c 4 t))
    (fun t h i => by rw [first10 m c t h]; rfl) (fun t h i => by rw [next10 m c t h]; rfl)
    (by decide +kernel) tlast (by decide +kernel) i]

/-- The sum of the mixing matrix's gradient before the last point masks it. -/
def raw7 (n : ℕ) (h : n < cfg0.N) : FVec Ideal S16x128x128 .f32 :=
  if n = 15 then addf (F := Ideal) (outsAt0 m c (n - 1) (Nat.lt_of_le_of_lt (Nat.sub_le _ _) h)).2.1
    (Blocks.dwsAll (F := Ideal) (iblk m c 0 ⟨n, h⟩) (iblk m c 1 ⟨n, h⟩) (iblk m c 2 ⟨n, h⟩) (iblk m c 3 ⟨n, h⟩))
  else (outsAt0 m c n h).2.1

theorem sum7 (i) : raw7 m c tlast.val tlast.isLt i = (k0_pay2 (F := Ideal)) i + ∑ t : Fin cfg0.N, (Blocks.dwsAll (F := Ideal) (iblk m c 0 t) (iblk m c 1 t) (iblk m c 2 t) (iblk m c 3 t)) i := by
  refine Pipeline.eq_sum_fin_of_reset_step_apply_last (raw7 m c) 16 (k0_pay2 (F := Ideal))
    (fun t => Blocks.dwsAll (F := Ideal) (iblk m c 0 t) (iblk m c 1 t) (iblk m c 2 t) (iblk m c 3 t))
    (fun t h i => ?_) (fun t h i => ?_) (by decide +kernel) tlast (by decide +kernel) i
  · rw [raw7, if_neg (by omega), first7 m c t h]; rfl
  · have hv : t.val < 16 := t.isLt
    have hp : raw7 m c (t.val - 1) (Nat.lt_of_le_of_lt (Nat.sub_le _ _) t.isLt)
      = (outsAt0 m c (t.val - 1) (Nat.lt_of_le_of_lt (Nat.sub_le _ _) t.isLt)).2.1 := by
      rw [raw7, if_neg (by omega)]
    rw [hp]
    by_cases h1 : t.val = 15
    · rw [raw7, if_pos h1]; rfl
    · rw [raw7, if_neg h1, next7 m c t h (by omega)]; rfl

theorem arr7 (h : Fin 16) (t s : Fin 128) : (dats m 0 c).arrAt 7 cfg0.N (ix3 h t s)
    = if s ≤ t then raw7 m c tlast.val tlast.isLt (ix3 h t s) else 0 := by
  have e : (dats m 0 c).arrAt 7 cfg0.N = (outsAt0 m c tlast.val tlast.isLt).2.1 := by
    refine (dats m 0 c).arrAt_eq_of_after_last 7 tlast (by decide +kernel) _ fun j => ?_
    blk_simp
    rw [after0_7]
  have e1 : (outsAt0 m c tlast.val tlast.isLt).2.1 = k0_pay1 (F := Ideal) (raw7 m c tlast.val tlast.isLt) := by
    rw [last7 m c tlast rfl, raw7, if_pos (show tlast.val = 15 from rfl)]
  rw [e, e1]
  refine Eq.trans ?_ (Point.causal _ h t s)
  unfold k0_pay1
  dsimp only
  rw [shapeCast_self]

theorem arr6 (i : Fin 2048) (l : Fin 4096) : (dats m 0 c).arrAt 6 cfg0.N (ix2 i l)
    = (outsAt0 m c (headOf i).val (headOf i).isLt).1 (ix2 (laneOf i) l) := by
  have e : (dats m 0 c).arrAt 6 cfg0.N = fun y => (outsAt0 m c (headOf (y 0)).val (headOf (y 0)).isLt).1 (ix2 (laneOf (y 0)) (y 1)) := by
    refine (dats m 0 c).arrAt_eq_of_covers 6 _ (by decide +kernel) fun t hf y => ?_
    blk_simp
    have e : (win0_6.blk t).view.emb y = ix2 (lane (pt t) (y 0)) (y 1) := by
      blk_ext [idx t]
      show t.val * 128 + (y 0).val = 128 * t.val + (y 0).val
      omega
    have e0 : headOf (lane (pt t) (y 0)) = pt t := Fin.ext (by
      show (128 * t.val + (y 0).val) / 128 = t.val
      have : (y 0).val < 128 := (y 0).isLt
      omega)
    have e1 : laneOf (lane (pt t) (y 0)) = y 0 := Fin.ext (by
      show (128 * t.val + (y 0).val) % 128 = (y 0).val
      have : (y 0).val < 128 := (y 0).isLt
      omega)
    rw [after0_6, e]
    show _ = (outsAt0 m c (headOf (lane (pt t) (y 0))).val (headOf (lane (pt t) (y 0))).isLt).1 (ix2 (laneOf (lane (pt t) (y 0))) (y 1))
    simp only [e0, e1]
    exact congrArg (outsAt0 m c t.val t.isLt).1 (eq_ix2 y)
  rw [e]
  rfl

theorem arr8 : (dats m 0 c).arrAt 8 cfg0.N = (outsAt0 m c tlast.val tlast.isLt).2.2.1 := by
  refine (dats m 0 c).arrAt_eq_of_after_last 8 tlast (by decide +kernel) _ fun j => ?_
  blk_simp
  rw [after0_8]

theorem arr9 : (dats m 0 c).arrAt 9 cfg0.N = (outsAt0 m c tlast.val tlast.isLt).2.2.2.1 := by
  refine (dats m 0 c).arrAt_eq_of_after_last 9 tlast (by decide +kernel) _ fun j => ?_
  blk_simp
  rw [after0_9]

theorem arr10 : (dats m 0 c).arrAt 10 cfg0.N = (outsAt0 m c tlast.val tlast.isLt).2.2.2.2 := by
  refine (dats m 0 c).arrAt_eq_of_after_last 10 tlast (by decide +kernel) _ fun j => ?_
  blk_simp
  rw [after0_10]

/-! ## At real arguments -/

variable (Z : Fin 2048 → Fin 4096 → ℝ) (DM : Fin 2048 → Fin 2048 → ℝ) (g b : Fin 2048 → ℝ)
  (w : Fin 16 → Fin 128 → Fin 128 → ℝ) (B : Fin 16 → Fin 128 → ℝ)
  (hZ : ∀ i l, m ((c : Thread nD τ).loc main_arg0) (ix2 i l) = ((Z i l : ℝ) : EReal))
  (hD : ∀ i l, m ((c : Thread nD τ).loc main_arg1) (ix2 i l) = ((DM i l : ℝ) : EReal))
  (hg : ∀ l, m ((c : Thread nD τ).loc main_arg2) (ix2 0 l) = ((g l : ℝ) : EReal))
  (hb : ∀ l, m ((c : Thread nD τ).loc main_arg3) (ix2 0 l) = ((b l : ℝ) : EReal))
  (hw : ∀ h t s, m ((c : Thread nD τ).loc main_arg4) (ix3 h t s) = ((w h t s : ℝ) : EReal))
  (hB : ∀ h t, m ((c : Thread nD τ).loc main_arg5) (ix2 h t) = ((B h t : ℝ) : EReal))

include hZ in
theorem b0 (t : Fin cfg0.N) (r : Fin 128) (l : Fin 4096) : iblk m c 0 t (ix2 r l) = ((Model.zb Z (pt t) r l : ℝ) : EReal) :=
  (iblk0 m c t r l).trans (hZ _ _)

include hD in
theorem b1 (t : Fin cfg0.N) (r : Fin 128) (l : Fin 2048) : iblk m c 1 t (ix2 r l) = ((Model.db' DM (pt t) r l : ℝ) : EReal) :=
  (iblk1 m c t r l).trans (hD _ _)

include hg in
theorem b2 (t : Fin cfg0.N) (l : Fin 2048) : iblk m c 2 t (ix2 0 l) = ((g l : ℝ) : EReal) :=
  (congrFun (iblk2 m c t) _).trans (hg _)

include hb in
theorem b3 (t : Fin cfg0.N) (l : Fin 2048) : iblk m c 3 t (ix2 0 l) = ((b l : ℝ) : EReal) :=
  (congrFun (iblk3 m c t) _).trans (hb _)

include hw in
theorem b4 (t : Fin cfg0.N) (h : Fin 16) (u s : Fin 128) : iblk m c 4 t (ix3 h u s) = ((w h u s : ℝ) : EReal) :=
  (congrFun (iblk4 m c t) _).trans (hw _ _ _)

include hB in
theorem b5 (t : Fin cfg0.N) (s : Fin 128) (h : Fin 16) : iblk m c 5 t (ix2 s h) = ((B h s : ℝ) : EReal) :=
  (iblk5 m c t s h).trans (hB _ _)

include hZ hD hg hb hw hB in
theorem dz_run (i : Fin 2048) (l : Fin 4096) :
    (dats m 0 c).arrAt 6 cfg0.N (ix2 i l) = ((Model.dzW Z DM g b w B i l : ℝ) : EReal) := by
  rw [arr6, outs6 m c ⟨(headOf i).val, (headOf i).isLt⟩]
  exact Point.dz_at _ _ _ _ _ _ _ _ g b w (fun s h => B h s) (b0 m c Z hZ _) (b1 m c DM hD _) (b2 m c g hg _) (b3 m c b hb _) (b4 m c w hw _)
    (b5 m c B hB _) (laneOf i) l

include hZ hD hg hb in
theorem dws_run (h : Fin 16) (t s : Fin 128) :
    (dats m 0 c).arrAt 7 cfg0.N (ix3 h t s) = ((Model.dwsW Z DM g b h t s : ℝ) : EReal) := by
  rw [arr7, sum7, Model.dwsW]
  split
  · rw [← Model.coe_sum, ← sum_pt]
    refine zero_sum _ _ _ Ideal.ofBits_zero_f32 fun n => ?_
    exact Point.dws_at _ _ _ _ _ _ g b (b0 m c Z hZ _) (b1 m c DM hD _) (b2 m c g hg _) (b3 m c b hb _) h t s
  · rfl

include hZ hD in
theorem dbs_run (t k : Fin 128) : (dats m 0 c).arrAt 8 cfg0.N (ix2 t k) = ((Model.dbsW Z DM t k : ℝ) : EReal) := by
  rw [arr8, sum8]
  have e : Model.dbsW Z DM t k = ∑ n, Point.dbsM (Model.zb Z n) (Model.db' DM n) t k := by
    unfold Model.dbsW Point.dbsM
    split
    · rfl
    · simp
  rw [e, ← Model.coe_sum, ← sum_pt]
  refine zero_sum _ _ _ Ideal.ofBits_zero_f32 fun n => ?_
  exact Point.dbs_at _ _ _ _ (b0 m c Z hZ _) (b1 m c DM hD _) t k

include hZ hD hw in
theorem dg_run (l : Fin 2048) : (dats m 0 c).arrAt 9 cfg0.N (ix2 0 l) = ((Model.dgW Z DM w l : ℝ) : EReal) := by
  rw [arr9, sum9, Model.dgW, ← Model.coe_sum, ← sum_pt]
  refine zero_sum _ _ _ Ideal.ofBits_zero_f32 fun n => ?_
  exact Point.dgain_at _ _ _ _ _ w (b0 m c Z hZ _) (b1 m c DM hD _) (b4 m c w hw _) l

include hZ hD hw in
theorem db_run (l : Fin 2048) : (dats m 0 c).arrAt 10 cfg0.N (ix2 0 l) = ((Model.dbW Z DM w l : ℝ) : EReal) := by
  rw [arr10, sum10, Model.dbW, ← Model.coe_sum, ← sum_pt]
  refine zero_sum _ _ _ Ideal.ofBits_zero_f32 fun n => ?_
  exact Point.doff_at _ _ _ _ _ w (b0 m c Z hZ _) (b1 m c DM hD _) (b4 m c w hw _) l

end Cert.Proof.Run

end
-- ==== Proof.RefBack.lean ====
/- The reference's five results at real arguments are the model's gradients. -/
module

public import proofs.«01_k».proof.Proof.Ref
public import Idealize.ShloMosaic.Lib.TwoAxisContraction

@[expose] public section

set_option maxRecDepth 16384
set_option maxHeartbeats 1000000
set_option pp.maxSteps 400

noncomputable section

namespace Cert.Proof.Ref

open Cert.Proof.Consts Cert.ReferenceIdeal Cert.ReferenceIdeal.Gen Cert.ReferenceIdeal.Read Idealize.ShloMosaic
open Cert.Proof.Model (th gel dgel mean xc var rs vh dnorm lane lo hi headOf laneOf uu vv vn mask zb db')

/-! ## The weight's product, contracted over blocks and lanes -/

abbrev DW : DotDims S16x16x128x128 S16x128x16x128 S16x128x128 := dot_S16x16x128x128_S16x128x16x128_S16x128x128_12_03_3_1_0_2

theorem dw_l0 (j : S16x128x128.Idx) (q : DW.contr.Idx) : (DW.lhsIdx j q 0).val = (j 0).val := by
  unfold DotDims.lhsIdx
  rw [dif_pos (show (0 : Fin S16x16x128x128.rank) ∈ DW.lhsBatch by decide)]
  rfl
theorem dw_l1 (j : S16x128x128.Idx) (q : DW.contr.Idx) : (DW.lhsIdx j q 1).val = (q ⟨0, by decide⟩).val := by
  unfold DotDims.lhsIdx
  rw [dif_neg (show ¬(1 : Fin S16x16x128x128.rank) ∈ DW.lhsBatch by decide),
    dif_neg (show ¬(1 : Fin S16x16x128x128.rank) ∈ DW.lhsNonContracting by decide)]
  rfl
theorem dw_l2 (j : S16x128x128.Idx) (q : DW.contr.Idx) : (DW.lhsIdx j q 2).val = (q ⟨1, by decide⟩).val := by
  unfold DotDims.lhsIdx
  rw [dif_neg (show ¬(2 : Fin S16x16x128x128.rank) ∈ DW.lhsBatch by decide),
    dif_neg (show ¬(2 : Fin S16x16x128x128.rank) ∈ DW.lhsNonContracting by decide)]
  rfl
theorem dw_l3 (j : S16x128x128.Idx) (q : DW.contr.Idx) : (DW.lhsIdx j q 3).val = (j 1).val := by
  unfold DotDims.lhsIdx
  rw [dif_neg (show ¬(3 : Fin S16x16x128x128.rank) ∈ DW.lhsBatch by decide),
    dif_pos (show (3 : Fin S16x16x128x128.rank) ∈ DW.lhsNonContracting by decide)]
  rfl
theorem dw_r0 (j : S16x128x128.Idx) (q : DW.contr.Idx) : (DW.rhsIdx j q 0).val = (q ⟨0, by decide⟩).val := by
  unfold DotDims.rhsIdx
  rw [dif_neg (show ¬(0 : Fin S16x128x16x128.rank) ∈ DW.rhsBatch by decide),
    dif_neg (show ¬(0 : Fin S16x128x16x128.rank) ∈ DW.rhsNonContracting by decide)]
  rfl
theorem dw_r1 (j : S16x128x128.Idx) (q : DW.contr.Idx) : (DW.rhsIdx j q 1).val = (j 2).val := by
  unfold DotDims.rhsIdx
  rw [dif_neg (show ¬(1 : Fin S16x128x16x128.rank) ∈ DW.rhsBatch by decide),
    dif_pos (show (1 : Fin S16x128x16x128.rank) ∈ DW.rhsNonContracting by decide)]
  rfl
theorem dw_r2 (j : S16x128x128.Idx) (q : DW.contr.Idx) : (DW.rhsIdx j q 2).val = (j 0).val := by
  unfold DotDims.rhsIdx
  rw [dif_pos (show (2 : Fin S16x128x16x128.rank) ∈ DW.rhsBatch by decide)]
  rfl
theorem dw_r3 (j : S16x128x128.Idx) (q : DW.contr.Idx) : (DW.rhsIdx j q 3).val = (q ⟨1, by decide⟩).val := by
  unfold DotDims.rhsIdx
  rw [dif_neg (show ¬(3 : Fin S16x128x16x128.rank) ∈ DW.rhsBatch by decide),
    dif_neg (show ¬(3 : Fin S16x128x16x128.rank) ∈ DW.rhsNonContracting by decide)]
  rfl

theorem dw_apply (x : FVec Ideal S16x16x128x128 .f32) (y : FVec Ideal S16x128x16x128 .f32) (h : Fin 16) (t s : Fin 128) :
    Host.dotGeneral (F := Ideal) DW none x y (ix3 h t s) = ∑ n : Fin 16, ∑ e : Fin 128, x (ix4 h n e t) * y (ix4 n s h e) := by
  simp only [Host.dotGeneral]
  rw [Ideal.dotGeneral_apply, ValueIdx.sum_contr2 DW 16 128 rfl rfl rfl]
  refine Finset.sum_congr rfl fun n _ => Finset.sum_congr rfl fun e _ => ?_
  have k0 := ValueIdx.contrEquiv2_symm_val0 DW 16 128 rfl rfl rfl (n, e)
  have k1 := ValueIdx.contrEquiv2_symm_val1 DW 16 128 rfl rfl rfl (n, e)
  rw [at4 (DW.lhsIdx _ _) h n e t (dw_l0 _ _) ((dw_l1 _ _).trans k0) ((dw_l2 _ _).trans k1) (dw_l3 _ _),
    at4 (DW.rhsIdx _ _) n s h e ((dw_r0 _ _).trans k0) (dw_r1 _ _) (dw_r2 _ _) ((dw_r3 _ _).trans k1)]

/-! ## The normalisation's gradient -/

theorem sum_xc (f : Fin 2048 → ℝ) : ∑ l, xc f l = 0 := by
  unfold xc mean
  rw [Finset.sum_sub_distrib, Finset.sum_const, Finset.card_univ, Fintype.card_fin, nsmul_eq_mul]
  push_cast
  ring

/-- The gradient as differentiation leaves it: through the reciprocal deviation, through the variance, through the mean. -/
theorem dnorm_eq (f d : Fin 2048 → ℝ) (l : Fin 2048) :
    (d l * rs f + xc f l * ((∑ k, xc f k * d k) * (-(1 / 2) * (rs f * rs f * rs f)) / 2048)
        + (∑ k, xc f k * d k) * (-(1 / 2) * (rs f * rs f * rs f)) / 2048 * xc f l)
      + (∑ k, -(d k * rs f + xc f k * ((∑ k, xc f k * d k) * (-(1 / 2) * (rs f * rs f * rs f)) / 2048)
        + (∑ k, xc f k * d k) * (-(1 / 2) * (rs f * rs f * rs f)) / 2048 * xc f k)) / 2048
    = dnorm f d l := by
  unfold dnorm vh
  have hs := sum_xc f
  have hm : (mean fun k => d k * (xc f k * rs f)) = (∑ k, xc f k * d k) * rs f / 2048 := by
    unfold mean
    rw [Finset.sum_mul]
    exact congrArg (· / 2048) (Finset.sum_congr rfl fun k _ => by ring)
  rw [hm]
  generalize (∑ k, xc f k * d k) = S
  generalize rs f = r
  have hb : (∑ k, -(d k * r + xc f k * (S * (-(1 / 2) * (r * r * r)) / 2048) + S * (-(1 / 2) * (r * r * r)) / 2048 * xc f k))
      = -((∑ k, d k) * r) := by
    rw [Finset.sum_neg_distrib, Finset.sum_add_distrib, Finset.sum_add_distrib, ← Finset.sum_mul, ← Finset.sum_mul, ← Finset.mul_sum, hs]
    ring
  rw [hb]
  unfold mean
  ring

section Arrays

variable (x0 : FVec Ideal S2048x4096 .f32) (x1 : FVec Ideal S2048x2048 .f32) (x2 x3 : FVec Ideal S1x2048 .f32)
  (x4 : FVec Ideal S16x128x128 .f32) (x5 : FVec Ideal S16x128 .f32)
  (Z : Fin 2048 → Fin 4096 → ℝ) (DM : Fin 2048 → Fin 2048 → ℝ) (g b : Fin 2048 → ℝ)
  (w : Fin 16 → Fin 128 → Fin 128 → ℝ) (B : Fin 16 → Fin 128 → ℝ)
  (hZ : ∀ i l, x0 (ix2 i l) = ((Z i l : ℝ) : EReal)) (hD : ∀ i l, x1 (ix2 i l) = ((DM i l : ℝ) : EReal))
  (hg : ∀ l, x2 (ix2 0 l) = ((g l : ℝ) : EReal)) (hb : ∀ l, x3 (ix2 0 l) = ((b l : ℝ) : EReal))
  (hw : ∀ h t s, x4 (ix3 h t s) = ((w h t s : ℝ) : EReal)) (hB : ∀ h t, x5 (ix2 h t) = ((B h t : ℝ) : EReal))

include hZ hD in
theorem dsvT_at (h n : Fin 16) (e t : Fin 128) :
    val_main_v70 (F := Ideal) x0 x1 (ix4 h n e t) = ((Model.dsv (zb Z n) (db' DM n) h t e : ℝ) : EReal) := by
  rw [val_main_v70_apply, at4 (idx_main_v70 (ix4 h n e t)) n t h e rfl rfl rfl rfl, dsv_at x0 x1 Z DM hZ hD]

include hZ hD hg hb in
theorem dws_at (h : Fin 16) (t s : Fin 128) :
    val_main_v74 (F := Ideal) x0 x1 x2 x3 (ix3 h t s) = ((Model.dwsW Z DM g b h t s : ℝ) : EReal) := by
  have e : val_main_v71 (F := Ideal) x0 x1 x2 x3 (ix3 h t s) = ((∑ n, Model.dws (zb Z n) (db' DM n) g b h t s : ℝ) : EReal) := by
    unfold val_main_v71
    rw [dw_apply, ← Model.coe_sum]
    refine Finset.sum_congr rfl fun n _ => ?_
    rw [Model.dws, ← Model.coe_sum]
    refine Finset.sum_congr rfl fun e _ => ?_
    rw [dsvT_at x0 x1 Z DM hZ hD, vn4_at x0 x2 x3 Z g b hZ hg hb, ← EReal.coe_mul]
  rw [val_main_v74_apply, tri_at, e]
  show (if (if s ≤ t then 1#1 else 0#1) = (1#1 : BitVec 1) then _ else val_main_call2_v0 (F := Ideal) (ix3 h t s)) = _
  rw [Model.dwsW]
  by_cases hs : s ≤ t
  · rw [if_pos hs, if_pos rfl, if_pos hs]
  · rw [if_neg hs, if_neg (by decide), if_neg hs, val_main_call2_v0_apply]
    exact Ideal.ofBits_zero_f32

include hZ hD hw in
theorem dvn_at (i l : Fin 2048) : val_main_v75 (F := Ideal) x0 x1 x4 (ix2 i l)
    = ((Model.dvn (zb Z (headOf i)) (db' DM (headOf i)) w (laneOf i) l : ℝ) : EReal) := by
  rw [val_main_v75_apply, at4 (idx_main_v75 (ix2 i l)) (headOf i) (laneOf i) (headOf l) (laneOf l)
    (by show (i.val * 2048 + l.val) / 262144 = i.val / 128; omega)
    (by show (i.val * 2048 + l.val) / 2048 % 128 = i.val % 128; omega)
    (by show (i.val * 2048 + l.val) / 128 % 16 = l.val / 128; omega)
    (by show (i.val * 2048 + l.val) % 128 = l.val % 128; omega), val_main_v73_apply,
    at4 (idx_main_v73 (ix4 (headOf i) (laneOf i) (headOf l) (laneOf l))) (headOf l) (headOf i) (laneOf l) (laneOf i) rfl rfl rfl rfl,
    val_main_v72_apply, Model.dvn, ← Model.coe_sum]
  refine Finset.sum_congr rfl fun t _ => ?_
  rw [at4 (lidx_main_v72 (ix4 (headOf l) (headOf i) (laneOf l) (laneOf i)) t) (headOf l) (headOf i) (laneOf l) t rfl rfl rfl rfl,
    at3 (ridx_main_v72 (ix4 (headOf l) (headOf i) (laneOf l) (laneOf i)) t) (headOf l) t (laneOf i) rfl rfl rfl,
    dsvT_at x0 x1 Z DM hZ hD, mask_at x4 w hw, ← EReal.coe_mul, mul_comm]

theorem head_lane (n : Fin 16) (r : Fin 128) : headOf (lane n r) = n :=
  Fin.ext (by show (128 * n.val + r.val) / 128 = _; omega)
theorem lane_lane (n : Fin 16) (r : Fin 128) : laneOf (lane n r) = r :=
  Fin.ext (by show (128 * n.val + r.val) % 128 = _; omega)

include hZ hD hw in
theorem db_at (l : Fin 2048) : val_main_v77 (F := Ideal) x0 x1 x4 (ix2 0 l) = ((Model.dbW Z DM w l : ℝ) : EReal) := by
  rw [val_main_v77_apply, at1 (idx_main_v77 (ix2 0 l)) l (by show 0 * 2048 + l.val = l.val; omega), val_main_v76_apply]
  refine (sum_of (val_main_cst_17 (F := Ideal) _) _ (fun i => Model.dvn (zb Z (headOf i)) (db' DM (headOf i)) w (laneOf i) l)
    Ideal.ofBits_zero_f32 fun i => ?_).trans ?_
  · rw [at2 (idx_main_v76 (ix1 l) i) i l rfl rfl, dvn_at x0 x1 x4 Z DM w hZ hD hw]
  · rw [sum_rows]
    simp only [head_lane, lane_lane]
    rfl

include hZ hD hw in
theorem dg_at (l : Fin 2048) : val_main_v80 (F := Ideal) x0 x1 x4 (ix2 0 l) = ((Model.dgW Z DM w l : ℝ) : EReal) := by
  rw [val_main_v80_apply, at1 (idx_main_v80 (ix2 0 l)) l (by show 0 * 2048 + l.val = l.val; omega), val_main_v79_apply]
  refine (sum_of (val_main_cst_18 (F := Ideal) _) _
    (fun i => vh (row Z i) l * Model.dvn (zb Z (headOf i)) (db' DM (headOf i)) w (laneOf i) l) Ideal.ofBits_zero_f32 fun i => ?_).trans ?_
  · rw [at2 (idx_main_v79 (ix1 l) i) i l rfl rfl]
    show val_main_v42 (F := Ideal) x0 (ix2 i l) * val_main_v75 (F := Ideal) x0 x1 x4 (ix2 i l) = _
    rw [dvn_at x0 x1 x4 Z DM w hZ hD hw, vh_at x0 Z hZ, ← EReal.coe_mul]
  · rw [sum_rows]
    simp only [head_lane, lane_lane]
    refine EReal.coe_eq_coe_iff.mpr (Finset.sum_congr rfl fun n _ => Finset.sum_congr rfl fun r _ => ?_)
    exact mul_comm _ _

include hZ hD in
theorem dbs_at (t k : Fin 128) : val_main_v120 (F := Ideal) x0 x1 (ix2 t k) = ((Model.dbsW Z DM t k : ℝ) : EReal) := by
  unfold val_main_v120 Model.dbsW
  by_cases h : k.val < 16
  · rw [dif_pos h, pad_apply_of_inside _ _ _ _ _ _ _ _ (ix2 t (⟨k.val, h⟩ : Fin 16))
      (by intro a; match a with
          | ⟨0, _⟩ => show t.val = 0 + t.val * 1; omega
          | ⟨1, _⟩ => show k.val = 0 + k.val * 1; omega), val_main_v119_apply,
      at2 (idx_main_v119 (ix2 t (⟨k.val, h⟩ : Fin 16))) ⟨k.val, h⟩ t rfl rfl, val_main_v69_apply,
      at2 (idx_main_v69 (ix2 (⟨k.val, h⟩ : Fin 16) t)) t ⟨k.val, h⟩ rfl rfl, val_main_v68_apply]
    have e : ∀ q, val_main_v67 (F := Ideal) x0 x1 (idx_main_v68 (ix2 t ⟨k.val, h⟩) q)
        = ((∑ n, Model.dbs (zb Z n) (db' DM n) ⟨k.val, h⟩ t : ℝ) : EReal) := by
      intro q
      rw [val_main_v67_apply, at2 (idx_main_v67 (idx_main_v68 (ix2 t (⟨k.val, h⟩ : Fin 16)) q)) t ⟨k.val, h⟩ rfl rfl]
      refine (sum_outer reducesTo_S1x128x16x1_S128x16_d0_3 (val_main_v65 (F := Ideal) x0 x1) (Ideal.ofBits .f32 0x00000000#32) t ⟨k.val, h⟩).trans ?_
      rw [Ideal.ofBits_zero_f32, zero_add, Fin.sum_univ_one, Fin.sum_univ_one, val_main_v65_apply,
        at2 (idx_main_v65 (ix4 0 t (⟨k.val, h⟩ : Fin 16) 0)) t ⟨k.val, h⟩
          (by show (((0 * 128 + t.val) * 16 + k.val) * 1 + 0) / 16 = t.val; omega)
          (by show (((0 * 128 + t.val) * 16 + k.val) * 1 + 0) % 16 = k.val; omega)]
      refine (sum_outer reducesTo_S16x128x16x128_S128x16_d0_3 (val_main_v63 (F := Ideal) x0 x1) (Ideal.ofBits .f32 0x00000000#32) t ⟨k.val, h⟩).trans ?_
      rw [Ideal.ofBits_zero_f32, zero_add, ← Model.coe_sum]
      refine Finset.sum_congr rfl fun n _ => ?_
      rw [Model.dbs, ← Model.coe_sum]
      exact Finset.sum_congr rfl fun e _ => dsv_at x0 x1 Z DM hZ hD n t ⟨k.val, h⟩ e
    refine (sum_of (val_main_cst_16 (F := Ideal) _) _ (fun _ : Fin 1 => ∑ n, Model.dbs (zb Z n) (db' DM n) ⟨k.val, h⟩ t)
      Ideal.ofBits_zero_f32 e).trans ?_
    rw [Fin.sum_univ_one]
  · rw [dif_neg h, pad_apply_of_not_inside _ _ _ _ _ _ _ _ (1 : Fin 2) (by
      show ¬(0 ≤ k.val ∧ (k.val - 0) % 1 = 0 ∧ (k.val - 0) / 1 < 16); omega)]
    show ((((0#32 : BitVec 32).toInt : ℤ) : ℝ) : EReal) = _
    simp

/-- The cotangent that reaches the normalised half. -/
def dd (i l : Fin 2048) : ℝ := Model.dvn (zb Z (headOf i)) (db' DM (headOf i)) w (laneOf i) l * g l

include hZ hD hw hg in
theorem dd_at (i l : Fin 2048) : val_main_v82 (F := Ideal) x0 x1 x2 x4 (ix2 i l) = ((dd Z DM g w i l : ℝ) : EReal) := by
  show val_main_v75 (F := Ideal) x0 x1 x4 (ix2 i l) * val_main_v81 (F := Ideal) x2 (ix2 i l) = _
  rw [dvn_at x0 x1 x4 Z DM w hZ hD hw, val_main_v81_apply, at2 (idx_main_v81 (ix2 i l)) 0 l rfl rfl, hg, ← EReal.coe_mul]
  rfl

/-- The variance's cotangent, over the row length. -/
def qq (i : Fin 2048) : ℝ :=
  (∑ k, xc (row Z i) k * dd Z DM g w i k) * (-(1 / 2) * (rs (row Z i) * rs (row Z i) * rs (row Z i))) / 2048

include hZ hD hw hg in
theorem qq_at (i l : Fin 2048) : val_main_v92 (F := Ideal) x0 x1 x2 x4 (ix2 i l) = ((qq Z DM g w i : ℝ) : EReal) := by
  have e : ∀ k : Fin 1, val_main_v90 (F := Ideal) x0 x1 x2 x4 (idx_main_v91 (ix1 i) k) = ((qq Z DM g w i : ℝ) : EReal) := by
    intro k
    rw [at2 (idx_main_v91 (ix1 i) k) i k rfl rfl]
    show Ideal.div (val_main_v85 (F := Ideal) x0 x1 x2 x4 (ix2 i k) * val_main_v40 (F := Ideal) x0 (ix2 i k)) (val_main_v89 (F := Ideal) (ix2 i k)) = _
    rw [val_main_v85_apply, at1 (idx_main_v85 (ix2 i k)) i (by show i.val * 1 + k.val = i.val; omega), val_main_v84_apply,
      sum_of (val_main_cst_19 (F := Ideal) _) _ (fun l => xc (row Z i) l * dd Z DM g w i l) Ideal.ofBits_zero_f32 fun l => by
        rw [at2 (idx_main_v84 (ix1 i) l) i l rfl rfl]
        show val_main_v29 (F := Ideal) x0 (ix2 i l) * val_main_v82 (F := Ideal) x0 x1 x2 x4 (ix2 i l) = _
        rw [dev_at x0 Z hZ, dd_at x0 x1 x2 x4 Z DM g w hZ hD hg hw, ← EReal.coe_mul], cub_at x0 Z hZ, val_main_v89_apply]
    show Ideal.div _ (Ideal.ofBits .f32 0x45000000#32) = _
    rw [w_2048, Ideal.div_coe (by norm_num), ← EReal.coe_mul, ← EReal.coe_mul, qq, mul_one_div]
  rw [val_main_v92_apply, at1 (idx_main_v92 (ix2 i l)) i rfl, val_main_v91_apply]
  refine (sum_of (val_main_cst_21 (F := Ideal) _) _ (fun _ : Fin 1 => qq Z DM g w i) Ideal.ofBits_zero_f32 e).trans ?_
  rw [Fin.sum_univ_one]

/-- The normalised half's gradient before the mean is taken off. -/
def mm (i l : Fin 2048) : ℝ := dd Z DM g w i l * rs (row Z i) + xc (row Z i) l * qq Z DM g w i + qq Z DM g w i * xc (row Z i) l

include hZ hD hw hg in
theorem mm_at (i l : Fin 2048) : val_main_v96 (F := Ideal) x0 x1 x2 x4 (ix2 i l) = ((mm Z DM g w i l : ℝ) : EReal) := by
  show val_main_v82 (F := Ideal) x0 x1 x2 x4 (ix2 i l) * val_main_v86 (F := Ideal) x0 (ix2 i l)
    + val_main_v29 (F := Ideal) x0 (ix2 i l) * val_main_v92 (F := Ideal) x0 x1 x2 x4 (ix2 i l)
    + val_main_v92 (F := Ideal) x0 x1 x2 x4 (ix2 i l) * val_main_v29 (F := Ideal) x0 (ix2 i l) = _
  rw [dd_at x0 x1 x2 x4 Z DM g w hZ hD hg hw, val_main_v86_apply, at2 (idx_main_v86 (ix2 i l)) i 0 rfl rfl, rs_at x0 Z hZ,
    dev_at x0 Z hZ, qq_at x0 x1 x2 x4 Z DM g w hZ hD hg hw]
  simp only [← EReal.coe_mul, ← EReal.coe_add]
  rfl

include hZ hD hw hg in
theorem dv_at (i l : Fin 2048) : val_main_v104 (F := Ideal) x0 x1 x2 x4 (ix2 i l)
    = ((dnorm (row Z i) (dd Z DM g w i) l : ℝ) : EReal) := by
  have e : ∀ k : Fin 1, val_main_v101 (F := Ideal) x0 x1 x2 x4 (idx_main_v102 (ix1 i) k) = (((∑ k, -mm Z DM g w i k) / 2048 : ℝ) : EReal) := by
    intro k
    rw [at2 (idx_main_v102 (ix1 i) k) i k rfl rfl]
    show Ideal.div (val_main_v99 (F := Ideal) x0 x1 x2 x4 (ix2 i k)) (val_main_v100 (F := Ideal) (ix2 i k)) = _
    rw [val_main_v99_apply, at1 (idx_main_v99 (ix2 i k)) i (by show i.val * 1 + k.val = i.val; omega), val_main_v98_apply,
      sum_of (val_main_cst_22 (F := Ideal) _) _ (fun l => -mm Z DM g w i l) Ideal.ofBits_zero_f32 fun l => by
        rw [at2 (idx_main_v98 (ix1 i) l) i l rfl rfl]
        show -val_main_v96 (F := Ideal) x0 x1 x2 x4 (ix2 i l) = _
        rw [mm_at x0 x1 x2 x4 Z DM g w hZ hD hg hw, ← EReal.coe_neg], val_main_v100_apply]
    show Ideal.div _ (Ideal.ofBits .f32 0x45000000#32) = _
    rw [w_2048, Ideal.div_coe (by norm_num), ← EReal.coe_mul, mul_one_div]
  show val_main_v96 (F := Ideal) x0 x1 x2 x4 (ix2 i l) + val_main_v103 (F := Ideal) x0 x1 x2 x4 (ix2 i l) = _
  rw [mm_at x0 x1 x2 x4 Z DM g w hZ hD hg hw, val_main_v103_apply, at1 (idx_main_v103 (ix2 i l)) i rfl, val_main_v102_apply,
    sum_of (val_main_cst_24 (F := Ideal) _) _ (fun _ : Fin 1 => (∑ k, -mm Z DM g w i k) / 2048) Ideal.ofBits_zero_f32 e,
    Fin.sum_univ_one, ← EReal.coe_add, ← dnorm_eq]
  rfl

/-- The cotangent of gelu's output, both halves. -/
def dy (i : Fin 2048) (l : Fin 4096) : ℝ :=
  if h : l.val < 2048 then
    DM i ⟨l.val, h⟩ * Model.sv (zb Z (headOf i)) g b w (fun t h => B h t) (headOf ⟨l.val, h⟩) (laneOf i) (laneOf ⟨l.val, h⟩)
  else dnorm (row Z i) (dd Z DM g w i) ⟨l.val - 2048, by omega⟩

include hZ hD hw hg hb hB in
theorem dy_at (i : Fin 2048) (l : Fin 4096) :
    val_main_v105 (F := Ideal) x0 x1 x2 x3 x4 x5 (ix2 i l) = ((dy Z DM g b w B i l : ℝ) : EReal) := by
  unfold val_main_v105 dy
  by_cases h : l.val < 2048
  · rw [dif_pos h, concatenate_pair_apply_left (t := S2048x4096) (s₁ := S2048x2048) (s₂ := S2048x2048) 1 _ _ _ _ rfl (ix2 i (⟨l.val, h⟩ : Fin 2048)) (by
      intro a; match a with
        | ⟨0, _⟩ => rfl
        | ⟨1, _⟩ => rfl), du_at x0 x1 x2 x3 x4 x5 Z DM g b w B hZ hD hg hb hw hB]
  · rw [dif_neg h, concatenate_pair_apply_right (t := S2048x4096) (s₁ := S2048x2048) (s₂ := S2048x2048) 1 _ _ _ _ rfl rfl (ix2 i (⟨l.val - 2048, by omega⟩ : Fin 2048)) (by
      intro a ha; match a with
        | ⟨0, _⟩ => rfl
        | ⟨1, _⟩ => exact absurd rfl ha) (by show l.val - 2048 + 2048 = l.val; omega), dv_at x0 x1 x2 x4 Z DM g w hZ hD hg hw]

include hZ hD hw hg hb hB in
theorem dz_at (i : Fin 2048) (l : Fin 4096) :
    val_main_v118 (F := Ideal) x0 x1 x2 x3 x4 x5 (ix2 i l) = ((Model.dzW Z DM g b w B i l : ℝ) : EReal) := by
  have e : val_main_v112 (F := Ideal) x0 x1 x2 x3 x4 x5 (ix2 i l)
      = ((GC * (1 / 2 * (Z i l * dy Z DM g b w B i l) * (1 - th (Z i l) * th (Z i l))) : ℝ) : EReal) := by
    show val_main_v111 (F := Ideal) (ix2 i l) * (val_main_v108 (F := Ideal) (ix2 i l) * (x0 (ix2 i l)
      * val_main_v105 (F := Ideal) x0 x1 x2 x3 x4 x5 (ix2 i l)) * val_main_v16 (F := Ideal) x0 (ix2 i l)) = _
    rw [val_main_v111_apply, val_main_v108_apply, hZ, dy_at x0 x1 x2 x3 x4 x5 Z DM g b w B hZ hD hg hb hw hB, slope_at x0 Z hZ]
    show Ideal.ofBits .f32 0x3F4C422A#32 * (Ideal.ofBits .f32 0x3F000000#32 * _ * _) = _
    rw [w_gc, w_half]
    simp only [← EReal.coe_mul]
  show val_main_v105 (F := Ideal) x0 x1 x2 x3 x4 x5 (ix2 i l) * val_main_v20 (F := Ideal) x0 (ix2 i l)
    + val_main_v112 (F := Ideal) x0 x1 x2 x3 x4 x5 (ix2 i l)
    + val_main_v114 (F := Ideal) (ix2 i l) * val_main_v112 (F := Ideal) x0 x1 x2 x3 x4 x5 (ix2 i l) * val_main_v5 (F := Ideal) x0 (ix2 i l) = _
  rw [e, val_main_v114_apply, c_at, half_at x0 Z hZ, cube_at x0 Z hZ, dy_at x0 x1 x2 x3 x4 x5 Z DM g b w B hZ hD hg hb hw hB]
  simp only [← EReal.coe_mul, ← EReal.coe_add]
  refine EReal.coe_eq_coe_iff.mpr ?_
  have hd : dy Z DM g b w B i l * (1 / 2 * (1 + th (Z i l))) + GC * (1 / 2 * (Z i l * dy Z DM g b w B i l) * (1 - th (Z i l) * th (Z i l)))
      + 8943 / 200000 * (GC * (1 / 2 * (Z i l * dy Z DM g b w B i l) * (1 - th (Z i l) * th (Z i l)))) * (3 * (Z i l * Z i l))
      = dy Z DM g b w B i l * dgel (Z i l) := by unfold dgel; ring
  rw [hd, Model.dzW]
  by_cases h : l.val < 2048
  · rw [dif_pos h, dy, dif_pos h, Model.dzu, db', row_of, zb, row_of]
    rfl
  · rw [dif_neg h, dy, dif_neg h, Model.dzv]
    have hl : hi ⟨l.val - 2048, by omega⟩ = l := Fin.ext (by show 2048 + (l.val - 2048) = l.val; omega)
    have hr : vv (zb Z (headOf i)) (laneOf i) = row Z i := by
      funext k; show gel (zb Z (headOf i) (laneOf i) (hi k)) = _; rw [zb, row_of]; rfl
    rw [hl, hr, zb, row_of]
    rfl

end Arrays

end Cert.Proof.Ref

end
-- ==== Proof.Algebraic.lean ====
/- The kernel's five results are the reference's. -/
module

public import proofs.«01_k».proof.Defs
public import proofs.«01_k».proof.Proof.Run
public import proofs.«01_k».proof.Proof.RefBack
public import proofs.«01_k».proof.Proof.Finite
public import proofs.«01_k».proof.Proof.Gen.KernelIdeal.Value
public import proofs.«01_k».proof.Proof.Gen.ReferenceIdeal.Run
public import Idealize.ShloMosaic.Lib.Claim
public import proofs.«01_k».proof.Proof.Gen.ReferenceIdeal.Read

@[expose] public section

set_option maxRecDepth 16384
set_option maxHeartbeats 1000000
set_option pp.maxSteps 1200

noncomputable section

namespace Cert.Proof

open Idealize.ShloMosaic Idealize.ShloMosaic.StableHlo Idealize.SL.Sem

section Arrays

variable (m : (ℓ : Loc KernelIdeal.nD KernelIdeal.τ KernelIdeal.sig) → Buf (Elt Ideal) ℓ) (c : Dev KernelIdeal.nD)

/-- The six arrays, as real numbers. -/
def aZ (i : Fin 2048) (l : Fin 4096) : ℝ := EReal.toReal (m ((c.tc : Thread KernelIdeal.nD KernelIdeal.τ).loc KernelIdeal.main_arg0) (ix2 i l))
def aD (i l : Fin 2048) : ℝ := EReal.toReal (m ((c.tc : Thread KernelIdeal.nD KernelIdeal.τ).loc KernelIdeal.main_arg1) (ix2 i l))
def ag (l : Fin 2048) : ℝ := EReal.toReal (m ((c.tc : Thread KernelIdeal.nD KernelIdeal.τ).loc KernelIdeal.main_arg2) (ix2 0 l))
def ab (l : Fin 2048) : ℝ := EReal.toReal (m ((c.tc : Thread KernelIdeal.nD KernelIdeal.τ).loc KernelIdeal.main_arg3) (ix2 0 l))
def aw (h : Fin 16) (t s : Fin 128) : ℝ := EReal.toReal (m ((c.tc : Thread KernelIdeal.nD KernelIdeal.τ).loc KernelIdeal.main_arg4) (ix3 h t s))
def aB (h : Fin 16) (t : Fin 128) : ℝ := EReal.toReal (m ((c.tc : Thread KernelIdeal.nD KernelIdeal.τ).loc KernelIdeal.main_arg5) (ix2 h t))

variable (hp : Pre_KernelIdeal_finite m) (V : Valuation ReferenceIdeal.τ ReferenceIdeal.sig (Elt Ideal))
  (h0 : V (Proc.devRef .tc ReferenceIdeal.main_arg0) = m ((c.tc : Thread KernelIdeal.nD KernelIdeal.τ).loc KernelIdeal.main_arg0))
  (h1 : V (Proc.devRef .tc ReferenceIdeal.main_arg1) = m ((c.tc : Thread KernelIdeal.nD KernelIdeal.τ).loc KernelIdeal.main_arg1))
  (h2 : V (Proc.devRef .tc ReferenceIdeal.main_arg2) = m ((c.tc : Thread KernelIdeal.nD KernelIdeal.τ).loc KernelIdeal.main_arg2))
  (h3 : V (Proc.devRef .tc ReferenceIdeal.main_arg3) = m ((c.tc : Thread KernelIdeal.nD KernelIdeal.τ).loc KernelIdeal.main_arg3))
  (h4 : V (Proc.devRef .tc ReferenceIdeal.main_arg4) = m ((c.tc : Thread KernelIdeal.nD KernelIdeal.τ).loc KernelIdeal.main_arg4))
  (h5 : V (Proc.devRef .tc ReferenceIdeal.main_arg5) = m ((c.tc : Thread KernelIdeal.nD KernelIdeal.τ).loc KernelIdeal.main_arg5))

include hp h0 h1 h2 h3 h4 h5 in
theorem dz_eq : ReferenceIdeal.Read.val_main_v118 (F := Ideal) (V (Proc.devRef .tc ReferenceIdeal.main_arg0)) (V (Proc.devRef .tc ReferenceIdeal.main_arg1)) (V (Proc.devRef .tc ReferenceIdeal.main_arg2)) (V (Proc.devRef .tc ReferenceIdeal.main_arg3)) (V (Proc.devRef .tc ReferenceIdeal.main_arg4)) (V (Proc.devRef .tc ReferenceIdeal.main_arg5)) = (KernelIdeal.Gen.dats m 0 c).arrAt 6 KernelIdeal.cfg0.N := by
  obtain ⟨r0, r1, r2, r3, r4, r5⟩ := Finite.all_real _ _ _ _ _ _ (hp c)
  funext j
  rw [h0, h1, h2, h3, h4, h5, Ref.at2 j (j 0) (j 1) rfl rfl]
  exact (Ref.dz_at _ _ _ _ _ _ (aZ m c) (aD m c) (ag m c) (ab m c) (aw m c) (aB m c) (fun _ _ => r0 _) (fun _ _ => r1 _) (fun _ => r2 _)
    (fun _ => r3 _) (fun _ _ _ => r4 _) (fun _ _ => r5 _) _ _).trans
    (Run.dz_run m c _ _ _ _ _ _ (fun _ _ => r0 _) (fun _ _ => r1 _) (fun _ => r2 _) (fun _ => r3 _) (fun _ _ _ => r4 _) (fun _ _ => r5 _) _ _).symm

include hp h0 h1 h2 h3 in
theorem dws_eq : ReferenceIdeal.Read.val_main_v74 (F := Ideal) (V (Proc.devRef .tc ReferenceIdeal.main_arg0)) (V (Proc.devRef .tc ReferenceIdeal.main_arg1)) (V (Proc.devRef .tc ReferenceIdeal.main_arg2)) (V (Proc.devRef .tc ReferenceIdeal.main_arg3)) = (KernelIdeal.Gen.dats m 0 c).arrAt 7 KernelIdeal.cfg0.N := by
  obtain ⟨r0, r1, r2, r3, r4, r5⟩ := Finite.all_real _ _ _ _ _ _ (hp c)
  funext j
  rw [h0, h1, h2, h3, Ref.at3 j (j 0) (j 1) (j 2) rfl rfl rfl]
  exact (Ref.dws_at _ _ _ _ (aZ m c) (aD m c) (ag m c) (ab m c) (fun _ _ => r0 _) (fun _ _ => r1 _) (fun _ => r2 _) (fun _ => r3 _) _ _ _).trans
    (Run.dws_run m c _ _ _ _ (fun _ _ => r0 _) (fun _ _ => r1 _) (fun _ => r2 _) (fun _ => r3 _) _ _ _).symm

include hp h0 h1 in
theorem dbs_eq : ReferenceIdeal.Read.val_main_v120 (F := Ideal) (V (Proc.devRef .tc ReferenceIdeal.main_arg0)) (V (Proc.devRef .tc ReferenceIdeal.main_arg1)) = (KernelIdeal.Gen.dats m 0 c).arrAt 8 KernelIdeal.cfg0.N := by
  obtain ⟨r0, r1, r2, r3, r4, r5⟩ := Finite.all_real _ _ _ _ _ _ (hp c)
  funext j
  rw [h0, h1, Ref.at2 j (j 0) (j 1) rfl rfl]
  exact (Ref.dbs_at _ _ (aZ m c) (aD m c) (fun _ _ => r0 _) (fun _ _ => r1 _) _ _).trans
    (Run.dbs_run m c _ _ (fun _ _ => r0 _) (fun _ _ => r1 _) _ _).symm

theorem row_index (j : (⟨2, ![1, 2048]⟩ : Shape).Idx) : j = ix2 0 (j 1) :=
  Ref.at2 j 0 (j 1) (by have : (j 0).val < 1 := (j 0).isLt; show (j 0).val = 0; omega) rfl

include hp h0 h1 h4 in
theorem dg_eq : ReferenceIdeal.Read.val_main_v80 (F := Ideal) (V (Proc.devRef .tc ReferenceIdeal.main_arg0)) (V (Proc.devRef .tc ReferenceIdeal.main_arg1)) (V (Proc.devRef .tc ReferenceIdeal.main_arg4)) = (KernelIdeal.Gen.dats m 0 c).arrAt 9 KernelIdeal.cfg0.N := by
  obtain ⟨r0, r1, r2, r3, r4, r5⟩ := Finite.all_real _ _ _ _ _ _ (hp c)
  funext j
  rw [h0, h1, h4, row_index j]
  exact (Ref.dg_at _ _ _ (aZ m c) (aD m c) (aw m c) (fun _ _ => r0 _) (fun _ _ => r1 _) (fun _ _ _ => r4 _) _).trans
    (Run.dg_run m c _ _ _ (fun _ _ => r0 _) (fun _ _ => r1 _) (fun _ _ _ => r4 _) _).symm

include hp h0 h1 h4 in
theorem db_eq : ReferenceIdeal.Read.val_main_v77 (F := Ideal) (V (Proc.devRef .tc ReferenceIdeal.main_arg0)) (V (Proc.devRef .tc ReferenceIdeal.main_arg1)) (V (Proc.devRef .tc ReferenceIdeal.main_arg4)) = (KernelIdeal.Gen.dats m 0 c).arrAt 10 KernelIdeal.cfg0.N := by
  obtain ⟨r0, r1, r2, r3, r4, r5⟩ := Finite.all_real _ _ _ _ _ _ (hp c)
  funext j
  rw [h0, h1, h4, row_index j]
  exact (Ref.db_at _ _ _ (aZ m c) (aD m c) (aw m c) (fun _ _ => r0 _) (fun _ _ => r1 _) (fun _ _ _ => r4 _) _).trans
    (Run.db_run m c _ _ _ (fun _ _ => r0 _) (fun _ _ => r1 _) (fun _ _ _ => r4 _) _).symm

end Arrays

theorem algebraic : Cert.algebraic_KernelIdeal_ReferenceIdeal_pre_finite := by
  pair_intro
  · run_from Cert.KernelIdeal.Value.run_blocks m g
  · run_from Cert.ReferenceIdeal.Value.run m' g'
    · have e := (ReferenceIdeal.Read.val_main_v118_eq (F := Ideal) (StableHlo.launchContents m' c)).trans
        (dz_eq m c hpre _ (hagree c).1 (hagree c).2.1 (hagree c).2.2.1 (hagree c).2.2.2.1 (hagree c).2.2.2.2.1 (hagree c).2.2.2.2.2)
      rw [launchContents_devRef, (hagree c).1] at e
      exact e
    · exact (ReferenceIdeal.Read.val_main_v74_eq (F := Ideal) (StableHlo.launchContents m' c)).trans
        (dws_eq m c hpre _ (hagree c).1 (hagree c).2.1 (hagree c).2.2.1 (hagree c).2.2.2.1)
    · exact (ReferenceIdeal.Read.val_main_v120_eq (F := Ideal) (StableHlo.launchContents m' c)).trans
        (dbs_eq m c hpre _ (hagree c).1 (hagree c).2.1)
    · exact (ReferenceIdeal.Read.val_main_v80_eq (F := Ideal) (StableHlo.launchContents m' c)).trans
        (dg_eq m c hpre _ (hagree c).1 (hagree c).2.1 (hagree c).2.2.2.2.1)
    · exact (ReferenceIdeal.Read.val_main_v77_eq (F := Ideal) (StableHlo.launchContents m' c)).trans
        (db_eq m c hpre _ (hagree c).1 (hagree c).2.1 (hagree c).2.2.2.2.1)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DownDx.Frame
public import proofs.«01_k».proof.Proof.Gen.DownDxIdeal.Value
public import proofs.«01_k».proof.Proof.Gen.DownDxRefIdeal.Read
public import proofs.«01_k».proof.Proof.Gen.Pre_finite_down
public import proofs.«01_k».proof.Proof.Gen.UpDx.Frame
public import proofs.«01_k».proof.Proof.Gen.UpDxIdeal.Value
public import proofs.«01_k».proof.Proof.Gen.UpDxRefIdeal.Read
public import proofs.«01_k».proof.Proof.Gen.UpDw.Frame
public import proofs.«01_k».proof.Proof.Gen.UpDwIdeal.Value
public import proofs.«01_k».proof.Proof.Gen.UpDwRefIdeal.Read
public import proofs.«01_k».proof.Proof.Gen.DownDw.Frame
public import proofs.«01_k».proof.Proof.Gen.DownDwIdeal.Value
public import proofs.«01_k».proof.Proof.Gen.DownDwRefIdeal.Read
public import proofs.«01_k».proof.Proof.Gen.SqDw.Frame
public import proofs.«01_k».proof.Proof.Gen.SqDwIdeal.Value
public import proofs.«01_k».proof.Proof.Gen.SqDwRefIdeal.Read
public import proofs.«01_k».proof.Proof.Gen.ColDw.Frame
public import proofs.«01_k».proof.Proof.Gen.ColDwIdeal.Value
public import proofs.«01_k».proof.Proof.Gen.ColDwRefIdeal.Read
public import proofs.«01_k».proof.Proof.Gen.ProjDw.Frame
public import proofs.«01_k».proof.Proof.Gen.ProjDwIdeal.Value
public import proofs.«01_k».proof.Proof.Gen.ProjDwRefIdeal.Read
public import proofs.«01_k».proof.Proof.Gen.SqDx.Frame
public import proofs.«01_k».proof.Proof.Gen.SqDxIdeal.Value
public import proofs.«01_k».proof.Proof.Gen.SqDxRefIdeal.Read
public import proofs.«01_k».proof.Proof.Gen.ColDx.Frame
public import proofs.«01_k».proof.Proof.Gen.ColDxIdeal.Value
public import proofs.«01_k».proof.Proof.Gen.ColDxRefIdeal.Read
public import proofs.«01_k».proof.Proof.Gen.FfnUp.Frame
public import proofs.«01_k».proof.Proof.Gen.FfnUpIdeal.Value
public import proofs.«01_k».proof.Proof.Gen.FfnUpRefIdeal.Read
public import proofs.«01_k».proof.Proof.Gen.FfnDown.Frame
public import proofs.«01_k».proof.Proof.Gen.FfnDownIdeal.Value
public import proofs.«01_k».proof.Proof.Gen.FfnDownRefIdeal.Read
public import proofs.«01_k».proof.Proof.Gen.GmIn.Frame
public import proofs.«01_k».proof.Proof.Gen.GmInIdeal.Value
public import proofs.«01_k».proof.Proof.Gen.GmInRefIdeal.Read
public import proofs.«01_k».proof.Proof.Gen.GmOut.Frame
public import proofs.«01_k».proof.Proof.Gen.GmOutIdeal.Value
public import proofs.«01_k».proof.Proof.Gen.GmOutRefIdeal.Read
public import proofs.«01_k».proof.Proof.Gen.S5In.Frame
public import proofs.«01_k».proof.Proof.Gen.S5InIdeal.Value
public import proofs.«01_k».proof.Proof.Gen.S5InRefIdeal.Read
public import proofs.«01_k».proof.Proof.Gen.S5Out.Frame
public import proofs.«01_k».proof.Proof.Gen.S5OutIdeal.Value
public import proofs.«01_k».proof.Proof.Gen.S5OutRefIdeal.Read
public import proofs.«01_k».proof.Proof.Gen.PleGate.Frame
public import proofs.«01_k».proof.Proof.Gen.PleGateIdeal.Value
public import proofs.«01_k».proof.Proof.Gen.PleGateRefIdeal.Read
public import proofs.«01_k».proof.Proof.Gen.RmsFwd.Frame
public import proofs.«01_k».proof.Proof.Gen.RmsFwdIdeal.Value
public import proofs.«01_k».proof.Proof.Gen.RmsFwdRefIdeal.Read
public import proofs.«01_k».proof.Proof.Gen.PleBwd.Frame
public import proofs.«01_k».proof.Proof.Gen.PleBwdIdeal.Value
public import proofs.«01_k».proof.Proof.Gen.PleBwdRefIdeal.Read
public import proofs.«01_k».proof.Proof.Gen.GluBwd.Frame
public import proofs.«01_k».proof.Proof.Gen.GluBwdIdeal.Value
public import proofs.«01_k».proof.Proof.Gen.GluBwdRefIdeal.Read
public import proofs.«01_k».proof.Proof.Gen.RmsBwd.Frame
public import proofs.«01_k».proof.Proof.Gen.RmsBwdIdeal.Value
public import proofs.«01_k».proof.Proof.Gen.RmsBwdRefIdeal.Read
public import proofs.«01_k».proof.Proof.Gen.AdamCol.Frame
public import proofs.«01_k».proof.Proof.Gen.AdamColIdeal.Frame
public import proofs.«01_k».proof.Proof.Gen.AdamColRefIdeal.Read
public import proofs.«01_k».proof.Proof.Gen.AdamRow.Frame
public import proofs.«01_k».proof.Proof.Gen.AdamRowIdeal.Frame
public import proofs.«01_k».proof.Proof.Gen.AdamRowRefIdeal.Read
public import proofs.«01_k».proof.Proof.Gen.AdamUp.Frame
public import proofs.«01_k».proof.Proof.Gen.AdamUpIdeal.Frame
public import proofs.«01_k».proof.Proof.Gen.AdamUpRefIdeal.Read
public import proofs.«01_k».proof.Proof.Gen.AdamDown.Frame
public import proofs.«01_k».proof.Proof.Gen.AdamDownIdeal.Frame
public import proofs.«01_k».proof.Proof.Gen.AdamDownRefIdeal.Read
public import proofs.«01_k».proof.Proof.Gen.AdamGate.Frame
public import proofs.«01_k».proof.Proof.Gen.AdamGateIdeal.Frame
public import proofs.«01_k».proof.Proof.Gen.AdamGateRefIdeal.Read
public import proofs.«01_k».proof.Proof.Gen.AdamProj.Frame
public import proofs.«01_k».proof.Proof.Gen.AdamProjIdeal.Frame
public import proofs.«01_k».proof.Proof.Gen.AdamProjRefIdeal.Read
public import proofs.«01_k».proof.Proof.Gen.AdamUp2.Frame
public import proofs.«01_k».proof.Proof.Gen.AdamUp2Ideal.Frame
public import proofs.«01_k».proof.Proof.Gen.AdamUp2RefIdeal.Read
public import proofs.«01_k».proof.Proof.Gen.AdamDown2.Frame
public import proofs.«01_k».proof.Proof.Gen.AdamDown2Ideal.Frame
public import proofs.«01_k».proof.Proof.Gen.AdamDown2RefIdeal.Read
public import proofs.«01_k».proof.Proof.Gen.AdamGate2.Frame
public import proofs.«01_k».proof.Proof.Gen.AdamGate2Ideal.Frame
public import proofs.«01_k».proof.Proof.Gen.AdamGate2RefIdeal.Read
public import proofs.«01_k».proof.Proof.Gen.AdamProj2.Frame
public import proofs.«01_k».proof.Proof.Gen.AdamProj2Ideal.Frame
public import proofs.«01_k».proof.Proof.Gen.AdamProj2RefIdeal.Read
public import proofs.«01_k».proof.Proof.Gen.LossHead.Frame
public import proofs.«01_k».proof.Proof.Gen.LossHeadIdeal.Value
public import proofs.«01_k».proof.Proof.Gen.LossHeadRefIdeal.Read
public import proofs.«01_k».proof.Proof.Gen.GmlpFwd.Frame
public import proofs.«01_k».proof.Proof.Gen.GmlpFwdIdeal.Value
public import proofs.«01_k».proof.Proof.Gen.GmlpFwdRefIdeal.Read
public import proofs.«01_k».proof.Proof.DownDx
public import proofs.«01_k».proof.Proof.UpDx
public import proofs.«01_k».proof.Proof.UpDw
public import proofs.«01_k».proof.Proof.DownDw
public import proofs.«01_k».proof.Proof.SqDw
public import proofs.«01_k».proof.Proof.ColDw
public import proofs.«01_k».proof.Proof.ProjDw
public import proofs.«01_k».proof.Proof.SqDx
public import proofs.«01_k».proof.Proof.ColDx
public import proofs.«01_k».proof.Proof.FfnUp
public import proofs.«01_k».proof.Proof.FfnDown
public import proofs.«01_k».proof.Proof.GmIn
public import proofs.«01_k».proof.Proof.GmOut
public import proofs.«01_k».proof.Proof.S5In
public import proofs.«01_k».proof.Proof.S5Out
public import proofs.«01_k».proof.Proof.PleGate
public import proofs.«01_k».proof.Proof.RmsFwd
public import proofs.«01_k».proof.Proof.PleBwd
public import proofs.«01_k».proof.Proof.GluBwd
public import proofs.«01_k».proof.Proof.RmsBwd
public import proofs.«01_k».proof.Proof.AdamCol
public import proofs.«01_k».proof.Proof.AdamRow
public import proofs.«01_k».proof.Proof.AdamUp
public import proofs.«01_k».proof.Proof.AdamDown
public import proofs.«01_k».proof.Proof.AdamGate
public import proofs.«01_k».proof.Proof.AdamProj
public import proofs.«01_k».proof.Proof.AdamUp2
public import proofs.«01_k».proof.Proof.AdamDown2
public import proofs.«01_k».proof.Proof.AdamGate2
public import proofs.«01_k».proof.Proof.AdamProj2
public import proofs.«01_k».proof.Proof.LossHead
public import proofs.«01_k».proof.Proof.GmlpFwd
public import proofs.«01_k».proof.Proof.Gen.Pre_finite
public import proofs.«01_k».proof.Proof.Algebraic
public import Idealize.ShloMosaic.Adequacy
public import Idealize.ShloMosaic.Init

@[expose] public section

noncomputable section

namespace Cert.Proof

open Idealize.ShloMosaic Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem frame_ri_finite : Cert.quiescent_ReferenceIdeal_pre_finite := fun m ρ _ => frame_ri m ρ trivial

theorem preserves : Cert.preserves_Kernel_KernelIdeal :=
  ⟨IdealRules.named_const.statement Cert.KernelIdeal.κ "gelu_c" .f32 0x3D372713#32 _ rfl,
    IdealRules.named_const.statement Cert.KernelIdeal.κ "gelu_3c" .f32 0x3E095D4F#32 _ rfl⟩

theorem downDx_frame_ref : Cert.quiescent_DownDxRefIdeal := fun m ρ _ => (θ_run Cert.DownDxRefIdeal.defs _ _).mono (fun r h => ⟨fun c => (h c).2.2, sem_eq_zero_of_no_sems (by decide) r.2⟩) (Cert.DownDxRefIdeal.Value.run (F := Ideal) m ρ)

theorem claim : Cert.Claim :=
  ⟨Cert.Kernel.Gen.facts, Cert.KernelIdeal.Gen.facts, Cert.ReferenceIdeal.Gen.facts, Cert.DownDx.Gen.facts, Cert.DownDxIdeal.Gen.facts, Cert.DownDxRefIdeal.Gen.facts, Cert.UpDx.Gen.facts, Cert.UpDxIdeal.Gen.facts, Cert.UpDxRefIdeal.Gen.facts, Cert.UpDw.Gen.facts, Cert.UpDwIdeal.Gen.facts, Cert.UpDwRefIdeal.Gen.facts, Cert.DownDw.Gen.facts, Cert.DownDwIdeal.Gen.facts, Cert.DownDwRefIdeal.Gen.facts, Cert.SqDw.Gen.facts, Cert.SqDwIdeal.Gen.facts, Cert.SqDwRefIdeal.Gen.facts, Cert.ColDw.Gen.facts, Cert.ColDwIdeal.Gen.facts, Cert.ColDwRefIdeal.Gen.facts, Cert.ProjDw.Gen.facts, Cert.ProjDwIdeal.Gen.facts, Cert.ProjDwRefIdeal.Gen.facts, Cert.SqDx.Gen.facts, Cert.SqDxIdeal.Gen.facts, Cert.SqDxRefIdeal.Gen.facts, Cert.ColDx.Gen.facts, Cert.ColDxIdeal.Gen.facts, Cert.ColDxRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.GmIn.Gen.facts, Cert.GmInIdeal.Gen.facts, Cert.GmInRefIdeal.Gen.facts, Cert.GmOut.Gen.facts, Cert.GmOutIdeal.Gen.facts, Cert.GmOutRefIdeal.Gen.facts, Cert.S5In.Gen.facts, Cert.S5InIdeal.Gen.facts, Cert.S5InRefIdeal.Gen.facts, Cert.S5Out.Gen.facts, Cert.S5OutIdeal.Gen.facts, Cert.S5OutRefIdeal.Gen.facts, Cert.PleGate.Gen.facts, Cert.PleGateIdeal.Gen.facts, Cert.PleGateRefIdeal.Gen.facts, Cert.RmsFwd.Gen.facts, Cert.RmsFwdIdeal.Gen.facts, Cert.RmsFwdRefIdeal.Gen.facts, Cert.PleBwd.Gen.facts, Cert.PleBwdIdeal.Gen.facts, Cert.PleBwdRefIdeal.Gen.facts, Cert.GluBwd.Gen.facts, Cert.GluBwdIdeal.Gen.facts, Cert.GluBwdRefIdeal.Gen.facts, Cert.RmsBwd.Gen.facts, Cert.RmsBwdIdeal.Gen.facts, Cert.RmsBwdRefIdeal.Gen.facts, Cert.AdamCol.Gen.facts, Cert.AdamColIdeal.Gen.facts, Cert.AdamColRefIdeal.Gen.facts, Cert.AdamRow.Gen.facts, Cert.AdamRowIdeal.Gen.facts, Cert.AdamRowRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.AdamGate.Gen.facts, Cert.AdamGateIdeal.Gen.facts, Cert.AdamGateRefIdeal.Gen.facts, Cert.AdamProj.Gen.facts, Cert.AdamProjIdeal.Gen.facts, Cert.AdamProjRefIdeal.Gen.facts, Cert.AdamUp2.Gen.facts, Cert.AdamUp2Ideal.Gen.facts, Cert.AdamUp2RefIdeal.Gen.facts, Cert.AdamDown2.Gen.facts, Cert.AdamDown2Ideal.Gen.facts, Cert.AdamDown2RefIdeal.Gen.facts, Cert.AdamGate2.Gen.facts, Cert.AdamGate2Ideal.Gen.facts, Cert.AdamGate2RefIdeal.Gen.facts, Cert.AdamProj2.Gen.facts, Cert.AdamProj2Ideal.Gen.facts, Cert.AdamProj2RefIdeal.Gen.facts, Cert.LossHead.Gen.facts, Cert.LossHeadIdeal.Gen.facts, Cert.LossHeadRefIdeal.Gen.facts, Cert.GmlpFwd.Gen.facts, Cert.GmlpFwdIdeal.Gen.facts, Cert.GmlpFwdRefIdeal.Gen.facts, Cert.Pre_finite.Gen.facts, Cert.Pre_finite_down.Gen.facts,
    frame_p, frame_pi, frame_pi_finite, frame_ri, frame_ri_finite,
    fun m ρ _ => Cert.DownDx.Gen.frame m ρ,
    fun m ρ _ => Cert.DownDxIdeal.Gen.frame m ρ,
    fun m ρ _ => Cert.DownDxIdeal.Gen.frame m ρ,
    downDx_frame_ref,
    fun m ρ _ => downDx_frame_ref m ρ trivial,
    fun m ρ _ => Cert.UpDx.Gen.frame m ρ,
    fun m ρ _ => Cert.UpDxIdeal.Gen.frame m ρ,
    fun m ρ _ => (θ_run Cert.UpDxRefIdeal.defs _ _).mono (fun r h => ⟨fun c => (h c).2, sem_eq_zero_of_no_sems (by decide) r.2⟩) (Cert.UpDxRefIdeal.Value.run (F := Ideal) m ρ),
    fun m ρ _ => Cert.UpDw.Gen.frame m ρ,
    fun m ρ _ => Cert.UpDwIdeal.Gen.frame m ρ,
    fun m ρ _ => (θ_run Cert.UpDwRefIdeal.defs _ _).mono (fun r h => ⟨fun c => (h c).2.2, sem_eq_zero_of_no_sems (by decide) r.2⟩) (Cert.UpDwRefIdeal.Value.run (F := Ideal) m ρ),
    fun m ρ _ => Cert.DownDw.Gen.frame m ρ,
    fun m ρ _ => Cert.DownDwIdeal.Gen.frame m ρ,
    fun m ρ _ => (θ_run Cert.DownDwRefIdeal.defs _ _).mono (fun r h => ⟨fun c => (h c).2, sem_eq_zero_of_no_sems (by decide) r.2⟩) (Cert.DownDwRefIdeal.Value.run (F := Ideal) m ρ),
    fun m ρ _ => Cert.SqDw.Gen.frame m ρ,
    fun m ρ _ => Cert.SqDwIdeal.Gen.frame m ρ,
    fun m ρ _ => (θ_run Cert.SqDwRefIdeal.defs _ _).mono (fun r h => ⟨fun c => (h c).2, sem_eq_zero_of_no_sems (by decide) r.2⟩) (Cert.SqDwRefIdeal.Value.run (F := Ideal) m ρ),
    fun m ρ _ => Cert.ColDw.Gen.frame m ρ,
    fun m ρ _ => Cert.ColDwIdeal.Gen.frame m ρ,
    fun m ρ _ => (θ_run Cert.ColDwRefIdeal.defs _ _).mono (fun r h => ⟨fun c => (h c).2, sem_eq_zero_of_no_sems (by decide) r.2⟩) (Cert.ColDwRefIdeal.Value.run (F := Ideal) m ρ),
    fun m ρ _ => Cert.ProjDw.Gen.frame m ρ,
    fun m ρ _ => Cert.ProjDwIdeal.Gen.frame m ρ,
    fun m ρ _ => (θ_run Cert.ProjDwRefIdeal.defs _ _).mono (fun r h => ⟨fun c => (h c).2, sem_eq_zero_of_no_sems (by decide) r.2⟩) (Cert.ProjDwRefIdeal.Value.run (F := Ideal) m ρ),
    fun m ρ _ => Cert.SqDx.Gen.frame m ρ,
    fun m ρ _ => Cert.SqDxIdeal.Gen.frame m ρ,
    fun m ρ _ => (θ_run Cert.SqDxRefIdeal.defs _ _).mono (fun r h => ⟨fun c => (h c).2, sem_eq_zero_of_no_sems (by decide) r.2⟩) (Cert.SqDxRefIdeal.Value.run (F := Ideal) m ρ),
    fun m ρ _ => Cert.ColDx.Gen.frame m ρ,
    fun m ρ _ => Cert.ColDxIdeal.Gen.frame m ρ,
    fun m ρ _ => (θ_run Cert.ColDxRefIdeal.defs _ _).mono (fun r h => ⟨fun c => (h c).2, sem_eq_zero_of_no_sems (by decide) r.2⟩) (Cert.ColDxRefIdeal.Value.run (F := Ideal) m ρ),
    fun m ρ _ => Cert.FfnUp.Gen.frame m ρ,
    fun m ρ _ => Cert.FfnUpIdeal.Gen.frame m ρ,
    fun m ρ _ => (θ_run Cert.FfnUpRefIdeal.defs _ _).mono (fun r h => ⟨fun c => (h c).2.2.2, sem_eq_zero_of_no_sems (by decide) r.2⟩) (Cert.FfnUpRefIdeal.Value.run (F := Ideal) m ρ),
    fun m ρ _ => Cert.FfnDown.Gen.frame m ρ,
    fun m ρ _ => Cert.FfnDownIdeal.Gen.frame m ρ,
    fun m ρ _ => (θ_run Cert.FfnDownRefIdeal.defs _ _).mono (fun r h => ⟨fun c => (h c).2, sem_eq_zero_of_no_sems (by decide) r.2⟩) (Cert.FfnDownRefIdeal.Value.run (F := Ideal) m ρ),
    fun m ρ _ => Cert.GmIn.Gen.frame m ρ,
    fun m ρ _ => Cert.GmInIdeal.Gen.frame m ρ,
    fun m ρ _ => (θ_run Cert.GmInRefIdeal.defs _ _).mono (fun r h => ⟨fun c => (h c).2, sem_eq_zero_of_no_sems (by decide) r.2⟩) (Cert.GmInRefIdeal.Value.run (F := Ideal) m ρ),
    fun m ρ _ => Cert.GmOut.Gen.frame m ρ,
    fun m ρ _ => Cert.GmOutIdeal.Gen.frame m ρ,
    fun m ρ _ => (θ_run Cert.GmOutRefIdeal.defs _ _).mono (fun r h => ⟨fun c => (h c).2, sem_eq_zero_of_no_sems (by decide) r.2⟩) (Cert.GmOutRefIdeal.Value.run (F := Ideal) m ρ),
    fun m ρ _ => Cert.S5In.Gen.frame m ρ,
    fun m ρ _ => Cert.S5InIdeal.Gen.frame m ρ,
    fun m ρ _ => (θ_run Cert.S5InRefIdeal.defs _ _).mono (fun r h => ⟨fun c => (h c).2, sem_eq_zero_of_no_sems (by decide) r.2⟩) (Cert.S5InRefIdeal.Value.run (F := Ideal) m ρ),
    fun m ρ _ => Cert.S5Out.Gen.frame m ρ,
    fun m ρ _ => Cert.S5OutIdeal.Gen.frame m ρ,
    fun m ρ _ => (θ_run Cert.S5OutRefIdeal.defs _ _).mono (fun r h => ⟨fun c => (h c).2.2.2, sem_eq_zero_of_no_sems (by decide) r.2⟩) (Cert.S5OutRefIdeal.Value.run (F := Ideal) m ρ),
    fun m ρ _ => Cert.PleGate.Gen.frame m ρ,
    fun m ρ _ => Cert.PleGateIdeal.Gen.frame m ρ,
    fun m ρ _ => (θ_run Cert.PleGateRefIdeal.defs _ _).mono (fun r h => ⟨fun c => (h c).2.2.2, sem_eq_zero_of_no_sems (by decide) r.2⟩) (Cert.PleGateRefIdeal.Value.run (F := Ideal) m ρ),
    fun m ρ _ => Cert.RmsFwd.Gen.frame m ρ,
    fun m ρ _ => Cert.RmsFwdIdeal.Gen.frame m ρ,
    fun m ρ _ => (θ_run Cert.RmsFwdRefIdeal.defs _ _).mono (fun r h => ⟨fun c => (h c).2, sem_eq_zero_of_no_sems (by decide) r.2⟩) (Cert.RmsFwdRefIdeal.Value.run (F := Ideal) m ρ),
    fun m ρ _ => Cert.PleBwd.Gen.frame m ρ,
    fun m ρ _ => Cert.PleBwdIdeal.Gen.frame m ρ,
    fun m ρ _ => (θ_run Cert.PleBwdRefIdeal.defs _ _).mono (fun r h => ⟨fun c => (h c).2.2, sem_eq_zero_of_no_sems (by decide) r.2⟩) (Cert.PleBwdRefIdeal.Value.run (F := Ideal) m ρ),
    fun m ρ _ => Cert.GluBwd.Gen.frame m ρ,
    fun m ρ _ => Cert.GluBwdIdeal.Gen.frame m ρ,
    fun m ρ _ => (θ_run Cert.GluBwdRefIdeal.defs _ _).mono (fun r h => ⟨fun c => (h c).2, sem_eq_zero_of_no_sems (by decide) r.2⟩) (Cert.GluBwdRefIdeal.Value.run (F := Ideal) m ρ),
    fun m ρ _ => Cert.RmsBwd.Gen.frame m ρ,
    fun m ρ _ => Cert.RmsBwdIdeal.Gen.frame m ρ,
    fun m ρ _ => (θ_run Cert.RmsBwdRefIdeal.defs _ _).mono (fun r h => ⟨fun c => (h c).2.2.2, sem_eq_zero_of_no_sems (by decide) r.2⟩) (Cert.RmsBwdRefIdeal.Value.run (F := Ideal) m ρ),
    fun m ρ _ => Cert.AdamCol.Gen.frame m ρ (Cert.Proof.AdamCol.okBits m),
    fun m ρ _ => Cert.AdamColIdeal.Gen.frame m ρ (Cert.Proof.AdamCol.ok m),
    fun m ρ _ => (θ_run Cert.AdamColRefIdeal.defs _ _).mono (fun r h => ⟨fun c => (h c).2.2.2.2, sem_eq_zero_of_no_sems (by decide) r.2⟩) (Cert.AdamColRefIdeal.Value.run (F := Ideal) m ρ),
    fun m ρ _ => Cert.AdamRow.Gen.frame m ρ (Cert.Proof.AdamRow.okBits m),
    fun m ρ _ => Cert.AdamRowIdeal.Gen.frame m ρ (Cert.Proof.AdamRow.ok m),
    fun m ρ _ => (θ_run Cert.AdamRowRefIdeal.defs _ _).mono (fun r h => ⟨fun c => (h c).2.2.2.2, sem_eq_zero_of_no_sems (by decide) r.2⟩) (Cert.AdamRowRefIdeal.Value.run (F := Ideal) m ρ),
    fun m ρ _ => Cert.AdamUp.Gen.frame m ρ (Cert.Proof.AdamUp.okBits m),
    fun m ρ _ => Cert.AdamUpIdeal.Gen.frame m ρ (Cert.Proof.AdamUp.ok m),
    fun m ρ _ => (θ_run Cert.AdamUpRefIdeal.defs _ _).mono (fun r h => ⟨fun c => (h c).2.2.2.2, sem_eq_zero_of_no_sems (by decide) r.2⟩) (Cert.AdamUpRefIdeal.Value.run (F := Ideal) m ρ),
    fun m ρ _ => Cert.AdamDown.Gen.frame m ρ (Cert.Proof.AdamDown.okBits m),
    fun m ρ _ => Cert.AdamDownIdeal.Gen.frame m ρ (Cert.Proof.AdamDown.ok m),
    fun m ρ _ => (θ_run Cert.AdamDownRefIdeal.defs _ _).mono (fun r h => ⟨fun c => (h c).2.2.2.2, sem_eq_zero_of_no_sems (by decide) r.2⟩) (Cert.AdamDownRefIdeal.Value.run (F := Ideal) m ρ),
    fun m ρ _ => Cert.AdamGate.Gen.frame m ρ (Cert.Proof.AdamGate.okBits m),
    fun m ρ _ => Cert.AdamGateIdeal.Gen.frame m ρ (Cert.Proof.AdamGate.ok m),
    fun m ρ _ => (θ_run Cert.AdamGateRefIdeal.defs _ _).mono (fun r h => ⟨fun c => (h c).2.2.2.2, sem_eq_zero_of_no_sems (by decide) r.2⟩) (Cert.AdamGateRefIdeal.Value.run (F := Ideal) m ρ),
    fun m ρ _ => Cert.AdamProj.Gen.frame m ρ (Cert.Proof.AdamProj.okBits m),
    fun m ρ _ => Cert.AdamProjIdeal.Gen.frame m ρ (Cert.Proof.AdamProj.ok m),
    fun m ρ _ => (θ_run Cert.AdamProjRefIdeal.defs _ _).mono (fun r h => ⟨fun c => (h c).2.2.2.2, sem_eq_zero_of_no_sems (by decide) r.2⟩) (Cert.AdamProjRefIdeal.Value.run (F := Ideal) m ρ),
    fun m ρ _ => Cert.AdamUp2.Gen.frame m ρ (Cert.Proof.AdamUp2.okBits m),
    fun m ρ _ => Cert.AdamUp2Ideal.Gen.frame m ρ (Cert.Proof.AdamUp2.ok m),
    fun m ρ _ => (θ_run Cert.AdamUp2RefIdeal.defs _ _).mono (fun r h => ⟨fun c => (h c).2.2.2.2, sem_eq_zero_of_no_sems (by decide) r.2⟩) (Cert.AdamUp2RefIdeal.Value.run (F := Ideal) m ρ),
    fun m ρ _ => Cert.AdamDown2.Gen.frame m ρ (Cert.Proof.AdamDown2.okBits m),
    fun m ρ _ => Cert.AdamDown2Ideal.Gen.frame m ρ (Cert.Proof.AdamDown2.ok m),
    fun m ρ _ => (θ_run Cert.AdamDown2RefIdeal.defs _ _).mono (fun r h => ⟨fun c => (h c).2.2.2.2, sem_eq_zero_of_no_sems (by decide) r.2⟩) (Cert.AdamDown2RefIdeal.Value.run (F := Ideal) m ρ),
    fun m ρ _ => Cert.AdamGate2.Gen.frame m ρ (Cert.Proof.AdamGate2.okBits m),
    fun m ρ _ => Cert.AdamGate2Ideal.Gen.frame m ρ (Cert.Proof.AdamGate2.ok m),
    fun m ρ _ => (θ_run Cert.AdamGate2RefIdeal.defs _ _).mono (fun r h => ⟨fun c => (h c).2.2.2.2, sem_eq_zero_of_no_sems (by decide) r.2⟩) (Cert.AdamGate2RefIdeal.Value.run (F := Ideal) m ρ),
    fun m ρ _ => Cert.AdamProj2.Gen.frame m ρ (Cert.Proof.AdamProj2.okBits m),
    fun m ρ _ => Cert.AdamProj2Ideal.Gen.frame m ρ (Cert.Proof.AdamProj2.ok m),
    fun m ρ _ => (θ_run Cert.AdamProj2RefIdeal.defs _ _).mono (fun r h => ⟨fun c => (h c).2.2.2.2, sem_eq_zero_of_no_sems (by decide) r.2⟩) (Cert.AdamProj2RefIdeal.Value.run (F := Ideal) m ρ),
    fun m ρ _ => Cert.LossHead.Gen.frame m ρ,
    fun m ρ _ => Cert.LossHeadIdeal.Gen.frame m ρ,
    fun m ρ _ => (θ_run Cert.LossHeadRefIdeal.defs _ _).mono (fun r h => ⟨fun c => (h c).2.2.2.2.2, sem_eq_zero_of_no_sems (by decide) r.2⟩) (Cert.LossHeadRefIdeal.Value.run (F := Ideal) m ρ),
    fun m ρ _ => Cert.GmlpFwd.Gen.frame m ρ,
    fun m ρ _ => Cert.GmlpFwdIdeal.Gen.frame m ρ,
    fun m ρ _ => (θ_run Cert.GmlpFwdRefIdeal.defs _ _).mono (fun r h => ⟨fun c => (h c).2, sem_eq_zero_of_no_sems (by decide) r.2⟩) (Cert.GmlpFwdRefIdeal.Value.run (F := Ideal) m ρ),
    preserves, algebraic,
    trivial, DownDx.same, trivial, UpDx.same,
    trivial, UpDw.same, trivial, DownDw.same,
    trivial, SqDw.same, trivial, ColDw.same,
    trivial, ProjDw.same, trivial, SqDx.same,
    trivial, ColDx.same, trivial, FfnUp.same,
    trivial, FfnDown.same, trivial, GmIn.same,
    trivial, GmOut.same, trivial, S5In.same,
    trivial, S5Out.same, trivial, PleGate.same,
    trivial, RmsFwd.same, trivial, PleBwd.same,
    trivial, GluBwd.same, trivial, RmsBwd.same,
    trivial, AdamCol.same, trivial, AdamRow.same,
    trivial, AdamUp.same, trivial, AdamDown.same,
    trivial, AdamGate.same, trivial, AdamProj.same,
    trivial, AdamUp2.same, trivial, AdamDown2.same,
    trivial, AdamGate2.same, trivial, AdamProj2.same,
    trivial, LossHead.same, IdealRules.named_const.statement Cert.GmlpFwdIdeal.κ "gelu_c" .f32 0x3D372713#32 _ rfl, GmlpFwd.same⟩

end Cert.Proof

end
